-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_DAct (m : (ℓ : Loc Cert.DAct.nD Cert.DAct.τ Cert.DAct.sig) → Buf (Elt Bits) ℓ) : Prop :=
  True

def Pre_DActIdeal (m : (ℓ : Loc Cert.DActIdeal.nD Cert.DActIdeal.τ Cert.DActIdeal.sig) → Buf (Elt Ideal) ℓ) : Prop :=
  True

def Pre_DActReferenceIdeal (m : (ℓ : Loc Cert.DActReferenceIdeal.nD Cert.DActReferenceIdeal.τ Cert.DActReferenceIdeal.sig) → Buf (Elt Ideal) ℓ) : Prop :=
  True

def Pre_DWeight (m : (ℓ : Loc Cert.DWeight.nD Cert.DWeight.τ Cert.DWeight.sig) → Buf (Elt Bits) ℓ) : Prop :=
  True

def Pre_DWeightIdeal (m : (ℓ : Loc Cert.DWeightIdeal.nD Cert.DWeightIdeal.τ Cert.DWeightIdeal.sig) → Buf (Elt Ideal) ℓ) : Prop :=
  True

def Pre_DWeightReferenceIdeal (m : (ℓ : Loc Cert.DWeightReferenceIdeal.nD Cert.DWeightReferenceIdeal.τ Cert.DWeightReferenceIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjReferenceIdeal (m : (ℓ : Loc Cert.OutProjReferenceIdeal.nD Cert.OutProjReferenceIdeal.τ Cert.OutProjReferenceIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeReferenceIdeal (m : (ℓ : Loc Cert.MergeReferenceIdeal.nD Cert.MergeReferenceIdeal.τ Cert.MergeReferenceIdeal.sig) → Buf (Elt Ideal) ℓ) : Prop :=
  True

def Pre_Norm (m : (ℓ : Loc Cert.Norm.nD Cert.Norm.τ Cert.Norm.sig) → Buf (Elt Bits) ℓ) : Prop :=
  True

def Pre_NormIdeal (m : (ℓ : Loc Cert.NormIdeal.nD Cert.NormIdeal.τ Cert.NormIdeal.sig) → Buf (Elt Ideal) ℓ) : Prop :=
  True

def Pre_NormReferenceIdeal (m : (ℓ : Loc Cert.NormReferenceIdeal.nD Cert.NormReferenceIdeal.τ Cert.NormReferenceIdeal.sig) → Buf (Elt Ideal) ℓ) : Prop :=
  True

def Pre_Merged (m : (ℓ : Loc Cert.Merged.nD Cert.Merged.τ Cert.Merged.sig) → Buf (Elt Bits) ℓ) : Prop :=
  True

def Pre_MergedIdeal (m : (ℓ : Loc Cert.MergedIdeal.nD Cert.MergedIdeal.τ Cert.MergedIdeal.sig) → Buf (Elt Ideal) ℓ) : Prop :=
  True

def Pre_MergedReferenceIdeal (m : (ℓ : Loc Cert.MergedReferenceIdeal.nD Cert.MergedReferenceIdeal.τ Cert.MergedReferenceIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInReferenceIdeal (m : (ℓ : Loc Cert.AdamInReferenceIdeal.nD Cert.AdamInReferenceIdeal.τ Cert.AdamInReferenceIdeal.sig) → Buf (Elt Ideal) ℓ) : Prop :=
  True

def Pre_AdamUp (m : (ℓ : Loc Cert.AdamUp.nD Cert.AdamUp.τ Cert.AdamUp.sig) → Buf (Elt Bits) ℓ) : Prop :=
  True

def Pre_AdamUpIdeal (m : (ℓ : Loc Cert.AdamUpIdeal.nD Cert.AdamUpIdeal.τ Cert.AdamUpIdeal.sig) → Buf (Elt Ideal) ℓ) : Prop :=
  True

def Pre_AdamUpReferenceIdeal (m : (ℓ : Loc Cert.AdamUpReferenceIdeal.nD Cert.AdamUpReferenceIdeal.τ Cert.AdamUpReferenceIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallReferenceIdeal (m : (ℓ : Loc Cert.AdamSmallReferenceIdeal.nD Cert.AdamSmallReferenceIdeal.τ Cert.AdamSmallReferenceIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossIdeal_finite_loss [hPre_finite_loss : Cert.Pre_finite_loss.Facts] (m : (ℓ : Loc Cert.LossIdeal.nD Cert.LossIdeal.τ Cert.LossIdeal.sig) → Buf (Elt Ideal) ℓ) : Prop :=
  ∀ c : Dev Cert.LossIdeal.nD,
    (Cert.Pre_finite_loss.fn (F := Ideal) (m ((c.tc : Thread Cert.LossIdeal.nD Cert.LossIdeal.τ).loc Cert.LossIdeal.main_arg0)) (m ((c.tc : Thread Cert.LossIdeal.nD Cert.LossIdeal.τ).loc Cert.LossIdeal.main_arg1)) (m ((c.tc : Thread Cert.LossIdeal.nD Cert.LossIdeal.τ).loc Cert.LossIdeal.main_arg2))) = (fun _ => 1#1)

def Pre_LossReferenceIdeal (m : (ℓ : Loc Cert.LossReferenceIdeal.nD Cert.LossReferenceIdeal.τ Cert.LossReferenceIdeal.sig) → Buf (Elt Ideal) ℓ) : Prop :=
  True

def Pre_LossReferenceIdeal_finite_loss [hPre_finite_loss : Cert.Pre_finite_loss.Facts] (m : (ℓ : Loc Cert.LossReferenceIdeal.nD Cert.LossReferenceIdeal.τ Cert.LossReferenceIdeal.sig) → Buf (Elt Ideal) ℓ) : Prop :=
  ∀ c : Dev Cert.LossReferenceIdeal.nD,
    (Cert.Pre_finite_loss.fn (F := Ideal) (m ((c.tc : Thread Cert.LossReferenceIdeal.nD Cert.LossReferenceIdeal.τ).loc Cert.LossReferenceIdeal.main_arg0)) (m ((c.tc : Thread Cert.LossReferenceIdeal.nD Cert.LossReferenceIdeal.τ).loc Cert.LossReferenceIdeal.main_arg1)) (m ((c.tc : Thread Cert.LossReferenceIdeal.nD Cert.LossReferenceIdeal.τ).loc Cert.LossReferenceIdeal.main_arg2))) = (fun _ => 1#1)

def Pre_Attn (m : (ℓ : Loc Cert.Attn.nD Cert.Attn.τ Cert.Attn.sig) → Buf (Elt Bits) ℓ) : Prop :=
  True

def Pre_AttnIdeal (m : (ℓ : Loc Cert.AttnIdeal.nD Cert.AttnIdeal.τ Cert.AttnIdeal.sig) → Buf (Elt Ideal) ℓ) : Prop :=
  True

def Pre_AttnIdeal_finite_attn [hPre_finite_attn : Cert.Pre_finite_attn.Facts] (m : (ℓ : Loc Cert.AttnIdeal.nD Cert.AttnIdeal.τ Cert.AttnIdeal.sig) → Buf (Elt Ideal) ℓ) : Prop :=
  ∀ c : Dev Cert.AttnIdeal.nD,
    (Cert.Pre_finite_attn.fn (F := Ideal) (m ((c.tc : Thread Cert.AttnIdeal.nD Cert.AttnIdeal.τ).loc Cert.AttnIdeal.main_arg0)) (m ((c.tc : Thread Cert.AttnIdeal.nD Cert.AttnIdeal.τ).loc Cert.AttnIdeal.main_arg1)) (m ((c.tc : Thread Cert.AttnIdeal.nD Cert.AttnIdeal.τ).loc Cert.AttnIdeal.main_arg2)) (m ((c.tc : Thread Cert.AttnIdeal.nD Cert.AttnIdeal.τ).loc Cert.AttnIdeal.main_arg3)) (m ((c.tc : Thread Cert.AttnIdeal.nD Cert.AttnIdeal.τ).loc Cert.AttnIdeal.main_arg4))) = (fun _ => 1#1)

def Pre_AttnReferenceIdeal (m : (ℓ : Loc Cert.AttnReferenceIdeal.nD Cert.AttnReferenceIdeal.τ Cert.AttnReferenceIdeal.sig) → Buf (Elt Ideal) ℓ) : Prop :=
  True

def Pre_AttnReferenceIdeal_finite_attn [hPre_finite_attn : Cert.Pre_finite_attn.Facts] (m : (ℓ : Loc Cert.AttnReferenceIdeal.nD Cert.AttnReferenceIdeal.τ Cert.AttnReferenceIdeal.sig) → Buf (Elt Ideal) ℓ) : Prop :=
  ∀ c : Dev Cert.AttnReferenceIdeal.nD,
    (Cert.Pre_finite_attn.fn (F := Ideal) (m ((c.tc : Thread Cert.AttnReferenceIdeal.nD Cert.AttnReferenceIdeal.τ).loc Cert.AttnReferenceIdeal.main_arg0)) (m ((c.tc : Thread Cert.AttnReferenceIdeal.nD Cert.AttnReferenceIdeal.τ).loc Cert.AttnReferenceIdeal.main_arg1)) (m ((c.tc : Thread Cert.AttnReferenceIdeal.nD Cert.AttnReferenceIdeal.τ).loc Cert.AttnReferenceIdeal.main_arg2)) (m ((c.tc : Thread Cert.AttnReferenceIdeal.nD Cert.AttnReferenceIdeal.τ).loc Cert.AttnReferenceIdeal.main_arg3)) (m ((c.tc : Thread Cert.AttnReferenceIdeal.nD Cert.AttnReferenceIdeal.τ).loc Cert.AttnReferenceIdeal.main_arg4))) = (fun _ => 1#1)

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_DWIn (m : (ℓ : Loc Cert.DWIn.nD Cert.DWIn.τ Cert.DWIn.sig) → Buf (Elt Bits) ℓ) : Prop :=
  True

def Pre_DWInIdeal (m : (ℓ : Loc Cert.DWInIdeal.nD Cert.DWInIdeal.τ Cert.DWInIdeal.sig) → Buf (Elt Ideal) ℓ) : Prop :=
  True

def Pre_DWInReferenceIdeal (m : (ℓ : Loc Cert.DWInReferenceIdeal.nD Cert.DWInReferenceIdeal.τ Cert.DWInReferenceIdeal.sig) → Buf (Elt Ideal) ℓ) : Prop :=
  True

def Pre_DHid (m : (ℓ : Loc Cert.DHid.nD Cert.DHid.τ Cert.DHid.sig) → Buf (Elt Bits) ℓ) : Prop :=
  True

def Pre_DHidIdeal (m : (ℓ : Loc Cert.DHidIdeal.nD Cert.DHidIdeal.τ Cert.DHidIdeal.sig) → Buf (Elt Ideal) ℓ) : Prop :=
  True

def Pre_DHidReferenceIdeal (m : (ℓ : Loc Cert.DHidReferenceIdeal.nD Cert.DHidReferenceIdeal.τ Cert.DHidReferenceIdeal.sig) → Buf (Elt Ideal) ℓ) : Prop :=
  True

def Pre_Up (m : (ℓ : Loc Cert.Up.nD Cert.Up.τ Cert.Up.sig) → Buf (Elt Bits) ℓ) : Prop :=
  True

def Pre_UpIdeal (m : (ℓ : Loc Cert.UpIdeal.nD Cert.UpIdeal.τ Cert.UpIdeal.sig) → Buf (Elt Ideal) ℓ) : Prop :=
  True

def Pre_UpReferenceIdeal (m : (ℓ : Loc Cert.UpReferenceIdeal.nD Cert.UpReferenceIdeal.τ Cert.UpReferenceIdeal.sig) → Buf (Elt Ideal) ℓ) : Prop :=
  True

def Pre_DAttn (m : (ℓ : Loc Cert.DAttn.nD Cert.DAttn.τ Cert.DAttn.sig) → Buf (Elt Bits) ℓ) : Prop :=
  True

def Pre_DAttnIdeal (m : (ℓ : Loc Cert.DAttnIdeal.nD Cert.DAttnIdeal.τ Cert.DAttnIdeal.sig) → Buf (Elt Ideal) ℓ) : Prop :=
  True

def Pre_NormBack (m : (ℓ : Loc Cert.NormBack.nD Cert.NormBack.τ Cert.NormBack.sig) → Buf (Elt Bits) ℓ) : Prop :=
  True

def Pre_NormBackIdeal (m : (ℓ : Loc Cert.NormBackIdeal.nD Cert.NormBackIdeal.τ Cert.NormBackIdeal.sig) → Buf (Elt Ideal) ℓ) : Prop :=
  True

def Pre_NormBackIdeal_finite_norm [hPre_finite_norm : Cert.Pre_finite_norm.Facts] (m : (ℓ : Loc Cert.NormBackIdeal.nD Cert.NormBackIdeal.τ Cert.NormBackIdeal.sig) → Buf (Elt Ideal) ℓ) : Prop :=
  ∀ c : Dev Cert.NormBackIdeal.nD,
    (Cert.Pre_finite_norm.fn (F := Ideal) (m ((c.tc : Thread Cert.NormBackIdeal.nD Cert.NormBackIdeal.τ).loc Cert.NormBackIdeal.main_arg0)) (m ((c.tc : Thread Cert.NormBackIdeal.nD Cert.NormBackIdeal.τ).loc Cert.NormBackIdeal.main_arg1)) (m ((c.tc : Thread Cert.NormBackIdeal.nD Cert.NormBackIdeal.τ).loc Cert.NormBackIdeal.main_arg2)) (m ((c.tc : Thread Cert.NormBackIdeal.nD Cert.NormBackIdeal.τ).loc Cert.NormBackIdeal.main_arg3))) = (fun _ => 1#1)

def Pre_NormBackReferenceIdeal (m : (ℓ : Loc Cert.NormBackReferenceIdeal.nD Cert.NormBackReferenceIdeal.τ Cert.NormBackReferenceIdeal.sig) → Buf (Elt Ideal) ℓ) : Prop :=
  True

def Pre_NormBackReferenceIdeal_finite_norm [hPre_finite_norm : Cert.Pre_finite_norm.Facts] (m : (ℓ : Loc Cert.NormBackReferenceIdeal.nD Cert.NormBackReferenceIdeal.τ Cert.NormBackReferenceIdeal.sig) → Buf (Elt Ideal) ℓ) : Prop :=
  ∀ c : Dev Cert.NormBackReferenceIdeal.nD,
    (Cert.Pre_finite_norm.fn (F := Ideal) (m ((c.tc : Thread Cert.NormBackReferenceIdeal.nD Cert.NormBackReferenceIdeal.τ).loc Cert.NormBackReferenceIdeal.main_arg0)) (m ((c.tc : Thread Cert.NormBackReferenceIdeal.nD Cert.NormBackReferenceIdeal.τ).loc Cert.NormBackReferenceIdeal.main_arg1)) (m ((c.tc : Thread Cert.NormBackReferenceIdeal.nD Cert.NormBackReferenceIdeal.τ).loc Cert.NormBackReferenceIdeal.main_arg2)) (m ((c.tc : Thread Cert.NormBackReferenceIdeal.nD Cert.NormBackReferenceIdeal.τ).loc Cert.NormBackReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_DAct [hDAct : Cert.DAct.Facts] : Prop :=
  ∀ (m : (ℓ : Loc Cert.DAct.nD Cert.DAct.τ Cert.DAct.sig) → Buf (Elt Bits) ℓ) (g : Dev Cert.DAct.nD → PrngReg), Pre_DAct m →
    θ_run (Cert.DAct.defs (F := Bits)) (onTc (τ := Cert.DAct.τ) (Cert.DAct.main (F := Bits))) ⟨m, fun _ => 0, g⟩ (fun r => (∀ c : Dev Cert.DAct.nD,
      r.2.mem ((c.tc : Thread Cert.DAct.nD Cert.DAct.τ).loc Cert.DAct.main_arg0) = m ((c.tc : Thread Cert.DAct.nD Cert.DAct.τ).loc Cert.DAct.main_arg0)
      ∧ r.2.mem ((c.tc : Thread Cert.DAct.nD Cert.DAct.τ).loc Cert.DAct.main_arg1) = m ((c.tc : Thread Cert.DAct.nD Cert.DAct.τ).loc Cert.DAct.main_arg1))
      ∧ r.2.sem = fun _ => 0)

def quiescent_DActIdeal [hDActIdeal : Cert.DActIdeal.Facts] : Prop :=
  ∀ (m : (ℓ : Loc Cert.DActIdeal.nD Cert.DActIdeal.τ Cert.DActIdeal.sig) → Buf (Elt Ideal) ℓ) (g : Dev Cert.DActIdeal.nD → PrngReg), Pre_DActIdeal m →
    θ_run (Cert.DActIdeal.defs (F := Ideal)) (onTc (τ := Cert.DActIdeal.τ) (Cert.DActIdeal.main (F := Ideal))) ⟨m, fun _ => 0, g⟩ (fun r => (∀ c : Dev Cert.DActIdeal.nD,
      r.2.mem ((c.tc : Thread Cert.DActIdeal.nD Cert.DActIdeal.τ).loc Cert.DActIdeal.main_arg0) = m ((c.tc : Thread Cert.DActIdeal.nD Cert.DActIdeal.τ).loc Cert.DActIdeal.main_arg0)
      ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ r.2.sem = fun _ => 0)

def quiescent_DActReferenceIdeal [hDActReferenceIdeal : Cert.DActReferenceIdeal.Facts] : Prop :=
  ∀ (m : (ℓ : Loc Cert.DActReferenceIdeal.nD Cert.DActReferenceIdeal.τ Cert.DActReferenceIdeal.sig) → Buf (Elt Ideal) ℓ) (g : Dev Cert.DActReferenceIdeal.nD → PrngReg), Pre_DActReferenceIdeal m →
    θ_run (Cert.DActReferenceIdeal.defs (F := Ideal)) (onTc (τ := Cert.DActReferenceIdeal.τ) (Cert.DActReferenceIdeal.main (F := Ideal))) ⟨m, fun _ => 0, g⟩ (fun r => (∀ c : Dev Cert.DActReferenceIdeal.nD,
      r.2.mem ((c.tc : Thread Cert.DActReferenceIdeal.nD Cert.DActReferenceIdeal.τ).loc Cert.DActReferenceIdeal.main_arg0) = m ((c.tc : Thread Cert.DActReferenceIdeal.nD Cert.DActReferenceIdeal.τ).loc Cert.DActReferenceIdeal.main_arg0)
      ∧ r.2.mem ((c.tc : Thread Cert.DActReferenceIdeal.nD Cert.DActReferenceIdeal.τ).loc Cert.DActReferenceIdeal.main_arg1) = m ((c.tc : Thread Cert.DActReferenceIdeal.nD Cert.DActReferenceIdeal.τ).loc Cert.DActReferenceIdeal.main_arg1))
      ∧ r.2.sem = fun _ => 0)

def quiescent_DWeight [hDWeight : Cert.DWeight.Facts] : Prop :=
  ∀ (m : (ℓ : Loc Cert.DWeight.nD Cert.DWeight.τ Cert.DWeight.sig) → Buf (Elt Bits) ℓ) (g : Dev Cert.DWeight.nD → PrngReg), Pre_DWeight m →
    θ_run (Cert.DWeight.defs (F := Bits)) (onTc (τ := Cert.DWeight.τ) (Cert.DWeight.main (F := Bits))) ⟨m, fun _ => 0, g⟩ (fun r => (∀ c : Dev Cert.DWeight.nD,
      r.2.mem ((c.tc : Thread Cert.DWeight.nD Cert.DWeight.τ).loc Cert.DWeight.main_arg0) = m ((c.tc : Thread Cert.DWeight.nD Cert.DWeight.τ).loc Cert.DWeight.main_arg0)
      ∧ r.2.mem ((c.tc : Thread Cert.DWeight.nD Cert.DWeight.τ).loc Cert.DWeight.main_arg1) = m ((c.tc : Thread Cert.DWeight.nD Cert.DWeight.τ).loc Cert.DWeight.main_arg1))
      ∧ r.2.sem = fun _ => 0)

def quiescent_DWeightIdeal [hDWeightIdeal : Cert.DWeightIdeal.Facts] : Prop :=
  ∀ (m : (ℓ : Loc Cert.DWeightIdeal.nD Cert.DWeightIdeal.τ Cert.DWeightIdeal.sig) → Buf (Elt Ideal) ℓ) (g : Dev Cert.DWeightIdeal.nD → PrngReg), Pre_DWeightIdeal m →
    θ_run (Cert.DWeightIdeal.defs (F := Ideal)) (onTc (τ := Cert.DWeightIdeal.τ) (Cert.DWeightIdeal.main (F := Ideal))) ⟨m, fun _ => 0, g⟩ (fun r => (∀ c : Dev Cert.DWeightIdeal.nD,
      r.2.mem ((c.tc : Thread Cert.DWeightIdeal.nD Cert.DWeightIdeal.τ).loc Cert.DWeightIdeal.main_arg0) = m ((c.tc : Thread Cert.DWeightIdeal.nD Cert.DWeightIdeal.τ).loc Cert.DWeightIdeal.main_arg0)
      ∧ r.2.mem ((c.tc : Thread Cert.DWeightIdeal.nD Cert.DWeightIdeal.τ).loc Cert.DWeightIdeal.main_arg1) = m ((c.tc : Thread Cert.DWeightIdeal.nD Cert.DWeightIdeal.τ).loc Cert.DWeightIdeal.main_arg1))
      ∧ r.2.sem = fun _ => 0)

def quiescent_DWeightReferenceIdeal [hDWeightReferenceIdeal : Cert.DWeightReferenceIdeal.Facts] : Prop :=
  ∀ (m : (ℓ : Loc Cert.DWeightReferenceIdeal.nD Cert.DWeightReferenceIdeal.τ Cert.DWeightReferenceIdeal.sig) → Buf (Elt Ideal) ℓ) (g : Dev Cert.DWeightReferenceIdeal.nD → PrngReg), Pre_DWeightReferenceIdeal m →
    θ_run (Cert.DWeightReferenceIdeal.defs (F := Ideal)) (onTc (τ := Cert.DWeightReferenceIdeal.τ) (Cert.DWeightReferenceIdeal.main (F := Ideal))) ⟨m, fun _ => 0, g⟩ (fun r => (∀ c : Dev Cert.DWeightReferenceIdeal.nD,
      r.2.mem ((c.tc : Thread Cert.DWeightReferenceIdeal.nD Cert.DWeightReferenceIdeal.τ).loc Cert.DWeightReferenceIdeal.main_arg0) = m ((c.tc : Thread Cert.DWeightReferenceIdeal.nD Cert.DWeightReferenceIdeal.τ).loc Cert.DWeightReferenceIdeal.main_arg0)
      ∧ r.2.mem ((c.tc : Thread Cert.DWeightReferenceIdeal.nD Cert.DWeightReferenceIdeal.τ).loc Cert.DWeightReferenceIdeal.main_arg1) = m ((c.tc : Thread Cert.DWeightReferenceIdeal.nD Cert.DWeightReferenceIdeal.τ).loc Cert.DWeightReferenceIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ r.2.sem = fun _ => 0)

def quiescent_OutProjReferenceIdeal [hOutProjReferenceIdeal : Cert.OutProjReferenceIdeal.Facts] : Prop :=
  ∀ (m : (ℓ : Loc Cert.OutProjReferenceIdeal.nD Cert.OutProjReferenceIdeal.τ Cert.OutProjReferenceIdeal.sig) → Buf (Elt Ideal) ℓ) (g : Dev Cert.OutProjReferenceIdeal.nD → PrngReg), Pre_OutProjReferenceIdeal m →
    θ_run (Cert.OutProjReferenceIdeal.defs (F := Ideal)) (onTc (τ := Cert.OutProjReferenceIdeal.τ) (Cert.OutProjReferenceIdeal.main (F := Ideal))) ⟨m, fun _ => 0, g⟩ (fun r => (∀ c : Dev Cert.OutProjReferenceIdeal.nD,
      r.2.mem ((c.tc : Thread Cert.OutProjReferenceIdeal.nD Cert.OutProjReferenceIdeal.τ).loc Cert.OutProjReferenceIdeal.main_arg0) = m ((c.tc : Thread Cert.OutProjReferenceIdeal.nD Cert.OutProjReferenceIdeal.τ).loc Cert.OutProjReferenceIdeal.main_arg0)
      ∧ r.2.mem ((c.tc : Thread Cert.OutProjReferenceIdeal.nD Cert.OutProjReferenceIdeal.τ).loc Cert.OutProjReferenceIdeal.main_arg1) = m ((c.tc : Thread Cert.OutProjReferenceIdeal.nD Cert.OutProjReferenceIdeal.τ).loc Cert.OutProjReferenceIdeal.main_arg1)
      ∧ r.2.mem ((c.tc : Thread Cert.OutProjReferenceIdeal.nD Cert.OutProjReferenceIdeal.τ).loc Cert.OutProjReferenceIdeal.main_arg2) = m ((c.tc : Thread Cert.OutProjReferenceIdeal.nD Cert.OutProjReferenceIdeal.τ).loc Cert.OutProjReferenceIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ r.2.sem = fun _ => 0)

def quiescent_MergeReferenceIdeal [hMergeReferenceIdeal : Cert.MergeReferenceIdeal.Facts] : Prop :=
  ∀ (m : (ℓ : Loc Cert.MergeReferenceIdeal.nD Cert.MergeReferenceIdeal.τ Cert.MergeReferenceIdeal.sig) → Buf (Elt Ideal) ℓ) (g : Dev Cert.MergeReferenceIdeal.nD → PrngReg), Pre_MergeReferenceIdeal m →
    θ_run (Cert.MergeReferenceIdeal.defs (F := Ideal)) (onTc (τ := Cert.MergeReferenceIdeal.τ) (Cert.MergeReferenceIdeal.main (F := Ideal))) ⟨m, fun _ => 0, g⟩ (fun r => (∀ c : Dev Cert.MergeReferenceIdeal.nD,
      r.2.mem ((c.tc : Thread Cert.MergeReferenceIdeal.nD Cert.MergeReferenceIdeal.τ).loc Cert.MergeReferenceIdeal.main_arg0) = m ((c.tc : Thread Cert.MergeReferenceIdeal.nD Cert.MergeReferenceIdeal.τ).loc Cert.MergeReferenceIdeal.main_arg0)
      ∧ r.2.mem ((c.tc : Thread Cert.MergeReferenceIdeal.nD Cert.MergeReferenceIdeal.τ).loc Cert.MergeReferenceIdeal.main_arg1) = m ((c.tc : Thread Cert.MergeReferenceIdeal.nD Cert.MergeReferenceIdeal.τ).loc Cert.MergeReferenceIdeal.main_arg1)
      ∧ r.2.mem ((c.tc : Thread Cert.MergeReferenceIdeal.nD Cert.MergeReferenceIdeal.τ).loc Cert.MergeReferenceIdeal.main_arg2) = m ((c.tc : Thread Cert.MergeReferenceIdeal.nD Cert.MergeReferenceIdeal.τ).loc Cert.MergeReferenceIdeal.main_arg2)
      ∧ r.2.mem ((c.tc : Thread Cert.MergeReferenceIdeal.nD Cert.MergeReferenceIdeal.τ).loc Cert.MergeReferenceIdeal.main_arg3) = m ((c.tc : Thread Cert.MergeReferenceIdeal.nD Cert.MergeReferenceIdeal.τ).loc Cert.MergeReferenceIdeal.main_arg3))
      ∧ r.2.sem = fun _ => 0)

def quiescent_Norm [hNorm : Cert.Norm.Facts] : Prop :=
  ∀ (m : (ℓ : Loc Cert.Norm.nD Cert.Norm.τ Cert.Norm.sig) → Buf (Elt Bits) ℓ) (g : Dev Cert.Norm.nD → PrngReg), Pre_Norm m →
    θ_run (Cert.Norm.defs (F := Bits)) (onTc (τ := Cert.Norm.τ) (Cert.Norm.main (F := Bits))) ⟨m, fun _ => 0, g⟩ (fun r => (∀ c : Dev Cert.Norm.nD,
      r.2.mem ((c.tc : Thread Cert.Norm.nD Cert.Norm.τ).loc Cert.Norm.main_arg0) = m ((c.tc : Thread Cert.Norm.nD Cert.Norm.τ).loc Cert.Norm.main_arg0)
      ∧ r.2.mem ((c.tc : Thread Cert.Norm.nD Cert.Norm.τ).loc Cert.Norm.main_arg1) = m ((c.tc : Thread Cert.Norm.nD Cert.Norm.τ).loc Cert.Norm.main_arg1))
      ∧ r.2.sem = fun _ => 0)

def quiescent_NormIdeal [hNormIdeal : Cert.NormIdeal.Facts] : Prop :=
  ∀ (m : (ℓ : Loc Cert.NormIdeal.nD Cert.NormIdeal.τ Cert.NormIdeal.sig) → Buf (Elt Ideal) ℓ) (g : Dev Cert.NormIdeal.nD → PrngReg), Pre_NormIdeal m →
    θ_run (Cert.NormIdeal.defs (F := Ideal)) (onTc (τ := Cert.NormIdeal.τ) (Cert.NormIdeal.main (F := Ideal))) ⟨m, fun _ => 0, g⟩ (fun r => (∀ c : Dev Cert.NormIdeal.nD,
      r.2.mem ((c.tc : Thread Cert.NormIdeal.nD Cert.NormIdeal.τ).loc Cert.NormIdeal.main_arg0) = m ((c.tc : Thread Cert.NormIdeal.nD Cert.NormIdeal.τ).loc Cert.NormIdeal.main_arg0)
      ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ r.2.sem = fun _ => 0)

def quiescent_NormReferenceIdeal [hNormReferenceIdeal : Cert.NormReferenceIdeal.Facts] : Prop :=
  ∀ (m : (ℓ : Loc Cert.NormReferenceIdeal.nD Cert.NormReferenceIdeal.τ Cert.NormReferenceIdeal.sig) → Buf (Elt Ideal) ℓ) (g : Dev Cert.NormReferenceIdeal.nD → PrngReg), Pre_NormReferenceIdeal m →
    θ_run (Cert.NormReferenceIdeal.defs (F := Ideal)) (onTc (τ := Cert.NormReferenceIdeal.τ) (Cert.NormReferenceIdeal.main (F := Ideal))) ⟨m, fun _ => 0, g⟩ (fun r => (∀ c : Dev Cert.NormReferenceIdeal.nD,
      r.2.mem ((c.tc : Thread Cert.NormReferenceIdeal.nD Cert.NormReferenceIdeal.τ).loc Cert.NormReferenceIdeal.main_arg0) = m ((c.tc : Thread Cert.NormReferenceIdeal.nD Cert.NormReferenceIdeal.τ).loc Cert.NormReferenceIdeal.main_arg0)
      ∧ r.2.mem ((c.tc : Thread Cert.NormReferenceIdeal.nD Cert.NormReferenceIdeal.τ).loc Cert.NormReferenceIdeal.main_arg1) = m ((c.tc : Thread Cert.NormReferenceIdeal.nD Cert.NormReferenceIdeal.τ).loc Cert.NormReferenceIdeal.main_arg1))
      ∧ r.2.sem = fun _ => 0)

def quiescent_Merged [hMerged : Cert.Merged.Facts] : Prop :=
  ∀ (m : (ℓ : Loc Cert.Merged.nD Cert.Merged.τ Cert.Merged.sig) → Buf (Elt Bits) ℓ) (g : Dev Cert.Merged.nD → PrngReg), Pre_Merged m →
    θ_run (Cert.Merged.defs (F := Bits)) (onTc (τ := Cert.Merged.τ) (Cert.Merged.main (F := Bits))) ⟨m, fun _ => 0, g⟩ (fun r => (∀ c : Dev Cert.Merged.nD,
      r.2.mem ((c.tc : Thread Cert.Merged.nD Cert.Merged.τ).loc Cert.Merged.main_arg0) = m ((c.tc : Thread Cert.Merged.nD Cert.Merged.τ).loc Cert.Merged.main_arg0)
      ∧ r.2.mem ((c.tc : Thread Cert.Merged.nD Cert.Merged.τ).loc Cert.Merged.main_arg1) = m ((c.tc : Thread Cert.Merged.nD Cert.Merged.τ).loc Cert.Merged.main_arg1)
      ∧ r.2.mem ((c.tc : Thread Cert.Merged.nD Cert.Merged.τ).loc Cert.Merged.main_arg2) = m ((c.tc : Thread Cert.Merged.nD Cert.Merged.τ).loc Cert.Merged.main_arg2))
      ∧ r.2.sem = fun _ => 0)

def quiescent_MergedIdeal [hMergedIdeal : Cert.MergedIdeal.Facts] : Prop :=
  ∀ (m : (ℓ : Loc Cert.MergedIdeal.nD Cert.MergedIdeal.τ Cert.MergedIdeal.sig) → Buf (Elt Ideal) ℓ) (g : Dev Cert.MergedIdeal.nD → PrngReg), Pre_MergedIdeal m →
    θ_run (Cert.MergedIdeal.defs (F := Ideal)) (onTc (τ := Cert.MergedIdeal.τ) (Cert.MergedIdeal.main (F := Ideal))) ⟨m, fun _ => 0, g⟩ (fun r => (∀ c : Dev Cert.MergedIdeal.nD,
      r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
      ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
      ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ r.2.sem = fun _ => 0)

def quiescent_MergedReferenceIdeal [hMergedReferenceIdeal : Cert.MergedReferenceIdeal.Facts] : Prop :=
  ∀ (m : (ℓ : Loc Cert.MergedReferenceIdeal.nD Cert.MergedReferenceIdeal.τ Cert.MergedReferenceIdeal.sig) → Buf (Elt Ideal) ℓ) (g : Dev Cert.MergedReferenceIdeal.nD → PrngReg), Pre_MergedReferenceIdeal m →
    θ_run (Cert.MergedReferenceIdeal.defs (F := Ideal)) (onTc (τ := Cert.MergedReferenceIdeal.τ) (Cert.MergedReferenceIdeal.main (F := Ideal))) ⟨m, fun _ => 0, g⟩ (fun r => (∀ c : Dev Cert.MergedReferenceIdeal.nD,
      r.2.mem ((c.tc : Thread Cert.MergedReferenceIdeal.nD Cert.MergedReferenceIdeal.τ).loc Cert.MergedReferenceIdeal.main_arg0) = m ((c.tc : Thread Cert.MergedReferenceIdeal.nD Cert.MergedReferenceIdeal.τ).loc Cert.MergedReferenceIdeal.main_arg0)
      ∧ r.2.mem ((c.tc : Thread Cert.MergedReferenceIdeal.nD Cert.MergedReferenceIdeal.τ).loc Cert.MergedReferenceIdeal.main_arg1) = m ((c.tc : Thread Cert.MergedReferenceIdeal.nD Cert.MergedReferenceIdeal.τ).loc Cert.MergedReferenceIdeal.main_arg1)
      ∧ r.2.mem ((c.tc : Thread Cert.MergedReferenceIdeal.nD Cert.MergedReferenceIdeal.τ).loc Cert.MergedReferenceIdeal.main_arg2) = m ((c.tc : Thread Cert.MergedReferenceIdeal.nD Cert.MergedReferenceIdeal.τ).loc Cert.MergedReferenceIdeal.main_arg2))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ r.2.sem = fun _ => 0)

def quiescent_AdamInReferenceIdeal [hAdamInReferenceIdeal : Cert.AdamInReferenceIdeal.Facts] : Prop :=
  ∀ (m : (ℓ : Loc Cert.AdamInReferenceIdeal.nD Cert.AdamInReferenceIdeal.τ Cert.AdamInReferenceIdeal.sig) → Buf (Elt Ideal) ℓ) (g : Dev Cert.AdamInReferenceIdeal.nD → PrngReg), Pre_AdamInReferenceIdeal m →
    θ_run (Cert.AdamInReferenceIdeal.defs (F := Ideal)) (onTc (τ := Cert.AdamInReferenceIdeal.τ) (Cert.AdamInReferenceIdeal.main (F := Ideal))) ⟨m, fun _ => 0, g⟩ (fun r => (∀ c : Dev Cert.AdamInReferenceIdeal.nD,
      r.2.mem ((c.tc : Thread Cert.AdamInReferenceIdeal.nD Cert.AdamInReferenceIdeal.τ).loc Cert.AdamInReferenceIdeal.main_arg0) = m ((c.tc : Thread Cert.AdamInReferenceIdeal.nD Cert.AdamInReferenceIdeal.τ).loc Cert.AdamInReferenceIdeal.main_arg0)
      ∧ r.2.mem ((c.tc : Thread Cert.AdamInReferenceIdeal.nD Cert.AdamInReferenceIdeal.τ).loc Cert.AdamInReferenceIdeal.main_arg1) = m ((c.tc : Thread Cert.AdamInReferenceIdeal.nD Cert.AdamInReferenceIdeal.τ).loc Cert.AdamInReferenceIdeal.main_arg1)
      ∧ r.2.mem ((c.tc : Thread Cert.AdamInReferenceIdeal.nD Cert.AdamInReferenceIdeal.τ).loc Cert.AdamInReferenceIdeal.main_arg2) = m ((c.tc : Thread Cert.AdamInReferenceIdeal.nD Cert.AdamInReferenceIdeal.τ).loc Cert.AdamInReferenceIdeal.main_arg2)
      ∧ r.2.mem ((c.tc : Thread Cert.AdamInReferenceIdeal.nD Cert.AdamInReferenceIdeal.τ).loc Cert.AdamInReferenceIdeal.main_arg3) = m ((c.tc : Thread Cert.AdamInReferenceIdeal.nD Cert.AdamInReferenceIdeal.τ).loc Cert.AdamInReferenceIdeal.main_arg3))
      ∧ r.2.sem = fun _ => 0)

def quiescent_AdamUp [hAdamUp : Cert.AdamUp.Facts] : Prop :=
  ∀ (m : (ℓ : Loc Cert.AdamUp.nD Cert.AdamUp.τ Cert.AdamUp.sig) → Buf (Elt Bits) ℓ) (g : Dev Cert.AdamUp.nD → PrngReg), Pre_AdamUp m →
    θ_run (Cert.AdamUp.defs (F := Bits)) (onTc (τ := Cert.AdamUp.τ) (Cert.AdamUp.main (F := Bits))) ⟨m, fun _ => 0, g⟩ (fun r => (∀ c : Dev Cert.AdamUp.nD,
      r.2.mem ((c.tc : Thread Cert.AdamUp.nD Cert.AdamUp.τ).loc Cert.AdamUp.main_arg0) = m ((c.tc : Thread Cert.AdamUp.nD Cert.AdamUp.τ).loc Cert.AdamUp.main_arg0)
      ∧ r.2.mem ((c.tc : Thread Cert.AdamUp.nD Cert.AdamUp.τ).loc Cert.AdamUp.main_arg1) = m ((c.tc : Thread Cert.AdamUp.nD Cert.AdamUp.τ).loc Cert.AdamUp.main_arg1)
      ∧ r.2.mem ((c.tc : Thread Cert.AdamUp.nD Cert.AdamUp.τ).loc Cert.AdamUp.main_arg2) = m ((c.tc : Thread Cert.AdamUp.nD Cert.AdamUp.τ).loc Cert.AdamUp.main_arg2)
      ∧ r.2.mem ((c.tc : Thread Cert.AdamUp.nD Cert.AdamUp.τ).loc Cert.AdamUp.main_arg3) = m ((c.tc : Thread Cert.AdamUp.nD Cert.AdamUp.τ).loc Cert.AdamUp.main_arg3))
      ∧ r.2.sem = fun _ => 0)

def quiescent_AdamUpIdeal [hAdamUpIdeal : Cert.AdamUpIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg), Pre_AdamUpIdeal m →
    θ_run (Cert.AdamUpIdeal.defs (F := Ideal)) (onTc (τ := Cert.AdamUpIdeal.τ) (Cert.AdamUpIdeal.main (F := Ideal))) ⟨m, fun _ => 0, g⟩ (fun r => (∀ c : Dev Cert.AdamUpIdeal.nD,
      r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
      ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
      ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
      ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ r.2.sem = fun _ => 0)

def quiescent_AdamUpReferenceIdeal [hAdamUpReferenceIdeal : Cert.AdamUpReferenceIdeal.Facts] : Prop :=
  ∀ (m : (ℓ : Loc Cert.AdamUpReferenceIdeal.nD Cert.AdamUpReferenceIdeal.τ Cert.AdamUpReferenceIdeal.sig) → Buf (Elt Ideal) ℓ) (g : Dev Cert.AdamUpReferenceIdeal.nD → PrngReg), Pre_AdamUpReferenceIdeal m →
    θ_run (Cert.AdamUpReferenceIdeal.defs (F := Ideal)) (onTc (τ := Cert.AdamUpReferenceIdeal.τ) (Cert.AdamUpReferenceIdeal.main (F := Ideal))) ⟨m, fun _ => 0, g⟩ (fun r => (∀ c : Dev Cert.AdamUpReferenceIdeal.nD,
      r.2.mem ((c.tc : Thread Cert.AdamUpReferenceIdeal.nD Cert.AdamUpReferenceIdeal.τ).loc Cert.AdamUpReferenceIdeal.main_arg0) = m ((c.tc : Thread Cert.AdamUpReferenceIdeal.nD Cert.AdamUpReferenceIdeal.τ).loc Cert.AdamUpReferenceIdeal.main_arg0)
      ∧ r.2.mem ((c.tc : Thread Cert.AdamUpReferenceIdeal.nD Cert.AdamUpReferenceIdeal.τ).loc Cert.AdamUpReferenceIdeal.main_arg1) = m ((c.tc : Thread Cert.AdamUpReferenceIdeal.nD Cert.AdamUpReferenceIdeal.τ).loc Cert.AdamUpReferenceIdeal.main_arg1)
      ∧ r.2.mem ((c.tc : Thread Cert.AdamUpReferenceIdeal.nD Cert.AdamUpReferenceIdeal.τ).loc Cert.AdamUpReferenceIdeal.main_arg2) = m ((c.tc : Thread Cert.AdamUpReferenceIdeal.nD Cert.AdamUpReferenceIdeal.τ).loc Cert.AdamUpReferenceIdeal.main_arg2)
      ∧ r.2.mem ((c.tc : Thread Cert.AdamUpReferenceIdeal.nD Cert.AdamUpReferenceIdeal.τ).loc Cert.AdamUpReferenceIdeal.main_arg3) = m ((c.tc : Thread Cert.AdamUpReferenceIdeal.nD Cert.AdamUpReferenceIdeal.τ).loc Cert.AdamUpReferenceIdeal.main_arg3))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallReferenceIdeal [hAdamSmallReferenceIdeal : Cert.AdamSmallReferenceIdeal.Facts] : Prop :=
  ∀ (m : (ℓ : Loc Cert.AdamSmallReferenceIdeal.nD Cert.AdamSmallReferenceIdeal.τ Cert.AdamSmallReferenceIdeal.sig) → Buf (Elt Ideal) ℓ) (g : Dev Cert.AdamSmallReferenceIdeal.nD → PrngReg), Pre_AdamSmallReferenceIdeal m →
    θ_run (Cert.AdamSmallReferenceIdeal.defs (F := Ideal)) (onTc (τ := Cert.AdamSmallReferenceIdeal.τ) (Cert.AdamSmallReferenceIdeal.main (F := Ideal))) ⟨m, fun _ => 0, g⟩ (fun r => (∀ c : Dev Cert.AdamSmallReferenceIdeal.nD,
      r.2.mem ((c.tc : Thread Cert.AdamSmallReferenceIdeal.nD Cert.AdamSmallReferenceIdeal.τ).loc Cert.AdamSmallReferenceIdeal.main_arg0) = m ((c.tc : Thread Cert.AdamSmallReferenceIdeal.nD Cert.AdamSmallReferenceIdeal.τ).loc Cert.AdamSmallReferenceIdeal.main_arg0)
      ∧ r.2.mem ((c.tc : Thread Cert.AdamSmallReferenceIdeal.nD Cert.AdamSmallReferenceIdeal.τ).loc Cert.AdamSmallReferenceIdeal.main_arg1) = m ((c.tc : Thread Cert.AdamSmallReferenceIdeal.nD Cert.AdamSmallReferenceIdeal.τ).loc Cert.AdamSmallReferenceIdeal.main_arg1)
      ∧ r.2.mem ((c.tc : Thread Cert.AdamSmallReferenceIdeal.nD Cert.AdamSmallReferenceIdeal.τ).loc Cert.AdamSmallReferenceIdeal.main_arg2) = m ((c.tc : Thread Cert.AdamSmallReferenceIdeal.nD Cert.AdamSmallReferenceIdeal.τ).loc Cert.AdamSmallReferenceIdeal.main_arg2)
      ∧ r.2.mem ((c.tc : Thread Cert.AdamSmallReferenceIdeal.nD Cert.AdamSmallReferenceIdeal.τ).loc Cert.AdamSmallReferenceIdeal.main_arg3) = m ((c.tc : Thread Cert.AdamSmallReferenceIdeal.nD Cert.AdamSmallReferenceIdeal.τ).loc Cert.AdamSmallReferenceIdeal.main_arg3))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossIdeal_pre_finite_loss [hLossIdeal : Cert.LossIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg), Pre_LossIdeal_finite_loss m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ r.2.sem = fun _ => 0)

def quiescent_LossReferenceIdeal [hLossReferenceIdeal : Cert.LossReferenceIdeal.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_LossReferenceIdeal_pre_finite_loss [hLossReferenceIdeal : Cert.LossReferenceIdeal.Facts] [hPre_finite_loss : Cert.Pre_finite_loss.Facts] : Prop :=
  ∀ (m : (ℓ : Loc Cert.LossReferenceIdeal.nD Cert.LossReferenceIdeal.τ Cert.LossReferenceIdeal.sig) → Buf (Elt Ideal) ℓ) (g : Dev Cert.LossReferenceIdeal.nD → PrngReg), Pre_LossReferenceIdeal_finite_loss m →
    θ_run (Cert.LossReferenceIdeal.defs (F := Ideal)) (onTc (τ := Cert.LossReferenceIdeal.τ) (Cert.LossReferenceIdeal.main (F := Ideal))) ⟨m, fun _ => 0, g⟩ (fun r => (∀ c : Dev Cert.LossReferenceIdeal.nD,
      r.2.mem ((c.tc : Thread Cert.LossReferenceIdeal.nD Cert.LossReferenceIdeal.τ).loc Cert.LossReferenceIdeal.main_arg0) = m ((c.tc : Thread Cert.LossReferenceIdeal.nD Cert.LossReferenceIdeal.τ).loc Cert.LossReferenceIdeal.main_arg0)
      ∧ r.2.mem ((c.tc : Thread Cert.LossReferenceIdeal.nD Cert.LossReferenceIdeal.τ).loc Cert.LossReferenceIdeal.main_arg1) = m ((c.tc : Thread Cert.LossReferenceIdeal.nD Cert.LossReferenceIdeal.τ).loc Cert.LossReferenceIdeal.main_arg1)
      ∧ r.2.mem ((c.tc : Thread Cert.LossReferenceIdeal.nD Cert.LossReferenceIdeal.τ).loc Cert.LossReferenceIdeal.main_arg2) = m ((c.tc : Thread Cert.LossReferenceIdeal.nD Cert.LossReferenceIdeal.τ).loc Cert.LossReferenceIdeal.main_arg2))
      ∧ r.2.sem = fun _ => 0)

def quiescent_Attn [hAttn : Cert.Attn.Facts] : Prop :=
  ∀ (m : (ℓ : Loc Cert.Attn.nD Cert.Attn.τ Cert.Attn.sig) → Buf (Elt Bits) ℓ) (g : Dev Cert.Attn.nD → PrngReg), Pre_Attn m →
    θ_run (Cert.Attn.defs (F := Bits)) (onTc (τ := Cert.Attn.τ) (Cert.Attn.main (F := Bits))) ⟨m, fun _ => 0, g⟩ (fun r => (∀ c : Dev Cert.Attn.nD,
      r.2.mem ((c.tc : Thread Cert.Attn.nD Cert.Attn.τ).loc Cert.Attn.main_arg0) = m ((c.tc : Thread Cert.Attn.nD Cert.Attn.τ).loc Cert.Attn.main_arg0)
      ∧ r.2.mem ((c.tc : Thread Cert.Attn.nD Cert.Attn.τ).loc Cert.Attn.main_arg1) = m ((c.tc : Thread Cert.Attn.nD Cert.Attn.τ).loc Cert.Attn.main_arg1)
      ∧ r.2.mem ((c.tc : Thread Cert.Attn.nD Cert.Attn.τ).loc Cert.Attn.main_arg2) = m ((c.tc : Thread Cert.Attn.nD Cert.Attn.τ).loc Cert.Attn.main_arg2)
      ∧ r.2.mem ((c.tc : Thread Cert.Attn.nD Cert.Attn.τ).loc Cert.Attn.main_arg3) = m ((c.tc : Thread Cert.Attn.nD Cert.Attn.τ).loc Cert.Attn.main_arg3)
      ∧ r.2.mem ((c.tc : Thread Cert.Attn.nD Cert.Attn.τ).loc Cert.Attn.main_arg4) = m ((c.tc : Thread Cert.Attn.nD Cert.Attn.τ).loc Cert.Attn.main_arg4))
      ∧ r.2.sem = fun _ => 0)

def quiescent_AttnIdeal [hAttnIdeal : Cert.AttnIdeal.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnIdeal_pre_finite_attn [hAttnIdeal : Cert.AttnIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg), Pre_AttnIdeal_finite_attn m →
    θ_run (Cert.AttnIdeal.defs (F := Ideal)) (onTc (τ := Cert.AttnIdeal.τ) (Cert.AttnIdeal.main (F := Ideal))) ⟨m, fun _ => 0, g⟩ (fun r => (∀ c : Dev Cert.AttnIdeal.nD,
      r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
      ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
      ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
      ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
      ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ r.2.sem = fun _ => 0)

def quiescent_AttnReferenceIdeal [hAttnReferenceIdeal : Cert.AttnReferenceIdeal.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_AttnReferenceIdeal_pre_finite_attn [hAttnReferenceIdeal : Cert.AttnReferenceIdeal.Facts] [hPre_finite_attn : Cert.Pre_finite_attn.Facts] : Prop :=
  ∀ (m : (ℓ : Loc Cert.AttnReferenceIdeal.nD Cert.AttnReferenceIdeal.τ Cert.AttnReferenceIdeal.sig) → Buf (Elt Ideal) ℓ) (g : Dev Cert.AttnReferenceIdeal.nD → PrngReg), Pre_AttnReferenceIdeal_finite_attn m →
    θ_run (Cert.AttnReferenceIdeal.defs (F := Ideal)) (onTc (τ := Cert.AttnReferenceIdeal.τ) (Cert.AttnReferenceIdeal.main (F := Ideal))) ⟨m, fun _ => 0, g⟩ (fun r => (∀ c : Dev Cert.AttnReferenceIdeal.nD,
      r.2.mem ((c.tc : Thread Cert.AttnReferenceIdeal.nD Cert.AttnReferenceIdeal.τ).loc Cert.AttnReferenceIdeal.main_arg0) = m ((c.tc : Thread Cert.AttnReferenceIdeal.nD Cert.AttnReferenceIdeal.τ).loc Cert.AttnReferenceIdeal.main_arg0)
      ∧ r.2.mem ((c.tc : Thread Cert.AttnReferenceIdeal.nD Cert.AttnReferenceIdeal.τ).loc Cert.AttnReferenceIdeal.main_arg1) = m ((c.tc : Thread Cert.AttnReferenceIdeal.nD Cert.AttnReferenceIdeal.τ).loc Cert.AttnReferenceIdeal.main_arg1)
      ∧ r.2.mem ((c.tc : Thread Cert.AttnReferenceIdeal.nD Cert.AttnReferenceIdeal.τ).loc Cert.AttnReferenceIdeal.main_arg2) = m ((c.tc : Thread Cert.AttnReferenceIdeal.nD Cert.AttnReferenceIdeal.τ).loc Cert.AttnReferenceIdeal.main_arg2)
      ∧ r.2.mem ((c.tc : Thread Cert.AttnReferenceIdeal.nD Cert.AttnReferenceIdeal.τ).loc Cert.AttnReferenceIdeal.main_arg3) = m ((c.tc : Thread Cert.AttnReferenceIdeal.nD Cert.AttnReferenceIdeal.τ).loc Cert.AttnReferenceIdeal.main_arg3)
      ∧ r.2.mem ((c.tc : Thread Cert.AttnReferenceIdeal.nD Cert.AttnReferenceIdeal.τ).loc Cert.AttnReferenceIdeal.main_arg4) = m ((c.tc : Thread Cert.AttnReferenceIdeal.nD Cert.AttnReferenceIdeal.τ).loc Cert.AttnReferenceIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1))
      ∧ r.2.sem = fun _ => 0)

def quiescent_DWIn [hDWIn : Cert.DWIn.Facts] : Prop :=
  ∀ (m : (ℓ : Loc Cert.DWIn.nD Cert.DWIn.τ Cert.DWIn.sig) → Buf (Elt Bits) ℓ) (g : Dev Cert.DWIn.nD → PrngReg), Pre_DWIn m →
    θ_run (Cert.DWIn.defs (F := Bits)) (onTc (τ := Cert.DWIn.τ) (Cert.DWIn.main (F := Bits))) ⟨m, fun _ => 0, g⟩ (fun r => (∀ c : Dev Cert.DWIn.nD,
      r.2.mem ((c.tc : Thread Cert.DWIn.nD Cert.DWIn.τ).loc Cert.DWIn.main_arg0) = m ((c.tc : Thread Cert.DWIn.nD Cert.DWIn.τ).loc Cert.DWIn.main_arg0)
      ∧ r.2.mem ((c.tc : Thread Cert.DWIn.nD Cert.DWIn.τ).loc Cert.DWIn.main_arg1) = m ((c.tc : Thread Cert.DWIn.nD Cert.DWIn.τ).loc Cert.DWIn.main_arg1))
      ∧ r.2.sem = fun _ => 0)

def quiescent_DWInIdeal [hDWInIdeal : Cert.DWInIdeal.Facts] : Prop :=
  ∀ (m : (ℓ : Loc Cert.DWInIdeal.nD Cert.DWInIdeal.τ Cert.DWInIdeal.sig) → Buf (Elt Ideal) ℓ) (g : Dev Cert.DWInIdeal.nD → PrngReg), Pre_DWInIdeal m →
    θ_run (Cert.DWInIdeal.defs (F := Ideal)) (onTc (τ := Cert.DWInIdeal.τ) (Cert.DWInIdeal.main (F := Ideal))) ⟨m, fun _ => 0, g⟩ (fun r => (∀ c : Dev Cert.DWInIdeal.nD,
      r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
      ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ r.2.sem = fun _ => 0)

def quiescent_DWInReferenceIdeal [hDWInReferenceIdeal : Cert.DWInReferenceIdeal.Facts] : Prop :=
  ∀ (m : (ℓ : Loc Cert.DWInReferenceIdeal.nD Cert.DWInReferenceIdeal.τ Cert.DWInReferenceIdeal.sig) → Buf (Elt Ideal) ℓ) (g : Dev Cert.DWInReferenceIdeal.nD → PrngReg), Pre_DWInReferenceIdeal m →
    θ_run (Cert.DWInReferenceIdeal.defs (F := Ideal)) (onTc (τ := Cert.DWInReferenceIdeal.τ) (Cert.DWInReferenceIdeal.main (F := Ideal))) ⟨m, fun _ => 0, g⟩ (fun r => (∀ c : Dev Cert.DWInReferenceIdeal.nD,
      r.2.mem ((c.tc : Thread Cert.DWInReferenceIdeal.nD Cert.DWInReferenceIdeal.τ).loc Cert.DWInReferenceIdeal.main_arg0) = m ((c.tc : Thread Cert.DWInReferenceIdeal.nD Cert.DWInReferenceIdeal.τ).loc Cert.DWInReferenceIdeal.main_arg0)
      ∧ r.2.mem ((c.tc : Thread Cert.DWInReferenceIdeal.nD Cert.DWInReferenceIdeal.τ).loc Cert.DWInReferenceIdeal.main_arg1) = m ((c.tc : Thread Cert.DWInReferenceIdeal.nD Cert.DWInReferenceIdeal.τ).loc Cert.DWInReferenceIdeal.main_arg1))
      ∧ r.2.sem = fun _ => 0)

def quiescent_DHid [hDHid : Cert.DHid.Facts] : Prop :=
  ∀ (m : (ℓ : Loc Cert.DHid.nD Cert.DHid.τ Cert.DHid.sig) → Buf (Elt Bits) ℓ) (g : Dev Cert.DHid.nD → PrngReg), Pre_DHid m →
    θ_run (Cert.DHid.defs (F := Bits)) (onTc (τ := Cert.DHid.τ) (Cert.DHid.main (F := Bits))) ⟨m, fun _ => 0, g⟩ (fun r => (∀ c : Dev Cert.DHid.nD,
      r.2.mem ((c.tc : Thread Cert.DHid.nD Cert.DHid.τ).loc Cert.DHid.main_arg0) = m ((c.tc : Thread Cert.DHid.nD Cert.DHid.τ).loc Cert.DHid.main_arg0)
      ∧ r.2.mem ((c.tc : Thread Cert.DHid.nD Cert.DHid.τ).loc Cert.DHid.main_arg1) = m ((c.tc : Thread Cert.DHid.nD Cert.DHid.τ).loc Cert.DHid.main_arg1))
      ∧ r.2.sem = fun _ => 0)

def quiescent_DHidIdeal [hDHidIdeal : Cert.DHidIdeal.Facts] : Prop :=
  ∀ (m : (ℓ : Loc Cert.DHidIdeal.nD Cert.DHidIdeal.τ Cert.DHidIdeal.sig) → Buf (Elt Ideal) ℓ) (g : Dev Cert.DHidIdeal.nD → PrngReg), Pre_DHidIdeal m →
    θ_run (Cert.DHidIdeal.defs (F := Ideal)) (onTc (τ := Cert.DHidIdeal.τ) (Cert.DHidIdeal.main (F := Ideal))) ⟨m, fun _ => 0, g⟩ (fun r => (∀ c : Dev Cert.DHidIdeal.nD,
      r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
      ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1))
      ∧ r.2.sem = fun _ => 0)

def quiescent_DHidReferenceIdeal [hDHidReferenceIdeal : Cert.DHidReferenceIdeal.Facts] : Prop :=
  ∀ (m : (ℓ : Loc Cert.DHidReferenceIdeal.nD Cert.DHidReferenceIdeal.τ Cert.DHidReferenceIdeal.sig) → Buf (Elt Ideal) ℓ) (g : Dev Cert.DHidReferenceIdeal.nD → PrngReg), Pre_DHidReferenceIdeal m →
    θ_run (Cert.DHidReferenceIdeal.defs (F := Ideal)) (onTc (τ := Cert.DHidReferenceIdeal.τ) (Cert.DHidReferenceIdeal.main (F := Ideal))) ⟨m, fun _ => 0, g⟩ (fun r => (∀ c : Dev Cert.DHidReferenceIdeal.nD,
      r.2.mem ((c.tc : Thread Cert.DHidReferenceIdeal.nD Cert.DHidReferenceIdeal.τ).loc Cert.DHidReferenceIdeal.main_arg0) = m ((c.tc : Thread Cert.DHidReferenceIdeal.nD Cert.DHidReferenceIdeal.τ).loc Cert.DHidReferenceIdeal.main_arg0)
      ∧ r.2.mem ((c.tc : Thread Cert.DHidReferenceIdeal.nD Cert.DHidReferenceIdeal.τ).loc Cert.DHidReferenceIdeal.main_arg1) = m ((c.tc : Thread Cert.DHidReferenceIdeal.nD Cert.DHidReferenceIdeal.τ).loc Cert.DHidReferenceIdeal.main_arg1))
      ∧ r.2.sem = fun _ => 0)

def quiescent_Up [hUp : Cert.Up.Facts] : Prop :=
  ∀ (m : (ℓ : Loc Cert.Up.nD Cert.Up.τ Cert.Up.sig) → Buf (Elt Bits) ℓ) (g : Dev Cert.Up.nD → PrngReg), Pre_Up m →
    θ_run (Cert.Up.defs (F := Bits)) (onTc (τ := Cert.Up.τ) (Cert.Up.main (F := Bits))) ⟨m, fun _ => 0, g⟩ (fun r => (∀ c : Dev Cert.Up.nD,
      r.2.mem ((c.tc : Thread Cert.Up.nD Cert.Up.τ).loc Cert.Up.main_arg0) = m ((c.tc : Thread Cert.Up.nD Cert.Up.τ).loc Cert.Up.main_arg0)
      ∧ r.2.mem ((c.tc : Thread Cert.Up.nD Cert.Up.τ).loc Cert.Up.main_arg1) = m ((c.tc : Thread Cert.Up.nD Cert.Up.τ).loc Cert.Up.main_arg1))
      ∧ r.2.sem = fun _ => 0)

def quiescent_UpIdeal [hUpIdeal : Cert.UpIdeal.Facts] : Prop :=
  ∀ (m : (ℓ : Loc Cert.UpIdeal.nD Cert.UpIdeal.τ Cert.UpIdeal.sig) → Buf (Elt Ideal) ℓ) (g : Dev Cert.UpIdeal.nD → PrngReg), Pre_UpIdeal m →
    θ_run (Cert.UpIdeal.defs (F := Ideal)) (onTc (τ := Cert.UpIdeal.τ) (Cert.UpIdeal.main (F := Ideal))) ⟨m, fun _ => 0, g⟩ (fun r => (∀ c : Dev Cert.UpIdeal.nD,
      r.2.mem ((c.tc : Thread Cert.UpIdeal.nD Cert.UpIdeal.τ).loc Cert.UpIdeal.main_arg0) = m ((c.tc : Thread Cert.UpIdeal.nD Cert.UpIdeal.τ).loc Cert.UpIdeal.main_arg0)
      ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ r.2.sem = fun _ => 0)

def quiescent_UpReferenceIdeal [hUpReferenceIdeal : Cert.UpReferenceIdeal.Facts] : Prop :=
  ∀ (m : (ℓ : Loc Cert.UpReferenceIdeal.nD Cert.UpReferenceIdeal.τ Cert.UpReferenceIdeal.sig) → Buf (Elt Ideal) ℓ) (g : Dev Cert.UpReferenceIdeal.nD → PrngReg), Pre_UpReferenceIdeal m →
    θ_run (Cert.UpReferenceIdeal.defs (F := Ideal)) (onTc (τ := Cert.UpReferenceIdeal.τ) (Cert.UpReferenceIdeal.main (F := Ideal))) ⟨m, fun _ => 0, g⟩ (fun r => (∀ c : Dev Cert.UpReferenceIdeal.nD,
      r.2.mem ((c.tc : Thread Cert.UpReferenceIdeal.nD Cert.UpReferenceIdeal.τ).loc Cert.UpReferenceIdeal.main_arg0) = m ((c.tc : Thread Cert.UpReferenceIdeal.nD Cert.UpReferenceIdeal.τ).loc Cert.UpReferenceIdeal.main_arg0)
      ∧ r.2.mem ((c.tc : Thread Cert.UpReferenceIdeal.nD Cert.UpReferenceIdeal.τ).loc Cert.UpReferenceIdeal.main_arg1) = m ((c.tc : Thread Cert.UpReferenceIdeal.nD Cert.UpReferenceIdeal.τ).loc Cert.UpReferenceIdeal.main_arg1))
      ∧ r.2.sem = fun _ => 0)

def quiescent_DAttn [hDAttn : Cert.DAttn.Facts] : Prop :=
  ∀ (m : (ℓ : Loc Cert.DAttn.nD Cert.DAttn.τ Cert.DAttn.sig) → Buf (Elt Bits) ℓ) (g : Dev Cert.DAttn.nD → PrngReg), Pre_DAttn m →
    θ_run (Cert.DAttn.defs (F := Bits)) (onTc (τ := Cert.DAttn.τ) (Cert.DAttn.main (F := Bits))) ⟨m, fun _ => 0, g⟩ (fun r => (∀ c : Dev Cert.DAttn.nD,
      r.2.mem ((c.tc : Thread Cert.DAttn.nD Cert.DAttn.τ).loc Cert.DAttn.main_arg0) = m ((c.tc : Thread Cert.DAttn.nD Cert.DAttn.τ).loc Cert.DAttn.main_arg0)
      ∧ r.2.mem ((c.tc : Thread Cert.DAttn.nD Cert.DAttn.τ).loc Cert.DAttn.main_arg1) = m ((c.tc : Thread Cert.DAttn.nD Cert.DAttn.τ).loc Cert.DAttn.main_arg1))
      ∧ r.2.sem = fun _ => 0)

def quiescent_DAttnIdeal [hDAttnIdeal : Cert.DAttnIdeal.Facts] : Prop :=
  ∀ (m : (ℓ : Loc Cert.DAttnIdeal.nD Cert.DAttnIdeal.τ Cert.DAttnIdeal.sig) → Buf (Elt Ideal) ℓ) (g : Dev Cert.DAttnIdeal.nD → PrngReg), Pre_DAttnIdeal m →
    θ_run (Cert.DAttnIdeal.defs (F := Ideal)) (onTc (τ := Cert.DAttnIdeal.τ) (Cert.DAttnIdeal.main (F := Ideal))) ⟨m, fun _ => 0, g⟩ (fun r => (∀ c : Dev Cert.DAttnIdeal.nD,
      r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
      ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ r.2.sem = fun _ => 0)

def quiescent_NormBack [hNormBack : Cert.NormBack.Facts] : Prop :=
  ∀ (m : (ℓ : Loc Cert.NormBack.nD Cert.NormBack.τ Cert.NormBack.sig) → Buf (Elt Bits) ℓ) (g : Dev Cert.NormBack.nD → PrngReg), Pre_NormBack m →
    θ_run (Cert.NormBack.defs (F := Bits)) (onTc (τ := Cert.NormBack.τ) (Cert.NormBack.main (F := Bits))) ⟨m, fun _ => 0, g⟩ (fun r => (∀ c : Dev Cert.NormBack.nD,
      r.2.mem ((c.tc : Thread Cert.NormBack.nD Cert.NormBack.τ).loc Cert.NormBack.main_arg0) = m ((c.tc : Thread Cert.NormBack.nD Cert.NormBack.τ).loc Cert.NormBack.main_arg0)
      ∧ r.2.mem ((c.tc : Thread Cert.NormBack.nD Cert.NormBack.τ).loc Cert.NormBack.main_arg1) = m ((c.tc : Thread Cert.NormBack.nD Cert.NormBack.τ).loc Cert.NormBack.main_arg1)
      ∧ r.2.mem ((c.tc : Thread Cert.NormBack.nD Cert.NormBack.τ).loc Cert.NormBack.main_arg2) = m ((c.tc : Thread Cert.NormBack.nD Cert.NormBack.τ).loc Cert.NormBack.main_arg2)
      ∧ r.2.mem ((c.tc : Thread Cert.NormBack.nD Cert.NormBack.τ).loc Cert.NormBack.main_arg3) = m ((c.tc : Thread Cert.NormBack.nD Cert.NormBack.τ).loc Cert.NormBack.main_arg3))
      ∧ r.2.sem = fun _ => 0)

def quiescent_NormBackIdeal [hNormBackIdeal : Cert.NormBackIdeal.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackIdeal_pre_finite_norm [hNormBackIdeal : Cert.NormBackIdeal.Facts] [hPre_finite_norm : Cert.Pre_finite_norm.Facts] : Prop :=
  ∀ (m : (ℓ : Loc Cert.NormBackIdeal.nD Cert.NormBackIdeal.τ Cert.NormBackIdeal.sig) → Buf (Elt Ideal) ℓ) (g : Dev Cert.NormBackIdeal.nD → PrngReg), Pre_NormBackIdeal_finite_norm m →
    θ_run (Cert.NormBackIdeal.defs (F := Ideal)) (onTc (τ := Cert.NormBackIdeal.τ) (Cert.NormBackIdeal.main (F := Ideal))) ⟨m, fun _ => 0, g⟩ (fun r => (∀ c : Dev Cert.NormBackIdeal.nD,
      r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
      ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
      ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
      ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ r.2.sem = fun _ => 0)

def quiescent_NormBackReferenceIdeal [hNormBackReferenceIdeal : Cert.NormBackReferenceIdeal.Facts] : Prop :=
  ∀ (m : (ℓ : Loc Cert.NormBackReferenceIdeal.nD Cert.NormBackReferenceIdeal.τ Cert.NormBackReferenceIdeal.sig) → Buf (Elt Ideal) ℓ) (g : Dev Cert.NormBackReferenceIdeal.nD → PrngReg), Pre_NormBackReferenceIdeal m →
    θ_run (Cert.NormBackReferenceIdeal.defs (F := Ideal)) (onTc (τ := Cert.NormBackReferenceIdeal.τ) (Cert.NormBackReferenceIdeal.main (F := Ideal))) ⟨m, fun _ => 0, g⟩ (fun r => (∀ c : Dev Cert.NormBackReferenceIdeal.nD,
      r.2.mem ((c.tc : Thread Cert.NormBackReferenceIdeal.nD Cert.NormBackReferenceIdeal.τ).loc Cert.NormBackReferenceIdeal.main_arg0) = m ((c.tc : Thread Cert.NormBackReferenceIdeal.nD Cert.NormBackReferenceIdeal.τ).loc Cert.NormBackReferenceIdeal.main_arg0)
      ∧ r.2.mem ((c.tc : Thread Cert.NormBackReferenceIdeal.nD Cert.NormBackReferenceIdeal.τ).loc Cert.NormBackReferenceIdeal.main_arg1) = m ((c.tc : Thread Cert.NormBackReferenceIdeal.nD Cert.NormBackReferenceIdeal.τ).loc Cert.NormBackReferenceIdeal.main_arg1)
      ∧ r.2.mem ((c.tc : Thread Cert.NormBackReferenceIdeal.nD Cert.NormBackReferenceIdeal.τ).loc Cert.NormBackReferenceIdeal.main_arg2) = m ((c.tc : Thread Cert.NormBackReferenceIdeal.nD Cert.NormBackReferenceIdeal.τ).loc Cert.NormBackReferenceIdeal.main_arg2)
      ∧ r.2.mem ((c.tc : Thread Cert.NormBackReferenceIdeal.nD Cert.NormBackReferenceIdeal.τ).loc Cert.NormBackReferenceIdeal.main_arg3) = m ((c.tc : Thread Cert.NormBackReferenceIdeal.nD Cert.NormBackReferenceIdeal.τ).loc Cert.NormBackReferenceIdeal.main_arg3))
      ∧ r.2.sem = fun _ => 0)

def quiescent_NormBackReferenceIdeal_pre_finite_norm [hNormBackReferenceIdeal : Cert.NormBackReferenceIdeal.Facts] [hPre_finite_norm : Cert.Pre_finite_norm.Facts] : Prop :=
  ∀ (m : (ℓ : Loc Cert.NormBackReferenceIdeal.nD Cert.NormBackReferenceIdeal.τ Cert.NormBackReferenceIdeal.sig) → Buf (Elt Ideal) ℓ) (g : Dev Cert.NormBackReferenceIdeal.nD → PrngReg), Pre_NormBackReferenceIdeal_finite_norm m →
    θ_run (Cert.NormBackReferenceIdeal.defs (F := Ideal)) (onTc (τ := Cert.NormBackReferenceIdeal.τ) (Cert.NormBackReferenceIdeal.main (F := Ideal))) ⟨m, fun _ => 0, g⟩ (fun r => (∀ c : Dev Cert.NormBackReferenceIdeal.nD,
      r.2.mem ((c.tc : Thread Cert.NormBackReferenceIdeal.nD Cert.NormBackReferenceIdeal.τ).loc Cert.NormBackReferenceIdeal.main_arg0) = m ((c.tc : Thread Cert.NormBackReferenceIdeal.nD Cert.NormBackReferenceIdeal.τ).loc Cert.NormBackReferenceIdeal.main_arg0)
      ∧ r.2.mem ((c.tc : Thread Cert.NormBackReferenceIdeal.nD Cert.NormBackReferenceIdeal.τ).loc Cert.NormBackReferenceIdeal.main_arg1) = m ((c.tc : Thread Cert.NormBackReferenceIdeal.nD Cert.NormBackReferenceIdeal.τ).loc Cert.NormBackReferenceIdeal.main_arg1)
      ∧ r.2.mem ((c.tc : Thread Cert.NormBackReferenceIdeal.nD Cert.NormBackReferenceIdeal.τ).loc Cert.NormBackReferenceIdeal.main_arg2) = m ((c.tc : Thread Cert.NormBackReferenceIdeal.nD Cert.NormBackReferenceIdeal.τ).loc Cert.NormBackReferenceIdeal.main_arg2)
      ∧ r.2.mem ((c.tc : Thread Cert.NormBackReferenceIdeal.nD Cert.NormBackReferenceIdeal.τ).loc Cert.NormBackReferenceIdeal.main_arg3) = m ((c.tc : Thread Cert.NormBackReferenceIdeal.nD Cert.NormBackReferenceIdeal.τ).loc Cert.NormBackReferenceIdeal.main_arg3))
      ∧ r.2.sem = fun _ => 0)

def preserves_Kernel_KernelIdeal : Prop :=
  IdealRules.named_const.Statement Cert.KernelIdeal.κ "gelu_cube" .f32 0x3D372713#32 ((8943 / 200000 : ℝ) : EReal)
  ∧ IdealRules.named_const.Statement Cert.KernelIdeal.κ "gelu_cube3" .f32 0x3E095D4F#32 ((26829 / 200000 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)) (v2 : (c : Dev Cert.KernelIdeal.nD) → Buf (Elt Ideal) ((c.tc : Thread Cert.KernelIdeal.nD Cert.KernelIdeal.τ).loc Cert.KernelIdeal.main_v3_2)) (v3 : (c : Dev Cert.KernelIdeal.nD) → Buf (Elt Ideal) ((c.tc : Thread Cert.KernelIdeal.nD Cert.KernelIdeal.τ).loc Cert.KernelIdeal.main_v3_3)) (v4 : (c : Dev Cert.KernelIdeal.nD) → Buf (Elt Ideal) ((c.tc : Thread Cert.KernelIdeal.nD Cert.KernelIdeal.τ).loc Cert.KernelIdeal.main_v3_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_v3_2) = v2 c
          ∧ r.2.mem ((c.tc : Thread Cert.KernelIdeal.nD Cert.KernelIdeal.τ).loc Cert.KernelIdeal.main_v3_3) = v3 c
          ∧ r.2.mem ((c.tc : Thread Cert.KernelIdeal.nD Cert.KernelIdeal.τ).loc Cert.KernelIdeal.main_v3_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v179) = v0 c
          ∧ r.2.mem ((c.tc : Thread Cert.ReferenceIdeal.nD Cert.ReferenceIdeal.τ).loc Cert.ReferenceIdeal.main_v180) = v1 c
          ∧ r.2.mem ((c.tc : Thread Cert.ReferenceIdeal.nD Cert.ReferenceIdeal.τ).loc Cert.ReferenceIdeal.main_v182) = v2 c
          ∧ r.2.mem ((c.tc : Thread Cert.ReferenceIdeal.nD Cert.ReferenceIdeal.τ).loc Cert.ReferenceIdeal.main_v148) = v3 c
          ∧ r.2.mem ((c.tc : Thread Cert.ReferenceIdeal.nD Cert.ReferenceIdeal.τ).loc Cert.ReferenceIdeal.main_v147) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_DAct_DActIdeal : Prop :=
  True

def algebraic_DActIdeal_DActReferenceIdeal [hDActIdeal : Cert.DActIdeal.Facts] [hDActReferenceIdeal : Cert.DActReferenceIdeal.Facts] : Prop :=
  ∀ (m : (ℓ : Loc Cert.DActIdeal.nD Cert.DActIdeal.τ Cert.DActIdeal.sig) → Buf (Elt Ideal) ℓ) (g : Dev Cert.DActIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DActIdeal m →
    (∀ c : Dev Cert.DActIdeal.nD,
      m' ((c.tc : Thread Cert.DActReferenceIdeal.nD Cert.DActReferenceIdeal.τ).loc Cert.DActReferenceIdeal.main_arg0) = m ((c.tc : Thread Cert.DActIdeal.nD Cert.DActIdeal.τ).loc Cert.DActIdeal.main_arg0)
      ∧ m' ((c.tc : Thread Cert.DActReferenceIdeal.nD Cert.DActReferenceIdeal.τ).loc Cert.DActReferenceIdeal.main_arg1) = m ((c.tc : Thread Cert.DActIdeal.nD Cert.DActIdeal.τ).loc Cert.DActIdeal.main_arg1)) →
    ∃ (v0 : (c : Dev Cert.DActIdeal.nD) → Buf (Elt Ideal) ((c.tc : Thread Cert.DActIdeal.nD Cert.DActIdeal.τ).loc Cert.DActIdeal.main_v0)),
      θ_run (Cert.DActIdeal.defs (F := Ideal)) (onTc (τ := Cert.DActIdeal.τ) (Cert.DActIdeal.main (F := Ideal))) ⟨m, fun _ => 0, g⟩ (fun r => ∀ c : Dev Cert.DActIdeal.nD,
          r.2.mem ((c.tc : Thread Cert.DActIdeal.nD Cert.DActIdeal.τ).loc Cert.DActIdeal.main_v0) = v0 c
          ∧ r.2.mem ((c.tc : Thread Cert.DActIdeal.nD Cert.DActIdeal.τ).loc Cert.DActIdeal.main_arg0) = m ((c.tc : Thread Cert.DActIdeal.nD Cert.DActIdeal.τ).loc Cert.DActIdeal.main_arg0)
          ∧ r.2.mem ((c.tc : Thread Cert.DActIdeal.nD Cert.DActIdeal.τ).loc Cert.DActIdeal.main_arg1) = m ((c.tc : Thread Cert.DActIdeal.nD Cert.DActIdeal.τ).loc Cert.DActIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v6) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_DWeight_DWeightIdeal : Prop :=
  True

def algebraic_DWeightIdeal_DWeightReferenceIdeal [hDWeightIdeal : Cert.DWeightIdeal.Facts] [hDWeightReferenceIdeal : Cert.DWeightReferenceIdeal.Facts] : Prop :=
  ∀ (m : (ℓ : Loc Cert.DWeightIdeal.nD Cert.DWeightIdeal.τ Cert.DWeightIdeal.sig) → Buf (Elt Ideal) ℓ) (g : Dev Cert.DWeightIdeal.nD → PrngReg)
    (m' : (ℓ : Loc Cert.DWeightReferenceIdeal.nD Cert.DWeightReferenceIdeal.τ Cert.DWeightReferenceIdeal.sig) → Buf (Elt Ideal) ℓ) (g' : Dev Cert.DWeightReferenceIdeal.nD → PrngReg), Pre_DWeightIdeal m →
    (∀ c : Dev Cert.DWeightIdeal.nD,
      m' ((c.tc : Thread Cert.DWeightReferenceIdeal.nD Cert.DWeightReferenceIdeal.τ).loc Cert.DWeightReferenceIdeal.main_arg0) = m ((c.tc : Thread Cert.DWeightIdeal.nD Cert.DWeightIdeal.τ).loc Cert.DWeightIdeal.main_arg0)
      ∧ m' ((c.tc : Thread Cert.DWeightReferenceIdeal.nD Cert.DWeightReferenceIdeal.τ).loc Cert.DWeightReferenceIdeal.main_arg1) = m ((c.tc : Thread Cert.DWeightIdeal.nD Cert.DWeightIdeal.τ).loc Cert.DWeightIdeal.main_arg1)) →
    ∃ (v0 : (c : Dev Cert.DWeightIdeal.nD) → Buf (Elt Ideal) ((c.tc : Thread Cert.DWeightIdeal.nD Cert.DWeightIdeal.τ).loc Cert.DWeightIdeal.main_v0)),
      θ_run (Cert.DWeightIdeal.defs (F := Ideal)) (onTc (τ := Cert.DWeightIdeal.τ) (Cert.DWeightIdeal.main (F := Ideal))) ⟨m, fun _ => 0, g⟩ (fun r => ∀ c : Dev Cert.DWeightIdeal.nD,
          r.2.mem ((c.tc : Thread Cert.DWeightIdeal.nD Cert.DWeightIdeal.τ).loc Cert.DWeightIdeal.main_v0) = v0 c
          ∧ r.2.mem ((c.tc : Thread Cert.DWeightIdeal.nD Cert.DWeightIdeal.τ).loc Cert.DWeightIdeal.main_arg0) = m ((c.tc : Thread Cert.DWeightIdeal.nD Cert.DWeightIdeal.τ).loc Cert.DWeightIdeal.main_arg0)
          ∧ r.2.mem ((c.tc : Thread Cert.DWeightIdeal.nD Cert.DWeightIdeal.τ).loc Cert.DWeightIdeal.main_arg1) = m ((c.tc : Thread Cert.DWeightIdeal.nD Cert.DWeightIdeal.τ).loc Cert.DWeightIdeal.main_arg1))
      ∧ θ_run (Cert.DWeightReferenceIdeal.defs (F := Ideal)) (onTc (τ := Cert.DWeightReferenceIdeal.τ) (Cert.DWeightReferenceIdeal.main (F := Ideal))) ⟨m', fun _ => 0, g'⟩ (fun r => ∀ c : Dev Cert.DWeightReferenceIdeal.nD,
          r.2.mem ((c.tc : Thread Cert.DWeightReferenceIdeal.nD Cert.DWeightReferenceIdeal.τ).loc Cert.DWeightReferenceIdeal.main_v8) = v0 c
          ∧ r.2.mem ((c.tc : Thread Cert.DWeightReferenceIdeal.nD Cert.DWeightReferenceIdeal.τ).loc Cert.DWeightReferenceIdeal.main_arg0) = m' ((c.tc : Thread Cert.DWeightReferenceIdeal.nD Cert.DWeightReferenceIdeal.τ).loc Cert.DWeightReferenceIdeal.main_arg0)
          ∧ r.2.mem ((c.tc : Thread Cert.DWeightReferenceIdeal.nD Cert.DWeightReferenceIdeal.τ).loc Cert.DWeightReferenceIdeal.main_arg1) = m' ((c.tc : Thread Cert.DWeightReferenceIdeal.nD Cert.DWeightReferenceIdeal.τ).loc Cert.DWeightReferenceIdeal.main_arg1))

def preserves_OutProj_OutProjIdeal : Prop :=
  True

def algebraic_OutProjIdeal_OutProjReferenceIdeal [hOutProjIdeal : Cert.OutProjIdeal.Facts] [hOutProjReferenceIdeal : Cert.OutProjReferenceIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjReferenceIdeal.nD Cert.OutProjReferenceIdeal.τ Cert.OutProjReferenceIdeal.sig) → Buf (Elt Ideal) ℓ) (g' : Dev Cert.OutProjReferenceIdeal.nD → PrngReg), Pre_OutProjIdeal m →
    (∀ c : Dev Cert.OutProjIdeal.nD,
      m' ((c.tc : Thread Cert.OutProjReferenceIdeal.nD Cert.OutProjReferenceIdeal.τ).loc Cert.OutProjReferenceIdeal.main_arg0) = m ((c.tc : Thread Cert.OutProjIdeal.nD Cert.OutProjIdeal.τ).loc Cert.OutProjIdeal.main_arg0)
      ∧ m' ((c.tc : Thread Cert.OutProjReferenceIdeal.nD Cert.OutProjReferenceIdeal.τ).loc Cert.OutProjReferenceIdeal.main_arg1) = m ((c.tc : Thread Cert.OutProjIdeal.nD Cert.OutProjIdeal.τ).loc Cert.OutProjIdeal.main_arg1)
      ∧ m' ((c.tc : Thread Cert.OutProjReferenceIdeal.nD Cert.OutProjReferenceIdeal.τ).loc Cert.OutProjReferenceIdeal.main_arg2) = m ((c.tc : Thread Cert.OutProjIdeal.nD Cert.OutProjIdeal.τ).loc Cert.OutProjIdeal.main_arg2)) →
    ∃ (v0 : (c : Dev Cert.OutProjIdeal.nD) → Buf (Elt Ideal) ((c.tc : Thread Cert.OutProjIdeal.nD Cert.OutProjIdeal.τ).loc Cert.OutProjIdeal.main_v0)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v0) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2))
      ∧ θ_run (Cert.OutProjReferenceIdeal.defs (F := Ideal)) (onTc (τ := Cert.OutProjReferenceIdeal.τ) (Cert.OutProjReferenceIdeal.main (F := Ideal))) ⟨m', fun _ => 0, g'⟩ (fun r => ∀ c : Dev Cert.OutProjReferenceIdeal.nD,
          r.2.mem ((c.tc : Thread Cert.OutProjReferenceIdeal.nD Cert.OutProjReferenceIdeal.τ).loc Cert.OutProjReferenceIdeal.main_v6) = v0 c
          ∧ r.2.mem ((c.tc : Thread Cert.OutProjReferenceIdeal.nD Cert.OutProjReferenceIdeal.τ).loc Cert.OutProjReferenceIdeal.main_arg0) = m' ((c.tc : Thread Cert.OutProjReferenceIdeal.nD Cert.OutProjReferenceIdeal.τ).loc Cert.OutProjReferenceIdeal.main_arg0)
          ∧ r.2.mem ((c.tc : Thread Cert.OutProjReferenceIdeal.nD Cert.OutProjReferenceIdeal.τ).loc Cert.OutProjReferenceIdeal.main_arg1) = m' ((c.tc : Thread Cert.OutProjReferenceIdeal.nD Cert.OutProjReferenceIdeal.τ).loc Cert.OutProjReferenceIdeal.main_arg1)
          ∧ r.2.mem ((c.tc : Thread Cert.OutProjReferenceIdeal.nD Cert.OutProjReferenceIdeal.τ).loc Cert.OutProjReferenceIdeal.main_arg2) = m' ((c.tc : Thread Cert.OutProjReferenceIdeal.nD Cert.OutProjReferenceIdeal.τ).loc Cert.OutProjReferenceIdeal.main_arg2))

def preserves_Merge_MergeIdeal : Prop :=
  True

def algebraic_MergeIdeal_MergeReferenceIdeal [hMergeIdeal : Cert.MergeIdeal.Facts] [hMergeReferenceIdeal : Cert.MergeReferenceIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeReferenceIdeal.nD Cert.MergeReferenceIdeal.τ Cert.MergeReferenceIdeal.sig) → Buf (Elt Ideal) ℓ) (g' : Dev Cert.MergeReferenceIdeal.nD → PrngReg), Pre_MergeIdeal m →
    (∀ c : Dev Cert.MergeIdeal.nD,
      m' ((c.tc : Thread Cert.MergeReferenceIdeal.nD Cert.MergeReferenceIdeal.τ).loc Cert.MergeReferenceIdeal.main_arg0) = m ((c.tc : Thread Cert.MergeIdeal.nD Cert.MergeIdeal.τ).loc Cert.MergeIdeal.main_arg0)
      ∧ m' ((c.tc : Thread Cert.MergeReferenceIdeal.nD Cert.MergeReferenceIdeal.τ).loc Cert.MergeReferenceIdeal.main_arg1) = m ((c.tc : Thread Cert.MergeIdeal.nD Cert.MergeIdeal.τ).loc Cert.MergeIdeal.main_arg1)
      ∧ m' ((c.tc : Thread Cert.MergeReferenceIdeal.nD Cert.MergeReferenceIdeal.τ).loc Cert.MergeReferenceIdeal.main_arg2) = m ((c.tc : Thread Cert.MergeIdeal.nD Cert.MergeIdeal.τ).loc Cert.MergeIdeal.main_arg2)
      ∧ m' ((c.tc : Thread Cert.MergeReferenceIdeal.nD Cert.MergeReferenceIdeal.τ).loc Cert.MergeReferenceIdeal.main_arg3) = m ((c.tc : Thread Cert.MergeIdeal.nD Cert.MergeIdeal.τ).loc Cert.MergeIdeal.main_arg3)) →
    ∃ (v0 : (c : Dev Cert.MergeIdeal.nD) → Buf (Elt Ideal) ((c.tc : Thread Cert.MergeIdeal.nD Cert.MergeIdeal.τ).loc Cert.MergeIdeal.main_v0_0)) (v1 : (c : Dev Cert.MergeIdeal.nD) → Buf (Elt Ideal) ((c.tc : Thread Cert.MergeIdeal.nD Cert.MergeIdeal.τ).loc Cert.MergeIdeal.main_v0_1)) (v2 : (c : Dev Cert.MergeIdeal.nD) → Buf (Elt Ideal) ((c.tc : Thread Cert.MergeIdeal.nD Cert.MergeIdeal.τ).loc Cert.MergeIdeal.main_v0_2)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v0_0) = v0 c
          ∧ r.2.mem ((c.tc : Thread Cert.MergeIdeal.nD Cert.MergeIdeal.τ).loc Cert.MergeIdeal.main_v0_1) = v1 c
          ∧ r.2.mem ((c.tc : Thread Cert.MergeIdeal.nD Cert.MergeIdeal.τ).loc Cert.MergeIdeal.main_v0_2) = v2 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3))
      ∧ θ_run (Cert.MergeReferenceIdeal.defs (F := Ideal)) (onTc (τ := Cert.MergeReferenceIdeal.τ) (Cert.MergeReferenceIdeal.main (F := Ideal))) ⟨m', fun _ => 0, g'⟩ (fun r => ∀ c : Dev Cert.MergeReferenceIdeal.nD,
          r.2.mem ((c.tc : Thread Cert.MergeReferenceIdeal.nD Cert.MergeReferenceIdeal.τ).loc Cert.MergeReferenceIdeal.main_v35) = v0 c
          ∧ r.2.mem ((c.tc : Thread Cert.MergeReferenceIdeal.nD Cert.MergeReferenceIdeal.τ).loc Cert.MergeReferenceIdeal.main_v37) = v1 c
          ∧ r.2.mem ((c.tc : Thread Cert.MergeReferenceIdeal.nD Cert.MergeReferenceIdeal.τ).loc Cert.MergeReferenceIdeal.main_v41) = v2 c
          ∧ r.2.mem ((c.tc : Thread Cert.MergeReferenceIdeal.nD Cert.MergeReferenceIdeal.τ).loc Cert.MergeReferenceIdeal.main_arg0) = m' ((c.tc : Thread Cert.MergeReferenceIdeal.nD Cert.MergeReferenceIdeal.τ).loc Cert.MergeReferenceIdeal.main_arg0)
          ∧ r.2.mem ((c.tc : Thread Cert.MergeReferenceIdeal.nD Cert.MergeReferenceIdeal.τ).loc Cert.MergeReferenceIdeal.main_arg1) = m' ((c.tc : Thread Cert.MergeReferenceIdeal.nD Cert.MergeReferenceIdeal.τ).loc Cert.MergeReferenceIdeal.main_arg1)
          ∧ r.2.mem ((c.tc : Thread Cert.MergeReferenceIdeal.nD Cert.MergeReferenceIdeal.τ).loc Cert.MergeReferenceIdeal.main_arg2) = m' ((c.tc : Thread Cert.MergeReferenceIdeal.nD Cert.MergeReferenceIdeal.τ).loc Cert.MergeReferenceIdeal.main_arg2)
          ∧ r.2.mem ((c.tc : Thread Cert.MergeReferenceIdeal.nD Cert.MergeReferenceIdeal.τ).loc Cert.MergeReferenceIdeal.main_arg3) = m' ((c.tc : Thread Cert.MergeReferenceIdeal.nD Cert.MergeReferenceIdeal.τ).loc Cert.MergeReferenceIdeal.main_arg3))

def preserves_Norm_NormIdeal : Prop :=
  True

def algebraic_NormIdeal_NormReferenceIdeal [hNormIdeal : Cert.NormIdeal.Facts] [hNormReferenceIdeal : Cert.NormReferenceIdeal.Facts] : Prop :=
  ∀ (m : (ℓ : Loc Cert.NormIdeal.nD Cert.NormIdeal.τ Cert.NormIdeal.sig) → Buf (Elt Ideal) ℓ) (g : Dev Cert.NormIdeal.nD → PrngReg)
    (m' : (ℓ : Loc Cert.NormReferenceIdeal.nD Cert.NormReferenceIdeal.τ Cert.NormReferenceIdeal.sig) → Buf (Elt Ideal) ℓ) (g' : Dev Cert.NormReferenceIdeal.nD → PrngReg), Pre_NormIdeal m →
    (∀ c : Dev Cert.NormIdeal.nD,
      m' ((c.tc : Thread Cert.NormReferenceIdeal.nD Cert.NormReferenceIdeal.τ).loc Cert.NormReferenceIdeal.main_arg0) = m ((c.tc : Thread Cert.NormIdeal.nD Cert.NormIdeal.τ).loc Cert.NormIdeal.main_arg0)
      ∧ m' ((c.tc : Thread Cert.NormReferenceIdeal.nD Cert.NormReferenceIdeal.τ).loc Cert.NormReferenceIdeal.main_arg1) = m ((c.tc : Thread Cert.NormIdeal.nD Cert.NormIdeal.τ).loc Cert.NormIdeal.main_arg1)) →
    ∃ (v0 : (c : Dev Cert.NormIdeal.nD) → Buf (Elt Ideal) ((c.tc : Thread Cert.NormIdeal.nD Cert.NormIdeal.τ).loc Cert.NormIdeal.main_v1)),
      θ_run (Cert.NormIdeal.defs (F := Ideal)) (onTc (τ := Cert.NormIdeal.τ) (Cert.NormIdeal.main (F := Ideal))) ⟨m, fun _ => 0, g⟩ (fun r => ∀ c : Dev Cert.NormIdeal.nD,
          r.2.mem ((c.tc : Thread Cert.NormIdeal.nD Cert.NormIdeal.τ).loc Cert.NormIdeal.main_v1) = v0 c
          ∧ r.2.mem ((c.tc : Thread Cert.NormIdeal.nD Cert.NormIdeal.τ).loc Cert.NormIdeal.main_arg0) = m ((c.tc : Thread Cert.NormIdeal.nD Cert.NormIdeal.τ).loc Cert.NormIdeal.main_arg0)
          ∧ r.2.mem ((c.tc : Thread Cert.NormIdeal.nD Cert.NormIdeal.τ).loc Cert.NormIdeal.main_arg1) = m ((c.tc : Thread Cert.NormIdeal.nD Cert.NormIdeal.τ).loc Cert.NormIdeal.main_arg1))
      ∧ θ_run (Cert.NormReferenceIdeal.defs (F := Ideal)) (onTc (τ := Cert.NormReferenceIdeal.τ) (Cert.NormReferenceIdeal.main (F := Ideal))) ⟨m', fun _ => 0, g'⟩ (fun r => ∀ c : Dev Cert.NormReferenceIdeal.nD,
          r.2.mem ((c.tc : Thread Cert.NormReferenceIdeal.nD Cert.NormReferenceIdeal.τ).loc Cert.NormReferenceIdeal.main_v15) = v0 c
          ∧ r.2.mem ((c.tc : Thread Cert.NormReferenceIdeal.nD Cert.NormReferenceIdeal.τ).loc Cert.NormReferenceIdeal.main_arg0) = m' ((c.tc : Thread Cert.NormReferenceIdeal.nD Cert.NormReferenceIdeal.τ).loc Cert.NormReferenceIdeal.main_arg0)
          ∧ r.2.mem ((c.tc : Thread Cert.NormReferenceIdeal.nD Cert.NormReferenceIdeal.τ).loc Cert.NormReferenceIdeal.main_arg1) = m' ((c.tc : Thread Cert.NormReferenceIdeal.nD Cert.NormReferenceIdeal.τ).loc Cert.NormReferenceIdeal.main_arg1))

def preserves_Merged_MergedIdeal : Prop :=
  True

def algebraic_MergedIdeal_MergedReferenceIdeal [hMergedIdeal : Cert.MergedIdeal.Facts] [hMergedReferenceIdeal : Cert.MergedReferenceIdeal.Facts] : Prop :=
  ∀ (m : (ℓ : Loc Cert.MergedIdeal.nD Cert.MergedIdeal.τ Cert.MergedIdeal.sig) → Buf (Elt Ideal) ℓ) (g : Dev Cert.MergedIdeal.nD → PrngReg)
    (m' : (ℓ : Loc Cert.MergedReferenceIdeal.nD Cert.MergedReferenceIdeal.τ Cert.MergedReferenceIdeal.sig) → Buf (Elt Ideal) ℓ) (g' : Dev Cert.MergedReferenceIdeal.nD → PrngReg), Pre_MergedIdeal m →
    (∀ c : Dev Cert.MergedIdeal.nD,
      m' ((c.tc : Thread Cert.MergedReferenceIdeal.nD Cert.MergedReferenceIdeal.τ).loc Cert.MergedReferenceIdeal.main_arg0) = m ((c.tc : Thread Cert.MergedIdeal.nD Cert.MergedIdeal.τ).loc Cert.MergedIdeal.main_arg0)
      ∧ m' ((c.tc : Thread Cert.MergedReferenceIdeal.nD Cert.MergedReferenceIdeal.τ).loc Cert.MergedReferenceIdeal.main_arg1) = m ((c.tc : Thread Cert.MergedIdeal.nD Cert.MergedIdeal.τ).loc Cert.MergedIdeal.main_arg1)
      ∧ m' ((c.tc : Thread Cert.MergedReferenceIdeal.nD Cert.MergedReferenceIdeal.τ).loc Cert.MergedReferenceIdeal.main_arg2) = m ((c.tc : Thread Cert.MergedIdeal.nD Cert.MergedIdeal.τ).loc Cert.MergedIdeal.main_arg2)) →
    ∃ (v0 : (c : Dev Cert.MergedIdeal.nD) → Buf (Elt Ideal) ((c.tc : Thread Cert.MergedIdeal.nD Cert.MergedIdeal.τ).loc Cert.MergedIdeal.main_v0)),
      θ_run (Cert.MergedIdeal.defs (F := Ideal)) (onTc (τ := Cert.MergedIdeal.τ) (Cert.MergedIdeal.main (F := Ideal))) ⟨m, fun _ => 0, g⟩ (fun r => ∀ c : Dev Cert.MergedIdeal.nD,
          r.2.mem ((c.tc : Thread Cert.MergedIdeal.nD Cert.MergedIdeal.τ).loc Cert.MergedIdeal.main_v0) = v0 c
          ∧ r.2.mem ((c.tc : Thread Cert.MergedIdeal.nD Cert.MergedIdeal.τ).loc Cert.MergedIdeal.main_arg0) = m ((c.tc : Thread Cert.MergedIdeal.nD Cert.MergedIdeal.τ).loc Cert.MergedIdeal.main_arg0)
          ∧ r.2.mem ((c.tc : Thread Cert.MergedIdeal.nD Cert.MergedIdeal.τ).loc Cert.MergedIdeal.main_arg1) = m ((c.tc : Thread Cert.MergedIdeal.nD Cert.MergedIdeal.τ).loc Cert.MergedIdeal.main_arg1)
          ∧ r.2.mem ((c.tc : Thread Cert.MergedIdeal.nD Cert.MergedIdeal.τ).loc Cert.MergedIdeal.main_arg2) = m ((c.tc : Thread Cert.MergedIdeal.nD Cert.MergedIdeal.τ).loc Cert.MergedIdeal.main_arg2))
      ∧ θ_run (Cert.MergedReferenceIdeal.defs (F := Ideal)) (onTc (τ := Cert.MergedReferenceIdeal.τ) (Cert.MergedReferenceIdeal.main (F := Ideal))) ⟨m', fun _ => 0, g'⟩ (fun r => ∀ c : Dev Cert.MergedReferenceIdeal.nD,
          r.2.mem ((c.tc : Thread Cert.MergedReferenceIdeal.nD Cert.MergedReferenceIdeal.τ).loc Cert.MergedReferenceIdeal.main_v22) = v0 c
          ∧ r.2.mem ((c.tc : Thread Cert.MergedReferenceIdeal.nD Cert.MergedReferenceIdeal.τ).loc Cert.MergedReferenceIdeal.main_arg0) = m' ((c.tc : Thread Cert.MergedReferenceIdeal.nD Cert.MergedReferenceIdeal.τ).loc Cert.MergedReferenceIdeal.main_arg0)
          ∧ r.2.mem ((c.tc : Thread Cert.MergedReferenceIdeal.nD Cert.MergedReferenceIdeal.τ).loc Cert.MergedReferenceIdeal.main_arg1) = m' ((c.tc : Thread Cert.MergedReferenceIdeal.nD Cert.MergedReferenceIdeal.τ).loc Cert.MergedReferenceIdeal.main_arg1)
          ∧ r.2.mem ((c.tc : Thread Cert.MergedReferenceIdeal.nD Cert.MergedReferenceIdeal.τ).loc Cert.MergedReferenceIdeal.main_arg2) = m' ((c.tc : Thread Cert.MergedReferenceIdeal.nD Cert.MergedReferenceIdeal.τ).loc Cert.MergedReferenceIdeal.main_arg2))

def preserves_AdamIn_AdamInIdeal : Prop :=
  True

def algebraic_AdamInIdeal_AdamInReferenceIdeal [hAdamInIdeal : Cert.AdamInIdeal.Facts] [hAdamInReferenceIdeal : Cert.AdamInReferenceIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInReferenceIdeal.nD Cert.AdamInReferenceIdeal.τ Cert.AdamInReferenceIdeal.sig) → Buf (Elt Ideal) ℓ) (g' : Dev Cert.AdamInReferenceIdeal.nD → PrngReg), Pre_AdamInIdeal m →
    (∀ c : Dev Cert.AdamInIdeal.nD,
      m' ((c.tc : Thread Cert.AdamInReferenceIdeal.nD Cert.AdamInReferenceIdeal.τ).loc Cert.AdamInReferenceIdeal.main_arg0) = m ((c.tc : Thread Cert.AdamInIdeal.nD Cert.AdamInIdeal.τ).loc Cert.AdamInIdeal.main_arg0)
      ∧ m' ((c.tc : Thread Cert.AdamInReferenceIdeal.nD Cert.AdamInReferenceIdeal.τ).loc Cert.AdamInReferenceIdeal.main_arg1) = m ((c.tc : Thread Cert.AdamInIdeal.nD Cert.AdamInIdeal.τ).loc Cert.AdamInIdeal.main_arg1)
      ∧ m' ((c.tc : Thread Cert.AdamInReferenceIdeal.nD Cert.AdamInReferenceIdeal.τ).loc Cert.AdamInReferenceIdeal.main_arg2) = m ((c.tc : Thread Cert.AdamInIdeal.nD Cert.AdamInIdeal.τ).loc Cert.AdamInIdeal.main_arg2)
      ∧ m' ((c.tc : Thread Cert.AdamInReferenceIdeal.nD Cert.AdamInReferenceIdeal.τ).loc Cert.AdamInReferenceIdeal.main_arg3) = m ((c.tc : Thread Cert.AdamInIdeal.nD Cert.AdamInIdeal.τ).loc Cert.AdamInIdeal.main_arg3)) →
    ∃ (v0 : (c : Dev Cert.AdamInIdeal.nD) → Buf (Elt Ideal) ((c.tc : Thread Cert.AdamInIdeal.nD Cert.AdamInIdeal.τ).loc Cert.AdamInIdeal.main_v3_0)) (v1 : (c : Dev Cert.AdamInIdeal.nD) → Buf (Elt Ideal) ((c.tc : Thread Cert.AdamInIdeal.nD Cert.AdamInIdeal.τ).loc Cert.AdamInIdeal.main_v3_1)) (v2 : (c : Dev Cert.AdamInIdeal.nD) → Buf (Elt Ideal) ((c.tc : Thread Cert.AdamInIdeal.nD Cert.AdamInIdeal.τ).loc Cert.AdamInIdeal.main_v3_2)) (v3 : (c : Dev Cert.AdamInIdeal.nD) → Buf (Elt Ideal) ((c.tc : Thread Cert.AdamInIdeal.nD Cert.AdamInIdeal.τ).loc Cert.AdamInIdeal.main_v3_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v3_0) = v0 c
          ∧ r.2.mem ((c.tc : Thread Cert.AdamInIdeal.nD Cert.AdamInIdeal.τ).loc Cert.AdamInIdeal.main_v3_1) = v1 c
          ∧ r.2.mem ((c.tc : Thread Cert.AdamInIdeal.nD Cert.AdamInIdeal.τ).loc Cert.AdamInIdeal.main_v3_2) = v2 c
          ∧ r.2.mem ((c.tc : Thread Cert.AdamInIdeal.nD Cert.AdamInIdeal.τ).loc Cert.AdamInIdeal.main_v3_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3))
      ∧ θ_run (Cert.AdamInReferenceIdeal.defs (F := Ideal)) (onTc (τ := Cert.AdamInReferenceIdeal.τ) (Cert.AdamInReferenceIdeal.main (F := Ideal))) ⟨m', fun _ => 0, g'⟩ (fun r => ∀ c : Dev Cert.AdamInReferenceIdeal.nD,
          r.2.mem ((c.tc : Thread Cert.AdamInReferenceIdeal.nD Cert.AdamInReferenceIdeal.τ).loc Cert.AdamInReferenceIdeal.main_v26) = v0 c
          ∧ r.2.mem ((c.tc : Thread Cert.AdamInReferenceIdeal.nD Cert.AdamInReferenceIdeal.τ).loc Cert.AdamInReferenceIdeal.main_v27) = v1 c
          ∧ r.2.mem ((c.tc : Thread Cert.AdamInReferenceIdeal.nD Cert.AdamInReferenceIdeal.τ).loc Cert.AdamInReferenceIdeal.main_v28) = v2 c
          ∧ r.2.mem ((c.tc : Thread Cert.AdamInReferenceIdeal.nD Cert.AdamInReferenceIdeal.τ).loc Cert.AdamInReferenceIdeal.main_v29) = v3 c
          ∧ r.2.mem ((c.tc : Thread Cert.AdamInReferenceIdeal.nD Cert.AdamInReferenceIdeal.τ).loc Cert.AdamInReferenceIdeal.main_arg0) = m' ((c.tc : Thread Cert.AdamInReferenceIdeal.nD Cert.AdamInReferenceIdeal.τ).loc Cert.AdamInReferenceIdeal.main_arg0)
          ∧ r.2.mem ((c.tc : Thread Cert.AdamInReferenceIdeal.nD Cert.AdamInReferenceIdeal.τ).loc Cert.AdamInReferenceIdeal.main_arg1) = m' ((c.tc : Thread Cert.AdamInReferenceIdeal.nD Cert.AdamInReferenceIdeal.τ).loc Cert.AdamInReferenceIdeal.main_arg1)
          ∧ r.2.mem ((c.tc : Thread Cert.AdamInReferenceIdeal.nD Cert.AdamInReferenceIdeal.τ).loc Cert.AdamInReferenceIdeal.main_arg2) = m' ((c.tc : Thread Cert.AdamInReferenceIdeal.nD Cert.AdamInReferenceIdeal.τ).loc Cert.AdamInReferenceIdeal.main_arg2)
          ∧ r.2.mem ((c.tc : Thread Cert.AdamInReferenceIdeal.nD Cert.AdamInReferenceIdeal.τ).loc Cert.AdamInReferenceIdeal.main_arg3) = m' ((c.tc : Thread Cert.AdamInReferenceIdeal.nD Cert.AdamInReferenceIdeal.τ).loc Cert.AdamInReferenceIdeal.main_arg3))

def preserves_AdamUp_AdamUpIdeal : Prop :=
  True

def algebraic_AdamUpIdeal_AdamUpReferenceIdeal [hAdamUpIdeal : Cert.AdamUpIdeal.Facts] [hAdamUpReferenceIdeal : Cert.AdamUpReferenceIdeal.Facts] : Prop :=
  ∀ (m : (ℓ : Loc Cert.AdamUpIdeal.nD Cert.AdamUpIdeal.τ Cert.AdamUpIdeal.sig) → Buf (Elt Ideal) ℓ) (g : Dev Cert.AdamUpIdeal.nD → PrngReg)
    (m' : (ℓ : Loc Cert.AdamUpReferenceIdeal.nD Cert.AdamUpReferenceIdeal.τ Cert.AdamUpReferenceIdeal.sig) → Buf (Elt Ideal) ℓ) (g' : Dev Cert.AdamUpReferenceIdeal.nD → PrngReg), Pre_AdamUpIdeal m →
    (∀ c : Dev Cert.AdamUpIdeal.nD,
      m' ((c.tc : Thread Cert.AdamUpReferenceIdeal.nD Cert.AdamUpReferenceIdeal.τ).loc Cert.AdamUpReferenceIdeal.main_arg0) = m ((c.tc : Thread Cert.AdamUpIdeal.nD Cert.AdamUpIdeal.τ).loc Cert.AdamUpIdeal.main_arg0)
      ∧ m' ((c.tc : Thread Cert.AdamUpReferenceIdeal.nD Cert.AdamUpReferenceIdeal.τ).loc Cert.AdamUpReferenceIdeal.main_arg1) = m ((c.tc : Thread Cert.AdamUpIdeal.nD Cert.AdamUpIdeal.τ).loc Cert.AdamUpIdeal.main_arg1)
      ∧ m' ((c.tc : Thread Cert.AdamUpReferenceIdeal.nD Cert.AdamUpReferenceIdeal.τ).loc Cert.AdamUpReferenceIdeal.main_arg2) = m ((c.tc : Thread Cert.AdamUpIdeal.nD Cert.AdamUpIdeal.τ).loc Cert.AdamUpIdeal.main_arg2)
      ∧ m' ((c.tc : Thread Cert.AdamUpReferenceIdeal.nD Cert.AdamUpReferenceIdeal.τ).loc Cert.AdamUpReferenceIdeal.main_arg3) = m ((c.tc : Thread Cert.AdamUpIdeal.nD Cert.AdamUpIdeal.τ).loc Cert.AdamUpIdeal.main_arg3)) →
    ∃ (v0 : (c : Dev Cert.AdamUpIdeal.nD) → Buf (Elt Ideal) ((c.tc : Thread Cert.AdamUpIdeal.nD Cert.AdamUpIdeal.τ).loc Cert.AdamUpIdeal.main_v3_0)) (v1 : (c : Dev Cert.AdamUpIdeal.nD) → Buf (Elt Ideal) ((c.tc : Thread Cert.AdamUpIdeal.nD Cert.AdamUpIdeal.τ).loc Cert.AdamUpIdeal.main_v3_1)) (v2 : (c : Dev Cert.AdamUpIdeal.nD) → Buf (Elt Ideal) ((c.tc : Thread Cert.AdamUpIdeal.nD Cert.AdamUpIdeal.τ).loc Cert.AdamUpIdeal.main_v3_2)) (v3 : (c : Dev Cert.AdamUpIdeal.nD) → Buf (Elt Ideal) ((c.tc : Thread Cert.AdamUpIdeal.nD Cert.AdamUpIdeal.τ).loc Cert.AdamUpIdeal.main_v3_3)),
      θ_run (Cert.AdamUpIdeal.defs (F := Ideal)) (onTc (τ := Cert.AdamUpIdeal.τ) (Cert.AdamUpIdeal.main (F := Ideal))) ⟨m, fun _ => 0, g⟩ (fun r => ∀ c : Dev Cert.AdamUpIdeal.nD,
          r.2.mem ((c.tc : Thread Cert.AdamUpIdeal.nD Cert.AdamUpIdeal.τ).loc Cert.AdamUpIdeal.main_v3_0) = v0 c
          ∧ r.2.mem ((c.tc : Thread Cert.AdamUpIdeal.nD Cert.AdamUpIdeal.τ).loc Cert.AdamUpIdeal.main_v3_1) = v1 c
          ∧ r.2.mem ((c.tc : Thread Cert.AdamUpIdeal.nD Cert.AdamUpIdeal.τ).loc Cert.AdamUpIdeal.main_v3_2) = v2 c
          ∧ r.2.mem ((c.tc : Thread Cert.AdamUpIdeal.nD Cert.AdamUpIdeal.τ).loc Cert.AdamUpIdeal.main_v3_3) = v3 c
          ∧ r.2.mem ((c.tc : Thread Cert.AdamUpIdeal.nD Cert.AdamUpIdeal.τ).loc Cert.AdamUpIdeal.main_arg0) = m ((c.tc : Thread Cert.AdamUpIdeal.nD Cert.AdamUpIdeal.τ).loc Cert.AdamUpIdeal.main_arg0)
          ∧ r.2.mem ((c.tc : Thread Cert.AdamUpIdeal.nD Cert.AdamUpIdeal.τ).loc Cert.AdamUpIdeal.main_arg1) = m ((c.tc : Thread Cert.AdamUpIdeal.nD Cert.AdamUpIdeal.τ).loc Cert.AdamUpIdeal.main_arg1)
          ∧ r.2.mem ((c.tc : Thread Cert.AdamUpIdeal.nD Cert.AdamUpIdeal.τ).loc Cert.AdamUpIdeal.main_arg2) = m ((c.tc : Thread Cert.AdamUpIdeal.nD Cert.AdamUpIdeal.τ).loc Cert.AdamUpIdeal.main_arg2)
          ∧ r.2.mem ((c.tc : Thread Cert.AdamUpIdeal.nD Cert.AdamUpIdeal.τ).loc Cert.AdamUpIdeal.main_arg3) = m ((c.tc : Thread Cert.AdamUpIdeal.nD Cert.AdamUpIdeal.τ).loc Cert.AdamUpIdeal.main_arg3))
      ∧ θ_run (Cert.AdamUpReferenceIdeal.defs (F := Ideal)) (onTc (τ := Cert.AdamUpReferenceIdeal.τ) (Cert.AdamUpReferenceIdeal.main (F := Ideal))) ⟨m', fun _ => 0, g'⟩ (fun r => ∀ c : Dev Cert.AdamUpReferenceIdeal.nD,
          r.2.mem ((c.tc : Thread Cert.AdamUpReferenceIdeal.nD Cert.AdamUpReferenceIdeal.τ).loc Cert.AdamUpReferenceIdeal.main_v26) = v0 c
          ∧ r.2.mem ((c.tc : Thread Cert.AdamUpReferenceIdeal.nD Cert.AdamUpReferenceIdeal.τ).loc Cert.AdamUpReferenceIdeal.main_v27) = v1 c
          ∧ r.2.mem ((c.tc : Thread Cert.AdamUpReferenceIdeal.nD Cert.AdamUpReferenceIdeal.τ).loc Cert.AdamUpReferenceIdeal.main_v28) = v2 c
          ∧ r.2.mem ((c.tc : Thread Cert.AdamUpReferenceIdeal.nD Cert.AdamUpReferenceIdeal.τ).loc Cert.AdamUpReferenceIdeal.main_v29) = v3 c
          ∧ r.2.mem ((c.tc : Thread Cert.AdamUpReferenceIdeal.nD Cert.AdamUpReferenceIdeal.τ).loc Cert.AdamUpReferenceIdeal.main_arg0) = m' ((c.tc : Thread Cert.AdamUpReferenceIdeal.nD Cert.AdamUpReferenceIdeal.τ).loc Cert.AdamUpReferenceIdeal.main_arg0)
          ∧ r.2.mem ((c.tc : Thread Cert.AdamUpReferenceIdeal.nD Cert.AdamUpReferenceIdeal.τ).loc Cert.AdamUpReferenceIdeal.main_arg1) = m' ((c.tc : Thread Cert.AdamUpReferenceIdeal.nD Cert.AdamUpReferenceIdeal.τ).loc Cert.AdamUpReferenceIdeal.main_arg1)
          ∧ r.2.mem ((c.tc : Thread Cert.AdamUpReferenceIdeal.nD Cert.AdamUpReferenceIdeal.τ).loc Cert.AdamUpReferenceIdeal.main_arg2) = m' ((c.tc : Thread Cert.AdamUpReferenceIdeal.nD Cert.AdamUpReferenceIdeal.τ).loc Cert.AdamUpReferenceIdeal.main_arg2)
          ∧ r.2.mem ((c.tc : Thread Cert.AdamUpReferenceIdeal.nD Cert.AdamUpReferenceIdeal.τ).loc Cert.AdamUpReferenceIdeal.main_arg3) = m' ((c.tc : Thread Cert.AdamUpReferenceIdeal.nD Cert.AdamUpReferenceIdeal.τ).loc Cert.AdamUpReferenceIdeal.main_arg3))

def preserves_AdamSmall_AdamSmallIdeal : Prop :=
  True

def algebraic_AdamSmallIdeal_AdamSmallReferenceIdeal [hAdamSmallIdeal : Cert.AdamSmallIdeal.Facts] [hAdamSmallReferenceIdeal : Cert.AdamSmallReferenceIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallReferenceIdeal.nD Cert.AdamSmallReferenceIdeal.τ Cert.AdamSmallReferenceIdeal.sig) → Buf (Elt Ideal) ℓ) (g' : Dev Cert.AdamSmallReferenceIdeal.nD → PrngReg), Pre_AdamSmallIdeal m →
    (∀ c : Dev Cert.AdamSmallIdeal.nD,
      m' ((c.tc : Thread Cert.AdamSmallReferenceIdeal.nD Cert.AdamSmallReferenceIdeal.τ).loc Cert.AdamSmallReferenceIdeal.main_arg0) = m ((c.tc : Thread Cert.AdamSmallIdeal.nD Cert.AdamSmallIdeal.τ).loc Cert.AdamSmallIdeal.main_arg0)
      ∧ m' ((c.tc : Thread Cert.AdamSmallReferenceIdeal.nD Cert.AdamSmallReferenceIdeal.τ).loc Cert.AdamSmallReferenceIdeal.main_arg1) = m ((c.tc : Thread Cert.AdamSmallIdeal.nD Cert.AdamSmallIdeal.τ).loc Cert.AdamSmallIdeal.main_arg1)
      ∧ m' ((c.tc : Thread Cert.AdamSmallReferenceIdeal.nD Cert.AdamSmallReferenceIdeal.τ).loc Cert.AdamSmallReferenceIdeal.main_arg2) = m ((c.tc : Thread Cert.AdamSmallIdeal.nD Cert.AdamSmallIdeal.τ).loc Cert.AdamSmallIdeal.main_arg2)
      ∧ m' ((c.tc : Thread Cert.AdamSmallReferenceIdeal.nD Cert.AdamSmallReferenceIdeal.τ).loc Cert.AdamSmallReferenceIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)) (v3 : (c : Dev Cert.AdamSmallIdeal.nD) → Buf (Elt Ideal) ((c.tc : Thread Cert.AdamSmallIdeal.nD Cert.AdamSmallIdeal.τ).loc Cert.AdamSmallIdeal.main_v0_3)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_v0_3) = v3 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallReferenceIdeal.defs (F := Ideal)) (onTc (τ := Cert.AdamSmallReferenceIdeal.τ) (Cert.AdamSmallReferenceIdeal.main (F := Ideal))) ⟨m', fun _ => 0, g'⟩ (fun r => ∀ c : Dev Cert.AdamSmallReferenceIdeal.nD,
          r.2.mem ((c.tc : Thread Cert.AdamSmallReferenceIdeal.nD Cert.AdamSmallReferenceIdeal.τ).loc Cert.AdamSmallReferenceIdeal.main_v25) = v0 c
          ∧ r.2.mem ((c.tc : Thread Cert.AdamSmallReferenceIdeal.nD Cert.AdamSmallReferenceIdeal.τ).loc Cert.AdamSmallReferenceIdeal.main_v23) = v1 c
          ∧ r.2.mem ((c.tc : Thread Cert.AdamSmallReferenceIdeal.nD Cert.AdamSmallReferenceIdeal.τ).loc Cert.AdamSmallReferenceIdeal.main_v4) = v2 c
          ∧ r.2.mem ((c.tc : Thread Cert.AdamSmallReferenceIdeal.nD Cert.AdamSmallReferenceIdeal.τ).loc Cert.AdamSmallReferenceIdeal.main_v10) = v3 c
          ∧ r.2.mem ((c.tc : Thread Cert.AdamSmallReferenceIdeal.nD Cert.AdamSmallReferenceIdeal.τ).loc Cert.AdamSmallReferenceIdeal.main_arg0) = m' ((c.tc : Thread Cert.AdamSmallReferenceIdeal.nD Cert.AdamSmallReferenceIdeal.τ).loc Cert.AdamSmallReferenceIdeal.main_arg0)
          ∧ r.2.mem ((c.tc : Thread Cert.AdamSmallReferenceIdeal.nD Cert.AdamSmallReferenceIdeal.τ).loc Cert.AdamSmallReferenceIdeal.main_arg1) = m' ((c.tc : Thread Cert.AdamSmallReferenceIdeal.nD Cert.AdamSmallReferenceIdeal.τ).loc Cert.AdamSmallReferenceIdeal.main_arg1)
          ∧ r.2.mem ((c.tc : Thread Cert.AdamSmallReferenceIdeal.nD Cert.AdamSmallReferenceIdeal.τ).loc Cert.AdamSmallReferenceIdeal.main_arg2) = m' ((c.tc : Thread Cert.AdamSmallReferenceIdeal.nD Cert.AdamSmallReferenceIdeal.τ).loc Cert.AdamSmallReferenceIdeal.main_arg2)
          ∧ r.2.mem ((c.tc : Thread Cert.AdamSmallReferenceIdeal.nD Cert.AdamSmallReferenceIdeal.τ).loc Cert.AdamSmallReferenceIdeal.main_arg3) = m' ((c.tc : Thread Cert.AdamSmallReferenceIdeal.nD Cert.AdamSmallReferenceIdeal.τ).loc Cert.AdamSmallReferenceIdeal.main_arg3))

def preserves_Loss_LossIdeal : Prop :=
  True

def algebraic_LossIdeal_LossReferenceIdeal_pre_finite_loss [hLossIdeal : Cert.LossIdeal.Facts] [hLossReferenceIdeal : Cert.LossReferenceIdeal.Facts] [hPre_finite_loss : Cert.Pre_finite_loss.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossReferenceIdeal.nD Cert.LossReferenceIdeal.τ Cert.LossReferenceIdeal.sig) → Buf (Elt Ideal) ℓ) (g' : Dev Cert.LossReferenceIdeal.nD → PrngReg), Pre_LossIdeal_finite_loss m →
    (∀ c : Dev Cert.LossIdeal.nD,
      m' ((c.tc : Thread Cert.LossReferenceIdeal.nD Cert.LossReferenceIdeal.τ).loc Cert.LossReferenceIdeal.main_arg0) = m ((c.tc : Thread Cert.LossIdeal.nD Cert.LossIdeal.τ).loc Cert.LossIdeal.main_arg0)
      ∧ m' ((c.tc : Thread Cert.LossReferenceIdeal.nD Cert.LossReferenceIdeal.τ).loc Cert.LossReferenceIdeal.main_arg1) = m ((c.tc : Thread Cert.LossIdeal.nD Cert.LossIdeal.τ).loc Cert.LossIdeal.main_arg1)
      ∧ m' ((c.tc : Thread Cert.LossReferenceIdeal.nD Cert.LossReferenceIdeal.τ).loc Cert.LossReferenceIdeal.main_arg2) = m ((c.tc : Thread Cert.LossIdeal.nD Cert.LossIdeal.τ).loc Cert.LossIdeal.main_arg2)) →
    ∃ (v0 : (c : Dev Cert.LossIdeal.nD) → Buf (Elt Ideal) ((c.tc : Thread Cert.LossIdeal.nD Cert.LossIdeal.τ).loc Cert.LossIdeal.main_v2_0)) (v1 : (c : Dev Cert.LossIdeal.nD) → Buf (Elt Ideal) ((c.tc : Thread Cert.LossIdeal.nD Cert.LossIdeal.τ).loc Cert.LossIdeal.main_v2_1)) (v2 : (c : Dev Cert.LossIdeal.nD) → Buf (Elt Ideal) ((c.tc : Thread Cert.LossIdeal.nD Cert.LossIdeal.τ).loc Cert.LossIdeal.main_v2_2)) (v3 : (c : Dev Cert.LossIdeal.nD) → Buf (Elt Ideal) ((c.tc : Thread Cert.LossIdeal.nD Cert.LossIdeal.τ).loc Cert.LossIdeal.main_v2_3)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v2_0) = v0 c
          ∧ r.2.mem ((c.tc : Thread Cert.LossIdeal.nD Cert.LossIdeal.τ).loc Cert.LossIdeal.main_v2_1) = v1 c
          ∧ r.2.mem ((c.tc : Thread Cert.LossIdeal.nD Cert.LossIdeal.τ).loc Cert.LossIdeal.main_v2_2) = v2 c
          ∧ r.2.mem ((c.tc : Thread Cert.LossIdeal.nD Cert.LossIdeal.τ).loc Cert.LossIdeal.main_v2_3) = v3 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2))
      ∧ θ_run (Cert.LossReferenceIdeal.defs (F := Ideal)) (onTc (τ := Cert.LossReferenceIdeal.τ) (Cert.LossReferenceIdeal.main (F := Ideal))) ⟨m', fun _ => 0, g'⟩ (fun r => ∀ c : Dev Cert.LossReferenceIdeal.nD,
          r.2.mem ((c.tc : Thread Cert.LossReferenceIdeal.nD Cert.LossReferenceIdeal.τ).loc Cert.LossReferenceIdeal.main_v53) = v0 c
          ∧ r.2.mem ((c.tc : Thread Cert.LossReferenceIdeal.nD Cert.LossReferenceIdeal.τ).loc Cert.LossReferenceIdeal.main_v55) = v1 c
          ∧ r.2.mem ((c.tc : Thread Cert.LossReferenceIdeal.nD Cert.LossReferenceIdeal.τ).loc Cert.LossReferenceIdeal.main_v56) = v2 c
          ∧ r.2.mem ((c.tc : Thread Cert.LossReferenceIdeal.nD Cert.LossReferenceIdeal.τ).loc Cert.LossReferenceIdeal.main_v57) = v3 c
          ∧ r.2.mem ((c.tc : Thread Cert.LossReferenceIdeal.nD Cert.LossReferenceIdeal.τ).loc Cert.LossReferenceIdeal.main_arg0) = m' ((c.tc : Thread Cert.LossReferenceIdeal.nD Cert.LossReferenceIdeal.τ).loc Cert.LossReferenceIdeal.main_arg0)
          ∧ r.2.mem ((c.tc : Thread Cert.LossReferenceIdeal.nD Cert.LossReferenceIdeal.τ).loc Cert.LossReferenceIdeal.main_arg1) = m' ((c.tc : Thread Cert.LossReferenceIdeal.nD Cert.LossReferenceIdeal.τ).loc Cert.LossReferenceIdeal.main_arg1)
          ∧ r.2.mem ((c.tc : Thread Cert.LossReferenceIdeal.nD Cert.LossReferenceIdeal.τ).loc Cert.LossReferenceIdeal.main_arg2) = m' ((c.tc : Thread Cert.LossReferenceIdeal.nD Cert.LossReferenceIdeal.τ).loc Cert.LossReferenceIdeal.main_arg2))

def preserves_Attn_AttnIdeal : Prop :=
  True

def algebraic_AttnIdeal_AttnReferenceIdeal_pre_finite_attn [hAttnIdeal : Cert.AttnIdeal.Facts] [hAttnReferenceIdeal : Cert.AttnReferenceIdeal.Facts] [hPre_finite_attn : Cert.Pre_finite_attn.Facts] : Prop :=
  ∀ (m : (ℓ : Loc Cert.AttnIdeal.nD Cert.AttnIdeal.τ Cert.AttnIdeal.sig) → Buf (Elt Ideal) ℓ) (g : Dev Cert.AttnIdeal.nD → PrngReg)
    (m' : (ℓ : Loc Cert.AttnReferenceIdeal.nD Cert.AttnReferenceIdeal.τ Cert.AttnReferenceIdeal.sig) → Buf (Elt Ideal) ℓ) (g' : Dev Cert.AttnReferenceIdeal.nD → PrngReg), Pre_AttnIdeal_finite_attn m →
    (∀ c : Dev Cert.AttnIdeal.nD,
      m' ((c.tc : Thread Cert.AttnReferenceIdeal.nD Cert.AttnReferenceIdeal.τ).loc Cert.AttnReferenceIdeal.main_arg0) = m ((c.tc : Thread Cert.AttnIdeal.nD Cert.AttnIdeal.τ).loc Cert.AttnIdeal.main_arg0)
      ∧ m' ((c.tc : Thread Cert.AttnReferenceIdeal.nD Cert.AttnReferenceIdeal.τ).loc Cert.AttnReferenceIdeal.main_arg1) = m ((c.tc : Thread Cert.AttnIdeal.nD Cert.AttnIdeal.τ).loc Cert.AttnIdeal.main_arg1)
      ∧ m' ((c.tc : Thread Cert.AttnReferenceIdeal.nD Cert.AttnReferenceIdeal.τ).loc Cert.AttnReferenceIdeal.main_arg2) = m ((c.tc : Thread Cert.AttnIdeal.nD Cert.AttnIdeal.τ).loc Cert.AttnIdeal.main_arg2)
      ∧ m' ((c.tc : Thread Cert.AttnReferenceIdeal.nD Cert.AttnReferenceIdeal.τ).loc Cert.AttnReferenceIdeal.main_arg3) = m ((c.tc : Thread Cert.AttnIdeal.nD Cert.AttnIdeal.τ).loc Cert.AttnIdeal.main_arg3)
      ∧ m' ((c.tc : Thread Cert.AttnReferenceIdeal.nD Cert.AttnReferenceIdeal.τ).loc Cert.AttnReferenceIdeal.main_arg4) = m ((c.tc : Thread Cert.AttnIdeal.nD Cert.AttnIdeal.τ).loc Cert.AttnIdeal.main_arg4)) →
    ∃ (v0 : (c : Dev Cert.AttnIdeal.nD) → Buf (Elt Ideal) ((c.tc : Thread Cert.AttnIdeal.nD Cert.AttnIdeal.τ).loc Cert.AttnIdeal.main_v46_3)),
      θ_run (Cert.AttnIdeal.defs (F := Ideal)) (onTc (τ := Cert.AttnIdeal.τ) (Cert.AttnIdeal.main (F := Ideal))) ⟨m, fun _ => 0, g⟩ (fun r => ∀ c : Dev Cert.AttnIdeal.nD,
          r.2.mem ((c.tc : Thread Cert.AttnIdeal.nD Cert.AttnIdeal.τ).loc Cert.AttnIdeal.main_v46_3) = v0 c
          ∧ r.2.mem ((c.tc : Thread Cert.AttnIdeal.nD Cert.AttnIdeal.τ).loc Cert.AttnIdeal.main_arg0) = m ((c.tc : Thread Cert.AttnIdeal.nD Cert.AttnIdeal.τ).loc Cert.AttnIdeal.main_arg0)
          ∧ r.2.mem ((c.tc : Thread Cert.AttnIdeal.nD Cert.AttnIdeal.τ).loc Cert.AttnIdeal.main_arg1) = m ((c.tc : Thread Cert.AttnIdeal.nD Cert.AttnIdeal.τ).loc Cert.AttnIdeal.main_arg1)
          ∧ r.2.mem ((c.tc : Thread Cert.AttnIdeal.nD Cert.AttnIdeal.τ).loc Cert.AttnIdeal.main_arg2) = m ((c.tc : Thread Cert.AttnIdeal.nD Cert.AttnIdeal.τ).loc Cert.AttnIdeal.main_arg2)
          ∧ r.2.mem ((c.tc : Thread Cert.AttnIdeal.nD Cert.AttnIdeal.τ).loc Cert.AttnIdeal.main_arg3) = m ((c.tc : Thread Cert.AttnIdeal.nD Cert.AttnIdeal.τ).loc Cert.AttnIdeal.main_arg3)
          ∧ r.2.mem ((c.tc : Thread Cert.AttnIdeal.nD Cert.AttnIdeal.τ).loc Cert.AttnIdeal.main_arg4) = m ((c.tc : Thread Cert.AttnIdeal.nD Cert.AttnIdeal.τ).loc Cert.AttnIdeal.main_arg4))
      ∧ θ_run (Cert.AttnReferenceIdeal.defs (F := Ideal)) (onTc (τ := Cert.AttnReferenceIdeal.τ) (Cert.AttnReferenceIdeal.main (F := Ideal))) ⟨m', fun _ => 0, g'⟩ (fun r => ∀ c : Dev Cert.AttnReferenceIdeal.nD,
          r.2.mem ((c.tc : Thread Cert.AttnReferenceIdeal.nD Cert.AttnReferenceIdeal.τ).loc Cert.AttnReferenceIdeal.main_v10) = v0 c
          ∧ r.2.mem ((c.tc : Thread Cert.AttnReferenceIdeal.nD Cert.AttnReferenceIdeal.τ).loc Cert.AttnReferenceIdeal.main_arg0) = m' ((c.tc : Thread Cert.AttnReferenceIdeal.nD Cert.AttnReferenceIdeal.τ).loc Cert.AttnReferenceIdeal.main_arg0)
          ∧ r.2.mem ((c.tc : Thread Cert.AttnReferenceIdeal.nD Cert.AttnReferenceIdeal.τ).loc Cert.AttnReferenceIdeal.main_arg1) = m' ((c.tc : Thread Cert.AttnReferenceIdeal.nD Cert.AttnReferenceIdeal.τ).loc Cert.AttnReferenceIdeal.main_arg1)
          ∧ r.2.mem ((c.tc : Thread Cert.AttnReferenceIdeal.nD Cert.AttnReferenceIdeal.τ).loc Cert.AttnReferenceIdeal.main_arg2) = m' ((c.tc : Thread Cert.AttnReferenceIdeal.nD Cert.AttnReferenceIdeal.τ).loc Cert.AttnReferenceIdeal.main_arg2)
          ∧ r.2.mem ((c.tc : Thread Cert.AttnReferenceIdeal.nD Cert.AttnReferenceIdeal.τ).loc Cert.AttnReferenceIdeal.main_arg3) = m' ((c.tc : Thread Cert.AttnReferenceIdeal.nD Cert.AttnReferenceIdeal.τ).loc Cert.AttnReferenceIdeal.main_arg3)
          ∧ r.2.mem ((c.tc : Thread Cert.AttnReferenceIdeal.nD Cert.AttnReferenceIdeal.τ).loc Cert.AttnReferenceIdeal.main_arg4) = m' ((c.tc : Thread Cert.AttnReferenceIdeal.nD Cert.AttnReferenceIdeal.τ).loc Cert.AttnReferenceIdeal.main_arg4))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v0)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v0) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v5) = v0 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1))

def preserves_DWIn_DWInIdeal : Prop :=
  True

def algebraic_DWInIdeal_DWInReferenceIdeal [hDWInIdeal : Cert.DWInIdeal.Facts] [hDWInReferenceIdeal : Cert.DWInReferenceIdeal.Facts] : Prop :=
  ∀ (m : (ℓ : Loc Cert.DWInIdeal.nD Cert.DWInIdeal.τ Cert.DWInIdeal.sig) → Buf (Elt Ideal) ℓ) (g : Dev Cert.DWInIdeal.nD → PrngReg)
    (m' : (ℓ : Loc Cert.DWInReferenceIdeal.nD Cert.DWInReferenceIdeal.τ Cert.DWInReferenceIdeal.sig) → Buf (Elt Ideal) ℓ) (g' : Dev Cert.DWInReferenceIdeal.nD → PrngReg), Pre_DWInIdeal m →
    (∀ c : Dev Cert.DWInIdeal.nD,
      m' ((c.tc : Thread Cert.DWInReferenceIdeal.nD Cert.DWInReferenceIdeal.τ).loc Cert.DWInReferenceIdeal.main_arg0) = m ((c.tc : Thread Cert.DWInIdeal.nD Cert.DWInIdeal.τ).loc Cert.DWInIdeal.main_arg0)
      ∧ m' ((c.tc : Thread Cert.DWInReferenceIdeal.nD Cert.DWInReferenceIdeal.τ).loc Cert.DWInReferenceIdeal.main_arg1) = m ((c.tc : Thread Cert.DWInIdeal.nD Cert.DWInIdeal.τ).loc Cert.DWInIdeal.main_arg1)) →
    ∃ (v0 : (c : Dev Cert.DWInIdeal.nD) → Buf (Elt Ideal) ((c.tc : Thread Cert.DWInIdeal.nD Cert.DWInIdeal.τ).loc Cert.DWInIdeal.main_v0)),
      θ_run (Cert.DWInIdeal.defs (F := Ideal)) (onTc (τ := Cert.DWInIdeal.τ) (Cert.DWInIdeal.main (F := Ideal))) ⟨m, fun _ => 0, g⟩ (fun r => ∀ c : Dev Cert.DWInIdeal.nD,
          r.2.mem ((c.tc : Thread Cert.DWInIdeal.nD Cert.DWInIdeal.τ).loc Cert.DWInIdeal.main_v0) = v0 c
          ∧ r.2.mem ((c.tc : Thread Cert.DWInIdeal.nD Cert.DWInIdeal.τ).loc Cert.DWInIdeal.main_arg0) = m ((c.tc : Thread Cert.DWInIdeal.nD Cert.DWInIdeal.τ).loc Cert.DWInIdeal.main_arg0)
          ∧ r.2.mem ((c.tc : Thread Cert.DWInIdeal.nD Cert.DWInIdeal.τ).loc Cert.DWInIdeal.main_arg1) = m ((c.tc : Thread Cert.DWInIdeal.nD Cert.DWInIdeal.τ).loc Cert.DWInIdeal.main_arg1))
      ∧ θ_run (Cert.DWInReferenceIdeal.defs (F := Ideal)) (onTc (τ := Cert.DWInReferenceIdeal.τ) (Cert.DWInReferenceIdeal.main (F := Ideal))) ⟨m', fun _ => 0, g'⟩ (fun r => ∀ c : Dev Cert.DWInReferenceIdeal.nD,
          r.2.mem ((c.tc : Thread Cert.DWInReferenceIdeal.nD Cert.DWInReferenceIdeal.τ).loc Cert.DWInReferenceIdeal.main_v8) = v0 c
          ∧ r.2.mem ((c.tc : Thread Cert.DWInReferenceIdeal.nD Cert.DWInReferenceIdeal.τ).loc Cert.DWInReferenceIdeal.main_arg0) = m' ((c.tc : Thread Cert.DWInReferenceIdeal.nD Cert.DWInReferenceIdeal.τ).loc Cert.DWInReferenceIdeal.main_arg0)
          ∧ r.2.mem ((c.tc : Thread Cert.DWInReferenceIdeal.nD Cert.DWInReferenceIdeal.τ).loc Cert.DWInReferenceIdeal.main_arg1) = m' ((c.tc : Thread Cert.DWInReferenceIdeal.nD Cert.DWInReferenceIdeal.τ).loc Cert.DWInReferenceIdeal.main_arg1))

def preserves_DHid_DHidIdeal : Prop :=
  True

def algebraic_DHidIdeal_DHidReferenceIdeal [hDHidIdeal : Cert.DHidIdeal.Facts] [hDHidReferenceIdeal : Cert.DHidReferenceIdeal.Facts] : Prop :=
  ∀ (m : (ℓ : Loc Cert.DHidIdeal.nD Cert.DHidIdeal.τ Cert.DHidIdeal.sig) → Buf (Elt Ideal) ℓ) (g : Dev Cert.DHidIdeal.nD → PrngReg)
    (m' : (ℓ : Loc Cert.DHidReferenceIdeal.nD Cert.DHidReferenceIdeal.τ Cert.DHidReferenceIdeal.sig) → Buf (Elt Ideal) ℓ) (g' : Dev Cert.DHidReferenceIdeal.nD → PrngReg), Pre_DHidIdeal m →
    (∀ c : Dev Cert.DHidIdeal.nD,
      m' ((c.tc : Thread Cert.DHidReferenceIdeal.nD Cert.DHidReferenceIdeal.τ).loc Cert.DHidReferenceIdeal.main_arg0) = m ((c.tc : Thread Cert.DHidIdeal.nD Cert.DHidIdeal.τ).loc Cert.DHidIdeal.main_arg0)
      ∧ m' ((c.tc : Thread Cert.DHidReferenceIdeal.nD Cert.DHidReferenceIdeal.τ).loc Cert.DHidReferenceIdeal.main_arg1) = m ((c.tc : Thread Cert.DHidIdeal.nD Cert.DHidIdeal.τ).loc Cert.DHidIdeal.main_arg1)) →
    ∃ (v0 : (c : Dev Cert.DHidIdeal.nD) → Buf (Elt Ideal) ((c.tc : Thread Cert.DHidIdeal.nD Cert.DHidIdeal.τ).loc Cert.DHidIdeal.main_v0)),
      θ_run (Cert.DHidIdeal.defs (F := Ideal)) (onTc (τ := Cert.DHidIdeal.τ) (Cert.DHidIdeal.main (F := Ideal))) ⟨m, fun _ => 0, g⟩ (fun r => ∀ c : Dev Cert.DHidIdeal.nD,
          r.2.mem ((c.tc : Thread Cert.DHidIdeal.nD Cert.DHidIdeal.τ).loc Cert.DHidIdeal.main_v0) = v0 c
          ∧ r.2.mem ((c.tc : Thread Cert.DHidIdeal.nD Cert.DHidIdeal.τ).loc Cert.DHidIdeal.main_arg0) = m ((c.tc : Thread Cert.DHidIdeal.nD Cert.DHidIdeal.τ).loc Cert.DHidIdeal.main_arg0)
          ∧ r.2.mem ((c.tc : Thread Cert.DHidIdeal.nD Cert.DHidIdeal.τ).loc Cert.DHidIdeal.main_arg1) = m ((c.tc : Thread Cert.DHidIdeal.nD Cert.DHidIdeal.τ).loc Cert.DHidIdeal.main_arg1))
      ∧ θ_run (Cert.DHidReferenceIdeal.defs (F := Ideal)) (onTc (τ := Cert.DHidReferenceIdeal.τ) (Cert.DHidReferenceIdeal.main (F := Ideal))) ⟨m', fun _ => 0, g'⟩ (fun r => ∀ c : Dev Cert.DHidReferenceIdeal.nD,
          r.2.mem ((c.tc : Thread Cert.DHidReferenceIdeal.nD Cert.DHidReferenceIdeal.τ).loc Cert.DHidReferenceIdeal.main_v6) = v0 c
          ∧ r.2.mem ((c.tc : Thread Cert.DHidReferenceIdeal.nD Cert.DHidReferenceIdeal.τ).loc Cert.DHidReferenceIdeal.main_arg0) = m' ((c.tc : Thread Cert.DHidReferenceIdeal.nD Cert.DHidReferenceIdeal.τ).loc Cert.DHidReferenceIdeal.main_arg0)
          ∧ r.2.mem ((c.tc : Thread Cert.DHidReferenceIdeal.nD Cert.DHidReferenceIdeal.τ).loc Cert.DHidReferenceIdeal.main_arg1) = m' ((c.tc : Thread Cert.DHidReferenceIdeal.nD Cert.DHidReferenceIdeal.τ).loc Cert.DHidReferenceIdeal.main_arg1))

def preserves_Up_UpIdeal : Prop :=
  True

def algebraic_UpIdeal_UpReferenceIdeal [hUpIdeal : Cert.UpIdeal.Facts] [hUpReferenceIdeal : Cert.UpReferenceIdeal.Facts] : Prop :=
  ∀ (m : (ℓ : Loc Cert.UpIdeal.nD Cert.UpIdeal.τ Cert.UpIdeal.sig) → Buf (Elt Ideal) ℓ) (g : Dev Cert.UpIdeal.nD → PrngReg)
    (m' : (ℓ : Loc Cert.UpReferenceIdeal.nD Cert.UpReferenceIdeal.τ Cert.UpReferenceIdeal.sig) → Buf (Elt Ideal) ℓ) (g' : Dev Cert.UpReferenceIdeal.nD → PrngReg), Pre_UpIdeal m →
    (∀ c : Dev Cert.UpIdeal.nD,
      m' ((c.tc : Thread Cert.UpReferenceIdeal.nD Cert.UpReferenceIdeal.τ).loc Cert.UpReferenceIdeal.main_arg0) = m ((c.tc : Thread Cert.UpIdeal.nD Cert.UpIdeal.τ).loc Cert.UpIdeal.main_arg0)
      ∧ m' ((c.tc : Thread Cert.UpReferenceIdeal.nD Cert.UpReferenceIdeal.τ).loc Cert.UpReferenceIdeal.main_arg1) = m ((c.tc : Thread Cert.UpIdeal.nD Cert.UpIdeal.τ).loc Cert.UpIdeal.main_arg1)) →
    ∃ (v0 : (c : Dev Cert.UpIdeal.nD) → Buf (Elt Ideal) ((c.tc : Thread Cert.UpIdeal.nD Cert.UpIdeal.τ).loc Cert.UpIdeal.main_v0)),
      θ_run (Cert.UpIdeal.defs (F := Ideal)) (onTc (τ := Cert.UpIdeal.τ) (Cert.UpIdeal.main (F := Ideal))) ⟨m, fun _ => 0, g⟩ (fun r => ∀ c : Dev Cert.UpIdeal.nD,
          r.2.mem ((c.tc : Thread Cert.UpIdeal.nD Cert.UpIdeal.τ).loc Cert.UpIdeal.main_v0) = v0 c
          ∧ r.2.mem ((c.tc : Thread Cert.UpIdeal.nD Cert.UpIdeal.τ).loc Cert.UpIdeal.main_arg0) = m ((c.tc : Thread Cert.UpIdeal.nD Cert.UpIdeal.τ).loc Cert.UpIdeal.main_arg0)
          ∧ r.2.mem ((c.tc : Thread Cert.UpIdeal.nD Cert.UpIdeal.τ).loc Cert.UpIdeal.main_arg1) = m ((c.tc : Thread Cert.UpIdeal.nD Cert.UpIdeal.τ).loc Cert.UpIdeal.main_arg1))
      ∧ θ_run (Cert.UpReferenceIdeal.defs (F := Ideal)) (onTc (τ := Cert.UpReferenceIdeal.τ) (Cert.UpReferenceIdeal.main (F := Ideal))) ⟨m', fun _ => 0, g'⟩ (fun r => ∀ c : Dev Cert.UpReferenceIdeal.nD,
          r.2.mem ((c.tc : Thread Cert.UpReferenceIdeal.nD Cert.UpReferenceIdeal.τ).loc Cert.UpReferenceIdeal.main_v4) = v0 c
          ∧ r.2.mem ((c.tc : Thread Cert.UpReferenceIdeal.nD Cert.UpReferenceIdeal.τ).loc Cert.UpReferenceIdeal.main_arg0) = m' ((c.tc : Thread Cert.UpReferenceIdeal.nD Cert.UpReferenceIdeal.τ).loc Cert.UpReferenceIdeal.main_arg0)
          ∧ r.2.mem ((c.tc : Thread Cert.UpReferenceIdeal.nD Cert.UpReferenceIdeal.τ).loc Cert.UpReferenceIdeal.main_arg1) = m' ((c.tc : Thread Cert.UpReferenceIdeal.nD Cert.UpReferenceIdeal.τ).loc Cert.UpReferenceIdeal.main_arg1))

def preserves_DAttn_DAttnIdeal : Prop :=
  True

def algebraic_DAttnIdeal_DActReferenceIdeal [hDAttnIdeal : Cert.DAttnIdeal.Facts] [hDActReferenceIdeal : Cert.DActReferenceIdeal.Facts] : Prop :=
  ∀ (m : (ℓ : Loc Cert.DAttnIdeal.nD Cert.DAttnIdeal.τ Cert.DAttnIdeal.sig) → Buf (Elt Ideal) ℓ) (g : Dev Cert.DAttnIdeal.nD → PrngReg)
    (m' : (ℓ : Loc Cert.DActReferenceIdeal.nD Cert.DActReferenceIdeal.τ Cert.DActReferenceIdeal.sig) → Buf (Elt Ideal) ℓ) (g' : Dev Cert.DActReferenceIdeal.nD → PrngReg), Pre_DAttnIdeal m →
    (∀ c : Dev Cert.DAttnIdeal.nD,
      m' ((c.tc : Thread Cert.DActReferenceIdeal.nD Cert.DActReferenceIdeal.τ).loc Cert.DActReferenceIdeal.main_arg0) = m ((c.tc : Thread Cert.DAttnIdeal.nD Cert.DAttnIdeal.τ).loc Cert.DAttnIdeal.main_arg0)
      ∧ m' ((c.tc : Thread Cert.DActReferenceIdeal.nD Cert.DActReferenceIdeal.τ).loc Cert.DActReferenceIdeal.main_arg1) = m ((c.tc : Thread Cert.DAttnIdeal.nD Cert.DAttnIdeal.τ).loc Cert.DAttnIdeal.main_arg1)) →
    ∃ (v0 : (c : Dev Cert.DAttnIdeal.nD) → Buf (Elt Ideal) ((c.tc : Thread Cert.DAttnIdeal.nD Cert.DAttnIdeal.τ).loc Cert.DAttnIdeal.main_v0)),
      θ_run (Cert.DAttnIdeal.defs (F := Ideal)) (onTc (τ := Cert.DAttnIdeal.τ) (Cert.DAttnIdeal.main (F := Ideal))) ⟨m, fun _ => 0, g⟩ (fun r => ∀ c : Dev Cert.DAttnIdeal.nD,
          r.2.mem ((c.tc : Thread Cert.DAttnIdeal.nD Cert.DAttnIdeal.τ).loc Cert.DAttnIdeal.main_v0) = v0 c
          ∧ r.2.mem ((c.tc : Thread Cert.DAttnIdeal.nD Cert.DAttnIdeal.τ).loc Cert.DAttnIdeal.main_arg0) = m ((c.tc : Thread Cert.DAttnIdeal.nD Cert.DAttnIdeal.τ).loc Cert.DAttnIdeal.main_arg0)
          ∧ r.2.mem ((c.tc : Thread Cert.DAttnIdeal.nD Cert.DAttnIdeal.τ).loc Cert.DAttnIdeal.main_arg1) = m ((c.tc : Thread Cert.DAttnIdeal.nD Cert.DAttnIdeal.τ).loc Cert.DAttnIdeal.main_arg1))
      ∧ θ_run (Cert.DActReferenceIdeal.defs (F := Ideal)) (onTc (τ := Cert.DActReferenceIdeal.τ) (Cert.DActReferenceIdeal.main (F := Ideal))) ⟨m', fun _ => 0, g'⟩ (fun r => ∀ c : Dev Cert.DActReferenceIdeal.nD,
          r.2.mem ((c.tc : Thread Cert.DActReferenceIdeal.nD Cert.DActReferenceIdeal.τ).loc Cert.DActReferenceIdeal.main_v6) = v0 c
          ∧ r.2.mem ((c.tc : Thread Cert.DActReferenceIdeal.nD Cert.DActReferenceIdeal.τ).loc Cert.DActReferenceIdeal.main_arg0) = m' ((c.tc : Thread Cert.DActReferenceIdeal.nD Cert.DActReferenceIdeal.τ).loc Cert.DActReferenceIdeal.main_arg0)
          ∧ r.2.mem ((c.tc : Thread Cert.DActReferenceIdeal.nD Cert.DActReferenceIdeal.τ).loc Cert.DActReferenceIdeal.main_arg1) = m' ((c.tc : Thread Cert.DActReferenceIdeal.nD Cert.DActReferenceIdeal.τ).loc Cert.DActReferenceIdeal.main_arg1))

def preserves_NormBack_NormBackIdeal : Prop :=
  True

def algebraic_NormBackIdeal_NormBackReferenceIdeal_pre_finite_norm [hNormBackIdeal : Cert.NormBackIdeal.Facts] [hNormBackReferenceIdeal : Cert.NormBackReferenceIdeal.Facts] [hPre_finite_norm : Cert.Pre_finite_norm.Facts] : Prop :=
  ∀ (m : (ℓ : Loc Cert.NormBackIdeal.nD Cert.NormBackIdeal.τ Cert.NormBackIdeal.sig) → Buf (Elt Ideal) ℓ) (g : Dev Cert.NormBackIdeal.nD → PrngReg)
    (m' : (ℓ : Loc Cert.NormBackReferenceIdeal.nD Cert.NormBackReferenceIdeal.τ Cert.NormBackReferenceIdeal.sig) → Buf (Elt Ideal) ℓ) (g' : Dev Cert.NormBackReferenceIdeal.nD → PrngReg), Pre_NormBackIdeal_finite_norm m →
    (∀ c : Dev Cert.NormBackIdeal.nD,
      m' ((c.tc : Thread Cert.NormBackReferenceIdeal.nD Cert.NormBackReferenceIdeal.τ).loc Cert.NormBackReferenceIdeal.main_arg0) = m ((c.tc : Thread Cert.NormBackIdeal.nD Cert.NormBackIdeal.τ).loc Cert.NormBackIdeal.main_arg0)
      ∧ m' ((c.tc : Thread Cert.NormBackReferenceIdeal.nD Cert.NormBackReferenceIdeal.τ).loc Cert.NormBackReferenceIdeal.main_arg1) = m ((c.tc : Thread Cert.NormBackIdeal.nD Cert.NormBackIdeal.τ).loc Cert.NormBackIdeal.main_arg1)
      ∧ m' ((c.tc : Thread Cert.NormBackReferenceIdeal.nD Cert.NormBackReferenceIdeal.τ).loc Cert.NormBackReferenceIdeal.main_arg2) = m ((c.tc : Thread Cert.NormBackIdeal.nD Cert.NormBackIdeal.τ).loc Cert.NormBackIdeal.main_arg2)
      ∧ m' ((c.tc : Thread Cert.NormBackReferenceIdeal.nD Cert.NormBackReferenceIdeal.τ).loc Cert.NormBackReferenceIdeal.main_arg3) = m ((c.tc : Thread Cert.NormBackIdeal.nD Cert.NormBackIdeal.τ).loc Cert.NormBackIdeal.main_arg3)) →
    ∃ (v0 : (c : Dev Cert.NormBackIdeal.nD) → Buf (Elt Ideal) ((c.tc : Thread Cert.NormBackIdeal.nD Cert.NormBackIdeal.τ).loc Cert.NormBackIdeal.main_v1_0)) (v1 : (c : Dev Cert.NormBackIdeal.nD) → Buf (Elt Ideal) ((c.tc : Thread Cert.NormBackIdeal.nD Cert.NormBackIdeal.τ).loc Cert.NormBackIdeal.main_v1_1)),
      θ_run (Cert.NormBackIdeal.defs (F := Ideal)) (onTc (τ := Cert.NormBackIdeal.τ) (Cert.NormBackIdeal.main (F := Ideal))) ⟨m, fun _ => 0, g⟩ (fun r => ∀ c : Dev Cert.NormBackIdeal.nD,
          r.2.mem ((c.tc : Thread Cert.NormBackIdeal.nD Cert.NormBackIdeal.τ).loc Cert.NormBackIdeal.main_v1_0) = v0 c
          ∧ r.2.mem ((c.tc : Thread Cert.NormBackIdeal.nD Cert.NormBackIdeal.τ).loc Cert.NormBackIdeal.main_v1_1) = v1 c
          ∧ r.2.mem ((c.tc : Thread Cert.NormBackIdeal.nD Cert.NormBackIdeal.τ).loc Cert.NormBackIdeal.main_arg0) = m ((c.tc : Thread Cert.NormBackIdeal.nD Cert.NormBackIdeal.τ).loc Cert.NormBackIdeal.main_arg0)
          ∧ r.2.mem ((c.tc : Thread Cert.NormBackIdeal.nD Cert.NormBackIdeal.τ).loc Cert.NormBackIdeal.main_arg1) = m ((c.tc : Thread Cert.NormBackIdeal.nD Cert.NormBackIdeal.τ).loc Cert.NormBackIdeal.main_arg1)
          ∧ r.2.mem ((c.tc : Thread Cert.NormBackIdeal.nD Cert.NormBackIdeal.τ).loc Cert.NormBackIdeal.main_arg2) = m ((c.tc : Thread Cert.NormBackIdeal.nD Cert.NormBackIdeal.τ).loc Cert.NormBackIdeal.main_arg2)
          ∧ r.2.mem ((c.tc : Thread Cert.NormBackIdeal.nD Cert.NormBackIdeal.τ).loc Cert.NormBackIdeal.main_arg3) = m ((c.tc : Thread Cert.NormBackIdeal.nD Cert.NormBackIdeal.τ).loc Cert.NormBackIdeal.main_arg3))
      ∧ θ_run (Cert.NormBackReferenceIdeal.defs (F := Ideal)) (onTc (τ := Cert.NormBackReferenceIdeal.τ) (Cert.NormBackReferenceIdeal.main (F := Ideal))) ⟨m', fun _ => 0, g'⟩ (fun r => ∀ c : Dev Cert.NormBackReferenceIdeal.nD,
          r.2.mem ((c.tc : Thread Cert.NormBackReferenceIdeal.nD Cert.NormBackReferenceIdeal.τ).loc Cert.NormBackReferenceIdeal.main_v40) = v0 c
          ∧ r.2.mem ((c.tc : Thread Cert.NormBackReferenceIdeal.nD Cert.NormBackReferenceIdeal.τ).loc Cert.NormBackReferenceIdeal.main_v41) = v1 c
          ∧ r.2.mem ((c.tc : Thread Cert.NormBackReferenceIdeal.nD Cert.NormBackReferenceIdeal.τ).loc Cert.NormBackReferenceIdeal.main_arg0) = m' ((c.tc : Thread Cert.NormBackReferenceIdeal.nD Cert.NormBackReferenceIdeal.τ).loc Cert.NormBackReferenceIdeal.main_arg0)
          ∧ r.2.mem ((c.tc : Thread Cert.NormBackReferenceIdeal.nD Cert.NormBackReferenceIdeal.τ).loc Cert.NormBackReferenceIdeal.main_arg1) = m' ((c.tc : Thread Cert.NormBackReferenceIdeal.nD Cert.NormBackReferenceIdeal.τ).loc Cert.NormBackReferenceIdeal.main_arg1)
          ∧ r.2.mem ((c.tc : Thread Cert.NormBackReferenceIdeal.nD Cert.NormBackReferenceIdeal.τ).loc Cert.NormBackReferenceIdeal.main_arg2) = m' ((c.tc : Thread Cert.NormBackReferenceIdeal.nD Cert.NormBackReferenceIdeal.τ).loc Cert.NormBackReferenceIdeal.main_arg2)
          ∧ r.2.mem ((c.tc : Thread Cert.NormBackReferenceIdeal.nD Cert.NormBackReferenceIdeal.τ).loc Cert.NormBackReferenceIdeal.main_arg3) = m' ((c.tc : Thread Cert.NormBackReferenceIdeal.nD Cert.NormBackReferenceIdeal.τ).loc Cert.NormBackReferenceIdeal.main_arg3))

def Claim : Prop :=
  ∃ (hKernel : Cert.Kernel.Facts) (hKernelIdeal : Cert.KernelIdeal.Facts) (hReferenceIdeal : Cert.ReferenceIdeal.Facts) (hDAct : Cert.DAct.Facts) (hDActIdeal : Cert.DActIdeal.Facts) (hDActReferenceIdeal : Cert.DActReferenceIdeal.Facts) (hDWeight : Cert.DWeight.Facts) (hDWeightIdeal : Cert.DWeightIdeal.Facts) (hDWeightReferenceIdeal : Cert.DWeightReferenceIdeal.Facts) (hOutProj : Cert.OutProj.Facts) (hOutProjIdeal : Cert.OutProjIdeal.Facts) (hOutProjReferenceIdeal : Cert.OutProjReferenceIdeal.Facts) (hMerge : Cert.Merge.Facts) (hMergeIdeal : Cert.MergeIdeal.Facts) (hMergeReferenceIdeal : Cert.MergeReferenceIdeal.Facts) (hNorm : Cert.Norm.Facts) (hNormIdeal : Cert.NormIdeal.Facts) (hNormReferenceIdeal : Cert.NormReferenceIdeal.Facts) (hMerged : Cert.Merged.Facts) (hMergedIdeal : Cert.MergedIdeal.Facts) (hMergedReferenceIdeal : Cert.MergedReferenceIdeal.Facts) (hAdamIn : Cert.AdamIn.Facts) (hAdamInIdeal : Cert.AdamInIdeal.Facts) (hAdamInReferenceIdeal : Cert.AdamInReferenceIdeal.Facts) (hAdamUp : Cert.AdamUp.Facts) (hAdamUpIdeal : Cert.AdamUpIdeal.Facts) (hAdamUpReferenceIdeal : Cert.AdamUpReferenceIdeal.Facts) (hAdamSmall : Cert.AdamSmall.Facts) (hAdamSmallIdeal : Cert.AdamSmallIdeal.Facts) (hAdamSmallReferenceIdeal : Cert.AdamSmallReferenceIdeal.Facts) (hLoss : Cert.Loss.Facts) (hLossIdeal : Cert.LossIdeal.Facts) (hLossReferenceIdeal : Cert.LossReferenceIdeal.Facts) (hAttn : Cert.Attn.Facts) (hAttnIdeal : Cert.AttnIdeal.Facts) (hAttnReferenceIdeal : Cert.AttnReferenceIdeal.Facts) (hProj : Cert.Proj.Facts) (hProjIdeal : Cert.ProjIdeal.Facts) (hProjReferenceIdeal : Cert.ProjReferenceIdeal.Facts) (hDWIn : Cert.DWIn.Facts) (hDWInIdeal : Cert.DWInIdeal.Facts) (hDWInReferenceIdeal : Cert.DWInReferenceIdeal.Facts) (hDHid : Cert.DHid.Facts) (hDHidIdeal : Cert.DHidIdeal.Facts) (hDHidReferenceIdeal : Cert.DHidReferenceIdeal.Facts) (hUp : Cert.Up.Facts) (hUpIdeal : Cert.UpIdeal.Facts) (hUpReferenceIdeal : Cert.UpReferenceIdeal.Facts) (hDAttn : Cert.DAttn.Facts) (hDAttnIdeal : Cert.DAttnIdeal.Facts) (hNormBack : Cert.NormBack.Facts) (hNormBackIdeal : Cert.NormBackIdeal.Facts) (hNormBackReferenceIdeal : Cert.NormBackReferenceIdeal.Facts) (hPre_finite : Cert.Pre_finite.Facts) (hPre_finite_loss : Cert.Pre_finite_loss.Facts) (hPre_finite_attn : Cert.Pre_finite_attn.Facts) (hPre_finite_norm : Cert.Pre_finite_norm.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_DAct (hDAct := hDAct)
    ∧ quiescent_DActIdeal (hDActIdeal := hDActIdeal)
    ∧ quiescent_DActReferenceIdeal (hDActReferenceIdeal := hDActReferenceIdeal)
    ∧ quiescent_DWeight (hDWeight := hDWeight)
    ∧ quiescent_DWeightIdeal (hDWeightIdeal := hDWeightIdeal)
    ∧ quiescent_DWeightReferenceIdeal (hDWeightReferenceIdeal := hDWeightReferenceIdeal)
    ∧ quiescent_OutProj (hOutProj := hOutProj)
    ∧ quiescent_OutProjIdeal (hOutProjIdeal := hOutProjIdeal)
    ∧ quiescent_OutProjReferenceIdeal (hOutProjReferenceIdeal := hOutProjReferenceIdeal)
    ∧ quiescent_Merge (hMerge := hMerge)
    ∧ quiescent_MergeIdeal (hMergeIdeal := hMergeIdeal)
    ∧ quiescent_MergeReferenceIdeal (hMergeReferenceIdeal := hMergeReferenceIdeal)
    ∧ quiescent_Norm (hNorm := hNorm)
    ∧ quiescent_NormIdeal (hNormIdeal := hNormIdeal)
    ∧ quiescent_NormReferenceIdeal (hNormReferenceIdeal := hNormReferenceIdeal)
    ∧ quiescent_Merged (hMerged := hMerged)
    ∧ quiescent_MergedIdeal (hMergedIdeal := hMergedIdeal)
    ∧ quiescent_MergedReferenceIdeal (hMergedReferenceIdeal := hMergedReferenceIdeal)
    ∧ quiescent_AdamIn (hAdamIn := hAdamIn)
    ∧ quiescent_AdamInIdeal (hAdamInIdeal := hAdamInIdeal)
    ∧ quiescent_AdamInReferenceIdeal (hAdamInReferenceIdeal := hAdamInReferenceIdeal)
    ∧ quiescent_AdamUp (hAdamUp := hAdamUp)
    ∧ quiescent_AdamUpIdeal (hAdamUpIdeal := hAdamUpIdeal)
    ∧ quiescent_AdamUpReferenceIdeal (hAdamUpReferenceIdeal := hAdamUpReferenceIdeal)
    ∧ quiescent_AdamSmall (hAdamSmall := hAdamSmall)
    ∧ quiescent_AdamSmallIdeal (hAdamSmallIdeal := hAdamSmallIdeal)
    ∧ quiescent_AdamSmallReferenceIdeal (hAdamSmallReferenceIdeal := hAdamSmallReferenceIdeal)
    ∧ quiescent_Loss (hLoss := hLoss)
    ∧ quiescent_LossIdeal (hLossIdeal := hLossIdeal)
    ∧ quiescent_LossIdeal_pre_finite_loss (hLossIdeal := hLossIdeal) (hPre_finite_loss := hPre_finite_loss)
    ∧ quiescent_LossReferenceIdeal (hLossReferenceIdeal := hLossReferenceIdeal)
    ∧ quiescent_LossReferenceIdeal_pre_finite_loss (hLossReferenceIdeal := hLossReferenceIdeal) (hPre_finite_loss := hPre_finite_loss)
    ∧ quiescent_Attn (hAttn := hAttn)
    ∧ quiescent_AttnIdeal (hAttnIdeal := hAttnIdeal)
    ∧ quiescent_AttnIdeal_pre_finite_attn (hAttnIdeal := hAttnIdeal) (hPre_finite_attn := hPre_finite_attn)
    ∧ quiescent_AttnReferenceIdeal (hAttnReferenceIdeal := hAttnReferenceIdeal)
    ∧ quiescent_AttnReferenceIdeal_pre_finite_attn (hAttnReferenceIdeal := hAttnReferenceIdeal) (hPre_finite_attn := hPre_finite_attn)
    ∧ quiescent_Proj (hProj := hProj)
    ∧ quiescent_ProjIdeal (hProjIdeal := hProjIdeal)
    ∧ quiescent_ProjReferenceIdeal (hProjReferenceIdeal := hProjReferenceIdeal)
    ∧ quiescent_DWIn (hDWIn := hDWIn)
    ∧ quiescent_DWInIdeal (hDWInIdeal := hDWInIdeal)
    ∧ quiescent_DWInReferenceIdeal (hDWInReferenceIdeal := hDWInReferenceIdeal)
    ∧ quiescent_DHid (hDHid := hDHid)
    ∧ quiescent_DHidIdeal (hDHidIdeal := hDHidIdeal)
    ∧ quiescent_DHidReferenceIdeal (hDHidReferenceIdeal := hDHidReferenceIdeal)
    ∧ quiescent_Up (hUp := hUp)
    ∧ quiescent_UpIdeal (hUpIdeal := hUpIdeal)
    ∧ quiescent_UpReferenceIdeal (hUpReferenceIdeal := hUpReferenceIdeal)
    ∧ quiescent_DAttn (hDAttn := hDAttn)
    ∧ quiescent_DAttnIdeal (hDAttnIdeal := hDAttnIdeal)
    ∧ quiescent_NormBack (hNormBack := hNormBack)
    ∧ quiescent_NormBackIdeal (hNormBackIdeal := hNormBackIdeal)
    ∧ quiescent_NormBackIdeal_pre_finite_norm (hNormBackIdeal := hNormBackIdeal) (hPre_finite_norm := hPre_finite_norm)
    ∧ quiescent_NormBackReferenceIdeal (hNormBackReferenceIdeal := hNormBackReferenceIdeal)
    ∧ quiescent_NormBackReferenceIdeal_pre_finite_norm (hNormBackReferenceIdeal := hNormBackReferenceIdeal) (hPre_finite_norm := hPre_finite_norm)
    ∧ preserves_Kernel_KernelIdeal
    ∧ algebraic_KernelIdeal_ReferenceIdeal_pre_finite (hKernelIdeal := hKernelIdeal) (hReferenceIdeal := hReferenceIdeal) (hPre_finite := hPre_finite)
    ∧ preserves_DAct_DActIdeal
    ∧ algebraic_DActIdeal_DActReferenceIdeal (hDActIdeal := hDActIdeal) (hDActReferenceIdeal := hDActReferenceIdeal)
    ∧ preserves_DWeight_DWeightIdeal
    ∧ algebraic_DWeightIdeal_DWeightReferenceIdeal (hDWeightIdeal := hDWeightIdeal) (hDWeightReferenceIdeal := hDWeightReferenceIdeal)
    ∧ preserves_OutProj_OutProjIdeal
    ∧ algebraic_OutProjIdeal_OutProjReferenceIdeal (hOutProjIdeal := hOutProjIdeal) (hOutProjReferenceIdeal := hOutProjReferenceIdeal)
    ∧ preserves_Merge_MergeIdeal
    ∧ algebraic_MergeIdeal_MergeReferenceIdeal (hMergeIdeal := hMergeIdeal) (hMergeReferenceIdeal := hMergeReferenceIdeal)
    ∧ preserves_Norm_NormIdeal
    ∧ algebraic_NormIdeal_NormReferenceIdeal (hNormIdeal := hNormIdeal) (hNormReferenceIdeal := hNormReferenceIdeal)
    ∧ preserves_Merged_MergedIdeal
    ∧ algebraic_MergedIdeal_MergedReferenceIdeal (hMergedIdeal := hMergedIdeal) (hMergedReferenceIdeal := hMergedReferenceIdeal)
    ∧ preserves_AdamIn_AdamInIdeal
    ∧ algebraic_AdamInIdeal_AdamInReferenceIdeal (hAdamInIdeal := hAdamInIdeal) (hAdamInReferenceIdeal := hAdamInReferenceIdeal)
    ∧ preserves_AdamUp_AdamUpIdeal
    ∧ algebraic_AdamUpIdeal_AdamUpReferenceIdeal (hAdamUpIdeal := hAdamUpIdeal) (hAdamUpReferenceIdeal := hAdamUpReferenceIdeal)
    ∧ preserves_AdamSmall_AdamSmallIdeal
    ∧ algebraic_AdamSmallIdeal_AdamSmallReferenceIdeal (hAdamSmallIdeal := hAdamSmallIdeal) (hAdamSmallReferenceIdeal := hAdamSmallReferenceIdeal)
    ∧ preserves_Loss_LossIdeal
    ∧ algebraic_LossIdeal_LossReferenceIdeal_pre_finite_loss (hLossIdeal := hLossIdeal) (hLossReferenceIdeal := hLossReferenceIdeal) (hPre_finite_loss := hPre_finite_loss)
    ∧ preserves_Attn_AttnIdeal
    ∧ algebraic_AttnIdeal_AttnReferenceIdeal_pre_finite_attn (hAttnIdeal := hAttnIdeal) (hAttnReferenceIdeal := hAttnReferenceIdeal) (hPre_finite_attn := hPre_finite_attn)
    ∧ preserves_Proj_ProjIdeal
    ∧ algebraic_ProjIdeal_ProjReferenceIdeal (hProjIdeal := hProjIdeal) (hProjReferenceIdeal := hProjReferenceIdeal)
    ∧ preserves_DWIn_DWInIdeal
    ∧ algebraic_DWInIdeal_DWInReferenceIdeal (hDWInIdeal := hDWInIdeal) (hDWInReferenceIdeal := hDWInReferenceIdeal)
    ∧ preserves_DHid_DHidIdeal
    ∧ algebraic_DHidIdeal_DHidReferenceIdeal (hDHidIdeal := hDHidIdeal) (hDHidReferenceIdeal := hDHidReferenceIdeal)
    ∧ preserves_Up_UpIdeal
    ∧ algebraic_UpIdeal_UpReferenceIdeal (hUpIdeal := hUpIdeal) (hUpReferenceIdeal := hUpReferenceIdeal)
    ∧ preserves_DAttn_DAttnIdeal
    ∧ algebraic_DAttnIdeal_DActReferenceIdeal (hDAttnIdeal := hDAttnIdeal) (hDActReferenceIdeal := hDActReferenceIdeal)
    ∧ preserves_NormBack_NormBackIdeal
    ∧ algebraic_NormBackIdeal_NormBackReferenceIdeal_pre_finite_norm (hNormBackIdeal := hNormBackIdeal) (hNormBackReferenceIdeal := hNormBackReferenceIdeal) (hPre_finite_norm := hPre_finite_norm)
-- ==== Pre_finite.lean ====
abbrev S4096x29696 : Shape := ⟨2, ![4096, 29696]⟩
abbrev S1x8x128x128 : Shape := ⟨4, ![1, 8, 128, 128]⟩
abbrev S1x8x128 : Shape := ⟨3, ![1, 8, 128]⟩
abbrev S1x4096 : Shape := ⟨2, ![1, 4096]⟩
abbrev S4096x4096 : Shape := ⟨2, ![4096, 4096]⟩
abbrev S4096x12288 : Shape := ⟨2, ![4096, 12288]⟩
abbrev S_ : Shape := ⟨0, ![]⟩

class Facts : Prop where
  slices_S4096x29696_S4096x12288_0_9216 : S4096x29696.Slices ![0, 9216] S4096x12288
  bitsLt_bf16_f32 : FTy.bits .bf16 < FTy.bits .f32
  bcast_S_S4096x12288 : S_.BroadcastsInDim S4096x12288 (![] : Fin 0 → Fin S4096x12288.rank)
  reducesTo_S4096x12288_S_d0_1 : S4096x12288.ReducesTo [0, 1] S_
  h_S_ : 0 < S_.numel
  bcast_S_S1x8x128x128 : S_.BroadcastsInDim S1x8x128x128 (![] : Fin 0 → Fin S1x8x128x128.rank)
  reducesTo_S1x8x128x128_S_d0_1_2_3 : S1x8x128x128.ReducesTo [0, 1, 2, 3] S_
  bcast_S_S1x8x128 : S_.BroadcastsInDim S1x8x128 (![] : Fin 0 → Fin S1x8x128.rank)
  reducesTo_S1x8x128_S_d0_1_2 : S1x8x128.ReducesTo [0, 1, 2] S_
  bcast_S_S1x4096 : S_.BroadcastsInDim S1x4096 (![] : Fin 0 → Fin S1x4096.rank)
  reducesTo_S1x4096_S_d0_1 : S1x4096.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part1 {F : FTy → Type} [FloatOps F] (main_arg3 : FVec F S1x4096 .f32) (main_arg4 : FVec F S1x4096 .f32) (main_arg5 : FVec F S4096x4096 .f32) (main_v14 : IVec S_ 1) (main_v17 : IVec S1x8x128 1) (main_c_3 : IVec S_ 1) : IVec S_ 1 :=
  let main_v18 : IVec S_ 1 := (fun x v => Host.reduce IntOp.andi x v reducesTo_S1x8x128_S_d0_1_2 h_S_) main_v17 main_c_3
  let main_v19 : IVec S_ 1 := andi main_v14 main_v18
  let main_v20 : FVec F S1x4096 .f32 := Host.absf main_arg3
  let main_cst_4 : FVec F S_ .f32 := constant S_ .f32 0x7F800000#32
  let main_v21 : FVec F S1x4096 .f32 := broadcastInDim S1x4096 ![] bcast_S_S1x4096 main_cst_4
  let main_v22 : IVec S1x4096 1 := cmpf .olt main_v20 main_v21
  let main_c_5 : IVec S_ 1 := constantI S_ 1 1#1
  let main_v23 : IVec S_ 1 := (fun x v => Host.reduce IntOp.andi x v reducesTo_S1x4096_S_d0_1 h_S_) main_v22 main_c_5
  let main_v24 : IVec S_ 1 := andi main_v19 main_v23
  let main_v25 : FVec F S1x4096 .f32 := Host.absf main_arg4
  let main_cst_6 : FVec F S_ .f32 := constant S_ .f32 0x7F800000#32
  let main_v26 : FVec F S1x4096 .f32 := broadcastInDim S1x4096 ![] bcast_S_S1x4096 main_cst_6
  let main_v27 : IVec S1x4096 1 := cmpf .olt main_v25 main_v26
  let main_c_7 : IVec S_ 1 := constantI S_ 1 1#1
  let main_v28 : IVec S_ 1 := (fun x v => Host.reduce IntOp.andi x v reducesTo_S1x4096_S_d0_1 h_S_) main_v27 main_c_7
  let main_v29 : IVec S_ 1 := andi main_v24 main_v28
  let main_v30 : FVec F S4096x4096 .f32 := Host.absf main_arg5
  let main_cst_8 : FVec F S_ .f32 := constant S_ .f32 0x7F800000#32
  let main_v31 : FVec F S4096x4096 .f32 := broadcastInDim S4096x4096 ![] bcast_S_S4096x4096 main_cst_8
  let main_v32 : IVec S4096x4096 1 := cmpf .olt main_v30 main_v31
  let main_c_9 : IVec S_ 1 := constantI S_ 1 1#1
  let main_v33 : IVec S_ 1 := (fun x v => Host.reduce IntOp.andi x v reducesTo_S4096x4096_S_d0_1 h_S_) main_v32 main_c_9
  let main_v34 : IVec S_ 1 := andi main_v29 main_v33
  main_v34

def fn {F : FTy → Type} [FloatOps F] (main_arg0 : FVec F S4096x29696 .bf16) (main_arg1 : FVec F S1x8x128x128 .f32) (main_arg2 : FVec F S1x8x128 .f32) (main_arg3 : FVec F S1x4096 .f32) (main_arg4 : FVec F S1x4096 .f32) (main_arg5 : FVec F S4096x4096 .f32) : IVec S_ 1 :=
  let main_v0 : IVec S1x8x128x128 32 := iotaInDim S1x8x128x128 32 2
  let main_v1 : IVec S1x8x128x128 32 := iotaInDim S1x8x128x128 32 3
  let main_v2 : FVec F S4096x12288 .bf16 := (extractStridedSlice S4096x12288 ![0, 9216] · slices_S4096x29696_S4096x12288_0_9216) main_arg0
  let main_v3 : FVec F S4096x12288 .f32 := (extf .f32 · bitsLt_bf16_f32) main_v2
  let main_v4 : FVec F S4096x12288 .f32 := Host.absf main_v3
  let main_cst : FVec F S_ .f32 := constant S_ .f32 0x7F800000#32
  let main_v5 : FVec F S4096x12288 .f32 := broadcastInDim S4096x12288 ![] bcast_S_S4096x12288 main_cst
  let main_v6 : IVec S4096x12288 1 := cmpf .olt main_v4 main_v5
  let main_c : IVec S_ 1 := constantI S_ 1 1#1
  let main_v7 : IVec S_ 1 := (fun x v => Host.reduce IntOp.andi x v reducesTo_S4096x12288_S_d0_1 h_S_) main_v6 main_c
  let main_v8 : FVec F S1x8x128x128 .f32 := Host.absf main_arg1
  let main_cst_0 : FVec F S_ .f32 := constant S_ .f32 0x7F800000#32
  let main_v9 : FVec F S1x8x128x128 .f32 := broadcastInDim S1x8x128x128 ![] bcast_S_S1x8x128x128 main_cst_0
  let main_v10 : IVec S1x8x128x128 1 := cmpf .olt main_v8 main_v9
  let main_v11 : IVec S1x8x128x128 1 := cmpi .slt main_v0 main_v1
  let main_v12 : IVec S1x8x128x128 1 := ori main_v10 main_v11
  let main_c_1 : IVec S_ 1 := constantI S_ 1 1#1
  let main_v13 : IVec S_ 1 := (fun x v => Host.reduce IntOp.andi x v reducesTo_S1x8x128x128_S_d0_1_2_3 h_S_) main_v12 main_c_1
  let main_v14 : IVec S_ 1 := andi main_v7 main_v13
  let main_v15 : FVec F S1x8x128 .f32 := Host.absf main_arg2
  let main_cst_2 : FVec F S_ .f32 := constant S_ .f32 0x7F800000#32
  let main_v16 : FVec F S1x8x128 .f32 := broadcastInDim S1x8x128 ![] bcast_S_S1x8x128 main_cst_2
  let main_v17 : IVec S1x8x128 1 := cmpf .olt main_v15 main_v16
  let main_c_3 : IVec S_ 1 := constantI S_ 1 1#1
  fn_part1 (F := F) main_arg3 main_arg4 main_arg5 main_v14 main_v17 main_c_3
-- ==== Pre_finite_attn.lean ====
abbrev S4096 : Shape := ⟨1, ![4096]⟩
abbrev S4096x29696 : Shape := ⟨2, ![4096, 29696]⟩
abbrev S64 : Shape := ⟨1, ![64]⟩
abbrev S4096x4096 : Shape := ⟨2, ![4096, 4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel

variable [Facts]

def fn {F : FTy → Type} [FloatOps F] (main_arg0 : IVec S4096 32) (main_arg1 : FVec F S4096x29696 .bf16) (main_arg2 : FVec F S64 .f32) (main_arg3 : FVec F S4096x4096 .f32) (main_arg4 : FVec F S4096x4096 .f32) : IVec S_ 1 :=
  let main_v0 : FVec F S4096x4096 .f32 := Host.absf main_arg3
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S4096x4096 .f32 := Host.absf main_arg4
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Pre_finite_loss.lean ====
abbrev S4096x4096 : Shape := ⟨2, ![4096, 4096]⟩
abbrev S1x4096x4096 : Shape := ⟨3, ![1, 4096, 4096]⟩
abbrev S4096 : Shape := ⟨1, ![4096]⟩
abbrev S_ : Shape := ⟨0, ![]⟩

class Facts : Prop where
  bcast_S_S4096x4096 : S_.BroadcastsInDim S4096x4096 (![] : Fin 0 → Fin S4096x4096.rank)
  reducesTo_S4096x4096_S_d0_1 : S4096x4096.ReducesTo [0, 1] S_
  h_S_ : 0 < S_.numel
  bcast_S_S1x4096x4096 : S_.BroadcastsInDim S1x4096x4096 (![] : Fin 0 → Fin S1x4096x4096.rank)
  reducesTo_S1x4096x4096_S_d0_1_2 : S1x4096x4096.ReducesTo [0, 1, 2] S_
  bcast_S_S4096 : S_.BroadcastsInDim S4096 (![] : Fin 0 → Fin S4096.rank)
  reducesTo_S4096_S_d0 : S4096.ReducesTo [0] S_

variable [Facts]

def fn {F : FTy → Type} [FloatOps F] (main_arg0 : FVec F S4096x4096 .f32) (main_arg1 : FVec F S1x4096x4096 .f32) (main_arg2 : FVec F S4096 .f32) : IVec S_ 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_c : IVec S_ 1 := constantI S_ 1 1#1
  let main_v3 : IVec S_ 1 := (fun x v => Host.reduce IntOp.andi x v reducesTo_S4096x4096_S_d0_1 h_S_) main_v2 main_c
  let main_v4 : FVec F S1x4096x4096 .f32 := Host.absf main_arg1
  let main_cst_0 : FVec F S_ .f32 := constant S_ .f32 0x7F800000#32
  let main_v5 : FVec F S1x4096x4096 .f32 := broadcastInDim S1x4096x4096 ![] bcast_S_S1x4096x4096 main_cst_0
  let main_v6 : IVec S1x4096x4096 1 := cmpf .olt main_v4 main_v5
  let main_c_1 : IVec S_ 1 := constantI S_ 1 1#1
  let main_v7 : IVec S_ 1 := (fun x v => Host.reduce IntOp.andi x v reducesTo_S1x4096x4096_S_d0_1_2 h_S_) main_v6 main_c_1
  let main_v8 : IVec S_ 1 := andi main_v3 main_v7
  let main_v9 : FVec F S4096 .f32 := Host.absf main_arg2
  let main_cst_2 : FVec F S_ .f32 := constant S_ .f32 0x7F800000#32
  let main_v10 : FVec F S4096 .f32 := broadcastInDim S4096 ![] bcast_S_S4096 main_cst_2
  let main_v11 : IVec S4096 1 := cmpf .olt main_v9 main_v10
  let main_c_3 : IVec S_ 1 := constantI S_ 1 1#1
  let main_v12 : IVec S_ 1 := (fun x v => Host.reduce IntOp.andi x v reducesTo_S4096_S_d0 h_S_) main_v11 main_c_3
  let main_v13 : IVec S_ 1 := andi main_v8 main_v12
  main_v13
-- ==== Pre_finite_norm.lean ====
abbrev S1x4096x4096 : Shape := ⟨3, ![1, 4096, 4096]⟩
abbrev S4096x4096 : Shape := ⟨2, ![4096, 4096]⟩
abbrev S1x4096 : Shape := ⟨2, ![1, 4096]⟩
abbrev S_ : Shape := ⟨0, ![]⟩

class Facts : Prop where
  bcast_S_S1x4096x4096 : S_.BroadcastsInDim S1x4096x4096 (![] : Fin 0 → Fin S1x4096x4096.rank)
  reducesTo_S1x4096x4096_S_d0_1_2 : S1x4096x4096.ReducesTo [0, 1, 2] S_
  h_S_ : 0 < S_.numel
  bcast_S_S4096x4096 : S_.BroadcastsInDim S4096x4096 (![] : Fin 0 → Fin S4096x4096.rank)
  reducesTo_S4096x4096_S_d0_1 : S4096x4096.ReducesTo [0, 1] S_
  bcast_S_S1x4096 : S_.BroadcastsInDim S1x4096 (![] : Fin 0 → Fin S1x4096.rank)
  reducesTo_S1x4096_S_d0_1 : S1x4096.ReducesTo [0, 1] S_

variable [Facts]

def fn {F : FTy → Type} [FloatOps F] (main_arg0 : FVec F S1x4096x4096 .f32) (main_arg1 : FVec F S4096x4096 .f32) (main_arg2 : FVec F S4096x4096 .f32) (main_arg3 : FVec F S1x4096 .f32) : IVec S_ 1 :=
  let main_v0 : FVec F S1x4096x4096 .f32 := Host.absf main_arg0
  let main_cst : FVec F S_ .f32 := constant S_ .f32 0x7F800000#32
  let main_v1 : FVec F S1x4096x4096 .f32 := broadcastInDim S1x4096x4096 ![] bcast_S_S1x4096x4096 main_cst
  let main_v2 : IVec S1x4096x4096 1 := cmpf .olt main_v0 main_v1
  let main_c : IVec S_ 1 := constantI S_ 1 1#1
  let main_v3 : IVec S_ 1 := (fun x v => Host.reduce IntOp.andi x v reducesTo_S1x4096x4096_S_d0_1_2 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  let main_v9 : FVec F S1x4096 .f32 := Host.absf main_arg3
  let main_cst_2 : FVec F S_ .f32 := constant S_ .f32 0x7F800000#32
  let main_v10 : FVec F S1x4096 .f32 := broadcastInDim S1x4096 ![] bcast_S_S1x4096 main_cst_2
  let main_v11 : IVec S1x4096 1 := cmpf .olt main_v9 main_v10
  let main_c_3 : IVec S_ 1 := constantI S_ 1 1#1
  let main_v12 : IVec S_ 1 := (fun x v => Host.reduce IntOp.andi x v reducesTo_S1x4096_S_d0_1 h_S_) main_v11 main_c_3
  let main_v13 : IVec S_ 1 := andi main_v8 main_v12
  main_v13
-- ==== Kernel.lean ====
abbrev S4096x29696 : Shape := ⟨2, ![4096, 29696]⟩
abbrev S1x8x128x128 : Shape := ⟨4, ![1, 8, 128, 128]⟩
abbrev S1x8x128 : Shape := ⟨3, ![1, 8, 128]⟩
abbrev S1x4096 : Shape := ⟨2, ![1, 4096]⟩
abbrev S4096x4096 : Shape := ⟨2, ![4096, 4096]⟩
abbrev S8x128x128 : Shape := ⟨3, ![8, 128, 128]⟩
abbrev S8x128 : Shape := ⟨2, ![8, 128]⟩
abbrev S128x8 : Shape := ⟨2, ![128, 8]⟩
abbrev S4096x12288 : Shape := ⟨2, ![4096, 12288]⟩
abbrev S8x128x1 : Shape := ⟨3, ![8, 128, 1]⟩
abbrev S128x1024 : Shape := ⟨2, ![128, 1024]⟩
abbrev S128x4096 : Shape := ⟨2, ![128, 4096]⟩
abbrev S128x12288 : Shape := ⟨2, ![128, 12288]⟩
abbrev S128x1 : Shape := ⟨2, ![128, 1]⟩
abbrev S128 : Shape := ⟨1, ![128]⟩
abbrev S128x512 : Shape := ⟨2, ![128, 512]⟩
abbrev S1x512 : Shape := ⟨2, ![1, 512]⟩
abbrev S128x128 : Shape := ⟨2, ![128, 128]⟩
abbrev S1x128x128 : Shape := ⟨3, ![1, 128, 128]⟩
abbrev S1x128x1 : Shape := ⟨3, ![1, 128, 1]⟩
abbrev S512 : Shape := ⟨1, ![512]⟩

abbrev nBuf : Space → Nat
  | .hbm => 14
  | .vmem => 39
  | .smem => 0
  | _ => 0

abbrev bufTy : (tb : Table) → Fin (tcTables nBuf tb) → BufTy
  | .hbm, ⟨0, _⟩ => ⟨S4096x29696, .bf16⟩
  | .hbm, ⟨1, _⟩ => ⟨S1x8x128x128, .f32⟩
  | .hbm, ⟨2, _⟩ => ⟨S1x8x128, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S8x128x128, .f32⟩
  | .hbm, ⟨7, _⟩ => ⟨S8x128, .f32⟩
  | .hbm, ⟨8, _⟩ => ⟨S128x8, .f32⟩
  | .hbm, ⟨9, _⟩ => ⟨S4096x12288, .bf16⟩
  | .hbm, ⟨10, _⟩ => ⟨S8x128x128, .f32⟩
  | .hbm, ⟨11, _⟩ => ⟨S8x128x1, .f32⟩
  | .hbm, ⟨12, _⟩ => ⟨S1x4096, .f32⟩
  | .hbm, ⟨13, _⟩ => ⟨S1x4096, .f32⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x1024, .bf16⟩
  | .local _ .vmem, ⟨17, _⟩ => ⟨S128x1024, .bf16⟩
  | .local _ .vmem, ⟨18, _⟩ => ⟨S128x1024, .bf16⟩
  | .local _ .vmem, ⟨19, _⟩ => ⟨S128x1024, .bf16⟩
  | .local _ .vmem, ⟨20, _⟩ => ⟨S128x1024, .bf16⟩
  | .local _ .vmem, ⟨21, _⟩ => ⟨S128x1024, .bf16⟩
  | .local _ .vmem, ⟨22, _⟩ => ⟨S128x1024, .bf16⟩
  | .local _ .vmem, ⟨23, _⟩ => ⟨S128x1024, .bf16⟩
  | .local _ .vmem, ⟨24, _⟩ => ⟨S8x128x128, .f32⟩
  | .local _ .vmem, ⟨25, _⟩ => ⟨S128x8, .f32⟩
  | .local _ .vmem, ⟨26, _⟩ => ⟨S1x4096, .f32⟩
  | .local _ .vmem, ⟨27, _⟩ => ⟨S1x4096, .f32⟩
  | .local _ .vmem, ⟨28, _⟩ => ⟨S128x4096, .f32⟩
  | .local _ .vmem, ⟨29, _⟩ => ⟨S128x4096, .f32⟩
  | .local _ .vmem, ⟨30, _⟩ => ⟨S128x12288, .bf16⟩
  | .local _ .vmem, ⟨31, _⟩ => ⟨S128x12288, .bf16⟩
  | .local _ .vmem, ⟨32, _⟩ => ⟨S8x128x128, .f32⟩
  | .local _ .vmem, ⟨33, _⟩ => ⟨S8x128x1, .f32⟩
  | .local _ .vmem, ⟨34, _⟩ => ⟨S1x4096, .f32⟩
  | .local _ .vmem, ⟨35, _⟩ => ⟨S1x4096, .f32⟩
  | .local _ .vmem, ⟨36, _⟩ => ⟨S128x4096, .f32⟩
  | .local _ .vmem, ⟨37, _⟩ => ⟨S128x4096, .f32⟩
  | .local _ .vmem, ⟨38, _⟩ => ⟨S128x4096, .f32⟩
  | _, _ => ⟨S4096x29696, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev main_v3_4 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg13_0 : Ref sig .tc := ⟨.vmem, 25, rfl⟩
abbrev cc0_stg14_0 : Ref sig .tc := ⟨.vmem, 26, rfl⟩
abbrev cc0_stg15_0 : Ref sig .tc := ⟨.vmem, 27, rfl⟩
abbrev cc0_stg16_0 : Ref sig .tc := ⟨.vmem, 28, rfl⟩
abbrev cc0_stg16_1 : Ref sig .tc := ⟨.vmem, 29, rfl⟩
abbrev cc0_stg17_0 : Ref sig .tc := ⟨.vmem, 30, rfl⟩
abbrev cc0_stg17_1 : Ref sig .tc := ⟨.vmem, 31, rfl⟩
abbrev cc0_stg18_0 : Ref sig .tc := ⟨.vmem, 32, rfl⟩
abbrev cc0_stg19_0 : Ref sig .tc := ⟨.vmem, 33, rfl⟩
abbrev cc0_stg20_0 : Ref sig .tc := ⟨.vmem, 34, rfl⟩
abbrev cc0_stg21_0 : Ref sig .tc := ⟨.vmem, 35, rfl⟩
abbrev cc0_scratch0 : Ref sig .tc := ⟨.vmem, 36, rfl⟩
abbrev cc0_scratch1 : Ref sig .tc := ⟨.vmem, 37, rfl⟩
abbrev cc0_scratch2 : Ref sig .tc := ⟨.vmem, 38, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem13_0 : DmaSem sig := 25
abbrev cc0_sem14_0 : DmaSem sig := 26
abbrev cc0_sem15_0 : DmaSem sig := 27
abbrev cc0_sem16_0 : DmaSem sig := 28
abbrev cc0_sem16_1 : DmaSem sig := 29
abbrev cc0_sem17_0 : DmaSem sig := 30
abbrev cc0_sem17_1 : DmaSem sig := 31
abbrev cc0_sem18_0 : DmaSem sig := 32
abbrev cc0_sem19_0 : DmaSem sig := 33
abbrev cc0_sem20_0 : DmaSem sig := 34
abbrev cc0_sem21_0 : DmaSem sig := 35

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_1 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_2 (i : grid0.Coords) : Fin 2 → Nat :=
  let arg0 : BitVec 32 := BitVec.ofNat 32 (i 0).val
  let c11_i32 : BitVec 32 := 11#32
  let c0_i32 : BitVec 32 := 0#32
  ![arg0.toNat, c11_i32.toNat]

def cc0_transform_3 (i : grid0.Coords) : Fin 2 → Nat :=
  let arg0 : BitVec 32 := BitVec.ofNat 32 (i 0).val
  let c12_i32 : BitVec 32 := 12#32
  let c0_i32 : BitVec 32 := 0#32
  ![arg0.toNat, c12_i32.toNat]

def cc0_transform_4 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_5 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_6 (i : grid0.Coords) : Fin 2 → Nat :=
  let arg0 : BitVec 32 := BitVec.ofNat 32 (i 0).val
  let c15_i32 : BitVec 32 := 15#32
  let c0_i32 : BitVec 32 := 0#32
  ![arg0.toNat, c15_i32.toNat]

def cc0_transform_7 (i : grid0.Coords) : Fin 2 → Nat :=
  let arg0 : BitVec 32 := BitVec.ofNat 32 (i 0).val
  let c16_i32 : BitVec 32 := 16#32
  let c0_i32 : BitVec 32 := 0#32
  ![arg0.toNat, c16_i32.toNat]

def cc0_transform_8 (i : grid0.Coords) : Fin 2 → Nat :=
  let arg0 : BitVec 32 := BitVec.ofNat 32 (i 0).val
  let c17_i32 : BitVec 32 := 17#32
  let c0_i32 : BitVec 32 := 0#32
  ![arg0.toNat, c17_i32.toNat]

def cc0_transform_9 (i : grid0.Coords) : Fin 2 → Nat :=
  let arg0 : BitVec 32 := BitVec.ofNat 32 (i 0).val
  let c18_i32 : BitVec 32 := 18#32
  let c0_i32 : BitVec 32 := 0#32
  ![arg0.toNat, c18_i32.toNat]

def cc0_transform_10 (i : grid0.Coords) : Fin 2 → Nat :=
  let arg0 : BitVec 32 := BitVec.ofNat 32 (i 0).val
  let c19_i32 : BitVec 32 := 19#32
  let c0_i32 : BitVec 32 := 0#32
  ![arg0.toNat, c19_i32.toNat]

def cc0_transform_11 (i : grid0.Coords) : Fin 2 → Nat :=
  let arg0 : BitVec 32 := BitVec.ofNat 32 (i 0).val
  let c20_i32 : BitVec 32 := 20#32
  let c0_i32 : BitVec 32 := 0#32
  ![arg0.toNat, c20_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_20 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_21 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x1024 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x8 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x4096 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S1x4096 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S128x4096 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S128x12288 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S8x128x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]

abbrev stage0_19 : Fin 1 → Memref sig .tc .vmem S8x128x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))
abbrev reads0_19 : Fin grid0.rank → Bool := ![false]

abbrev stage0_20 : Fin 1 → Memref sig .tc .vmem S1x4096 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false]

abbrev stage0_21 : Fin 1 → Memref sig .tc .vmem S1x4096 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
abbrev reads0_21 : Fin grid0.rank → Bool := ![false]
-- ==== KernelIdeal.lean ====
variable {F : FTy → Type} [FloatOps F] [Named F]
def κ : String → Option EReal := fun
  | "gelu_cube" => some ((8943 / 200000 : ℝ) : EReal)
  | "gelu_cube3" => some ((26829 / 200000 : ℝ) : EReal)
  | _ => none
-- ==== ReferenceIdeal.lean ====
abbrev S4096x29696 : Shape := ⟨2, ![4096, 29696]⟩
abbrev S1x8x128x128 : Shape := ⟨4, ![1, 8, 128, 128]⟩
abbrev S1x8x128 : Shape := ⟨3, ![1, 8, 128]⟩
abbrev S1x4096 : Shape := ⟨2, ![1, 4096]⟩
abbrev S4096x4096 : Shape := ⟨2, ![4096, 4096]⟩
abbrev S1x4096x29696 : Shape := ⟨3, ![1, 4096, 29696]⟩
abbrev S1x4096x4096 : Shape := ⟨3, ![1, 4096, 4096]⟩
abbrev S_ : Shape := ⟨0, ![]⟩
abbrev S8x128x128 : Shape := ⟨3, ![8, 128, 128]⟩
abbrev S8x128 : Shape := ⟨2, ![8, 128]⟩
abbrev S4096 : Shape := ⟨1, ![4096]⟩
abbrev S1x4096x1 : Shape := ⟨3, ![1, 4096, 1]⟩
abbrev S1x1x4096 : Shape := ⟨3, ![1, 1, 4096]⟩
abbrev S1x32x128x8x512 : Shape := ⟨5, ![1, 32, 128, 8, 512]⟩
abbrev S128x128 : Shape := ⟨2, ![128, 128]⟩
abbrev S1x128x128 : Shape := ⟨3, ![1, 128, 128]⟩
abbrev S8x1x32x512x128 : Shape := ⟨5, ![8, 1, 32, 512, 128]⟩
abbrev S128x8 : Shape := ⟨2, ![128, 8]⟩
abbrev S128x8x1 : Shape := ⟨3, ![128, 8, 1]⟩
abbrev S1x1x128x8x1 : Shape := ⟨5, ![1, 1, 128, 8, 1]⟩
abbrev S1x128x8 : Shape := ⟨3, ![1, 128, 8]⟩
abbrev S4096x12288 : Shape := ⟨2, ![4096, 12288]⟩
abbrev S8x128x1 : Shape := ⟨3, ![8, 128, 1]⟩

abbrev nBuf : Space → Nat
  | .hbm => 258
  | .vmem => 0
  | .smem => 0
  | _ => 0

abbrev hbmTy0_0 (i : Nat) : BufTy := match i % 128 with
  | 0 => ⟨S4096x29696, .bf16⟩
  | 1 => ⟨S1x8x128x128, .f32⟩
  | 2 => ⟨S1x8x128, .f32⟩
  | 3 => ⟨S1x4096, .f32⟩
  | 4 => ⟨S1x4096, .f32⟩
  | 5 => ⟨S4096x4096, .f32⟩
  | 6 => ⟨S4096x29696, .f32⟩
  | 7 => ⟨S1x4096x29696, .f32⟩
  | 8 => ⟨S1x4096x4096, .f32⟩
  | 9 => ⟨S1x4096x4096, .f32⟩
  | 10 => ⟨S1x4096x4096, .f32⟩
  | 11 => ⟨S_, .f32⟩
  | 12 => ⟨S_, .f32⟩
  | 13 => ⟨S_, .f32⟩
  | 14 => ⟨S1x4096x4096, .f32⟩
  | 15 => ⟨S1x4096x4096, .f32⟩
  | 16 => ⟨S1x4096x4096, .f32⟩
  | 17 => ⟨S_, .f32⟩
  | 18 => ⟨S1x4096x4096, .f32⟩
  | 19 => ⟨S1x4096x4096, .f32⟩
  | 20 => ⟨S1x4096x4096, .f32⟩
  | 21 => ⟨S1x4096x4096, .f32⟩
  | 22 => ⟨S1x4096x4096, .f32⟩
  | 23 => ⟨S_, .f32⟩
  | 24 => ⟨S1x4096x4096, .f32⟩
  | 25 => ⟨S1x4096x4096, .f32⟩
  | 26 => ⟨S1x4096x4096, .f32⟩
  | 27 => ⟨S_, .f32⟩
  | 28 => ⟨S1x4096x4096, .f32⟩
  | 29 => ⟨S1x4096x4096, .f32⟩
  | 30 => ⟨S_, .f32⟩
  | 31 => ⟨S1x4096x4096, .f32⟩
  | 32 => ⟨S1x4096x4096, .f32⟩
  | 33 => ⟨S1x4096x4096, .f32⟩
  | 34 => ⟨S_, .f32⟩
  | 35 => ⟨S1x4096x4096, .f32⟩
  | 36 => ⟨S1x4096x4096, .f32⟩
  | 37 => ⟨S_, .f32⟩
  | 38 => ⟨S1x4096x4096, .f32⟩
  | 39 => ⟨S1x4096x4096, .f32⟩
  | 40 => ⟨S1x4096x4096, .f32⟩
  | 41 => ⟨S_, .f32⟩
  | 42 => ⟨S_, .f32⟩
  | 43 => ⟨S_, .f32⟩
  | 44 => ⟨S1x4096x4096, .f32⟩
  | 45 => ⟨S1x4096x4096, .f32⟩
  | 46 => ⟨S1x4096x4096, .f32⟩
  | 47 => ⟨S_, .f32⟩
  | 48 => ⟨S1x4096x4096, .f32⟩
  | 49 => ⟨S1x4096x4096, .f32⟩
  | 50 => ⟨S1x4096x4096, .f32⟩
  | 51 => ⟨S1x4096x4096, .f32⟩
  | 52 => ⟨S1x4096x4096, .f32⟩
  | 53 => ⟨S_, .f32⟩
  | 54 => ⟨S1x4096x4096, .f32⟩
  | 55 => ⟨S1x4096x4096, .f32⟩
  | 56 => ⟨S1x4096x4096, .f32⟩
  | 57 => ⟨S_, .f32⟩
  | 58 => ⟨S1x4096x4096, .f32⟩
  | 59 => ⟨S1x4096x4096, .f32⟩
  | 60 => ⟨S_, .f32⟩
  | 61 => ⟨S1x4096x4096, .f32⟩
  | 62 => ⟨S1x4096x4096, .f32⟩
  | 63 => ⟨S1x4096x4096, .f32⟩
  | 64 => ⟨S_, .f32⟩
  | 65 => ⟨S1x4096x4096, .f32⟩
  | 66 => ⟨S1x4096x4096, .f32⟩
  | 67 => ⟨S_, .f32⟩
  | 68 => ⟨S1x4096x4096, .f32⟩
  | 69 => ⟨S1x4096x4096, .f32⟩
  | 70 => ⟨S1x4096x4096, .f32⟩
  | 71 => ⟨S8x128x128, .f32⟩
  | 72 => ⟨S8x128, .f32⟩
  | 73 => ⟨S4096, .f32⟩
  | 74 => ⟨S4096, .f32⟩
  | 75 => ⟨S_, .f32⟩
  | 76 => ⟨S1x4096, .f32⟩
  | 77 => ⟨S1x4096x1, .f32⟩
  | 78 => ⟨S_, .f32⟩
  | 79 => ⟨S1x4096x1, .f32⟩
  | 80 => ⟨S1x4096x1, .f32⟩
  | 81 => ⟨S1x4096x4096, .f32⟩
  | 82 => ⟨S1x4096x4096, .f32⟩
  | 83 => ⟨S1x4096x4096, .f32⟩
  | 84 => ⟨S_, .f32⟩
  | 85 => ⟨S1x4096, .f32⟩
  | 86 => ⟨S1x4096x1, .f32⟩
  | 87 => ⟨S_, .f32⟩
  | 88 => ⟨S1x4096x1, .f32⟩
  | 89 => ⟨S1x4096x1, .f32⟩
  | 90 => ⟨S_, .f32⟩
  | 91 => ⟨S1x4096x1, .f32⟩
  | 92 => ⟨S1x4096x1, .f32⟩
  | 93 => ⟨S1x4096x1, .f32⟩
  | 94 => ⟨S1x4096x1, .f32⟩
  | 95 => ⟨S_, .f32⟩
  | 96 => ⟨S1x4096x1, .f32⟩
  | 97 => ⟨S1x4096x1, .f32⟩
  | 98 => ⟨S1x4096x4096, .f32⟩
  | 99 => ⟨S1x4096x4096, .f32⟩
  | 100 => ⟨S1x1x4096, .f32⟩
  | 101 => ⟨S1x4096x4096, .f32⟩
  | 102 => ⟨S1x4096x4096, .f32⟩
  | 103 => ⟨S1x1x4096, .f32⟩
  | 104 => ⟨S1x4096x4096, .f32⟩
  | 105 => ⟨S1x4096x4096, .f32⟩
  | 106 => ⟨S1x32x128x8x512, .f32⟩
  | 107 => ⟨S_, .i1⟩
  | 108 => ⟨S128x128, .i1⟩
  | 109 => ⟨S128x128, .i32⟩
  | 110 => ⟨S_, .i32⟩
  | 111 => ⟨S128x128, .i32⟩
  | 112 => ⟨S128x128, .i32⟩
  | 113 => ⟨S128x128, .i32⟩
  | 114 => ⟨S128x128, .i1⟩
  | 115 => ⟨S_, .i1⟩
  | 116 => ⟨S128x128, .i1⟩
  | 117 => ⟨S128x128, .i1⟩
  | 118 => ⟨S1x128x128, .i1⟩
  | 119 => ⟨S_, .f32⟩
  | 120 => ⟨S8x128x128, .f32⟩
  | 121 => ⟨S8x128x128, .i1⟩
  | 122 => ⟨S8x128x128, .f32⟩
  | 123 => ⟨S_, .f32⟩
  | 124 => ⟨S8x128x128, .f32⟩
  | 125 => ⟨S8x1x32x512x128, .f32⟩
  | 126 => ⟨S1x32x128x8x512, .f32⟩
  | 127 => ⟨S128x8, .f32⟩
  | _ => ⟨S4096x29696, .bf16⟩

abbrev hbmTy0_1 (i : Nat) : BufTy := match i % 128 with
  | 0 => ⟨S128x8x1, .f32⟩
  | 1 => ⟨S1x1x128x8x1, .f32⟩
  | 2 => ⟨S1x32x128x8x512, .f32⟩
  | 3 => ⟨S1x32x128x8x512, .f32⟩
  | 4 => ⟨S1x4096x4096, .f32⟩
  | 5 => ⟨S1x4096x4096, .f32⟩
  | 6 => ⟨S1x4096x4096, .f32⟩
  | 7 => ⟨S1x4096x4096, .f32⟩
  | 8 => ⟨S_, .f32⟩
  | 9 => ⟨S1x4096x4096, .f32⟩
  | 10 => ⟨S1x4096x4096, .f32⟩
  | 11 => ⟨S_, .f32⟩
  | 12 => ⟨S1x4096x4096, .f32⟩
  | 13 => ⟨S1x4096x4096, .f32⟩
  | 14 => ⟨S_, .f32⟩
  | 15 => ⟨S1x4096x4096, .f32⟩
  | 16 => ⟨S1x4096x4096, .f32⟩
  | 17 => ⟨S1x4096x4096, .f32⟩
  | 18 => ⟨S1x4096x4096, .f32⟩
  | 19 => ⟨S1x4096x4096, .f32⟩
  | 20 => ⟨S1x4096x4096, .f32⟩
  | 21 => ⟨S1x4096x4096, .f32⟩
  | 22 => ⟨S1x4096x4096, .f32⟩
  | 23 => ⟨S1x4096x4096, .f32⟩
  | 24 => ⟨S1x4096x4096, .f32⟩
  | 25 => ⟨S1x4096x4096, .f32⟩
  | 26 => ⟨S1x4096x4096, .f32⟩
  | 27 => ⟨S1x4096x4096, .f32⟩
  | 28 => ⟨S1x4096x4096, .f32⟩
  | 29 => ⟨S1x32x128x8x512, .f32⟩
  | 30 => ⟨S_, .f32⟩
  | 31 => ⟨S1x128x8, .f32⟩
  | 32 => ⟨S1x1x128x8x1, .f32⟩
  | 33 => ⟨S_, .f32⟩
  | 34 => ⟨S128x8, .f32⟩
  | 35 => ⟨S128x8x1, .f32⟩
  | 36 => ⟨S_, .f32⟩
  | 37 => ⟨S128x8, .f32⟩
  | 38 => ⟨S8x128, .f32⟩
  | 39 => ⟨S8x1x32x512x128, .f32⟩
  | 40 => ⟨S8x128x128, .f32⟩
  | 41 => ⟨S8x1x32x512x128, .f32⟩
  | 42 => ⟨S1x32x128x8x512, .f32⟩
  | 43 => ⟨S_, .f32⟩
  | 44 => ⟨S8x128x128, .f32⟩
  | 45 => ⟨S8x128x128, .f32⟩
  | 46 => ⟨S1x4096x4096, .f32⟩
  | 47 => ⟨S_, .f32⟩
  | 48 => ⟨S1x4096, .f32⟩
  | 49 => ⟨S1x1x4096, .f32⟩
  | 50 => ⟨S_, .f32⟩
  | 51 => ⟨S4096, .f32⟩
  | 52 => ⟨S1x4096x4096, .f32⟩
  | 53 => ⟨S_, .f32⟩
  | 54 => ⟨S1x4096, .f32⟩
  | 55 => ⟨S1x1x4096, .f32⟩
  | 56 => ⟨S1x4096x4096, .f32⟩
  | 57 => ⟨S1x4096x4096, .f32⟩
  | 58 => ⟨S_, .f32⟩
  | 59 => ⟨S4096, .f32⟩
  | 60 => ⟨S1x4096x4096, .f32⟩
  | 61 => ⟨S_, .f32⟩
  | 62 => ⟨S1x4096, .f32⟩
  | 63 => ⟨S1x4096x1, .f32⟩
  | 64 => ⟨S1x4096x4096, .f32⟩
  | 65 => ⟨S1x4096x4096, .f32⟩
  | 66 => ⟨S1x4096x1, .f32⟩
  | 67 => ⟨S_, .f32⟩
  | 68 => ⟨S1x4096x1, .f32⟩
  | 69 => ⟨S1x4096x1, .f32⟩
  | 70 => ⟨S_, .f32⟩
  | 71 => ⟨S4096, .f32⟩
  | 72 => ⟨S1x4096, .f32⟩
  | 73 => ⟨S1x4096x4096, .f32⟩
  | 74 => ⟨S1x4096x4096, .f32⟩
  | 75 => ⟨S1x4096x4096, .f32⟩
  | 76 => ⟨S1x4096x4096, .f32⟩
  | 77 => ⟨S1x4096x4096, .f32⟩
  | 78 => ⟨S1x4096x4096, .f32⟩
  | 79 => ⟨S_, .f32⟩
  | 80 => ⟨S1x4096, .f32⟩
  | 81 => ⟨S1x4096x1, .f32⟩
  | 82 => ⟨S_, .f32⟩
  | 83 => ⟨S1x4096x1, .f32⟩
  | 84 => ⟨S1x4096x1, .f32⟩
  | 85 => ⟨S_, .f32⟩
  | 86 => ⟨S4096, .f32⟩
  | 87 => ⟨S1x4096, .f32⟩
  | 88 => ⟨S1x4096x4096, .f32⟩
  | 89 => ⟨S1x4096x4096, .f32⟩
  | 90 => ⟨S1x4096, .f32⟩
  | 91 => ⟨S1x4096, .f32⟩
  | 92 => ⟨S1x8x128, .f32⟩
  | 93 => ⟨S1x8x128x128, .f32⟩
  | 94 => ⟨S1x4096x4096, .f32⟩
  | 95 => ⟨S1x4096x4096, .f32⟩
  | 96 => ⟨S_, .f32⟩
  | 97 => ⟨S1x4096x4096, .f32⟩
  | 98 => ⟨S1x4096x4096, .f32⟩
  | 99 => ⟨S1x4096x4096, .f32⟩
  | 100 => ⟨S_, .f32⟩
  | 101 => ⟨S1x4096x4096, .f32⟩
  | 102 => ⟨S1x4096x4096, .f32⟩
  | 103 => ⟨S1x4096x4096, .f32⟩
  | 104 => ⟨S1x4096x4096, .f32⟩
  | 105 => ⟨S1x4096x4096, .f32⟩
  | 106 => ⟨S1x4096x4096, .f32⟩
  | 107 => ⟨S1x4096x4096, .f32⟩
  | 108 => ⟨S1x4096x4096, .f32⟩
  | 109 => ⟨S1x4096x4096, .f32⟩
  | 110 => ⟨S_, .f32⟩
  | 111 => ⟨S1x4096x4096, .f32⟩
  | 112 => ⟨S1x4096x4096, .f32⟩
  | 113 => ⟨S1x4096x4096, .f32⟩
  | 114 => ⟨S_, .f32⟩
  | 115 => ⟨S1x4096x4096, .f32⟩
  | 116 => ⟨S1x4096x4096, .f32⟩
  | 117 => ⟨S1x4096x4096, .f32⟩
  | 118 => ⟨S1x4096x4096, .f32⟩
  | 119 => ⟨S1x4096x4096, .f32⟩
  | 120 => ⟨S1x4096x4096, .f32⟩
  | 121 => ⟨S1x4096x4096, .f32⟩
  | 122 => ⟨S4096x4096, .f32⟩
  | 123 => ⟨S4096x4096, .f32⟩
  | 124 => ⟨S4096x4096, .f32⟩
  | 125 => ⟨S4096x12288, .f32⟩
  | 126 => ⟨S4096x12288, .bf16⟩
  | 127 => ⟨S8x128x128, .f32⟩
  | _ => ⟨S4096x29696, .bf16⟩

abbrev hbmTy0_2 (i : Nat) : BufTy := match i % 128 with
  | 0 => ⟨S8x128, .f32⟩
  | 1 => ⟨S8x128x1, .f32⟩
  | _ => ⟨S4096x29696, .bf16⟩

abbrev hbmTy (i : Nat) : BufTy := match i / 128 with
  | 0 => hbmTy0_0 i
  | 1 => hbmTy0_1 i
  | 2 => hbmTy0_2 i
  | _ => ⟨S4096x29696, .bf16⟩

abbrev bufTy : (tb : Table) → Fin (tcTables nBuf tb) → BufTy
  | .hbm, ⟨i, _⟩ => hbmTy i
  | _, _ => ⟨S4096x29696, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_v22 : Ref sig .tc := ⟨.hbm, 35, rfl⟩
abbrev main_v23 : Ref sig .tc := ⟨.hbm, 36, rfl⟩
abbrev main_cst_6 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_7 : Ref sig .tc := ⟨.hbm, 41, rfl⟩
abbrev main_cst_8 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_cst_9 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_10 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_11 : Ref sig .tc := ⟨.hbm, 57, rfl⟩
abbrev main_v39 : Ref sig .tc := ⟨.hbm, 58, rfl⟩
abbrev main_v40 : Ref sig .tc := ⟨.hbm, 59, rfl⟩
abbrev main_cst_12 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_cst_13 : Ref sig .tc := ⟨.hbm, 64, rfl⟩
abbrev main_v44 : Ref sig .tc := ⟨.hbm, 65, rfl⟩
abbrev main_v45 : Ref sig .tc := ⟨.hbm, 66, rfl⟩
abbrev main_cst_14 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_15 : Ref sig .tc := ⟨.hbm, 75, rfl⟩
abbrev main_v53 : Ref sig .tc := ⟨.hbm, 76, rfl⟩
abbrev main_v54 : Ref sig .tc := ⟨.hbm, 77, rfl⟩
abbrev main_cst_16 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_17 : Ref sig .tc := ⟨.hbm, 84, rfl⟩
abbrev main_v60 : Ref sig .tc := ⟨.hbm, 85, rfl⟩
abbrev main_v61 : Ref sig .tc := ⟨.hbm, 86, rfl⟩
abbrev main_cst_18 : Ref sig .tc := ⟨.hbm, 87, rfl⟩
abbrev main_v62 : Ref sig .tc := ⟨.hbm, 88, rfl⟩
abbrev main_v63 : Ref sig .tc := ⟨.hbm, 89, rfl⟩
abbrev main_cst_19 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_20 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_c : Ref sig .tc := ⟨.hbm, 107, rfl⟩
abbrev main_v79 : Ref sig .tc := ⟨.hbm, 108, rfl⟩
abbrev main_call0_v0 : Ref sig .tc := ⟨.hbm, 109, rfl⟩
abbrev main_call0_c : Ref sig .tc := ⟨.hbm, 110, rfl⟩
abbrev main_call0_v1 : Ref sig .tc := ⟨.hbm, 111, rfl⟩
abbrev main_call0_v2 : Ref sig .tc := ⟨.hbm, 112, rfl⟩
abbrev main_call0_v3 : Ref sig .tc := ⟨.hbm, 113, rfl⟩
abbrev main_call0_v4 : Ref sig .tc := ⟨.hbm, 114, rfl⟩
abbrev main_call0_c_0 : Ref sig .tc := ⟨.hbm, 115, rfl⟩
abbrev main_call0_v5 : Ref sig .tc := ⟨.hbm, 116, rfl⟩
abbrev main_v80 : Ref sig .tc := ⟨.hbm, 117, rfl⟩
abbrev main_v81 : Ref sig .tc := ⟨.hbm, 118, rfl⟩
abbrev main_cst_21 : Ref sig .tc := ⟨.hbm, 119, rfl⟩
abbrev main_v82 : Ref sig .tc := ⟨.hbm, 120, rfl⟩
abbrev main_v83_1 : Ref sig .tc := ⟨.hbm, 121, rfl⟩
abbrev main_v83_0 : Ref sig .tc := ⟨.hbm, 122, rfl⟩
abbrev main_call1_cst : Ref sig .tc := ⟨.hbm, 123, rfl⟩
abbrev main_v83_2 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_call2_v0 : Ref sig .tc := ⟨.hbm, 134, rfl⟩
abbrev main_call2_v1 : Ref sig .tc := ⟨.hbm, 135, rfl⟩
abbrev main_call2_cst : Ref sig .tc := ⟨.hbm, 136, rfl⟩
abbrev main_call2_v2 : Ref sig .tc := ⟨.hbm, 137, rfl⟩
abbrev main_call2_v3 : Ref sig .tc := ⟨.hbm, 138, rfl⟩
abbrev main_call2_cst_0 : Ref sig .tc := ⟨.hbm, 139, rfl⟩
abbrev main_call2_v4 : Ref sig .tc := ⟨.hbm, 140, rfl⟩
abbrev main_v93_2 : Ref sig .tc := ⟨.hbm, 141, rfl⟩
abbrev main_call2_cst_1 : Ref sig .tc := ⟨.hbm, 142, rfl⟩
abbrev main_call2_v6 : Ref sig .tc := ⟨.hbm, 143, rfl⟩
abbrev main_call2_v7 : Ref sig .tc := ⟨.hbm, 144, rfl⟩
abbrev main_v93_1 : Ref sig .tc := ⟨.hbm, 145, rfl⟩
abbrev main_v93_0 : Ref sig .tc := ⟨.hbm, 146, rfl⟩
abbrev main_v94 : Ref sig .tc := ⟨.hbm, 147, rfl⟩
abbrev main_v95 : Ref sig .tc := ⟨.hbm, 148, rfl⟩
abbrev main_v96 : Ref sig .tc := ⟨.hbm, 149, rfl⟩
abbrev main_v97 : Ref sig .tc := ⟨.hbm, 150, rfl⟩
abbrev main_call3_v0 : Ref sig .tc := ⟨.hbm, 151, rfl⟩
abbrev main_call3_v1 : Ref sig .tc := ⟨.hbm, 152, rfl⟩
abbrev main_call3_v2 : Ref sig .tc := ⟨.hbm, 153, rfl⟩
abbrev main_v98 : Ref sig .tc := ⟨.hbm, 154, rfl⟩
abbrev main_v99 : Ref sig .tc := ⟨.hbm, 155, rfl⟩
abbrev main_v100 : Ref sig .tc := ⟨.hbm, 156, rfl⟩
abbrev main_v101 : Ref sig .tc := ⟨.hbm, 157, rfl⟩
abbrev main_cst_22 : Ref sig .tc := ⟨.hbm, 158, rfl⟩
abbrev main_v102 : Ref sig .tc := ⟨.hbm, 159, rfl⟩
abbrev main_v103 : Ref sig .tc := ⟨.hbm, 160, rfl⟩
abbrev main_cst_23 : Ref sig .tc := ⟨.hbm, 161, rfl⟩
abbrev main_v104 : Ref sig .tc := ⟨.hbm, 162, rfl⟩
abbrev main_v105 : Ref sig .tc := ⟨.hbm, 163, rfl⟩
abbrev main_cst_24 : Ref sig .tc := ⟨.hbm, 164, rfl⟩
abbrev main_v106 : Ref sig .tc := ⟨.hbm, 165, rfl⟩
abbrev main_v107 : Ref sig .tc := ⟨.hbm, 166, rfl⟩
abbrev main_v108 : Ref sig .tc := ⟨.hbm, 167, rfl⟩
abbrev main_v109 : Ref sig .tc := ⟨.hbm, 168, rfl⟩
abbrev main_v110 : Ref sig .tc := ⟨.hbm, 169, rfl⟩
abbrev main_v111 : Ref sig .tc := ⟨.hbm, 170, rfl⟩
abbrev main_call4_cst : Ref sig .tc := ⟨.hbm, 171, rfl⟩
abbrev main_call4_v0 : Ref sig .tc := ⟨.hbm, 172, rfl⟩
abbrev main_v112 : Ref sig .tc := ⟨.hbm, 173, rfl⟩
abbrev main_v113 : Ref sig .tc := ⟨.hbm, 174, rfl⟩
abbrev main_cst_25 : Ref sig .tc := ⟨.hbm, 175, rfl⟩
abbrev main_v114 : Ref sig .tc := ⟨.hbm, 176, rfl⟩
abbrev main_v115 : Ref sig .tc := ⟨.hbm, 177, rfl⟩
abbrev main_cst_26 : Ref sig .tc := ⟨.hbm, 178, rfl⟩
abbrev main_v116 : Ref sig .tc := ⟨.hbm, 179, rfl⟩
abbrev main_v117 : Ref sig .tc := ⟨.hbm, 180, rfl⟩
abbrev main_cst_27 : Ref sig .tc := ⟨.hbm, 181, rfl⟩
abbrev main_v118 : Ref sig .tc := ⟨.hbm, 182, rfl⟩
abbrev main_v119 : Ref sig .tc := ⟨.hbm, 183, rfl⟩
abbrev main_v120 : Ref sig .tc := ⟨.hbm, 184, rfl⟩
abbrev main_v121 : Ref sig .tc := ⟨.hbm, 185, rfl⟩
abbrev main_cst_28 : Ref sig .tc := ⟨.hbm, 186, rfl⟩
abbrev main_v122 : Ref sig .tc := ⟨.hbm, 187, rfl⟩
abbrev main_v123 : Ref sig .tc := ⟨.hbm, 188, rfl⟩
abbrev main_cst_29 : Ref sig .tc := ⟨.hbm, 189, rfl⟩
abbrev main_v124 : Ref sig .tc := ⟨.hbm, 190, rfl⟩
abbrev main_v125 : Ref sig .tc := ⟨.hbm, 191, rfl⟩
abbrev main_v126 : Ref sig .tc := ⟨.hbm, 192, rfl⟩
abbrev main_v127 : Ref sig .tc := ⟨.hbm, 193, rfl⟩
abbrev main_v128 : Ref sig .tc := ⟨.hbm, 194, rfl⟩
abbrev main_cst_30 : Ref sig .tc := ⟨.hbm, 195, rfl⟩
abbrev main_v129 : Ref sig .tc := ⟨.hbm, 196, rfl⟩
abbrev main_v130 : Ref sig .tc := ⟨.hbm, 197, rfl⟩
abbrev main_cst_31 : Ref sig .tc := ⟨.hbm, 198, rfl⟩
abbrev main_v131 : Ref sig .tc := ⟨.hbm, 199, rfl⟩
abbrev main_v132 : Ref sig .tc := ⟨.hbm, 200, rfl⟩
abbrev main_v133 : Ref sig .tc := ⟨.hbm, 201, rfl⟩
abbrev main_v134 : Ref sig .tc := ⟨.hbm, 202, rfl⟩
abbrev main_v135 : Ref sig .tc := ⟨.hbm, 203, rfl⟩
abbrev main_v136 : Ref sig .tc := ⟨.hbm, 204, rfl⟩
abbrev main_v137 : Ref sig .tc := ⟨.hbm, 205, rfl⟩
abbrev main_v138 : Ref sig .tc := ⟨.hbm, 206, rfl⟩
abbrev main_cst_32 : Ref sig .tc := ⟨.hbm, 207, rfl⟩
abbrev main_v139 : Ref sig .tc := ⟨.hbm, 208, rfl⟩
abbrev main_v140 : Ref sig .tc := ⟨.hbm, 209, rfl⟩
abbrev main_cst_33 : Ref sig .tc := ⟨.hbm, 210, rfl⟩
abbrev main_v141 : Ref sig .tc := ⟨.hbm, 211, rfl⟩
abbrev main_v142 : Ref sig .tc := ⟨.hbm, 212, rfl⟩
abbrev main_cst_34 : Ref sig .tc := ⟨.hbm, 213, rfl⟩
abbrev main_v143 : Ref sig .tc := ⟨.hbm, 214, rfl⟩
abbrev main_v144 : Ref sig .tc := ⟨.hbm, 215, rfl⟩
abbrev main_v145 : Ref sig .tc := ⟨.hbm, 216, rfl⟩
abbrev main_v146 : Ref sig .tc := ⟨.hbm, 217, rfl⟩
abbrev main_v147 : Ref sig .tc := ⟨.hbm, 218, rfl⟩
abbrev main_v148 : Ref sig .tc := ⟨.hbm, 219, rfl⟩
abbrev main_v149 : Ref sig .tc := ⟨.hbm, 220, rfl⟩
abbrev main_v150 : Ref sig .tc := ⟨.hbm, 221, rfl⟩
abbrev main_v151 : Ref sig .tc := ⟨.hbm, 222, rfl⟩
abbrev main_v152 : Ref sig .tc := ⟨.hbm, 223, rfl⟩
abbrev main_cst_35 : Ref sig .tc := ⟨.hbm, 224, rfl⟩
abbrev main_v153 : Ref sig .tc := ⟨.hbm, 225, rfl⟩
abbrev main_v154 : Ref sig .tc := ⟨.hbm, 226, rfl⟩
abbrev main_v155 : Ref sig .tc := ⟨.hbm, 227, rfl⟩
abbrev main_cst_36 : Ref sig .tc := ⟨.hbm, 228, rfl⟩
abbrev main_v156 : Ref sig .tc := ⟨.hbm, 229, rfl⟩
abbrev main_v157 : Ref sig .tc := ⟨.hbm, 230, rfl⟩
abbrev main_v158 : Ref sig .tc := ⟨.hbm, 231, rfl⟩
abbrev main_v159 : Ref sig .tc := ⟨.hbm, 232, rfl⟩
abbrev main_v160 : Ref sig .tc := ⟨.hbm, 233, rfl⟩
abbrev main_v161 : Ref sig .tc := ⟨.hbm, 234, rfl⟩
abbrev main_v162 : Ref sig .tc := ⟨.hbm, 235, rfl⟩
abbrev main_v163 : Ref sig .tc := ⟨.hbm, 236, rfl⟩
abbrev main_v164 : Ref sig .tc := ⟨.hbm, 237, rfl⟩
abbrev main_cst_37 : Ref sig .tc := ⟨.hbm, 238, rfl⟩
abbrev main_v165 : Ref sig .tc := ⟨.hbm, 239, rfl⟩
abbrev main_v166 : Ref sig .tc := ⟨.hbm, 240, rfl⟩
abbrev main_v167 : Ref sig .tc := ⟨.hbm, 241, rfl⟩
abbrev main_cst_38 : Ref sig .tc := ⟨.hbm, 242, rfl⟩
abbrev main_v168 : Ref sig .tc := ⟨.hbm, 243, rfl⟩
abbrev main_v169 : Ref sig .tc := ⟨.hbm, 244, rfl⟩
abbrev main_v170 : Ref sig .tc := ⟨.hbm, 245, rfl⟩
abbrev main_v171 : Ref sig .tc := ⟨.hbm, 246, rfl⟩
abbrev main_v172 : Ref sig .tc := ⟨.hbm, 247, rfl⟩
abbrev main_v173 : Ref sig .tc := ⟨.hbm, 248, rfl⟩
abbrev main_v174 : Ref sig .tc := ⟨.hbm, 249, rfl⟩
abbrev main_v175 : Ref sig .tc := ⟨.hbm, 250, rfl⟩
abbrev main_v176 : Ref sig .tc := ⟨.hbm, 251, rfl⟩
abbrev main_v177 : Ref sig .tc := ⟨.hbm, 252, rfl⟩
abbrev main_v178 : Ref sig .tc := ⟨.hbm, 253, rfl⟩
abbrev main_v179 : Ref sig .tc := ⟨.hbm, 254, rfl⟩
abbrev main_v180 : Ref sig .tc := ⟨.hbm, 255, rfl⟩
abbrev main_v181 : Ref sig .tc := ⟨.hbm, 256, rfl⟩
abbrev main_v182 : Ref sig .tc := ⟨.hbm, 257, rfl⟩

abbrev nD : Nat := 1
abbrev τ : Topo := Topo.v7x

variable {F : FTy → Type} [FloatOps F]
-- ==== DAct.lean ====
abbrev S4096x4096 : Shape := ⟨2, ![4096, 4096]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DActReferenceIdeal.lean ====
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S1x4096x4096, .f32⟩
  | .hbm, ⟨4, _⟩ => ⟨S4096x4096, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S1x4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== DWeight.lean ====
abbrev S4096x4096 : Shape := ⟨2, ![4096, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWeightReferenceIdeal.lean ====
abbrev S4096x4096 : Shape := ⟨2, ![4096, 4096]⟩
abbrev S_ : Shape := ⟨0, ![]⟩
abbrev S1x4096x4096 : Shape := ⟨3, ![1, 4096, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S_, .f32⟩
  | .hbm, ⟨3, _⟩ => ⟨S4096x4096, .f32⟩
  | .hbm, ⟨4, _⟩ => ⟨S4096x4096, .f32⟩
  | .hbm, ⟨5, _⟩ => ⟨S1x4096x4096, .f32⟩
  | .hbm, ⟨6, _⟩ => ⟨S1x4096x4096, .f32⟩
  | .hbm, ⟨7, _⟩ => ⟨S4096x4096, .f32⟩
  | .hbm, ⟨8, _⟩ => ⟨S1x4096x4096, .f32⟩
  | .hbm, ⟨9, _⟩ => ⟨S4096x4096, .f32⟩
  | .hbm, ⟨10, _⟩ => ⟨S4096x4096, .f32⟩
  | .hbm, ⟨11, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== OutProj.lean ====
abbrev S4096x4096 : Shape := ⟨2, ![4096, 4096]⟩
abbrev S1024x2048 : Shape := ⟨2, ![1024, 2048]⟩
abbrev S2048x1024 : Shape := ⟨2, ![2048, 1024]⟩
abbrev S1024x1024 : Shape := ⟨2, ![1024, 1024]⟩

abbrev nBuf : Space → Nat
  | .hbm => 4
  | .vmem => 9
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x1024, .bf16⟩
  | .local _ .vmem, ⟨3, _⟩ => ⟨S2048x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | .local _ .vmem, ⟨7, _⟩ => ⟨S1024x1024, .f32⟩
  | .local _ .vmem, ⟨8, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_3 : BitVec 32 := 1#32
  let v8 : BitVec 1 := Scalar.cmpi .eq arg2 c1_i32_3
  let v9 : BitVec 32 := Scalar.extui v8
  let c0_i32_4 : BitVec 32 := 0#32
  let v10 : BitVec 1 := Scalar.cmpi .ne v9 c0_i32_4
  v10

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== OutProjReferenceIdeal.lean ====
abbrev S4096x4096 : Shape := ⟨2, ![4096, 4096]⟩
abbrev S1x4096x4096 : Shape := ⟨3, ![1, 4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S1x4096x4096, .f32⟩
  | .hbm, ⟨4, _⟩ => ⟨S4096x4096, .f32⟩
  | .hbm, ⟨5, _⟩ => ⟨S1x4096x4096, .f32⟩
  | .hbm, ⟨6, _⟩ => ⟨S4096x4096, .f32⟩
  | .hbm, ⟨7, _⟩ => ⟨S1x4096x4096, .f32⟩
  | .hbm, ⟨8, _⟩ => ⟨S1x4096x4096, .f32⟩
  | .hbm, ⟨9, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Merge.lean ====
abbrev S4096x29696 : Shape := ⟨2, ![4096, 29696]⟩
abbrev S4096x4096 : Shape := ⟨2, ![4096, 4096]⟩
abbrev S4096x8192 : Shape := ⟨2, ![4096, 8192]⟩
abbrev S128x1024 : Shape := ⟨2, ![128, 1024]⟩
abbrev S128x4096 : Shape := ⟨2, ![128, 4096]⟩
abbrev S128x8192 : Shape := ⟨2, ![128, 8192]⟩

abbrev nBuf : Space → Nat
  | .hbm => 7
  | .vmem => 28
  | .smem => 0
  | _ => 0

abbrev bufTy : (tb : Table) → Fin (tcTables nBuf tb) → BufTy
  | .hbm, ⟨0, _⟩ => ⟨S4096x29696, .bf16⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x4096, .bf16⟩
  | .hbm, ⟨5, _⟩ => ⟨S4096x4096, .bf16⟩
  | .hbm, ⟨6, _⟩ => ⟨S4096x8192, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S128x1024, .bf16⟩
  | .local _ .vmem, ⟨5, _⟩ => ⟨S128x1024, .bf16⟩
  | .local _ .vmem, ⟨6, _⟩ => ⟨S128x1024, .bf16⟩
  | .local _ .vmem, ⟨7, _⟩ => ⟨S128x1024, .bf16⟩
  | .local _ .vmem, ⟨8, _⟩ => ⟨S128x1024, .bf16⟩
  | .local _ .vmem, ⟨9, _⟩ => ⟨S128x1024, .bf16⟩
  | .local _ .vmem, ⟨10, _⟩ => ⟨S128x1024, .bf16⟩
  | .local _ .vmem, ⟨11, _⟩ => ⟨S128x1024, .bf16⟩
  | .local _ .vmem, ⟨12, _⟩ => ⟨S128x1024, .bf16⟩
  | .local _ .vmem, ⟨13, _⟩ => ⟨S128x1024, .bf16⟩
  | .local _ .vmem, ⟨14, _⟩ => ⟨S128x1024, .bf16⟩
  | .local _ .vmem, ⟨15, _⟩ => ⟨S128x1024, .bf16⟩
  | .local _ .vmem, ⟨16, _⟩ => ⟨S128x4096, .f32⟩
  | .local _ .vmem, ⟨17, _⟩ => ⟨S128x4096, .f32⟩
  | .local _ .vmem, ⟨18, _⟩ => ⟨S128x4096, .f32⟩
  | .local _ .vmem, ⟨19, _⟩ => ⟨S128x4096, .f32⟩
  | .local _ .vmem, ⟨20, _⟩ => ⟨S128x4096, .f32⟩
  | .local _ .vmem, ⟨21, _⟩ => ⟨S128x4096, .f32⟩
  | .local _ .vmem, ⟨22, _⟩ => ⟨S128x4096, .bf16⟩
  | .local _ .vmem, ⟨23, _⟩ => ⟨S128x4096, .bf16⟩
  | .local _ .vmem, ⟨24, _⟩ => ⟨S128x4096, .bf16⟩
  | .local _ .vmem, ⟨25, _⟩ => ⟨S128x4096, .bf16⟩
  | .local _ .vmem, ⟨26, _⟩ => ⟨S128x8192, .bf16⟩
  | .local _ .vmem, ⟨27, _⟩ => ⟨S128x8192, .bf16⟩
  | _, _ => ⟨S4096x29696, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c21_i32 : BitVec 32 := 21#32
  let c0_i32 : BitVec 32 := 0#32
  ![arg0.toNat, c21_i32.toNat]

def cc0_transform_1 (i : grid0.Coords) : Fin 2 → Nat :=
  let arg0 : BitVec 32 := BitVec.ofNat 32 (i 0).val
  let c22_i32 : BitVec 32 := 22#32
  let c0_i32 : BitVec 32 := 0#32
  ![arg0.toNat, c22_i32.toNat]

def cc0_transform_2 (i : grid0.Coords) : Fin 2 → Nat :=
  let arg0 : BitVec 32 := BitVec.ofNat 32 (i 0).val
  let c23_i32 : BitVec 32 := 23#32
  let c0_i32 : BitVec 32 := 0#32
  ![arg0.toNat, c23_i32.toNat]

def cc0_transform_3 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_4 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_5 (i : grid0.Coords) : Fin 2 → Nat :=
  let arg0 : BitVec 32 := BitVec.ofNat 32 (i 0).val
  let c26_i32 : BitVec 32 := 26#32
  let c0_i32 : BitVec 32 := 0#32
  ![arg0.toNat, c26_i32.toNat]

def cc0_transform_6 (i : grid0.Coords) : Fin 2 → Nat :=
  let arg0 : BitVec 32 := BitVec.ofNat 32 (i 0).val
  let c27_i32 : BitVec 32 := 27#32
  let c0_i32 : BitVec 32 := 0#32
  ![arg0.toNat, c27_i32.toNat]

def cc0_transform_7 (i : grid0.Coords) : Fin 2 → Nat :=
  let arg0 : BitVec 32 := BitVec.ofNat 32 (i 0).val
  let c28_i32 : BitVec 32 := 28#32
  let c0_i32 : BitVec 32 := 0#32
  ![arg0.toNat, c28_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S128x4096 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S128x4096 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S128x4096 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x8192 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== MergeReferenceIdeal.lean ====
abbrev S4096x29696 : Shape := ⟨2, ![4096, 29696]⟩
abbrev S4096x4096 : Shape := ⟨2, ![4096, 4096]⟩
abbrev S1x4096x29696 : Shape := ⟨3, ![1, 4096, 29696]⟩
abbrev S1x4096x4096 : Shape := ⟨3, ![1, 4096, 4096]⟩
abbrev S_ : Shape := ⟨0, ![]⟩
abbrev S4096x8192 : Shape := ⟨2, ![4096, 8192]⟩

abbrev nBuf : Space → Nat
  | .hbm => 52
  | .vmem => 0
  | .smem => 0
  | _ => 0

abbrev bufTy : (tb : Table) → Fin (tcTables nBuf tb) → BufTy
  | .hbm, ⟨0, _⟩ => ⟨S4096x29696, .bf16⟩
  | .hbm, ⟨1, _⟩ => ⟨S4096x4096, .f32⟩
  | .hbm, ⟨2, _⟩ => ⟨S4096x4096, .f32⟩
  | .hbm, ⟨3, _⟩ => ⟨S4096x4096, .f32⟩
  | .hbm, ⟨4, _⟩ => ⟨S4096x29696, .f32⟩
  | .hbm, ⟨5, _⟩ => ⟨S1x4096x29696, .f32⟩
  | .hbm, ⟨6, _⟩ => ⟨S1x4096x4096, .f32⟩
  | .hbm, ⟨7, _⟩ => ⟨S1x4096x4096, .f32⟩
  | .hbm, ⟨8, _⟩ => ⟨S1x4096x4096, .f32⟩
  | .hbm, ⟨9, _⟩ => ⟨S1x4096x4096, .f32⟩
  | .hbm, ⟨10, _⟩ => ⟨S1x4096x4096, .f32⟩
  | .hbm, ⟨11, _⟩ => ⟨S1x4096x4096, .f32⟩
  | .hbm, ⟨12, _⟩ => ⟨S_, .f32⟩
  | .hbm, ⟨13, _⟩ => ⟨S1x4096x4096, .f32⟩
  | .hbm, ⟨14, _⟩ => ⟨S1x4096x4096, .f32⟩
  | .hbm, ⟨15, _⟩ => ⟨S_, .f32⟩
  | .hbm, ⟨16, _⟩ => ⟨S1x4096x4096, .f32⟩
  | .hbm, ⟨17, _⟩ => ⟨S1x4096x4096, .f32⟩
  | .hbm, ⟨18, _⟩ => ⟨S_, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S1x4096x4096, .f32⟩
  | .hbm, ⟨23, _⟩ => ⟨S1x4096x4096, .f32⟩
  | .hbm, ⟨24, _⟩ => ⟨S1x4096x4096, .f32⟩
  | .hbm, ⟨25, _⟩ => ⟨S_, .f32⟩
  | .hbm, ⟨26, _⟩ => ⟨S1x4096x4096, .f32⟩
  | .hbm, ⟨27, _⟩ => ⟨S1x4096x4096, .f32⟩
  | .hbm, ⟨28, _⟩ => ⟨S_, .f32⟩
  | .hbm, ⟨29, _⟩ => ⟨S1x4096x4096, .f32⟩
  | .hbm, ⟨30, _⟩ => ⟨S1x4096x4096, .f32⟩
  | .hbm, ⟨31, _⟩ => ⟨S_, .f32⟩
  | .hbm, ⟨32, _⟩ => ⟨S1x4096x4096, .f32⟩
  | .hbm, ⟨33, _⟩ => ⟨S1x4096x4096, .f32⟩
  | .hbm, ⟨34, _⟩ => ⟨S1x4096x4096, .f32⟩
  | .hbm, ⟨35, _⟩ => ⟨S1x4096x4096, .f32⟩
  | .hbm, ⟨36, _⟩ => ⟨S1x4096x4096, .f32⟩
  | .hbm, ⟨37, _⟩ => ⟨S1x4096x4096, .f32⟩
  | .hbm, ⟨38, _⟩ => ⟨S1x4096x4096, .f32⟩
  | .hbm, ⟨39, _⟩ => ⟨S1x4096x4096, .f32⟩
  | .hbm, ⟨40, _⟩ => ⟨S1x4096x4096, .f32⟩
  | .hbm, ⟨41, _⟩ => ⟨S1x4096x4096, .f32⟩
  | .hbm, ⟨42, _⟩ => ⟨S1x4096x4096, .f32⟩
  | .hbm, ⟨43, _⟩ => ⟨S1x4096x4096, .f32⟩
  | .hbm, ⟨44, _⟩ => ⟨S4096x4096, .f32⟩
  | .hbm, ⟨45, _⟩ => ⟨S4096x4096, .bf16⟩
  | .hbm, ⟨46, _⟩ => ⟨S4096x4096, .f32⟩
  | .hbm, ⟨47, _⟩ => ⟨S4096x4096, .bf16⟩
  | .hbm, ⟨48, _⟩ => ⟨S4096x4096, .f32⟩
  | .hbm, ⟨49, _⟩ => ⟨S4096x4096, .f32⟩
  | .hbm, ⟨50, _⟩ => ⟨S4096x8192, .f32⟩
  | .hbm, ⟨51, _⟩ => ⟨S4096x8192, .bf16⟩
  | _, _ => ⟨S4096x29696, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_cst_0 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩

abbrev nD : Nat := 1
abbrev τ : Topo := Topo.v7x

variable {F : FTy → Type} [FloatOps F]
-- ==== Norm.lean ====
abbrev S1x4096x4096 : Shape := ⟨3, ![1, 4096, 4096]⟩
abbrev S1x4096 : Shape := ⟨2, ![1, 4096]⟩
abbrev S4096x4096 : Shape := ⟨2, ![4096, 4096]⟩
abbrev S256x4096 : Shape := ⟨2, ![256, 4096]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1x4096x4096, .f32⟩
  | .hbm, ⟨1, _⟩ => ⟨S1x4096, .f32⟩
  | .hbm, ⟨2, _⟩ => ⟨S4096x4096, .f32⟩
  | .hbm, ⟨3, _⟩ => ⟨S4096x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== NormReferenceIdeal.lean ====
abbrev S1x4096x4096 : Shape := ⟨3, ![1, 4096, 4096]⟩
abbrev S1x4096 : Shape := ⟨2, ![1, 4096]⟩
abbrev S4096 : Shape := ⟨1, ![4096]⟩
abbrev S_ : Shape := ⟨0, ![]⟩
abbrev S1x4096x1 : Shape := ⟨3, ![1, 4096, 1]⟩
abbrev S1x1x4096 : Shape := ⟨3, ![1, 1, 4096]⟩
abbrev S4096x4096 : Shape := ⟨2, ![4096, 4096]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S1x4096, .f32⟩
  | .hbm, ⟨2, _⟩ => ⟨S4096, .f32⟩
  | .hbm, ⟨3, _⟩ => ⟨S1x4096x4096, .f32⟩
  | .hbm, ⟨4, _⟩ => ⟨S_, .f32⟩
  | .hbm, ⟨5, _⟩ => ⟨S1x4096, .f32⟩
  | .hbm, ⟨6, _⟩ => ⟨S1x4096x1, .f32⟩
  | .hbm, ⟨7, _⟩ => ⟨S_, .f32⟩
  | .hbm, ⟨8, _⟩ => ⟨S1x4096x1, .f32⟩
  | .hbm, ⟨9, _⟩ => ⟨S1x4096x1, .f32⟩
  | .hbm, ⟨10, _⟩ => ⟨S_, .f32⟩
  | .hbm, ⟨11, _⟩ => ⟨S1x4096x1, .f32⟩
  | .hbm, ⟨12, _⟩ => ⟨S1x4096x1, .f32⟩
  | .hbm, ⟨13, _⟩ => ⟨S1x4096x1, .f32⟩
  | .hbm, ⟨14, _⟩ => ⟨S1x4096x4096, .f32⟩
  | .hbm, ⟨15, _⟩ => ⟨S1x4096x4096, .f32⟩
  | .hbm, ⟨16, _⟩ => ⟨S1x1x4096, .f32⟩
  | .hbm, ⟨17, _⟩ => ⟨S1x4096x4096, .f32⟩
  | .hbm, ⟨18, _⟩ => ⟨S1x4096x4096, .f32⟩
  | .hbm, ⟨19, _⟩ => ⟨S4096x4096, .f32⟩
  | .hbm, ⟨20, _⟩ => ⟨S4096x4096, .bf16⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩

abbrev nD : Nat := 1
abbrev τ : Topo := Topo.v7x

variable {F : FTy → Type} [FloatOps F]
-- ==== Merged.lean ====
abbrev S4096x29696 : Shape := ⟨2, ![4096, 29696]⟩
abbrev S4096x4096 : Shape := ⟨2, ![4096, 4096]⟩
abbrev S256x1024 : Shape := ⟨2, ![256, 1024]⟩

abbrev nBuf : Space → Nat
  | .hbm => 4
  | .vmem => 10
  | .smem => 0
  | _ => 0

abbrev bufTy : (tb : Table) → Fin (tcTables nBuf tb) → BufTy
  | .hbm, ⟨0, _⟩ => ⟨S4096x29696, .bf16⟩
  | .hbm, ⟨1, _⟩ => ⟨S4096x4096, .f32⟩
  | .hbm, ⟨2, _⟩ => ⟨S4096x4096, .f32⟩
  | .hbm, ⟨3, _⟩ => ⟨S4096x4096, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | _, _ => ⟨S4096x29696, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c21_i32 : BitVec 32 := 21#32
  let v0 : BitVec 32 := Scalar.addi c21_i32 arg1
  let c0_i32 : BitVec 32 := 0#32
  ![arg0.toNat, v0.toNat]

def cc0_transform_1 (i : grid0.Coords) : Fin 2 → Nat :=
  let arg0 : BitVec 32 := BitVec.ofNat 32 (i 0).val
  let arg1 : BitVec 32 := BitVec.ofNat 32 (i 1).val
  let c25_i32 : BitVec 32 := 25#32
  let v0 : BitVec 32 := Scalar.addi c25_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  ![arg0.toNat, v0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== MergedReferenceIdeal.lean ====
abbrev S4096x29696 : Shape := ⟨2, ![4096, 29696]⟩
abbrev S4096x4096 : Shape := ⟨2, ![4096, 4096]⟩
abbrev S1x4096x29696 : Shape := ⟨3, ![1, 4096, 29696]⟩
abbrev S1x4096x4096 : Shape := ⟨3, ![1, 4096, 4096]⟩
abbrev S_ : Shape := ⟨0, ![]⟩

abbrev nBuf : Space → Nat
  | .hbm => 30
  | .vmem => 0
  | .smem => 0
  | _ => 0

abbrev bufTy : (tb : Table) → Fin (tcTables nBuf tb) → BufTy
  | .hbm, ⟨0, _⟩ => ⟨S4096x29696, .bf16⟩
  | .hbm, ⟨1, _⟩ => ⟨S4096x4096, .f32⟩
  | .hbm, ⟨2, _⟩ => ⟨S4096x4096, .f32⟩
  | .hbm, ⟨3, _⟩ => ⟨S4096x29696, .f32⟩
  | .hbm, ⟨4, _⟩ => ⟨S1x4096x29696, .f32⟩
  | .hbm, ⟨5, _⟩ => ⟨S1x4096x4096, .f32⟩
  | .hbm, ⟨6, _⟩ => ⟨S1x4096x4096, .f32⟩
  | .hbm, ⟨7, _⟩ => ⟨S1x4096x4096, .f32⟩
  | .hbm, ⟨8, _⟩ => ⟨S_, .f32⟩
  | .hbm, ⟨9, _⟩ => ⟨S1x4096x4096, .f32⟩
  | .hbm, ⟨10, _⟩ => ⟨S1x4096x4096, .f32⟩
  | .hbm, ⟨11, _⟩ => ⟨S_, .f32⟩
  | .hbm, ⟨12, _⟩ => ⟨S1x4096x4096, .f32⟩
  | .hbm, ⟨13, _⟩ => ⟨S1x4096x4096, .f32⟩
  | .hbm, ⟨14, _⟩ => ⟨S1x4096x4096, .f32⟩
  | .hbm, ⟨15, _⟩ => ⟨S1x4096x4096, .f32⟩
  | .hbm, ⟨16, _⟩ => ⟨S1x4096x4096, .f32⟩
  | .hbm, ⟨17, _⟩ => ⟨S1x4096x4096, .f32⟩
  | .hbm, ⟨18, _⟩ => ⟨S1x4096x4096, .f32⟩
  | .hbm, ⟨19, _⟩ => ⟨S_, .f32⟩
  | .hbm, ⟨20, _⟩ => ⟨S1x4096x4096, .f32⟩
  | .hbm, ⟨21, _⟩ => ⟨S1x4096x4096, .f32⟩
  | .hbm, ⟨22, _⟩ => ⟨S_, .f32⟩
  | .hbm, ⟨23, _⟩ => ⟨S1x4096x4096, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S1x4096x4096, .f32⟩
  | .hbm, ⟨28, _⟩ => ⟨S4096x4096, .f32⟩
  | .hbm, ⟨29, _⟩ => ⟨S4096x4096, .bf16⟩
  | _, _ => ⟨S4096x29696, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_cst_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩

abbrev nD : Nat := 1
abbrev τ : Topo := Topo.v7x

variable {F : FTy → Type} [FloatOps F]
-- ==== AdamIn.lean ====
abbrev S1x4096x7424 : Shape := ⟨3, ![1, 4096, 7424]⟩
abbrev S4096x7424 : Shape := ⟨2, ![4096, 7424]⟩
abbrev S64x7424 : Shape := ⟨2, ![64, 7424]⟩

abbrev nBuf : Space → Nat
  | .hbm => 11
  | .vmem => 16
  | .smem => 0
  | _ => 0

abbrev bufTy : (tb : Table) → Fin (tcTables nBuf tb) → BufTy
  | .hbm, ⟨0, _⟩ => ⟨S1x4096x7424, .f32⟩
  | .hbm, ⟨1, _⟩ => ⟨S4096x7424, .f32⟩
  | .hbm, ⟨2, _⟩ => ⟨S1x4096x7424, .f32⟩
  | .hbm, ⟨3, _⟩ => ⟨S1x4096x7424, .f32⟩
  | .hbm, ⟨4, _⟩ => ⟨S4096x7424, .f32⟩
  | .hbm, ⟨5, _⟩ => ⟨S4096x7424, .f32⟩
  | .hbm, ⟨6, _⟩ => ⟨S4096x7424, .f32⟩
  | .hbm, ⟨7, _⟩ => ⟨S4096x7424, .f32⟩
  | .hbm, ⟨8, _⟩ => ⟨S4096x7424, .f32⟩
  | .hbm, ⟨9, _⟩ => ⟨S4096x7424, .f32⟩
  | .hbm, ⟨10, _⟩ => ⟨S4096x7424, .f32⟩
  | .local _ .vmem, ⟨0, _⟩ => ⟨S64x7424, .f32⟩
  | .local _ .vmem, ⟨1, _⟩ => ⟨S64x7424, .f32⟩
  | .local _ .vmem, ⟨2, _⟩ => ⟨S64x7424, .f32⟩
  | .local _ .vmem, ⟨3, _⟩ => ⟨S64x7424, .f32⟩
  | .local _ .vmem, ⟨4, _⟩ => ⟨S64x7424, .f32⟩
  | .local _ .vmem, ⟨5, _⟩ => ⟨S64x7424, .f32⟩
  | .local _ .vmem, ⟨6, _⟩ => ⟨S64x7424, .f32⟩
  | .local _ .vmem, ⟨7, _⟩ => ⟨S64x7424, .f32⟩
  | .local _ .vmem, ⟨8, _⟩ => ⟨S64x7424, .f32⟩
  | .local _ .vmem, ⟨9, _⟩ => ⟨S64x7424, .f32⟩
  | .local _ .vmem, ⟨10, _⟩ => ⟨S64x7424, .f32⟩
  | .local _ .vmem, ⟨11, _⟩ => ⟨S64x7424, .f32⟩
  | .local _ .vmem, ⟨12, _⟩ => ⟨S64x7424, .f32⟩
  | .local _ .vmem, ⟨13, _⟩ => ⟨S64x7424, .f32⟩
  | .local _ .vmem, ⟨14, _⟩ => ⟨S64x7424, .f32⟩
  | .local _ .vmem, ⟨15, _⟩ => ⟨S64x7424, .f32⟩
  | _, _ => ⟨S1x4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x7424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x7424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x7424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x7424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x7424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x7424 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInIdeal.lean ====
abbrev S1x4096x7424 : Shape := ⟨3, ![1, 4096, 7424]⟩
abbrev S4096x7424 : Shape := ⟨2, ![4096, 7424]⟩
abbrev S64x7424 : Shape := ⟨2, ![64, 7424]⟩

abbrev nBuf : Space → Nat
  | .hbm => 11
  | .vmem => 16
  | .smem => 0
  | _ => 0

abbrev bufTy : (tb : Table) → Fin (tcTables nBuf tb) → BufTy
  | .hbm, ⟨0, _⟩ => ⟨S1x4096x7424, .f32⟩
  | .hbm, ⟨1, _⟩ => ⟨S4096x7424, .f32⟩
  | .hbm, ⟨2, _⟩ => ⟨S1x4096x7424, .f32⟩
  | .hbm, ⟨3, _⟩ => ⟨S1x4096x7424, .f32⟩
  | .hbm, ⟨4, _⟩ => ⟨S4096x7424, .f32⟩
  | .hbm, ⟨5, _⟩ => ⟨S4096x7424, .f32⟩
  | .hbm, ⟨6, _⟩ => ⟨S4096x7424, .f32⟩
  | .hbm, ⟨7, _⟩ => ⟨S4096x7424, .f32⟩
  | .hbm, ⟨8, _⟩ => ⟨S4096x7424, .f32⟩
  | .hbm, ⟨9, _⟩ => ⟨S4096x7424, .f32⟩
  | .hbm, ⟨10, _⟩ => ⟨S4096x7424, .f32⟩
  | .local _ .vmem, ⟨0, _⟩ => ⟨S64x7424, .f32⟩
  | .local _ .vmem, ⟨1, _⟩ => ⟨S64x7424, .f32⟩
  | .local _ .vmem, ⟨2, _⟩ => ⟨S64x7424, .f32⟩
  | .local _ .vmem, ⟨3, _⟩ => ⟨S64x7424, .f32⟩
  | .local _ .vmem, ⟨4, _⟩ => ⟨S64x7424, .f32⟩
  | .local _ .vmem, ⟨5, _⟩ => ⟨S64x7424, .f32⟩
  | .local _ .vmem, ⟨6, _⟩ => ⟨S64x7424, .f32⟩
  | .local _ .vmem, ⟨7, _⟩ => ⟨S64x7424, .f32⟩
  | .local _ .vmem, ⟨8, _⟩ => ⟨S64x7424, .f32⟩
  | .local _ .vmem, ⟨9, _⟩ => ⟨S64x7424, .f32⟩
  | .local _ .vmem, ⟨10, _⟩ => ⟨S64x7424, .f32⟩
  | .local _ .vmem, ⟨11, _⟩ => ⟨S64x7424, .f32⟩
  | .local _ .vmem, ⟨12, _⟩ => ⟨S64x7424, .f32⟩
  | .local _ .vmem, ⟨13, _⟩ => ⟨S64x7424, .f32⟩
  | .local _ .vmem, ⟨14, _⟩ => ⟨S64x7424, .f32⟩
  | .local _ .vmem, ⟨15, _⟩ => ⟨S64x7424, .f32⟩
  | _, _ => ⟨S1x4096x7424, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x7424 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x7424 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x7424 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x7424 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x7424 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x7424 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x7424 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x7424 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamInReferenceIdeal.lean ====
abbrev S1x4096x7424 : Shape := ⟨3, ![1, 4096, 7424]⟩
abbrev S4096x7424 : Shape := ⟨2, ![4096, 7424]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x4096x7424, .f32⟩
  | .hbm, ⟨1, _⟩ => ⟨S4096x7424, .f32⟩
  | .hbm, ⟨2, _⟩ => ⟨S1x4096x7424, .f32⟩
  | .hbm, ⟨3, _⟩ => ⟨S1x4096x7424, .f32⟩
  | .hbm, ⟨4, _⟩ => ⟨S1x4096x7424, .f32⟩
  | .hbm, ⟨5, _⟩ => ⟨S_, .f32⟩
  | .hbm, ⟨6, _⟩ => ⟨S1x4096x7424, .f32⟩
  | .hbm, ⟨7, _⟩ => ⟨S1x4096x7424, .f32⟩
  | .hbm, ⟨8, _⟩ => ⟨S_, .f32⟩
  | .hbm, ⟨9, _⟩ => ⟨S1x4096x7424, .f32⟩
  | .hbm, ⟨10, _⟩ => ⟨S1x4096x7424, .f32⟩
  | .hbm, ⟨11, _⟩ => ⟨S1x4096x7424, .f32⟩
  | .hbm, ⟨12, _⟩ => ⟨S_, .f32⟩
  | .hbm, ⟨13, _⟩ => ⟨S1x4096x7424, .f32⟩
  | .hbm, ⟨14, _⟩ => ⟨S1x4096x7424, .f32⟩
  | .hbm, ⟨15, _⟩ => ⟨S1x4096x7424, .f32⟩
  | .hbm, ⟨16, _⟩ => ⟨S_, .f32⟩
  | .hbm, ⟨17, _⟩ => ⟨S1x4096x7424, .f32⟩
  | .hbm, ⟨18, _⟩ => ⟨S1x4096x7424, .f32⟩
  | .hbm, ⟨19, _⟩ => ⟨S1x4096x7424, .f32⟩
  | .hbm, ⟨20, _⟩ => ⟨S_, .f32⟩
  | .hbm, ⟨21, _⟩ => ⟨S1x4096x7424, .f32⟩
  | .hbm, ⟨22, _⟩ => ⟨S1x4096x7424, .f32⟩
  | .hbm, ⟨23, _⟩ => ⟨S_, .f32⟩
  | .hbm, ⟨24, _⟩ => ⟨S1x4096x7424, .f32⟩
  | .hbm, ⟨25, _⟩ => ⟨S1x4096x7424, .f32⟩
  | .hbm, ⟨26, _⟩ => ⟨S1x4096x7424, .f32⟩
  | .hbm, ⟨27, _⟩ => ⟨S_, .f32⟩
  | .hbm, ⟨28, _⟩ => ⟨S1x4096x7424, .f32⟩
  | .hbm, ⟨29, _⟩ => ⟨S1x4096x7424, .f32⟩
  | .hbm, ⟨30, _⟩ => ⟨S1x4096x7424, .f32⟩
  | .hbm, ⟨31, _⟩ => ⟨S_, .f32⟩
  | .hbm, ⟨32, _⟩ => ⟨S1x4096x7424, .f32⟩
  | .hbm, ⟨33, _⟩ => ⟨S1x4096x7424, .f32⟩
  | .hbm, ⟨34, _⟩ => ⟨S1x4096x7424, .f32⟩
  | .hbm, ⟨35, _⟩ => ⟨S_, .f32⟩
  | .hbm, ⟨36, _⟩ => ⟨S1x4096x7424, .f32⟩
  | .hbm, ⟨37, _⟩ => ⟨S1x4096x7424, .f32⟩
  | .hbm, ⟨38, _⟩ => ⟨S1x4096x7424, .f32⟩
  | .hbm, ⟨39, _⟩ => ⟨S4096x7424, .f32⟩
  | .hbm, ⟨40, _⟩ => ⟨S4096x7424, .f32⟩
  | .hbm, ⟨41, _⟩ => ⟨S4096x7424, .f32⟩
  | .hbm, ⟨42, _⟩ => ⟨S4096x7424, .f32⟩
  | _, _ => ⟨S1x4096x7424, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamUp.lean ====
abbrev S1x1024x4096 : Shape := ⟨3, ![1, 1024, 4096]⟩
abbrev S1024x4096 : Shape := ⟨2, ![1024, 4096]⟩
abbrev S64x4096 : Shape := ⟨2, ![64, 4096]⟩

abbrev nBuf : Space → Nat
  | .hbm => 11
  | .vmem => 16
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .hbm, ⟨10, _⟩ => ⟨S1024x4096, .f32⟩
  | .local _ .vmem, ⟨0, _⟩ => ⟨S64x4096, .f32⟩
  | .local _ .vmem, ⟨1, _⟩ => ⟨S64x4096, .f32⟩
  | .local _ .vmem, ⟨2, _⟩ => ⟨S64x4096, .f32⟩
  | .local _ .vmem, ⟨3, _⟩ => ⟨S64x4096, .f32⟩
  | .local _ .vmem, ⟨4, _⟩ => ⟨S64x4096, .f32⟩
  | .local _ .vmem, ⟨5, _⟩ => ⟨S64x4096, .f32⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | _, _ => ⟨S1x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== AdamUpReferenceIdeal.lean ====
abbrev S1x1024x4096 : Shape := ⟨3, ![1, 1024, 4096]⟩
abbrev S1024x4096 : Shape := ⟨2, ![1024, 4096]⟩
abbrev S_ : Shape := ⟨0, ![]⟩

abbrev nBuf : Space → Nat
  | .hbm => 43
  | .vmem => 0
  | .smem => 0
  | _ => 0

abbrev bufTy : (tb : Table) → Fin (tcTables nBuf tb) → BufTy
  | .hbm, ⟨0, _⟩ => ⟨S1x1024x4096, .f32⟩
  | .hbm, ⟨1, _⟩ => ⟨S1024x4096, .f32⟩
  | .hbm, ⟨2, _⟩ => ⟨S1x1024x4096, .f32⟩
  | .hbm, ⟨3, _⟩ => ⟨S1x1024x4096, .f32⟩
  | .hbm, ⟨4, _⟩ => ⟨S1x1024x4096, .f32⟩
  | .hbm, ⟨5, _⟩ => ⟨S_, .f32⟩
  | .hbm, ⟨6, _⟩ => ⟨S1x1024x4096, .f32⟩
  | .hbm, ⟨7, _⟩ => ⟨S1x1024x4096, .f32⟩
  | .hbm, ⟨8, _⟩ => ⟨S_, .f32⟩
  | .hbm, ⟨9, _⟩ => ⟨S1x1024x4096, .f32⟩
  | .hbm, ⟨10, _⟩ => ⟨S1x1024x4096, .f32⟩
  | .hbm, ⟨11, _⟩ => ⟨S1x1024x4096, .f32⟩
  | .hbm, ⟨12, _⟩ => ⟨S_, .f32⟩
  | .hbm, ⟨13, _⟩ => ⟨S1x1024x4096, .f32⟩
  | .hbm, ⟨14, _⟩ => ⟨S1x1024x4096, .f32⟩
  | .hbm, ⟨15, _⟩ => ⟨S1x1024x4096, .f32⟩
  | .hbm, ⟨16, _⟩ => ⟨S_, .f32⟩
  | .hbm, ⟨17, _⟩ => ⟨S1x1024x4096, .f32⟩
  | .hbm, ⟨18, _⟩ => ⟨S1x1024x4096, .f32⟩
  | .hbm, ⟨19, _⟩ => ⟨S1x1024x4096, .f32⟩
  | .hbm, ⟨20, _⟩ => ⟨S_, .f32⟩
  | .hbm, ⟨21, _⟩ => ⟨S1x1024x4096, .f32⟩
  | .hbm, ⟨22, _⟩ => ⟨S1x1024x4096, .f32⟩
  | .hbm, ⟨23, _⟩ => ⟨S_, .f32⟩
  | .hbm, ⟨24, _⟩ => ⟨S1x1024x4096, .f32⟩
  | .hbm, ⟨25, _⟩ => ⟨S1x1024x4096, .f32⟩
  | .hbm, ⟨26, _⟩ => ⟨S1x1024x4096, .f32⟩
  | .hbm, ⟨27, _⟩ => ⟨S_, .f32⟩
  | .hbm, ⟨28, _⟩ => ⟨S1x1024x4096, .f32⟩
  | .hbm, ⟨29, _⟩ => ⟨S1x1024x4096, .f32⟩
  | .hbm, ⟨30, _⟩ => ⟨S1x1024x4096, .f32⟩
  | .hbm, ⟨31, _⟩ => ⟨S_, .f32⟩
  | .hbm, ⟨32, _⟩ => ⟨S1x1024x4096, .f32⟩
  | .hbm, ⟨33, _⟩ => ⟨S1x1024x4096, .f32⟩
  | .hbm, ⟨34, _⟩ => ⟨S1x1024x4096, .f32⟩
  | .hbm, ⟨35, _⟩ => ⟨S_, .f32⟩
  | .hbm, ⟨36, _⟩ => ⟨S1x1024x4096, .f32⟩
  | .hbm, ⟨37, _⟩ => ⟨S1x1024x4096, .f32⟩
  | .hbm, ⟨38, _⟩ => ⟨S1x1024x4096, .f32⟩
  | .hbm, ⟨39, _⟩ => ⟨S1024x4096, .f32⟩
  | .hbm, ⟨40, _⟩ => ⟨S1024x4096, .f32⟩
  | .hbm, ⟨41, _⟩ => ⟨S1024x4096, .f32⟩
  | .hbm, ⟨42, _⟩ => ⟨S1024x4096, .f32⟩
  | _, _ => ⟨S1x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_7 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩

abbrev nD : Nat := 1
abbrev τ : Topo := Topo.v7x

variable {F : FTy → Type} [FloatOps F]
-- ==== AdamSmall.lean ====
abbrev S1176x128 : Shape := ⟨2, ![1176, 128]⟩

abbrev nBuf : Space → Nat
  | .hbm => 8
  | .vmem => 8
  | .smem => 0
  | _ => 0

abbrev bufTy : (tb : Table) → Fin (tcTables nBuf tb) → BufTy
  | .hbm, ⟨0, _⟩ => ⟨S1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S1176x128, .f32⟩
  | .hbm, ⟨5, _⟩ => ⟨S1176x128, .f32⟩
  | .hbm, ⟨6, _⟩ => ⟨S1176x128, .f32⟩
  | .hbm, ⟨7, _⟩ => ⟨S1176x128, .f32⟩
  | .local _ .vmem, ⟨0, _⟩ => ⟨S1176x128, .f32⟩
  | .local _ .vmem, ⟨1, _⟩ => ⟨S1176x128, .f32⟩
  | .local _ .vmem, ⟨2, _⟩ => ⟨S1176x128, .f32⟩
  | .local _ .vmem, ⟨3, _⟩ => ⟨S1176x128, .f32⟩
  | .local _ .vmem, ⟨4, _⟩ => ⟨S1176x128, .f32⟩
  | .local _ .vmem, ⟨5, _⟩ => ⟨S1176x128, .f32⟩
  | .local _ .vmem, ⟨6, _⟩ => ⟨S1176x128, .f32⟩
  | .local _ .vmem, ⟨7, _⟩ => ⟨S1176x128, .f32⟩
  | _, _ => ⟨S1176x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1176x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1176x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1176x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1176x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1176x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1176x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1176x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1176x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== AdamSmallReferenceIdeal.lean ====
abbrev S1176x128 : Shape := ⟨2, ![1176, 128]⟩
abbrev S_ : Shape := ⟨0, ![]⟩
abbrev S1x1176x128 : Shape := ⟨3, ![1, 1176, 128]⟩

abbrev nBuf : Space → Nat
  | .hbm => 39
  | .vmem => 0
  | .smem => 0
  | _ => 0

abbrev bufTy : (tb : Table) → Fin (tcTables nBuf tb) → BufTy
  | .hbm, ⟨0, _⟩ => ⟨S1176x128, .f32⟩
  | .hbm, ⟨1, _⟩ => ⟨S1176x128, .f32⟩
  | .hbm, ⟨2, _⟩ => ⟨S1176x128, .f32⟩
  | .hbm, ⟨3, _⟩ => ⟨S1176x128, .f32⟩
  | .hbm, ⟨4, _⟩ => ⟨S_, .f32⟩
  | .hbm, ⟨5, _⟩ => ⟨S1176x128, .f32⟩
  | .hbm, ⟨6, _⟩ => ⟨S1176x128, .f32⟩
  | .hbm, ⟨7, _⟩ => ⟨S_, .f32⟩
  | .hbm, ⟨8, _⟩ => ⟨S1176x128, .f32⟩
  | .hbm, ⟨9, _⟩ => ⟨S1176x128, .f32⟩
  | .hbm, ⟨10, _⟩ => ⟨S1176x128, .f32⟩
  | .hbm, ⟨11, _⟩ => ⟨S_, .f32⟩
  | .hbm, ⟨12, _⟩ => ⟨S1176x128, .f32⟩
  | .hbm, ⟨13, _⟩ => ⟨S1176x128, .f32⟩
  | .hbm, ⟨14, _⟩ => ⟨S1176x128, .f32⟩
  | .hbm, ⟨15, _⟩ => ⟨S_, .f32⟩
  | .hbm, ⟨16, _⟩ => ⟨S1176x128, .f32⟩
  | .hbm, ⟨17, _⟩ => ⟨S1176x128, .f32⟩
  | .hbm, ⟨18, _⟩ => ⟨S1176x128, .f32⟩
  | .hbm, ⟨19, _⟩ => ⟨S_, .f32⟩
  | .hbm, ⟨20, _⟩ => ⟨S1176x128, .f32⟩
  | .hbm, ⟨21, _⟩ => ⟨S1176x128, .f32⟩
  | .hbm, ⟨22, _⟩ => ⟨S_, .f32⟩
  | .hbm, ⟨23, _⟩ => ⟨S1176x128, .f32⟩
  | .hbm, ⟨24, _⟩ => ⟨S1176x128, .f32⟩
  | .hbm, ⟨25, _⟩ => ⟨S1176x128, .f32⟩
  | .hbm, ⟨26, _⟩ => ⟨S_, .f32⟩
  | .hbm, ⟨27, _⟩ => ⟨S1176x128, .f32⟩
  | .hbm, ⟨28, _⟩ => ⟨S1176x128, .f32⟩
  | .hbm, ⟨29, _⟩ => ⟨S1176x128, .f32⟩
  | .hbm, ⟨30, _⟩ => ⟨S_, .f32⟩
  | .hbm, ⟨31, _⟩ => ⟨S1176x128, .f32⟩
  | .hbm, ⟨32, _⟩ => ⟨S1176x128, .f32⟩
  | .hbm, ⟨33, _⟩ => ⟨S1176x128, .f32⟩
  | .hbm, ⟨34, _⟩ => ⟨S_, .f32⟩
  | .hbm, ⟨35, _⟩ => ⟨S1176x128, .f32⟩
  | .hbm, ⟨36, _⟩ => ⟨S1176x128, .f32⟩
  | .hbm, ⟨37, _⟩ => ⟨S1x1176x128, .f32⟩
  | .hbm, ⟨38, _⟩ => ⟨S1176x128, .f32⟩
  | _, _ => ⟨S1176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩

abbrev nD : Nat := 1
abbrev τ : Topo := Topo.v7x

variable {F : FTy → Type} [FloatOps F]
-- ==== Loss.lean ====
abbrev S4096x4096 : Shape := ⟨2, ![4096, 4096]⟩
abbrev S1x4096x4096 : Shape := ⟨3, ![1, 4096, 4096]⟩
abbrev S4096 : Shape := ⟨1, ![4096]⟩
abbrev S1x4096 : Shape := ⟨2, ![1, 4096]⟩
abbrev S8x128 : Shape := ⟨2, ![8, 128]⟩
abbrev S128x4096 : Shape := ⟨2, ![128, 4096]⟩
abbrev S128 : Shape := ⟨1, ![128]⟩
abbrev S128x1 : Shape := ⟨2, ![128, 1]⟩
abbrev S1x128x4096 : Shape := ⟨3, ![1, 128, 4096]⟩
abbrev S1 : Shape := ⟨1, ![1]⟩
abbrev S1x1x1 : Shape := ⟨3, ![1, 1, 1]⟩

abbrev nBuf : Space → Nat
  | .hbm => 9
  | .vmem => 11
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S4096, .f32⟩
  | .hbm, ⟨3, _⟩ => ⟨S4096x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .hbm, ⟨8, _⟩ => ⟨S8x128, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S128x4096, .f32⟩
  | .local _ .vmem, ⟨6, _⟩ => ⟨S128x4096, .f32⟩
  | .local _ .vmem, ⟨7, _⟩ => ⟨S128x4096, .bf16⟩
  | .local _ .vmem, ⟨8, _⟩ => ⟨S128x4096, .bf16⟩
  | .local _ .vmem, ⟨9, _⟩ => ⟨S1x4096, .f32⟩
  | .local _ .vmem, ⟨10, _⟩ => ⟨S8x128, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2_0 : Ref sig .tc := ⟨.hbm, 5, rfl⟩
abbrev main_v2_1 : Ref sig .tc := ⟨.hbm, 6, rfl⟩
abbrev main_v2_2 : Ref sig .tc := ⟨.hbm, 7, rfl⟩
abbrev main_v2_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem6_0 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S128x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== LossReferenceIdeal.lean ====
abbrev S4096x4096 : Shape := ⟨2, ![4096, 4096]⟩
abbrev S1x4096x4096 : Shape := ⟨3, ![1, 4096, 4096]⟩
abbrev S4096 : Shape := ⟨1, ![4096]⟩
abbrev S_ : Shape := ⟨0, ![]⟩
abbrev S1x4096 : Shape := ⟨2, ![1, 4096]⟩
abbrev S1x4096x1 : Shape := ⟨3, ![1, 4096, 1]⟩
abbrev S1x1x4096 : Shape := ⟨3, ![1, 1, 4096]⟩
abbrev S8x128 : Shape := ⟨2, ![8, 128]⟩

abbrev nBuf : Space → Nat
  | .hbm => 78
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096x4096, .f32⟩
  | .hbm, ⟨2, _⟩ => ⟨S4096, .f32⟩
  | .hbm, ⟨3, _⟩ => ⟨S1x4096x4096, .f32⟩
  | .hbm, ⟨4, _⟩ => ⟨S1x4096x4096, .f32⟩
  | .hbm, ⟨5, _⟩ => ⟨S_, .f32⟩
  | .hbm, ⟨6, _⟩ => ⟨S1x4096, .f32⟩
  | .hbm, ⟨7, _⟩ => ⟨S1x4096x1, .f32⟩
  | .hbm, ⟨8, _⟩ => ⟨S_, .f32⟩
  | .hbm, ⟨9, _⟩ => ⟨S1x4096x1, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x4096, .f32⟩
  | .hbm, ⟨20, _⟩ => ⟨S1x4096x4096, .f32⟩
  | .hbm, ⟨21, _⟩ => ⟨S1x1x4096, .f32⟩
  | .hbm, ⟨22, _⟩ => ⟨S1x4096x4096, .f32⟩
  | .hbm, ⟨23, _⟩ => ⟨S1x4096x4096, .f32⟩
  | .hbm, ⟨24, _⟩ => ⟨S1x4096x4096, .f32⟩
  | .hbm, ⟨25, _⟩ => ⟨S1x4096x4096, .f32⟩
  | .hbm, ⟨26, _⟩ => ⟨S_, .f32⟩
  | .hbm, ⟨27, _⟩ => ⟨S1x4096x4096, .f32⟩
  | .hbm, ⟨28, _⟩ => ⟨S1x4096x4096, .f32⟩
  | .hbm, ⟨29, _⟩ => ⟨S_, .f32⟩
  | .hbm, ⟨30, _⟩ => ⟨S1x4096, .f32⟩
  | .hbm, ⟨31, _⟩ => ⟨S_, .f32⟩
  | .hbm, ⟨32, _⟩ => ⟨S1x4096, .f32⟩
  | .hbm, ⟨33, _⟩ => ⟨S1x4096, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x4096, .f32⟩
  | .hbm, ⟨42, _⟩ => ⟨S_, .f32⟩
  | .hbm, ⟨43, _⟩ => ⟨S1x4096, .f32⟩
  | .hbm, ⟨44, _⟩ => ⟨S1x4096, .f32⟩
  | .hbm, ⟨45, _⟩ => ⟨S1x4096x4096, .f32⟩
  | .hbm, ⟨46, _⟩ => ⟨S1x4096x4096, .f32⟩
  | .hbm, ⟨47, _⟩ => ⟨S1x4096x4096, .f32⟩
  | .hbm, ⟨48, _⟩ => ⟨S_, .f32⟩
  | .hbm, ⟨49, _⟩ => ⟨S1x4096, .f32⟩
  | .hbm, ⟨50, _⟩ => ⟨S1x1x4096, .f32⟩
  | .hbm, ⟨51, _⟩ => ⟨S1x4096x4096, .f32⟩
  | .hbm, ⟨52, _⟩ => ⟨S1x4096x4096, .f32⟩
  | .hbm, ⟨53, _⟩ => ⟨S_, .f32⟩
  | .hbm, ⟨54, _⟩ => ⟨S4096, .f32⟩
  | .hbm, ⟨55, _⟩ => ⟨S1x4096x4096, .f32⟩
  | .hbm, ⟨56, _⟩ => ⟨S_, .f32⟩
  | .hbm, ⟨57, _⟩ => ⟨S1x4096, .f32⟩
  | .hbm, ⟨58, _⟩ => ⟨S1x4096x1, .f32⟩
  | .hbm, ⟨59, _⟩ => ⟨S1x4096x4096, .f32⟩
  | .hbm, ⟨60, _⟩ => ⟨S1x4096x4096, .f32⟩
  | .hbm, ⟨61, _⟩ => ⟨S1x4096x1, .f32⟩
  | .hbm, ⟨62, _⟩ => ⟨S_, .f32⟩
  | .hbm, ⟨63, _⟩ => ⟨S1x4096x1, .f32⟩
  | .hbm, ⟨64, _⟩ => ⟨S1x4096x1, .f32⟩
  | .hbm, ⟨65, _⟩ => ⟨S_, .f32⟩
  | .hbm, ⟨66, _⟩ => ⟨S4096, .f32⟩
  | .hbm, ⟨67, _⟩ => ⟨S1x4096, .f32⟩
  | .hbm, ⟨68, _⟩ => ⟨S1x4096x4096, .f32⟩
  | .hbm, ⟨69, _⟩ => ⟨S1x4096x4096, .f32⟩
  | .hbm, ⟨70, _⟩ => ⟨S1x4096x4096, .f32⟩
  | .hbm, ⟨71, _⟩ => ⟨S1x4096x4096, .f32⟩
  | .hbm, ⟨72, _⟩ => ⟨S1x4096x4096, .f32⟩
  | .hbm, ⟨73, _⟩ => ⟨S4096x4096, .f32⟩
  | .hbm, ⟨74, _⟩ => ⟨S4096x4096, .f32⟩
  | .hbm, ⟨75, _⟩ => ⟨S4096x4096, .bf16⟩
  | .hbm, ⟨76, _⟩ => ⟨S1x4096, .f32⟩
  | .hbm, ⟨77, _⟩ => ⟨S8x128, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_3 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_v23 : Ref sig .tc := ⟨.hbm, 33, rfl⟩
abbrev main_cst_6 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_cst_8 : Ref sig .tc := ⟨.hbm, 38, rfl⟩
abbrev main_cst_9 : Ref sig .tc := ⟨.hbm, 39, rfl⟩
abbrev main_v26 : Ref sig .tc := ⟨.hbm, 40, rfl⟩
abbrev main_v27 : Ref sig .tc := ⟨.hbm, 41, rfl⟩
abbrev main_cst_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_11 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_12 : Ref sig .tc := ⟨.hbm, 53, rfl⟩
abbrev main_v37 : Ref sig .tc := ⟨.hbm, 54, rfl⟩
abbrev main_v38 : Ref sig .tc := ⟨.hbm, 55, rfl⟩
abbrev main_cst_13 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_14 : Ref sig .tc := ⟨.hbm, 62, rfl⟩
abbrev main_v44 : Ref sig .tc := ⟨.hbm, 63, rfl⟩
abbrev main_v45 : Ref sig .tc := ⟨.hbm, 64, rfl⟩
abbrev main_cst_15 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩

abbrev nD : Nat := 1
abbrev τ : Topo := Topo.v7x

variable {F : FTy → Type} [FloatOps F]
-- ==== Attn.lean ====
abbrev S4096 : Shape := ⟨1, ![4096]⟩
abbrev S4096x29696 : Shape := ⟨2, ![4096, 29696]⟩
abbrev S64 : Shape := ⟨1, ![64]⟩
abbrev S4096x4096 : Shape := ⟨2, ![4096, 4096]⟩
abbrev S8 : Shape := ⟨1, ![8]⟩
abbrev S_ : Shape := ⟨0, ![]⟩
abbrev S4096x1 : Shape := ⟨2, ![4096, 1]⟩
abbrev S1x8 : Shape := ⟨2, ![1, 8]⟩
abbrev S4096x8 : Shape := ⟨2, ![4096, 8]⟩
abbrev S4096x48 : Shape := ⟨2, ![4096, 48]⟩
abbrev S4096x64 : Shape := ⟨2, ![4096, 64]⟩
abbrev S1x4096x1x64 : Shape := ⟨4, ![1, 4096, 1, 64]⟩
abbrev S1x4096x2x64 : Shape := ⟨4, ![1, 4096, 2, 64]⟩
abbrev S4096x128 : Shape := ⟨2, ![4096, 128]⟩
abbrev S128 : Shape := ⟨1, ![128]⟩
abbrev S128x1 : Shape := ⟨2, ![128, 1]⟩
abbrev S512 : Shape := ⟨1, ![512]⟩
abbrev S1x512 : Shape := ⟨2, ![1, 512]⟩
abbrev S128x512 : Shape := ⟨2, ![128, 512]⟩
abbrev S1x128x512 : Shape := ⟨3, ![1, 128, 512]⟩
abbrev S2x128x512 : Shape := ⟨3, ![2, 128, 512]⟩
abbrev S4096x512 : Shape := ⟨2, ![4096, 512]⟩
abbrev S4x8x128 : Shape := ⟨3, ![4, 8, 128]⟩
abbrev S128x1024 : Shape := ⟨2, ![128, 1024]⟩
abbrev S128x128 : Shape := ⟨2, ![128, 128]⟩
abbrev S1x8x128 : Shape := ⟨3, ![1, 8, 128]⟩
abbrev S256x128 : Shape := ⟨2, ![256, 128]⟩
abbrev S4x1x512 : Shape := ⟨3, ![4, 1, 512]⟩
abbrev S512x128 : Shape := ⟨2, ![512, 128]⟩
abbrev S1 : Shape := ⟨1, ![1]⟩
abbrev S1x128 : Shape := ⟨2, ![1, 128]⟩
abbrev S1x1x512 : Shape := ⟨3, ![1, 1, 512]⟩
abbrev S8x128 : Shape := ⟨2, ![8, 128]⟩
abbrev S1x1x128 : Shape := ⟨3, ![1, 1, 128]⟩
abbrev S1x1 : Shape := ⟨2, ![1, 1]⟩

abbrev nBuf : Space → Nat
  | .hbm => 88
  | .vmem => 48
  | .smem => 1
  | _ => 0

abbrev bufTy : (tb : Table) → Fin (tcTables nBuf tb) → BufTy
  | .hbm, ⟨0, _⟩ => ⟨S4096, .i32⟩
  | .hbm, ⟨1, _⟩ => ⟨S4096x29696, .bf16⟩
  | .hbm, ⟨2, _⟩ => ⟨S64, .f32⟩
  | .hbm, ⟨3, _⟩ => ⟨S4096x4096, .f32⟩
  | .hbm, ⟨4, _⟩ => ⟨S4096x4096, .f32⟩
  | .hbm, ⟨5, _⟩ => ⟨S8, .f32⟩
  | .hbm, ⟨6, _⟩ => ⟨S8, .f32⟩
  | .hbm, ⟨7, _⟩ => ⟨S_, .f32⟩
  | .hbm, ⟨8, _⟩ => ⟨S8, .f32⟩
  | .hbm, ⟨9, _⟩ => ⟨S8, .f32⟩
  | .hbm, ⟨10, _⟩ => ⟨S_, .f32⟩
  | .hbm, ⟨11, _⟩ => ⟨S8, .f32⟩
  | .hbm, ⟨12, _⟩ => ⟨S8, .f32⟩
  | .hbm, ⟨13, _⟩ => ⟨S_, .f32⟩
  | .hbm, ⟨14, _⟩ => ⟨S8, .f32⟩
  | .hbm, ⟨15, _⟩ => ⟨S8, .f32⟩
  | .hbm, ⟨16, _⟩ => ⟨S4096, .f32⟩
  | .hbm, ⟨17, _⟩ => ⟨S4096x1, .f32⟩
  | .hbm, ⟨18, _⟩ => ⟨S1x8, .f32⟩
  | .hbm, ⟨19, _⟩ => ⟨S4096x8, .f32⟩
  | .hbm, ⟨20, _⟩ => ⟨S4096x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S_, .f32⟩
  | .hbm, ⟨25, _⟩ => ⟨S4096x8, .f32⟩
  | .hbm, ⟨26, _⟩ => ⟨S_, .f32⟩
  | .hbm, ⟨27, _⟩ => ⟨S4096x48, .f32⟩
  | .hbm, ⟨28, _⟩ => ⟨S_, .f32⟩
  | .hbm, ⟨29, _⟩ => ⟨S4096x48, .f32⟩
  | .hbm, ⟨30, _⟩ => ⟨S4096x64, .f32⟩
  | .hbm, ⟨31, _⟩ => ⟨S4096x8, .f32⟩
  | .hbm, ⟨32, _⟩ => ⟨S4096x64, .f32⟩
  | .hbm, ⟨33, _⟩ => ⟨S4096x64, .f32⟩
  | .hbm, ⟨34, _⟩ => ⟨S1x4096x1x64, .f32⟩
  | .hbm, ⟨35, _⟩ => ⟨S1x4096x2x64, .f32⟩
  | .hbm, ⟨36, _⟩ => ⟨S4096x128, .f32⟩
  | .hbm, ⟨37, _⟩ => ⟨S1x4096x1x64, .f32⟩
  | .hbm, ⟨38, _⟩ => ⟨S1x4096x2x64, .f32⟩
  | .hbm, ⟨39, _⟩ => ⟨S4096x128, .f32⟩
  | .hbm, ⟨40, _⟩ => ⟨S1x4096x1x64, .f32⟩
  | .hbm, ⟨41, _⟩ => ⟨S1x4096x2x64, .f32⟩
  | .hbm, ⟨42, _⟩ => ⟨S4096x128, .f32⟩
  | .hbm, ⟨43, _⟩ => ⟨S128, .i32⟩
  | .hbm, ⟨44, _⟩ => ⟨S128x1, .i32⟩
  | .hbm, ⟨45, _⟩ => ⟨S512, .i32⟩
  | .hbm, ⟨46, _⟩ => ⟨S_, .i32⟩
  | .hbm, ⟨47, _⟩ => ⟨S_, .i32⟩
  | .hbm, ⟨48, _⟩ => ⟨S_, .i32⟩
  | .hbm, ⟨49, _⟩ => ⟨S_, .i1⟩
  | .hbm, ⟨50, _⟩ => ⟨S_, .i32⟩
  | .hbm, ⟨51, _⟩ => ⟨S_, .i32⟩
  | .hbm, ⟨52, _⟩ => ⟨S512, .i32⟩
  | .hbm, ⟨53, _⟩ => ⟨S512, .i32⟩
  | .hbm, ⟨54, _⟩ => ⟨S_, .i32⟩
  | .hbm, ⟨55, _⟩ => ⟨S512, .i32⟩
  | .hbm, ⟨56, _⟩ => ⟨S512, .i1⟩
  | .hbm, ⟨57, _⟩ => ⟨S_, .i32⟩
  | .hbm, ⟨58, _⟩ => ⟨S512, .i32⟩
  | .hbm, ⟨59, _⟩ => ⟨S512, .i1⟩
  | .hbm, ⟨60, _⟩ => ⟨S_, .i32⟩
  | .hbm, ⟨61, _⟩ => ⟨S_, .i1⟩
  | .hbm, ⟨62, _⟩ => ⟨S512, .i1⟩
  | .hbm, ⟨63, _⟩ => ⟨S512, .i1⟩
  | .hbm, ⟨64, _⟩ => ⟨S512, .i1⟩
  | .hbm, ⟨65, _⟩ => ⟨S512, .i32⟩
  | .hbm, ⟨66, _⟩ => ⟨S512, .i32⟩
  | .hbm, ⟨67, _⟩ => ⟨S512, .i32⟩
  | .hbm, ⟨68, _⟩ => ⟨S1x512, .i32⟩
  | .hbm, ⟨69, _⟩ => ⟨S128x512, .i32⟩
  | .hbm, ⟨70, _⟩ => ⟨S128x512, .i32⟩
  | .hbm, ⟨71, _⟩ => ⟨S128x512, .i1⟩
  | .hbm, ⟨72, _⟩ => ⟨S_, .f32⟩
  | .hbm, ⟨73, _⟩ => ⟨S_, .f32⟩
  | .hbm, ⟨74, _⟩ => ⟨S128x512, .f32⟩
  | .hbm, ⟨75, _⟩ => ⟨S128x512, .f32⟩
  | .hbm, ⟨76, _⟩ => ⟨S128x512, .f32⟩
  | .hbm, ⟨77, _⟩ => ⟨S_, .f32⟩
  | .hbm, ⟨78, _⟩ => ⟨S128x512, .f32⟩
  | .hbm, ⟨79, _⟩ => ⟨S1x128x512, .f32⟩
  | .hbm, ⟨80, _⟩ => ⟨S1x128x512, .f32⟩
  | .hbm, ⟨81, _⟩ => ⟨S2x128x512, .f32⟩
  | .hbm, ⟨82, _⟩ => ⟨S2x128x512, .f32⟩
  | .hbm, ⟨83, _⟩ => ⟨S4096x4096, .bf16⟩
  | .hbm, ⟨84, _⟩ => ⟨S4096x512, .bf16⟩
  | .hbm, ⟨85, _⟩ => ⟨S4096x512, .bf16⟩
  | .hbm, ⟨86, _⟩ => ⟨S4096x4096, .bf16⟩
  | .hbm, ⟨87, _⟩ => ⟨S4x8x128, .f32⟩
  | .local _ .vmem, ⟨0, _⟩ => ⟨S128x1024, .bf16⟩
  | .local _ .vmem, ⟨1, _⟩ => ⟨S128x1024, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x1024, .bf16⟩
  | .local _ .vmem, ⟨11, _⟩ => ⟨S128x1024, .bf16⟩
  | .local _ .vmem, ⟨12, _⟩ => ⟨S128x128, .f32⟩
  | .local _ .vmem, ⟨13, _⟩ => ⟨S128x128, .f32⟩
  | .local _ .vmem, ⟨14, _⟩ => ⟨S128x128, .f32⟩
  | .local _ .vmem, ⟨15, _⟩ => ⟨S128x128, .f32⟩
  | .local _ .vmem, ⟨16, _⟩ => ⟨S128x128, .f32⟩
  | .local _ .vmem, ⟨17, _⟩ => ⟨S128x128, .f32⟩
  | .local _ .vmem, ⟨18, _⟩ => ⟨S128x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S128x128, .f32⟩
  | .local _ .vmem, ⟨24, _⟩ => ⟨S1x128x512, .f32⟩
  | .local _ .vmem, ⟨25, _⟩ => ⟨S1x128x512, .f32⟩
  | .local _ .vmem, ⟨26, _⟩ => ⟨S128x1024, .f32⟩
  | .local _ .vmem, ⟨27, _⟩ => ⟨S128x1024, .f32⟩
  | .local _ .vmem, ⟨28, _⟩ => ⟨S128x1024, .f32⟩
  | .local _ .vmem, ⟨29, _⟩ => ⟨S128x1024, .f32⟩
  | .local _ .vmem, ⟨30, _⟩ => ⟨S128x1024, .bf16⟩
  | .local _ .vmem, ⟨31, _⟩ => ⟨S128x1024, .bf16⟩
  | .local _ .vmem, ⟨32, _⟩ => ⟨S128x128, .bf16⟩
  | .local _ .vmem, ⟨33, _⟩ => ⟨S128x128, .bf16⟩
  | .local _ .vmem, ⟨34, _⟩ => ⟨S128x128, .bf16⟩
  | .local _ .vmem, ⟨35, _⟩ => ⟨S128x128, .bf16⟩
  | .local _ .vmem, ⟨36, _⟩ => ⟨S128x1024, .bf16⟩
  | .local _ .vmem, ⟨37, _⟩ => ⟨S128x1024, .bf16⟩
  | .local _ .vmem, ⟨38, _⟩ => ⟨S1x8x128, .f32⟩
  | .local _ .vmem, ⟨39, _⟩ => ⟨S1x8x128, .f32⟩
  | .local _ .vmem, ⟨40, _⟩ => ⟨S128x1024, .f32⟩
  | .local _ .vmem, ⟨41, _⟩ => ⟨S128x1024, .f32⟩
  | .local _ .vmem, ⟨42, _⟩ => ⟨S128x1024, .f32⟩
  | .local _ .vmem, ⟨43, _⟩ => ⟨S256x128, .f32⟩
  | .local _ .vmem, ⟨44, _⟩ => ⟨S256x128, .f32⟩
  | .local _ .vmem, ⟨45, _⟩ => ⟨S128x128, .f32⟩
  | .local _ .vmem, ⟨46, _⟩ => ⟨S128x128, .f32⟩
  | .local _ .vmem, ⟨47, _⟩ => ⟨S4x1x512, .f32⟩
  | .local _ .smem, ⟨0, _⟩ => ⟨S64, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .smem, ⟨0, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_c : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_c_0 : Ref sig .tc := ⟨.hbm, 50, rfl⟩
abbrev main_call0_v2 : Ref sig .tc := ⟨.hbm, 51, rfl⟩
abbrev main_call0_v3 : Ref sig .tc := ⟨.hbm, 52, rfl⟩
abbrev main_call0_v4 : Ref sig .tc := ⟨.hbm, 53, rfl⟩
abbrev main_call0_c_1 : Ref sig .tc := ⟨.hbm, 54, rfl⟩
abbrev main_call0_v5 : Ref sig .tc := ⟨.hbm, 55, rfl⟩
abbrev main_call0_v6 : Ref sig .tc := ⟨.hbm, 56, rfl⟩
abbrev main_call0_c_2 : Ref sig .tc := ⟨.hbm, 57, rfl⟩
abbrev main_call0_v7 : Ref sig .tc := ⟨.hbm, 58, rfl⟩
abbrev main_call0_v8 : Ref sig .tc := ⟨.hbm, 59, rfl⟩
abbrev main_call0_c_3 : Ref sig .tc := ⟨.hbm, 60, rfl⟩
abbrev main_call0_v9 : Ref sig .tc := ⟨.hbm, 61, rfl⟩
abbrev main_call0_v10 : Ref sig .tc := ⟨.hbm, 62, rfl⟩
abbrev main_call0_v11 : Ref sig .tc := ⟨.hbm, 63, rfl⟩
abbrev main_call0_v12 : Ref sig .tc := ⟨.hbm, 64, rfl⟩
abbrev main_call0_v13 : Ref sig .tc := ⟨.hbm, 65, rfl⟩
abbrev main_call0_v14 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_cst_5 : Ref sig .tc := ⟨.hbm, 72, rfl⟩
abbrev main_cst_6 : Ref sig .tc := ⟨.hbm, 73, rfl⟩
abbrev main_call1_v0 : Ref sig .tc := ⟨.hbm, 74, rfl⟩
abbrev main_call1_v1 : Ref sig .tc := ⟨.hbm, 75, rfl⟩
abbrev main_v40 : Ref sig .tc := ⟨.hbm, 76, rfl⟩
abbrev main_cst_7 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46_0 : Ref sig .tc := ⟨.hbm, 83, rfl⟩
abbrev main_v46_1 : Ref sig .tc := ⟨.hbm, 84, rfl⟩
abbrev main_v46_2 : Ref sig .tc := ⟨.hbm, 85, rfl⟩
abbrev main_v46_3 : Ref sig .tc := ⟨.hbm, 86, rfl⟩
abbrev main_v46_4 : Ref sig .tc := ⟨.hbm, 87, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg14_0 : Ref sig .tc := ⟨.vmem, 26, rfl⟩
abbrev cc0_stg14_1 : Ref sig .tc := ⟨.vmem, 27, rfl⟩
abbrev cc0_stg15_0 : Ref sig .tc := ⟨.vmem, 28, rfl⟩
abbrev cc0_stg15_1 : Ref sig .tc := ⟨.vmem, 29, rfl⟩
abbrev cc0_stg16_0 : Ref sig .tc := ⟨.vmem, 30, rfl⟩
abbrev cc0_stg16_1 : Ref sig .tc := ⟨.vmem, 31, rfl⟩
abbrev cc0_stg17_0 : Ref sig .tc := ⟨.vmem, 32, rfl⟩
abbrev cc0_stg17_1 : Ref sig .tc := ⟨.vmem, 33, rfl⟩
abbrev cc0_stg18_0 : Ref sig .tc := ⟨.vmem, 34, rfl⟩
abbrev cc0_stg18_1 : Ref sig .tc := ⟨.vmem, 35, rfl⟩
abbrev cc0_stg19_0 : Ref sig .tc := ⟨.vmem, 36, rfl⟩
abbrev cc0_stg19_1 : Ref sig .tc := ⟨.vmem, 37, rfl⟩
abbrev cc0_stg20_0 : Ref sig .tc := ⟨.vmem, 38, rfl⟩
abbrev cc0_stg20_1 : Ref sig .tc := ⟨.vmem, 39, rfl⟩
abbrev cc0_scratch0 : Ref sig .tc := ⟨.vmem, 40, rfl⟩
abbrev cc0_scratch1 : Ref sig .tc := ⟨.vmem, 41, rfl⟩
abbrev cc0_scratch2 : Ref sig .tc := ⟨.vmem, 42, rfl⟩
abbrev cc0_scratch3 : Ref sig .tc := ⟨.vmem, 43, rfl⟩
abbrev cc0_scratch4 : Ref sig .tc := ⟨.vmem, 44, rfl⟩
abbrev cc0_scratch5 : Ref sig .tc := ⟨.vmem, 45, rfl⟩
abbrev cc0_scratch6 : Ref sig .tc := ⟨.vmem, 46, rfl⟩
abbrev cc0_scratch7 : Ref sig .tc := ⟨.vmem, 47, rfl⟩
abbrev cc0_stg13_0 : Ref sig .tc := ⟨.smem, 0, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem14_0 : DmaSem sig := 27
abbrev cc0_sem14_1 : DmaSem sig := 28
abbrev cc0_sem15_0 : DmaSem sig := 29
abbrev cc0_sem15_1 : DmaSem sig := 30
abbrev cc0_sem16_0 : DmaSem sig := 31
abbrev cc0_sem16_1 : DmaSem sig := 32
abbrev cc0_sem17_0 : DmaSem sig := 33
abbrev cc0_sem17_1 : DmaSem sig := 34
abbrev cc0_sem18_0 : DmaSem sig := 35
abbrev cc0_sem18_1 : DmaSem sig := 36
abbrev cc0_sem19_0 : DmaSem sig := 37
abbrev cc0_sem19_1 : DmaSem sig := 38
abbrev cc0_sem20_0 : DmaSem sig := 39
abbrev cc0_sem20_1 : DmaSem sig := 40

abbrev nD : Nat := 1
abbrev τ : Topo := Topo.v7x

variable {F : FTy → Type} [FloatOps F]

abbrev grid0 : Pipeline.Grid := ⟨2, ![4, 33], ![false, false]⟩

def k0_cond1 (i : grid0.Coords) : BitVec 1 :=
  let arg1 : BitVec 32 := BitVec.ofNat 32 (i 1).val
  let c32_i32 : BitVec 32 := 32#32
  let v0 : BitVec 1 := Scalar.cmpi .slt arg1 c32_i32
  let v1 : BitVec 32 := Scalar.extui v0
  let c0_i32 : BitVec 32 := 0#32
  let v2 : BitVec 1 := Scalar.cmpi .ne v1 c0_i32
  v2

def k0_off1 (i : grid0.Coords) (c0_i32_153 : BitVec 32) (c0_i32_155 : BitVec 32) (c0_i32_156 : BitVec 32) : Fin 1 → Nat :=
  let arg0 : BitVec 32 := BitVec.ofNat 32 (i 0).val
  let c2_i32 : BitVec 32 := 2#32
  let v299 : BitVec 32 := Scalar.muli arg0 c2_i32
  let v300 : BitVec 32 := Scalar.addi v299 c0_i32_153
  let c8_i32_154 : BitVec 32 := 8#32
  let v301 : BitVec 32 := Scalar.muli v300 c8_i32_154
  let v302 : BitVec 32 := Scalar.addi v301 c0_i32_155
  let v303 : BitVec 32 := Scalar.addi v302 c0_i32_156
  let v304 : Index := Scalar.indexCast v303
  ![v304.toNat]
def k0_cond10 (i : grid0.Coords) : BitVec 1 :=
  let arg1 : BitVec 32 := BitVec.ofNat 32 (i 1).val
  let c0_i32_382 : BitVec 32 := 0#32
  let v859 : BitVec 1 := Scalar.cmpi .sgt arg1 c0_i32_382
  let v860 : BitVec 32 := Scalar.extui v859
  let c0_i32_383 : BitVec 32 := 0#32
  let v861 : BitVec 1 := Scalar.cmpi .ne v860 c0_i32_383
  v861

def k0_cond11 (i : grid0.Coords) : BitVec 1 :=
  let arg1 : BitVec 32 := BitVec.ofNat 32 (i 1).val
  let c32_i32_0 : BitVec 32 := 32#32
  let v3 : BitVec 1 := Scalar.cmpi .eq arg1 c32_i32_0
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let v1 : BitVec 32 := Scalar.addi c0_i32 arg0
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c32_i32 : BitVec 32 := 32#32
  let v1 : BitVec 32 := Scalar.addi c32_i32 arg0
  let c0_i32 : BitVec 32 := 0#32
  ![v0.toNat, v1.toNat]

def cc0_transform_2 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c32_i32 : BitVec 32 := 32#32
  let v3 : BitVec 32 := Scalar.addi c32_i32 arg0
  let c0_i32_0 : BitVec 32 := 0#32
  ![v2.toNat, v3.toNat]

def cc0_transform_3 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c36_i32 : BitVec 32 := 36#32
  let v1 : BitVec 32 := Scalar.addi c36_i32 arg0
  let c0_i32 : BitVec 32 := 0#32
  ![v0.toNat, v1.toNat]

def cc0_transform_4 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c36_i32 : BitVec 32 := 36#32
  let v3 : BitVec 32 := Scalar.addi c36_i32 arg0
  let c0_i32_0 : BitVec 32 := 0#32
  ![v2.toNat, v3.toNat]

def cc0_transform_5 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c5_i32 : BitVec 32 := 5#32
  let v1 : BitVec 32 := Scalar.addi c5_i32 arg0
  let c0_i32 : BitVec 32 := 0#32
  ![v0.toNat, v1.toNat]

def cc0_transform_6 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  let c0_i32_0 : BitVec 32 := 0#32
  ![v0.toNat, c0_i32.toNat]

def cc0_transform_9 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_10 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_11 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_12 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.minsi arg1 c1_i32
  let c0_i32 : BitVec 32 := 0#32
  let c0_i32_0 : BitVec 32 := 0#32
  let c0_i32_1 : BitVec 32 := 0#32
  ![v0.toNat, c0_i32.toNat, c0_i32_0.toNat]

def cc0_transform_13 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_14 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_15 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_16 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_17 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_18 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi arg1 c1_i32
  let c0_i32 : BitVec 32 := 0#32
  let v1 : BitVec 32 := Scalar.maxsi v0 c0_i32
  let c0_i32_0 : BitVec 32 := 0#32
  ![v1.toNat, arg0.toNat]

def cc0_transform_19 (i : grid0.Coords) : Fin 2 → Nat :=
  let arg0 : BitVec 32 := BitVec.ofNat 32 (i 0).val
  let arg1 : BitVec 32 := BitVec.ofNat 32 (i 1).val
  let c31_i32 : BitVec 32 := 31#32
  let v0 : BitVec 32 := Scalar.minsi arg1 c31_i32
  let c0_i32 : BitVec 32 := 0#32
  ![v0.toNat, arg0.toNat]

def cc0_transform_20 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S128x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S128x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S128x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S128x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![false, true]

abbrev stage0_11 : Fin 2 → Memref sig .tc .vmem S128x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1x128x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![false, true]

abbrev stage0_13 : Fin 1 → Memref sig .tc .smem S64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S128x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S128x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S128x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S128x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S128x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S128x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 2 → Memref sig .tc .vmem S1x8x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true, false]
-- ==== AttnReferenceIdeal.lean ====
abbrev S4096 : Shape := ⟨1, ![4096]⟩
abbrev S4096x29696 : Shape := ⟨2, ![4096, 29696]⟩
abbrev S64 : Shape := ⟨1, ![64]⟩
abbrev S4096x4096 : Shape := ⟨2, ![4096, 4096]⟩
abbrev S1x4096x4096 : Shape := ⟨3, ![1, 4096, 4096]⟩
abbrev S_ : Shape := ⟨0, ![]⟩

abbrev nBuf : Space → Nat
  | .hbm => 31
  | .vmem => 0
  | .smem => 0
  | _ => 0

abbrev bufTy : (tb : Table) → Fin (tcTables nBuf tb) → BufTy
  | .hbm, ⟨0, _⟩ => ⟨S4096, .i32⟩
  | .hbm, ⟨1, _⟩ => ⟨S4096x29696, .bf16⟩
  | .hbm, ⟨2, _⟩ => ⟨S64, .f32⟩
  | .hbm, ⟨3, _⟩ => ⟨S4096x4096, .f32⟩
  | .hbm, ⟨4, _⟩ => ⟨S4096x4096, .f32⟩
  | .hbm, ⟨5, _⟩ => ⟨S4096x29696, .f32⟩
  | .hbm, ⟨6, _⟩ => ⟨S4096x4096, .f32⟩
  | .hbm, ⟨7, _⟩ => ⟨S1x4096x4096, .f32⟩
  | .hbm, ⟨8, _⟩ => ⟨S1x4096x4096, .f32⟩
  | .hbm, ⟨9, _⟩ => ⟨S1x4096x4096, .f32⟩
  | .hbm, ⟨10, _⟩ => ⟨S1x4096x4096, .f32⟩
  | .hbm, ⟨11, _⟩ => ⟨S_, .f32⟩
  | .hbm, ⟨12, _⟩ => ⟨S1x4096x4096, .f32⟩
  | .hbm, ⟨13, _⟩ => ⟨S1x4096x4096, .f32⟩
  | .hbm, ⟨14, _⟩ => ⟨S_, .f32⟩
  | .hbm, ⟨15, _⟩ => ⟨S1x4096x4096, .f32⟩
  | .hbm, ⟨16, _⟩ => ⟨S1x4096x4096, .f32⟩
  | .hbm, ⟨17, _⟩ => ⟨S_, .f32⟩
  | .hbm, ⟨18, _⟩ => ⟨S1x4096x4096, .f32⟩
  | .hbm, ⟨19, _⟩ => ⟨S1x4096x4096, .f32⟩
  | .hbm, ⟨20, _⟩ => ⟨S1x4096x4096, .f32⟩
  | .hbm, ⟨21, _⟩ => ⟨S1x4096x4096, .f32⟩
  | .hbm, ⟨22, _⟩ => ⟨S1x4096x4096, .f32⟩
  | .hbm, ⟨23, _⟩ => ⟨S1x4096x4096, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S1x4096x4096, .f32⟩
  | .hbm, ⟨28, _⟩ => ⟨S1x4096x4096, .f32⟩
  | .hbm, ⟨29, _⟩ => ⟨S4096x4096, .f32⟩
  | .hbm, ⟨30, _⟩ => ⟨S4096x4096, .bf16⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v4_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v4_1 : Ref sig .tc := ⟨.hbm, 20, rfl⟩
abbrev main_v4_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩

abbrev nD : Nat := 1
abbrev τ : Topo := Topo.v7x

variable {F : FTy → Type} [FloatOps F]
-- ==== Proj.lean ====
abbrev S4096x4096 : Shape := ⟨2, ![4096, 4096]⟩
abbrev S4096x29696 : Shape := ⟨2, ![4096, 29696]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x29696, .bf16⟩
  | .hbm, ⟨2, _⟩ => ⟨S4096x29696, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 29, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== ProjReferenceIdeal.lean ====
abbrev S4096x4096 : Shape := ⟨2, ![4096, 4096]⟩
abbrev S4096x29696 : Shape := ⟨2, ![4096, 29696]⟩
abbrev S1x4096x4096 : Shape := ⟨3, ![1, 4096, 4096]⟩
abbrev S1x4096x29696 : Shape := ⟨3, ![1, 4096, 29696]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x29696, .bf16⟩
  | .hbm, ⟨2, _⟩ => ⟨S4096x4096, .f32⟩
  | .hbm, ⟨3, _⟩ => ⟨S1x4096x4096, .f32⟩
  | .hbm, ⟨4, _⟩ => ⟨S4096x29696, .f32⟩
  | .hbm, ⟨5, _⟩ => ⟨S1x4096x29696, .f32⟩
  | .hbm, ⟨6, _⟩ => ⟨S4096x29696, .f32⟩
  | .hbm, ⟨7, _⟩ => ⟨S4096x29696, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== DWIn.lean ====
abbrev S4096x4096 : Shape := ⟨2, ![4096, 4096]⟩
abbrev S4096x29696 : Shape := ⟨2, ![4096, 29696]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x29696, .bf16⟩
  | .hbm, ⟨2, _⟩ => ⟨S4096x29696, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1024x1024, .bf16⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 29, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DWInReferenceIdeal.lean ====
abbrev S4096x4096 : Shape := ⟨2, ![4096, 4096]⟩
abbrev S4096x29696 : Shape := ⟨2, ![4096, 29696]⟩
abbrev S_ : Shape := ⟨0, ![]⟩
abbrev S1x4096x4096 : Shape := ⟨3, ![1, 4096, 4096]⟩
abbrev S1x4096x29696 : Shape := ⟨3, ![1, 4096, 29696]⟩
abbrev S29696x4096 : Shape := ⟨2, ![29696, 4096]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x29696, .bf16⟩
  | .hbm, ⟨2, _⟩ => ⟨S_, .f32⟩
  | .hbm, ⟨3, _⟩ => ⟨S4096x29696, .f32⟩
  | .hbm, ⟨4, _⟩ => ⟨S4096x4096, .f32⟩
  | .hbm, ⟨5, _⟩ => ⟨S1x4096x4096, .f32⟩
  | .hbm, ⟨6, _⟩ => ⟨S1x4096x29696, .f32⟩
  | .hbm, ⟨7, _⟩ => ⟨S4096x29696, .f32⟩
  | .hbm, ⟨8, _⟩ => ⟨S1x4096x29696, .f32⟩
  | .hbm, ⟨9, _⟩ => ⟨S29696x4096, .f32⟩
  | .hbm, ⟨10, _⟩ => ⟨S4096x29696, .f32⟩
  | .hbm, ⟨11, _⟩ => ⟨S4096x29696, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== DHid.lean ====
abbrev S4096x29696 : Shape := ⟨2, ![4096, 29696]⟩
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x29696, .bf16⟩
  | .hbm, ⟨1, _⟩ => ⟨S4096x29696, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x29696, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 29], ![false, false, false]⟩

def k0_cond3 (i : grid0.Coords) : BitVec 1 :=
  let arg2 : BitVec 32 := BitVec.ofNat 32 (i 2).val
  let c28_i32 : BitVec 32 := 28#32
  let v9 : BitVec 1 := Scalar.cmpi .eq arg2 c28_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== DHidReferenceIdeal.lean ====
abbrev S4096x29696 : Shape := ⟨2, ![4096, 29696]⟩
abbrev S_ : Shape := ⟨0, ![]⟩
abbrev S1x4096x4096 : Shape := ⟨3, ![1, 4096, 4096]⟩
abbrev S1x4096x29696 : Shape := ⟨3, ![1, 4096, 29696]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x29696, .bf16⟩
  | .hbm, ⟨1, _⟩ => ⟨S4096x29696, .bf16⟩
  | .hbm, ⟨2, _⟩ => ⟨S_, .f32⟩
  | .hbm, ⟨3, _⟩ => ⟨S1x4096x4096, .f32⟩
  | .hbm, ⟨4, _⟩ => ⟨S4096x29696, .f32⟩
  | .hbm, ⟨5, _⟩ => ⟨S1x4096x29696, .f32⟩
  | .hbm, ⟨6, _⟩ => ⟨S4096x29696, .f32⟩
  | .hbm, ⟨7, _⟩ => ⟨S1x4096x29696, .f32⟩
  | .hbm, ⟨8, _⟩ => ⟨S1x4096x4096, .f32⟩
  | .hbm, ⟨9, _⟩ => ⟨S4096x4096, .f32⟩
  | _, _ => ⟨S4096x29696, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Up.lean ====
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== UpReferenceIdeal.lean ====
abbrev S4096x4096 : Shape := ⟨2, ![4096, 4096]⟩
abbrev S1x4096x4096 : Shape := ⟨3, ![1, 4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .hbm, ⟨3, _⟩ => ⟨S1x4096x4096, .f32⟩
  | .hbm, ⟨4, _⟩ => ⟨S4096x4096, .f32⟩
  | .hbm, ⟨5, _⟩ => ⟨S1x4096x4096, .f32⟩
  | .hbm, ⟨6, _⟩ => ⟨S4096x4096, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== DAttn.lean ====
abbrev S4096x4096 : Shape := ⟨2, ![4096, 4096]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x4096, .bf16⟩
  | .hbm, ⟨1, _⟩ => ⟨S4096x4096, .bf16⟩
  | .hbm, ⟨2, _⟩ => ⟨S4096x4096, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== NormBack.lean ====
abbrev S1x4096x4096 : Shape := ⟨3, ![1, 4096, 4096]⟩
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 7
  | .vmem => 10
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S4096x4096, .f32⟩
  | .hbm, ⟨6, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S1x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== NormBackReferenceIdeal.lean ====
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S1x4096x1 : Shape := ⟨3, ![1, 4096, 1]⟩
abbrev S1x1x4096 : Shape := ⟨3, ![1, 1, 4096]⟩

abbrev nBuf : Space → Nat
  | .hbm => 55
  | .vmem => 0
  | .smem => 0
  | _ => 0

abbrev bufTy : (tb : Table) → Fin (tcTables nBuf tb) → BufTy
  | .hbm, ⟨0, _⟩ => ⟨S1x4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096, .f32⟩
  | .hbm, ⟨5, _⟩ => ⟨S1x4096x4096, .f32⟩
  | .hbm, ⟨6, _⟩ => ⟨S_, .f32⟩
  | .hbm, ⟨7, _⟩ => ⟨S1x4096, .f32⟩
  | .hbm, ⟨8, _⟩ => ⟨S1x4096x1, .f32⟩
  | .hbm, ⟨9, _⟩ => ⟨S_, .f32⟩
  | .hbm, ⟨10, _⟩ => ⟨S1x4096x1, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x4096, .f32⟩
  | .hbm, ⟨21, _⟩ => ⟨S1x4096x4096, .f32⟩
  | .hbm, ⟨22, _⟩ => ⟨S1x1x4096, .f32⟩
  | .hbm, ⟨23, _⟩ => ⟨S1x4096x4096, .f32⟩
  | .hbm, ⟨24, _⟩ => ⟨S1x4096x4096, .f32⟩
  | .hbm, ⟨25, _⟩ => ⟨S1x4096x4096, .f32⟩
  | .hbm, ⟨26, _⟩ => ⟨S1x4096x4096, .f32⟩
  | .hbm, ⟨27, _⟩ => ⟨S_, .f32⟩
  | .hbm, ⟨28, _⟩ => ⟨S1x4096, .f32⟩
  | .hbm, ⟨29, _⟩ => ⟨S1x1x4096, .f32⟩
  | .hbm, ⟨30, _⟩ => ⟨S1x4096x4096, .f32⟩
  | .hbm, ⟨31, _⟩ => ⟨S1x4096x4096, .f32⟩
  | .hbm, ⟨32, _⟩ => ⟨S_, .f32⟩
  | .hbm, ⟨33, _⟩ => ⟨S4096, .f32⟩
  | .hbm, ⟨34, _⟩ => ⟨S1x4096x4096, .f32⟩
  | .hbm, ⟨35, _⟩ => ⟨S_, .f32⟩
  | .hbm, ⟨36, _⟩ => ⟨S1x4096, .f32⟩
  | .hbm, ⟨37, _⟩ => ⟨S1x4096x1, .f32⟩
  | .hbm, ⟨38, _⟩ => ⟨S1x4096x4096, .f32⟩
  | .hbm, ⟨39, _⟩ => ⟨S1x4096x4096, .f32⟩
  | .hbm, ⟨40, _⟩ => ⟨S1x4096x1, .f32⟩
  | .hbm, ⟨41, _⟩ => ⟨S_, .f32⟩
  | .hbm, ⟨42, _⟩ => ⟨S1x4096x1, .f32⟩
  | .hbm, ⟨43, _⟩ => ⟨S1x4096x1, .f32⟩
  | .hbm, ⟨44, _⟩ => ⟨S_, .f32⟩
  | .hbm, ⟨45, _⟩ => ⟨S4096, .f32⟩
  | .hbm, ⟨46, _⟩ => ⟨S1x4096, .f32⟩
  | .hbm, ⟨47, _⟩ => ⟨S1x4096x4096, .f32⟩
  | .hbm, ⟨48, _⟩ => ⟨S1x4096x4096, .f32⟩
  | .hbm, ⟨49, _⟩ => ⟨S1x4096x4096, .f32⟩
  | .hbm, ⟨50, _⟩ => ⟨S1x4096x4096, .f32⟩
  | .hbm, ⟨51, _⟩ => ⟨S1x4096x4096, .f32⟩
  | .hbm, ⟨52, _⟩ => ⟨S4096x4096, .f32⟩
  | .hbm, ⟨53, _⟩ => ⟨S4096x4096, .f32⟩
  | .hbm, ⟨54, _⟩ => ⟨S1x4096, .f32⟩
  | _, _ => ⟨S1x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_4 : Ref sig .tc := ⟨.hbm, 32, rfl⟩
abbrev main_v23 : Ref sig .tc := ⟨.hbm, 33, rfl⟩
abbrev main_v24 : Ref sig .tc := ⟨.hbm, 34, rfl⟩
abbrev main_cst_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩

abbrev nD : Nat := 1
abbrev τ : Topo := Topo.v7x

variable {F : FTy → Type} [FloatOps F]
-- ==== Proof.ActGrad.lean ====
/- The gradient of a product in its first factor: what the kernel leaves and what the reference computes. -/
module

public import proofs.«01_k».proof.Proof.Gen.DActIdeal.Value
public import proofs.«01_k».proof.Proof.Gen.DActReferenceIdeal.Read
public import Idealize.ShloMosaic.Lib.Pointwise
public import Idealize.ShloMosaic.Lib.Pipeline.ValueKit

@[expose] public section

set_option maxRecDepth 16384

noncomputable section

namespace Cert.ActGrad

open Idealize.ShloMosaic Idealize.ShloMosaic.TcCoe Idealize.SL.Sem Cert.DActIdeal Cert.DActIdeal.Gen
open Idealize.ShloMosaic.Pipeline (Dat)

/-- Row `r` of the gradient against row `k` of the weight. -/
def prod (w dy : S4096x4096.Idx → EReal) (r k : Fin 4096) : EReal := ∑ j : Fin 4096, dy (ix2 r j) * w (ix2 k j)

/-- One block: rows of the one operand against rows of the other. -/
theorem block (a b : FVec Ideal S1024x4096 .bf16) (r k : Fin 1024) :
    k0_pay1 (F := Ideal) a b (ix2 r k) = ∑ j : Fin 4096, (a (ix2 r j) : EReal) * (b (ix2 k j) : EReal) := by
  pointwise [k0_pay1]

variable (m : (ℓ : Loc nD τ DActIdeal.sig) → Buf (Elt Ideal) ℓ) (c : Dev nD)

theorem idx0 : ∀ t : Fin grid0.N, (win0_0).index t = ![t.val / 4, 0] := by decide +kernel
theorem idx1 : ∀ t : Fin grid0.N, (win0_1).index t = ![t.val % 4, 0] := by decide +kernel
theorem idx2 : ∀ t : Fin grid0.N, (win0_2).index t = ![t.val / 4, t.val % 4] := by decide +kernel

/-- What the kernel leaves. -/
theorem arr : (dats m 0 c).arrAt 2 cfg0.N = fun y : S4096x4096.Idx =>
    prod (m ((c : Thread nD τ).loc main_arg0)) (m ((c : Thread nD τ).loc main_arg1)) (y 0) (y 1) := by
  refine (dats m 0 c).arrAt_eq_of_covers 2 _ (by decide +kernel) fun t hf y => ?_
  have e0 := idx0 t
  have e1 := idx1 t
  have e2 := idx2 t
  rw [after0_2]
  unfold out0_2
  simp only [r0_0, r0_1]
  rw [View.canon_cons_unit_lit _ _ _ (by decide), View.ld_unit_lit _ _ (by decide), View.ld_unit_lit _ _ (by decide)]
  obtain ⟨y0, y1, rfl⟩ : ∃ (y0 y1 : Fin 1024), y = ix2 y0 y1 := ⟨_, _, funext (Fin.forall_fin_two.mpr ⟨rfl, rfl⟩)⟩
  refine (block _ _ y0 y1).trans (Finset.sum_congr rfl fun j _ => ?_)
  refine congr (congrArg _ ((congrFun (V_main_arg1 m c) _).trans (congrArg _ ?_))) ((congrFun (V_main_arg0 m c) _).trans (congrArg _ ?_))
  · refine funext (Fin.forall_fin_two.mpr ⟨Fin.ext ?_, Fin.ext ?_⟩) <;> blk_simp [e0, e2]
  · refine funext (Fin.forall_fin_two.mpr ⟨Fin.ext ?_, Fin.ext ?_⟩) <;> blk_simp [e1, e2]

open Cert.DActReferenceIdeal Cert.DActReferenceIdeal.Read in
/-- What the reference computes. -/
theorem ref (w dy : (⟨DActIdeal.S4096x4096, .bf16⟩ : BufTy).Contents (Elt Ideal)) :
    val_main_v6 (F := Ideal) w dy = fun y : DActIdeal.S4096x4096.Idx => prod w dy (y 0) (y 1) := by
  funext y
  rw [val_main_v6_apply, val_main_v5_apply]
  refine Finset.sum_congr rfl fun j _ => ?_
  rw [val_main_v4_apply, val_main_v3_apply, val_main_v1_apply]
  refine congr (congrArg _ (congrArg dy ?_)) (congrArg w ?_)
  · refine funext (Fin.forall_fin_two.mpr ⟨Fin.ext ?_, Fin.ext ?_⟩)
    · show ((y 0).val * 4096 + (y 1).val) / 4096 % 4096 = (y 0).val
      have h0 : (y 0).val < 4096 := (y 0).isLt; have h1 : (y 1).val < 4096 := (y 1).isLt; omega
    · rfl
  · refine funext (Fin.forall_fin_two.mpr ⟨Fin.ext ?_, Fin.ext ?_⟩)
    · show ((y 0).val * 4096 + (y 1).val) % 4096 = (y 1).val
      have h0 : (y 0).val < 4096 := (y 0).isLt; have h1 : (y 1).val < 4096 := (y 1).isLt; omega
    · rfl

end Cert.ActGrad

end
-- ==== Proof.WeightGrad.lean ====
/- The gradient of a product in its second factor: what the kernel leaves and what the reference computes. -/
module

public import proofs.«01_k».proof.Proof.Gen.DWeightIdeal.Value
public import proofs.«01_k».proof.Proof.Gen.DWeightReferenceIdeal.Read
public import Idealize.ShloMosaic.Lib.Pointwise
public import Idealize.ShloMosaic.Lib.Pipeline.ValueKit

@[expose] public section

set_option maxRecDepth 16384

noncomputable section

namespace Cert.WeightGrad

open Idealize.ShloMosaic Idealize.ShloMosaic.TcCoe Idealize.SL.Sem Cert.DWeightIdeal Cert.DWeightIdeal.Gen
open Idealize.ShloMosaic.Pipeline (Dat)

/-- Column `r` of the activation against column `k` of the gradient. -/
def prod (a dy : S4096x4096.Idx → EReal) (r k : Fin 4096) : EReal := ∑ j : Fin 4096, a (ix2 j r) * dy (ix2 j k)

/-- One block: columns of the one operand against columns of the other. -/
theorem block (a b : FVec Ideal S4096x1024 .bf16) (r k : Fin 1024) :
    k0_pay1 (F := Ideal) a b (ix2 r k) = ∑ j : Fin 4096, (a (ix2 j r) : EReal) * (b (ix2 j k) : EReal) := by
  pointwise [k0_pay1]

variable (m : (ℓ : Loc nD τ DWeightIdeal.sig) → Buf (Elt Ideal) ℓ) (c : Dev nD)

theorem idx0 : ∀ t : Fin grid0.N, (win0_0).index t = ![0, t.val / 4] := by decide +kernel
theorem idx1 : ∀ t : Fin grid0.N, (win0_1).index t = ![0, t.val % 4] := by decide +kernel
theorem idx2 : ∀ t : Fin grid0.N, (win0_2).index t = ![t.val / 4, t.val % 4] := by decide +kernel

/-- What the kernel leaves. -/
theorem arr : (dats m 0 c).arrAt 2 cfg0.N = fun y : S4096x4096.Idx =>
    prod (m ((c : Thread nD τ).loc main_arg0)) (m ((c : Thread nD τ).loc main_arg1)) (y 0) (y 1) := by
  refine (dats m 0 c).arrAt_eq_of_covers 2 _ (by decide +kernel) fun t hf y => ?_
  have e0 := idx0 t
  have e1 := idx1 t
  have e2 := idx2 t
  rw [after0_2]
  unfold out0_2
  simp only [r0_0, r0_1]
  rw [View.canon_cons_unit_lit _ _ _ (by decide), View.ld_unit_lit _ _ (by decide), View.ld_unit_lit _ _ (by decide)]
  obtain ⟨y0, y1, rfl⟩ : ∃ (y0 y1 : Fin 1024), y = ix2 y0 y1 := ⟨_, _, funext (Fin.forall_fin_two.mpr ⟨rfl, rfl⟩)⟩
  refine (block _ _ y0 y1).trans (Finset.sum_congr rfl fun j _ => ?_)
  refine congr (congrArg _ ((congrFun (V_main_arg0 m c) _).trans (congrArg _ ?_))) ((congrFun (V_main_arg1 m c) _).trans (congrArg _ ?_))
  · refine funext (Fin.forall_fin_two.mpr ⟨Fin.ext ?_, Fin.ext ?_⟩) <;> blk_simp [e0, e2]
  · refine funext (Fin.forall_fin_two.mpr ⟨Fin.ext ?_, Fin.ext ?_⟩) <;> blk_simp [e1, e2]

open Cert.DWeightReferenceIdeal Cert.DWeightReferenceIdeal.Read in
/-- What the reference computes. -/
theorem ref (a dy : (⟨DWeightIdeal.S4096x4096, .bf16⟩ : BufTy).Contents (Elt Ideal)) :
    val_main_v8 (F := Ideal) a dy = fun y : DWeightIdeal.S4096x4096.Idx => prod a dy (y 0) (y 1) := by
  funext y
  obtain ⟨y0, y1, rfl⟩ : ∃ (y0 y1 : Fin 4096), y = ix2 y0 y1 := ⟨_, _, funext (Fin.forall_fin_two.mpr ⟨rfl, rfl⟩)⟩
  have e : val_main_v8 (F := Ideal) a dy (ix2 y0 y1) = ∑ j : Fin 4096, (dy (ix2 j y1) : EReal) * (a (ix2 j y0) : EReal) := by
    pointwise [val_main_v8, val_main_v7, val_main_v6, val_main_v5, val_main_v4, val_main_v2, val_main_v1]
    exact Fin.sum_univ_one _
  exact e.trans (Finset.sum_congr rfl fun j _ => EReal.mul_comm _ _)

end Cert.WeightGrad

end
-- ==== Proof.Output.lean ====
/- The last product of the forward pass with its residual: what the kernel leaves and what the reference computes. -/
module

public import proofs.«01_k».proof.Proof.Gen.OutProjIdeal.Value
public import proofs.«01_k».proof.Proof.Gen.OutProjReferenceIdeal.Read
public import Idealize.ShloMosaic.Lib.Pointwise
public import Idealize.ShloMosaic.Lib.Pipeline.ValueKit

@[expose] public section

set_option maxRecDepth 16384

noncomputable section

namespace Cert.Output

open Idealize.ShloMosaic Idealize.ShloMosaic.TcCoe Idealize.SL.Sem Cert.OutProjIdeal Cert.OutProjIdeal.Gen
open Idealize.ShloMosaic.Pipeline (Dat)

/-- A row of the merged activation against a column of the weight, and the residual. -/
def out (a w x : S4096x4096.Idx → EReal) (r k : Fin 4096) : EReal := x (ix2 r k) + ∑ j : Fin 4096, a (ix2 r j) * w (ix2 j k)

/-- The first half of the contraction. -/
theorem half0 (a : FVec Ideal S1024x2048 .bf16) (b : FVec Ideal S2048x1024 .bf16) (r k : Fin 1024) :
    k0_pay1 (F := Ideal) a b (ix2 r k) = ∑ j : Fin 2048, (a (ix2 r j) : EReal) * (b (ix2 j k) : EReal) := by
  pointwise [k0_pay1]

/-- The second half, on what the first left, and the residual. -/
theorem half1 (p : FVec Ideal S1024x1024 .f32) (a : FVec Ideal S1024x2048 .bf16) (b : FVec Ideal S2048x1024 .bf16)
    (x : FVec Ideal S1024x1024 .f32) (r k : Fin 1024) :
    k0_pay3 (F := Ideal) p a b x (ix2 r k) = ((p (ix2 r k) : EReal) + ∑ j : Fin 2048, (a (ix2 r j) : EReal) * (b (ix2 j k) : EReal)) + (x (ix2 r k) : EReal) := by
  pointwise [k0_pay3]

/-- A sum cut in its two halves. -/
theorem sum_halves (f : Fin 4096 → EReal) :
    ∑ j, f j = (∑ j : Fin 2048, f ⟨j.val, by omega⟩) + ∑ j : Fin 2048, f ⟨2048 + j.val, by omega⟩ :=
  Fin.sum_univ_add (a := 2048) (b := 2048) f

variable (m : (ℓ : Loc nD τ OutProjIdeal.sig) → Buf (Elt Ideal) ℓ) (c : Dev nD)

theorem idx0 : ∀ t : Fin grid0.N, (win0_0).index t = ![t.val / 8, t.val % 2] := by decide +kernel
theorem idx1 : ∀ t : Fin grid0.N, (win0_1).index t = ![t.val % 2, t.val / 2 % 4] := by decide +kernel
theorem idx2 : ∀ t : Fin grid0.N, (win0_2).index t = ![t.val / 8, t.val / 2 % 4] := by decide +kernel
theorem idx3 : ∀ t : Fin grid0.N, (win0_3).index t = ![t.val / 8, t.val / 2 % 4] := by decide +kernel

/-- What an even point leaves in the accumulator. -/
theorem acc (t : Fin cfg0.N) (h0 : t.val % 2 = 0) : (outsAt0 m c t.val t.isLt).2 = k0_pay1 (F := Ideal) (iblk m c 0 t) (iblk m c 1 t) := by
  rw [outsAt0_A m c t h0 (by omega)]
  dsimp only
  frame_out

/-- What an odd point leaves in the block of the result. -/
theorem res (t : Fin cfg0.N) (h0 : t.val % 2 = 1) : (outsAt0 m c t.val t.isLt).1 =
    k0_pay3 (F := Ideal) ((outsAt0 m c (t.val - 1) (Nat.lt_of_le_of_lt (Nat.sub_le _ _) t.isLt)).2) (iblk m c 0 t) (iblk m c 1 t) (iblk m c 2 t) := by
  rw [outsAt0_B m c t (by omega) h0]
  dsimp only
  generalize (outsAt0 m c (t.val - 1) (Nat.lt_of_le_of_lt (Nat.sub_le _ _) t.isLt)) = Y
  frame_out
  exact congrArg (fun Z => k0_pay3 (F := Ideal) Z (iblk m c 0 t) (iblk m c 1 t) (iblk m c 2 t)) (Memref.IsWhole.read_unread _ _)

/-- What the kernel leaves. -/
theorem arr : (dats m 0 c).arrAt 3 cfg0.N = fun y : S4096x4096.Idx =>
    out (m ((c : Thread nD τ).loc main_arg0)) (m ((c : Thread nD τ).loc main_arg1)) (m ((c : Thread nD τ).loc main_arg2)) (y 0) (y 1) := by
  refine (dats m 0 c).arrAt_eq_of_covers 3 _ (by decide +kernel) fun t hf y => ?_
  have ht : t.val % 2 = 1 := (flush0_3 t).mp hf
  obtain ⟨s, hs⟩ : ∃ s : Fin cfg0.N, s.val = t.val - 1 := ⟨⟨t.val - 1, Nat.lt_of_le_of_lt (Nat.sub_le _ _) t.isLt⟩, rfl⟩
  have e0 := idx0 t
  have e1 := idx1 t
  have e2 := idx2 t
  have e3 := idx3 t
  have f0 := idx0 s
  have f1 := idx1 s
  have hp := acc m c s (by omega)
  rw [after0_3, res m c t ht]
  simp only [← hs]
  rw [hp]
  obtain ⟨y0, y1, rfl⟩ : ∃ (y0 y1 : Fin 1024), y = ix2 y0 y1 := ⟨_, _, funext (Fin.forall_fin_two.mpr ⟨rfl, rfl⟩)⟩
  refine (half1 _ _ _ _ y0 y1).trans ?_
  rw [half0]
  refine (add_comm _ _).trans (congr (congrArg _ ((congrFun (V_main_arg2 m c) _).trans (congrArg _ ?_))) ?_)
  · refine funext (Fin.forall_fin_two.mpr ⟨Fin.ext ?_, Fin.ext ?_⟩) <;> blk_simp [e2, e3]
  rw [sum_halves]
  refine congr (congrArg _ (Finset.sum_congr rfl fun j _ => ?_)) (Finset.sum_congr rfl fun j _ => ?_)
  · refine congr (congrArg _ ((congrFun (V_main_arg0 m c) _).trans (congrArg _ ?_))) ((congrFun (V_main_arg1 m c) _).trans (congrArg _ ?_))
    · refine funext (Fin.forall_fin_two.mpr ⟨Fin.ext ?_, Fin.ext ?_⟩) <;> blk_simp [f0, e3] <;> (try dsimp only) <;> omega
    · refine funext (Fin.forall_fin_two.mpr ⟨Fin.ext ?_, Fin.ext ?_⟩) <;> blk_simp [f1, e3] <;> (try dsimp only) <;> omega
  · refine congr (congrArg _ ((congrFun (V_main_arg0 m c) _).trans (congrArg _ ?_))) ((congrFun (V_main_arg1 m c) _).trans (congrArg _ ?_))
    · refine funext (Fin.forall_fin_two.mpr ⟨Fin.ext ?_, Fin.ext ?_⟩) <;> blk_simp [e0, e3] <;> (try dsimp only) <;> omega
    · refine funext (Fin.forall_fin_two.mpr ⟨Fin.ext ?_, Fin.ext ?_⟩) <;> blk_simp [e1, e3] <;> (try dsimp only) <;> omega

open Cert.OutProjReferenceIdeal Cert.OutProjReferenceIdeal.Read in
/-- What the reference computes. -/
theorem ref (a w : (⟨OutProjIdeal.S4096x4096, .bf16⟩ : BufTy).Contents (Elt Ideal)) (x : (⟨OutProjIdeal.S4096x4096, .f32⟩ : BufTy).Contents (Elt Ideal)) :
    val_main_v6 (F := Ideal) a w x = fun y : OutProjIdeal.S4096x4096.Idx => out a w x (y 0) (y 1) := by
  funext y
  obtain ⟨y0, y1, rfl⟩ : ∃ (y0 y1 : Fin 4096), y = ix2 y0 y1 := ⟨_, _, funext (Fin.forall_fin_two.mpr ⟨rfl, rfl⟩)⟩
  show _ = out a w x y0 y1
  unfold out
  pointwise [val_main_v6, val_main_v5, val_main_v4, val_main_v3, val_main_v2, val_main_v1, val_main_v0]

end Cert.Output

end
-- ==== Proof.Spec.lean ====
/- The gradient of the chunked spatial gating over the real numbers: what both programs compute where what they read of their
   arguments is finite. Rows are the positions of the sequence, 32 chunks of 128; columns are the channels, 8 groups of 512. -/
module

public import Idealize.ShloMosaic.PureOps.Ideal.Laws

@[expose] public section

noncomputable section

namespace Cert.Gating

open Idealize.ShloMosaic

/-- A finite sum of reals, read among the extended reals. -/
theorem coe_sum {ι : Type*} (s : Finset ι) (f : ι → ℝ) : ∑ i ∈ s, ((f i : ℝ) : EReal) = ((∑ i ∈ s, f i : ℝ) : EReal) := by
  classical
  induction s using Finset.induction_on with
  | empty => simp
  | insert a s h ih => rw [Finset.sum_insert h, Finset.sum_insert h, EReal.coe_add, ih]

/-- Row `t` of chunk `n`. -/
def row (n : Fin 32) (t : Fin 128) : Fin 4096 := ⟨n.val * 128 + t.val, by omega⟩
/-- The chunk of a row. -/
def chunk (r : Fin 4096) : Fin 32 := ⟨r.val / 128, by omega⟩
/-- The place of a row in its chunk. -/
def pos (r : Fin 4096) : Fin 128 := ⟨r.val % 128, by omega⟩
/-- Channel `k` of group `g`. -/
def col (g : Fin 8) (k : Fin 512) : Fin 4096 := ⟨g.val * 512 + k.val, by omega⟩
/-- The group of a channel. -/
def grp (c : Fin 4096) : Fin 8 := ⟨c.val / 512, by omega⟩

theorem chunk_row (n : Fin 32) (t : Fin 128) : chunk (row n t) = n := Fin.ext (by simp only [chunk, row]; omega)
theorem pos_row (n : Fin 32) (t : Fin 128) : pos (row n t) = t := Fin.ext (by simp only [pos, row]; omega)
theorem grp_col (g : Fin 8) (k : Fin 512) : grp (col g k) = g := Fin.ext (by simp only [grp, col]; omega)
theorem row_chunk_pos (r : Fin 4096) : row (chunk r) (pos r) = r := Fin.ext (by simp only [chunk, row, pos]; omega)

/-- A sum over the rows, chunk by chunk. -/
theorem sum_rows (f : Fin 4096 → ℝ) : ∑ r, f r = ∑ n, ∑ t, f (row n t) := by
  rw [← Finset.sum_product', Finset.univ_product_univ]
  symm
  exact Fintype.sum_bijective (fun p : Fin 32 × Fin 128 => row p.1 p.2)
    ⟨fun a b h => Prod.ext (by simpa only [chunk_row] using congrArg chunk h) (by simpa only [pos_row] using congrArg pos h),
      fun r => ⟨(chunk r, pos r), row_chunk_pos r⟩⟩ _ _ (fun _ => rfl)

/-- The word nearest the square root of 2/π, the gelu's scale. -/
def scale : ℝ := 6693141 / 8388608
/-- The gelu's cubic coefficient. -/
def cube : ℝ := 8943 / 200000
/-- What the normalisation adds to the variance. -/
def eps : ℝ := 2748779 / 274877906944

/-- The gelu's hyperbolic tangent. -/
def th (x : ℝ) : ℝ := Real.tanh (scale * (x + cube * (x * x * x)))
/-- Half of one plus it. -/
def cdf (x : ℝ) : ℝ := 1 / 2 * (1 + th x)
/-- The tanh gelu. -/
def gel (x : ℝ) : ℝ := x * cdf x
/-- Its derivative. -/
def gel' (x : ℝ) : ℝ := cdf x + 1 / 2 * x * (1 - th x * th x) * scale * (1 + 3 * cube * (x * x))
/-- The logistic function. -/
def sig (x : ℝ) : ℝ := (1 + Real.exp (-x))⁻¹

/-- What the gradient reads: the branch's three inputs and the gradient that comes in, by row and channel; the mixing weights on
    and below the diagonal and the mixing bias, by group; the normalisation's gain and bias, by channel. -/
structure Nums where
  u : Fin 4096 → Fin 4096 → ℝ
  vg : Fin 4096 → Fin 4096 → ℝ
  gb : Fin 4096 → Fin 4096 → ℝ
  db : Fin 4096 → Fin 4096 → ℝ
  ws : Fin 8 → Fin 128 → Fin 128 → ℝ
  bs : Fin 8 → Fin 128 → ℝ
  lg : Fin 4096 → ℝ
  lb : Fin 4096 → ℝ

namespace Nums

variable (N : Nums)

/-- A row's mean. -/
def mu (r : Fin 4096) : ℝ := (∑ c, gel (N.vg r c)) / 4096
/-- A row less its mean. -/
def xc (r c : Fin 4096) : ℝ := gel (N.vg r c) - N.mu r
/-- A row's variance, the small number added. -/
def var (r : Fin 4096) : ℝ := (∑ c, N.xc r c * N.xc r c) / 4096 + eps
/-- One over its square root. -/
def rs (r : Fin 4096) : ℝ := (√(N.var r))⁻¹
/-- The normalised row. -/
def vh (r c : Fin 4096) : ℝ := N.xc r c * N.rs r
/-- … with gain and bias. -/
def vn (r c : Fin 4096) : ℝ := N.vh r c * N.lg c + N.lb c
/-- The causal mixing weights. -/
def w (g : Fin 8) (t s : Fin 128) : ℝ := if s ≤ t then N.ws g t s else 0
/-- The chunk's rows mixed. -/
def mix (r c : Fin 4096) : ℝ := (∑ s, N.w (grp c) (pos r) s * N.vn (row (chunk r) s) c) + N.bs (grp c) (pos r)
/-- The gradient of the gated product. -/
def dsg (r c : Fin 4096) : ℝ := N.db r c * (N.gb r c * sig (N.gb r c))
/-- The gradient of the mixed rows. -/
def dm (r c : Fin 4096) : ℝ := N.dsg r c * gel (N.u r c)
/-- The gradient of the rows before mixing. -/
def dvn (r c : Fin 4096) : ℝ := ∑ t, N.w (grp c) t (pos r) * N.dm (row (chunk r) t) c
/-- … of the normalised rows. -/
def dvh (r c : Fin 4096) : ℝ := N.dvn r c * N.lg c
/-- Its mean over the channels. -/
def m1 (r : Fin 4096) : ℝ := (∑ c, N.dvh r c) / 4096
/-- Its mean against the normalised row. -/
def m2 (r : Fin 4096) : ℝ := (∑ c, N.dvh r c * N.vh r c) / 4096
/-- The gradient of the gelu of the row. -/
def dgv (r c : Fin 4096) : ℝ := N.rs r * (N.dvh r c - N.m1 r - N.vh r c * N.m2 r)

/-- The gradients of the branch's three inputs. -/
def du (r c : Fin 4096) : ℝ := N.dsg r c * N.mix r c * gel' (N.u r c)
def dvg (r c : Fin 4096) : ℝ := N.dgv r c * gel' (N.vg r c)
def dgb (r c : Fin 4096) : ℝ :=
  N.db r c * (gel (N.u r c) * N.mix r c) * (sig (N.gb r c) * (1 + N.gb r c * (1 - sig (N.gb r c))))
/-- The gradients of the mixing weights and bias, of gain and bias: first one chunk's share, then the sum. -/
def dws1 (n : Fin 32) (g : Fin 8) (t s : Fin 128) : ℝ :=
  if s ≤ t then ∑ k, N.dm (row n t) (col g k) * N.vn (row n s) (col g k) else 0
def dbs1 (n : Fin 32) (g : Fin 8) (t : Fin 128) : ℝ := ∑ k, N.dm (row n t) (col g k)
def dlg1 (n : Fin 32) (c : Fin 4096) : ℝ := ∑ s, N.dvn (row n s) c * N.vh (row n s) c
def dlb1 (n : Fin 32) (c : Fin 4096) : ℝ := ∑ s, N.dvn (row n s) c
def dws (g : Fin 8) (t s : Fin 128) : ℝ := ∑ n, N.dws1 n g t s
def dbs (g : Fin 8) (t : Fin 128) : ℝ := ∑ n, N.dbs1 n g t
def dlg (c : Fin 4096) : ℝ := ∑ n, N.dlg1 n c
def dlb (c : Fin 4096) : ℝ := ∑ n, N.dlb1 n c

theorem eps_pos : 0 < eps := by norm_num [eps]

theorem var_pos (r : Fin 4096) : 0 < N.var r := by
  have h : 0 ≤ ∑ c, N.xc r c * N.xc r c := Finset.sum_nonneg fun c _ => mul_self_nonneg _
  have := eps_pos
  unfold var
  positivity

theorem rs_mul_self (r : Fin 4096) : N.rs r * N.rs r = 1 / N.var r := by
  have h := (N.var_pos r).le
  unfold rs
  rw [← mul_inv, Real.mul_self_sqrt h, one_div]

theorem sum_xc (r : Fin 4096) : ∑ c, N.xc r c = 0 := by
  simp only [xc, Finset.sum_sub_distrib, Finset.sum_const, Finset.card_univ, Fintype.card_fin, mu, nsmul_eq_mul]
  push_cast
  ring

end Nums

/-- The gelu's derivative as differentiating its expression writes it: by the factors of one less the tangent squared. -/
theorem gel'_eq (x y : ℝ) : y * cdf x + scale * (1 / 2 * (x * y) * ((1 + th x) * (1 - th x)))
    + cube * (scale * (1 / 2 * (x * y) * ((1 + th x) * (1 - th x)))) * (3 * (x * x)) = y * gel' x := by
  unfold gel'
  ring

end Cert.Gating

end
-- ==== Proof.Consts.lean ====
/- The literals of the two programs as numbers. -/
module

public import proofs.«01_k».proof.Proof.Spec
public import Idealize.ShloMosaic.PureOps.Ideal.Laws

@[expose] public section

noncomputable section

namespace Cert.Gating.Consts

open Idealize.ShloMosaic

theorem zero : (FloatOps.ofBits .f32 0x00000000#32 : Ideal .f32) = ((0 : ℝ) : EReal) := by
  simp [FloatOps.ofBits, Ideal.ofBits, Ideal.ieee]
theorem one : (FloatOps.ofBits .f32 0x3F800000#32 : Ideal .f32) = ((1 : ℝ) : EReal) := by
  simp [FloatOps.ofBits, Ideal.ofBits, Ideal.ieee, -EReal.coe_mul]; norm_num
theorem half : (FloatOps.ofBits .f32 0x3F000000#32 : Ideal .f32) = ((1 / 2 : ℝ) : EReal) := by
  simp [FloatOps.ofBits, Ideal.ofBits, Ideal.ieee, -EReal.coe_mul]; norm_num
theorem neghalf : (FloatOps.ofBits .f32 0xBF000000#32 : Ideal .f32) = ((-1 / 2 : ℝ) : EReal) := by
  simp [FloatOps.ofBits, Ideal.ofBits, Ideal.ieee, -EReal.coe_mul]; norm_num
theorem three : (FloatOps.ofBits .f32 0x40400000#32 : Ideal .f32) = ((3 : ℝ) : EReal) := by
  simp [FloatOps.ofBits, Ideal.ofBits, Ideal.ieee, -EReal.coe_mul]; norm_num
theorem width : (FloatOps.ofBits .f32 0x45800000#32 : Ideal .f32) = ((4096 : ℝ) : EReal) := by
  simp [FloatOps.ofBits, Ideal.ofBits, Ideal.ieee, -EReal.coe_mul]; norm_num
theorem scale : (FloatOps.ofBits .f32 0x3F4C422A#32 : Ideal .f32) = ((Gating.scale : ℝ) : EReal) := by
  simp [FloatOps.ofBits, Ideal.ofBits, Ideal.ieee, -EReal.coe_mul]; norm_num [Gating.scale]
theorem eps : (FloatOps.ofBits .f32 0x3727C5AC#32 : Ideal .f32) = ((Gating.eps : ℝ) : EReal) := by
  simp [FloatOps.ofBits, Ideal.ofBits, Ideal.ieee, -EReal.coe_mul]; norm_num [Gating.eps]
theorem cubeNum : (FloatOps.ofBits .f32 0x472EAB00#32 : Ideal .f32) = ((44715 : ℝ) : EReal) := by
  simp [FloatOps.ofBits, Ideal.ofBits, Ideal.ieee, -EReal.coe_mul]; norm_num
theorem cubeDen : (FloatOps.ofBits .f32 0x49742400#32 : Ideal .f32) = ((1000000 : ℝ) : EReal) := by
  simp [FloatOps.ofBits, Ideal.ofBits, Ideal.ieee, -EReal.coe_mul]; norm_num

end Cert.Gating.Consts

end
-- ==== Proof.MergeGrad.lean ====
/- The backward pass of the merge: what the kernel leaves and what the reference computes. -/
module

public import proofs.«01_k».proof.Proof.Consts
public import proofs.«01_k».proof.Proof.Gen.MergeIdeal.Value
public import proofs.«01_k».proof.Proof.Gen.MergeReferenceIdeal.Read
public import Idealize.ShloMosaic.Lib.Pointwise
public import Idealize.ShloMosaic.Lib.Pipeline.ValueKit

@[expose] public section

set_option maxRecDepth 16384

noncomputable section

namespace Cert.MergeGrad

open Idealize.ShloMosaic Idealize.ShloMosaic.TcCoe Idealize.SL.Sem Cert.MergeIdeal Cert.MergeIdeal.Gen
open Idealize.ShloMosaic.Pipeline (Dat)

/-- The gradient of a gated branch, and of the gate's input. -/
def dBranch (d g : EReal) : EReal := d * Ideal.logistic g
def dGate (d g y : EReal) : EReal := d * y * Ideal.logistic g * ((FloatOps.ofBits .f32 0x3F800000#32 : Ideal .f32) - Ideal.logistic g)

/-- The two gates' columns of the projection. -/
def colA (k : Fin 4096) : Fin 29696 := ⟨21504 + k.val, by omega⟩
def colB (k : Fin 4096) : Fin 29696 := ⟨25600 + k.val, by omega⟩

/-- The gates' gradients side by side. -/
def wide (p : S4096x29696.Idx → EReal) (ya yb d : S4096x4096.Idx → EReal) (r : Fin 4096) (k : Fin 8192) : EReal :=
  if h : k.val < 4096 then dGate (d (ix2 r ⟨k.val, h⟩)) (p (ix2 r (colA ⟨k.val, h⟩))) (ya (ix2 r ⟨k.val, h⟩))
  else dGate (d (ix2 r ⟨k.val - 4096, by omega⟩)) (p (ix2 r (colB ⟨k.val - 4096, by omega⟩))) (yb (ix2 r ⟨k.val - 4096, by omega⟩))

theorem wide_a (p : S4096x29696.Idx → EReal) (ya yb d : S4096x4096.Idx → EReal) (r : Fin 4096) (k : Fin 8192) (q : Fin 4096) (h : k.val = q.val) :
    wide p ya yb d r k = dGate (d (ix2 r q)) (p (ix2 r (colA q))) (ya (ix2 r q)) := by
  unfold wide
  rw [dif_pos (by omega)]
  obtain e : (⟨k.val, by omega⟩ : Fin 4096) = q := Fin.ext h
  rw [e]

theorem wide_b (p : S4096x29696.Idx → EReal) (ya yb d : S4096x4096.Idx → EReal) (r : Fin 4096) (k : Fin 8192) (q : Fin 4096) (h : k.val = 4096 + q.val) :
    wide p ya yb d r k = dGate (d (ix2 r q)) (p (ix2 r (colB q))) (yb (ix2 r q)) := by
  unfold wide
  rw [dif_neg (by omega)]
  obtain e : (⟨k.val - 4096, by omega⟩ : Fin 4096) = q := Fin.ext (by show k.val - 4096 = q.val; omega)
  rw [e]

/-! ## What a grid point leaves -/

section

variable {x0 x1 x2 x3 x4 x5 x6 x7 : FVec Ideal S128x1024 .bf16} {x8 x9 x10 : FVec Ideal S128x4096 .f32}
variable {a b : Fin 128 → Fin 4096 → EReal}

/-- A block of 1024 columns of a gate's input, from column `o`. -/
def IsPart (x : FVec Ideal S128x1024 .bf16) (o : Nat) (f : Fin 128 → Fin 4096 → EReal) : Prop :=
  ∀ (z : S128x1024.Idx) (r : Fin 128) (k : Fin 4096), (z 0).val = r.val → k.val = o + (z 1).val → (x z : EReal) = f r k

/-- Tiles of 1024 columns: the gradient of a gated branch, and of a gate's input. -/
theorem branch_tile (x : FVec Ideal S128x1024 .bf16) (o : Nat) (inb) (hx : IsPart x o a) (z : S128x1024.Idx) (y : S128x4096.Idx)
    (h0 : (y 0).val = (z 0).val) (h1 : (y 1).val = o + (z 1).val) :
    dBranch (x10 ((Rect.unit (s := S128x4096) ![0, o] S128x1024.size inb).idx z)) (x (r0_1.idx z)) = dBranch (x10 y) (a (y 0) (y 1)) := by
  refine congr (congrArg dBranch (congrArg x10 ?_)) (hx _ _ _ ?_ ?_)
  · refine funext (Fin.forall_fin_two.mpr ⟨Fin.ext ?_, Fin.ext ?_⟩)
    · show 0 + 1 * (z 0).val = _; omega
    · show o + 1 * (z 1).val = _; omega
  · show 0 + 1 * (z 0).val = _; omega
  · show _ = o + (0 + 1 * (z 1).val); omega

theorem gate_tile (x : FVec Ideal S128x1024 .bf16) (o : Nat) (inb) (hx : IsPart x o a) (z : S128x1024.Idx) (r : Fin 128) (k : Fin 4096)
    (h0 : (z 0).val = r.val) (h1 : k.val = o + (z 1).val) :
    dGate (x10 ((Rect.unit (s := S128x4096) ![0, o] S128x1024.size inb).idx z)) (x (r0_1.idx z))
      (x8 ((Rect.unit (s := S128x4096) ![0, o] S128x1024.size inb).idx z)) = dGate (x10 (ix2 r k)) (a r k) (x8 (ix2 r k)) := by
  have e : (Rect.unit (s := S128x4096) ![0, o] S128x1024.size inb).idx z = ix2 r k := by
    refine funext (Fin.forall_fin_two.mpr ⟨Fin.ext ?_, Fin.ext ?_⟩)
    · show 0 + 1 * (z 0).val = r.val; omega
    · show o + 1 * (z 1).val = k.val; omega
  refine congr (congr (congrArg dGate (congrArg x10 e)) (hx _ _ _ ?_ ?_)) (congrArg x8 e)
  · show 0 + 1 * (z 0).val = _; omega
  · show _ = o + (0 + 1 * (z 1).val); omega

theorem out_a (h0 : IsPart x0 0 a) (h1 : IsPart x1 1024 a) (h2 : IsPart x2 2048 a) (h3 : IsPart x3 3072 a) (y : S128x4096.Idx) :
    out0_11 (F := Ideal) x0 x1 x2 x3 x4 x5 x6 x7 x8 x9 x10 y = dBranch (x10 y) (a (y 0) (y 1)) := by
  unfold out0_11
  canon_tiles z hz
  · exact branch_tile x3 3072 inb_S128x4096_S128x1024_0_3072 h3 z y (by omega) (by omega)
  · exact branch_tile x2 2048 inb_S128x4096_S128x1024_0_2048 h2 z y (by omega) (by omega)
  · exact branch_tile x1 1024 inb_S128x4096_S128x1024_0_1024 h1 z y (by omega) (by omega)
  · exact branch_tile x0 0 inb_S128x4096_S128x1024_0_0 h0 z y (by omega) (by omega)

theorem out_b (h0 : IsPart x4 0 b) (h1 : IsPart x5 1024 b) (h2 : IsPart x6 2048 b) (h3 : IsPart x7 3072 b) (y : S128x4096.Idx) :
    out0_12 (F := Ideal) x0 x1 x2 x3 x4 x5 x6 x7 x8 x9 x10 y = dBranch (x10 y) (b (y 0) (y 1)) := by
  unfold out0_12
  canon_tiles z hz
  · exact branch_tile x7 3072 inb_S128x4096_S128x1024_0_3072 h3 z y (by omega) (by omega)
  · exact branch_tile x6 2048 inb_S128x4096_S128x1024_0_2048 h2 z y (by omega) (by omega)
  · exact branch_tile x5 1024 inb_S128x4096_S128x1024_0_1024 h1 z y (by omega) (by omega)
  · exact branch_tile x4 0 inb_S128x4096_S128x1024_0_0 h0 z y (by omega) (by omega)

/-- The two gates' gradients in a block, against a function of the place. -/
theorem out_g (h0 : IsPart x0 0 a) (h1 : IsPart x1 1024 a) (h2 : IsPart x2 2048 a) (h3 : IsPart x3 3072 a)
    (h4 : IsPart x4 0 b) (h5 : IsPart x5 1024 b) (h6 : IsPart x6 2048 b) (h7 : IsPart x7 3072 b) (T : S128x8192.Idx → EReal)
    (hTa : ∀ (y : S128x8192.Idx) (r : Fin 128) (k : Fin 4096), (y 0).val = r.val → (y 1).val = k.val → dGate (x10 (ix2 r k)) (a r k) (x8 (ix2 r k)) = T y)
    (hTb : ∀ (y : S128x8192.Idx) (r : Fin 128) (k : Fin 4096), (y 0).val = r.val → (y 1).val = 4096 + k.val → dGate (x10 (ix2 r k)) (b r k) (x9 (ix2 r k)) = T y)
    (y : S128x8192.Idx) : out0_13 (F := Ideal) x0 x1 x2 x3 x4 x5 x6 x7 x8 x9 x10 y = T y := by
  have hl : ∀ z : S128x1024.Idx, (z 0).val < 128 ∧ (z 1).val < 1024 := fun z => ⟨(z 0).isLt, (z 1).isLt⟩
  unfold out0_13
  canon_tiles z hz
  all_goals have hzl := hl z
  · exact (gate_tile x7 3072 inb_S128x4096_S128x1024_0_3072 h7 z (z 0) ⟨3072 + (z 1).val, by omega⟩ rfl rfl).trans (hTb y _ _ (by omega) (by show (y 1).val = 4096 + (3072 + (z 1).val); omega))
  · exact (gate_tile x3 3072 inb_S128x4096_S128x1024_0_3072 h3 z (z 0) ⟨3072 + (z 1).val, by omega⟩ rfl rfl).trans (hTa y _ _ (by omega) (by show (y 1).val = 3072 + (z 1).val; omega))
  · exact (gate_tile x6 2048 inb_S128x4096_S128x1024_0_2048 h6 z (z 0) ⟨2048 + (z 1).val, by omega⟩ rfl rfl).trans (hTb y _ _ (by omega) (by show (y 1).val = 4096 + (2048 + (z 1).val); omega))
  · exact (gate_tile x2 2048 inb_S128x4096_S128x1024_0_2048 h2 z (z 0) ⟨2048 + (z 1).val, by omega⟩ rfl rfl).trans (hTa y _ _ (by omega) (by show (y 1).val = 2048 + (z 1).val; omega))
  · exact (gate_tile x5 1024 inb_S128x4096_S128x1024_0_1024 h5 z (z 0) ⟨1024 + (z 1).val, by omega⟩ rfl rfl).trans (hTb y _ _ (by omega) (by show (y 1).val = 4096 + (1024 + (z 1).val); omega))
  · exact (gate_tile x1 1024 inb_S128x4096_S128x1024_0_1024 h1 z (z 0) ⟨1024 + (z 1).val, by omega⟩ rfl rfl).trans (hTa y _ _ (by omega) (by show (y 1).val = 1024 + (z 1).val; omega))
  · exact (gate_tile x4 0 inb_S128x4096_S128x1024_0_0 h4 z (z 0) ⟨0 + (z 1).val, by omega⟩ rfl rfl).trans (hTb y _ _ (by omega) (by show (y 1).val = 4096 + (0 + (z 1).val); omega))
  · exact (gate_tile x0 0 inb_S128x4096_S128x1024_0_0 h0 z (z 0) ⟨0 + (z 1).val, by omega⟩ rfl rfl).trans (hTa y _ _ (by omega) (by show (y 1).val = 0 + (z 1).val; omega))

end

/-! ## What the kernel leaves -/

variable (m : (ℓ : Loc nD τ MergeIdeal.sig) → Buf (Elt Ideal) ℓ) (c : Dev nD)

abbrev proj : S4096x29696.Idx → EReal := m ((c : Thread nD τ).loc main_arg0)
abbrev yA : S4096x4096.Idx → EReal := m ((c : Thread nD τ).loc main_arg1)
abbrev yB : S4096x4096.Idx → EReal := m ((c : Thread nD τ).loc main_arg2)
abbrev dM : S4096x4096.Idx → EReal := m ((c : Thread nD τ).loc main_arg3)

theorem idx0 : ∀ t : Fin grid0.N, (win0_0).index t = ![t.val, 21] := by decide +kernel
theorem idx1 : ∀ t : Fin grid0.N, (win0_1).index t = ![t.val, 22] := by decide +kernel
theorem idx2 : ∀ t : Fin grid0.N, (win0_2).index t = ![t.val, 23] := by decide +kernel
theorem idx3 : ∀ t : Fin grid0.N, (win0_3).index t = ![t.val, 24] := by decide +kernel
theorem idx4 : ∀ t : Fin grid0.N, (win0_4).index t = ![t.val, 25] := by decide +kernel
theorem idx5 : ∀ t : Fin grid0.N, (win0_5).index t = ![t.val, 26] := by decide +kernel
theorem idx6 : ∀ t : Fin grid0.N, (win0_6).index t = ![t.val, 27] := by decide +kernel
theorem idx7 : ∀ t : Fin grid0.N, (win0_7).index t = ![t.val, 28] := by decide +kernel
theorem idx8 : ∀ t : Fin grid0.N, (win0_8).index t = ![t.val, 0] := by decide +kernel
theorem idx9 : ∀ t : Fin grid0.N, (win0_9).index t = ![t.val, 0] := by decide +kernel
theorem idx10 : ∀ t : Fin grid0.N, (win0_10).index t = ![t.val, 0] := by decide +kernel
theorem idx11 : ∀ t : Fin grid0.N, (win0_11).index t = ![t.val, 0] := by decide +kernel
theorem idx12 : ∀ t : Fin grid0.N, (win0_12).index t = ![t.val, 0] := by decide +kernel
theorem idx13 : ∀ t : Fin grid0.N, (win0_13).index t = ![t.val, 0] := by decide +kernel

/-- Row `r` of point `t`'s block. -/
def row (t : Fin cfg0.N) (r : Fin 128) : Fin 4096 := ⟨t.val * 128 + r.val, by have := lt_of_lt_of_eq t.isLt (show cfg0.N = 32 from N_0); omega⟩

/-- The gates' inputs on those rows. -/
abbrev gA (t : Fin cfg0.N) (r : Fin 128) (k : Fin 4096) : EReal := proj m c (ix2 (row t r) (colA k))
abbrev gB (t : Fin cfg0.N) (r : Fin 128) (k : Fin 4096) : EReal := proj m c (ix2 (row t r) (colB k))

theorem part0 (t : Fin cfg0.N) : IsPart (iblk m c 0 t) 0 (gA m c t) := fun z r k h0 h1 => by
  have e := idx0 t
  refine (congrFun (V_main_arg0 m c) _).trans (congrArg (proj m c) (funext (Fin.forall_fin_two.mpr ⟨Fin.ext ?_, Fin.ext ?_⟩)))
  · blk_simp [e, row]; dsimp only; omega
  · blk_simp [e, colA]; dsimp only; omega
theorem part1 (t : Fin cfg0.N) : IsPart (iblk m c 1 t) 1024 (gA m c t) := fun z r k h0 h1 => by
  have e := idx1 t
  refine (congrFun (V_main_arg0 m c) _).trans (congrArg (proj m c) (funext (Fin.forall_fin_two.mpr ⟨Fin.ext ?_, Fin.ext ?_⟩)))
  · blk_simp [e, row]; dsimp only; omega
  · blk_simp [e, colA]; dsimp only; omega
theorem part2 (t : Fin cfg0.N) : IsPart (iblk m c 2 t) 2048 (gA m c t) := fun z r k h0 h1 => by
  have e := idx2 t
  refine (congrFun (V_main_arg0 m c) _).trans (congrArg (proj m c) (funext (Fin.forall_fin_two.mpr ⟨Fin.ext ?_, Fin.ext ?_⟩)))
  · blk_simp [e, row]; dsimp only; omega
  · blk_simp [e, colA]; dsimp only; omega
theorem part3 (t : Fin cfg0.N) : IsPart (iblk m c 3 t) 3072 (gA m c t) := fun z r k h0 h1 => by
  have e := idx3 t
  refine (congrFun (V_main_arg0 m c) _).trans (congrArg (proj m c) (funext (Fin.forall_fin_two.mpr ⟨Fin.ext ?_, Fin.ext ?_⟩)))
  · blk_simp [e, row]; dsimp only; omega
  · blk_simp [e, colA]; dsimp only; omega
theorem part4 (t : Fin cfg0.N) : IsPart (iblk m c 4 t) 0 (gB m c t) := fun z r k h0 h1 => by
  have e := idx4 t
  refine (congrFun (V_main_arg0 m c) _).trans (congrArg (proj m c) (funext (Fin.forall_fin_two.mpr ⟨Fin.ext ?_, Fin.ext ?_⟩)))
  · blk_simp [e, row]; dsimp only; omega
  · blk_simp [e, colB]; dsimp only; omega
theorem part5 (t : Fin cfg0.N) : IsPart (iblk m c 5 t) 1024 (gB m c t) := fun z r k h0 h1 => by
  have e := idx5 t
  refine (congrFun (V_main_arg0 m c) _).trans (congrArg (proj m c) (funext (Fin.forall_fin_two.mpr ⟨Fin.ext ?_, Fin.ext ?_⟩)))
  · blk_simp [e, row]; dsimp only; omega
  · blk_simp [e, colB]; dsimp only; omega
theorem part6 (t : Fin cfg0.N) : IsPart (iblk m c 6 t) 2048 (gB m c t) := fun z r k h0 h1 => by
  have e := idx6 t
  refine (congrFun (V_main_arg0 m c) _).trans (congrArg (proj m c) (funext (Fin.forall_fin_two.mpr ⟨Fin.ext ?_, Fin.ext ?_⟩)))
  · blk_simp [e, row]; dsimp only; omega
  · blk_simp [e, colB]; dsimp only; omega
theorem part7 (t : Fin cfg0.N) : IsPart (iblk m c 7 t) 3072 (gB m c t) := fun z r k h0 h1 => by
  have e := idx7 t
  refine (congrFun (V_main_arg0 m c) _).trans (congrArg (proj m c) (funext (Fin.forall_fin_two.mpr ⟨Fin.ext ?_, Fin.ext ?_⟩)))
  · blk_simp [e, row]; dsimp only; omega
  · blk_simp [e, colB]; dsimp only; omega
theorem part8 (t : Fin cfg0.N) (r : Fin 128) (k : Fin 4096) : (iblk m c 8 t : Vec Ideal S128x4096 .f32) (ix2 r k) = yA m c (ix2 (row t r) k) := by
  have e := idx8 t
  refine (congrFun (V_main_arg1 m c) _).trans (congrArg (yA m c) (funext (Fin.forall_fin_two.mpr ⟨Fin.ext ?_, Fin.ext ?_⟩)))
  · blk_simp [e, row]
  · blk_simp [e]
theorem part9 (t : Fin cfg0.N) (r : Fin 128) (k : Fin 4096) : (iblk m c 9 t : Vec Ideal S128x4096 .f32) (ix2 r k) = yB m c (ix2 (row t r) k) := by
  have e := idx9 t
  refine (congrFun (V_main_arg2 m c) _).trans (congrArg (yB m c) (funext (Fin.forall_fin_two.mpr ⟨Fin.ext ?_, Fin.ext ?_⟩)))
  · blk_simp [e, row]
  · blk_simp [e]
theorem part10 (t : Fin cfg0.N) (r : Fin 128) (k : Fin 4096) : (iblk m c 10 t : Vec Ideal S128x4096 .f32) (ix2 r k) = dM m c (ix2 (row t r) k) := by
  have e := idx10 t
  refine (congrFun (V_main_arg3 m c) _).trans (congrArg (dM m c) (funext (Fin.forall_fin_two.mpr ⟨Fin.ext ?_, Fin.ext ?_⟩)))
  · blk_simp [e, row]
  · blk_simp [e]

end Cert.MergeGrad

end
-- ==== Proof.MergeArrays.lean ====
/- The backward pass of the merge: the arrays the kernel leaves. -/
module

public import proofs.«01_k».proof.Proof.MergeGrad

@[expose] public section

set_option maxRecDepth 16384

noncomputable section

namespace Cert.MergeGrad

open Idealize.ShloMosaic Idealize.ShloMosaic.TcCoe Idealize.SL.Sem Cert.MergeIdeal Cert.MergeIdeal.Gen
open Idealize.ShloMosaic.Pipeline (Dat)

variable (m : (ℓ : Loc nD τ MergeIdeal.sig) → Buf (Elt Ideal) ℓ) (c : Dev nD)

/-- A block of the gradient of a branch, and the whole array. -/
theorem blk_a (t : Fin cfg0.N) (r : Fin 128) (k : Fin 4096) : out0_11 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) =
    dBranch (dM m c (ix2 (row t r) k)) (gA m c t r k) :=
  (out_a (part0 m c t) (part1 m c t) (part2 m c t) (part3 m c t) (ix2 r k)).trans (congrArg (fun d => dBranch d (gA m c t r k)) (part10 m c t r k))

theorem arr_a : (dats m 0 c).arrAt 11 cfg0.N = fun y : S4096x4096.Idx => dBranch (dM m c y) (proj m c (ix2 (y 0) (colA (y 1)))) := by
  refine (dats m 0 c).arrAt_eq_of_covers 11 _ (by decide +kernel) fun t hf y => ?_
  have e := idx11 t
  obtain ⟨y0, y1, rfl⟩ : ∃ (y0 : Fin 128) (y1 : Fin 4096), y = ix2 y0 y1 := ⟨_, _, funext (Fin.forall_fin_two.mpr ⟨rfl, rfl⟩)⟩
  refine (congrFun (after0_11 m c t) (ix2 y0 y1)).trans ((blk_a m c t y0 y1).trans ?_)
  refine congr (congrArg dBranch (congrArg (dM m c) ?_)) (congrArg (proj m c) ?_)
  · refine funext (Fin.forall_fin_two.mpr ⟨Fin.ext ?_, Fin.ext ?_⟩)
    · blk_simp [e, row]
    · blk_simp [e]
  · refine funext (Fin.forall_fin_two.mpr ⟨Fin.ext ?_, Fin.ext ?_⟩)
    · blk_simp [e, row]
    · blk_simp [e, colA]

/-- A block of the gradient of a branch, and the whole array. -/
theorem blk_b (t : Fin cfg0.N) (r : Fin 128) (k : Fin 4096) : out0_12 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) =
    dBranch (dM m c (ix2 (row t r) k)) (gB m c t r k) :=
  (out_b (part4 m c t) (part5 m c t) (part6 m c t) (part7 m c t) (ix2 r k)).trans (congrArg (fun d => dBranch d (gB m c t r k)) (part10 m c t r k))

theorem arr_b : (dats m 0 c).arrAt 12 cfg0.N = fun y : S4096x4096.Idx => dBranch (dM m c y) (proj m c (ix2 (y 0) (colB (y 1)))) := by
  refine (dats m 0 c).arrAt_eq_of_covers 12 _ (by decide +kernel) fun t hf y => ?_
  have e := idx12 t
  obtain ⟨y0, y1, rfl⟩ : ∃ (y0 : Fin 128) (y1 : Fin 4096), y = ix2 y0 y1 := ⟨_, _, funext (Fin.forall_fin_two.mpr ⟨rfl, rfl⟩)⟩
  refine (congrFun (after0_12 m c t) (ix2 y0 y1)).trans ((blk_b m c t y0 y1).trans ?_)
  refine congr (congrArg dBranch (congrArg (dM m c) ?_)) (congrArg (proj m c) ?_)
  · refine funext (Fin.forall_fin_two.mpr ⟨Fin.ext ?_, Fin.ext ?_⟩)
    · blk_simp [e, row]
    · blk_simp [e]
  · refine funext (Fin.forall_fin_two.mpr ⟨Fin.ext ?_, Fin.ext ?_⟩)
    · blk_simp [e, row]
    · blk_simp [e, colB]

/-- A block of the gates' gradients, and the whole array. -/
theorem blk_g (t : Fin cfg0.N) (r : Fin 128) (k : Fin 8192) : out0_13 (F := Ideal) (iblk m c 0 t) (iblk m c 1 t) (iblk m c 2 t) (iblk m c 3 t) (iblk m c 4 t) (iblk m c 5 t) (iblk m c 6 t) (iblk m c 7 t) (iblk m c 8 t) (iblk m c 9 t) (iblk m c 10 t) (ix2 r k) =
    wide (proj m c) (yA m c) (yB m c) (dM m c) (row t r) k := by
  refine out_g (part0 m c t) (part1 m c t) (part2 m c t) (part3 m c t) (part4 m c t) (part5 m c t) (part6 m c t) (part7 m c t)
    (fun y => wide (proj m c) (yA m c) (yB m c) (dM m c) (row t (y 0)) (y 1)) ?_ ?_ (ix2 r k)
  · intro y r k h0 h1
    obtain h : y 0 = r := Fin.ext h0
    rw [wide_a _ _ _ _ _ _ k h1, h]
    exact congr (congrArg (fun d => dGate d (gA m c t r k)) (part10 m c t r k)) (part8 m c t r k)
  · intro y r k h0 h1
    obtain h : y 0 = r := Fin.ext h0
    rw [wide_b _ _ _ _ _ _ k h1, h]
    exact congr (congrArg (fun d => dGate d (gB m c t r k)) (part10 m c t r k)) (part9 m c t r k)

theorem arr_g : (dats m 0 c).arrAt 13 cfg0.N = fun y : S4096x8192.Idx => wide (proj m c) (yA m c) (yB m c) (dM m c) (y 0) (y 1) := by
  refine (dats m 0 c).arrAt_eq_of_covers 13 _ (by decide +kernel) fun t hf y => ?_
  have e := idx13 t
  obtain ⟨y0, y1, rfl⟩ : ∃ (y0 : Fin 128) (y1 : Fin 8192), y = ix2 y0 y1 := ⟨_, _, funext (Fin.forall_fin_two.mpr ⟨rfl, rfl⟩)⟩
  refine (congrFun (after0_13 m c t) (ix2 y0 y1)).trans ((blk_g m c t y0 y1).trans ?_)
  refine congr (congrArg (wide (proj m c) (yA m c) (yB m c) (dM m c)) (Fin.ext ?_)) (Fin.ext ?_)
  · blk_simp [e, row]
  · blk_simp [e]

end Cert.MergeGrad

end
-- ==== Proof.MergeRef.lean ====
/- The backward pass of the merge: what the reference computes. -/
module

public import proofs.«01_k».proof.Proof.MergeGrad

@[expose] public section

set_option maxRecDepth 16384

noncomputable section

namespace Cert.MergeGrad

open Idealize.ShloMosaic Idealize.ShloMosaic.TcCoe Cert.MergeReferenceIdeal Cert.MergeReferenceIdeal.Read

variable (p : (⟨MergeIdeal.S4096x29696, .bf16⟩ : BufTy).Contents (Elt Ideal)) (ya yb d : (⟨MergeIdeal.S4096x4096, .f32⟩ : BufTy).Contents (Elt Ideal))

/-- The logistic function, as the host spells it. -/
theorem spelt (x : EReal) : Ideal.div (FloatOps.ofBits .f32 0x3F800000#32 : Ideal .f32) ((FloatOps.ofBits .f32 0x3F800000#32 : Ideal .f32) + Ideal.exp (-x)) =
    Ideal.logistic x := by
  rw [Gating.Consts.one]
  rfl

/-- A flat row and column, in the reshaped array. -/
theorem flat (r k : Fin 4096) : (r.val * 4096 + k.val) / 4096 % 4096 = r.val ∧ (r.val * 4096 + k.val) % 4096 = k.val := by
  omega

/-! ## Where each reading lands -/

theorem at34_d (r k : Fin 4096) : idx_main_v27 (idx_main_v34 (ix2 r k)) = ix2 r k :=
  funext (Fin.forall_fin_two.mpr ⟨Fin.ext (flat r k).1, Fin.ext (flat r k).2⟩)
theorem at36_d (r k : Fin 4096) : idx_main_v27 (idx_main_v36 (ix2 r k)) = ix2 r k :=
  funext (Fin.forall_fin_two.mpr ⟨Fin.ext (flat r k).1, Fin.ext (flat r k).2⟩)
theorem at38_d (r k : Fin 4096) : idx_main_v27 (idx_main_v38 (ix2 r k)) = ix2 r k :=
  funext (Fin.forall_fin_two.mpr ⟨Fin.ext (flat r k).1, Fin.ext (flat r k).2⟩)
theorem at39_d (r k : Fin 4096) : idx_main_v27 (idx_main_v39 (ix2 r k)) = ix2 r k :=
  funext (Fin.forall_fin_two.mpr ⟨Fin.ext (flat r k).1, Fin.ext (flat r k).2⟩)
theorem at34_g (r k : Fin 4096) : idx_main_v1 (idx_main_v2 (idx_main_v34 (ix2 r k))) = ix2 r (colA k) :=
  funext (Fin.forall_fin_two.mpr ⟨Fin.ext (flat r k).1, Fin.ext (congrArg (21504 + ·) (flat r k).2)⟩)
theorem at38_g (r k : Fin 4096) : idx_main_v1 (idx_main_v2 (idx_main_v38 (ix2 r k))) = ix2 r (colA k) :=
  funext (Fin.forall_fin_two.mpr ⟨Fin.ext (flat r k).1, Fin.ext (congrArg (21504 + ·) (flat r k).2)⟩)
theorem at36_g (r k : Fin 4096) : idx_main_v1 (idx_main_v3 (idx_main_v36 (ix2 r k))) = ix2 r (colB k) :=
  funext (Fin.forall_fin_two.mpr ⟨Fin.ext (flat r k).1, Fin.ext (congrArg (25600 + ·) (flat r k).2)⟩)
theorem at39_g (r k : Fin 4096) : idx_main_v1 (idx_main_v3 (idx_main_v39 (ix2 r k))) = ix2 r (colB k) :=
  funext (Fin.forall_fin_two.mpr ⟨Fin.ext (flat r k).1, Fin.ext (congrArg (25600 + ·) (flat r k).2)⟩)
theorem at38_y (r k : Fin 4096) : idx_main_v4 (idx_main_v38 (ix2 r k)) = ix2 r k :=
  funext (Fin.forall_fin_two.mpr ⟨Fin.ext (flat r k).1, Fin.ext (flat r k).2⟩)
theorem at39_y (r k : Fin 4096) : idx_main_v5 (idx_main_v39 (ix2 r k)) = ix2 r k :=
  funext (Fin.forall_fin_two.mpr ⟨Fin.ext (flat r k).1, Fin.ext (flat r k).2⟩)

/-- The gradient of a branch. -/
theorem ref_a : val_main_v35 (F := Ideal) p d = fun y : MergeIdeal.S4096x4096.Idx => dBranch (d y) (p (ix2 (y 0) (colA (y 1)))) := by
  funext y
  obtain ⟨r, k, rfl⟩ : ∃ (r k : Fin 4096), y = ix2 r k := ⟨_, _, funext (Fin.forall_fin_two.mpr ⟨rfl, rfl⟩)⟩
  simp only [val_main_v35_apply, val_main_v34_apply, val_main_v31_apply, val_main_v11_apply, val_main_v9_apply, val_main_v10_apply, val_main_v8_apply,
    val_main_v7_apply, val_main_v6_apply, val_main_v2_apply, val_main_v1_apply, val_main_v0_apply, val_main_v27_apply, val_main_cst_apply, val_main_cst_0_apply]
  rw [at34_d, at34_g]
  exact (EReal.mul_comm _ _).trans (congrArg _ (spelt (p (ix2 r (colA k)))))

/-- The gradient of a branch. -/
theorem ref_b : val_main_v37 (F := Ideal) p d = fun y : MergeIdeal.S4096x4096.Idx => dBranch (d y) (p (ix2 (y 0) (colB (y 1)))) := by
  funext y
  obtain ⟨r, k, rfl⟩ : ∃ (r k : Fin 4096), y = ix2 r k := ⟨_, _, funext (Fin.forall_fin_two.mpr ⟨rfl, rfl⟩)⟩
  simp only [val_main_v37_apply, val_main_v36_apply, val_main_v28_apply, val_main_v21_apply, val_main_v19_apply, val_main_v20_apply, val_main_v18_apply,
    val_main_v17_apply, val_main_v16_apply, val_main_v3_apply, val_main_v1_apply, val_main_v0_apply, val_main_v27_apply, val_main_cst_2_apply, val_main_cst_3_apply]
  rw [at36_d, at36_g]
  exact (EReal.mul_comm _ _).trans (congrArg _ (spelt (p (ix2 r (colB k)))))

/-- The gradient of a gate's input. -/
theorem ref_ga (r k : Fin 4096) : val_main_v38 (F := Ideal) p ya d (ix2 r k) = dGate (d (ix2 r k)) (p (ix2 r (colA k))) (ya (ix2 r k)) := by
  simp only [val_main_v38_apply, val_main_v33_apply, val_main_v32_apply, val_main_v14_apply, val_main_v13_apply, val_main_v12_apply, val_main_cst_1_apply, val_main_v4_apply,
    val_main_v11_apply, val_main_v9_apply, val_main_v10_apply, val_main_v8_apply,
    val_main_v7_apply, val_main_v6_apply, val_main_v2_apply, val_main_v1_apply, val_main_v0_apply, val_main_v27_apply, val_main_cst_apply, val_main_cst_0_apply]
  rw [at38_d, at38_g, at38_y]
  have e := spelt (p (ix2 r (colA k)))
  refine Eq.trans (b := (d (ix2 r k) * ya (ix2 r k) : EReal) * (Ideal.logistic (p (ix2 r (colA k))) * ((FloatOps.ofBits .f32 0x3F800000#32 : Ideal .f32) - Ideal.logistic (p (ix2 r (colA k)))))) ?_ (mul_assoc _ _ _).symm
  rw [← e]
  rfl

/-- The gradient of a gate's input. -/
theorem ref_gb (r k : Fin 4096) : val_main_v39 (F := Ideal) p yb d (ix2 r k) = dGate (d (ix2 r k)) (p (ix2 r (colB k))) (yb (ix2 r k)) := by
  simp only [val_main_v39_apply, val_main_v30_apply, val_main_v29_apply, val_main_v24_apply, val_main_v23_apply, val_main_v22_apply, val_main_cst_4_apply, val_main_v5_apply,
    val_main_v21_apply, val_main_v19_apply, val_main_v20_apply, val_main_v18_apply,
    val_main_v17_apply, val_main_v16_apply, val_main_v3_apply, val_main_v1_apply, val_main_v0_apply, val_main_v27_apply, val_main_cst_2_apply, val_main_cst_3_apply]
  rw [at39_d, at39_g, at39_y]
  have e := spelt (p (ix2 r (colB k)))
  refine Eq.trans (b := (d (ix2 r k) * yb (ix2 r k) : EReal) * (Ideal.logistic (p (ix2 r (colB k))) * ((FloatOps.ofBits .f32 0x3F800000#32 : Ideal .f32) - Ideal.logistic (p (ix2 r (colB k)))))) ?_ (mul_assoc _ _ _).symm
  rw [← e]
  rfl

/-- The gates' gradients side by side. -/
theorem ref_g : val_main_v41 (F := Ideal) p ya yb d = fun y : MergeIdeal.S4096x8192.Idx => wide p ya yb d (y 0) (y 1) := by
  funext y
  obtain ⟨r, k, rfl⟩ : ∃ (r : Fin 4096) (k : Fin 8192), y = ix2 r k := ⟨_, _, funext (Fin.forall_fin_two.mpr ⟨rfl, rfl⟩)⟩
  rw [val_main_v41_apply, Ideal.truncf_def]
  unfold val_main_v40
  by_cases h : k.val < 4096
  · refine (concatenate_apply_piece 1 _ _ (ix2 r k) 0 (by show 0 < 2; decide) S4096x4096 (val_main_v38 (F := Ideal) p ya d) rfl rfl 0 rfl
      (ix2 r (⟨k.val, h⟩ : Fin 4096)) (Fin.forall_fin_two.mpr ⟨fun _ => rfl, fun hb => absurd rfl hb⟩) (Nat.zero_add _)).trans ?_
    exact (ref_ga p ya d r ⟨k.val, h⟩).trans (wide_a p ya yb d r k ⟨k.val, h⟩ rfl).symm
  · have hc : k.val - 4096 < 4096 := by omega
    refine (concatenate_apply_piece 1 _ _ (ix2 r k) 1 (by show 1 < 2; decide) S4096x4096 (val_main_v39 (F := Ideal) p yb d) rfl rfl 4096 rfl
      (ix2 r (⟨k.val - 4096, hc⟩ : Fin 4096)) (Fin.forall_fin_two.mpr ⟨fun _ => rfl, fun hb => absurd rfl hb⟩)
      (by show 4096 + (k.val - 4096) = k.val; omega)).trans ?_
    exact (ref_gb p yb d r ⟨k.val - 4096, hc⟩).trans (wide_b p ya yb d r k ⟨k.val - 4096, hc⟩ (by show k.val = 4096 + (k.val - 4096); omega)).symm

end Cert.MergeGrad

end
-- ==== Proof.Further.lean ====
/- The claims of the further calls: each one's frames, and its equality with its reference over the extended reals. -/
module

public import proofs.«01_k».proof.Defs
public import proofs.«01_k».proof.Proof.ActGrad
public import proofs.«01_k».proof.Proof.WeightGrad
public import proofs.«01_k».proof.Proof.Output
public import proofs.«01_k».proof.Proof.MergeArrays
public import proofs.«01_k».proof.Proof.MergeRef
public import proofs.«01_k».proof.Proof.Gen.DAct.Frame
public import proofs.«01_k».proof.Proof.Gen.DActReferenceIdeal.Run
public import proofs.«01_k».proof.Proof.Gen.DWeight.Frame
public import proofs.«01_k».proof.Proof.Gen.DWeightReferenceIdeal.Run
public import proofs.«01_k».proof.Proof.Gen.OutProj.Frame
public import proofs.«01_k».proof.Proof.Gen.OutProjReferenceIdeal.Run
public import proofs.«01_k».proof.Proof.Gen.Merge.Frame
public import proofs.«01_k».proof.Proof.Gen.MergeReferenceIdeal.Run
public import Idealize.ShloMosaic.Lib.Quiescent
public import Idealize.ShloMosaic.Adequacy
public import Idealize.ShloMosaic.Init

@[expose] public section

noncomputable section

namespace Cert.Further

open Idealize.ShloMosaic Idealize.SL.Sem

/-! ## DAct -/

theorem equal_DAct : Cert.algebraic_DActIdeal_DActReferenceIdeal := by
  intro m g m' g' _ hag
  refine ⟨fun c y => Cert.ActGrad.prod (m ((c.tc : Thread Cert.DActIdeal.nD Cert.DActIdeal.τ).loc Cert.DActIdeal.main_arg0)) (m ((c.tc : Thread Cert.DActIdeal.nD Cert.DActIdeal.τ).loc Cert.DActIdeal.main_arg1)) (y 0) (y 1), ?_, ?_⟩
  · refine (θ_run Cert.DActIdeal.defs _ _).mono (fun r h c => ?_) (Cert.DActIdeal.Value.run_blocks m g)
    obtain ⟨h0, hargs⟩ := h c
    exact ⟨h0.trans (Cert.ActGrad.arr m c), hargs⟩
  · refine (θ_run Cert.DActReferenceIdeal.defs _ _).mono (fun r h c => ?_) (Cert.DActReferenceIdeal.Value.run m' g')
    obtain ⟨h0, hargs⟩ := h c
    obtain ⟨a0, a1⟩ := hag c
    exact ⟨h0.trans ((Cert.DActReferenceIdeal.Read.val_main_v6_eq (m' ((c.tc : Thread Cert.DActReferenceIdeal.nD Cert.DActReferenceIdeal.τ).loc Cert.DActReferenceIdeal.main_arg0)) (m' ((c.tc : Thread Cert.DActReferenceIdeal.nD Cert.DActReferenceIdeal.τ).loc Cert.DActReferenceIdeal.main_arg1))).trans (by rw [a0, a1]; exact Cert.ActGrad.ref _ _)), hargs⟩

theorem frame_DAct : Cert.quiescent_DActReferenceIdeal := fun m g _ =>
  (θ_run Cert.DActReferenceIdeal.defs _ _).mono (fun r h => ⟨fun c => (h c).2, sem_eq_zero_of_no_sems (by decide) _⟩)
    (Cert.DActReferenceIdeal.Value.run m g)

/-! ## DWeight -/

theorem equal_DWeight : Cert.algebraic_DWeightIdeal_DWeightReferenceIdeal := by
  intro m g m' g' _ hag
  refine ⟨fun c y => Cert.WeightGrad.prod (m ((c.tc : Thread Cert.DWeightIdeal.nD Cert.DWeightIdeal.τ).loc Cert.DWeightIdeal.main_arg0)) (m ((c.tc : Thread Cert.DWeightIdeal.nD Cert.DWeightIdeal.τ).loc Cert.DWeightIdeal.main_arg1)) (y 0) (y 1), ?_, ?_⟩
  · refine (θ_run Cert.DWeightIdeal.defs _ _).mono (fun r h c => ?_) (Cert.DWeightIdeal.Value.run_blocks m g)
    obtain ⟨h0, hargs⟩ := h c
    exact ⟨h0.trans (Cert.WeightGrad.arr m c), hargs⟩
  · refine (θ_run Cert.DWeightReferenceIdeal.defs _ _).mono (fun r h c => ?_) (Cert.DWeightReferenceIdeal.Value.run m' g')
    obtain ⟨h0, hargs⟩ := h c
    obtain ⟨a0, a1⟩ := hag c
    exact ⟨h0.trans ((Cert.DWeightReferenceIdeal.Read.val_main_v8_eq (m' ((c.tc : Thread Cert.DWeightReferenceIdeal.nD Cert.DWeightReferenceIdeal.τ).loc Cert.DWeightReferenceIdeal.main_arg0)) (m' ((c.tc : Thread Cert.DWeightReferenceIdeal.nD Cert.DWeightReferenceIdeal.τ).loc Cert.DWeightReferenceIdeal.main_arg1))).trans (by rw [a0, a1]; exact Cert.WeightGrad.ref _ _)), hargs⟩

theorem frame_DWeight : Cert.quiescent_DWeightReferenceIdeal := fun m g _ =>
  (θ_run Cert.DWeightReferenceIdeal.defs _ _).mono (fun r h => ⟨fun c => (h c).2, sem_eq_zero_of_no_sems (by decide) _⟩)
    (Cert.DWeightReferenceIdeal.Value.run m g)

/-! ## OutProj -/

theorem equal_OutProj : Cert.algebraic_OutProjIdeal_OutProjReferenceIdeal := by
  intro m g m' g' _ hag
  refine ⟨fun c y => Cert.Output.out (m ((c.tc : Thread Cert.OutProjIdeal.nD Cert.OutProjIdeal.τ).loc Cert.OutProjIdeal.main_arg0)) (m ((c.tc : Thread Cert.OutProjIdeal.nD Cert.OutProjIdeal.τ).loc Cert.OutProjIdeal.main_arg1)) (m ((c.tc : Thread Cert.OutProjIdeal.nD Cert.OutProjIdeal.τ).loc Cert.OutProjIdeal.main_arg2)) (y 0) (y 1), ?_, ?_⟩
  · refine (θ_run Cert.OutProjIdeal.defs _ _).mono (fun r h c => ?_) (Cert.OutProjIdeal.Value.run_blocks m g)
    obtain ⟨h0, hargs⟩ := h c
    exact ⟨h0.trans (Cert.Output.arr m c), hargs⟩
  · refine (θ_run Cert.OutProjReferenceIdeal.defs _ _).mono (fun r h c => ?_) (Cert.OutProjReferenceIdeal.Value.run m' g')
    obtain ⟨h0, hargs⟩ := h c
    obtain ⟨a0, a1, a2⟩ := hag c
    exact ⟨h0.trans ((Cert.OutProjReferenceIdeal.Read.val_main_v6_eq (m' ((c.tc : Thread Cert.OutProjReferenceIdeal.nD Cert.OutProjReferenceIdeal.τ).loc Cert.OutProjReferenceIdeal.main_arg0)) (m' ((c.tc : Thread Cert.OutProjReferenceIdeal.nD Cert.OutProjReferenceIdeal.τ).loc Cert.OutProjReferenceIdeal.main_arg1)) (m' ((c.tc : Thread Cert.OutProjReferenceIdeal.nD Cert.OutProjReferenceIdeal.τ).loc Cert.OutProjReferenceIdeal.main_arg2))).trans (by rw [a0, a1, a2]; exact Cert.Output.ref _ _ _)), hargs⟩

theorem frame_OutProj : Cert.quiescent_OutProjReferenceIdeal := fun m g _ =>
  (θ_run Cert.OutProjReferenceIdeal.defs _ _).mono (fun r h => ⟨fun c => (h c).2, sem_eq_zero_of_no_sems (by decide) _⟩)
    (Cert.OutProjReferenceIdeal.Value.run m g)

/-! ## Merge -/

theorem equal_Merge : Cert.algebraic_MergeIdeal_MergeReferenceIdeal := by
  intro m g m' g' _ hag
  refine ⟨fun c y => Cert.MergeGrad.dBranch ((m ((c.tc : Thread Cert.MergeIdeal.nD Cert.MergeIdeal.τ).loc Cert.MergeIdeal.main_arg3)) y) ((m ((c.tc : Thread Cert.MergeIdeal.nD Cert.MergeIdeal.τ).loc Cert.MergeIdeal.main_arg0)) (ix2 (y 0) (Cert.MergeGrad.colA (y 1)))), fun c y => Cert.MergeGrad.dBranch ((m ((c.tc : Thread Cert.MergeIdeal.nD Cert.MergeIdeal.τ).loc Cert.MergeIdeal.main_arg3)) y) ((m ((c.tc : Thread Cert.MergeIdeal.nD Cert.MergeIdeal.τ).loc Cert.MergeIdeal.main_arg0)) (ix2 (y 0) (Cert.MergeGrad.colB (y 1)))), fun c y => Cert.MergeGrad.wide (m ((c.tc : Thread Cert.MergeIdeal.nD Cert.MergeIdeal.τ).loc Cert.MergeIdeal.main_arg0)) (m ((c.tc : Thread Cert.MergeIdeal.nD Cert.MergeIdeal.τ).loc Cert.MergeIdeal.main_arg1)) (m ((c.tc : Thread Cert.MergeIdeal.nD Cert.MergeIdeal.τ).loc Cert.MergeIdeal.main_arg2)) (m ((c.tc : Thread Cert.MergeIdeal.nD Cert.MergeIdeal.τ).loc Cert.MergeIdeal.main_arg3)) (y 0) (y 1), ?_, ?_⟩
  · refine (θ_run Cert.MergeIdeal.defs _ _).mono (fun r h c => ?_) (Cert.MergeIdeal.Value.run_blocks m g)
    obtain ⟨h0, h1, h2, hargs⟩ := h c
    exact ⟨h0.trans (Cert.MergeGrad.arr_a m c), h1.trans (Cert.MergeGrad.arr_b m c), h2.trans (Cert.MergeGrad.arr_g m c), hargs⟩
  · refine (θ_run Cert.MergeReferenceIdeal.defs _ _).mono (fun r h c => ?_) (Cert.MergeReferenceIdeal.Value.run m' g')
    obtain ⟨h0, h1, h2, hargs⟩ := h c
    obtain ⟨a0, a1, a2, a3⟩ := hag c
    exact ⟨h0.trans ((Cert.MergeReferenceIdeal.Read.val_main_v35_eq (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg3))).trans (by rw [a0, a3]; exact Cert.MergeGrad.ref_a _ _)),
      h1.trans ((Cert.MergeReferenceIdeal.Read.val_main_v37_eq (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg3))).trans (by rw [a0, a3]; exact Cert.MergeGrad.ref_b _ _)),
      h2.trans ((Cert.MergeReferenceIdeal.Read.val_main_v41_eq (m' ((c.tc : Thread Cert.MergeReferenceIdeal.nD Cert.MergeReferenceIdeal.τ).loc Cert.MergeReferenceIdeal.main_arg0)) (m' ((c.tc : Thread Cert.MergeReferenceIdeal.nD Cert.MergeReferenceIdeal.τ).loc Cert.MergeReferenceIdeal.main_arg1)) (m' ((c.tc : Thread Cert.MergeReferenceIdeal.nD Cert.MergeReferenceIdeal.τ).loc Cert.MergeReferenceIdeal.main_arg2)) (m' ((c.tc : Thread Cert.MergeReferenceIdeal.nD Cert.MergeReferenceIdeal.τ).loc Cert.MergeReferenceIdeal.main_arg3))).trans (by rw [a0, a1, a2, a3]; exact Cert.MergeGrad.ref_g _ _ _ _)), hargs⟩

theorem frame_Merge : Cert.quiescent_MergeReferenceIdeal := fun m g _ =>
  (θ_run Cert.MergeReferenceIdeal.defs _ _).mono (fun r h => ⟨fun c => (h c).2.2.2, sem_eq_zero_of_no_sems (by decide) _⟩)
    (Cert.MergeReferenceIdeal.Value.run m g)

end Cert.Further

end
-- ==== Proof.Hold.lean ====
/- Running a long kernel body without naming what it computes: the buffers it owns stay owned.

A program holds `P` when it runs from `P` to `P`, whatever it returns. Loads, stores, branches and sequences of such
programs do; so a body of any length is run step by step, each loaded value an arbitrary one. -/
module

public import Idealize.ShloMosaic.Lib.Pipeline.FrameBody
public import Idealize.ShloMosaic.Lib.Ring
public import Idealize.ShloMosaic.Lib.Tactic
public import Idealize.ShloMosaic.Lib.VecWindow

@[expose] public section

noncomputable section

namespace Cert.Hold

open Idealize.ShloMosaic Idealize.ShloMosaic.TcCoe
open Idealize.SL Idealize.SL.RA Idealize.SL.BI
open Idealize.SL.BI (sProp)
open scoped Idealize.SL.BI
open Idealize.SL.BI.BIBase Idealize.SL.BI.Laws Idealize.SL.ProofMode Idealize.SL.Sem

variable {nD : Nat} {τ : Topo} {sig : RefSig} {Val : EltTy → Type} {Λ : Labels}
variable {Ix : Type} [DecidableEq Ix] {Name : Type} [DecidableEq Name] {U : Type} [URA U] {Lvl : Type} [Preorder Lvl]
variable {defs : Defs nD τ sig Val Λ} (𝒱 : Variants) (c : Thread nD τ) {α β : Type}

local notation "𝕄" => MT nD τ sig Ix Val Name U Lvl

/-- The program runs from `P` to `Q` of what it returns. -/
def Runs (defs : Defs nD τ sig Val Λ) (P : sProp 𝕄) (p : Prog (TpuEff nD τ sig Val Λ c.2) α) (Q : α → sProp 𝕄) : Prop :=
  P ⊢ wp frame (wpE defs 𝒱 c none) Set.univ p Q

variable {𝒱 c} {P Q R : sProp (MT nD τ sig Ix Val Name U Lvl)}

theorem runs_bind {p : Prog (TpuEff nD τ sig Val Λ c.2) α} {k : α → Prog (TpuEff nD τ sig Val Λ c.2) β} {K : β → sProp 𝕄}
    (h : Runs 𝒱 c defs P p fun _ => R) (hk : ∀ a, Runs 𝒱 c defs R (k a) K) : Runs 𝒱 c defs P (p >>= k) K := by
  unfold Runs at *
  rw [wp_bind]
  exact h.trans (wp_mono _ _ _ hk)

theorem runs_pure {a : α} : Runs 𝒱 c defs P (pure a) fun _ => P := by
  unfold Runs; rw [wp_pure]; exact fupd_intro (PROP := sProp 𝕄)

/-- `P` lends the buffer of `m` to be read; to be written. -/
def Lends {sp : Space} {s : Shape} {e : EltTy} (P : sProp 𝕄) (m : Memref sig c.2.kind sp s e) : Prop :=
  P ⊢ iprop(∃ f : Buf Val (m.view.loc c), (m.view.loc c ↦[m.view.set]{fullShare} f) ∗ ((m.view.loc c ↦[m.view.set]{fullShare} f) -∗ P))
def Gives {sp : Space} {s : Shape} {e : EltTy} (P : sProp 𝕄) (m : Memref sig c.2.kind sp s e) : Prop :=
  P ⊢ iprop(∃ f : Buf Val (m.view.loc c), (m.view.loc c ↦[m.view.set]{fullShare} f) ∗ (∀ g : Buf Val (m.view.loc c), (m.view.loc c ↦[m.view.set]{fullShare} g) -∗ P))

section

variable {sp : Space} {s : Shape} {e : EltTy} {m : Memref sig c.2.kind sp s e}

theorem Gives.lends (h : Gives (c := c) P m) : Lends (c := c) P m := by
  unfold Gives Lends at *
  refine h.trans ?_
  iintro ⟨%f, H, Hk⟩
  iexists f
  isplitl [H]
  · iexact H
  iintro H
  iapply Hk
  iexact H

theorem lends_owns {X : s.Idx → Val e} : Lends (c := c) (owns c m fullShare X : sProp 𝕄) m := by
  unfold Lends owns
  iintro ⟨%f, %hf, H⟩
  iexists f
  isplitl [H]
  · iexact H
  iintro H
  iexists f
  isplitr
  · ipureintro; exact hf
  iexact H

theorem gives_any : Gives (c := c) (iprop(∃ X, owns c m fullShare X) : sProp 𝕄) m := by
  unfold Gives owns
  iintro ⟨%X, %f, %hf, H⟩
  iexists f
  isplitl [H]
  · iexact H
  iintro %g H
  iexists _, g
  isplitr
  · ipureintro; rfl
  iexact H

theorem Lends.left (h : Lends (c := c) P m) : Lends (c := c) iprop(P ∗ R) m := by
  unfold Lends at *
  iintro ⟨HP, HR⟩
  ihave H := h $$ HP
  icases H with ⟨%f, H, Hk⟩
  iexists f
  isplitl [H]
  · iexact H
  iintro H
  isplitl [Hk H]
  · iapply Hk; iexact H
  iexact HR

theorem Lends.right (h : Lends (c := c) R m) : Lends (c := c) iprop(P ∗ R) m := by
  unfold Lends at *
  iintro ⟨HP, HR⟩
  ihave H := h $$ HR
  icases H with ⟨%f, H, Hk⟩
  iexists f
  isplitl [H]
  · iexact H
  iintro H
  isplitl [HP]
  · iexact HP
  iapply Hk; iexact H

theorem Gives.left (h : Gives (c := c) P m) : Gives (c := c) iprop(P ∗ R) m := by
  unfold Gives at *
  iintro ⟨HP, HR⟩
  ihave H := h $$ HP
  icases H with ⟨%f, H, Hk⟩
  iexists f
  isplitl [H]
  · iexact H
  iintro %g H
  isplitl [Hk H]
  · iapply Hk; iexact H
  iexact HR

theorem Gives.right (h : Gives (c := c) R m) : Gives (c := c) iprop(P ∗ R) m := by
  unfold Gives at *
  iintro ⟨HP, HR⟩
  ihave H := h $$ HR
  icases H with ⟨%f, H, Hk⟩
  iexists f
  isplitl [H]
  · iexact H
  iintro %g H
  isplitl [HP]
  · iexact HP
  iapply Hk; iexact H

end

theorem runs_load {cs : CoreSpace} {s : Shape} {e : EltTy} {m : Memref sig c.2.kind cs s e} {r : LoadRect s} {hl : m.view.LoadsAt r}
    (h : Lends (c := c) P m) : Runs 𝒱 c defs P (Prog.lift (.load m r hl)) fun _ => P := by
  unfold Runs Lends at *
  refine h.trans ?_
  iintro ⟨%f, H, Hk⟩
  iapply (wp_load 𝒱 c none Set.univ (m := m) (r := r) (hl := hl) (k := .ret) (f := f) (q := fullShare) (View.setOn_subset_set _ _)) $$ H
  iintro H
  simp only [wp_ret]
  iapply (fupd_intro (PROP := sProp 𝕄))
  iapply Hk
  iexact H

theorem runs_word {s : Shape} {e : EltTy} {m : Memref sig c.2.kind .smem s e} {r : Rect s} {h1 : r.shape.numel = 1} {hp : e.packing = 1}
    (h : Lends (c := c) P m) : Runs 𝒱 c defs P (smemLoad m r h1 hp) fun _ => P := by
  unfold Runs Lends at *
  refine h.trans ?_
  iintro ⟨%f, H, Hk⟩
  unfold smemLoad smemLoadElt
  iapply (wp_load 𝒱 c none Set.univ (m := m) (f := f) (q := fullShare) (View.setOn_subset_set _ _)) $$ H
  iintro H
  simp only [wp_ret]
  iapply (fupd_intro (PROP := sProp 𝕄))
  iapply Hk
  iexact H

theorem runs_store {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1}
    (h : Gives (c := c) P m) : Runs 𝒱 c defs P (Prog.lift (.store m r w Finset.univ hx hm)) fun _ => P := by
  unfold Runs Gives at *
  refine h.trans ?_
  iintro ⟨%f, H, Hk⟩
  iapply (wp_store 𝒱 c none Set.univ (w := w) (Mk := Finset.univ) (hx := hx) (hm := hm) (k := .ret) (f := f) (View.set_slice_subset _ _)) $$ H
  iintro H
  simp only [wp_ret]
  iapply (fupd_intro (PROP := sProp 𝕄))
  iapply Hk
  iexact H

theorem runs_dite {φ : Prop} [Decidable φ] {p : φ → Prog (TpuEff nD τ sig Val Λ c.2) α} {q : ¬φ → Prog (TpuEff nD τ sig Val Λ c.2) α} {K : α → sProp 𝕄}
    (h : ∀ hφ, Runs 𝒱 c defs P (p hφ) K) (h' : ∀ hφ, Runs 𝒱 c defs P (q hφ) K) : Runs 𝒱 c defs P (dite φ p q) K := by
  by_cases hφ : φ
  · rw [dif_pos hφ]; exact h hφ
  · rw [dif_neg hφ]; exact h' hφ

/-- `P` lends the buffer of `m`, which reads `X`. -/
def LendsAt {sp : Space} {s : Shape} {e : EltTy} (P : sProp 𝕄) (m : Memref sig c.2.kind sp s e) (X : s.Idx → Val e) : Prop :=
  P ⊢ iprop(∃ f : Buf Val (m.view.loc c), ⌜m.view.read Val f = X⌝ ∗ (m.view.loc c ↦[m.view.set]{fullShare} f)
    ∗ ((m.view.loc c ↦[m.view.set]{fullShare} f) -∗ P))

section

variable {sp : Space} {s : Shape} {e : EltTy} {m : Memref sig c.2.kind sp s e} {X : s.Idx → Val e}

theorem LendsAt.lends (h : LendsAt (c := c) P m X) : Lends (c := c) P m := by
  unfold LendsAt Lends at *
  refine h.trans ?_
  iintro ⟨%f, %hf, H⟩
  iexists f
  iexact H

theorem lendsAt_owns : LendsAt (c := c) (owns c m fullShare X : sProp 𝕄) m X := by
  unfold LendsAt owns
  iintro ⟨%f, %hf, H⟩
  iexists f
  isplitr
  · ipureintro; exact hf
  isplitl [H]
  · iexact H
  iintro H
  iexists f
  isplitr
  · ipureintro; exact hf
  iexact H

theorem LendsAt.left (h : LendsAt (c := c) P m X) : LendsAt (c := c) iprop(P ∗ R) m X := by
  unfold LendsAt at *
  iintro ⟨HP, HR⟩
  ihave H := h $$ HP
  icases H with ⟨%f, %hf, H, Hk⟩
  iexists f
  isplitr
  · ipureintro; exact hf
  isplitl [H]
  · iexact H
  iintro H
  isplitl [Hk H]
  · iapply Hk; iexact H
  iexact HR

theorem LendsAt.right (h : LendsAt (c := c) R m X) : LendsAt (c := c) iprop(P ∗ R) m X := by
  unfold LendsAt at *
  iintro ⟨HP, HR⟩
  ihave H := h $$ HR
  icases H with ⟨%f, %hf, H, Hk⟩
  iexists f
  isplitr
  · ipureintro; exact hf
  isplitl [H]
  · iexact H
  iintro H
  isplitl [HP]
  · iexact HP
  iapply Hk; iexact H

end

theorem runs_load_full {cs : CoreSpace} {s : Shape} {e : EltTy} {m : Memref sig c.2.kind cs s e} {X : s.Idx → Val e} {off : Fin s.rank → ℕ}
    {inb : ∀ a, off a + s.size a ≤ s.size a} {hl : m.view.LoadsAt (Rect.unit off s.size inb).toLoadRect}
    {k : (s.Idx → Val e) → Prog (TpuEff nD τ sig Val Λ c.2) β} {K : β → sProp 𝕄}
    (h : LendsAt (c := c) P m X) (hk : Runs 𝒱 c defs P (k X) K) :
    Runs 𝒱 c defs P (Prog.lift (.load m (Rect.unit off s.size inb).toLoadRect hl) >>= k) K := by
  unfold Runs LendsAt at *
  rw [wp_bind]
  refine h.trans ?_
  iintro ⟨%f, %hf, H, Hk⟩
  iapply (wp_load 𝒱 c none Set.univ (m := m) (hl := hl) (k := .ret) (f := f) (q := fullShare) (View.setOn_subset_set _ _)) $$ H
  iintro H
  simp only [wp_ret]
  iapply (fupd_intro (PROP := sProp 𝕄))
  rw [View.readAt_full, hf]
  iapply hk
  iapply Hk
  iexact H

theorem runs_store_full {cs : CoreSpace} {s : Shape} {e : EltTy} {m : Memref sig c.2.kind cs s e} {off : Fin s.rank → ℕ}
    {inb : ∀ a, off a + s.size a ≤ s.size a} {w : s.Idx → Val e}
    {hx : (m.access (Rect.unit off s.size inb)).Stores Finset.univ} {hm : Finset.univ = Finset.univ ∨ ∀ a, (Rect.unit off s.size inb).stride a = 1} :
    Runs 𝒱 c defs (iprop(P ∗ ∃ d, owns c m fullShare d) : sProp 𝕄) (Prog.lift (.store m (Rect.unit off s.size inb) w Finset.univ hx hm))
      fun _ => iprop(P ∗ owns c m fullShare w) := by
  unfold Runs owns
  iintro ⟨HP, %d, %f, %hf, H⟩
  iapply (wp_store 𝒱 c none Set.univ (m := m) (w := w) (Mk := Finset.univ) (hx := hx) (hm := hm) (k := .ret) (f := f) (View.set_slice_subset _ _)) $$ H
  iintro H
  simp only [wp_ret]
  iapply (fupd_intro (PROP := sProp 𝕄))
  isplitl [HP]
  · iexact HP
  iexists _
  isplitr; swap; · iexact H
  ipureintro
  exact View.read_writes_full m.view f inb w []

end Cert.Hold

end
-- ==== Proof.AttnBodyIdeal.lean ====
/- The attention gradient's body, run once at any point: it keeps the buffers it is handed, and, at the points that
compute, leaves in the gate gradient's block the product it states of the gate's, attention's and their gradient's blocks. -/
module

public import proofs.«01_k».proof.Proof.Hold
public import proofs.«01_k».proof.Proof.Gen.AttnIdeal.Frame
public import proofs.«01_k».proof.Proof.Gen.AttnIdeal.Skeleton

@[expose] public section

set_option maxRecDepth 16384

noncomputable section

namespace Cert.AttnIdeal.Body

open Cert.AttnIdeal Cert.AttnIdeal.Gen Cert.Hold
open Idealize.ShloMosaic Idealize.ShloMosaic.TcCoe
open Idealize.SL Idealize.SL.RA Idealize.SL.BI
open Idealize.SL.BI (sProp)
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

variable (c : Dev nD) (P : sProp (MT nD τ sig Unit (Elt F) ℕ (UR sig nD τ) ℕ)) (i : grid0.Coords) (arg2 : Memref sig .tc .vmem S128x1024 .bf16) (harg2 : arg2.IsWhole) (arg3 : Memref sig .tc .vmem S128x128 .bf16) (harg3 : arg3.IsWhole) (arg4 : Memref sig .tc .vmem S128x128 .bf16) (harg4 : arg4.IsWhole) (arg5 : Memref sig .tc .vmem S128x128 .bf16) (harg5 : arg5.IsWhole) (arg6 : Memref sig .tc .vmem S128x128 .bf16) (harg6 : arg6.IsWhole) (arg7 : Memref sig .tc .vmem S128x1024 .bf16) (harg7 : arg7.IsWhole) (arg8 : Memref sig .tc .vmem S128x128 .f32) (harg8 : arg8.IsWhole) (arg9 : Memref sig .tc .vmem S128x128 .f32) (harg9 : arg9.IsWhole) (arg10 : Memref sig .tc .vmem S128x128 .f32) (harg10 : arg10.IsWhole) (arg11 : Memref sig .tc .vmem S128x128 .f32) (harg11 : arg11.IsWhole) (arg12 : Memref sig .tc .vmem S128x128 .f32) (harg12 : arg12.IsWhole) (arg13 : Memref sig .tc .vmem S128x128 .f32) (harg13 : arg13.IsWhole) (arg14 : Memref sig .tc .vmem S1x128x512 .f32) (harg14 : arg14.IsWhole) (arg15 : Memref sig .tc .smem S64 .f32) (harg15 : arg15.IsWhole) (arg16 : Memref sig .tc .vmem S128x1024 .f32) (harg16 : arg16.IsWhole) (arg17 : Memref sig .tc .vmem S128x1024 .f32) (harg17 : arg17.IsWhole) (arg18 : Memref sig .tc .vmem S128x1024 .bf16) (harg18 : arg18.IsWhole) (arg19 : Memref sig .tc .vmem S128x128 .bf16) (harg19 : arg19.IsWhole) (arg20 : Memref sig .tc .vmem S128x128 .bf16) (harg20 : arg20.IsWhole) (arg21 : Memref sig .tc .vmem S128x1024 .bf16) (harg21 : arg21.IsWhole) (arg22 : Memref sig .tc .vmem S1x8x128 .f32) (harg22 : arg22.IsWhole) (arg23 : Memref sig .tc .vmem S128x1024 .f32) (harg23 : arg23.IsWhole) (arg24 : Memref sig .tc .vmem S128x1024 .f32) (harg24 : arg24.IsWhole) (arg25 : Memref sig .tc .vmem S128x1024 .f32) (harg25 : arg25.IsWhole) (arg26 : Memref sig .tc .vmem S256x128 .f32) (harg26 : arg26.IsWhole) (arg27 : Memref sig .tc .vmem S256x128 .f32) (harg27 : arg27.IsWhole) (arg28 : Memref sig .tc .vmem S128x128 .f32) (harg28 : arg28.IsWhole) (arg29 : Memref sig .tc .vmem S128x128 .f32) (harg29 : arg29.IsWhole) (arg30 : Memref sig .tc .vmem S4x1x512 .f32) (harg30 : arg30.IsWhole)

section

variable (h2 : Lends (c := (c : Thread nD τ)) P arg2) (h3 : Lends (c := (c : Thread nD τ)) P arg3) (h4 : Lends (c := (c : Thread nD τ)) P arg4) (h5 : Lends (c := (c : Thread nD τ)) P arg5) (h6 : Lends (c := (c : Thread nD τ)) P arg6) (h7 : Lends (c := (c : Thread nD τ)) P arg7) (h8 : Lends (c := (c : Thread nD τ)) P arg8) (h9 : Lends (c := (c : Thread nD τ)) P arg9) (h10 : Lends (c := (c : Thread nD τ)) P arg10) (h11 : Lends (c := (c : Thread nD τ)) P arg11) (h12 : Lends (c := (c : Thread nD τ)) P arg12) (h13 : Lends (c := (c : Thread nD τ)) P arg13) (h14 : Lends (c := (c : Thread nD τ)) P arg14) (h15 : Lends (c := (c : Thread nD τ)) P arg15) (h16 : Lends (c := (c : Thread nD τ)) P arg16) (h17 : Lends (c := (c : Thread nD τ)) P arg17) (h18 : Gives (c := (c : Thread nD τ)) P arg18) (h19 : Gives (c := (c : Thread nD τ)) P arg19) (h20 : Gives (c := (c : Thread nD τ)) P arg20) (h22 : Gives (c := (c : Thread nD τ)) P arg22) (h23 : Gives (c := (c : Thread nD τ)) P arg23) (h24 : Gives (c := (c : Thread nD τ)) P arg24) (h25 : Gives (c := (c : Thread nD τ)) P arg25) (h26 : Gives (c := (c : Thread nD τ)) P arg26) (h27 : Gives (c := (c : Thread nD τ)) P arg27) (h28 : Gives (c := (c : Thread nD τ)) P arg28) (h29 : Gives (c := (c : Thread nD τ)) P arg29) (h30 : Gives (c := (c : Thread nD τ)) P arg30)
include h2 h3 h4 h5 h6 h7 h8 h9 h10 h11 h12 h13 h14 h15 h16 h17 h18 h19 h20 h22 h23 h24 h25 h26 h27 h28 h29 h30

theorem part2_runs (v27 : FVec F S128x1024 .f32) (v29 : FVec F S128x128 .f32) (v31 : FVec F S128x128 .f32) (v33 : FVec F S128x128 .f32) : Runs Variants.none (c : Thread nD τ) (defs₀ (F := F)) P (k0_part2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v27 v29 v31 v33) fun _ => P := by
  rw [k0_part2_eq_skeleton]; unfold k0_part2_skel
  try dsimp only
  exact runs_pure

theorem part3_runs (v27 : FVec F S128x1024 .f32) (v29 : FVec F S128x128 .f32) (v31 : FVec F S128x128 .f32) (v33 : FVec F S128x128 .f32) (v41 : FVec F S128x128 .f32) (v49 : FVec F S128x128 .f32) (v57 : FVec F S128x128 .f32) (v65 : FVec F S128x128 .f32) (v73 : FVec F S128x128 .f32) (v81 : FVec F S128x128 .f32) (v89 : FVec F S128x128 .f32) : Runs Variants.none (c : Thread nD τ) (defs₀ (F := F)) P (k0_part3 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v27 v29 v31 v33 v41 v49 v57 v65 v73 v81 v89) fun _ => P := by
  rw [k0_part3_eq_skeleton]; unfold k0_part3_skel
  try dsimp only
  refine runs_bind (runs_load h23.lends) fun _ => ?_
  refine runs_bind (runs_store h23) fun _ => ?_
  refine runs_bind (runs_load h8) fun _ => ?_
  refine runs_bind (runs_load h9) fun _ => ?_
  refine runs_bind (runs_load h10) fun _ => ?_
  refine runs_bind (runs_load h11) fun _ => ?_
  refine runs_bind (runs_load h12) fun _ => ?_
  refine runs_bind (runs_load h13) fun _ => ?_
  refine runs_bind (runs_load h3) fun _ => ?_
  refine runs_bind (runs_load h4) fun _ => ?_
  exact runs_pure

theorem part4_runs (v111 : FVec F S128x128 .f32) (v113 : FVec F S128x128 .f32) (v115 : FVec F S128x128 .f32) (v125 : Vec F S128x128 .bf16) : Runs Variants.none (c : Thread nD τ) (defs₀ (F := F)) P (k0_part4 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v111 v113 v115 v125) fun _ => P := by
  rw [k0_part4_eq_skeleton]; unfold k0_part4_skel
  try dsimp only
  refine runs_bind (runs_load h6) fun _ => ?_
  refine runs_bind (runs_load h5) fun _ => ?_
  refine runs_bind (runs_load h23.lends) fun _ => ?_
  refine runs_bind (runs_load h23.lends) fun _ => ?_
  refine runs_bind (runs_load h23.lends) fun _ => ?_
  refine runs_bind (runs_load h23.lends) fun _ => ?_
  refine runs_bind (runs_load h23.lends) fun _ => ?_
  refine runs_bind (runs_load h23.lends) fun _ => ?_
  refine runs_bind (runs_load h23.lends) fun _ => ?_
  refine runs_bind (runs_load h23.lends) fun _ => ?_
  refine runs_bind (runs_load h24.lends) fun _ => ?_
  refine runs_bind (runs_load h24.lends) fun _ => ?_
  exact runs_pure

theorem part5_runs (v124 : FVec F S128x128 .f32) (v133 : FVec F S128x128 .f32) (v155 : Vec F S128x128 .f32) (v156 : Vec F S128x128 .f32) : Runs Variants.none (c : Thread nD τ) (defs₀ (F := F)) P (k0_part5 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v124 v133 v155 v156) fun _ => P := by
  rw [k0_part5_eq_skeleton]; unfold k0_part5_skel
  try dsimp only
  refine runs_bind (runs_load h24.lends) fun _ => ?_
  refine runs_bind (runs_load h24.lends) fun _ => ?_
  refine runs_bind (runs_load h24.lends) fun _ => ?_
  refine runs_bind (runs_load h24.lends) fun _ => ?_
  refine runs_bind (runs_load h24.lends) fun _ => ?_
  refine runs_bind (runs_load h24.lends) fun _ => ?_
  exact runs_pure

theorem part6_runs (v124 : FVec F S128x128 .f32) (v135 : FVec F S128x128 .f32) (v191 : IVec S128x128 32) (v192 : FVec F S128x128 .f32) (v194 : IVec S128x128 1) : Runs Variants.none (c : Thread nD τ) (defs₀ (F := F)) P (k0_part6 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v124 v135 v191 v192 v194) fun _ => P := by
  rw [k0_part6_eq_skeleton]; unfold k0_part6_skel
  try dsimp only
  exact runs_pure

theorem part7_runs (v137 : FVec F S128x128 .f32) (v142 : IVec S128x512 1) (v148 : FVec F S512x128 .bf16) (v154 : FVec F S512x128 .bf16) (v177 : FVec F S128x128 .bf16) (v178 : FVec F S128x128 .bf16) (v189 : FVec F S128x128 .bf16) (v201 : FVec F S128x128 .bf16) (v202 : FVec F S128x128 .bf16) (v232 : FVec F S128x128 .f32) (v236 : FVec F S128x128 .f32) : Runs Variants.none (c : Thread nD τ) (defs₀ (F := F)) P (k0_part7 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v137 v142 v148 v154 v177 v178 v189 v201 v202 v232 v236) fun _ => P := by
  rw [k0_part7_eq_skeleton]; unfold k0_part7_skel
  try dsimp only
  refine runs_bind (runs_load h14) fun _ => ?_
  refine runs_bind (runs_load h14) fun _ => ?_
  exact runs_pure

theorem part8_runs (arg0 : BitVec 32) (k0_h1 : k0_cond1 i = 1#1) (v142 : IVec S128x512 1) (v154 : FVec F S512x128 .bf16) (v160 : FVec F S512x128 .bf16) (v166 : FVec F S512x128 .bf16) (v190 : FVec F S128x128 .bf16) (v213 : FVec F S128x128 .bf16) (v214 : FVec F S128x128 .bf16) (v225 : FVec F S128x128 .bf16) (v226 : FVec F S128x128 .bf16) (v237 : FVec F S128x128 .bf16) (v238 : FVec F S128x128 .bf16) (v249 : FVec F S128x128 .bf16) (v250 : FVec F S128x128 .bf16) (v261 : FVec F S128x128 .bf16) (v262 : FVec F S128x128 .bf16) (v275 : FVec F S128x512 .f32) : Runs Variants.none (c : Thread nD τ) (defs₀ (F := F)) P (k0_part8 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 k0_h1 v142 v154 v160 v166 v190 v213 v214 v225 v226 v237 v238 v249 v250 v261 v262 v275) fun _ => P := by
  rw [k0_part8_eq_skeleton]; unfold k0_part8_skel
  try dsimp only
  refine runs_bind (runs_load h14) fun _ => ?_
  refine runs_bind (runs_load h14) fun _ => ?_
  refine runs_bind (runs_word h15) fun _ => ?_
  refine runs_bind (runs_word h15) fun _ => ?_
  exact runs_pure

theorem part9_runs (arg1 : BitVec 32) (k0_h1 : k0_cond1 i = 1#1) (v142 : IVec S128x512 1) (v268 : FVec F S128x512 .f32) (v289 : FVec F S128x512 .f32) (v302 : BitVec 32) (v306 : FVec F S1x128 .f32) (v310 : FVec F S1x128 .f32) (v311 : BitVec 32) : Runs Variants.none (c : Thread nD τ) (defs₀ (F := F)) P (k0_part9 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 k0_h1 v142 v268 v289 v302 v306 v310 v311) fun _ => P := by
  rw [k0_part9_eq_skeleton]; unfold k0_part9_skel
  try dsimp only
  refine runs_bind (runs_word h15) fun _ => ?_
  refine runs_bind (runs_word h15) fun _ => ?_
  exact runs_pure

theorem part10_runs (arg0 : BitVec 32) (arg1 : BitVec 32) (k0_h1 : k0_cond1 i = 1#1) (v274 : FVec F S128x512 .f32) (v292 : FVec F S128x512 .f32) (v358 : FVec F S1x512 .f32) (v360 : BitVec 32) : Runs Variants.none (c : Thread nD τ) (defs₀ (F := F)) P (k0_part10 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h1 v274 v292 v358 v360) fun _ => P := by
  rw [k0_part10_eq_skeleton]; unfold k0_part10_skel
  try dsimp only
  try dsimp only
  refine runs_dite (fun hφ => ?_) fun hφ => ?_
  · refine runs_bind (runs_load h30.lends) fun _ => ?_
    refine runs_bind (runs_store h30) fun _ => ?_
    try dsimp only
    refine runs_dite (fun hφ => ?_) fun hφ => ?_
    · refine runs_bind (runs_load h30.lends) fun _ => ?_
      refine runs_bind (runs_load h30.lends) fun _ => ?_
      refine runs_bind (runs_store h30) fun _ => ?_
      refine runs_bind (runs_word h15) fun _ => ?_
      refine runs_bind (runs_word h15) fun _ => ?_
      refine runs_bind (runs_word h15) fun _ => ?_
      refine runs_bind (runs_word h15) fun _ => ?_
      exact runs_pure
    · refine runs_bind (runs_word h15) fun _ => ?_
      refine runs_bind (runs_word h15) fun _ => ?_
      refine runs_bind (runs_word h15) fun _ => ?_
      refine runs_bind (runs_word h15) fun _ => ?_
      exact runs_pure
  · try dsimp only
    refine runs_dite (fun hφ => ?_) fun hφ => ?_
    · refine runs_bind (runs_load h30.lends) fun _ => ?_
      refine runs_bind (runs_load h30.lends) fun _ => ?_
      refine runs_bind (runs_store h30) fun _ => ?_
      refine runs_bind (runs_word h15) fun _ => ?_
      refine runs_bind (runs_word h15) fun _ => ?_
      refine runs_bind (runs_word h15) fun _ => ?_
      refine runs_bind (runs_word h15) fun _ => ?_
      exact runs_pure
    · refine runs_bind (runs_word h15) fun _ => ?_
      refine runs_bind (runs_word h15) fun _ => ?_
      refine runs_bind (runs_word h15) fun _ => ?_
      refine runs_bind (runs_word h15) fun _ => ?_
      exact runs_pure

theorem part11_runs (arg0 : BitVec 32) (arg1 : BitVec 32) (k0_h1 : k0_cond1 i = 1#1) (v142 : IVec S128x512 1) (v292 : FVec F S128x512 .f32) (v400 : FVec F S128x512 .f32) (v401 : FVec F S1x512 .f32) (v403 : FVec F S512 .f32) : Runs Variants.none (c : Thread nD τ) (defs₀ (F := F)) P (k0_part11 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h1 v142 v292 v400 v401 v403) fun _ => P := by
  rw [k0_part11_eq_skeleton]; unfold k0_part11_skel
  try dsimp only
  try dsimp only
  refine runs_dite (fun hφ => ?_) fun hφ => ?_
  · refine runs_bind (runs_load h30.lends) fun _ => ?_
    refine runs_bind (runs_store h30) fun _ => ?_
    try dsimp only
    refine runs_dite (fun hφ => ?_) fun hφ => ?_
    · refine runs_bind (runs_load h30.lends) fun _ => ?_
      refine runs_bind (runs_load h30.lends) fun _ => ?_
      refine runs_bind (runs_store h30) fun _ => ?_
      refine runs_bind (runs_word h15) fun _ => ?_
      refine runs_bind (runs_word h15) fun _ => ?_
      refine runs_bind (runs_word h15) fun _ => ?_
      exact runs_pure
    · refine runs_bind (runs_word h15) fun _ => ?_
      refine runs_bind (runs_word h15) fun _ => ?_
      refine runs_bind (runs_word h15) fun _ => ?_
      exact runs_pure
  · try dsimp only
    refine runs_dite (fun hφ => ?_) fun hφ => ?_
    · refine runs_bind (runs_load h30.lends) fun _ => ?_
      refine runs_bind (runs_load h30.lends) fun _ => ?_
      refine runs_bind (runs_store h30) fun _ => ?_
      refine runs_bind (runs_word h15) fun _ => ?_
      refine runs_bind (runs_word h15) fun _ => ?_
      refine runs_bind (runs_word h15) fun _ => ?_
      exact runs_pure
    · refine runs_bind (runs_word h15) fun _ => ?_
      refine runs_bind (runs_word h15) fun _ => ?_
      refine runs_bind (runs_word h15) fun _ => ?_
      exact runs_pure

theorem part12_runs (arg1 : BitVec 32) (k0_h1 : k0_cond1 i = 1#1) (v142 : IVec S128x512 1) (v280 : FVec F S128x512 .f32) (v295 : FVec F S128x512 .f32) (v434 : BitVec 32) (v438 : FVec F S1x128 .f32) (v442 : FVec F S1x128 .f32) (v445 : Elt F .f32) : Runs Variants.none (c : Thread nD τ) (defs₀ (F := F)) P (k0_part12 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 k0_h1 v142 v280 v295 v434 v438 v442 v445) fun _ => P := by
  rw [k0_part12_eq_skeleton]; unfold k0_part12_skel
  try dsimp only
  refine runs_bind (runs_word h15) fun _ => ?_
  exact runs_pure

theorem part13_runs (arg0 : BitVec 32) (arg1 : BitVec 32) (k0_h1 : k0_cond1 i = 1#1) (v286 : FVec F S128x512 .f32) (v298 : FVec F S128x512 .f32) (v490 : FVec F S1x512 .f32) (v493 : BitVec 1) : Runs Variants.none (c : Thread nD τ) (defs₀ (F := F)) P (k0_part13 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg0 arg1 k0_h1 v286 v298 v490 v493) fun _ => P := by
  rw [k0_part13_eq_skeleton]; unfold k0_part13_skel
  try dsimp only
  try dsimp only
  refine runs_dite (fun hφ => ?_) fun hφ => ?_
  · refine runs_bind (runs_load h30.lends) fun _ => ?_
    refine runs_bind (runs_store h30) fun _ => ?_
    try dsimp only
    refine runs_dite (fun hφ => ?_) fun hφ => ?_
    · refine runs_bind (runs_load h30.lends) fun _ => ?_
      refine runs_bind (runs_load h30.lends) fun _ => ?_
      refine runs_bind (runs_store h30) fun _ => ?_
      refine runs_bind (runs_word h15) fun _ => ?_
      refine runs_bind (runs_word h15) fun _ => ?_
      refine runs_bind (runs_word h15) fun _ => ?_
      refine runs_bind (runs_word h15) fun _ => ?_
      exact runs_pure
    · refine runs_bind (runs_word h15) fun _ => ?_
      refine runs_bind (runs_word h15) fun _ => ?_
      refine runs_bind (runs_word h15) fun _ => ?_
      refine runs_bind (runs_word h15) fun _ => ?_
      exact runs_pure
  · try dsimp only
    refine runs_dite (fun hφ => ?_) fun hφ => ?_
    · refine runs_bind (runs_load h30.lends) fun _ => ?_
      refine runs_bind (runs_load h30.lends) fun _ => ?_
      refine runs_bind (runs_store h30) fun _ => ?_
      refine runs_bind (runs_word h15) fun _ => ?_
      refine runs_bind (runs_word h15) fun _ => ?_
      refine runs_bind (runs_word h15) fun _ => ?_
      refine runs_bind (runs_word h15) fun _ => ?_
      exact runs_pure
    · refine runs_bind (runs_word h15) fun _ => ?_
      refine runs_bind (runs_word h15) fun _ => ?_
      refine runs_bind (runs_word h15) fun _ => ?_
      refine runs_bind (runs_word h15) fun _ => ?_
      exact runs_pure

theorem part14_runs (arg1 : BitVec 32) (v142 : IVec S128x512 1) (v148 : FVec F S512x128 .bf16) (v160 : FVec F S512x128 .bf16) (v177 : FVec F S128x128 .bf16) (v178 : FVec F S128x128 .bf16) (v201 : FVec F S128x128 .bf16) (v202 : FVec F S128x128 .bf16) (v298 : FVec F S128x512 .f32) (v346 : FVec F S128x512 .bf16) (v349 : FVec F S128x512 .bf16) (v352 : FVec F S128x512 .bf16) (v355 : FVec F S128x512 .bf16) (v412 : FVec F S128x512 .bf16) (v415 : FVec F S128x512 .bf16) (v532 : FVec F S128x512 .f32) (v533 : FVec F S1x512 .f32) (v536 : FVec F S1x512 .f32) (v537 : FVec F S128x512 .f32) : Runs Variants.none (c : Thread nD τ) (defs₀ (F := F)) P (k0_part14 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg1 v142 v148 v160 v177 v178 v201 v202 v298 v346 v349 v352 v355 v412 v415 v532 v533 v536 v537) fun _ => P := by
  rw [k0_part14_eq_skeleton]; unfold k0_part14_skel
  try dsimp only
  try dsimp only
  refine runs_dite (fun hφ => ?_) fun hφ => ?_
  · refine runs_bind (runs_load h30.lends) fun _ => ?_
    refine runs_bind (runs_store h30) fun _ => ?_
    try dsimp only
    refine runs_dite (fun hφ => ?_) fun hφ => ?_
    · refine runs_bind (runs_load h30.lends) fun _ => ?_
      refine runs_bind (runs_load h30.lends) fun _ => ?_
      refine runs_bind (runs_store h30) fun _ => ?_
      exact runs_pure
    · exact runs_pure
  · try dsimp only
    refine runs_dite (fun hφ => ?_) fun hφ => ?_
    · refine runs_bind (runs_load h30.lends) fun _ => ?_
      refine runs_bind (runs_load h30.lends) fun _ => ?_
      refine runs_bind (runs_store h30) fun _ => ?_
      exact runs_pure
    · exact runs_pure

theorem part15_runs (v160 : FVec F S512x128 .bf16) (v418 : FVec F S128x512 .bf16) (v421 : FVec F S128x512 .bf16) (v566 : FVec F S128x128 .f32) (v567 : FVec F S128x128 .f32) (v573 : FVec F S128x512 .f32) (v574 : FVec F S128x128 .f32) (cst_243 : FVec F S128x128 .f32) : Runs Variants.none (c : Thread nD τ) (defs₀ (F := F)) P (k0_part15 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v160 v418 v421 v566 v567 v573 v574 cst_243) fun _ => P := by
  rw [k0_part15_eq_skeleton]; unfold k0_part15_skel
  try dsimp only
  refine runs_bind (runs_load h25.lends) fun _ => ?_
  refine runs_bind (runs_store h25) fun _ => ?_
  refine runs_bind (runs_load h25.lends) fun _ => ?_
  refine runs_bind (runs_store h25) fun _ => ?_
  refine runs_bind (runs_load h25.lends) fun _ => ?_
  refine runs_bind (runs_store h25) fun _ => ?_
  refine runs_bind (runs_load h25.lends) fun _ => ?_
  refine runs_bind (runs_store h25) fun _ => ?_
  exact runs_pure

theorem part16_runs (v154 : FVec F S512x128 .bf16) (v166 : FVec F S512x128 .bf16) (v189 : FVec F S128x128 .bf16) (v190 : FVec F S128x128 .bf16) (v213 : FVec F S128x128 .bf16) (v214 : FVec F S128x128 .bf16) (v478 : FVec F S128x512 .bf16) (v481 : FVec F S128x512 .bf16) (v484 : FVec F S128x512 .bf16) (v487 : FVec F S128x512 .bf16) (v544 : FVec F S128x512 .bf16) (v547 : FVec F S128x512 .bf16) (v568 : FVec F S128x128 .f32) (v569 : FVec F S128x128 .f32) (v575 : FVec F S128x128 .f32) (v576 : FVec F S128x128 .f32) (v577 : FVec F S128x128 .f32) (v609 : IVec S128x128 32) (v613 : FVec F S128x128 .f32) (v614 : IVec S128x128 32) : Runs Variants.none (c : Thread nD τ) (defs₀ (F := F)) P (k0_part16 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v154 v166 v189 v190 v213 v214 v478 v481 v484 v487 v544 v547 v568 v569 v575 v576 v577 v609 v613 v614) fun _ => P := by
  rw [k0_part16_eq_skeleton]; unfold k0_part16_skel
  try dsimp only
  exact runs_pure

theorem part17_runs (v154 : FVec F S512x128 .bf16) (v166 : FVec F S512x128 .bf16) (v547 : FVec F S128x512 .bf16) (v550 : FVec F S128x512 .bf16) (v553 : FVec F S128x512 .bf16) (v608 : FVec F S128x128 .f32) (v645 : FVec F S128x128 .f32) (v652 : FVec F S128x512 .f32) (v653 : FVec F S128x128 .f32) : Runs Variants.none (c : Thread nD τ) (defs₀ (F := F)) P (k0_part17 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v154 v166 v547 v550 v553 v608 v645 v652 v653) fun _ => P := by
  rw [k0_part17_eq_skeleton]; unfold k0_part17_skel
  try dsimp only
  refine runs_bind (runs_load h25.lends) fun _ => ?_
  refine runs_bind (runs_store h25) fun _ => ?_
  refine runs_bind (runs_load h25.lends) fun _ => ?_
  refine runs_bind (runs_store h25) fun _ => ?_
  refine runs_bind (runs_load h25.lends) fun _ => ?_
  refine runs_bind (runs_store h25) fun _ => ?_
  refine runs_bind (runs_load h25.lends) fun _ => ?_
  refine runs_bind (runs_store h25) fun _ => ?_
  exact runs_pure

theorem part18_runs (v619 : FVec F S128x128 .f32) (v630 : FVec F S128x128 .f32) (v641 : FVec F S128x128 .f32) (v646 : FVec F S128x128 .f32) (v647 : FVec F S128x128 .f32) (v648 : FVec F S128x128 .f32) (v654 : FVec F S128x128 .f32) (v655 : FVec F S128x128 .f32) (v656 : FVec F S128x128 .f32) (v689 : FVec F S128x128 .f32) (v690 : IVec S128x128 32) (v691 : IVec S128x128 32) : Runs Variants.none (c : Thread nD τ) (defs₀ (F := F)) P (k0_part18 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v619 v630 v641 v646 v647 v648 v654 v655 v656 v689 v690 v691) fun _ => P := by
  rw [k0_part18_eq_skeleton]; unfold k0_part18_skel
  try dsimp only
  refine runs_bind (runs_load h26.lends) fun _ => ?_
  refine runs_bind (runs_store h26) fun _ => ?_
  exact runs_pure

theorem part19_runs (v702 : FVec F S128x128 .f32) (v715 : FVec F S128x128 .f32) (v728 : FVec F S128x128 .f32) : Runs Variants.none (c : Thread nD τ) (defs₀ (F := F)) P (k0_part19 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v702 v715 v728) fun _ => P := by
  rw [k0_part19_eq_skeleton]; unfold k0_part19_skel
  try dsimp only
  refine runs_bind (runs_load h26.lends) fun _ => ?_
  refine runs_bind (runs_store h26) fun _ => ?_
  refine runs_bind (runs_load h27.lends) fun _ => ?_
  refine runs_bind (runs_store h27) fun _ => ?_
  refine runs_bind (runs_load h27.lends) fun _ => ?_
  refine runs_bind (runs_store h27) fun _ => ?_
  refine runs_bind (runs_load h25.lends) fun _ => ?_
  refine runs_bind (runs_load h8) fun _ => ?_
  refine runs_bind (runs_load h9) fun _ => ?_
  refine runs_bind (runs_load h10) fun _ => ?_
  exact runs_pure

theorem part20_runs (v743 : FVec F S128x1024 .f32) (v745 : FVec F S128x128 .f32) (v751 : FVec F S128x128 .f32) (v753 : FVec F S128x128 .f32) (v764 : FVec F S128x128 .f32) (v767 : FVec F S128x128 .f32) : Runs Variants.none (c : Thread nD τ) (defs₀ (F := F)) P (k0_part20 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v743 v745 v751 v753 v764 v767) fun _ => P := by
  rw [k0_part20_eq_skeleton]; unfold k0_part20_skel
  try dsimp only
  exact runs_pure

theorem part21_runs (v753 : FVec F S128x128 .f32) (v761 : FVec F S128x128 .f32) (v769 : FVec F S128x128 .f32) (v777 : FVec F S128x128 .f32) (v785 : FVec F S128x128 .f32) (v793 : FVec F S128x128 .f32) (v801 : FVec F S128x128 .f32) (v809 : FVec F S128x128 .f32) (v812 : FVec F S128x128 .f32) (v815 : FVec F S128x128 .f32) : Runs Variants.none (c : Thread nD τ) (defs₀ (F := F)) P (k0_part21 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v753 v761 v769 v777 v785 v793 v801 v809 v812 v815) fun _ => P := by
  rw [k0_part21_eq_skeleton]; unfold k0_part21_skel
  try dsimp only
  refine runs_bind (runs_load h18.lends) fun _ => ?_
  refine runs_bind (runs_store h18) fun _ => ?_
  refine runs_bind (runs_load h26.lends) fun _ => ?_
  refine runs_bind (runs_load h11) fun _ => ?_
  refine runs_bind (runs_load h12) fun _ => ?_
  refine runs_bind (runs_load h13) fun _ => ?_
  refine runs_bind (runs_load h26.lends) fun _ => ?_
  refine runs_bind (runs_load h8) fun _ => ?_
  refine runs_bind (runs_load h9) fun _ => ?_
  refine runs_bind (runs_load h10) fun _ => ?_
  exact runs_pure

theorem part22_runs  : Runs Variants.none (c : Thread nD τ) (defs₀ (F := F)) P (k0_part22 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) fun _ => P := by
  rw [k0_part22_eq_skeleton]; unfold k0_part22_skel
  try dsimp only
  refine runs_bind (runs_load h28.lends) fun _ => ?_
  refine runs_bind (runs_load h19.lends) fun _ => ?_
  refine runs_bind (runs_store h19) fun _ => ?_
  refine runs_bind (runs_load h29.lends) fun _ => ?_
  refine runs_bind (runs_load h20.lends) fun _ => ?_
  refine runs_bind (runs_store h20) fun _ => ?_
  refine runs_bind (runs_load h30.lends) fun _ => ?_
  refine runs_bind (runs_load h30.lends) fun _ => ?_
  refine runs_bind (runs_load h30.lends) fun _ => ?_
  exact runs_pure

theorem part23_runs (v12 : IVec S8x128 32) (v31 : FVec F S8x128 .f32) (v37 : IVec S8x128 1) (v39 : FVec F S8x128 .f32) : Runs Variants.none (c : Thread nD τ) (defs₀ (F := F)) P (k0_part23 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v12 v31 v37 v39) fun _ => P := by
  rw [k0_part23_eq_skeleton]; unfold k0_part23_skel
  try dsimp only
  refine runs_bind (runs_load h30.lends) fun _ => ?_
  refine runs_bind (runs_load h30.lends) fun _ => ?_
  refine runs_bind (runs_load h30.lends) fun _ => ?_
  refine runs_bind (runs_load h30.lends) fun _ => ?_
  exact runs_pure

theorem part24_runs (v12 : IVec S8x128 32) (v76 : FVec F S8x128 .f32) : Runs Variants.none (c : Thread nD τ) (defs₀ (F := F)) P (k0_part24 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v12 v76) fun _ => P := by
  rw [k0_part24_eq_skeleton]; unfold k0_part24_skel
  try dsimp only
  refine runs_bind (runs_load h30.lends) fun _ => ?_
  refine runs_bind (runs_load h30.lends) fun _ => ?_
  refine runs_bind (runs_load h30.lends) fun _ => ?_
  refine runs_bind (runs_load h30.lends) fun _ => ?_
  refine runs_bind (runs_load h30.lends) fun _ => ?_
  exact runs_pure

theorem part25_runs (v12 : IVec S8x128 32) (v112 : FVec F S8x128 .f32) (v115 : FVec F S1 .f32) : Runs Variants.none (c : Thread nD τ) (defs₀ (F := F)) P (k0_part25 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 v12 v112 v115) fun _ => P := by
  rw [k0_part25_eq_skeleton]; unfold k0_part25_skel
  try dsimp only
  refine runs_bind (runs_load h30.lends) fun _ => ?_
  refine runs_bind (runs_load h30.lends) fun _ => ?_
  refine runs_bind (runs_load h30.lends) fun _ => ?_
  refine runs_bind (runs_load h30.lends) fun _ => ?_
  exact runs_pure

/-- A point that computes nothing of the tile keeps every buffer. -/
theorem skip_runs (h1 : ¬k0_cond1 i = 1#1) : Runs Variants.none (c : Thread nD τ) (defs₀ (F := F)) P (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) fun _ => P := by
  rw [cc0_attn_bwd_eq_skeleton]; unfold cc0_attn_bwd_skel
  rw [dif_neg h1]
  try dsimp only
  refine runs_dite (fun hφ => ?_) fun hφ => ?_
  · refine runs_bind (part22_runs c P i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 h3 h4 h5 h6 h7 h8 h9 h10 h11 h12 h13 h14 h15 h16 h17 h18 h19 h20 h22 h23 h24 h25 h26 h27 h28 h29 h30) fun a => ?_
    obtain ⟨_, _, _, _⟩ := a
    try dsimp only
    refine runs_bind (part23_runs c P i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 h3 h4 h5 h6 h7 h8 h9 h10 h11 h12 h13 h14 h15 h16 h17 h18 h19 h20 h22 h23 h24 h25 h26 h27 h28 h29 h30 _ _ _ _) fun _ => ?_
    refine runs_bind (part24_runs c P i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 h3 h4 h5 h6 h7 h8 h9 h10 h11 h12 h13 h14 h15 h16 h17 h18 h19 h20 h22 h23 h24 h25 h26 h27 h28 h29 h30 _ _) fun a => ?_
    obtain ⟨_, _⟩ := a
    try dsimp only
    refine runs_bind (part25_runs c P i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 h3 h4 h5 h6 h7 h8 h9 h10 h11 h12 h13 h14 h15 h16 h17 h18 h19 h20 h22 h23 h24 h25 h26 h27 h28 h29 h30 _ _ _) fun a => ?_
    obtain ⟨_, _, _⟩ := a
    try dsimp only
    refine runs_bind (runs_load h22.lends) fun _ => ?_
    refine runs_bind (runs_store h22) fun _ => ?_
    exact runs_pure
  · exact runs_pure

variable {x7 : Vec F S128x1024 .bf16} {x16 x17 : Vec F S128x1024 .f32}
    (e7 : LendsAt (c := (c : Thread nD τ)) P arg7 x7) (e16 : LendsAt (c := (c : Thread nD τ)) P arg16 x16) (e17 : LendsAt (c := (c : Thread nD τ)) P arg17 x17)
include e7 e16 e17

/-- The first part of the tile: the gate gradient's block stored. -/
theorem part1_runs : Runs Variants.none (c : Thread nD τ) (defs₀ (F := F)) iprop(P ∗ ∃ d, owns (c : Thread nD τ) arg21 fullShare d) (k0_part1 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30)
    fun _ => iprop(P ∗ owns (c : Thread nD τ) arg21 fullShare (k0_pay8 x7 x17 x16)) := by
  rw [k0_part1_eq_skeleton]; unfold k0_part1_skel
  refine runs_load_full e7.left ?_
  refine runs_load_full e17.left ?_
  refine runs_load_full e16.left ?_
  refine runs_bind (runs_load (Lends.right gives_any.lends)) fun _ => ?_
  refine runs_bind runs_store_full fun _ => ?_
  refine runs_bind (runs_load (h24.left).lends) fun _ => ?_
  refine runs_bind (runs_store h24.left) fun _ => ?_
  refine runs_bind (runs_load h2.left) fun _ => ?_
  refine runs_bind (runs_load h8.left) fun _ => ?_
  refine runs_bind (runs_load h9.left) fun _ => ?_
  refine runs_bind (runs_load h10.left) fun _ => ?_
  exact runs_pure

/-- A point of the tile keeps every buffer and leaves the gate gradient's block at its product. -/
theorem tile_runs (h1 : k0_cond1 i = 1#1) : Runs Variants.none (c : Thread nD τ) (defs₀ (F := F)) iprop(P ∗ ∃ d, owns (c : Thread nD τ) arg21 fullShare d)
    (cc0_attn_bwd i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30) fun _ => iprop(P ∗ owns (c : Thread nD τ) arg21 fullShare (k0_pay8 x7 x17 x16)) := by
  have g2 := h2.left (R := owns (c : Thread nD τ) arg21 fullShare (k0_pay8 x7 x17 x16))
  have g3 := h3.left (R := owns (c : Thread nD τ) arg21 fullShare (k0_pay8 x7 x17 x16))
  have g4 := h4.left (R := owns (c : Thread nD τ) arg21 fullShare (k0_pay8 x7 x17 x16))
  have g5 := h5.left (R := owns (c : Thread nD τ) arg21 fullShare (k0_pay8 x7 x17 x16))
  have g6 := h6.left (R := owns (c : Thread nD τ) arg21 fullShare (k0_pay8 x7 x17 x16))
  have g7 := h7.left (R := owns (c : Thread nD τ) arg21 fullShare (k0_pay8 x7 x17 x16))
  have g8 := h8.left (R := owns (c : Thread nD τ) arg21 fullShare (k0_pay8 x7 x17 x16))
  have g9 := h9.left (R := owns (c : Thread nD τ) arg21 fullShare (k0_pay8 x7 x17 x16))
  have g10 := h10.left (R := owns (c : Thread nD τ) arg21 fullShare (k0_pay8 x7 x17 x16))
  have g11 := h11.left (R := owns (c : Thread nD τ) arg21 fullShare (k0_pay8 x7 x17 x16))
  have g12 := h12.left (R := owns (c : Thread nD τ) arg21 fullShare (k0_pay8 x7 x17 x16))
  have g13 := h13.left (R := owns (c : Thread nD τ) arg21 fullShare (k0_pay8 x7 x17 x16))
  have g14 := h14.left (R := owns (c : Thread nD τ) arg21 fullShare (k0_pay8 x7 x17 x16))
  have g15 := h15.left (R := owns (c : Thread nD τ) arg21 fullShare (k0_pay8 x7 x17 x16))
  have g16 := h16.left (R := owns (c : Thread nD τ) arg21 fullShare (k0_pay8 x7 x17 x16))
  have g17 := h17.left (R := owns (c : Thread nD τ) arg21 fullShare (k0_pay8 x7 x17 x16))
  have g18 := h18.left (R := owns (c : Thread nD τ) arg21 fullShare (k0_pay8 x7 x17 x16))
  have g19 := h19.left (R := owns (c : Thread nD τ) arg21 fullShare (k0_pay8 x7 x17 x16))
  have g20 := h20.left (R := owns (c : Thread nD τ) arg21 fullShare (k0_pay8 x7 x17 x16))
  have g22 := h22.left (R := owns (c : Thread nD τ) arg21 fullShare (k0_pay8 x7 x17 x16))
  have g23 := h23.left (R := owns (c : Thread nD τ) arg21 fullShare (k0_pay8 x7 x17 x16))
  have g24 := h24.left (R := owns (c : Thread nD τ) arg21 fullShare (k0_pay8 x7 x17 x16))
  have g25 := h25.left (R := owns (c : Thread nD τ) arg21 fullShare (k0_pay8 x7 x17 x16))
  have g26 := h26.left (R := owns (c : Thread nD τ) arg21 fullShare (k0_pay8 x7 x17 x16))
  have g27 := h27.left (R := owns (c : Thread nD τ) arg21 fullShare (k0_pay8 x7 x17 x16))
  have g28 := h28.left (R := owns (c : Thread nD τ) arg21 fullShare (k0_pay8 x7 x17 x16))
  have g29 := h29.left (R := owns (c : Thread nD τ) arg21 fullShare (k0_pay8 x7 x17 x16))
  have g30 := h30.left (R := owns (c : Thread nD τ) arg21 fullShare (k0_pay8 x7 x17 x16))
  rw [cc0_attn_bwd_eq_skeleton]; unfold cc0_attn_bwd_skel
  rw [dif_pos h1]
  try dsimp only
  refine runs_bind (part1_runs c P i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 h2 h3 h4 h5 h6 h7 h8 h9 h10 h11 h12 h13 h14 h15 h16 h17 h18 h19 h20 h22 h23 h24 h25 h26 h27 h28 h29 h30 e7 e16 e17) fun a => ?_
  obtain ⟨_, _, _, _, _⟩ := a
  try dsimp only
  refine runs_bind (part2_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _) fun a => ?_
  obtain ⟨_, _, _, _, _, _⟩ := a
  try dsimp only
  refine runs_bind (part3_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _ _) fun a => ?_
  obtain ⟨_, _, _, _, _⟩ := a
  try dsimp only
  refine runs_bind (part4_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _) fun a => ?_
  obtain ⟨_, _, _, _, _, _, _, _⟩ := a
  try dsimp only
  refine runs_bind (part5_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _) fun a => ?_
  obtain ⟨_, _, _, _, _, _, _, _, _⟩ := a
  try dsimp only
  refine runs_bind (part6_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _) fun a => ?_
  obtain ⟨_, _, _, _, _, _, _, _⟩ := a
  try dsimp only
  refine runs_bind (part7_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _ _) fun a => ?_
  obtain ⟨_, _, _, _, _, _, _, _, _⟩ := a
  try dsimp only
  refine runs_bind (part8_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _ _ _ _ _ _ _ _ _) fun a => ?_
  obtain ⟨_, _, _, _, _, _, _, _, _, _⟩ := a
  try dsimp only
  refine runs_bind (part9_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _) fun a => ?_
  obtain ⟨_, _, _, _, _, _⟩ := a
  try dsimp only
  refine runs_bind (part10_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _) fun a => ?_
  obtain ⟨_, _, _⟩ := a
  try dsimp only
  refine runs_bind (part11_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _) fun a => ?_
  obtain ⟨_, _, _, _, _, _, _, _⟩ := a
  try dsimp only
  refine runs_bind (part12_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _) fun a => ?_
  obtain ⟨_, _, _, _, _, _⟩ := a
  try dsimp only
  refine runs_bind (part13_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _) fun a => ?_
  obtain ⟨_, _, _, _⟩ := a
  try dsimp only
  refine runs_bind (part14_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _ _ _ _ _ _ _ _ _ _) fun a => ?_
  obtain ⟨_, _, _, _, _, _, _, _, _, _, _, _⟩ := a
  try dsimp only
  refine runs_bind (part15_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _) fun a => ?_
  obtain ⟨_, _, _, _, _, _⟩ := a
  try dsimp only
  refine runs_bind (part16_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _ _ _ _ _ _ _ _ _ _ _) fun a => ?_
  obtain ⟨_, _, _, _, _, _, _, _, _⟩ := a
  try dsimp only
  refine runs_bind (part17_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _) fun a => ?_
  obtain ⟨_, _, _, _, _, _⟩ := a
  try dsimp only
  refine runs_bind (part18_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _ _ _) fun a => ?_
  obtain ⟨_, _, _⟩ := a
  try dsimp only
  refine runs_bind (part19_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _) fun a => ?_
  obtain ⟨_, _, _, _, _, _, _⟩ := a
  try dsimp only
  refine runs_bind (part20_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _) fun a => ?_
  obtain ⟨_, _, _, _, _, _, _, _⟩ := a
  try dsimp only
  refine runs_bind (part21_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _ _ _ _ _ _ _) fun a => ?_
  obtain ⟨_, _, _, _, _, _⟩ := a
  try dsimp only
  refine runs_bind (runs_load g27.lends) fun _ => ?_
  refine runs_bind (runs_load g27.lends) fun _ => ?_
  try dsimp only
  refine runs_dite (fun hφ => ?_) fun hφ => ?_
  · refine runs_bind (runs_load g28.lends) fun _ => ?_
    refine runs_bind (runs_load g19.lends) fun _ => ?_
    refine runs_bind (runs_store g19) fun _ => ?_
    refine runs_bind (runs_load g29.lends) fun _ => ?_
    refine runs_bind (runs_load g20.lends) fun _ => ?_
    refine runs_bind (runs_store g20) fun _ => ?_
    refine runs_bind (runs_load g28.lends) fun _ => ?_
    refine runs_bind (runs_store g28) fun _ => ?_
    refine runs_bind (runs_load g29.lends) fun _ => ?_
    refine runs_bind (runs_store g29) fun _ => ?_
    try dsimp only
    refine runs_dite (fun hφ => ?_) fun hφ => ?_
    · refine runs_bind (part22_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30) fun a => ?_
      obtain ⟨_, _, _, _⟩ := a
      try dsimp only
      refine runs_bind (part23_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _) fun _ => ?_
      refine runs_bind (part24_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _) fun a => ?_
      obtain ⟨_, _⟩ := a
      try dsimp only
      refine runs_bind (part25_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _) fun a => ?_
      obtain ⟨_, _, _⟩ := a
      try dsimp only
      refine runs_bind (runs_load g22.lends) fun _ => ?_
      refine runs_bind (runs_store g22) fun _ => ?_
      exact runs_pure
    · exact runs_pure
  · refine runs_bind (runs_load g28.lends) fun _ => ?_
    refine runs_bind (runs_store g28) fun _ => ?_
    refine runs_bind (runs_load g29.lends) fun _ => ?_
    refine runs_bind (runs_store g29) fun _ => ?_
    try dsimp only
    refine runs_dite (fun hφ => ?_) fun hφ => ?_
    · refine runs_bind (part22_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30) fun a => ?_
      obtain ⟨_, _, _, _⟩ := a
      try dsimp only
      refine runs_bind (part23_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _ _) fun _ => ?_
      refine runs_bind (part24_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _) fun a => ?_
      obtain ⟨_, _⟩ := a
      try dsimp only
      refine runs_bind (part25_runs c _ i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 g2 g3 g4 g5 g6 g7 g8 g9 g10 g11 g12 g13 g14 g15 g16 g17 g18 g19 g20 g22 g23 g24 g25 g26 g27 g28 g29 g30 _ _ _) fun a => ?_
      obtain ⟨_, _, _⟩ := a
      try dsimp only
      refine runs_bind (runs_load g22.lends) fun _ => ?_
      refine runs_bind (runs_store g22) fun _ => ?_
      exact runs_pure
    · exact runs_pure

end

end Cert.AttnIdeal.Body

end
-- ==== Proof.AttnRunIdeal.lean ====
/- The attention gradient's run from one body: every staged operand keeps its block, the gate gradient's block is the
product the body leaves (`gateAt`), and nothing is said of the four other results. -/
module

public import proofs.«01_k».proof.Proof.AttnBodyIdeal
public import Idealize.ShloMosaic.Lib.Pipeline.Frame

@[expose] public section

set_option maxRecDepth 16384

noncomputable section

namespace Cert.AttnIdeal.Body

open Cert.AttnIdeal Cert.AttnIdeal.Gen Cert.Hold
open Idealize.ShloMosaic Idealize.ShloMosaic.TcCoe Idealize.ShloMosaic.Tactic
open Idealize.SL Idealize.SL.RA Idealize.SL.BI
open Idealize.SL.BI (sProp)
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The tile's points: all but the last of each group of 33. -/
theorem cond_iff : ∀ t : Fin cfg0.N, k0_cond1 (grid0.coords t) = 1#1 ↔ ¬t.val % 33 = 32 :=
  (by decide +kernel : ∀ t : Fin grid0.N, k0_cond1 (grid0.coords t) = 1#1 ↔ ¬t.val % 33 = 32)

/-- The gate gradient's block is not written back at the point before the last of a group. -/
theorem flush_19 : ∀ t : Fin cfg0.N, t.val % 33 = 31 → (cfg0.win 19).flush t = false :=
  (by decide +kernel : ∀ t : Fin grid0.N, t.val % 33 = 31 → win0_19.flush t = false)

theorem idle_19 : ∀ t : Fin cfg0.N, ¬t.val % 33 = 32 → cfg0.idle 19 (cfg0.grid.coords t) = false :=
  (by decide +kernel : ∀ t : Fin grid0.N, ¬t.val % 33 = 32 → idle0 19 (grid0.coords t) = false)

theorem flushes_19 : ∀ t : Fin cfg0.N, t.val % 33 = 32 → (cfg0.win 19).flush t = true :=
  (by decide +kernel : ∀ t : Fin grid0.N, t.val % 33 = 32 → win0_19.flush t = true)

/-- What a tile's point leaves in the gate gradient's block. -/
def gateOf (c : Dev nD) (t : Fin cfg0.N) : FVec F S128x1024 .bf16 :=
  k0_pay8 (iblk m c 5 t) (iblk m c 15 t) (iblk m c 14 t)

/-- What the gate gradient's buffer holds after point `t`: the last of a group leaves what the point before left. -/
def gateAt (c : Dev nD) (t : Fin cfg0.N) : FVec F S128x1024 .bf16 :=
  if t.val % 33 = 32 then gateOf m c ⟨t.val - 1, Nat.lt_of_le_of_lt (Nat.sub_le _ _) t.isLt⟩ else gateOf m c t

/-- The results nothing is said of. -/
def forgets (w : Fin 21) : Bool := match w with
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => false
  | ⟨10, _⟩ => false
  | ⟨11, _⟩ => false
  | ⟨12, _⟩ => false
  | ⟨13, _⟩ => false
  | ⟨14, _⟩ => false
  | ⟨15, _⟩ => false
  | ⟨16, _⟩ => true
  | ⟨17, _⟩ => true
  | ⟨18, _⟩ => true
  | ⟨19, _⟩ => false
  | ⟨20, _⟩ => true
  | ⟨_ + 21, h⟩ => absurd h (Nat.not_lt.2 (Nat.le_add_left _ _))

/-- The run's data on core `c`: the arrays as the region finds them; every operand's block kept, the gate gradient's at
`gateAt`, the other results' unnamed. -/
def dats (_ : Fin 1) (c : Dev nD) : Dat τ (Elt F) Unit ℕ (UR sig nD τ) ℕ cfg0 c where
  A w := V m c (Pipeline.arrRef spec0 w)
  after w t := match w with
    | ⟨0, h⟩ => iblk m c 0 t
    | ⟨1, h⟩ => iblk m c 1 t
    | ⟨2, h⟩ => iblk m c 2 t
    | ⟨3, h⟩ => iblk m c 3 t
    | ⟨4, h⟩ => iblk m c 4 t
    | ⟨5, h⟩ => iblk m c 5 t
    | ⟨6, h⟩ => iblk m c 6 t
    | ⟨7, h⟩ => iblk m c 7 t
    | ⟨8, h⟩ => iblk m c 8 t
    | ⟨9, h⟩ => iblk m c 9 t
    | ⟨10, h⟩ => iblk m c 10 t
    | ⟨11, h⟩ => iblk m c 11 t
    | ⟨12, h⟩ => iblk m c 12 t
    | ⟨13, h⟩ => iblk m c 13 t
    | ⟨14, h⟩ => iblk m c 14 t
    | ⟨15, h⟩ => iblk m c 15 t
    | ⟨16, h⟩ => Pipeline.Dat.unnamed (cfg := cfg0) ⟨16, h⟩ t
    | ⟨17, h⟩ => Pipeline.Dat.unnamed (cfg := cfg0) ⟨17, h⟩ t
    | ⟨18, h⟩ => Pipeline.Dat.unnamed (cfg := cfg0) ⟨18, h⟩ t
    | ⟨19, h⟩ => gateAt m c t
    | ⟨20, h⟩ => Pipeline.Dat.unnamed (cfg := cfg0) ⟨20, h⟩ t
    | ⟨_ + 21, h⟩ => absurd h (Nat.not_lt.2 (Nat.le_add_left _ _))
  Φ _ := Pipeline.ΦA spec0 c
  q w := Pipeline.shareOf spec0 w
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = iblk m c 7 t := by dsimp only [dats]
theorem after_8 (c : Dev nD) (t : Fin cfg0.N) : (dats m 0 c).after 8 t = iblk m c 8 t := by dsimp only [dats]
theorem after_9 (c : Dev nD) (t : Fin cfg0.N) : (dats m 0 c).after 9 t = iblk m c 9 t := by dsimp only [dats]
theorem after_10 (c : Dev nD) (t : Fin cfg0.N) : (dats m 0 c).after 10 t = iblk m c 10 t := by dsimp only [dats]
theorem after_11 (c : Dev nD) (t : Fin cfg0.N) : (dats m 0 c).after 11 t = iblk m c 11 t := by dsimp only [dats]
theorem after_12 (c : Dev nD) (t : Fin cfg0.N) : (dats m 0 c).after 12 t = iblk m c 12 t := by dsimp only [dats]
theorem after_13 (c : Dev nD) (t : Fin cfg0.N) : (dats m 0 c).after 13 t = iblk m c 13 t := by dsimp only [dats]
theorem after_14 (c : Dev nD) (t : Fin cfg0.N) : (dats m 0 c).after 14 t = iblk m c 14 t := by dsimp only [dats]
theorem after_15 (c : Dev nD) (t : Fin cfg0.N) : (dats m 0 c).after 15 t = iblk m c 15 t := by dsimp only [dats]
theorem after_19 (c : Dev nD) (t : Fin cfg0.N) : (dats m 0 c).after 19 t = gateAt m c t := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d
theorem before_7 (c : Dev nD) (t : Fin cfg0.N) (d) : (dats m 0 c).before 7 t d = iblk m c 7 t :=
  before0_7_of m (dats m 0 c) (A_eq m c 7) (after_7 m c) t d
theorem before_8 (c : Dev nD) (t : Fin cfg0.N) (d) : (dats m 0 c).before 8 t d = iblk m c 8 t :=
  before0_8_of m (dats m 0 c) (A_eq m c 8) (after_8 m c) t d
theorem before_9 (c : Dev nD) (t : Fin cfg0.N) (d) : (dats m 0 c).before 9 t d = iblk m c 9 t :=
  before0_9_of m (dats m 0 c) (A_eq m c 9) (after_9 m c) t d
theorem before_10 (c : Dev nD) (t : Fin cfg0.N) (d) : (dats m 0 c).before 10 t d = iblk m c 10 t :=
  before0_10_of m (dats m 0 c) (A_eq m c 10) (after_10 m c) t d
theorem before_11 (c : Dev nD) (t : Fin cfg0.N) (d) : (dats m 0 c).before 11 t d = iblk m c 11 t :=
  before0_11_of m (dats m 0 c) (A_eq m c 11) (after_11 m c) t d
theorem before_12 (c : Dev nD) (t : Fin cfg0.N) (d) : (dats m 0 c).before 12 t d = iblk m c 12 t :=
  before0_12_of m (dats m 0 c) (A_eq m c 12) (after_12 m c) t d
theorem before_13 (c : Dev nD) (t : Fin cfg0.N) (d) : (dats m 0 c).before 13 t d = iblk m c 13 t :=
  before0_13_of m (dats m 0 c) (A_eq m c 13) (after_13 m c) t d
theorem before_14 (c : Dev nD) (t : Fin cfg0.N) (d) : (dats m 0 c).before 14 t d = iblk m c 14 t :=
  before0_14_of m (dats m 0 c) (A_eq m c 14) (after_14 m c) t d
theorem before_15 (c : Dev nD) (t : Fin cfg0.N) (d) : (dats m 0 c).before 15 t d = iblk m c 15 t :=
  before0_15_of m (dats m 0 c) (A_eq m c 15) (after_15 m c) t d

/-- At the last point of a group the gate gradient's buffer holds what the point before left. -/
theorem before_19 (c : Dev nD) (t : Fin cfg0.N) (h : t.val % 33 = 32) (d) : (dats m 0 c).before 19 t d = gateAt m c t := by
  have hN : t.val < 132 := lt_of_lt_of_eq t.isLt (show cfg0.N = 132 from N_0)
  rw [Dat.before_of_pos _ 19 t (by omega) rfl, if_neg (Bool.eq_false_iff.mp (flush_19 _ (by dsimp only; omega)))]
  unfold Dat.left
  rw [idle_19 _ (by dsimp only; omega)]
  dsimp only
  unfold Dat.kept
  rw [Pipeline.fill_of_clip_none (cfg := cfg0) 19 _ (fun _ => rfl) d ((dats m 0 c).after 19 _), Window.fill_cut, after_19]
  unfold gateAt
  rw [if_pos h, if_neg (by dsimp only; omega)]

/-- What the body is called with at point `t`, and what it returns. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d))
    ∗ (∃ d, owns (c : Thread nD τ) (st0_12 t) fullShare ((dats m 0 c).before 12 t d))
    ∗ (∃ d, owns (c : Thread nD τ) (st0_13 t) fullShare ((dats m 0 c).before 13 t d))
    ∗ (∃ d, owns (c : Thread nD τ) (st0_14 t) fullShare ((dats m 0 c).before 14 t d))
    ∗ (∃ d, owns (c : Thread nD τ) (st0_15 t) fullShare ((dats m 0 c).before 15 t d))
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ d, owns (c : Thread nD τ) (st0_19 t) fullShare ((dats m 0 c).before 19 t d))
    ∗ (∃ X, owns (c : Thread nD τ) (st0_20 t) fullShare X))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t)
    ∗ owns (c : Thread nD τ) (st0_12 t) fullShare ((dats m 0 c).after 12 t)
    ∗ owns (c : Thread nD τ) (st0_13 t) fullShare ((dats m 0 c).after 13 t)
    ∗ owns (c : Thread nD τ) (st0_14 t) fullShare ((dats m 0 c).after 14 t)
    ∗ owns (c : Thread nD τ) (st0_15 t) fullShare ((dats m 0 c).after 15 t)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (dats m 0 c).leavesExact 19 t
    ∗ (∃ X, owns (c : Thread nD τ) (st0_20 t) fullShare X))

/-- What the body keeps: everything but the gate gradient's buffer. -/
def Kept (c : Dev nD) (t : Fin cfg0.N) : sProp 𝕄 :=
  iprop((∃ r, prngReg c r)
    ∗ (dats m 0 c).owesAt () t.castSucc
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (iblk m c 4 t)
    ∗ owns (c : Thread nD τ) (st0_5 t) fullShare (iblk m c 5 t)
    ∗ owns (c : Thread nD τ) (st0_6 t) fullShare (iblk m c 6 t)
    ∗ owns (c : Thread nD τ) (st0_7 t) fullShare (iblk m c 7 t)
    ∗ owns (c : Thread nD τ) (st0_8 t) fullShare (iblk m c 8 t)
    ∗ owns (c : Thread nD τ) (st0_9 t) fullShare (iblk m c 9 t)
    ∗ owns (c : Thread nD τ) (st0_10 t) fullShare (iblk m c 10 t)
    ∗ owns (c : Thread nD τ) (st0_11 t) fullShare (iblk m c 11 t)
    ∗ owns (c : Thread nD τ) (st0_12 t) fullShare (iblk m c 12 t)
    ∗ owns (c : Thread nD τ) (st0_13 t) fullShare (iblk m c 13 t)
    ∗ owns (c : Thread nD τ) (st0_14 t) fullShare (iblk m c 14 t)
    ∗ owns (c : Thread nD τ) (st0_15 t) fullShare (iblk m c 15 t)
    ∗ (∃ X, owns (c : Thread nD τ) (st0_16 t) fullShare X)
    ∗ (∃ X, owns (c : Thread nD τ) (st0_17 t) fullShare X)
    ∗ (∃ X, owns (c : Thread nD τ) (st0_18 t) fullShare X)
    ∗ (∃ X, owns (c : Thread nD τ) (st0_20 t) fullShare X)
    ∗ (∃ X, owns (c : Thread nD τ) (Memref.whole cc0_scratch0) fullShare X)
    ∗ (∃ X, owns (c : Thread nD τ) (Memref.whole cc0_scratch1) fullShare X)
    ∗ (∃ X, owns (c : Thread nD τ) (Memref.whole cc0_scratch2) fullShare X)
    ∗ (∃ X, owns (c : Thread nD τ) (Memref.whole cc0_scratch3) fullShare X)
    ∗ (∃ X, owns (c : Thread nD τ) (Memref.whole cc0_scratch4) fullShare X)
    ∗ (∃ X, owns (c : Thread nD τ) (Memref.whole cc0_scratch5) fullShare X)
    ∗ (∃ X, owns (c : Thread nD τ) (Memref.whole cc0_scratch6) fullShare X)
    ∗ (∃ X, owns (c : Thread nD τ) (Memref.whole cc0_scratch7) fullShare X))

theorem phi_eq (c : Dev nD) : (Pipeline.ΦA spec0 c : sProp 𝕄) = iprop(((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X)) ∗ ∃ r, prngReg c r) := by
  unfold Pipeline.ΦA
  rw [scopedRest0_eq]; simp only [owns_whole]; try rfl

theorem pre_kept (c : Dev nD) (t : Fin cfg0.N) :
    bodyPre m c t ⊢ iprop(Kept m c t ∗ ∃ d, owns (c : Thread nD τ) (st0_19 t) fullShare ((dats m 0 c).before 19 t d)) := by
  unfold bodyPre Kept
  simp only [before_0, before_1, before_2, before_3, before_4, before_5, before_6, before_7, before_8, before_9, before_10, before_11, before_12, before_13, before_14, before_15]
  rw [show (dats m 0 c).Φ t.castSucc = Pipeline.ΦA spec0 c from rfl, phi_eq]
  iintro ⟨⟨⟨S0, S1, S2, S3, S4, S5, S6, S7⟩, HΦ⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, H16, H17, H18, H19, H20⟩
  isplitr [H19]; swap; · iexact H19
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H20]; · iexact H20
  isplitl [S0]; · iexact S0
  isplitl [S1]; · iexact S1
  isplitl [S2]; · iexact S2
  isplitl [S3]; · iexact S3
  isplitl [S4]; · iexact S4
  isplitl [S5]; · iexact S5
  isplitl [S6]; · iexact S6
  iexact S7

theorem leaves_19 (c : Dev nD) (t : Fin cfg0.N) :
    (dats m 0 c).leavesExact 19 t = owns (c : Thread nD τ) (st0_19 t) fullShare (gateAt m c t) := by
  rw [← after_19]
  unfold Dat.leavesExact
  by_cases h : t.val % 33 = 32
  · rw [flushes_19 t h]
    cases cfg0.idle 19 (cfg0.grid.coords t) <;> rfl
  · rw [idle_19 t h]

theorem kept_post (c : Dev nD) (t : Fin cfg0.N) :
    iprop(Kept m c t ∗ owns (c : Thread nD τ) (st0_19 t) fullShare (gateAt m c t)) ⊢ bodyPost m c t := by
  unfold bodyPost Kept
  rw [show (dats m 0 c).Φ t.succ = Pipeline.ΦA spec0 c from rfl, phi_eq, show (dats m 0 c).owesAt () t.succ = (dats m 0 c).owesAt () t.castSucc from rfl,
    after_0, after_1, after_2, after_3, after_4, after_5, after_6, after_7, after_8, after_9, after_10, after_11, after_12, after_13, after_14, after_15, leaves_19]
  iintro ⟨⟨HΦ, Ho, H0, H1, H2, H3, H4, H5, H6, H7, H8, H9, H10, H11, H12, H13, H14, H15, H16, H17, H18, H20, S0, S1, S2, S3, S4, S5, S6, S7⟩, H19⟩
  isplitl [HΦ S0 S1 S2 S3 S4 S5 S6 S7]
  · isplitr [HΦ]; swap; · iexact HΦ
    isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

section

variable {m} (c : Dev nD) (t : Fin cfg0.N)

theorem keeps2 : Lends (c := (c : Thread nD τ)) (Kept m c t) (st0_0 t) := by
  unfold Kept; exact (Lends.right (Lends.right (Lends.left lends_owns)))
theorem keeps3 : Lends (c := (c : Thread nD τ)) (Kept m c t) (st0_1 t) := by
  unfold Kept; exact (Lends.right (Lends.right (Lends.right (Lends.left lends_owns))))
theorem keeps4 : Lends (c := (c : Thread nD τ)) (Kept m c t) (st0_2 t) := by
  unfold Kept; exact (Lends.right (Lends.right (Lends.right (Lends.right (Lends.left lends_owns)))))
theorem keeps5 : Lends (c := (c : Thread nD τ)) (Kept m c t) (st0_3 t) := by
  unfold Kept; exact (Lends.right (Lends.right (Lends.right (Lends.right (Lends.right (Lends.left lends_owns))))))
theorem keeps6 : Lends (c := (c : Thread nD τ)) (Kept m c t) (st0_4 t) := by
  unfold Kept; exact (Lends.right (Lends.right (Lends.right (Lends.right (Lends.right (Lends.right (Lends.left lends_owns)))))))
theorem keeps7 : Lends (c := (c : Thread nD τ)) (Kept m c t) (st0_5 t) := by
  unfold Kept; exact (Lends.right (Lends.right (Lends.right (Lends.right (Lends.right (Lends.right (Lends.right (Lends.left lends_owns))))))))
theorem keeps8 : Lends (c := (c : Thread nD τ)) (Kept m c t) (st0_6 t) := by
  unfold Kept; exact (Lends.right (Lends.right (Lends.right (Lends.right (Lends.right (Lends.right (Lends.right (Lends.right (Lends.left lends_owns)))))))))
theorem keeps9 : Lends (c := (c : Thread nD τ)) (Kept m c t) (st0_7 t) := by
  unfold Kept; exact (Lends.right (Lends.right (Lends.right (Lends.right (Lends.right (Lends.right (Lends.right (Lends.right (Lends.right (Lends.left lends_owns))))))))))
theorem keeps10 : Lends (c := (c : Thread nD τ)) (Kept m c t) (st0_8 t) := by
  unfold Kept; exact (Lends.right (Lends.right (Lends.right (Lends.right (Lends.right (Lends.right (Lends.right (Lends.right (Lends.right (Lends.right (Lends.left lends_owns)))))))))))
theorem keeps11 : Lends (c := (c : Thread nD τ)) (Kept m c t) (st0_9 t) := by
  unfold Kept; exact (Lends.right (Lends.right (Lends.right (Lends.right (Lends.right (Lends.right (Lends.right (Lends.right (Lends.right (Lends.right (Lends.right (Lends.left lends_owns))))))))))))
theorem keeps12 : Lends (c := (c : Thread nD τ)) (Kept m c t) (st0_10 t) := by
  unfold Kept; exact (Lends.right (Lends.right (Lends.right (Lends.right (Lends.right (Lends.right (Lends.right (Lends.right (Lends.right (Lends.right (Lends.right (Lends.right (Lends.left lends_owns)))))))))))))
theorem keeps13 : Lends (c := (c : Thread nD τ)) (Kept m c t) (st0_11 t) := by
  unfold Kept; exact (Lends.right (Lends.right (Lends.right (Lends.right (Lends.right (Lends.right (Lends.right (Lends.right (Lends.right (Lends.right (Lends.right (Lends.right (Lends.right (Lends.left lends_owns))))))))))))))
theorem keeps14 : Lends (c := (c : Thread nD τ)) (Kept m c t) (st0_12 t) := by
  unfold Kept; exact (Lends.right (Lends.right (Lends.right (Lends.right (Lends.right (Lends.right (Lends.right (Lends.right (Lends.right (Lends.right (Lends.right (Lends.right (Lends.right (Lends.right (Lends.left lends_owns)))))))))))))))
theorem keeps15 : Lends (c := (c : Thread nD τ)) (Kept m c t) (st0_13 t) := by
  unfold Kept; exact (Lends.right (Lends.right (Lends.right (Lends.right (Lends.right (Lends.right (Lends.right (Lends.right (Lends.right (Lends.right (Lends.right (Lends.right (Lends.right (Lends.right (Lends.right (Lends.left lends_owns))))))))))))))))
theorem keeps16 : Lends (c := (c : Thread nD τ)) (Kept m c t) (st0_14 t) := by
  unfold Kept; exact (Lends.right (Lends.right (Lends.right (Lends.right (Lends.right (Lends.right (Lends.right (Lends.right (Lends.right (Lends.right (Lends.right (Lends.right (Lends.right (Lends.right (Lends.right (Lends.right (Lends.left lends_owns)))))))))))))))))
theorem keeps17 : Lends (c := (c : Thread nD τ)) (Kept m c t) (st0_15 t) := by
  unfold Kept; exact (Lends.right (Lends.right (Lends.right (Lends.right (Lends.right (Lends.right (Lends.right (Lends.right (Lends.right (Lends.right (Lends.right (Lends.right (Lends.right (Lends.right (Lends.right (Lends.right (Lends.right (Lends.left lends_owns))))))))))))))))))
theorem keeps18 : Gives (c := (c : Thread nD τ)) (Kept m c t) (st0_16 t) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.left gives_any)))))))))))))))))))
theorem keeps19 : Gives (c := (c : Thread nD τ)) (Kept m c t) (st0_17 t) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.left gives_any))))))))))))))))))))
theorem keeps20 : Gives (c := (c : Thread nD τ)) (Kept m c t) (st0_18 t) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any)))))))))))))))))))))
theorem keeps22 : Gives (c := (c : Thread nD τ)) (Kept m c t) (st0_20 t) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any))))))))))))))))))))))
theorem keeps23 : Gives (c := (c : Thread nD τ)) (Kept m c t) (Memref.whole cc0_scratch0) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any)))))))))))))))))))))))
theorem keeps24 : Gives (c := (c : Thread nD τ)) (Kept m c t) (Memref.whole cc0_scratch1) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any))))))))))))))))))))))))
theorem keeps25 : Gives (c := (c : Thread nD τ)) (Kept m c t) (Memref.whole cc0_scratch2) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any)))))))))))))))))))))))))
theorem keeps26 : Gives (c := (c : Thread nD τ)) (Kept m c t) (Memref.whole cc0_scratch3) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any))))))))))))))))))))))))))
theorem keeps27 : Gives (c := (c : Thread nD τ)) (Kept m c t) (Memref.whole cc0_scratch4) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any)))))))))))))))))))))))))))
theorem keeps28 : Gives (c := (c : Thread nD τ)) (Kept m c t) (Memref.whole cc0_scratch5) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any))))))))))))))))))))))))))))
theorem keeps29 : Gives (c := (c : Thread nD τ)) (Kept m c t) (Memref.whole cc0_scratch6) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.left gives_any)))))))))))))))))))))))))))))
theorem keeps30 : Gives (c := (c : Thread nD τ)) (Kept m c t) (Memref.whole cc0_scratch7) := by
  unfold Kept; exact (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right (Gives.right gives_any)))))))))))))))))))))))))))))
theorem keepsAt5 : LendsAt (c := (c : Thread nD τ)) (Kept m c t) (st0_5 t) (iblk m c 5 t) := by
  unfold Kept; exact (LendsAt.right (LendsAt.right (LendsAt.right (LendsAt.right (LendsAt.right (LendsAt.right (LendsAt.right (LendsAt.left lendsAt_owns))))))))
theorem keepsAt14 : LendsAt (c := (c : Thread nD τ)) (Kept m c t) (st0_14 t) (iblk m c 14 t) := by
  unfold Kept; exact (LendsAt.right (LendsAt.right (LendsAt.right (LendsAt.right (LendsAt.right (LendsAt.right (LendsAt.right (LendsAt.right (LendsAt.right (LendsAt.right (LendsAt.right (LendsAt.right (LendsAt.right (LendsAt.right (LendsAt.right (LendsAt.right (LendsAt.left lendsAt_owns)))))))))))))))))
theorem keepsAt15 : LendsAt (c := (c : Thread nD τ)) (Kept m c t) (st0_15 t) (iblk m c 15 t) := by
  unfold Kept; exact (LendsAt.right (LendsAt.right (LendsAt.right (LendsAt.right (LendsAt.right (LendsAt.right (LendsAt.right (LendsAt.right (LendsAt.right (LendsAt.right (LendsAt.right (LendsAt.right (LendsAt.right (LendsAt.right (LendsAt.right (LendsAt.right (LendsAt.right (LendsAt.left lendsAt_owns))))))))))))))))))

end

/-- The body at any point. -/
theorem sound_body (c : Dev nD) (t : Fin cfg0.N) :
    bodyPre m c t ⊢ wp frame (wpE (defs₀ (F := F)) Variants.none c none) Set.univ (bodyAt0 t) (fun _ => bodyPost m c t) := by
  refine (pre_kept m c t).trans ?_
  by_cases h : t.val % 33 = 32
  · simp only [before_19 m c t h]
    have e : iprop(Kept m c t ∗ ∃ d : (cfg0.win 19).block.Idx → Elt F (cfg0.win 19).elt, owns (c : Thread nD τ) (st0_19 t) fullShare (gateAt m c t))
        ⊢ iprop(Kept m c t ∗ owns (c : Thread nD τ) (st0_19 t) fullShare (gateAt m c t)) := by
      iintro ⟨HK, %d, H⟩
      isplitl [HK]; · iexact HK
      iexact H
    refine e.trans ?_
    refine (skip_runs c _ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (keeps2 c t).left (keeps3 c t).left (keeps4 c t).left (keeps5 c t).left (keeps6 c t).left (keeps7 c t).left (keeps8 c t).left (keeps9 c t).left (keeps10 c t).left (keeps11 c t).left (keeps12 c t).left (keeps13 c t).left (keeps14 c t).left (keeps15 c t).left (keeps16 c t).left (keeps17 c t).left (keeps18 c t).left (keeps19 c t).left (keeps20 c t).left (keeps22 c t).left (keeps23 c t).left (keeps24 c t).left (keeps25 c t).left (keeps26 c t).left (keeps27 c t).left (keeps28 c t).left (keeps29 c t).left (keeps30 c t).left (fun h' => (cond_iff t).mp h' h)).trans ?_
    exact wp_mono _ _ _ fun _ => kept_post m c t
  · have e : iprop(Kept m c t ∗ ∃ d, owns (c : Thread nD τ) (st0_19 t) fullShare ((dats m 0 c).before 19 t d))
        ⊢ iprop(Kept m c t ∗ ∃ d, owns (c : Thread nD τ) (st0_19 t) fullShare d) := by
      iintro ⟨HK, %d, H⟩
      isplitl [HK]; · iexact HK
      iexists _; iexact H
    refine e.trans ?_
    refine (tile_runs c _ (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (win0_10.stage (cfg0.slots t 10)) (hstage0_10 ((cfg0.slots t 10).cast nbuf0_10)) (win0_11.stage (cfg0.slots t 11)) (hstage0_11 ((cfg0.slots t 11).cast nbuf0_11)) (win0_12.stage (cfg0.slots t 12)) (hstage0_12 ((cfg0.slots t 12).cast nbuf0_12)) (win0_13.stage (cfg0.slots t 13)) (hstage0_13 ((cfg0.slots t 13).cast nbuf0_13)) (win0_14.stage (cfg0.slots t 14)) (hstage0_14 ((cfg0.slots t 14).cast nbuf0_14)) (win0_15.stage (cfg0.slots t 15)) (hstage0_15 ((cfg0.slots t 15).cast nbuf0_15)) (win0_16.stage (cfg0.slots t 16)) (hstage0_16 ((cfg0.slots t 16).cast nbuf0_16)) (win0_17.stage (cfg0.slots t 17)) (hstage0_17 ((cfg0.slots t 17).cast nbuf0_17)) (win0_18.stage (cfg0.slots t 18)) (hstage0_18 ((cfg0.slots t 18).cast nbuf0_18)) (win0_19.stage (cfg0.slots t 19)) (hstage0_19 ((cfg0.slots t 19).cast nbuf0_19)) (win0_20.stage (cfg0.slots t 20)) (hstage0_20 ((cfg0.slots t 20).cast nbuf0_20)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (keeps2 c t) (keeps3 c t) (keeps4 c t) (keeps5 c t) (keeps6 c t) (keeps7 c t) (keeps8 c t) (keeps9 c t) (keeps10 c t) (keeps11 c t) (keeps12 c t) (keeps13 c t) (keeps14 c t) (keeps15 c t) (keeps16 c t) (keeps17 c t) (keeps18 c t) (keeps19 c t) (keeps20 c t) (keeps22 c t) (keeps23 c t) (keeps24 c t) (keeps25 c t) (keeps26 c t) (keeps27 c t) (keeps28 c t) (keeps29 c t) (keeps30 c t) (keepsAt5 c t) (keepsAt14 c t) (keepsAt15 c t) ((cond_iff t).mpr h)).trans ?_
    refine wp_mono _ _ _ fun _ => ?_
    have e : gateAt m c t = k0_pay8 (iblk m c 5 t) (iblk m c 15 t) (iblk m c 14 t) := by unfold gateAt; rw [if_neg h]; rfl
    rw [← e]
    exact kept_post m c t

theorem defs₀_row (t : Fin cfg0.N) :
    defs₀ (F := F) .tc cfg0.body (cfg0.bodyArgs t (cfg0.slots t)) = bodyAt0 t := by
  unfold defs₀; rw [Defs.onTc_tc]

set_option maxHeartbeats 1600000 in
theorem body_obligation (c : Dev nD) : BodyObligation (dats (F := F) m 0 c) (defs₀ (F := F)) Variants.none () Set.univ forgets := fun t => by
  rw [bigSep_W0, bigSep_W0, defs₀_row]
  exact triple_restated (sound_body m c t) rfl .rfl fun _ => .rfl

/-- What the launch leaves: the data's arrays where they are named, and every counter at zero. -/
abbrev Post (r : PUnit × MemSt nD τ sig (Elt F)) : Prop :=
  Pipeline.RDat.FramePost (cfgs 0) (fun c => (dats m 0 c).toRForget forgets) (V m) r ∧ r.2.sem = fun _ => 0

-- the run's implicit arguments are found by unifying its conclusion with this one
set_option backward.isDefEq.respectTransparency.types false in
theorem run_main : θ_run defs (onTc (τ := τ) (main (F := F))) (s₀ m ρ) (Post m) :=
  Pipeline.θ_run_frame_forget_shared (Q' := _) cfgs (dats m) (0 : Fin 1) launch₀0 defs₀ Variants.none forgets m ρ main
    (hbody := fun c => (body_obligation m c).loose) (hq := fun _ _ _ => rfl)
    (howed := fun _ _ => rfl) (V := V m) (hmain := hmain m Variants.none) (hA := A_eq m) (hΦ := fun _ _ => rfl)

variable {m}

/-- A window the run names ends at the data's array. -/
theorem named {r : PUnit × MemSt nD τ sig (Elt F)} (h : Post m r) (c : Dev nD) (w : Fin cfg0.W) (hw : forgets w = false) :
    r.2.mem (((cfgs 0).spec w).arr.view.loc (c : Thread nD τ)) = (dats m 0 c).arrAt w cfg0.N :=
  ((dats m 0 c).toRForget_arrAt_iff hw _ _).mp ((h.1 c).1 w)

theorem operand {r : PUnit × MemSt nD τ sig (Elt F)} (h : Post m r) (c : Dev nD) (w : Fin cfg0.W) (hw : forgets w = false) (hi : (cfg0.spec w).isOut = false) :
    r.2.mem (((cfgs 0).spec w).arr.view.loc (c : Thread nD τ)) = V m c (Pipeline.arrRef spec0 w) :=
  (named h c w hw).trans (((dats m 0 c).arrAt_in w hi _).trans (A_eq m c w))

set_option maxHeartbeats 1200000 in
theorem kept_args {r : PUnit × MemSt nD τ sig (Elt F)} (h : Post m r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h.1 c).2 main_arg0 (Pipeline.mem_restRefs_of main_arg0 (by decide) (by decide))).trans (V_main_arg0 m c),
    (operand h c 5 rfl rfl).trans (V_main_arg1 m c), (operand h c 13 rfl rfl).trans (V_main_arg2 m c),
    (operand h c 14 rfl rfl).trans (V_main_arg3 m c), (operand h c 15 rfl rfl).trans (V_main_arg4 m c)⟩

/-- The frame: the arguments end as they were, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨kept_args h, h.2⟩) (run_main m ρ)

end Cert.AttnIdeal.Body

end
-- ==== Proof.Reads.lean ====
/- What the arguments hold, as numbers; and arithmetic of reals read among the extended reals. -/
module

public import proofs.«01_k».proof.Proof.Consts

@[expose] public section

noncomputable section

namespace Cert.Gating

open Idealize.ShloMosaic

/-- The numbers of `N` are what the gradient reads of the six arguments: three column ranges of the first, of the second the
    entries on and below the diagonal, all of the others. -/
structure Reads (N : Nums) (x0 : (⟨2, ![4096, 29696]⟩ : Shape).Idx → EReal) (x1 : (⟨4, ![1, 8, 128, 128]⟩ : Shape).Idx → EReal)
    (x2 : (⟨3, ![1, 8, 128]⟩ : Shape).Idx → EReal) (x3 x4 : (⟨2, ![1, 4096]⟩ : Shape).Idx → EReal)
    (x5 : (⟨2, ![4096, 4096]⟩ : Shape).Idx → EReal) : Prop where
  u : ∀ i (r c : Fin 4096), (i 0).val = r.val → (i 1).val = 9216 + c.val → x0 i = ((N.u r c : ℝ) : EReal)
  vg : ∀ i (r c : Fin 4096), (i 0).val = r.val → (i 1).val = 13312 + c.val → x0 i = ((N.vg r c : ℝ) : EReal)
  gb : ∀ i (r c : Fin 4096), (i 0).val = r.val → (i 1).val = 17408 + c.val → x0 i = ((N.gb r c : ℝ) : EReal)
  ws : ∀ i (g : Fin 8) (t s : Fin 128), (i 1).val = g.val → (i 2).val = t.val → (i 3).val = s.val → s ≤ t →
    x1 i = ((N.ws g t s : ℝ) : EReal)
  bs : ∀ i (g : Fin 8) (t : Fin 128), (i 1).val = g.val → (i 2).val = t.val → x2 i = ((N.bs g t : ℝ) : EReal)
  lg : ∀ i (c : Fin 4096), (i 1).val = c.val → x3 i = ((N.lg c : ℝ) : EReal)
  lb : ∀ i (c : Fin 4096), (i 1).val = c.val → x4 i = ((N.lb c : ℝ) : EReal)
  db : ∀ i (r c : Fin 4096), (i 0).val = r.val → (i 1).val = c.val → x5 i = ((N.db r c : ℝ) : EReal)

theorem coe_div' (x : ℝ) {y : ℝ} (h : y ≠ 0) : Ideal.div (x : EReal) (y : EReal) = ((x / y : ℝ) : EReal) := by
  rw [Ideal.div_coe h, ← EReal.coe_mul, mul_one_div]

theorem coe_div_width (x : ℝ) : Ideal.div (x : EReal) ((4096 : ℝ) : EReal) = ((x / 4096 : ℝ) : EReal) :=
  coe_div' x (by norm_num)

theorem coe_cube : Ideal.div ((44715 : ℝ) : EReal) ((1000000 : ℝ) : EReal) = ((cube : ℝ) : EReal) := by
  rw [coe_div' _ (by norm_num)]
  exact congrArg Real.toEReal (by norm_num [cube])

theorem coe_rsqrt {x : ℝ} (h : 0 < x) : Ideal.rsqrt (x : EReal) = (((√x)⁻¹ : ℝ) : EReal) := by
  rw [Ideal.rsqrt_coe, if_neg h.not_gt, if_neg h.ne']

theorem coe_sig (x : ℝ) : Ideal.div ((1 : ℝ) : EReal) ((1 + Real.exp (-x) : ℝ) : EReal) = ((sig x : ℝ) : EReal) := by
  have h : 0 < 1 + Real.exp (-x) := by positivity
  rw [coe_div' _ h.ne', one_div]
  rfl

/-- A sum of extended reals each of which is a real. -/
theorem sum_coe {ι : Type*} [Fintype ι] {x : ι → EReal} {f : ι → ℝ} (h : ∀ i, x i = ((f i : ℝ) : EReal)) :
    ∑ i, x i = ((∑ i, f i : ℝ) : EReal) := by
  rw [← coe_sum]
  exact Finset.sum_congr rfl fun i _ => h i

/-- … from zero. -/
theorem zero_add_sum_coe {ι : Type*} [Fintype ι] {x : ι → EReal} {f : ι → ℝ} (h : ∀ i, x i = ((f i : ℝ) : EReal)) :
    ((0 : ℝ) : EReal) + ∑ i, x i = ((∑ i, f i : ℝ) : EReal) := by
  rw [sum_coe h, EReal.coe_zero, zero_add]

end Cert.Gating

end
-- ==== Proof.Finite.lean ====
/- The precondition read back: every entry that the two programs read is a real number. -/
module

public import proofs.«01_k».proof.Pre_finite
public import proofs.«01_k».proof.Proof.Reads
public import Idealize.ShloMosaic.Lib.ReduceAll
public import Idealize.ShloMosaic.Lib.Pointwise
public import Idealize.ShloMosaic.Lib.WordCmp

@[expose] public section

set_option maxRecDepth 16384

noncomputable section

namespace Cert.Gating.Finite

open Idealize.ShloMosaic Cert.Pre_finite

/-- The side conditions of the precondition's operations. -/
theorem facts : Cert.Pre_finite.Facts where
  slices_S4096x29696_S4096x12288_0_9216 := by decide
  bitsLt_bf16_f32 := by decide
  bcast_S_S4096x12288 := by decide
  reducesTo_S4096x12288_S_d0_1 := by decide
  h_S_ := by decide
  bcast_S_S1x8x128x128 := by decide
  reducesTo_S1x8x128x128_S_d0_1_2_3 := by decide
  bcast_S_S1x8x128 := by decide
  reducesTo_S1x8x128_S_d0_1_2 := by decide
  bcast_S_S1x4096 := by decide
  reducesTo_S1x4096_S_d0_1 := by decide
  bcast_S_S4096x4096 := by decide
  reducesTo_S4096x4096_S_d0_1 := by decide

theorem infinity : (FloatOps.ofBits .f32 0x7F800000#32 : Ideal .f32) = (⊤ : EReal) := by
  simp [FloatOps.ofBits, Ideal.ofBits, Ideal.ieee]

/-- A value whose absolute value is below infinity is a real. -/
theorem real_of_lt (x : EReal) (h : FloatOps.cmpf (F := Ideal) (φ := .f32) .olt (FloatOps.hostAbsf (F := Ideal) (φ := .f32) x) (FloatOps.ofBits .f32 0x7F800000#32) = 1#1) :
    x = ((x.toReal : ℝ) : EReal) := by
  rw [infinity, Ideal.cmpf_def, Ideal.hostAbsf_def, Ideal.absf_def, Ideal.cmp] at h
  have h' : max x (-x) < ⊤ := (WordCmp.ofBool_decide_eq_one_iff _).mp h
  refine (EReal.coe_toReal ?_ ?_).symm
  · rintro rfl; simp at h'
  · rintro rfl; simp at h'

instance : Subsingleton S_.Idx := ⟨fun a b => funext fun i => i.elim0⟩

theorem andi_at_one {x y : IVec S_ 1} (h : andi x y = fun _ => 1#1) : (x = fun _ => 1#1) ∧ (y = fun _ => 1#1) :=
  ⟨funext fun i => (IntOp.andi_eq_one.mp (congrFun h i)).1, funext fun i => (IntOp.andi_eq_one.mp (congrFun h i)).2⟩

variable [Facts]

/-- What the precondition says of its six arrays. -/
theorem entries {x0 : FVec Ideal S4096x29696 .bf16} {x1 : FVec Ideal S1x8x128x128 .f32} {x2 : FVec Ideal S1x8x128 .f32}
    {x3 x4 : FVec Ideal S1x4096 .f32} {x5 : FVec Ideal S4096x4096 .f32}
    (h : Cert.Pre_finite.fn (F := Ideal) x0 x1 x2 x3 x4 x5 = fun _ => 1#1) :
    (∀ i : S4096x29696.Idx, 9216 ≤ (i 1).val → (i 1).val < 21504 → x0 i = (((x0 i : EReal).toReal : ℝ) : EReal))
    ∧ (∀ i : S1x8x128x128.Idx, (i 3).val ≤ (i 2).val → x1 i = (((x1 i : EReal).toReal : ℝ) : EReal))
    ∧ (∀ i, x2 i = (((x2 i : EReal).toReal : ℝ) : EReal))
    ∧ (∀ i, x3 i = (((x3 i : EReal).toReal : ℝ) : EReal))
    ∧ (∀ i, x4 i = (((x4 i : EReal).toReal : ℝ) : EReal))
    ∧ (∀ i, x5 i = (((x5 i : EReal).toReal : ℝ) : EReal)) := by
  dsimp only [fn, fn_part1] at h
  obtain ⟨h, h5⟩ := andi_at_one h
  obtain ⟨h, h4⟩ := andi_at_one h
  obtain ⟨h, h3⟩ := andi_at_one h
  obtain ⟨h, h2⟩ := andi_at_one h
  obtain ⟨h0, h1⟩ := andi_at_one h
  refine ⟨fun i hl hu => ?_, fun i hi => ?_, fun i => ?_, fun i => ?_, fun i => ?_, fun i => ?_⟩
  · have := Host.reduce_andi_all _ _ _ _ _ (congrFun h0 (fun a => a.elim0)) (ix2 (i 0) ⟨(i 1).val - 9216, by omega⟩ : S4096x12288.Idx)
    have e := real_of_lt _ this
    have hx : extractStridedSlice S4096x12288 ![0, 9216] x0 Facts.slices_S4096x29696_S4096x12288_0_9216
        (ix2 (i 0) ⟨(i 1).val - 9216, by omega⟩ : S4096x12288.Idx) = x0 i := by
      refine congrArg x0 (funext (Fin.forall_fin_succ.mpr ⟨Fin.ext ?_, Fin.forall_fin_succ.mpr ⟨Fin.ext ?_, fun k => k.elim0⟩⟩))
      · show 0 + (i 0).val = (i 0).val; omega
      · show 9216 + ((i 1).val - 9216) = (i 1).val; omega
    rw [← hx]
    exact e
  · have := Host.reduce_andi_all _ _ _ _ _ (congrFun h1 (fun a => a.elim0)) i
    rcases IntOp.ori_eq_one.mp this with e | e
    · exact real_of_lt _ e
    · have h2 : (i 2).val < 128 := (i 2).isLt
      have h3 : (i 3).val < 128 := (i 3).isLt
      have e' : IntOp.cmpi .slt (BitVec.ofNat 32 (i 2).val) (BitVec.ofNat 32 (i 3).val) = 1#1 := e
      rw [WordCmp.cmpi_slt_ofNat_eq_one_iff (by omega) (by omega)] at e'
      omega
  · exact real_of_lt _ (Host.reduce_andi_all _ _ _ _ _ (congrFun h2 (fun a => a.elim0)) i)
  · exact real_of_lt _ (Host.reduce_andi_all _ _ _ _ _ (congrFun h3 (fun a => a.elim0)) i)
  · exact real_of_lt _ (Host.reduce_andi_all _ _ _ _ _ (congrFun h4 (fun a => a.elim0)) i)
  · exact real_of_lt _ (Host.reduce_andi_all _ _ _ _ _ (congrFun h5 (fun a => a.elim0)) i)

/-- The real numbers that the arrays hold. -/
theorem reads {x0 : FVec Ideal S4096x29696 .bf16} {x1 : FVec Ideal S1x8x128x128 .f32} {x2 : FVec Ideal S1x8x128 .f32}
    {x3 x4 : FVec Ideal S1x4096 .f32} {x5 : FVec Ideal S4096x4096 .f32}
    (h : Cert.Pre_finite.fn (F := Ideal) x0 x1 x2 x3 x4 x5 = fun _ => 1#1) : ∃ N : Nums, Reads N x0 x1 x2 x3 x4 x5 := by
  obtain ⟨h0, h1, h2, h3, h4, h5⟩ := entries h
  let wide (k : Nat) (hk : k + 4096 ≤ 29696) (r c : Fin 4096) : S4096x29696.Idx := ix2 r ⟨k + c.val, by have := c.isLt; omega⟩
  have wide_eq (k : Nat) (hk : k + 4096 ≤ 29696) (r c : Fin 4096) (i : S4096x29696.Idx) (a : (i 0).val = r.val)
      (b : (i 1).val = k + c.val) : wide k hk r c = i :=
    funext (Fin.forall_fin_succ.mpr ⟨Fin.ext a.symm, Fin.forall_fin_succ.mpr ⟨Fin.ext b.symm, fun k => k.elim0⟩⟩)
  let N : Nums :=
    { u := fun r c => (x0 (wide 9216 (by decide) r c) : EReal).toReal
      vg := fun r c => (x0 (wide 13312 (by decide) r c) : EReal).toReal
      gb := fun r c => (x0 (wide 17408 (by decide) r c) : EReal).toReal
      db := fun r c => (x5 (ix2 r c : S4096x4096.Idx) : EReal).toReal
      ws := fun g t s => (x1 (ix4 0 g t s : S1x8x128x128.Idx) : EReal).toReal
      bs := fun g t => (x2 (ix3 0 g t : S1x8x128.Idx) : EReal).toReal
      lg := fun c => (x3 (ix2 0 c : S1x4096.Idx) : EReal).toReal
      lb := fun c => (x4 (ix2 0 c : S1x4096.Idx) : EReal).toReal }
  have row (i : S1x4096.Idx) (c : Fin 4096) (e : (i 1).val = c.val) : (ix2 0 c : S1x4096.Idx) = i :=
    funext (Fin.forall_fin_succ.mpr ⟨Fin.ext (by have h : (i 0).val < 1 := (i 0).isLt; show 0 = (i 0).val; omega),
      Fin.forall_fin_succ.mpr ⟨Fin.ext e.symm, fun k => k.elim0⟩⟩)
  refine ⟨N, ⟨fun i r c a b => ?_, fun i r c a b => ?_, fun i r c a b => ?_, fun i g t s a b d hst => ?_, fun i g t a b => ?_,
    fun i c a => ?_, fun i c a => ?_, fun i r c a b => ?_⟩⟩
  · have := c.isLt
    rw [h0 i (by omega) (by omega)]
    exact congrArg (fun j => (((x0 j : EReal).toReal : ℝ) : EReal)) (wide_eq 9216 (by decide) r c i a b).symm
  · have := c.isLt
    rw [h0 i (by omega) (by omega)]
    exact congrArg (fun j => (((x0 j : EReal).toReal : ℝ) : EReal)) (wide_eq 13312 (by decide) r c i a b).symm
  · have := c.isLt
    rw [h0 i (by omega) (by omega)]
    exact congrArg (fun j => (((x0 j : EReal).toReal : ℝ) : EReal)) (wide_eq 17408 (by decide) r c i a b).symm
  · have hst' : s.val ≤ t.val := hst
    rw [h1 i (by omega)]
    refine congrArg (fun j => (((x1 j : EReal).toReal : ℝ) : EReal)) ?_
    have h0 : (i 0).val < 1 := (i 0).isLt
    exact funext (Fin.forall_fin_succ.mpr ⟨Fin.ext (by show (i 0).val = 0; omega), Fin.forall_fin_succ.mpr ⟨Fin.ext a,
      Fin.forall_fin_succ.mpr ⟨Fin.ext b, Fin.forall_fin_succ.mpr ⟨Fin.ext d, fun k => k.elim0⟩⟩⟩⟩)
  · rw [h2 i]
    refine congrArg (fun j => (((x2 j : EReal).toReal : ℝ) : EReal)) ?_
    have h0 : (i 0).val < 1 := (i 0).isLt
    exact funext (Fin.forall_fin_succ.mpr ⟨Fin.ext (by show (i 0).val = 0; omega), Fin.forall_fin_succ.mpr ⟨Fin.ext a,
      Fin.forall_fin_succ.mpr ⟨Fin.ext b, fun k => k.elim0⟩⟩⟩)
  · rw [h3 i]
    exact congrArg (fun j => (((x3 j : EReal).toReal : ℝ) : EReal)) (row i c a).symm
  · rw [h4 i]
    exact congrArg (fun j => (((x4 j : EReal).toReal : ℝ) : EReal)) (row i c a).symm
  · rw [h5 i]
    refine congrArg (fun j => (((x5 j : EReal).toReal : ℝ) : EReal)) ?_
    exact funext (Fin.forall_fin_succ.mpr ⟨Fin.ext a, Fin.forall_fin_succ.mpr ⟨Fin.ext b, fun k => k.elim0⟩⟩)

end Cert.Gating.Finite

end
-- ==== Proof.GateGrad.lean ====
/- The gate's gradient in the attention's backward call: the array that the kernel leaves, what the reference computes, and the
   claims of the two programs. -/
module

public import proofs.«01_k».proof.Defs
public import proofs.«01_k».proof.Proof.AttnRun
public import proofs.«01_k».proof.Proof.AttnRunIdeal
public import proofs.«01_k».proof.Proof.MergeRef
public import proofs.«01_k».proof.Proof.Finite
public import proofs.«01_k».proof.Proof.Gen.AttnReferenceIdeal.Run
public import proofs.«01_k».proof.Proof.Gen.AttnReferenceIdeal.Read
public import Idealize.ShloMosaic.Lib.Pipeline.ValueKit
public import Idealize.ShloMosaic.Lib.Quiescent
public import Idealize.ShloMosaic.Adequacy
public import Idealize.ShloMosaic.Init

@[expose] public section

set_option maxRecDepth 16384

noncomputable section

namespace Cert.GateGrad

open Idealize.ShloMosaic Idealize.ShloMosaic.TcCoe Idealize.SL.Sem

/-- The word of the number one. -/
abbrev one : EReal := (FloatOps.ofBits .f32 0x3F800000#32 : Ideal .f32)

/-- The gradient of `o * silu g` in `g`, times `d`. -/
def grad (g d o : EReal) : EReal := d * o * (Ideal.logistic g * (one + g * (one - Ideal.logistic g)))

/-- The column of the gate in the projection. -/
def col (k : Fin 4096) : Fin 29696 := ⟨5120 + k.val, by omega⟩

/-- The gate's gradient. -/
def out (p : AttnIdeal.S4096x29696.Idx → EReal) (o d : AttnIdeal.S4096x4096.Idx → EReal) (y : AttnIdeal.S4096x4096.Idx) : EReal :=
  grad (p (ix2 (y 0) (col (y 1)))) (d y) (o y)

/-- The two ways of writing the derivative agree where the factors `o` and `d` are finite; the gate may be infinite. -/
theorem grad_sum (g : EReal) (a b : ℝ) :
    (a : EReal) * b * Ideal.logistic g + g * ((a : EReal) * b) * (Ideal.logistic g * (one - Ideal.logistic g)) = grad g b a := by
  unfold grad one
  rw [Gating.Consts.one]
  induction g with
  | bot => simp [mul_comm]
  | top =>
    have z : (1 : EReal) - 1 = 0 := by rw [← EReal.coe_one, ← EReal.coe_sub, sub_self, EReal.coe_zero]
    simp [z, mul_comm]
  | coe x =>
    rw [Ideal.logistic_coe]
    simp only [← EReal.coe_mul, ← EReal.coe_sub, ← EReal.coe_add]
    exact congrArg _ (by ring)

/-! ## The array that the kernel leaves -/

section

open Cert.AttnIdeal Cert.AttnIdeal.Gen Cert.AttnIdeal.Body
open Idealize.ShloMosaic.Pipeline (Dat)

theorem pay (x : FVec Ideal S128x1024 .bf16) (d o : FVec Ideal S128x1024 .f32) (y : S128x1024.Idx) :
    k0_pay8 (F := Ideal) x d o y = grad (x y) (d y) (o y) := rfl

variable (m : (ℓ : Loc nD τ AttnIdeal.sig) → Buf (Elt Ideal) ℓ) (c : Dev nD)

abbrev proj : S4096x29696.Idx → EReal := m ((c : Thread nD τ).loc main_arg1)
abbrev attn : S4096x4096.Idx → EReal := m ((c : Thread nD τ).loc main_arg3)
abbrev dIn : S4096x4096.Idx → EReal := m ((c : Thread nD τ).loc main_arg4)

theorem idx5 : ∀ t : Fin grid0.N, (win0_5).index t = ![min (t.val % 33) 31, 5 + t.val / 33] := by decide +kernel
theorem idx14 : ∀ t : Fin grid0.N, (win0_14).index t = ![min (t.val % 33) 31, t.val / 33] := by decide +kernel
theorem idx15 : ∀ t : Fin grid0.N, (win0_15).index t = ![min (t.val % 33) 31, t.val / 33] := by decide +kernel
theorem idx19 : ∀ t : Fin grid0.N, (win0_19).index t = ![min (t.val % 33) 31, t.val / 33] := by decide +kernel

/-- Row `r` and column `k` of point `t`'s block. -/
def row (t : Fin cfg0.N) (r : Fin 128) : Fin 4096 := ⟨min (t.val % 33) 31 * 128 + r.val, by omega⟩
def colOf (t : Fin cfg0.N) (k : Fin 1024) : Fin 4096 :=
  ⟨t.val / 33 * 1024 + k.val, by have := lt_of_lt_of_eq t.isLt (show cfg0.N = 132 from N_0); omega⟩

theorem part5 (t : Fin cfg0.N) (r : Fin 128) (k : Fin 1024) : (iblk m c 5 t : Vec Ideal S128x1024 .bf16) (ix2 r k) = proj m c (ix2 (row t r) (col (colOf t k))) := by
  have e := idx5 t
  refine (congrFun (V_main_arg1 m c) _).trans (congrArg (proj m c) (funext (Fin.forall_fin_two.mpr ⟨Fin.ext ?_, Fin.ext ?_⟩)))
  · blk_simp [e, row]
  · blk_simp [e, col, colOf]; dsimp only; omega
theorem part14 (t : Fin cfg0.N) (r : Fin 128) (k : Fin 1024) : (iblk m c 14 t : Vec Ideal S128x1024 .f32) (ix2 r k) = attn m c (ix2 (row t r) (colOf t k)) := by
  have e := idx14 t
  refine (congrFun (V_main_arg3 m c) _).trans (congrArg (attn m c) (funext (Fin.forall_fin_two.mpr ⟨Fin.ext ?_, Fin.ext ?_⟩)))
  · blk_simp [e, row]
  · blk_simp [e, colOf]
theorem part15 (t : Fin cfg0.N) (r : Fin 128) (k : Fin 1024) : (iblk m c 15 t : Vec Ideal S128x1024 .f32) (ix2 r k) = dIn m c (ix2 (row t r) (colOf t k)) := by
  have e := idx15 t
  refine (congrFun (V_main_arg4 m c) _).trans (congrArg (dIn m c) (funext (Fin.forall_fin_two.mpr ⟨Fin.ext ?_, Fin.ext ?_⟩)))
  · blk_simp [e, row]
  · blk_simp [e, colOf]

/-- What a tile's point leaves. -/
theorem tile (t : Fin cfg0.N) (r : Fin 128) (k : Fin 1024) :
    gateOf m c t (ix2 r k) = out (proj m c) (attn m c) (dIn m c) (ix2 (row t r) (colOf t k)) :=
  (pay (iblk m c 5 t) (iblk m c 15 t) (iblk m c 14 t) (ix2 r k)).trans
    (congr (congr (congrArg grad (part5 m c t r k)) (part15 m c t r k)) (part14 m c t r k))

/-- What any point leaves: the last of a group keeps the tile of the one before it. -/
theorem point (t : Fin cfg0.N) (r : Fin 128) (k : Fin 1024) :
    gateAt m c t (ix2 r k) = out (proj m c) (attn m c) (dIn m c) (ix2 (row t r) (colOf t k)) := by
  unfold gateAt
  split
  · rename_i h
    refine (tile m c _ r k).trans (congrArg (out (proj m c) (attn m c) (dIn m c)) (funext (Fin.forall_fin_two.mpr ⟨Fin.ext ?_, Fin.ext ?_⟩)))
    · show min ((t.val - 1) % 33) 31 * 128 + r.val = min (t.val % 33) 31 * 128 + r.val
      omega
    · show (t.val - 1) / 33 * 1024 + k.val = t.val / 33 * 1024 + k.val
      omega
  · exact tile m c t r k

theorem arr : (Body.dats m 0 c).arrAt 19 cfg0.N = out (proj m c) (attn m c) (dIn m c) := by
  refine (Body.dats m 0 c).arrAt_eq_of_covers 19 _ (by decide +kernel) fun t hf y => ?_
  have e := idx19 t
  obtain ⟨y0, y1, rfl⟩ : ∃ (y0 : Fin 128) (y1 : Fin 1024), y = ix2 y0 y1 := ⟨_, _, funext (Fin.forall_fin_two.mpr ⟨rfl, rfl⟩)⟩
  refine (congrFun (after_19 m c t) (ix2 y0 y1)).trans ((point m c t y0 y1).trans (congrArg (out (proj m c) (attn m c) (dIn m c)) ?_))
  refine funext (Fin.forall_fin_two.mpr ⟨Fin.ext ?_, Fin.ext ?_⟩)
  · blk_simp [e, row]
  · blk_simp [e, colOf]

end

/-! ## The reference -/

section

open Cert.AttnReferenceIdeal Cert.AttnReferenceIdeal.Read

variable (p : (⟨AttnIdeal.S4096x29696, .bf16⟩ : BufTy).Contents (Elt Ideal)) (o d : (⟨AttnIdeal.S4096x4096, .f32⟩ : BufTy).Contents (Elt Ideal))

theorem at9 (r k : Fin 4096) : idx_main_v9 (ix2 r k) = ix3 (0 : Fin 1) r k :=
  funext (Fin.forall_fin_succ.mpr ⟨rfl, Fin.forall_fin_two.mpr ⟨Fin.ext (MergeGrad.flat r k).1, Fin.ext (MergeGrad.flat r k).2⟩⟩)
theorem at2 (r k : Fin 4096) : idx_main_v1 (idx_main_v2 (ix3 (0 : Fin 1) r k)) = ix2 r (col k) :=
  funext (Fin.forall_fin_two.mpr ⟨rfl, rfl⟩)
theorem at3 (r k : Fin 4096) : idx_main_v3 (ix3 (0 : Fin 1) r k) = ix2 r k :=
  funext (Fin.forall_fin_two.mpr ⟨rfl, rfl⟩)
theorem at6 (r k : Fin 4096) : idx_main_v6 (ix3 (0 : Fin 1) r k) = ix2 r k :=
  funext (Fin.forall_fin_two.mpr ⟨rfl, rfl⟩)

theorem ref (ho : ∀ i, o i = (((o i : EReal).toReal : ℝ) : EReal)) (hd : ∀ i, d i = (((d i : EReal).toReal : ℝ) : EReal)) :
    val_main_v10 (F := Ideal) p o d = out p o d := by
  funext y
  obtain ⟨r, k, rfl⟩ : ∃ (r k : Fin 4096), y = ix2 r k := ⟨_, _, funext (Fin.forall_fin_two.mpr ⟨rfl, rfl⟩)⟩
  rw [val_main_v10_apply, val_main_v9_apply, at9]
  simp only [val_main_v8_apply, val_main_v7_apply, val_main_v6_apply, val_main_v3_apply, val_main_v2_apply, val_main_v1_apply, val_main_v0_apply,
    val_main_call0_v0_apply, val_main_call0_v1_apply, val_main_call0_v2_apply, val_main_call0_v3_apply, val_main_call0_v4_apply, val_main_call0_v6_apply,
    val_main_call0_v7_apply, val_main_call0_cst_apply, val_main_call0_cst_0_apply, val_main_call0_cst_1_apply, val_main_v4_1_apply, val_main_v4_2_apply,
    val_main_call1_v0_apply, val_main_call1_v1_apply, val_main_call1_v2_apply]
  rw [at2, at3, at6]
  have es := MergeGrad.spelt (p (ix2 r (col k)))
  have eg := grad_sum (p (ix2 r (col k))) (o (ix2 r k) : EReal).toReal (d (ix2 r k) : EReal).toReal
  rw [← ho, ← hd, ← es] at eg
  exact eg.trans rfl

end

/-! ## The precondition -/

section

open Cert.Pre_finite_attn Cert.Gating.Finite

/-- The side conditions of the precondition's operations. -/
theorem facts : Cert.Pre_finite_attn.Facts where
  bcast_S_S4096x4096 := by decide
  reducesTo_S4096x4096_S_d0_1 := by decide
  h_S_ := by decide

variable [Cert.Pre_finite_attn.Facts]

/-- The two arrays hold real numbers. -/
theorem reads {x0 : IVec S4096 32} {x1 : FVec Ideal S4096x29696 .bf16} {x2 : FVec Ideal S64 .f32} {x3 x4 : FVec Ideal S4096x4096 .f32}
    (h : Cert.Pre_finite_attn.fn (F := Ideal) x0 x1 x2 x3 x4 = fun _ => 1#1) :
    (∀ i, x3 i = (((x3 i : EReal).toReal : ℝ) : EReal)) ∧ ∀ i, x4 i = (((x4 i : EReal).toReal : ℝ) : EReal) := by
  dsimp only [fn] at h
  obtain ⟨h3, h4⟩ := andi_at_one h
  exact ⟨fun i => real_of_lt _ (Host.reduce_andi_all _ _ _ _ _ (congrFun h3 (fun a => a.elim0)) i),
    fun i => real_of_lt _ (Host.reduce_andi_all _ _ _ _ _ (congrFun h4 (fun a => a.elim0)) i)⟩

end

/-! ## The claims -/

/-- The two programs, from memories that agree on the arguments. -/
theorem equal : Cert.algebraic_AttnIdeal_AttnReferenceIdeal_pre_finite_attn (hPre_finite_attn := facts) := by
  intro m g m' g' hpre hag
  refine ⟨fun c => out (proj m c) (attn m c) (dIn m c), ?_, ?_⟩
  · refine (θ_run Cert.AttnIdeal.defs _ _).mono (fun r h c => ?_) (Cert.AttnIdeal.Body.run_main m g)
    exact ⟨(Cert.AttnIdeal.Body.named h c 19 rfl).trans (arr m c), Cert.AttnIdeal.Body.kept_args h c⟩
  · refine (θ_run Cert.AttnReferenceIdeal.defs _ _).mono (fun r h c => ?_) (Cert.AttnReferenceIdeal.Value.run m' g')
    obtain ⟨h0, hargs⟩ := h c
    obtain ⟨_, a1, _, a3, a4⟩ := hag c
    have hf := haveI := facts; reads (hpre c)
    exact ⟨h0.trans ((Cert.AttnReferenceIdeal.Read.val_main_v10_eq (m' ((c.tc : Thread Cert.AttnReferenceIdeal.nD Cert.AttnReferenceIdeal.τ).loc Cert.AttnReferenceIdeal.main_arg1))
      (m' ((c.tc : Thread Cert.AttnReferenceIdeal.nD Cert.AttnReferenceIdeal.τ).loc Cert.AttnReferenceIdeal.main_arg3))
      (m' ((c.tc : Thread Cert.AttnReferenceIdeal.nD Cert.AttnReferenceIdeal.τ).loc Cert.AttnReferenceIdeal.main_arg4))).trans
      (by rw [a1, a3, a4]; exact ref _ _ _ hf.1 hf.2)), hargs⟩

/-- The reference runs, keeps its arguments, and has no semaphore. -/
theorem frame_r : Cert.quiescent_AttnReferenceIdeal := fun m g _ =>
  (θ_run Cert.AttnReferenceIdeal.defs _ _).mono (fun r h => ⟨fun c => (h c).2, sem_eq_zero_of_no_sems (by decide) _⟩)
    (Cert.AttnReferenceIdeal.Value.run m g)

theorem frame_p : Cert.quiescent_Attn := fun m g _ => Cert.Attn.Body.frame (m := m) g
theorem frame_i : Cert.quiescent_AttnIdeal := fun m g _ => Cert.AttnIdeal.Body.frame (m := m) g

end Cert.GateGrad

end
-- ==== Proof.Lift.lean ====
/- The up projections: what the kernel leaves and what the reference computes. -/
module

public import proofs.«01_k».proof.Proof.Gen.UpIdeal.Value
public import proofs.«01_k».proof.Proof.Gen.UpReferenceIdeal.Read
public import Idealize.ShloMosaic.Lib.Pointwise
public import Idealize.ShloMosaic.Lib.Pipeline.ValueKit

@[expose] public section

set_option maxRecDepth 16384

noncomputable section

namespace Cert.Lift

open Idealize.ShloMosaic Idealize.ShloMosaic.TcCoe Idealize.SL.Sem Cert.UpIdeal Cert.UpIdeal.Gen
open Idealize.ShloMosaic.Pipeline (Dat)

/-- Row `r` of the branch against column `k` of the weight. -/
def prod (a w : S4096x4096.Idx → EReal) (r k : Fin 4096) : EReal := ∑ j : Fin 4096, a (ix2 r j) * w (ix2 j k)

/-- One block: rows of the one operand against columns of the other. -/
theorem block (a : FVec Ideal S1024x4096 .bf16) (b : FVec Ideal S4096x1024 .bf16) (r k : Fin 1024) :
    k0_pay1 (F := Ideal) a b (ix2 r k) = ∑ j : Fin 4096, (a (ix2 r j) : EReal) * (b (ix2 j k) : EReal) := by
  pointwise [k0_pay1]

variable (m : (ℓ : Loc nD τ UpIdeal.sig) → Buf (Elt Ideal) ℓ) (c : Dev nD)

theorem idx0 : ∀ t : Fin grid0.N, (win0_0).index t = ![t.val / 4, 0] := by decide +kernel
theorem idx1 : ∀ t : Fin grid0.N, (win0_1).index t = ![0, t.val % 4] := by decide +kernel
theorem idx2 : ∀ t : Fin grid0.N, (win0_2).index t = ![t.val / 4, t.val % 4] := by decide +kernel

/-- What the kernel leaves. -/
theorem arr : (dats m 0 c).arrAt 2 cfg0.N = fun y : S4096x4096.Idx =>
    prod (m ((c : Thread nD τ).loc main_arg0)) (m ((c : Thread nD τ).loc main_arg1)) (y 0) (y 1) := by
  refine (dats m 0 c).arrAt_eq_of_covers 2 _ (by decide +kernel) fun t hf y => ?_
  have e0 := idx0 t
  have e1 := idx1 t
  have e2 := idx2 t
  rw [after0_2]
  unfold out0_2
  simp only [r0_0, r0_1]
  rw [View.canon_cons_unit_lit _ _ _ (by decide), View.ld_unit_lit _ _ (by decide), View.ld_unit_lit _ _ (by decide)]
  obtain ⟨y0, y1, rfl⟩ : ∃ (y0 y1 : Fin 1024), y = ix2 y0 y1 := ⟨_, _, funext (Fin.forall_fin_two.mpr ⟨rfl, rfl⟩)⟩
  refine (block _ _ y0 y1).trans (Finset.sum_congr rfl fun j _ => ?_)
  refine congr (congrArg _ ((congrFun (V_main_arg0 m c) _).trans (congrArg _ ?_))) ((congrFun (V_main_arg1 m c) _).trans (congrArg _ ?_))
  · refine funext (Fin.forall_fin_two.mpr ⟨Fin.ext ?_, Fin.ext ?_⟩) <;> blk_simp [e0, e2]
  · refine funext (Fin.forall_fin_two.mpr ⟨Fin.ext ?_, Fin.ext ?_⟩) <;> blk_simp [e1, e2]

open Cert.UpReferenceIdeal Cert.UpReferenceIdeal.Read in
/-- What the reference computes. -/
theorem ref (a w : (⟨UpIdeal.S4096x4096, .bf16⟩ : BufTy).Contents (Elt Ideal)) :
    val_main_v4 (F := Ideal) a w = fun y : UpIdeal.S4096x4096.Idx => prod a w (y 0) (y 1) := by
  funext y
  obtain ⟨y0, y1, rfl⟩ : ∃ (y0 y1 : Fin 4096), y = ix2 y0 y1 := ⟨_, _, funext (Fin.forall_fin_two.mpr ⟨rfl, rfl⟩)⟩
  show _ = prod a w y0 y1
  unfold prod
  pointwise [val_main_v4, val_main_v3, val_main_v2, val_main_v1, val_main_v0]

end Cert.Lift

end
-- ==== Proof.Blocks.lean ====
/- A sum over one axis, added up block by block. -/
module

public import Idealize.ShloMosaic.Lib.Pointwise

@[expose] public section

noncomputable section

namespace Cert.Blocks

/-- The index of an axis of `n` at `x`, counted round. -/
def at' (n : ℕ) [NeZero n] (x : ℕ) : Fin n := ⟨x % n, Nat.mod_lt _ (Nat.pos_of_neZero n)⟩

/-- `k` blocks of `b` one after the other make up the axis of `k * b`. -/
theorem sum_blocks (k b n : ℕ) [NeZero n] (hn : n = k * b) (f : Fin n → EReal) :
    ∑ q ∈ Finset.range k, ∑ j : Fin b, f (at' n (b * q + j.val)) = ∑ i, f i := by
  subst hn
  rw [Finset.sum_range, ← Fintype.sum_prod_type']
  refine Fintype.sum_equiv finProdFinEquiv _ _ fun x => congrArg f (Fin.ext ?_)
  show (b * x.1.val + x.2.val) % (k * b) = x.2.val + b * x.1.val
  rw [Nat.mod_eq_of_lt, Nat.add_comm]
  have h := (finProdFinEquiv x).isLt
  have e : (finProdFinEquiv x).val = x.2.val + b * x.1.val := rfl
  omega

/-- An accumulator that starts at the first of each `k` points and adds one block of the sum at every later one holds the
    whole sum at the last of them. -/
theorem whole {S : Type} {N : ℕ} (k b n : ℕ) [NeZero n] (hn : n = k * b) (A : (t : ℕ) → t < N → S → EReal)
    (f : ℕ → S → Fin n → EReal)
    (h0 : ∀ t ht y, t % k = 0 → A t ht y = ∑ j : Fin b, f t y (at' n (b * (t % k) + j.val)))
    (h1 : ∀ t ht y, ¬t % k = 0 → A t ht y =
      A (t - 1) (Nat.lt_of_le_of_lt (Nat.sub_le _ _) ht) y + ∑ j : Fin b, f t y (at' n (b * (t % k) + j.val)))
    (hs : ∀ t, ¬t % k = 0 → f (t - 1) = f t) (t : ℕ) (ht : t < N) (y : S) (hl : t % k + 1 = k) : A t ht y = ∑ i, f t y i := by
  have key : ∀ x t ht, t % k = x → A t ht y = ∑ q ∈ Finset.range (x + 1), ∑ j : Fin b, f t y (at' n (b * q + j.val)) := by
    intro x
    induction x with
    | zero => intro t ht h; rw [h0 t ht y h, h]; simp
    | succ x ih =>
      intro t ht h
      have hp : (t - 1) % k = x := by
        have e := Nat.div_add_mod t k
        have hk : t % k < k := Nat.mod_lt _ (by omega)
        rw [show t - 1 = x + k * (t / k) by omega, Nat.add_mul_mod_self_left, Nat.mod_eq_of_lt (by omega)]
      rw [h1 t ht y (by omega), h, Finset.sum_range_succ, ih (t - 1) _ hp, hs t (by omega)]
  rw [key _ t ht rfl, hl]
  exact sum_blocks k b n hn (f t y)

end Cert.Blocks

end
-- ==== Proof.Project.lean ====
/- The input projection, four blocks of the contraction added up: what the kernel leaves and what the reference computes. -/
module

public import proofs.«01_k».proof.Proof.Blocks
public import proofs.«01_k».proof.Proof.Gen.ProjIdeal.Value
public import proofs.«01_k».proof.Proof.Gen.ProjReferenceIdeal.Read
public import Idealize.ShloMosaic.Lib.Pointwise
public import Idealize.ShloMosaic.Lib.Pipeline.ValueKit

@[expose] public section

set_option maxRecDepth 16384

noncomputable section

namespace Cert.Project

open Idealize.ShloMosaic Idealize.ShloMosaic.TcCoe Idealize.SL.Sem Cert.ProjIdeal Cert.ProjIdeal.Gen Cert.Blocks
open Idealize.ShloMosaic.Pipeline (Dat)

/-- Row `r` of the normed input against column `k` of the weight. -/
def prod (h : S4096x4096.Idx → EReal) (w : S4096x29696.Idx → EReal) (r : Fin 4096) (k : Fin 29696) : EReal := ∑ j : Fin 4096, h (ix2 r j) * w (ix2 j k)

/-- One block of the contraction. -/
theorem block (a b : FVec Ideal S1024x1024 .bf16) (r k : Fin 1024) :
    k0_pay1 (F := Ideal) a b (ix2 r k) = ∑ j : Fin 1024, (a (ix2 r j) : EReal) * (b (ix2 j k) : EReal) := by
  pointwise [k0_pay1]

theorem first (a b : FVec Ideal S1024x1024 .bf16) (r k : Fin 1024) :
    k0_pay2 (F := Ideal) a b (ix2 r k) = k0_pay1 (F := Ideal) a b (ix2 r k) := by
  pointwise [k0_pay2]

theorem more (a b : FVec Ideal S1024x1024 .bf16) (p : FVec Ideal S1024x1024 .f32) (r k : Fin 1024) :
    k0_pay3 (F := Ideal) a b p (ix2 r k) = (p (ix2 r k) : EReal) + (k0_pay1 (F := Ideal) a b (ix2 r k) : EReal) := by
  pointwise [k0_pay3]

/-- One product of the contraction, at a place of the block of point `t`. -/
def entry (h : S4096x4096.Idx → EReal) (w : S4096x29696.Idx → EReal) (t : ℕ) (y : Fin 1024 × Fin 1024) (j : Fin 4096) : EReal :=
  h (ix2 (at' 4096 (1024 * (t / 116) + y.1.val)) j) * w (ix2 j (at' 29696 (1024 * (t / 4 % 29) + y.2.val)))

/-- The rounding to bf16 leaves an ideal number as it is. -/
theorem last (p : FVec Ideal S1024x1024 .f32) (r k : Fin 1024) : k0_pay4 (F := Ideal) p (ix2 r k) = (p (ix2 r k) : EReal) := by
  pointwise [k0_pay4]

variable (m : (ℓ : Loc nD τ ProjIdeal.sig) → Buf (Elt Ideal) ℓ) (c : Dev nD)

theorem idx0 : ∀ t : Fin grid0.N, (win0_0).index t = ![t.val / 116, t.val % 4] := by decide +kernel
theorem idx1 : ∀ t : Fin grid0.N, (win0_1).index t = ![t.val % 4, t.val / 4 % 29] := by decide +kernel
theorem idx2 : ∀ t : Fin grid0.N, (win0_2).index t = ![t.val / 116, t.val / 4 % 29] := by decide +kernel

/-- What the first point of a block leaves in the accumulator. -/
theorem acc0 (t : Fin cfg0.N) (h : t.val % 4 = 0) :
    (outsAt0 m c t.val t.isLt).2 = k0_pay2 (F := Ideal) (iblk m c 0 t) (iblk m c 1 t) := by
  rw [outsAt0_A m c t h (by omega) (by omega)]
  dsimp only
  frame_out

/-- What a later point leaves in it. -/
theorem acc1 (t : Fin cfg0.N) (h : ¬t.val % 4 = 0) : (outsAt0 m c t.val t.isLt).2 =
    k0_pay3 (F := Ideal) (iblk m c 0 t) (iblk m c 1 t) ((outsAt0 m c (t.val - 1) (Nat.lt_of_le_of_lt (Nat.sub_le _ _) t.isLt)).2) := by
  by_cases h2 : t.val % 4 = 3
  · rw [outsAt0_C m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)
  · rw [outsAt0_B m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)

/-- What the last point of a block writes back: the accumulator. -/
theorem res (t : Fin cfg0.N) (h2 : t.val % 4 = 3) : (outsAt0 m c t.val t.isLt).1 =
    k0_pay4 (F := Ideal) (k0_pay3 (F := Ideal) (iblk m c 0 t) (iblk m c 1 t) ((outsAt0 m c (t.val - 1) (Nat.lt_of_le_of_lt (Nat.sub_le _ _) t.isLt)).2)) := by
  rw [outsAt0_C m c t (by omega) (by omega) h2]
  dsimp only
  generalize (outsAt0 m c (t.val - 1) (Nat.lt_of_le_of_lt (Nat.sub_le _ _) t.isLt)) = Y
  frame_out
  exact congrArg (fun Z => k0_pay4 (F := Ideal) (k0_pay3 (F := Ideal) (iblk m c 0 t) (iblk m c 1 t) Z)) (Memref.IsWhole.read_unread _ _)

theorem part (t : Fin cfg0.N) (r k : Fin 1024) : k0_pay1 (F := Ideal) (iblk m c 0 t) (iblk m c 1 t) (ix2 r k) =
    ∑ j : Fin 1024, entry (m ((c : Thread nD τ).loc main_arg0)) (m ((c : Thread nD τ).loc main_arg1)) t.val (r, k)
      (at' 4096 (1024 * (t.val % 4) + j.val)) := by
  have e0 := idx0 t
  have e1 := idx1 t
  have ht : t.val < 464 := lt_of_lt_of_eq t.isLt N_0
  refine (block _ _ r k).trans (Finset.sum_congr rfl fun j _ => ?_)
  refine congr (congrArg _ ((congrFun (V_main_arg0 m c) _).trans (congrArg _ ?_))) ((congrFun (V_main_arg1 m c) _).trans (congrArg _ ?_))
  · refine funext (Fin.forall_fin_two.mpr ⟨Fin.ext ?_, Fin.ext ?_⟩) <;> blk_simp [e0, at'] <;> (try dsimp only) <;> omega
  · refine funext (Fin.forall_fin_two.mpr ⟨Fin.ext ?_, Fin.ext ?_⟩) <;> blk_simp [e1, at'] <;> (try dsimp only) <;> omega

/-- At the last point of a block the accumulator holds the whole sum. -/
theorem acc (t : Fin cfg0.N) (h : t.val % 4 = 3) (y : Fin 1024 × Fin 1024) : (outsAt0 m c t.val t.isLt).2 (ix2 y.1 y.2) =
    ∑ j, entry (m ((c : Thread nD τ).loc main_arg0)) (m ((c : Thread nD τ).loc main_arg1)) t.val y j := by
  refine whole 4 1024 4096 rfl (fun t ht (y : Fin 1024 × Fin 1024) => ((outsAt0 m c t ht).2 (ix2 y.1 y.2) : EReal)) _
    (fun t ht y h => ?_) (fun t ht y h => ?_) (fun t h => ?_) t.val t.isLt y (by omega)
  · exact (congrFun (acc0 m c ⟨t, ht⟩ h) _).trans ((first _ _ _ _).trans (part m c ⟨t, ht⟩ y.1 y.2))
  · exact (congrFun (acc1 m c ⟨t, ht⟩ h) _).trans ((more _ _ _ _ _).trans (congrArg _ (part m c ⟨t, ht⟩ y.1 y.2)))
  · funext y j
    unfold entry
    rw [show (t - 1) / 116 = t / 116 by omega, show (t - 1) / 4 = t / 4 by omega]

/-- What the kernel leaves. -/
theorem arr : (dats m 0 c).arrAt 2 cfg0.N = fun y : S4096x29696.Idx =>
    prod (m ((c : Thread nD τ).loc main_arg0)) (m ((c : Thread nD τ).loc main_arg1)) (y 0) (y 1) := by
  refine (dats m 0 c).arrAt_eq_of_covers 2 _ (by decide +kernel) fun t hf y => ?_
  have ht : t.val % 4 = 3 := (flush0_2 t).mp hf
  have hN : t.val < 464 := lt_of_lt_of_eq t.isLt N_0
  have e2 := idx2 t
  obtain ⟨y0, y1, rfl⟩ : ∃ (y0 y1 : Fin 1024), y = ix2 y0 y1 := ⟨_, _, funext (Fin.forall_fin_two.mpr ⟨rfl, rfl⟩)⟩
  have hs := (congrFun (congrArg (k0_pay4 (F := Ideal)) (acc1 m c t (by omega))) (ix2 y0 y1)).symm.trans
    ((last _ y0 y1).trans (acc m c t ht (y0, y1)))
  rw [← res m c t ht] at hs
  rw [after0_2]
  refine hs.trans (Finset.sum_congr rfl fun j _ => congr (congrArg _ (congrArg _ ?_)) (congrArg _ ?_))
  · refine congrArg (fun z => ix2 z j) (Fin.ext ?_)
    blk_simp [e2, at'] <;> (try dsimp only) <;> omega
  · refine congrArg (fun z => ix2 j z) (Fin.ext ?_)
    blk_simp [e2, at'] <;> (try dsimp only) <;> omega

open Cert.ProjReferenceIdeal Cert.ProjReferenceIdeal.Read in
/-- What the reference computes. -/
theorem ref (h : (⟨ProjIdeal.S4096x4096, .bf16⟩ : BufTy).Contents (Elt Ideal)) (w : (⟨ProjIdeal.S4096x29696, .bf16⟩ : BufTy).Contents (Elt Ideal)) :
    val_main_v5 (F := Ideal) h w = fun y : ProjIdeal.S4096x29696.Idx => prod h w (y 0) (y 1) := by
  funext y
  obtain ⟨y0, y1, rfl⟩ : ∃ (y0 : Fin 4096) (y1 : Fin 29696), y = ix2 y0 y1 := ⟨_, _, funext (Fin.forall_fin_two.mpr ⟨rfl, rfl⟩)⟩
  show _ = prod h w y0 y1
  unfold prod
  pointwise [val_main_v5, val_main_v4, val_main_v3, val_main_v2, val_main_v1, val_main_v0]

end Cert.Project

end
-- ==== Proof.InGrad.lean ====
/- The gradient of the input projection in its weight, four blocks of the contraction added up: what the kernel leaves and
   what the reference computes. -/
module

public import proofs.«01_k».proof.Proof.Blocks
public import proofs.«01_k».proof.Proof.Gen.DWInIdeal.Value
public import proofs.«01_k».proof.Proof.Gen.DWInReferenceIdeal.Read
public import Idealize.ShloMosaic.Lib.Pointwise
public import Idealize.ShloMosaic.Lib.Pipeline.ValueKit

@[expose] public section

set_option maxRecDepth 16384

noncomputable section

namespace Cert.InGrad

open Idealize.ShloMosaic Idealize.ShloMosaic.TcCoe Idealize.SL.Sem Cert.DWInIdeal Cert.DWInIdeal.Gen Cert.Blocks
open Idealize.ShloMosaic.Pipeline (Dat)

/-- Column `r` of the normed input against column `k` of the gradient. -/
def prod (h : S4096x4096.Idx → EReal) (dy : S4096x29696.Idx → EReal) (r : Fin 4096) (k : Fin 29696) : EReal := ∑ j : Fin 4096, h (ix2 j r) * dy (ix2 j k)

/-- One block of the contraction. -/
theorem block (a b : FVec Ideal S1024x1024 .bf16) (r k : Fin 1024) :
    k0_pay1 (F := Ideal) a b (ix2 r k) = ∑ j : Fin 1024, (a (ix2 j r) : EReal) * (b (ix2 j k) : EReal) := by
  pointwise [k0_pay1]

theorem first (a b : FVec Ideal S1024x1024 .bf16) (r k : Fin 1024) :
    k0_pay2 (F := Ideal) a b (ix2 r k) = k0_pay1 (F := Ideal) a b (ix2 r k) := by
  pointwise [k0_pay2]

theorem more (a b : FVec Ideal S1024x1024 .bf16) (p : FVec Ideal S1024x1024 .f32) (r k : Fin 1024) :
    k0_pay3 (F := Ideal) a b p (ix2 r k) = (p (ix2 r k) : EReal) + (k0_pay1 (F := Ideal) a b (ix2 r k) : EReal) := by
  pointwise [k0_pay3]

/-- One product of the contraction, at a place of the block of point `t`. -/
def entry (h : S4096x4096.Idx → EReal) (dy : S4096x29696.Idx → EReal) (t : ℕ) (y : Fin 1024 × Fin 1024) (j : Fin 4096) : EReal :=
  h (ix2 j (at' 4096 (1024 * (t / 116) + y.1.val))) * dy (ix2 j (at' 29696 (1024 * (t / 4 % 29) + y.2.val)))

/-- The rounding to bf16 leaves an ideal number as it is. -/
theorem last (p : FVec Ideal S1024x1024 .f32) (r k : Fin 1024) : k0_pay4 (F := Ideal) p (ix2 r k) = (p (ix2 r k) : EReal) := by
  pointwise [k0_pay4]

variable (m : (ℓ : Loc nD τ DWInIdeal.sig) → Buf (Elt Ideal) ℓ) (c : Dev nD)

theorem idx0 : ∀ t : Fin grid0.N, (win0_0).index t = ![t.val % 4, t.val / 116] := by decide +kernel
theorem idx1 : ∀ t : Fin grid0.N, (win0_1).index t = ![t.val % 4, t.val / 4 % 29] := by decide +kernel
theorem idx2 : ∀ t : Fin grid0.N, (win0_2).index t = ![t.val / 116, t.val / 4 % 29] := by decide +kernel

/-- What the first point of a block leaves in the accumulator. -/
theorem acc0 (t : Fin cfg0.N) (h : t.val % 4 = 0) :
    (outsAt0 m c t.val t.isLt).2 = k0_pay2 (F := Ideal) (iblk m c 0 t) (iblk m c 1 t) := by
  rw [outsAt0_A m c t h (by omega) (by omega)]
  dsimp only
  frame_out

/-- What a later point leaves in it. -/
theorem acc1 (t : Fin cfg0.N) (h : ¬t.val % 4 = 0) : (outsAt0 m c t.val t.isLt).2 =
    k0_pay3 (F := Ideal) (iblk m c 0 t) (iblk m c 1 t) ((outsAt0 m c (t.val - 1) (Nat.lt_of_le_of_lt (Nat.sub_le _ _) t.isLt)).2) := by
  by_cases h2 : t.val % 4 = 3
  · rw [outsAt0_C m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)
  · rw [outsAt0_B m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)

/-- What the last point of a block writes back: the accumulator. -/
theorem res (t : Fin cfg0.N) (h2 : t.val % 4 = 3) : (outsAt0 m c t.val t.isLt).1 =
    k0_pay4 (F := Ideal) (k0_pay3 (F := Ideal) (iblk m c 0 t) (iblk m c 1 t) ((outsAt0 m c (t.val - 1) (Nat.lt_of_le_of_lt (Nat.sub_le _ _) t.isLt)).2)) := by
  rw [outsAt0_C m c t (by omega) (by omega) h2]
  dsimp only
  generalize (outsAt0 m c (t.val - 1) (Nat.lt_of_le_of_lt (Nat.sub_le _ _) t.isLt)) = Y
  frame_out
  exact congrArg (fun Z => k0_pay4 (F := Ideal) (k0_pay3 (F := Ideal) (iblk m c 0 t) (iblk m c 1 t) Z)) (Memref.IsWhole.read_unread _ _)

theorem part (t : Fin cfg0.N) (r k : Fin 1024) : k0_pay1 (F := Ideal) (iblk m c 0 t) (iblk m c 1 t) (ix2 r k) =
    ∑ j : Fin 1024, entry (m ((c : Thread nD τ).loc main_arg0)) (m ((c : Thread nD τ).loc main_arg1)) t.val (r, k)
      (at' 4096 (1024 * (t.val % 4) + j.val)) := by
  have e0 := idx0 t
  have e1 := idx1 t
  have ht : t.val < 464 := lt_of_lt_of_eq t.isLt N_0
  refine (block _ _ r k).trans (Finset.sum_congr rfl fun j _ => ?_)
  refine congr (congrArg _ ((congrFun (V_main_arg0 m c) _).trans (congrArg _ ?_))) ((congrFun (V_main_arg1 m c) _).trans (congrArg _ ?_))
  · refine funext (Fin.forall_fin_two.mpr ⟨Fin.ext ?_, Fin.ext ?_⟩) <;> blk_simp [e0, at'] <;> (try dsimp only) <;> omega
  · refine funext (Fin.forall_fin_two.mpr ⟨Fin.ext ?_, Fin.ext ?_⟩) <;> blk_simp [e1, at'] <;> (try dsimp only) <;> omega

/-- At the last point of a block the accumulator holds the whole sum. -/
theorem acc (t : Fin cfg0.N) (h : t.val % 4 = 3) (y : Fin 1024 × Fin 1024) : (outsAt0 m c t.val t.isLt).2 (ix2 y.1 y.2) =
    ∑ j, entry (m ((c : Thread nD τ).loc main_arg0)) (m ((c : Thread nD τ).loc main_arg1)) t.val y j := by
  refine whole 4 1024 4096 rfl (fun t ht (y : Fin 1024 × Fin 1024) => ((outsAt0 m c t ht).2 (ix2 y.1 y.2) : EReal)) _
    (fun t ht y h => ?_) (fun t ht y h => ?_) (fun t h => ?_) t.val t.isLt y (by omega)
  · exact (congrFun (acc0 m c ⟨t, ht⟩ h) _).trans ((first _ _ _ _).trans (part m c ⟨t, ht⟩ y.1 y.2))
  · exact (congrFun (acc1 m c ⟨t, ht⟩ h) _).trans ((more _ _ _ _ _).trans (congrArg _ (part m c ⟨t, ht⟩ y.1 y.2)))
  · funext y j
    unfold entry
    rw [show (t - 1) / 116 = t / 116 by omega, show (t - 1) / 4 = t / 4 by omega]

/-- What the kernel leaves. -/
theorem arr : (dats m 0 c).arrAt 2 cfg0.N = fun y : S4096x29696.Idx =>
    prod (m ((c : Thread nD τ).loc main_arg0)) (m ((c : Thread nD τ).loc main_arg1)) (y 0) (y 1) := by
  refine (dats m 0 c).arrAt_eq_of_covers 2 _ (by decide +kernel) fun t hf y => ?_
  have ht : t.val % 4 = 3 := (flush0_2 t).mp hf
  have hN : t.val < 464 := lt_of_lt_of_eq t.isLt N_0
  have e2 := idx2 t
  obtain ⟨y0, y1, rfl⟩ : ∃ (y0 y1 : Fin 1024), y = ix2 y0 y1 := ⟨_, _, funext (Fin.forall_fin_two.mpr ⟨rfl, rfl⟩)⟩
  have hs := (congrFun (congrArg (k0_pay4 (F := Ideal)) (acc1 m c t (by omega))) (ix2 y0 y1)).symm.trans
    ((last _ y0 y1).trans (acc m c t ht (y0, y1)))
  rw [← res m c t ht] at hs
  rw [after0_2]
  refine hs.trans (Finset.sum_congr rfl fun j _ => congr (congrArg _ (congrArg _ ?_)) (congrArg _ ?_))
  · refine congrArg (fun z => ix2 j z) (Fin.ext ?_)
    blk_simp [e2, at'] <;> (try dsimp only) <;> omega
  · refine congrArg (fun z => ix2 j z) (Fin.ext ?_)
    blk_simp [e2, at'] <;> (try dsimp only) <;> omega

open Cert.DWInReferenceIdeal Cert.DWInReferenceIdeal.Read in
/-- What the reference computes. -/
theorem ref (h : (⟨DWInIdeal.S4096x4096, .bf16⟩ : BufTy).Contents (Elt Ideal)) (dy : (⟨DWInIdeal.S4096x29696, .bf16⟩ : BufTy).Contents (Elt Ideal)) :
    val_main_v8 (F := Ideal) h dy = fun y : DWInIdeal.S4096x29696.Idx => prod h dy (y 0) (y 1) := by
  funext y
  obtain ⟨y0, y1, rfl⟩ : ∃ (y0 : Fin 4096) (y1 : Fin 29696), y = ix2 y0 y1 := ⟨_, _, funext (Fin.forall_fin_two.mpr ⟨rfl, rfl⟩)⟩
  have e : val_main_v8 (F := Ideal) h dy (ix2 y0 y1) = ∑ j : Fin 4096, (dy (ix2 j y1) : EReal) * (h (ix2 j y0) : EReal) := by
    pointwise [val_main_v8, val_main_v7, val_main_v6, val_main_v5, val_main_v4, val_main_v2, val_main_v1]
    exact Fin.sum_univ_one _
  exact e.trans (Finset.sum_congr rfl fun j _ => EReal.mul_comm _ _)

end Cert.InGrad

end
-- ==== Proof.HiddenGrad.lean ====
/- The gradient of the input projection in the normed input, 29 blocks of the contraction added up: what the kernel leaves
   and what the reference computes. -/
module

public import proofs.«01_k».proof.Proof.Blocks
public import proofs.«01_k».proof.Proof.Gen.DHidIdeal.Value
public import proofs.«01_k».proof.Proof.Gen.DHidReferenceIdeal.Read
public import Idealize.ShloMosaic.Lib.Pointwise
public import Idealize.ShloMosaic.Lib.Pipeline.ValueKit

@[expose] public section

set_option maxRecDepth 16384

noncomputable section

namespace Cert.HiddenGrad

open Idealize.ShloMosaic Idealize.ShloMosaic.TcCoe Idealize.SL.Sem Cert.DHidIdeal Cert.DHidIdeal.Gen Cert.Blocks
open Idealize.ShloMosaic.Pipeline (Dat)

/-- Row `r` of the gradient against row `k` of the weight. -/
def prod (dy w : S4096x29696.Idx → EReal) (r k : Fin 4096) : EReal := ∑ j : Fin 29696, dy (ix2 r j) * w (ix2 k j)

/-- One block of the contraction. -/
theorem block (a b : FVec Ideal S1024x1024 .bf16) (r k : Fin 1024) :
    k0_pay1 (F := Ideal) a b (ix2 r k) = ∑ j : Fin 1024, (a (ix2 r j) : EReal) * (b (ix2 k j) : EReal) := by
  pointwise [k0_pay1]

theorem first (a b : FVec Ideal S1024x1024 .bf16) (r k : Fin 1024) :
    k0_pay2 (F := Ideal) a b (ix2 r k) = k0_pay1 (F := Ideal) a b (ix2 r k) := by
  pointwise [k0_pay2]

theorem more (a b : FVec Ideal S1024x1024 .bf16) (p : FVec Ideal S1024x1024 .f32) (r k : Fin 1024) :
    k0_pay3 (F := Ideal) a b p (ix2 r k) = (p (ix2 r k) : EReal) + (k0_pay1 (F := Ideal) a b (ix2 r k) : EReal) := by
  pointwise [k0_pay3]

/-- One product of the contraction, at a place of the block of point `t`. -/
def entry (dy w : S4096x29696.Idx → EReal) (t : ℕ) (y : Fin 1024 × Fin 1024) (j : Fin 29696) : EReal :=
  dy (ix2 (at' 4096 (1024 * (t / 116) + y.1.val)) j) * w (ix2 (at' 4096 (1024 * (t / 29 % 4) + y.2.val)) j)

variable (m : (ℓ : Loc nD τ DHidIdeal.sig) → Buf (Elt Ideal) ℓ) (c : Dev nD)

theorem idx0 : ∀ t : Fin grid0.N, (win0_0).index t = ![t.val / 116, t.val % 29] := by decide +kernel
theorem idx1 : ∀ t : Fin grid0.N, (win0_1).index t = ![t.val / 29 % 4, t.val % 29] := by decide +kernel
theorem idx2 : ∀ t : Fin grid0.N, (win0_2).index t = ![t.val / 116, t.val / 29 % 4] := by decide +kernel

/-- What the first point of a block leaves in the accumulator. -/
theorem acc0 (t : Fin cfg0.N) (h : t.val % 29 = 0) :
    (outsAt0 m c t.val t.isLt).2 = k0_pay2 (F := Ideal) (iblk m c 0 t) (iblk m c 1 t) := by
  rw [outsAt0_A m c t h (by omega) (by omega)]
  dsimp only
  frame_out

/-- What a later point leaves in it. -/
theorem acc1 (t : Fin cfg0.N) (h : ¬t.val % 29 = 0) : (outsAt0 m c t.val t.isLt).2 =
    k0_pay3 (F := Ideal) (iblk m c 0 t) (iblk m c 1 t) ((outsAt0 m c (t.val - 1) (Nat.lt_of_le_of_lt (Nat.sub_le _ _) t.isLt)).2) := by
  by_cases h2 : t.val % 29 = 28
  · rw [outsAt0_C m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)
  · rw [outsAt0_B m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)

/-- What the last point of a block writes back: the accumulator. -/
theorem res (t : Fin cfg0.N) (h2 : t.val % 29 = 28) : (outsAt0 m c t.val t.isLt).1 =
    k0_pay3 (F := Ideal) (iblk m c 0 t) (iblk m c 1 t) ((outsAt0 m c (t.val - 1) (Nat.lt_of_le_of_lt (Nat.sub_le _ _) t.isLt)).2) := by
  rw [outsAt0_C m c t (by omega) (by omega) h2]
  dsimp only
  generalize (outsAt0 m c (t.val - 1) (Nat.lt_of_le_of_lt (Nat.sub_le _ _) t.isLt)) = Y
  frame_out
  exact congrArg (fun Z => k0_pay3 (F := Ideal) (iblk m c 0 t) (iblk m c 1 t) Z) (Memref.IsWhole.read_unread _ _)

theorem part (t : Fin cfg0.N) (r k : Fin 1024) : k0_pay1 (F := Ideal) (iblk m c 0 t) (iblk m c 1 t) (ix2 r k) =
    ∑ j : Fin 1024, entry (m ((c : Thread nD τ).loc main_arg0)) (m ((c : Thread nD τ).loc main_arg1)) t.val (r, k)
      (at' 29696 (1024 * (t.val % 29) + j.val)) := by
  have e0 := idx0 t
  have e1 := idx1 t
  have ht : t.val < 464 := lt_of_lt_of_eq t.isLt N_0
  refine (block _ _ r k).trans (Finset.sum_congr rfl fun j _ => ?_)
  refine congr (congrArg _ ((congrFun (V_main_arg0 m c) _).trans (congrArg _ ?_))) ((congrFun (V_main_arg1 m c) _).trans (congrArg _ ?_))
  · refine funext (Fin.forall_fin_two.mpr ⟨Fin.ext ?_, Fin.ext ?_⟩) <;> blk_simp [e0, at'] <;> (try dsimp only) <;> omega
  · refine funext (Fin.forall_fin_two.mpr ⟨Fin.ext ?_, Fin.ext ?_⟩) <;> blk_simp [e1, at'] <;> (try dsimp only) <;> omega

/-- At the last point of a block the accumulator holds the whole sum. -/
theorem acc (t : Fin cfg0.N) (h : t.val % 29 = 28) (y : Fin 1024 × Fin 1024) : (outsAt0 m c t.val t.isLt).2 (ix2 y.1 y.2) =
    ∑ j, entry (m ((c : Thread nD τ).loc main_arg0)) (m ((c : Thread nD τ).loc main_arg1)) t.val y j := by
  refine whole 29 1024 29696 rfl (fun t ht (y : Fin 1024 × Fin 1024) => ((outsAt0 m c t ht).2 (ix2 y.1 y.2) : EReal)) _
    (fun t ht y h => ?_) (fun t ht y h => ?_) (fun t h => ?_) t.val t.isLt y (by omega)
  · exact (congrFun (acc0 m c ⟨t, ht⟩ h) _).trans ((first _ _ _ _).trans (part m c ⟨t, ht⟩ y.1 y.2))
  · exact (congrFun (acc1 m c ⟨t, ht⟩ h) _).trans ((more _ _ _ _ _).trans (congrArg _ (part m c ⟨t, ht⟩ y.1 y.2)))
  · funext y j
    unfold entry
    rw [show (t - 1) / 116 = t / 116 by omega, show (t - 1) / 29 = t / 29 by omega]

/-- What the kernel leaves. -/
theorem arr : (dats m 0 c).arrAt 2 cfg0.N = fun y : S4096x4096.Idx =>
    prod (m ((c : Thread nD τ).loc main_arg0)) (m ((c : Thread nD τ).loc main_arg1)) (y 0) (y 1) := by
  refine (dats m 0 c).arrAt_eq_of_covers 2 _ (by decide +kernel) fun t hf y => ?_
  have ht : t.val % 29 = 28 := (flush0_2 t).mp hf
  have hN : t.val < 464 := lt_of_lt_of_eq t.isLt N_0
  have e2 := idx2 t
  obtain ⟨y0, y1, rfl⟩ : ∃ (y0 y1 : Fin 1024), y = ix2 y0 y1 := ⟨_, _, funext (Fin.forall_fin_two.mpr ⟨rfl, rfl⟩)⟩
  have hs := acc m c t ht (y0, y1)
  rw [acc1 m c t (by omega), ← res m c t ht] at hs
  rw [after0_2]
  refine hs.trans (Finset.sum_congr rfl fun j _ => congr (congrArg _ (congrArg _ ?_)) (congrArg _ ?_))
  · refine congrArg (fun z => ix2 z j) (Fin.ext ?_)
    blk_simp [e2, at'] <;> (try dsimp only) <;> omega
  · refine congrArg (fun z => ix2 z j) (Fin.ext ?_)
    blk_simp [e2, at'] <;> (try dsimp only) <;> omega

open Cert.DHidReferenceIdeal Cert.DHidReferenceIdeal.Read in
/-- What the reference computes. -/
theorem ref (dy w : (⟨DHidIdeal.S4096x29696, .bf16⟩ : BufTy).Contents (Elt Ideal)) :
    val_main_v6 (F := Ideal) dy w = fun y : DHidIdeal.S4096x4096.Idx => prod dy w (y 0) (y 1) := by
  funext y
  rw [val_main_v6_apply, val_main_v5_apply]
  refine Finset.sum_congr rfl fun j _ => ?_
  rw [val_main_v4_apply, val_main_v3_apply, val_main_v1_apply]
  refine congr (congrArg _ (congrArg dy ?_)) (congrArg w ?_)
  · refine funext (Fin.forall_fin_two.mpr ⟨Fin.ext ?_, Fin.ext ?_⟩)
    · show ((y 0).val * 4096 + (y 1).val) / 4096 % 4096 = (y 0).val
      have h0 : (y 0).val < 4096 := (y 0).isLt; have h1 : (y 1).val < 4096 := (y 1).isLt; omega
    · rfl
  · refine funext (Fin.forall_fin_two.mpr ⟨Fin.ext ?_, Fin.ext ?_⟩)
    · show ((y 0).val * 4096 + (y 1).val) % 4096 = (y 1).val
      have h0 : (y 0).val < 4096 := (y 0).isLt; have h1 : (y 1).val < 4096 := (y 1).isLt; omega
    · rfl

end Cert.HiddenGrad

end
-- ==== Proof.BranchGrad.lean ====
/- The gradient of an up projection in its first factor, four blocks of the contraction added up: what the kernel leaves. -/
module

public import proofs.«01_k».proof.Proof.Blocks
public import proofs.«01_k».proof.Proof.ActGrad
public import proofs.«01_k».proof.Proof.Gen.DAttnIdeal.Value
public import Idealize.ShloMosaic.Lib.Pointwise
public import Idealize.ShloMosaic.Lib.Pipeline.ValueKit

@[expose] public section

set_option maxRecDepth 16384

noncomputable section

namespace Cert.BranchGrad

open Idealize.ShloMosaic Idealize.ShloMosaic.TcCoe Idealize.SL.Sem Cert.DAttnIdeal Cert.DAttnIdeal.Gen Cert.Blocks
open Idealize.ShloMosaic.Pipeline (Dat)

/-- One block of the contraction. -/
theorem block (a b : FVec Ideal S1024x1024 .bf16) (r k : Fin 1024) :
    k0_pay1 (F := Ideal) a b (ix2 r k) = ∑ j : Fin 1024, (a (ix2 r j) : EReal) * (b (ix2 k j) : EReal) := by
  pointwise [k0_pay1]

theorem first (a b : FVec Ideal S1024x1024 .bf16) (r k : Fin 1024) :
    k0_pay2 (F := Ideal) a b (ix2 r k) = k0_pay1 (F := Ideal) a b (ix2 r k) := by
  pointwise [k0_pay2]

theorem more (a b : FVec Ideal S1024x1024 .bf16) (p : FVec Ideal S1024x1024 .f32) (r k : Fin 1024) :
    k0_pay3 (F := Ideal) a b p (ix2 r k) = (p (ix2 r k) : EReal) + (k0_pay1 (F := Ideal) a b (ix2 r k) : EReal) := by
  pointwise [k0_pay3]

/-- One product of the contraction, at a place of the block of point `t`. -/
def entry (w dy : S4096x4096.Idx → EReal) (t : ℕ) (y : Fin 1024 × Fin 1024) (j : Fin 4096) : EReal :=
  dy (ix2 (at' 4096 (1024 * (t / 16) + y.1.val)) j) * w (ix2 (at' 4096 (1024 * (t / 4 % 4) + y.2.val)) j)

variable (m : (ℓ : Loc nD τ DAttnIdeal.sig) → Buf (Elt Ideal) ℓ) (c : Dev nD)

theorem idx0 : ∀ t : Fin grid0.N, (win0_0).index t = ![t.val / 16, t.val % 4] := by decide +kernel
theorem idx1 : ∀ t : Fin grid0.N, (win0_1).index t = ![t.val / 4 % 4, t.val % 4] := by decide +kernel
theorem idx2 : ∀ t : Fin grid0.N, (win0_2).index t = ![t.val / 16, t.val / 4 % 4] := by decide +kernel

theorem part (t : Fin cfg0.N) (r k : Fin 1024) : k0_pay1 (F := Ideal) (iblk m c 0 t) (iblk m c 1 t) (ix2 r k) =
    ∑ j : Fin 1024, entry (m ((c : Thread nD τ).loc main_arg0)) (m ((c : Thread nD τ).loc main_arg1)) t.val (r, k)
      (at' 4096 (1024 * (t.val % 4) + j.val)) := by
  have e0 := idx0 t
  have e1 := idx1 t
  have ht : t.val < 64 := lt_of_lt_of_eq t.isLt N_0
  refine (block _ _ r k).trans (Finset.sum_congr rfl fun j _ => ?_)
  refine congr (congrArg _ ((congrFun (V_main_arg1 m c) _).trans (congrArg _ ?_))) ((congrFun (V_main_arg0 m c) _).trans (congrArg _ ?_))
  · refine funext (Fin.forall_fin_two.mpr ⟨Fin.ext ?_, Fin.ext ?_⟩) <;> blk_simp [e0, at'] <;> (try dsimp only) <;> omega
  · refine funext (Fin.forall_fin_two.mpr ⟨Fin.ext ?_, Fin.ext ?_⟩) <;> blk_simp [e1, at'] <;> (try dsimp only) <;> omega

/-- What the first point of a block leaves in the accumulator. -/
theorem acc0 (t : Fin cfg0.N) (h : t.val % 4 = 0) :
    (outsAt0 m c t.val t.isLt).2 = k0_pay2 (F := Ideal) (iblk m c 0 t) (iblk m c 1 t) := by
  rw [outsAt0_A m c t h (by omega) (by omega)]
  dsimp only
  frame_out

/-- What a later point leaves in it. -/
theorem acc1 (t : Fin cfg0.N) (h : ¬t.val % 4 = 0) : (outsAt0 m c t.val t.isLt).2 =
    k0_pay3 (F := Ideal) (iblk m c 0 t) (iblk m c 1 t) ((outsAt0 m c (t.val - 1) (Nat.lt_of_le_of_lt (Nat.sub_le _ _) t.isLt)).2) := by
  by_cases h2 : t.val % 4 = 3
  · rw [outsAt0_C m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)
  · rw [outsAt0_B m c t h (by omega) h2]
    dsimp only
    generalize (outsAt0 m c (t.val - 1) (Nat.lt_of_le_of_lt (Nat.sub_le _ _) t.isLt)) = Y
    frame_out
    exact congrArg (fun Z => k0_pay3 (F := Ideal) (iblk m c 0 t) (iblk m c 1 t) Z) (Memref.IsWhole.read_unread _ _)

/-- What the last point of a block writes back: the accumulator. -/
theorem res (t : Fin cfg0.N) (h2 : t.val % 4 = 3) : (outsAt0 m c t.val t.isLt).1 =
    k0_pay3 (F := Ideal) (iblk m c 0 t) (iblk m c 1 t) ((outsAt0 m c (t.val - 1) (Nat.lt_of_le_of_lt (Nat.sub_le _ _) t.isLt)).2) := by
  rw [outsAt0_C m c t (by omega) (by omega) h2]
  dsimp only
  generalize (outsAt0 m c (t.val - 1) (Nat.lt_of_le_of_lt (Nat.sub_le _ _) t.isLt)) = Y
  frame_out
  exact congrArg (fun Z => k0_pay3 (F := Ideal) (iblk m c 0 t) (iblk m c 1 t) Z) (Memref.IsWhole.read_unread _ _)

/-- At the last point of a block the accumulator holds the whole sum. -/
theorem acc (t : Fin cfg0.N) (h : t.val % 4 = 3) (y : Fin 1024 × Fin 1024) : (outsAt0 m c t.val t.isLt).2 (ix2 y.1 y.2) =
    ∑ j, entry (m ((c : Thread nD τ).loc main_arg0)) (m ((c : Thread nD τ).loc main_arg1)) t.val y j := by
  refine whole 4 1024 4096 rfl (fun t ht (y : Fin 1024 × Fin 1024) => ((outsAt0 m c t ht).2 (ix2 y.1 y.2) : EReal)) _
    (fun t ht y h => ?_) (fun t ht y h => ?_) (fun t h => ?_) t.val t.isLt y (by omega)
  · exact (congrFun (acc0 m c ⟨t, ht⟩ h) _).trans ((first _ _ _ _).trans (part m c ⟨t, ht⟩ y.1 y.2))
  · exact (congrFun (acc1 m c ⟨t, ht⟩ h) _).trans ((more _ _ _ _ _).trans (congrArg _ (part m c ⟨t, ht⟩ y.1 y.2)))
  · funext y j
    unfold entry
    rw [show (t - 1) / 16 = t / 16 by omega, show (t - 1) / 4 = t / 4 by omega]

/-- What the kernel leaves. -/
theorem arr : (dats m 0 c).arrAt 2 cfg0.N = fun y : S4096x4096.Idx =>
    ActGrad.prod (m ((c : Thread nD τ).loc main_arg0)) (m ((c : Thread nD τ).loc main_arg1)) (y 0) (y 1) := by
  refine (dats m 0 c).arrAt_eq_of_covers 2 _ (by decide +kernel) fun t hf y => ?_
  have ht : t.val % 4 = 3 := (flush0_2 t).mp hf
  have hN : t.val < 64 := lt_of_lt_of_eq t.isLt N_0
  have e2 := idx2 t
  obtain ⟨y0, y1, rfl⟩ : ∃ (y0 y1 : Fin 1024), y = ix2 y0 y1 := ⟨_, _, funext (Fin.forall_fin_two.mpr ⟨rfl, rfl⟩)⟩
  have hs := acc m c t ht (y0, y1)
  rw [acc1 m c t (by omega), ← res m c t ht] at hs
  rw [after0_2]
  refine hs.trans (Finset.sum_congr rfl fun j _ => congr (congrArg _ (congrArg _ ?_)) (congrArg _ ?_))
  · refine congrArg (fun z => ix2 z j) (Fin.ext ?_)
    blk_simp [e2, at'] <;> (try dsimp only) <;> omega
  · refine congrArg (fun z => ix2 z j) (Fin.ext ?_)
    blk_simp [e2, at'] <;> (try dsimp only) <;> omega

end Cert.BranchGrad

end
-- ==== Proof.Wide.lean ====
/- The claims of the products without copies, taken from earlier versions: each one's frame, and its equality with its reference over the
   extended reals. -/
module

public import proofs.«01_k».proof.Defs
public import proofs.«01_k».proof.Proof.Lift
public import proofs.«01_k».proof.Proof.Gen.Up.Frame
public import proofs.«01_k».proof.Proof.Gen.UpReferenceIdeal.Run
public import proofs.«01_k».proof.Proof.Project
public import proofs.«01_k».proof.Proof.Gen.Proj.Frame
public import proofs.«01_k».proof.Proof.Gen.ProjReferenceIdeal.Run
public import proofs.«01_k».proof.Proof.InGrad
public import proofs.«01_k».proof.Proof.Gen.DWIn.Frame
public import proofs.«01_k».proof.Proof.Gen.DWInReferenceIdeal.Run
public import proofs.«01_k».proof.Proof.HiddenGrad
public import proofs.«01_k».proof.Proof.Gen.DHid.Frame
public import proofs.«01_k».proof.Proof.Gen.DHidReferenceIdeal.Run
public import proofs.«01_k».proof.Proof.BranchGrad
public import proofs.«01_k».proof.Proof.Gen.DAttn.Frame
public import proofs.«01_k».proof.Proof.Gen.DActReferenceIdeal.Run
public import Idealize.ShloMosaic.Lib.Quiescent
public import Idealize.ShloMosaic.Adequacy
public import Idealize.ShloMosaic.Init

@[expose] public section

noncomputable section

namespace Cert.Wide

open Idealize.ShloMosaic Idealize.SL.Sem

/-! ## Up -/

theorem equal_Up : Cert.algebraic_UpIdeal_UpReferenceIdeal := by
  intro m g m' g' _ hag
  refine ⟨fun c y => Cert.Lift.prod (m ((c.tc : Thread Cert.UpIdeal.nD Cert.UpIdeal.τ).loc Cert.UpIdeal.main_arg0)) (m ((c.tc : Thread Cert.UpIdeal.nD Cert.UpIdeal.τ).loc Cert.UpIdeal.main_arg1)) (y 0) (y 1), ?_, ?_⟩
  · refine (θ_run Cert.UpIdeal.defs _ _).mono (fun r h c => ?_) (Cert.UpIdeal.Value.run_blocks m g)
    obtain ⟨h0, hargs⟩ := h c
    exact ⟨h0.trans (Cert.Lift.arr m c), hargs⟩
  · refine (θ_run Cert.UpReferenceIdeal.defs _ _).mono (fun r h c => ?_) (Cert.UpReferenceIdeal.Value.run m' g')
    obtain ⟨h0, hargs⟩ := h c
    obtain ⟨a0, a1⟩ := hag c
    exact ⟨h0.trans ((Cert.UpReferenceIdeal.Read.val_main_v4_eq (m' ((c.tc : Thread Cert.UpReferenceIdeal.nD Cert.UpReferenceIdeal.τ).loc Cert.UpReferenceIdeal.main_arg0)) (m' ((c.tc : Thread Cert.UpReferenceIdeal.nD Cert.UpReferenceIdeal.τ).loc Cert.UpReferenceIdeal.main_arg1))).trans (by rw [a0, a1]; exact Cert.Lift.ref _ _)), hargs⟩

theorem frame_Up : Cert.quiescent_UpReferenceIdeal := fun m g _ =>
  (θ_run Cert.UpReferenceIdeal.defs _ _).mono (fun r h => ⟨fun c => (h c).2, sem_eq_zero_of_no_sems (by decide) _⟩)
    (Cert.UpReferenceIdeal.Value.run m g)

/-! ## Proj -/

theorem equal_Proj : Cert.algebraic_ProjIdeal_ProjReferenceIdeal := by
  intro m g m' g' _ hag
  refine ⟨fun c y => Cert.Project.prod (m ((c.tc : Thread Cert.ProjIdeal.nD Cert.ProjIdeal.τ).loc Cert.ProjIdeal.main_arg0)) (m ((c.tc : Thread Cert.ProjIdeal.nD Cert.ProjIdeal.τ).loc Cert.ProjIdeal.main_arg1)) (y 0) (y 1), ?_, ?_⟩
  · refine (θ_run Cert.ProjIdeal.defs _ _).mono (fun r h c => ?_) (Cert.ProjIdeal.Value.run_blocks m g)
    obtain ⟨h0, hargs⟩ := h c
    exact ⟨h0.trans (Cert.Project.arr m c), hargs⟩
  · refine (θ_run Cert.ProjReferenceIdeal.defs _ _).mono (fun r h c => ?_) (Cert.ProjReferenceIdeal.Value.run m' g')
    obtain ⟨h0, hargs⟩ := h c
    obtain ⟨a0, a1⟩ := hag c
    exact ⟨h0.trans ((Cert.ProjReferenceIdeal.Read.val_main_v5_eq (m' ((c.tc : Thread Cert.ProjReferenceIdeal.nD Cert.ProjReferenceIdeal.τ).loc Cert.ProjReferenceIdeal.main_arg0)) (m' ((c.tc : Thread Cert.ProjReferenceIdeal.nD Cert.ProjReferenceIdeal.τ).loc Cert.ProjReferenceIdeal.main_arg1))).trans (by rw [a0, a1]; exact Cert.Project.ref _ _)), hargs⟩

theorem frame_Proj : Cert.quiescent_ProjReferenceIdeal := fun m g _ =>
  (θ_run Cert.ProjReferenceIdeal.defs _ _).mono (fun r h => ⟨fun c => (h c).2, sem_eq_zero_of_no_sems (by decide) _⟩)
    (Cert.ProjReferenceIdeal.Value.run m g)

/-! ## DWIn -/

theorem equal_DWIn : Cert.algebraic_DWInIdeal_DWInReferenceIdeal := by
  intro m g m' g' _ hag
  refine ⟨fun c y => Cert.InGrad.prod (m ((c.tc : Thread Cert.DWInIdeal.nD Cert.DWInIdeal.τ).loc Cert.DWInIdeal.main_arg0)) (m ((c.tc : Thread Cert.DWInIdeal.nD Cert.DWInIdeal.τ).loc Cert.DWInIdeal.main_arg1)) (y 0) (y 1), ?_, ?_⟩
  · refine (θ_run Cert.DWInIdeal.defs _ _).mono (fun r h c => ?_) (Cert.DWInIdeal.Value.run_blocks m g)
    obtain ⟨h0, hargs⟩ := h c
    exact ⟨h0.trans (Cert.InGrad.arr m c), hargs⟩
  · refine (θ_run Cert.DWInReferenceIdeal.defs _ _).mono (fun r h c => ?_) (Cert.DWInReferenceIdeal.Value.run m' g')
    obtain ⟨h0, hargs⟩ := h c
    obtain ⟨a0, a1⟩ := hag c
    exact ⟨h0.trans ((Cert.DWInReferenceIdeal.Read.val_main_v8_eq (m' ((c.tc : Thread Cert.DWInReferenceIdeal.nD Cert.DWInReferenceIdeal.τ).loc Cert.DWInReferenceIdeal.main_arg0)) (m' ((c.tc : Thread Cert.DWInReferenceIdeal.nD Cert.DWInReferenceIdeal.τ).loc Cert.DWInReferenceIdeal.main_arg1))).trans (by rw [a0, a1]; exact Cert.InGrad.ref _ _)), hargs⟩

theorem frame_DWIn : Cert.quiescent_DWInReferenceIdeal := fun m g _ =>
  (θ_run Cert.DWInReferenceIdeal.defs _ _).mono (fun r h => ⟨fun c => (h c).2, sem_eq_zero_of_no_sems (by decide) _⟩)
    (Cert.DWInReferenceIdeal.Value.run m g)

/-! ## DHid -/

theorem equal_DHid : Cert.algebraic_DHidIdeal_DHidReferenceIdeal := by
  intro m g m' g' _ hag
  refine ⟨fun c y => Cert.HiddenGrad.prod (m ((c.tc : Thread Cert.DHidIdeal.nD Cert.DHidIdeal.τ).loc Cert.DHidIdeal.main_arg0)) (m ((c.tc : Thread Cert.DHidIdeal.nD Cert.DHidIdeal.τ).loc Cert.DHidIdeal.main_arg1)) (y 0) (y 1), ?_, ?_⟩
  · refine (θ_run Cert.DHidIdeal.defs _ _).mono (fun r h c => ?_) (Cert.DHidIdeal.Value.run_blocks m g)
    obtain ⟨h0, hargs⟩ := h c
    exact ⟨h0.trans (Cert.HiddenGrad.arr m c), hargs⟩
  · refine (θ_run Cert.DHidReferenceIdeal.defs _ _).mono (fun r h c => ?_) (Cert.DHidReferenceIdeal.Value.run m' g')
    obtain ⟨h0, hargs⟩ := h c
    obtain ⟨a0, a1⟩ := hag c
    exact ⟨h0.trans ((Cert.DHidReferenceIdeal.Read.val_main_v6_eq (m' ((c.tc : Thread Cert.DHidReferenceIdeal.nD Cert.DHidReferenceIdeal.τ).loc Cert.DHidReferenceIdeal.main_arg0)) (m' ((c.tc : Thread Cert.DHidReferenceIdeal.nD Cert.DHidReferenceIdeal.τ).loc Cert.DHidReferenceIdeal.main_arg1))).trans (by rw [a0, a1]; exact Cert.HiddenGrad.ref _ _)), hargs⟩

theorem frame_DHid : Cert.quiescent_DHidReferenceIdeal := fun m g _ =>
  (θ_run Cert.DHidReferenceIdeal.defs _ _).mono (fun r h => ⟨fun c => (h c).2, sem_eq_zero_of_no_sems (by decide) _⟩)
    (Cert.DHidReferenceIdeal.Value.run m g)

/-! ## DAttn: its reference is that of DAct, of which ActGrad says what it computes -/

theorem equal_DAttn : Cert.algebraic_DAttnIdeal_DActReferenceIdeal := by
  intro m g m' g' _ hag
  refine ⟨fun c y => Cert.ActGrad.prod (m ((c.tc : Thread Cert.DAttnIdeal.nD Cert.DAttnIdeal.τ).loc Cert.DAttnIdeal.main_arg0)) (m ((c.tc : Thread Cert.DAttnIdeal.nD Cert.DAttnIdeal.τ).loc Cert.DAttnIdeal.main_arg1)) (y 0) (y 1), ?_, ?_⟩
  · refine (θ_run Cert.DAttnIdeal.defs _ _).mono (fun r h c => ?_) (Cert.DAttnIdeal.Value.run_blocks m g)
    obtain ⟨h0, hargs⟩ := h c
    exact ⟨h0.trans (Cert.BranchGrad.arr m c), hargs⟩
  · refine (θ_run Cert.DActReferenceIdeal.defs _ _).mono (fun r h c => ?_) (Cert.DActReferenceIdeal.Value.run m' g')
    obtain ⟨h0, hargs⟩ := h c
    obtain ⟨a0, a1⟩ := hag c
    exact ⟨h0.trans ((Cert.DActReferenceIdeal.Read.val_main_v6_eq (m' ((c.tc : Thread Cert.DActReferenceIdeal.nD Cert.DActReferenceIdeal.τ).loc Cert.DActReferenceIdeal.main_arg0)) (m' ((c.tc : Thread Cert.DActReferenceIdeal.nD Cert.DActReferenceIdeal.τ).loc Cert.DActReferenceIdeal.main_arg1))).trans (by rw [a0, a1]; exact Cert.ActGrad.ref _ _)), hargs⟩

end Cert.Wide

end
-- ==== Proof.Normed.lean ====
/- The step's first normalisation: what the kernel leaves and what the reference computes. -/
module

public import proofs.«01_k».proof.Proof.Consts
public import proofs.«01_k».proof.Proof.Gen.NormIdeal.Value
public import proofs.«01_k».proof.Proof.Gen.NormReferenceIdeal.Read
public import Idealize.ShloMosaic.Lib.Pointwise
public import Idealize.ShloMosaic.Lib.Pipeline.ValueKit

@[expose] public section

set_option maxRecDepth 16384

noncomputable section

namespace Cert.Normed

open Idealize.ShloMosaic Idealize.ShloMosaic.TcCoe Idealize.SL.Sem

/-- One over the root of a row's mean square. -/
def scale (row : Fin 4096 → EReal) : EReal :=
  Ideal.rsqrt (Ideal.div (∑ k, row k * row k) (FloatOps.ofBits .f32 0x45800000#32 : Ideal .f32) + (FloatOps.ofBits .f32 0x3727C5AC#32 : Ideal .f32))

/-- An entry of a normalised row. -/
def entry (row : Fin 4096 → EReal) (g : EReal) (k : Fin 4096) : EReal := row k * scale row * g

/-- The normalised array. -/
def out (x : NormIdeal.S1x4096x4096.Idx → EReal) (g : NormIdeal.S1x4096.Idx → EReal) (y : NormIdeal.S4096x4096.Idx) : EReal :=
  entry (fun k => x (ix3 (0 : Fin 1) (y 0) k)) (g (ix2 (0 : Fin 1) (y 1))) (y 1)

section

open Cert.NormIdeal Cert.NormIdeal.Gen
open Idealize.ShloMosaic.Pipeline (Dat)

theorem out_n (x0 : FVec Ideal S256x4096 .f32) (x1 : FVec Ideal S1x4096 .f32) (r : Fin 256) (k : Fin 4096) :
    out0_2 (F := Ideal) x0 x1 (ix2 r k) = entry (fun j => x0 (ix2 r j)) (x1 (ix2 (0 : Fin 1) k)) k := by
  unfold out0_2
  simp only [r0_0, r0_1]
  rw [View.canon_cons_unit_lit _ _ _ (by decide), View.ld_unit_lit _ _ (by decide), View.ld_unit_lit _ _ (by decide)]
  pointwise [k0_pay1, entry, scale]

variable (m : (ℓ : Loc nD τ NormIdeal.sig) → Buf (Elt Ideal) ℓ) (c : Dev nD)

abbrev X : S1x4096x4096.Idx → EReal := m ((c : Thread nD τ).loc main_arg0)
abbrev G : S1x4096.Idx → EReal := m ((c : Thread nD τ).loc main_arg1)

theorem idx0 : ∀ t : Fin grid0.N, (win0_0).index t = ![t.val, 0] := by decide +kernel
theorem idx1 : ∀ t : Fin grid0.N, (win0_1).index t = ![0, 0] := by decide +kernel
theorem idx2 : ∀ t : Fin grid0.N, (win0_2).index t = ![t.val, 0] := by decide +kernel

/-- Row `r` of point `t`'s block. -/
def row (t : Fin cfg0.N) (r : Fin 256) : Fin 4096 := ⟨t.val * 256 + r.val, by have := lt_of_lt_of_eq t.isLt (show cfg0.N = 16 from N_0); omega⟩

theorem part0 (t : Fin cfg0.N) (r : Fin 256) (k : Fin 4096) : (iblk m c 0 t : Vec Ideal S256x4096 .f32) (ix2 r k) = X m c (ix3 (0 : Fin 1) (row t r) k) := by
  show V m c main_v0 (((cfg0.win 0).blk t).view.emb (ix2 r k)) = _
  have e := idx0 t
  obtain e' : ((cfg0.win 0).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem part1 (t : Fin cfg0.N) (k : Fin 4096) : (iblk m c 1 t : Vec Ideal S1x4096 .f32) (ix2 (0 : Fin 1) k) = G m c (ix2 (0 : Fin 1) k) := by
  have e := idx1 t
  refine (congrFun (V_main_arg1 m c) _).trans (congrArg (G m c) (funext (Fin.forall_fin_two.mpr ⟨Fin.ext ?_, Fin.ext ?_⟩)))
  · blk_simp [e]
  · blk_simp [e]

/-- A block of the normalised array, and the whole array. -/
theorem blk (t : Fin cfg0.N) (r : Fin 256) (k : Fin 4096) : out0_2 (F := Ideal) (iblk m c 0 t) (iblk m c 1 t) (ix2 r k) =
    out (X m c) (G m c) (ix2 (row t r) k) :=
  (out_n (iblk m c 0 t) (iblk m c 1 t) r k).trans
    (congr (congr (congrArg entry (funext fun j => part0 m c t r j)) (part1 m c t k)) rfl)

theorem arr : (dats m 0 c).arrAt 2 cfg0.N = out (X m c) (G m c) := by
  refine (dats m 0 c).arrAt_eq_of_covers 2 _ (by decide +kernel) fun t hf y => ?_
  have e := idx2 t
  obtain ⟨y0, y1, rfl⟩ : ∃ (y0 : Fin 256) (y1 : Fin 4096), y = ix2 y0 y1 := ⟨_, _, funext (Fin.forall_fin_two.mpr ⟨rfl, rfl⟩)⟩
  refine (congrFun (after0_2 m c t) (ix2 y0 y1)).trans ((blk m c t y0 y1).trans (congrArg (out (X m c) (G m c)) ?_))
  refine funext (Fin.forall_fin_two.mpr ⟨Fin.ext ?_, Fin.ext ?_⟩)
  · blk_simp [e, row]
  · blk_simp [e]

end

section

open Cert.NormReferenceIdeal Cert.NormReferenceIdeal.Read

variable (x : (⟨NormIdeal.S1x4096x4096, .f32⟩ : BufTy).Contents (Elt Ideal)) (g : (⟨NormIdeal.S1x4096, .f32⟩ : BufTy).Contents (Elt Ideal))

theorem flat (r k : Fin 4096) : (r.val * 4096 + k.val) / 4096 % 4096 = r.val ∧ (r.val * 4096 + k.val) % 4096 = k.val := by
  omega
theorem at14 (r k : Fin 4096) : idx_main_v14 (ix2 r k) = ix3 (0 : Fin 1) r k :=
  funext (Fin.forall_fin_succ.mpr ⟨rfl, Fin.forall_fin_two.mpr ⟨Fin.ext (flat r k).1, Fin.ext (flat r k).2⟩⟩)
theorem at0 (r k : Fin 4096) : idx_main_v0 (idx_main_v11 (idx_main_v12 (ix3 (0 : Fin 1) r k))) = ix2 (0 : Fin 1) k :=
  funext (Fin.forall_fin_two.mpr ⟨rfl, Fin.ext (Nat.mod_eq_of_lt k.isLt)⟩)
theorem at2 (r k j : Fin 4096) : idx_main_v2 (idx_main_v3 (idx_main_v9 (ix3 (0 : Fin 1) r k))) j = ix3 (0 : Fin 1) r j :=
  funext (Fin.forall_fin_succ.mpr ⟨rfl, Fin.forall_fin_two.mpr ⟨rfl, rfl⟩⟩)

theorem ref : val_main_v15 (F := Ideal) x g = out x g := by
  funext y
  obtain ⟨r, k, rfl⟩ : ∃ (r k : Fin 4096), y = ix2 r k := ⟨_, _, funext (Fin.forall_fin_two.mpr ⟨rfl, rfl⟩)⟩
  rw [val_main_v15_apply, val_main_v14_apply, at14]
  simp only [val_main_v13_apply, val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply, val_main_cst_0_apply,
    val_main_cst_1_apply, at0, at2]
  rw [Gating.Consts.zero, EReal.coe_zero, zero_add]
  rfl

end

end Cert.Normed

end
-- ==== Proof.Merging.lean ====
/- The merge of the three branches, forward: what the kernel leaves and what the reference computes. -/
module

public import proofs.«01_k».proof.Proof.MergeRef
public import proofs.«01_k».proof.Proof.Gen.MergedIdeal.Value
public import proofs.«01_k».proof.Proof.Gen.MergedReferenceIdeal.Read

@[expose] public section

set_option maxRecDepth 16384

noncomputable section

namespace Cert.Merging

open Idealize.ShloMosaic Idealize.ShloMosaic.TcCoe Idealize.SL.Sem
open Cert.MergeGrad (colA colB)

/-- Two gated branches, added. -/
def gated (ga ya gb yb : EReal) : EReal := Ideal.logistic ga * ya + Ideal.logistic gb * yb

/-- The merged array. -/
def out (p : MergedIdeal.S4096x29696.Idx → EReal) (ya yb : MergedIdeal.S4096x4096.Idx → EReal) (y : MergedIdeal.S4096x4096.Idx) : EReal :=
  gated (p (ix2 (y 0) (colA (y 1)))) (ya y) (p (ix2 (y 0) (colB (y 1)))) (yb y)

section

open Cert.MergedIdeal Cert.MergedIdeal.Gen
open Idealize.ShloMosaic.Pipeline (Dat)

theorem out_m (x0 x1 : FVec Ideal S256x1024 .bf16) (x2 x3 : FVec Ideal S256x1024 .f32) (y : S256x1024.Idx) :
    out0_4 (F := Ideal) x0 x1 x2 x3 y = gated (x0 y) (x2 y) (x1 y) (x3 y) := by
  unfold out0_4
  simp only [r0_0]
  rw [View.canon_cons_unit_lit _ _ _ (by decide), View.ld_unit_lit _ _ (by decide), View.ld_unit_lit _ _ (by decide), View.ld_unit_lit _ _ (by decide), View.ld_unit_lit _ _ (by decide)]
  rfl

variable (m : (ℓ : Loc nD τ MergedIdeal.sig) → Buf (Elt Ideal) ℓ) (c : Dev nD)

abbrev proj : S4096x29696.Idx → EReal := m ((c : Thread nD τ).loc main_arg0)
abbrev yA : S4096x4096.Idx → EReal := m ((c : Thread nD τ).loc main_arg1)
abbrev yB : S4096x4096.Idx → EReal := m ((c : Thread nD τ).loc main_arg2)

theorem idx0 : ∀ t : Fin grid0.N, (win0_0).index t = ![t.val / 4, 21 + t.val % 4] := by decide +kernel
theorem idx1 : ∀ t : Fin grid0.N, (win0_1).index t = ![t.val / 4, 25 + t.val % 4] := by decide +kernel
theorem idx2 : ∀ t : Fin grid0.N, (win0_2).index t = ![t.val / 4, t.val % 4] := by decide +kernel
theorem idx3 : ∀ t : Fin grid0.N, (win0_3).index t = ![t.val / 4, t.val % 4] := by decide +kernel
theorem idx4 : ∀ t : Fin grid0.N, (win0_4).index t = ![t.val / 4, t.val % 4] := by decide +kernel

/-- Row `r` and column `k` of point `t`'s block. -/
def row (t : Fin cfg0.N) (r : Fin 256) : Fin 4096 := ⟨t.val / 4 * 256 + r.val, by have := lt_of_lt_of_eq t.isLt (show cfg0.N = 64 from N_0); omega⟩
def col (t : Fin cfg0.N) (k : Fin 1024) : Fin 4096 := ⟨t.val % 4 * 1024 + k.val, by omega⟩

theorem part0 (t : Fin cfg0.N) (r : Fin 256) (k : Fin 1024) : (iblk m c 0 t : Vec Ideal S256x1024 .bf16) (ix2 r k) = proj m c (ix2 (row t r) (colA (col t k))) := by
  have e := idx0 t
  refine (congrFun (V_main_arg0 m c) _).trans (congrArg (proj m c) (funext (Fin.forall_fin_two.mpr ⟨Fin.ext ?_, Fin.ext ?_⟩)))
  · blk_simp [e, row]
  · blk_simp [e, colA, col]; dsimp only; omega
theorem part1 (t : Fin cfg0.N) (r : Fin 256) (k : Fin 1024) : (iblk m c 1 t : Vec Ideal S256x1024 .bf16) (ix2 r k) = proj m c (ix2 (row t r) (colB (col t k))) := by
  have e := idx1 t
  refine (congrFun (V_main_arg0 m c) _).trans (congrArg (proj m c) (funext (Fin.forall_fin_two.mpr ⟨Fin.ext ?_, Fin.ext ?_⟩)))
  · blk_simp [e, row]
  · blk_simp [e, colB, col]; dsimp only; omega
theorem part2 (t : Fin cfg0.N) (r : Fin 256) (k : Fin 1024) : (iblk m c 2 t : Vec Ideal S256x1024 .f32) (ix2 r k) = yA m c (ix2 (row t r) (col t k)) := by
  have e := idx2 t
  refine (congrFun (V_main_arg1 m c) _).trans (congrArg (yA m c) (funext (Fin.forall_fin_two.mpr ⟨Fin.ext ?_, Fin.ext ?_⟩)))
  · blk_simp [e, row]
  · blk_simp [e, col]
theorem part3 (t : Fin cfg0.N) (r : Fin 256) (k : Fin 1024) : (iblk m c 3 t : Vec Ideal S256x1024 .f32) (ix2 r k) = yB m c (ix2 (row t r) (col t k)) := by
  have e := idx3 t
  refine (congrFun (V_main_arg2 m c) _).trans (congrArg (yB m c) (funext (Fin.forall_fin_two.mpr ⟨Fin.ext ?_, Fin.ext ?_⟩)))
  · blk_simp [e, row]
  · blk_simp [e, col]

/-- A block of the merged array, and the whole array. -/
theorem blk (t : Fin cfg0.N) (r : Fin 256) (k : Fin 1024) : out0_4 (F := Ideal) (iblk m c 0 t) (iblk m c 1 t) (iblk m c 2 t) (iblk m c 3 t) (ix2 r k) =
    out (proj m c) (yA m c) (yB m c) (ix2 (row t r) (col t k)) :=
  (out_m (iblk m c 0 t) (iblk m c 1 t) (iblk m c 2 t) (iblk m c 3 t) (ix2 r k)).trans
    (congr (congr (congr (congrArg gated (part0 m c t r k)) (part2 m c t r k)) (part1 m c t r k)) (part3 m c t r k))

theorem arr : (dats m 0 c).arrAt 4 cfg0.N = out (proj m c) (yA m c) (yB m c) := by
  refine (dats m 0 c).arrAt_eq_of_covers 4 _ (by decide +kernel) fun t hf y => ?_
  have e := idx4 t
  obtain ⟨y0, y1, rfl⟩ : ∃ (y0 : Fin 256) (y1 : Fin 1024), y = ix2 y0 y1 := ⟨_, _, funext (Fin.forall_fin_two.mpr ⟨rfl, rfl⟩)⟩
  refine (congrFun (after0_4 m c t) (ix2 y0 y1)).trans ((blk m c t y0 y1).trans (congrArg (out (proj m c) (yA m c) (yB m c)) ?_))
  refine funext (Fin.forall_fin_two.mpr ⟨Fin.ext ?_, Fin.ext ?_⟩)
  · blk_simp [e, row]
  · blk_simp [e, col]

end

section

open Cert.MergedReferenceIdeal Cert.MergedReferenceIdeal.Read

variable (p : (⟨MergedIdeal.S4096x29696, .bf16⟩ : BufTy).Contents (Elt Ideal)) (ya yb : (⟨MergedIdeal.S4096x4096, .f32⟩ : BufTy).Contents (Elt Ideal))

theorem at21 (r k : Fin 4096) : idx_main_v21 (ix2 r k) = ix3 (0 : Fin 1) r k :=
  funext (Fin.forall_fin_succ.mpr ⟨rfl, Fin.forall_fin_two.mpr ⟨Fin.ext (MergeGrad.flat r k).1, Fin.ext (MergeGrad.flat r k).2⟩⟩)
theorem at2 (r k : Fin 4096) : idx_main_v1 (idx_main_v2 (ix3 (0 : Fin 1) r k)) = ix2 r (colA k) :=
  funext (Fin.forall_fin_two.mpr ⟨rfl, rfl⟩)
theorem at11 (r k : Fin 4096) : idx_main_v1 (idx_main_v11 (ix3 (0 : Fin 1) r k)) = ix2 r (colB k) :=
  funext (Fin.forall_fin_two.mpr ⟨rfl, rfl⟩)
theorem at9 (r k : Fin 4096) : idx_main_v9 (ix3 (0 : Fin 1) r k) = ix2 r k :=
  funext (Fin.forall_fin_two.mpr ⟨rfl, rfl⟩)
theorem at18 (r k : Fin 4096) : idx_main_v18 (ix3 (0 : Fin 1) r k) = ix2 r k :=
  funext (Fin.forall_fin_two.mpr ⟨rfl, rfl⟩)

theorem ref : val_main_v22 (F := Ideal) p ya yb = out p ya yb := by
  funext y
  obtain ⟨r, k, rfl⟩ : ∃ (r k : Fin 4096), y = ix2 r k := ⟨_, _, funext (Fin.forall_fin_two.mpr ⟨rfl, rfl⟩)⟩
  rw [val_main_v22_apply, val_main_v21_apply, at21]
  simp only [val_main_v20_apply, val_main_v19_apply, val_main_v18_apply, val_main_v17_apply, val_main_v16_apply, val_main_v15_apply, val_main_v14_apply,
    val_main_v13_apply, val_main_v12_apply, val_main_v11_apply, val_main_v10_apply, val_main_v9_apply, val_main_v8_apply, val_main_v7_apply, val_main_v6_apply,
    val_main_v5_apply, val_main_v4_apply, val_main_v3_apply, val_main_v2_apply, val_main_v1_apply, val_main_v0_apply, val_main_cst_apply, val_main_cst_0_apply,
    val_main_cst_1_apply, val_main_cst_2_apply]
  rw [at2, at11, at9, at18]
  have ea := MergeGrad.spelt (p (ix2 r (colA k)))
  have eb := MergeGrad.spelt (p (ix2 r (colB k)))
  show _ = (Ideal.logistic (p (ix2 r (colA k))) * ya (ix2 r k) + Ideal.logistic (p (ix2 r (colB k))) * yb (ix2 r k) : EReal)
  rw [← ea, ← eb]
  rfl

end

end Cert.Merging

end
-- ==== Proof.Adam.lean ====
/- The optimiser's update of one entry. -/
module

public import proofs.«01_k».proof.Proof.Consts

@[expose] public section

noncomputable section

namespace Cert.Adam

open Idealize.ShloMosaic

/-- A constant, as the number its word is. -/
abbrev lit (b : BitVec 32) : EReal := (FloatOps.ofBits .f32 b : Ideal .f32)

/-- The running mean of the gradient, and of its square. -/
def mean (g m : EReal) : EReal := lit 0x3F666666#32 * m + lit 0x3DCCCCCD#32 * g
def square (g v : EReal) : EReal := lit 0x3F7FBE77#32 * v + lit 0x3A83126F#32 * (g * g)

/-- The change of the weight. -/
def change (w g m v : EReal) : EReal :=
  lit 0xBA83126F#32 * (Ideal.div (Ideal.div (mean g m) (lit 0x3F26BD02#32)) (Ideal.sqrt (Ideal.div (square g v) (lit 0x3C231ACC#32)) + lit 0x322BCC77#32) + lit 0x3C23D70A#32 * w)

end Cert.Adam

end
-- ==== Proof.UpdateIn.lean ====
/- The optimiser's update of the input projection's columns: what the kernel leaves and what the reference computes. -/
module

public import proofs.«01_k».proof.Proof.Adam
public import proofs.«01_k».proof.Proof.Gen.AdamInIdeal.Value
public import proofs.«01_k».proof.Proof.Gen.AdamInReferenceIdeal.Read
public import Idealize.ShloMosaic.Lib.Pointwise
public import Idealize.ShloMosaic.Lib.Pipeline.ValueKit

@[expose] public section

set_option maxRecDepth 16384

noncomputable section

namespace Cert.UpdateIn

open Idealize.ShloMosaic Idealize.ShloMosaic.TcCoe Idealize.SL.Sem Cert.Adam

/-- The results, as functions of the four arguments. -/
def mOut (g : AdamInIdeal.S4096x7424.Idx → EReal) (m : AdamInIdeal.S1x4096x7424.Idx → EReal) (y : AdamInIdeal.S4096x7424.Idx) : EReal := mean (g y) (m (ix3 (0 : Fin 1) (y 0) (y 1)))
def vOut (g : AdamInIdeal.S4096x7424.Idx → EReal) (v : AdamInIdeal.S1x4096x7424.Idx → EReal) (y : AdamInIdeal.S4096x7424.Idx) : EReal := square (g y) (v (ix3 (0 : Fin 1) (y 0) (y 1)))
def dOut (w : AdamInIdeal.S1x4096x7424.Idx → EReal) (g : AdamInIdeal.S4096x7424.Idx → EReal) (m v : AdamInIdeal.S1x4096x7424.Idx → EReal) (y : AdamInIdeal.S4096x7424.Idx) : EReal :=
  change (w (ix3 (0 : Fin 1) (y 0) (y 1))) (g y) (m (ix3 (0 : Fin 1) (y 0) (y 1))) (v (ix3 (0 : Fin 1) (y 0) (y 1)))

section

open Cert.AdamInIdeal Cert.AdamInIdeal.Gen
open Idealize.ShloMosaic.Pipeline (Dat)

/-! ## What a grid point leaves -/

section

variable (x0 x1 x2 x3 : FVec Ideal S64x7424 .f32) (y : S64x7424.Idx)

theorem out_g : out0_4 (F := Ideal) x0 x1 x2 x3 y = x1 y := by
  unfold out0_4
  simp only [r0_0]
  rw [View.canon_cons_unit_lit _ _ _ (by decide), View.ld_unit_lit _ _ (by decide)]

theorem out_m : out0_6 (F := Ideal) x0 x1 x2 x3 y = mean (x1 y) (x2 y) := by
  unfold out0_6
  simp only [r0_0]
  rw [View.canon_cons_unit_lit _ _ _ (by decide), View.ld_unit_lit _ _ (by decide), View.ld_unit_lit _ _ (by decide)]
  pointwise [k0_pay2, mean, lit]

theorem out_v : out0_7 (F := Ideal) x0 x1 x2 x3 y = square (x1 y) (x3 y) := by
  unfold out0_7
  simp only [r0_0]
  rw [View.canon_cons_unit_lit _ _ _ (by decide), View.ld_unit_lit _ _ (by decide), View.ld_unit_lit _ _ (by decide)]
  pointwise [k0_pay3, square, lit]

theorem out_d : out0_5 (F := Ideal) x0 x1 x2 x3 y = change (x0 y) (x1 y) (x2 y) (x3 y) := by
  unfold out0_5
  simp only [r0_0]
  rw [View.canon_cons_unit_lit _ _ _ (by decide), View.ld_unit_lit _ _ (by decide), View.ld_unit_lit _ _ (by decide), View.ld_unit_lit _ _ (by decide), View.ld_unit_lit _ _ (by decide)]
  pointwise [k0_pay1, k0_pay4, k0_pay5, k0_pay2, k0_pay3, change, mean, square, lit]

end

/-! ## What the kernel leaves -/

variable (m : (ℓ : Loc nD τ AdamInIdeal.sig) → Buf (Elt Ideal) ℓ) (c : Dev nD)

abbrev W : S1x4096x7424.Idx → EReal := m ((c : Thread nD τ).loc main_arg0)
abbrev G : S4096x7424.Idx → EReal := m ((c : Thread nD τ).loc main_arg1)
abbrev M : S1x4096x7424.Idx → EReal := m ((c : Thread nD τ).loc main_arg2)
abbrev U : S1x4096x7424.Idx → EReal := m ((c : Thread nD τ).loc main_arg3)

theorem idx0 : ∀ t : Fin grid0.N, (win0_0).index t = ![t.val, 0] := by decide +kernel
theorem idx1 : ∀ t : Fin grid0.N, (win0_1).index t = ![t.val, 0] := by decide +kernel
theorem idx2 : ∀ t : Fin grid0.N, (win0_2).index t = ![t.val, 0] := by decide +kernel
theorem idx3 : ∀ t : Fin grid0.N, (win0_3).index t = ![t.val, 0] := by decide +kernel
theorem idx4 : ∀ t : Fin grid0.N, (win0_4).index t = ![t.val, 0] := by decide +kernel
theorem idx5 : ∀ t : Fin grid0.N, (win0_5).index t = ![t.val, 0] := by decide +kernel
theorem idx6 : ∀ t : Fin grid0.N, (win0_6).index t = ![t.val, 0] := by decide +kernel
theorem idx7 : ∀ t : Fin grid0.N, (win0_7).index t = ![t.val, 0] := by decide +kernel

/-- Row `r` of point `t`'s block. -/
def row (t : Fin cfg0.N) (r : Fin 64) : Fin 4096 := ⟨t.val * 64 + r.val, by have := lt_of_lt_of_eq t.isLt (show cfg0.N = 64 from N_0); omega⟩

theorem part0 (t : Fin cfg0.N) (r : Fin 64) (k : Fin 7424) : (iblk m c 0 t : Vec Ideal S64x7424 .f32) (ix2 r k) = W m c (ix3 (0 : Fin 1) (row t r) k) := by
  show V m c main_v0 (((cfg0.win 0).blk t).view.emb (ix2 r k)) = _
  have e := idx0 t
  obtain e' : ((cfg0.win 0).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem part1 (t : Fin cfg0.N) (r : Fin 64) (k : Fin 7424) : (iblk m c 1 t : Vec Ideal S64x7424 .f32) (ix2 r k) = G m c (ix2 (row t r) k) := by
  have e := idx1 t
  refine (congrFun (V_main_arg1 m c) _).trans (congrArg (G m c) (funext (Fin.forall_fin_two.mpr ⟨Fin.ext ?_, Fin.ext ?_⟩)))
  · blk_simp [e, row]
  · blk_simp [e]

theorem part2 (t : Fin cfg0.N) (r : Fin 64) (k : Fin 7424) : (iblk m c 2 t : Vec Ideal S64x7424 .f32) (ix2 r k) = M m c (ix3 (0 : Fin 1) (row t r) k) := by
  show V m c main_v1 (((cfg0.win 2).blk t).view.emb (ix2 r k)) = _
  have e := idx2 t
  obtain e' : ((cfg0.win 2).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem part3 (t : Fin cfg0.N) (r : Fin 64) (k : Fin 7424) : (iblk m c 3 t : Vec Ideal S64x7424 .f32) (ix2 r k) = U m c (ix3 (0 : Fin 1) (row t r) k) := by
  show V m c main_v2 (((cfg0.win 3).blk t).view.emb (ix2 r k)) = _
  have e := idx3 t
  obtain e' : ((cfg0.win 3).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem blk_g (t : Fin cfg0.N) (r : Fin 64) (k : Fin 7424) : out0_4 (F := Ideal) (iblk m c 0 t) (iblk m c 1 t) (iblk m c 2 t) (iblk m c 3 t) (ix2 r k) = G m c (ix2 (row t r) k) :=
  (out_g (iblk m c 0 t) (iblk m c 1 t) (iblk m c 2 t) (iblk m c 3 t) (ix2 r k)).trans (part1 m c t r k)

theorem arr_g : (dats m 0 c).arrAt 4 cfg0.N = G m c := by
  refine (dats m 0 c).arrAt_eq_of_covers 4 _ (by decide +kernel) fun t hf y => ?_
  have e := idx4 t
  obtain ⟨y0, y1, rfl⟩ : ∃ (y0 : Fin 64) (y1 : Fin 7424), y = ix2 y0 y1 := ⟨_, _, funext (Fin.forall_fin_two.mpr ⟨rfl, rfl⟩)⟩
  refine (congrFun (after0_4 m c t) (ix2 y0 y1)).trans ((blk_g m c t y0 y1).trans (congrArg (G m c) ?_))
  refine funext (Fin.forall_fin_two.mpr ⟨Fin.ext ?_, Fin.ext ?_⟩)
  · blk_simp [e, row]
  · blk_simp [e]

theorem blk_d (t : Fin cfg0.N) (r : Fin 64) (k : Fin 7424) : out0_5 (F := Ideal) (iblk m c 0 t) (iblk m c 1 t) (iblk m c 2 t) (iblk m c 3 t) (ix2 r k) = dOut (W m c) (G m c) (M m c) (U m c) (ix2 (row t r) k) :=
  (out_d (iblk m c 0 t) (iblk m c 1 t) (iblk m c 2 t) (iblk m c 3 t) (ix2 r k)).trans (congr (congr (congr (congrArg change (part0 m c t r k)) (part1 m c t r k)) (part2 m c t r k)) (part3 m c t r k))

theorem arr_d : (dats m 0 c).arrAt 5 cfg0.N = dOut (W m c) (G m c) (M m c) (U m c) := by
  refine (dats m 0 c).arrAt_eq_of_covers 5 _ (by decide +kernel) fun t hf y => ?_
  have e := idx5 t
  obtain ⟨y0, y1, rfl⟩ : ∃ (y0 : Fin 64) (y1 : Fin 7424), y = ix2 y0 y1 := ⟨_, _, funext (Fin.forall_fin_two.mpr ⟨rfl, rfl⟩)⟩
  refine (congrFun (after0_5 m c t) (ix2 y0 y1)).trans ((blk_d m c t y0 y1).trans (congrArg (dOut (W m c) (G m c) (M m c) (U m c)) ?_))
  refine funext (Fin.forall_fin_two.mpr ⟨Fin.ext ?_, Fin.ext ?_⟩)
  · blk_simp [e, row]
  · blk_simp [e]

theorem blk_m (t : Fin cfg0.N) (r : Fin 64) (k : Fin 7424) : out0_6 (F := Ideal) (iblk m c 0 t) (iblk m c 1 t) (iblk m c 2 t) (iblk m c 3 t) (ix2 r k) = mOut (G m c) (M m c) (ix2 (row t r) k) :=
  (out_m (iblk m c 0 t) (iblk m c 1 t) (iblk m c 2 t) (iblk m c 3 t) (ix2 r k)).trans (congr (congrArg mean (part1 m c t r k)) (part2 m c t r k))

theorem arr_m : (dats m 0 c).arrAt 6 cfg0.N = mOut (G m c) (M m c) := by
  refine (dats m 0 c).arrAt_eq_of_covers 6 _ (by decide +kernel) fun t hf y => ?_
  have e := idx6 t
  obtain ⟨y0, y1, rfl⟩ : ∃ (y0 : Fin 64) (y1 : Fin 7424), y = ix2 y0 y1 := ⟨_, _, funext (Fin.forall_fin_two.mpr ⟨rfl, rfl⟩)⟩
  refine (congrFun (after0_6 m c t) (ix2 y0 y1)).trans ((blk_m m c t y0 y1).trans (congrArg (mOut (G m c) (M m c)) ?_))
  refine funext (Fin.forall_fin_two.mpr ⟨Fin.ext ?_, Fin.ext ?_⟩)
  · blk_simp [e, row]
  · blk_simp [e]

theorem blk_v (t : Fin cfg0.N) (r : Fin 64) (k : Fin 7424) : out0_7 (F := Ideal) (iblk m c 0 t) (iblk m c 1 t) (iblk m c 2 t) (iblk m c 3 t) (ix2 r k) = vOut (G m c) (U m c) (ix2 (row t r) k) :=
  (out_v (iblk m c 0 t) (iblk m c 1 t) (iblk m c 2 t) (iblk m c 3 t) (ix2 r k)).trans (congr (congrArg square (part1 m c t r k)) (part3 m c t r k))

theorem arr_v : (dats m 0 c).arrAt 7 cfg0.N = vOut (G m c) (U m c) := by
  refine (dats m 0 c).arrAt_eq_of_covers 7 _ (by decide +kernel) fun t hf y => ?_
  have e := idx7 t
  obtain ⟨y0, y1, rfl⟩ : ∃ (y0 : Fin 64) (y1 : Fin 7424), y = ix2 y0 y1 := ⟨_, _, funext (Fin.forall_fin_two.mpr ⟨rfl, rfl⟩)⟩
  refine (congrFun (after0_7 m c t) (ix2 y0 y1)).trans ((blk_v m c t y0 y1).trans (congrArg (vOut (G m c) (U m c)) ?_))
  refine funext (Fin.forall_fin_two.mpr ⟨Fin.ext ?_, Fin.ext ?_⟩)
  · blk_simp [e, row]
  · blk_simp [e]

end

/-! ## What the reference computes -/

section

open Cert.AdamInReferenceIdeal Cert.AdamInReferenceIdeal.Read

variable (w m v : (⟨AdamInIdeal.S1x4096x7424, .f32⟩ : BufTy).Contents (Elt Ideal)) (g : (⟨AdamInIdeal.S4096x7424, .f32⟩ : BufTy).Contents (Elt Ideal))

theorem flat (r : Fin 4096) (k : Fin 7424) : (r.val * 7424 + k.val) / 7424 % 4096 = r.val ∧ (r.val * 7424 + k.val) % 7424 = k.val := by
  omega

theorem at26 (r : Fin 4096) (k : Fin 7424) : idx_main_v26 (ix2 r k) = ix3 (0 : Fin 1) r k :=
  funext (Fin.forall_fin_succ.mpr ⟨rfl, Fin.forall_fin_two.mpr ⟨Fin.ext (flat r k).1, Fin.ext (flat r k).2⟩⟩)
theorem at27 (r : Fin 4096) (k : Fin 7424) : idx_main_v27 (ix2 r k) = ix3 (0 : Fin 1) r k :=
  funext (Fin.forall_fin_succ.mpr ⟨rfl, Fin.forall_fin_two.mpr ⟨Fin.ext (flat r k).1, Fin.ext (flat r k).2⟩⟩)
theorem at28 (r : Fin 4096) (k : Fin 7424) : idx_main_v28 (ix2 r k) = ix3 (0 : Fin 1) r k :=
  funext (Fin.forall_fin_succ.mpr ⟨rfl, Fin.forall_fin_two.mpr ⟨Fin.ext (flat r k).1, Fin.ext (flat r k).2⟩⟩)
theorem at29 (r : Fin 4096) (k : Fin 7424) : idx_main_v29 (ix2 r k) = ix3 (0 : Fin 1) r k :=
  funext (Fin.forall_fin_succ.mpr ⟨rfl, Fin.forall_fin_two.mpr ⟨Fin.ext (flat r k).1, Fin.ext (flat r k).2⟩⟩)
theorem at0 (r : Fin 4096) (k : Fin 7424) : idx_main_v0 (ix3 (0 : Fin 1) r k) = ix2 r k :=
  funext (Fin.forall_fin_two.mpr ⟨rfl, rfl⟩)
theorem at25 (r : Fin 4096) (k : Fin 7424) : idx_main_v25 (ix3 (0 : Fin 1) r k) = ix2 r k :=
  funext (Fin.forall_fin_two.mpr ⟨rfl, rfl⟩)

theorem ref_g : val_main_v26 (F := Ideal) g = fun y => g y := by
  funext y
  obtain ⟨r, k, rfl⟩ : ∃ (r : Fin 4096) (k : Fin 7424), y = ix2 r k := ⟨_, _, funext (Fin.forall_fin_two.mpr ⟨rfl, rfl⟩)⟩
  rw [val_main_v26_apply, at26]
  simp only [val_main_v25_apply, at25]

theorem ref_d : val_main_v27 (F := Ideal) w g m v = dOut w g m v := by
  funext y
  obtain ⟨r, k, rfl⟩ : ∃ (r : Fin 4096) (k : Fin 7424), y = ix2 r k := ⟨_, _, funext (Fin.forall_fin_two.mpr ⟨rfl, rfl⟩)⟩
  rw [val_main_v27_apply, at27]
  simp only [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_cst_3_apply, val_main_cst_4_apply, val_main_cst_5_apply, val_main_cst_6_apply, val_main_cst_7_apply, val_main_cst_apply, val_main_cst_0_apply, val_main_cst_1_apply, val_main_cst_2_apply, at0]
  rfl

theorem ref_m : val_main_v28 (F := Ideal) g m = mOut g m := by
  funext y
  obtain ⟨r, k, rfl⟩ : ∃ (r : Fin 4096) (k : Fin 7424), y = ix2 r k := ⟨_, _, funext (Fin.forall_fin_two.mpr ⟨rfl, rfl⟩)⟩
  rw [val_main_v28_apply, at28]
  simp only [val_main_v5_apply, val_main_v2_apply, val_main_v1_apply, val_main_v4_apply, val_main_v3_apply, val_main_v0_apply, val_main_cst_apply, val_main_cst_0_apply, at0]
  rfl

theorem ref_v : val_main_v29 (F := Ideal) g v = vOut g v := by
  funext y
  obtain ⟨r, k, rfl⟩ : ∃ (r : Fin 4096) (k : Fin 7424), y = ix2 r k := ⟨_, _, funext (Fin.forall_fin_two.mpr ⟨rfl, rfl⟩)⟩
  rw [val_main_v29_apply, at29]
  simp only [val_main_v11_apply, val_main_v7_apply, val_main_v6_apply, val_main_v10_apply, val_main_v9_apply, val_main_v8_apply, val_main_v0_apply, val_main_cst_1_apply, val_main_cst_2_apply, at0]
  rfl

end

end Cert.UpdateIn

end
-- ==== Proof.UpdateUp.lean ====
/- The optimiser's update of the up projection's rows: what the kernel leaves and what the reference computes. -/
module

public import proofs.«01_k».proof.Proof.Adam
public import proofs.«01_k».proof.Proof.Gen.AdamUpIdeal.Value
public import proofs.«01_k».proof.Proof.Gen.AdamUpReferenceIdeal.Read
public import Idealize.ShloMosaic.Lib.Pointwise
public import Idealize.ShloMosaic.Lib.Pipeline.ValueKit

@[expose] public section

set_option maxRecDepth 16384

noncomputable section

namespace Cert.UpdateUp

open Idealize.ShloMosaic Idealize.ShloMosaic.TcCoe Idealize.SL.Sem Cert.Adam

/-- The results, as functions of the four arguments. -/
def mOut (g : AdamUpIdeal.S1024x4096.Idx → EReal) (m : AdamUpIdeal.S1x1024x4096.Idx → EReal) (y : AdamUpIdeal.S1024x4096.Idx) : EReal := mean (g y) (m (ix3 (0 : Fin 1) (y 0) (y 1)))
def vOut (g : AdamUpIdeal.S1024x4096.Idx → EReal) (v : AdamUpIdeal.S1x1024x4096.Idx → EReal) (y : AdamUpIdeal.S1024x4096.Idx) : EReal := square (g y) (v (ix3 (0 : Fin 1) (y 0) (y 1)))
def dOut (w : AdamUpIdeal.S1x1024x4096.Idx → EReal) (g : AdamUpIdeal.S1024x4096.Idx → EReal) (m v : AdamUpIdeal.S1x1024x4096.Idx → EReal) (y : AdamUpIdeal.S1024x4096.Idx) : EReal :=
  change (w (ix3 (0 : Fin 1) (y 0) (y 1))) (g y) (m (ix3 (0 : Fin 1) (y 0) (y 1))) (v (ix3 (0 : Fin 1) (y 0) (y 1)))

section

open Cert.AdamUpIdeal Cert.AdamUpIdeal.Gen
open Idealize.ShloMosaic.Pipeline (Dat)

/-! ## What a grid point leaves -/

section

variable (x0 x1 x2 x3 : FVec Ideal S64x4096 .f32) (y : S64x4096.Idx)

theorem out_g : out0_4 (F := Ideal) x0 x1 x2 x3 y = x1 y := by
  unfold out0_4
  simp only [r0_0]
  rw [View.canon_cons_unit_lit _ _ _ (by decide), View.ld_unit_lit _ _ (by decide)]

theorem out_m : out0_6 (F := Ideal) x0 x1 x2 x3 y = mean (x1 y) (x2 y) := by
  unfold out0_6
  simp only [r0_0]
  rw [View.canon_cons_unit_lit _ _ _ (by decide), View.ld_unit_lit _ _ (by decide), View.ld_unit_lit _ _ (by decide)]
  pointwise [k0_pay2, mean, lit]

theorem out_v : out0_7 (F := Ideal) x0 x1 x2 x3 y = square (x1 y) (x3 y) := by
  unfold out0_7
  simp only [r0_0]
  rw [View.canon_cons_unit_lit _ _ _ (by decide), View.ld_unit_lit _ _ (by decide), View.ld_unit_lit _ _ (by decide)]
  pointwise [k0_pay3, square, lit]

theorem out_d : out0_5 (F := Ideal) x0 x1 x2 x3 y = change (x0 y) (x1 y) (x2 y) (x3 y) := by
  unfold out0_5
  simp only [r0_0]
  rw [View.canon_cons_unit_lit _ _ _ (by decide), View.ld_unit_lit _ _ (by decide), View.ld_unit_lit _ _ (by decide), View.ld_unit_lit _ _ (by decide), View.ld_unit_lit _ _ (by decide)]
  pointwise [k0_pay1, k0_pay4, k0_pay5, k0_pay2, k0_pay3, change, mean, square, lit]

end

/-! ## What the kernel leaves -/

variable (m : (ℓ : Loc nD τ AdamUpIdeal.sig) → Buf (Elt Ideal) ℓ) (c : Dev nD)

abbrev W : S1x1024x4096.Idx → EReal := m ((c : Thread nD τ).loc main_arg0)
abbrev G : S1024x4096.Idx → EReal := m ((c : Thread nD τ).loc main_arg1)
abbrev M : S1x1024x4096.Idx → EReal := m ((c : Thread nD τ).loc main_arg2)
abbrev U : S1x1024x4096.Idx → EReal := m ((c : Thread nD τ).loc main_arg3)

theorem idx0 : ∀ t : Fin grid0.N, (win0_0).index t = ![t.val, 0] := by decide +kernel
theorem idx1 : ∀ t : Fin grid0.N, (win0_1).index t = ![t.val, 0] := by decide +kernel
theorem idx2 : ∀ t : Fin grid0.N, (win0_2).index t = ![t.val, 0] := by decide +kernel
theorem idx3 : ∀ t : Fin grid0.N, (win0_3).index t = ![t.val, 0] := by decide +kernel
theorem idx4 : ∀ t : Fin grid0.N, (win0_4).index t = ![t.val, 0] := by decide +kernel
theorem idx5 : ∀ t : Fin grid0.N, (win0_5).index t = ![t.val, 0] := by decide +kernel
theorem idx6 : ∀ t : Fin grid0.N, (win0_6).index t = ![t.val, 0] := by decide +kernel
theorem idx7 : ∀ t : Fin grid0.N, (win0_7).index t = ![t.val, 0] := by decide +kernel

/-- Row `r` of point `t`'s block. -/
def row (t : Fin cfg0.N) (r : Fin 64) : Fin 1024 := ⟨t.val * 64 + r.val, by have := lt_of_lt_of_eq t.isLt (show cfg0.N = 16 from N_0); omega⟩

theorem part0 (t : Fin cfg0.N) (r : Fin 64) (k : Fin 4096) : (iblk m c 0 t : Vec Ideal S64x4096 .f32) (ix2 r k) = W m c (ix3 (0 : Fin 1) (row t r) k) := by
  show V m c main_v0 (((cfg0.win 0).blk t).view.emb (ix2 r k)) = _
  have e := idx0 t
  obtain e' : ((cfg0.win 0).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem part1 (t : Fin cfg0.N) (r : Fin 64) (k : Fin 4096) : (iblk m c 1 t : Vec Ideal S64x4096 .f32) (ix2 r k) = G m c (ix2 (row t r) k) := by
  have e := idx1 t
  refine (congrFun (V_main_arg1 m c) _).trans (congrArg (G m c) (funext (Fin.forall_fin_two.mpr ⟨Fin.ext ?_, Fin.ext ?_⟩)))
  · blk_simp [e, row]
  · blk_simp [e]

theorem part2 (t : Fin cfg0.N) (r : Fin 64) (k : Fin 4096) : (iblk m c 2 t : Vec Ideal S64x4096 .f32) (ix2 r k) = M m c (ix3 (0 : Fin 1) (row t r) k) := by
  show V m c main_v1 (((cfg0.win 2).blk t).view.emb (ix2 r k)) = _
  have e := idx2 t
  obtain e' : ((cfg0.win 2).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem part3 (t : Fin cfg0.N) (r : Fin 64) (k : Fin 4096) : (iblk m c 3 t : Vec Ideal S64x4096 .f32) (ix2 r k) = U m c (ix3 (0 : Fin 1) (row t r) k) := by
  show V m c main_v2 (((cfg0.win 3).blk t).view.emb (ix2 r k)) = _
  have e := idx3 t
  obtain e' : ((cfg0.win 3).blk t).view.emb (ix2 r k) = ix2 (row t r) k := by
    refine funext (Fin.forall_fin_two.mpr ⟨Fin.ext ?_, Fin.ext ?_⟩)
    · blk_simp [e, row]
    · blk_simp [e]
  rw [e']
  entry_read
  pointwise

theorem blk_g (t : Fin cfg0.N) (r : Fin 64) (k : Fin 4096) : out0_4 (F := Ideal) (iblk m c 0 t) (iblk m c 1 t) (iblk m c 2 t) (iblk m c 3 t) (ix2 r k) = G m c (ix2 (row t r) k) :=
  (out_g (iblk m c 0 t) (iblk m c 1 t) (iblk m c 2 t) (iblk m c 3 t) (ix2 r k)).trans (part1 m c t r k)

theorem arr_g : (dats m 0 c).arrAt 4 cfg0.N = G m c := by
  refine (dats m 0 c).arrAt_eq_of_covers 4 _ (by decide +kernel) fun t hf y => ?_
  have e := idx4 t
  obtain ⟨y0, y1, rfl⟩ : ∃ (y0 : Fin 64) (y1 : Fin 4096), y = ix2 y0 y1 := ⟨_, _, funext (Fin.forall_fin_two.mpr ⟨rfl, rfl⟩)⟩
  refine (congrFun (after0_4 m c t) (ix2 y0 y1)).trans ((blk_g m c t y0 y1).trans (congrArg (G m c) ?_))
  refine funext (Fin.forall_fin_two.mpr ⟨Fin.ext ?_, Fin.ext ?_⟩)
  · blk_simp [e, row]
  · blk_simp [e]

theorem blk_d (t : Fin cfg0.N) (r : Fin 64) (k : Fin 4096) : out0_5 (F := Ideal) (iblk m c 0 t) (iblk m c 1 t) (iblk m c 2 t) (iblk m c 3 t) (ix2 r k) = dOut (W m c) (G m c) (M m c) (U m c) (ix2 (row t r) k) :=
  (out_d (iblk m c 0 t) (iblk m c 1 t) (iblk m c 2 t) (iblk m c 3 t) (ix2 r k)).trans (congr (congr (congr (congrArg change (part0 m c t r k)) (part1 m c t r k)) (part2 m c t r k)) (part3 m c t r k))

theorem arr_d : (dats m 0 c).arrAt 5 cfg0.N = dOut (W m c) (G m c) (M m c) (U m c) := by
  refine (dats m 0 c).arrAt_eq_of_covers 5 _ (by decide +kernel) fun t hf y => ?_
  have e := idx5 t
  obtain ⟨y0, y1, rfl⟩ : ∃ (y0 : Fin 64) (y1 : Fin 4096), y = ix2 y0 y1 := ⟨_, _, funext (Fin.forall_fin_two.mpr ⟨rfl, rfl⟩)⟩
  refine (congrFun (after0_5 m c t) (ix2 y0 y1)).trans ((blk_d m c t y0 y1).trans (congrArg (dOut (W m c) (G m c) (M m c) (U m c)) ?_))
  refine funext (Fin.forall_fin_two.mpr ⟨Fin.ext ?_, Fin.ext ?_⟩)
  · blk_simp [e, row]
  · blk_simp [e]

theorem blk_m (t : Fin cfg0.N) (r : Fin 64) (k : Fin 4096) : out0_6 (F := Ideal) (iblk m c 0 t) (iblk m c 1 t) (iblk m c 2 t) (iblk m c 3 t) (ix2 r k) = mOut (G m c) (M m c) (ix2 (row t r) k) :=
  (out_m (iblk m c 0 t) (iblk m c 1 t) (iblk m c 2 t) (iblk m c 3 t) (ix2 r k)).trans (congr (congrArg mean (part1 m c t r k)) (part2 m c t r k))

theorem arr_m : (dats m 0 c).arrAt 6 cfg0.N = mOut (G m c) (M m c) := by
  refine (dats m 0 c).arrAt_eq_of_covers 6 _ (by decide +kernel) fun t hf y => ?_
  have e := idx6 t
  obtain ⟨y0, y1, rfl⟩ : ∃ (y0 : Fin 64) (y1 : Fin 4096), y = ix2 y0 y1 := ⟨_, _, funext (Fin.forall_fin_two.mpr ⟨rfl, rfl⟩)⟩
  refine (congrFun (after0_6 m c t) (ix2 y0 y1)).trans ((blk_m m c t y0 y1).trans (congrArg (mOut (G m c) (M m c)) ?_))
  refine funext (Fin.forall_fin_two.mpr ⟨Fin.ext ?_, Fin.ext ?_⟩)
  · blk_simp [e, row]
  · blk_simp [e]

theorem blk_v (t : Fin cfg0.N) (r : Fin 64) (k : Fin 4096) : out0_7 (F := Ideal) (iblk m c 0 t) (iblk m c 1 t) (iblk m c 2 t) (iblk m c 3 t) (ix2 r k) = vOut (G m c) (U m c) (ix2 (row t r) k) :=
  (out_v (iblk m c 0 t) (iblk m c 1 t) (iblk m c 2 t) (iblk m c 3 t) (ix2 r k)).trans (congr (congrArg square (part1 m c t r k)) (part3 m c t r k))

theorem arr_v : (dats m 0 c).arrAt 7 cfg0.N = vOut (G m c) (U m c) := by
  refine (dats m 0 c).arrAt_eq_of_covers 7 _ (by decide +kernel) fun t hf y => ?_
  have e := idx7 t
  obtain ⟨y0, y1, rfl⟩ : ∃ (y0 : Fin 64) (y1 : Fin 4096), y = ix2 y0 y1 := ⟨_, _, funext (Fin.forall_fin_two.mpr ⟨rfl, rfl⟩)⟩
  refine (congrFun (after0_7 m c t) (ix2 y0 y1)).trans ((blk_v m c t y0 y1).trans (congrArg (vOut (G m c) (U m c)) ?_))
  refine funext (Fin.forall_fin_two.mpr ⟨Fin.ext ?_, Fin.ext ?_⟩)
  · blk_simp [e, row]
  · blk_simp [e]

end

/-! ## What the reference computes -/

section

open Cert.AdamUpReferenceIdeal Cert.AdamUpReferenceIdeal.Read

variable (w m v : (⟨AdamUpIdeal.S1x1024x4096, .f32⟩ : BufTy).Contents (Elt Ideal)) (g : (⟨AdamUpIdeal.S1024x4096, .f32⟩ : BufTy).Contents (Elt Ideal))

theorem flat (r : Fin 1024) (k : Fin 4096) : (r.val * 4096 + k.val) / 4096 % 1024 = r.val ∧ (r.val * 4096 + k.val) % 4096 = k.val := by
  omega

theorem at26 (r : Fin 1024) (k : Fin 4096) : idx_main_v26 (ix2 r k) = ix3 (0 : Fin 1) r k :=
  funext (Fin.forall_fin_succ.mpr ⟨rfl, Fin.forall_fin_two.mpr ⟨Fin.ext (flat r k).1, Fin.ext (flat r k).2⟩⟩)
theorem at27 (r : Fin 1024) (k : Fin 4096) : idx_main_v27 (ix2 r k) = ix3 (0 : Fin 1) r k :=
  funext (Fin.forall_fin_succ.mpr ⟨rfl, Fin.forall_fin_two.mpr ⟨Fin.ext (flat r k).1, Fin.ext (flat r k).2⟩⟩)
theorem at28 (r : Fin 1024) (k : Fin 4096) : idx_main_v28 (ix2 r k) = ix3 (0 : Fin 1) r k :=
  funext (Fin.forall_fin_succ.mpr ⟨rfl, Fin.forall_fin_two.mpr ⟨Fin.ext (flat r k).1, Fin.ext (flat r k).2⟩⟩)
theorem at29 (r : Fin 1024) (k : Fin 4096) : idx_main_v29 (ix2 r k) = ix3 (0 : Fin 1) r k :=
  funext (Fin.forall_fin_succ.mpr ⟨rfl, Fin.forall_fin_two.mpr ⟨Fin.ext (flat r k).1, Fin.ext (flat r k).2⟩⟩)
theorem at0 (r : Fin 1024) (k : Fin 4096) : idx_main_v0 (ix3 (0 : Fin 1) r k) = ix2 r k :=
  funext (Fin.forall_fin_two.mpr ⟨rfl, rfl⟩)
theorem at25 (r : Fin 1024) (k : Fin 4096) : idx_main_v25 (ix3 (0 : Fin 1) r k) = ix2 r k :=
  funext (Fin.forall_fin_two.mpr ⟨rfl, rfl⟩)

theorem ref_g : val_main_v26 (F := Ideal) g = fun y => g y := by
  funext y
  obtain ⟨r, k, rfl⟩ : ∃ (r : Fin 1024) (k : Fin 4096), y = ix2 r k := ⟨_, _, funext (Fin.forall_fin_two.mpr ⟨rfl, rfl⟩)⟩
  rw [val_main_v26_apply, at26]
  simp only [val_main_v25_apply, at25]

theorem ref_d : val_main_v27 (F := Ideal) w g m v = dOut w g m v := by
  funext y
  obtain ⟨r, k, rfl⟩ : ∃ (r : Fin 1024) (k : Fin 4096), y = ix2 r k := ⟨_, _, funext (Fin.forall_fin_two.mpr ⟨rfl, rfl⟩)⟩
  rw [val_main_v27_apply, at27]
  simp only [val_main_v24_apply, val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v0_apply, val_main_v1_apply, val_main_v2_apply, val_main_v3_apply, val_main_v4_apply, val_main_v5_apply, val_main_v6_apply, val_main_v7_apply, val_main_v8_apply, val_main_v9_apply, val_main_v10_apply, val_main_v11_apply, val_main_cst_3_apply, val_main_cst_4_apply, val_main_cst_5_apply, val_main_cst_6_apply, val_main_cst_7_apply, val_main_cst_apply, val_main_cst_0_apply, val_main_cst_1_apply, val_main_cst_2_apply, at0]
  rfl

theorem ref_m : val_main_v28 (F := Ideal) g m = mOut g m := by
  funext y
  obtain ⟨r, k, rfl⟩ : ∃ (r : Fin 1024) (k : Fin 4096), y = ix2 r k := ⟨_, _, funext (Fin.forall_fin_two.mpr ⟨rfl, rfl⟩)⟩
  rw [val_main_v28_apply, at28]
  simp only [val_main_v5_apply, val_main_v2_apply, val_main_v1_apply, val_main_v4_apply, val_main_v3_apply, val_main_v0_apply, val_main_cst_apply, val_main_cst_0_apply, at0]
  rfl

theorem ref_v : val_main_v29 (F := Ideal) g v = vOut g v := by
  funext y
  obtain ⟨r, k, rfl⟩ : ∃ (r : Fin 1024) (k : Fin 4096), y = ix2 r k := ⟨_, _, funext (Fin.forall_fin_two.mpr ⟨rfl, rfl⟩)⟩
  rw [val_main_v29_apply, at29]
  simp only [val_main_v11_apply, val_main_v7_apply, val_main_v6_apply, val_main_v10_apply, val_main_v9_apply, val_main_v8_apply, val_main_v0_apply, val_main_cst_1_apply, val_main_cst_2_apply, at0]
  rfl

end

end Cert.UpdateUp

end
-- ==== Proof.UpdateSmall.lean ====
/- The optimiser's update of the packed small parameters: what the kernel leaves and what the reference computes. -/
module

public import proofs.«01_k».proof.Proof.Adam
public import proofs.«01_k».proof.Proof.Gen.AdamSmallIdeal.Value
public import proofs.«01_k».proof.Proof.Gen.AdamSmallReferenceIdeal.Read
public import Idealize.ShloMosaic.Lib.Pointwise
public import Idealize.ShloMosaic.Lib.Pipeline.ValueKit

@[expose] public section

set_option maxRecDepth 16384

noncomputable section

namespace Cert.UpdateSmall

open Idealize.ShloMosaic Idealize.ShloMosaic.TcCoe Idealize.SL.Sem Cert.Adam

/-- The results, as functions of the four arguments. -/
def mOut (g : AdamSmallIdeal.S1176x128.Idx → EReal) (m : AdamSmallIdeal.S1176x128.Idx → EReal) (y : AdamSmallIdeal.S1176x128.Idx) : EReal := mean (g y) (m y)
def vOut (g : AdamSmallIdeal.S1176x128.Idx → EReal) (v : AdamSmallIdeal.S1176x128.Idx → EReal) (y : AdamSmallIdeal.S1176x128.Idx) : EReal := square (g y) (v y)
def dOut (w : AdamSmallIdeal.S1176x128.Idx → EReal) (g : AdamSmallIdeal.S1176x128.Idx → EReal) (m v : AdamSmallIdeal.S1176x128.Idx → EReal) (y : AdamSmallIdeal.S1176x128.Idx) : EReal :=
  change (w y) (g y) (m y) (v y)

section

open Cert.AdamSmallIdeal Cert.AdamSmallIdeal.Gen
open Idealize.ShloMosaic.Pipeline (Dat)

/-! ## What a grid point leaves -/

section

variable (x0 x1 x2 x3 : FVec Ideal S1176x128 .f32) (y : S1176x128.Idx)

theorem out_g : out0_4 (F := Ideal) x0 x1 x2 x3 y = x1 y := by
  unfold out0_4
  simp only [r0_0]
  rw [View.canon_cons_unit_lit _ _ _ (by decide), View.ld_unit_lit _ _ (by decide)]

theorem out_m : out0_6 (F := Ideal) x0 x1 x2 x3 y = mean (x1 y) (x2 y) := by
  unfold out0_6
  simp only [r0_0]
  rw [View.canon_cons_unit_lit _ _ _ (by decide), View.ld_unit_lit _ _ (by decide), View.ld_unit_lit _ _ (by decide)]
  pointwise [k0_pay1, mean, lit]

theorem out_v : out0_7 (F := Ideal) x0 x1 x2 x3 y = square (x1 y) (x3 y) := by
  unfold out0_7
  simp only [r0_0]
  rw [View.canon_cons_unit_lit _ _ _ (by decide), View.ld_unit_lit _ _ (by decide), View.ld_unit_lit _ _ (by decide)]
  pointwise [k0_pay2, square, lit]

theorem out_d : out0_5 (F := Ideal) x0 x1 x2 x3 y = change (x0 y) (x1 y) (x2 y) (x3 y) := by
  unfold out0_5
  simp only [r0_0]
  rw [View.canon_cons_unit_lit _ _ _ (by decide), View.ld_unit_lit _ _ (by decide), View.ld_unit_lit _ _ (by decide), View.ld_unit_lit _ _ (by decide), View.ld_unit_lit _ _ (by decide)]
  pointwise [k0_pay3, k0_pay1, k0_pay2, change, mean, square, lit]

end

/-! ## What the kernel leaves -/

variable (m : (ℓ : Loc nD τ AdamSmallIdeal.sig) → Buf (Elt Ideal) ℓ) (c : Dev nD)

abbrev W : S1176x128.Idx → EReal := m ((c : Thread nD τ).loc main_arg0)
abbrev G : S1176x128.Idx → EReal := m ((c : Thread nD τ).loc main_arg1)
abbrev M : S1176x128.Idx → EReal := m ((c : Thread nD τ).loc main_arg2)
abbrev U : S1176x128.Idx → EReal := m ((c : Thread nD τ).loc main_arg3)

theorem idx0 : ∀ t : Fin grid0.N, (win0_0).index t = ![0, 0] := by decide +kernel
theorem idx1 : ∀ t : Fin grid0.N, (win0_1).index t = ![0, 0] := by decide +kernel
theorem idx2 : ∀ t : Fin grid0.N, (win0_2).index t = ![0, 0] := by decide +kernel
theorem idx3 : ∀ t : Fin grid0.N, (win0_3).index t = ![0, 0] := by decide +kernel
theorem idx4 : ∀ t : Fin grid0.N, (win0_4).index t = ![0, 0] := by decide +kernel
theorem idx5 : ∀ t : Fin grid0.N, (win0_5).index t = ![0, 0] := by decide +kernel
theorem idx6 : ∀ t : Fin grid0.N, (win0_6).index t = ![0, 0] := by decide +kernel
theorem idx7 : ∀ t : Fin grid0.N, (win0_7).index t = ![0, 0] := by decide +kernel

/-- Row `r` of point `t`'s block. -/
def row (_t : Fin cfg0.N) (r : Fin 1176) : Fin 1176 := ⟨r.val, r.isLt⟩

theorem part0 (t : Fin cfg0.N) (r : Fin 1176) (k : Fin 128) : (iblk m c 0 t : Vec Ideal S1176x128 .f32) (ix2 r k) = W m c (ix2 (row t r) k) := by
  have e := idx0 t
  refine (congrFun (V_main_arg0 m c) _).trans (congrArg (W m c) (funext (Fin.forall_fin_two.mpr ⟨Fin.ext ?_, Fin.ext ?_⟩)))
  · blk_simp [e, row]
  · blk_simp [e]

theorem part1 (t : Fin cfg0.N) (r : Fin 1176) (k : Fin 128) : (iblk m c 1 t : Vec Ideal S1176x128 .f32) (ix2 r k) = G m c (ix2 (row t r) k) := by
  have e := idx1 t
  refine (congrFun (V_main_arg1 m c) _).trans (congrArg (G m c) (funext (Fin.forall_fin_two.mpr ⟨Fin.ext ?_, Fin.ext ?_⟩)))
  · blk_simp [e, row]
  · blk_simp [e]

theorem part2 (t : Fin cfg0.N) (r : Fin 1176) (k : Fin 128) : (iblk m c 2 t : Vec Ideal S1176x128 .f32) (ix2 r k) = M m c (ix2 (row t r) k) := by
  have e := idx2 t
  refine (congrFun (V_main_arg2 m c) _).trans (congrArg (M m c) (funext (Fin.forall_fin_two.mpr ⟨Fin.ext ?_, Fin.ext ?_⟩)))
  · blk_simp [e, row]
  · blk_simp [e]

theorem part3 (t : Fin cfg0.N) (r : Fin 1176) (k : Fin 128) : (iblk m c 3 t : Vec Ideal S1176x128 .f32) (ix2 r k) = U m c (ix2 (row t r) k) := by
  have e := idx3 t
  refine (congrFun (V_main_arg3 m c) _).trans (congrArg (U m c) (funext (Fin.forall_fin_two.mpr ⟨Fin.ext ?_, Fin.ext ?_⟩)))
  · blk_simp [e, row]
  · blk_simp [e]

theorem blk_g (t : Fin cfg0.N) (r : Fin 1176) (k : Fin 128) : out0_4 (F := Ideal) (iblk m c 0 t) (iblk m c 1 t) (iblk m c 2 t) (iblk m c 3 t) (ix2 r k) = G m c (ix2 (row t r) k) :=
  (out_g (iblk m c 0 t) (iblk m c 1 t) (iblk m c 2 t) (iblk m c 3 t) (ix2 r k)).trans (part1 m c t r k)

theorem arr_g : (dats m 0 c).arrAt 4 cfg0.N = G m c := by
  refine (dats m 0 c).arrAt_eq_of_covers 4 _ (by decide +kernel) fun t hf y => ?_
  have e := idx4 t
  obtain ⟨y0, y1, rfl⟩ : ∃ (y0 : Fin 1176) (y1 : Fin 128), y = ix2 y0 y1 := ⟨_, _, funext (Fin.forall_fin_two.mpr ⟨rfl, rfl⟩)⟩
  refine (congrFun (after0_4 m c t) (ix2 y0 y1)).trans ((blk_g m c t y0 y1).trans (congrArg (G m c) ?_))
  refine funext (Fin.forall_fin_two.mpr ⟨Fin.ext ?_, Fin.ext ?_⟩)
  · blk_simp [e, row]
  · blk_simp [e]

theorem blk_d (t : Fin cfg0.N) (r : Fin 1176) (k : Fin 128) : out0_5 (F := Ideal) (iblk m c 0 t) (iblk m c 1 t) (iblk m c 2 t) (iblk m c 3 t) (ix2 r k) = dOut (W m c) (G m c) (M m c) (U m c) (ix2 (row t r) k) :=
  (out_d (iblk m c 0 t) (iblk m c 1 t) (iblk m c 2 t) (iblk m c 3 t) (ix2 r k)).trans (congr (congr (congr (congrArg change (part0 m c t r k)) (part1 m c t r k)) (part2 m c t r k)) (part3 m c t r k))

theorem arr_d : (dats m 0 c).arrAt 5 cfg0.N = dOut (W m c) (G m c) (M m c) (U m c) := by
  refine (dats m 0 c).arrAt_eq_of_covers 5 _ (by decide +kernel) fun t hf y => ?_
  have e := idx5 t
  obtain ⟨y0, y1, rfl⟩ : ∃ (y0 : Fin 1176) (y1 : Fin 128), y = ix2 y0 y1 := ⟨_, _, funext (Fin.forall_fin_two.mpr ⟨rfl, rfl⟩)⟩
  refine (congrFun (after0_5 m c t) (ix2 y0 y1)).trans ((blk_d m c t y0 y1).trans (congrArg (dOut (W m c) (G m c) (M m c) (U m c)) ?_))
  refine funext (Fin.forall_fin_two.mpr ⟨Fin.ext ?_, Fin.ext ?_⟩)
  · blk_simp [e, row]
  · blk_simp [e]

theorem blk_m (t : Fin cfg0.N) (r : Fin 1176) (k : Fin 128) : out0_6 (F := Ideal) (iblk m c 0 t) (iblk m c 1 t) (iblk m c 2 t) (iblk m c 3 t) (ix2 r k) = mOut (G m c) (M m c) (ix2 (row t r) k) :=
  (out_m (iblk m c 0 t) (iblk m c 1 t) (iblk m c 2 t) (iblk m c 3 t) (ix2 r k)).trans (congr (congrArg mean (part1 m c t r k)) (part2 m c t r k))

theorem arr_m : (dats m 0 c).arrAt 6 cfg0.N = mOut (G m c) (M m c) := by
  refine (dats m 0 c).arrAt_eq_of_covers 6 _ (by decide +kernel) fun t hf y => ?_
  have e := idx6 t
  obtain ⟨y0, y1, rfl⟩ : ∃ (y0 : Fin 1176) (y1 : Fin 128), y = ix2 y0 y1 := ⟨_, _, funext (Fin.forall_fin_two.mpr ⟨rfl, rfl⟩)⟩
  refine (congrFun (after0_6 m c t) (ix2 y0 y1)).trans ((blk_m m c t y0 y1).trans (congrArg (mOut (G m c) (M m c)) ?_))
  refine funext (Fin.forall_fin_two.mpr ⟨Fin.ext ?_, Fin.ext ?_⟩)
  · blk_simp [e, row]
  · blk_simp [e]

theorem blk_v (t : Fin cfg0.N) (r : Fin 1176) (k : Fin 128) : out0_7 (F := Ideal) (iblk m c 0 t) (iblk m c 1 t) (iblk m c 2 t) (iblk m c 3 t) (ix2 r k) = vOut (G m c) (U m c) (ix2 (row t r) k) :=
  (out_v (iblk m c 0 t) (iblk m c 1 t) (iblk m c 2 t) (iblk m c 3 t) (ix2 r k)).trans (congr (congrArg square (part1 m c t r k)) (part3 m c t r k))

theorem arr_v : (dats m 0 c).arrAt 7 cfg0.N = vOut (G m c) (U m c) := by
  refine (dats m 0 c).arrAt_eq_of_covers 7 _ (by decide +kernel) fun t hf y => ?_
  have e := idx7 t
  obtain ⟨y0, y1, rfl⟩ : ∃ (y0 : Fin 1176) (y1 : Fin 128), y = ix2 y0 y1 := ⟨_, _, funext (Fin.forall_fin_two.mpr ⟨rfl, rfl⟩)⟩
  refine (congrFun (after0_7 m c t) (ix2 y0 y1)).trans ((blk_v m c t y0 y1).trans (congrArg (vOut (G m c) (U m c)) ?_))
  refine funext (Fin.forall_fin_two.mpr ⟨Fin.ext ?_, Fin.ext ?_⟩)
  · blk_simp [e, row]
  · blk_simp [e]

end

/-! ## What the reference computes -/

section

open Cert.AdamSmallReferenceIdeal Cert.AdamSmallReferenceIdeal.Read

variable (w m v : (⟨AdamSmallIdeal.S1176x128, .f32⟩ : BufTy).Contents (Elt Ideal)) (g : (⟨AdamSmallIdeal.S1176x128, .f32⟩ : BufTy).Contents (Elt Ideal))

theorem ref_g : val_main_v25 (F := Ideal) g = fun y => g y := by
  funext y
  obtain ⟨r, k, rfl⟩ : ∃ (r : Fin 1176) (k : Fin 128), y = ix2 r k := ⟨_, _, funext (Fin.forall_fin_two.mpr ⟨rfl, rfl⟩)⟩
  rw [val_main_v25_apply, val_main_v24_apply]
  refine congrArg g (funext (Fin.forall_fin_two.mpr ⟨Fin.ext ?_, Fin.ext ?_⟩))
  · show (r.val * 128 + k.val) / 128 % 1176 = r.val; omega
  · show (r.val * 128 + k.val) % 128 = k.val; omega

theorem ref_d : val_main_v23 (F := Ideal) w g m v = dOut w g m v := by
  funext y
  simp only [val_main_v23_apply, val_main_v22_apply, val_main_v21_apply, val_main_v20_apply, val_main_v19_apply, val_main_v18_apply, val_main_v17_apply, val_main_v16_apply, val_main_v15_apply, val_main_v14_apply, val_main_v13_apply, val_main_v12_apply, val_main_v11_apply, val_main_v4_apply, val_main_v1_apply, val_main_v0_apply, val_main_v3_apply, val_main_v2_apply, val_main_v10_apply, val_main_v6_apply, val_main_v5_apply, val_main_v9_apply, val_main_v8_apply, val_main_v7_apply, val_main_cst_3_apply, val_main_cst_4_apply, val_main_cst_5_apply, val_main_cst_6_apply, val_main_cst_7_apply, val_main_cst_apply, val_main_cst_0_apply, val_main_cst_1_apply, val_main_cst_2_apply]
  rfl

theorem ref_m : val_main_v4 (F := Ideal) g m = mOut g m := by
  funext y
  simp only [val_main_v4_apply, val_main_v1_apply, val_main_v0_apply, val_main_v3_apply, val_main_v2_apply, val_main_cst_apply, val_main_cst_0_apply]
  rfl

theorem ref_v : val_main_v10 (F := Ideal) g v = vOut g v := by
  funext y
  simp only [val_main_v10_apply, val_main_v6_apply, val_main_v5_apply, val_main_v9_apply, val_main_v8_apply, val_main_v7_apply, val_main_cst_1_apply, val_main_cst_2_apply]
  rfl

end

end Cert.UpdateSmall

end
-- ==== Proof.Steps.lean ====
/- The claims of the calls that are not products: the first normalisation, the merging of the branches, and the three calls of the
   optimiser. Each has its frames, and its equality with its reference over the extended reals. -/
module

public import proofs.«01_k».proof.Defs
public import proofs.«01_k».proof.Proof.Normed
public import proofs.«01_k».proof.Proof.Merging
public import proofs.«01_k».proof.Proof.UpdateIn
public import proofs.«01_k».proof.Proof.UpdateUp
public import proofs.«01_k».proof.Proof.UpdateSmall
public import proofs.«01_k».proof.Proof.Gen.Norm.Frame
public import proofs.«01_k».proof.Proof.Gen.NormReferenceIdeal.Run
public import proofs.«01_k».proof.Proof.Gen.Merged.Frame
public import proofs.«01_k».proof.Proof.Gen.MergedReferenceIdeal.Run
public import proofs.«01_k».proof.Proof.Gen.AdamIn.Frame
public import proofs.«01_k».proof.Proof.Gen.AdamInReferenceIdeal.Run
public import proofs.«01_k».proof.Proof.Gen.AdamUp.Frame
public import proofs.«01_k».proof.Proof.Gen.AdamUpReferenceIdeal.Run
public import proofs.«01_k».proof.Proof.Gen.AdamSmall.Frame
public import proofs.«01_k».proof.Proof.Gen.AdamSmallReferenceIdeal.Run
public import Idealize.ShloMosaic.Lib.Quiescent
public import Idealize.ShloMosaic.Adequacy
public import Idealize.ShloMosaic.Init

@[expose] public section

noncomputable section

namespace Cert.Steps

open Idealize.ShloMosaic Idealize.SL.Sem

/-! ## Norm -/

theorem equal_Norm : Cert.algebraic_NormIdeal_NormReferenceIdeal := by
  intro m g m' g' _ hag
  refine ⟨fun c => Cert.Normed.out (m ((c.tc : Thread Cert.NormIdeal.nD Cert.NormIdeal.τ).loc Cert.NormIdeal.main_arg0)) (m ((c.tc : Thread Cert.NormIdeal.nD Cert.NormIdeal.τ).loc Cert.NormIdeal.main_arg1)), ?_, ?_⟩
  · refine (θ_run Cert.NormIdeal.defs _ _).mono (fun r h c => ?_) (Cert.NormIdeal.Value.run_blocks m g)
    obtain ⟨h0, hargs⟩ := h c
    exact ⟨h0.trans (Cert.Normed.arr m c), hargs⟩
  · refine (θ_run Cert.NormReferenceIdeal.defs _ _).mono (fun r h c => ?_) (Cert.NormReferenceIdeal.Value.run m' g')
    obtain ⟨h0, hargs⟩ := h c
    obtain ⟨a0, a1⟩ := hag c
    exact ⟨h0.trans ((Cert.NormReferenceIdeal.Read.val_main_v15_eq (m' ((c.tc : Thread Cert.NormReferenceIdeal.nD Cert.NormReferenceIdeal.τ).loc Cert.NormReferenceIdeal.main_arg0)) (m' ((c.tc : Thread Cert.NormReferenceIdeal.nD Cert.NormReferenceIdeal.τ).loc Cert.NormReferenceIdeal.main_arg1))).trans (by rw [a0, a1]; exact Cert.Normed.ref _ _)), hargs⟩

theorem frame_Norm : Cert.quiescent_NormReferenceIdeal := fun m g _ =>
  (θ_run Cert.NormReferenceIdeal.defs _ _).mono (fun r h => ⟨fun c => (h c).2, sem_eq_zero_of_no_sems (by decide) _⟩)
    (Cert.NormReferenceIdeal.Value.run m g)

/-! ## Merged -/

theorem equal_Merged : Cert.algebraic_MergedIdeal_MergedReferenceIdeal := by
  intro m g m' g' _ hag
  refine ⟨fun c => Cert.Merging.out (m ((c.tc : Thread Cert.MergedIdeal.nD Cert.MergedIdeal.τ).loc Cert.MergedIdeal.main_arg0)) (m ((c.tc : Thread Cert.MergedIdeal.nD Cert.MergedIdeal.τ).loc Cert.MergedIdeal.main_arg1)) (m ((c.tc : Thread Cert.MergedIdeal.nD Cert.MergedIdeal.τ).loc Cert.MergedIdeal.main_arg2)), ?_, ?_⟩
  · refine (θ_run Cert.MergedIdeal.defs _ _).mono (fun r h c => ?_) (Cert.MergedIdeal.Value.run_blocks m g)
    obtain ⟨h0, hargs⟩ := h c
    exact ⟨h0.trans (Cert.Merging.arr m c), hargs⟩
  · refine (θ_run Cert.MergedReferenceIdeal.defs _ _).mono (fun r h c => ?_) (Cert.MergedReferenceIdeal.Value.run m' g')
    obtain ⟨h0, hargs⟩ := h c
    obtain ⟨a0, a1, a2⟩ := hag c
    exact ⟨h0.trans ((Cert.MergedReferenceIdeal.Read.val_main_v22_eq (m' ((c.tc : Thread Cert.MergedReferenceIdeal.nD Cert.MergedReferenceIdeal.τ).loc Cert.MergedReferenceIdeal.main_arg0)) (m' ((c.tc : Thread Cert.MergedReferenceIdeal.nD Cert.MergedReferenceIdeal.τ).loc Cert.MergedReferenceIdeal.main_arg1)) (m' ((c.tc : Thread Cert.MergedReferenceIdeal.nD Cert.MergedReferenceIdeal.τ).loc Cert.MergedReferenceIdeal.main_arg2))).trans (by rw [a0, a1, a2]; exact Cert.Merging.ref _ _ _)), hargs⟩

theorem frame_Merged : Cert.quiescent_MergedReferenceIdeal := fun m g _ =>
  (θ_run Cert.MergedReferenceIdeal.defs _ _).mono (fun r h => ⟨fun c => (h c).2, sem_eq_zero_of_no_sems (by decide) _⟩)
    (Cert.MergedReferenceIdeal.Value.run m g)

/-! ## AdamIn -/

theorem equal_AdamIn : Cert.algebraic_AdamInIdeal_AdamInReferenceIdeal := by
  intro m g m' g' _ hag
  refine ⟨fun c => (m ((c.tc : Thread Cert.AdamInIdeal.nD Cert.AdamInIdeal.τ).loc Cert.AdamInIdeal.main_arg1)), fun c => Cert.UpdateIn.dOut (m ((c.tc : Thread Cert.AdamInIdeal.nD Cert.AdamInIdeal.τ).loc Cert.AdamInIdeal.main_arg0)) (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)) (m ((c.tc : Thread Cert.AdamInIdeal.nD Cert.AdamInIdeal.τ).loc Cert.AdamInIdeal.main_arg3)), fun c => Cert.UpdateIn.mOut (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg2)), fun c => Cert.UpdateIn.vOut (m ((c.tc : Thread Cert.AdamInIdeal.nD Cert.AdamInIdeal.τ).loc Cert.AdamInIdeal.main_arg1)) (m ((c.tc : Thread Cert.AdamInIdeal.nD Cert.AdamInIdeal.τ).loc Cert.AdamInIdeal.main_arg3)), ?_, ?_⟩
  · refine (θ_run Cert.AdamInIdeal.defs _ _).mono (fun r h c => ?_) (Cert.AdamInIdeal.Value.run_blocks m g)
    obtain ⟨h0, h1, h2, h3, hargs⟩ := h c
    exact ⟨h0.trans (Cert.UpdateIn.arr_g m c), h1.trans (Cert.UpdateIn.arr_d m c), h2.trans (Cert.UpdateIn.arr_m m c), h3.trans (Cert.UpdateIn.arr_v m c), hargs⟩
  · refine (θ_run Cert.AdamInReferenceIdeal.defs _ _).mono (fun r h c => ?_) (Cert.AdamInReferenceIdeal.Value.run m' g')
    obtain ⟨h0, h1, h2, h3, hargs⟩ := h c
    obtain ⟨a0, a1, a2, a3⟩ := hag c
    exact ⟨h0.trans ((Cert.AdamInReferenceIdeal.Read.val_main_v26_eq (m' ((c.tc : Thread Cert.AdamInReferenceIdeal.nD Cert.AdamInReferenceIdeal.τ).loc Cert.AdamInReferenceIdeal.main_arg1))).trans (by rw [a1]; exact Cert.UpdateIn.ref_g _)),
      h1.trans ((Cert.AdamInReferenceIdeal.Read.val_main_v27_eq (m' ((c.tc : Thread Cert.AdamInReferenceIdeal.nD Cert.AdamInReferenceIdeal.τ).loc Cert.AdamInReferenceIdeal.main_arg0)) (m' ((c.tc : Thread Cert.AdamInReferenceIdeal.nD Cert.AdamInReferenceIdeal.τ).loc Cert.AdamInReferenceIdeal.main_arg1)) (m' ((c.tc : Thread Cert.AdamInReferenceIdeal.nD Cert.AdamInReferenceIdeal.τ).loc Cert.AdamInReferenceIdeal.main_arg2)) (m' ((c.tc : Thread Cert.AdamInReferenceIdeal.nD Cert.AdamInReferenceIdeal.τ).loc Cert.AdamInReferenceIdeal.main_arg3))).trans (by rw [a0, a1, a2, a3]; exact Cert.UpdateIn.ref_d _ _ _ _)),
      h2.trans ((Cert.AdamInReferenceIdeal.Read.val_main_v28_eq (m' ((c.tc : Thread Cert.AdamInReferenceIdeal.nD Cert.AdamInReferenceIdeal.τ).loc Cert.AdamInReferenceIdeal.main_arg1)) (m' ((c.tc : Thread Cert.AdamInReferenceIdeal.nD Cert.AdamInReferenceIdeal.τ).loc Cert.AdamInReferenceIdeal.main_arg2))).trans (by rw [a1, a2]; exact Cert.UpdateIn.ref_m _ _)),
      h3.trans ((Cert.AdamInReferenceIdeal.Read.val_main_v29_eq (m' ((c.tc : Thread Cert.AdamInReferenceIdeal.nD Cert.AdamInReferenceIdeal.τ).loc Cert.AdamInReferenceIdeal.main_arg1)) (m' ((c.tc : Thread Cert.AdamInReferenceIdeal.nD Cert.AdamInReferenceIdeal.τ).loc Cert.AdamInReferenceIdeal.main_arg3))).trans (by rw [a1, a3]; exact Cert.UpdateIn.ref_v _ _)), hargs⟩

theorem frame_AdamIn : Cert.quiescent_AdamInReferenceIdeal := fun m g _ =>
  (θ_run Cert.AdamInReferenceIdeal.defs _ _).mono (fun r h => ⟨fun c => (h c).2.2.2.2, sem_eq_zero_of_no_sems (by decide) _⟩)
    (Cert.AdamInReferenceIdeal.Value.run m g)

/-! ## AdamUp -/

theorem equal_AdamUp : Cert.algebraic_AdamUpIdeal_AdamUpReferenceIdeal := by
  intro m g m' g' _ hag
  refine ⟨fun c => (m ((c.tc : Thread Cert.AdamUpIdeal.nD Cert.AdamUpIdeal.τ).loc Cert.AdamUpIdeal.main_arg1)), fun c => Cert.UpdateUp.dOut (m ((c.tc : Thread Cert.AdamUpIdeal.nD Cert.AdamUpIdeal.τ).loc Cert.AdamUpIdeal.main_arg0)) (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)) (m ((c.tc : Thread Cert.AdamUpIdeal.nD Cert.AdamUpIdeal.τ).loc Cert.AdamUpIdeal.main_arg3)), fun c => Cert.UpdateUp.mOut (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg2)), fun c => Cert.UpdateUp.vOut (m ((c.tc : Thread Cert.AdamUpIdeal.nD Cert.AdamUpIdeal.τ).loc Cert.AdamUpIdeal.main_arg1)) (m ((c.tc : Thread Cert.AdamUpIdeal.nD Cert.AdamUpIdeal.τ).loc Cert.AdamUpIdeal.main_arg3)), ?_, ?_⟩
  · refine (θ_run Cert.AdamUpIdeal.defs _ _).mono (fun r h c => ?_) (Cert.AdamUpIdeal.Value.run_blocks m g)
    obtain ⟨h0, h1, h2, h3, hargs⟩ := h c
    exact ⟨h0.trans (Cert.UpdateUp.arr_g m c), h1.trans (Cert.UpdateUp.arr_d m c), h2.trans (Cert.UpdateUp.arr_m m c), h3.trans (Cert.UpdateUp.arr_v m c), hargs⟩
  · refine (θ_run Cert.AdamUpReferenceIdeal.defs _ _).mono (fun r h c => ?_) (Cert.AdamUpReferenceIdeal.Value.run m' g')
    obtain ⟨h0, h1, h2, h3, hargs⟩ := h c
    obtain ⟨a0, a1, a2, a3⟩ := hag c
    exact ⟨h0.trans ((Cert.AdamUpReferenceIdeal.Read.val_main_v26_eq (m' ((c.tc : Thread Cert.AdamUpReferenceIdeal.nD Cert.AdamUpReferenceIdeal.τ).loc Cert.AdamUpReferenceIdeal.main_arg1))).trans (by rw [a1]; exact Cert.UpdateUp.ref_g _)),
      h1.trans ((Cert.AdamUpReferenceIdeal.Read.val_main_v27_eq (m' ((c.tc : Thread Cert.AdamUpReferenceIdeal.nD Cert.AdamUpReferenceIdeal.τ).loc Cert.AdamUpReferenceIdeal.main_arg0)) (m' ((c.tc : Thread Cert.AdamUpReferenceIdeal.nD Cert.AdamUpReferenceIdeal.τ).loc Cert.AdamUpReferenceIdeal.main_arg1)) (m' ((c.tc : Thread Cert.AdamUpReferenceIdeal.nD Cert.AdamUpReferenceIdeal.τ).loc Cert.AdamUpReferenceIdeal.main_arg2)) (m' ((c.tc : Thread Cert.AdamUpReferenceIdeal.nD Cert.AdamUpReferenceIdeal.τ).loc Cert.AdamUpReferenceIdeal.main_arg3))).trans (by rw [a0, a1, a2, a3]; exact Cert.UpdateUp.ref_d _ _ _ _)),
      h2.trans ((Cert.AdamUpReferenceIdeal.Read.val_main_v28_eq (m' ((c.tc : Thread Cert.AdamUpReferenceIdeal.nD Cert.AdamUpReferenceIdeal.τ).loc Cert.AdamUpReferenceIdeal.main_arg1)) (m' ((c.tc : Thread Cert.AdamUpReferenceIdeal.nD Cert.AdamUpReferenceIdeal.τ).loc Cert.AdamUpReferenceIdeal.main_arg2))).trans (by rw [a1, a2]; exact Cert.UpdateUp.ref_m _ _)),
      h3.trans ((Cert.AdamUpReferenceIdeal.Read.val_main_v29_eq (m' ((c.tc : Thread Cert.AdamUpReferenceIdeal.nD Cert.AdamUpReferenceIdeal.τ).loc Cert.AdamUpReferenceIdeal.main_arg1)) (m' ((c.tc : Thread Cert.AdamUpReferenceIdeal.nD Cert.AdamUpReferenceIdeal.τ).loc Cert.AdamUpReferenceIdeal.main_arg3))).trans (by rw [a1, a3]; exact Cert.UpdateUp.ref_v _ _)), hargs⟩

theorem frame_AdamUp : Cert.quiescent_AdamUpReferenceIdeal := fun m g _ =>
  (θ_run Cert.AdamUpReferenceIdeal.defs _ _).mono (fun r h => ⟨fun c => (h c).2.2.2.2, sem_eq_zero_of_no_sems (by decide) _⟩)
    (Cert.AdamUpReferenceIdeal.Value.run m g)

/-! ## AdamSmall -/

theorem equal_AdamSmall : Cert.algebraic_AdamSmallIdeal_AdamSmallReferenceIdeal := by
  intro m g m' g' _ hag
  refine ⟨fun c => (m ((c.tc : Thread Cert.AdamSmallIdeal.nD Cert.AdamSmallIdeal.τ).loc Cert.AdamSmallIdeal.main_arg1)), fun c => Cert.UpdateSmall.dOut (m ((c.tc : Thread Cert.AdamSmallIdeal.nD Cert.AdamSmallIdeal.τ).loc Cert.AdamSmallIdeal.main_arg0)) (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)) (m ((c.tc : Thread Cert.AdamSmallIdeal.nD Cert.AdamSmallIdeal.τ).loc Cert.AdamSmallIdeal.main_arg3)), fun c => Cert.UpdateSmall.mOut (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg2)), fun c => Cert.UpdateSmall.vOut (m ((c.tc : Thread Cert.AdamSmallIdeal.nD Cert.AdamSmallIdeal.τ).loc Cert.AdamSmallIdeal.main_arg1)) (m ((c.tc : Thread Cert.AdamSmallIdeal.nD Cert.AdamSmallIdeal.τ).loc Cert.AdamSmallIdeal.main_arg3)), ?_, ?_⟩
  · refine (θ_run Cert.AdamSmallIdeal.defs _ _).mono (fun r h c => ?_) (Cert.AdamSmallIdeal.Value.run_blocks m g)
    obtain ⟨h0, h1, h2, h3, hargs⟩ := h c
    exact ⟨h0.trans (Cert.UpdateSmall.arr_g m c), h1.trans (Cert.UpdateSmall.arr_d m c), h2.trans (Cert.UpdateSmall.arr_m m c), h3.trans (Cert.UpdateSmall.arr_v m c), hargs⟩
  · refine (θ_run Cert.AdamSmallReferenceIdeal.defs _ _).mono (fun r h c => ?_) (Cert.AdamSmallReferenceIdeal.Value.run m' g')
    obtain ⟨h0, h1, h2, h3, hargs⟩ := h c
    obtain ⟨a0, a1, a2, a3⟩ := hag c
    exact ⟨h0.trans ((Cert.AdamSmallReferenceIdeal.Read.val_main_v25_eq (m' ((c.tc : Thread Cert.AdamSmallReferenceIdeal.nD Cert.AdamSmallReferenceIdeal.τ).loc Cert.AdamSmallReferenceIdeal.main_arg1))).trans (by rw [a1]; exact Cert.UpdateSmall.ref_g _)),
      h1.trans ((Cert.AdamSmallReferenceIdeal.Read.val_main_v23_eq (m' ((c.tc : Thread Cert.AdamSmallReferenceIdeal.nD Cert.AdamSmallReferenceIdeal.τ).loc Cert.AdamSmallReferenceIdeal.main_arg0)) (m' ((c.tc : Thread Cert.AdamSmallReferenceIdeal.nD Cert.AdamSmallReferenceIdeal.τ).loc Cert.AdamSmallReferenceIdeal.main_arg1)) (m' ((c.tc : Thread Cert.AdamSmallReferenceIdeal.nD Cert.AdamSmallReferenceIdeal.τ).loc Cert.AdamSmallReferenceIdeal.main_arg2)) (m' ((c.tc : Thread Cert.AdamSmallReferenceIdeal.nD Cert.AdamSmallReferenceIdeal.τ).loc Cert.AdamSmallReferenceIdeal.main_arg3))).trans (by rw [a0, a1, a2, a3]; exact Cert.UpdateSmall.ref_d _ _ _ _)),
      h2.trans ((Cert.AdamSmallReferenceIdeal.Read.val_main_v4_eq (m' ((c.tc : Thread Cert.AdamSmallReferenceIdeal.nD Cert.AdamSmallReferenceIdeal.τ).loc Cert.AdamSmallReferenceIdeal.main_arg1)) (m' ((c.tc : Thread Cert.AdamSmallReferenceIdeal.nD Cert.AdamSmallReferenceIdeal.τ).loc Cert.AdamSmallReferenceIdeal.main_arg2))).trans (by rw [a1, a2]; exact Cert.UpdateSmall.ref_m _ _)),
      h3.trans ((Cert.AdamSmallReferenceIdeal.Read.val_main_v10_eq (m' ((c.tc : Thread Cert.AdamSmallReferenceIdeal.nD Cert.AdamSmallReferenceIdeal.τ).loc Cert.AdamSmallReferenceIdeal.main_arg1)) (m' ((c.tc : Thread Cert.AdamSmallReferenceIdeal.nD Cert.AdamSmallReferenceIdeal.τ).loc Cert.AdamSmallReferenceIdeal.main_arg3))).trans (by rw [a1, a3]; exact Cert.UpdateSmall.ref_v _ _)), hargs⟩

theorem frame_AdamSmall : Cert.quiescent_AdamSmallReferenceIdeal := fun m g _ =>
  (θ_run Cert.AdamSmallReferenceIdeal.defs _ _).mono (fun r h => ⟨fun c => (h c).2.2.2.2, sem_eq_zero_of_no_sems (by decide) _⟩)
    (Cert.AdamSmallReferenceIdeal.Value.run m g)

end Cert.Steps

end
-- ==== Proof.HeadSpec.lean ====
/- The loss head in numbers: the loss, and its gradients by the rows and by the gain of the last normalisation. -/
module

public import proofs.«01_k».proof.Proof.Reads
public import proofs.«01_k».proof.Proof.Spec

@[expose] public section

noncomputable section

namespace Cert.Head

open Idealize.ShloMosaic

/-- Row `r` of block `n`. -/
def row (n : Fin 32) (r : Fin 128) : Fin 4096 := ⟨n.val * 128 + r.val, by omega⟩

/-- A sum over the rows, block by block. -/
theorem sum_rows (f : Fin 4096 → ℝ) : ∑ r, f r = ∑ n, ∑ r, f (row n r) := by
  rw [← Finset.sum_product', Finset.univ_product_univ]
  symm
  exact Fintype.sum_bijective (fun p : Fin 32 × Fin 128 => row p.1 p.2)
    ⟨fun a b h => by
        have := congrArg Fin.val h
        simp only [row] at this
        exact Prod.ext (Fin.ext (by omega)) (Fin.ext (by omega)),
      fun r => ⟨(⟨r.val / 128, by omega⟩, ⟨r.val % 128, by omega⟩), Fin.ext (by simp only [row]; omega)⟩⟩ _ _ (fun _ => rfl)

/-- The rows, the targets, and the gain. -/
structure Nums where
  x : Fin 4096 → Fin 4096 → ℝ
  t : Fin 4096 → Fin 4096 → ℝ
  g : Fin 4096 → ℝ

namespace Nums

variable (N : Nums)

/-- A row's mean square, made positive; and one over its root. -/
def ms (r : Fin 4096) : ℝ := (∑ k, N.x r k * N.x r k) / 4096 + Gating.eps
def rs (r : Fin 4096) : ℝ := (√(N.ms r))⁻¹

theorem ms_pos (r : Fin 4096) : 0 < N.ms r := by
  have h : 0 ≤ ∑ k, N.x r k * N.x r k := Finset.sum_nonneg fun k _ => mul_self_nonneg _
  have e : 0 < Gating.eps := by norm_num [Gating.eps]
  unfold ms
  positivity

/-- The normalised row, its distance from the target, and the gradient of the loss by the head's output. -/
def xh (r k : Fin 4096) : ℝ := N.x r k * N.rs r
def df (r k : Fin 4096) : ℝ := N.xh r k * N.g k - N.t r k
def dy (r k : Fin 4096) : ℝ := N.df r k * (1 / 4096)

/-- The gradient by the gain, and one block's share of it. -/
def dg1 (n : Fin 32) (k : Fin 4096) : ℝ := ∑ r, N.dy (row n r) k * N.xh (row n r) k
def dg (k : Fin 4096) : ℝ := ∑ n, N.dg1 n k

/-- The loss, and one block's share of it. -/
def loss1 (n : Fin 32) : ℝ := 1 / 8192 * ∑ r, ∑ k, N.df (row n r) k * N.df (row n r) k
def loss : ℝ := ∑ n, N.loss1 n

/-- The gradient by the rows. -/
def dx (r k : Fin 4096) : ℝ := N.rs r * (N.dy r k * N.g k - N.xh r k * ((∑ j, N.dy r j * N.g j * N.xh r j) / 4096))

theorem dg_eq (k : Fin 4096) : N.dg k = ∑ r, N.xh r k * N.dy r k := by
  unfold dg dg1
  rw [sum_rows]
  exact Finset.sum_congr rfl fun n _ => Finset.sum_congr rfl fun r _ => mul_comm _ _

theorem loss_eq : N.loss = 1 / 2 * ∑ r, (∑ k, N.df r k * N.df r k) / 4096 := by
  unfold loss loss1
  rw [sum_rows, Finset.mul_sum]
  refine Finset.sum_congr rfl fun n _ => ?_
  rw [← Finset.sum_div]
  ring

/-- The derivative of the inverse root, spelt the two ways. -/
theorem rs_cube (r : Fin 4096) : N.rs r / N.ms r = N.rs r * N.rs r * N.rs r := by
  have h := (N.ms_pos r).le
  have e : N.rs r * N.rs r = (N.ms r)⁻¹ := by
    unfold rs
    rw [← mul_inv, Real.mul_self_sqrt h]
  rw [e, div_eq_mul_inv, mul_comm]

theorem dx_eq (r k : Fin 4096) : N.dx r k = N.dy r k * N.g k * N.rs r
    + N.x r k * ((∑ j, N.x r j * (N.dy r j * N.g j)) * (-1 / 2 * (N.rs r / N.ms r)) / 4096)
    + (∑ j, N.x r j * (N.dy r j * N.g j)) * (-1 / 2 * (N.rs r / N.ms r)) / 4096 * N.x r k := by
  have e : ∑ j, N.dy r j * N.g j * N.xh r j = (∑ j, N.x r j * (N.dy r j * N.g j)) * N.rs r := by
    rw [Finset.sum_mul]
    exact Finset.sum_congr rfl fun j _ => by unfold xh; ring
  unfold dx
  rw [e, N.rs_cube]
  unfold xh
  ring

end Nums

/-- The numbers of `N` are what the three arguments hold. -/
structure Reads (N : Nums) (x0 : (⟨2, ![4096, 4096]⟩ : Shape).Idx → EReal) (x1 : (⟨3, ![1, 4096, 4096]⟩ : Shape).Idx → EReal)
    (x2 : (⟨1, ![4096]⟩ : Shape).Idx → EReal) : Prop where
  x : ∀ i (r k : Fin 4096), (i 0).val = r.val → (i 1).val = k.val → x0 i = ((N.x r k : ℝ) : EReal)
  t : ∀ i (r k : Fin 4096), (i 1).val = r.val → (i 2).val = k.val → x1 i = ((N.t r k : ℝ) : EReal)
  g : ∀ i (k : Fin 4096), (i 0).val = k.val → x2 i = ((N.g k : ℝ) : EReal)

end Cert.Head

end
-- ==== Proof.RmsBack.lean ====
/- The gradient of the first normalisation: what the kernel computes of one block of rows, and the two arrays that it leaves.
   The numbers are the loss head's (`Head.Nums`), the target chosen so that the gradient by the normed rows is the given one. -/
module

public import proofs.«01_k».proof.Proof.HeadSpec
public import proofs.«01_k».proof.Proof.Gen.NormBackIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.RmsBack

open Idealize.ShloMosaic Idealize.ShloMosaic.TcCoe Idealize.SL.Sem Cert.NormBackIdeal Cert.NormBackIdeal.Gen
open Cert.Gating hiding row Nums
open Idealize.ShloMosaic.Pipeline (Dat)
open Cert.Head (Nums row)

/-- The record of rows `x`, gain `g` and gradient `d` by the normed rows. -/
def ofGrad (x d : Fin 4096 → Fin 4096 → ℝ) (g : Fin 4096 → ℝ) : Nums :=
  ⟨x, fun r k => (⟨x, fun _ _ => 0, g⟩ : Nums).xh r k * g k - 4096 * d r k, g⟩

theorem dy_ofGrad (x d : Fin 4096 → Fin 4096 → ℝ) (g : Fin 4096 → ℝ) (r k : Fin 4096) : (ofGrad x d g).dy r k = d r k := by
  show ((⟨x, fun _ _ => 0, g⟩ : Nums).xh r k * g k - ((⟨x, fun _ _ => 0, g⟩ : Nums).xh r k * g k - 4096 * d r k)) * (1 / 4096) = d r k
  ring

/-- The numbers of `N` are what the arguments hold. -/
structure Reads (N : Nums) (x0 : (⟨3, ![1, 4096, 4096]⟩ : Shape).Idx → EReal) (x1 : (⟨2, ![4096, 4096]⟩ : Shape).Idx → EReal)
    (x3 : (⟨2, ![1, 4096]⟩ : Shape).Idx → EReal) : Prop where
  x : ∀ i (r k : Fin 4096), (i 1).val = r.val → (i 2).val = k.val → x0 i = ((N.x r k : ℝ) : EReal)
  d : ∀ i (r k : Fin 4096), (i 0).val = r.val → (i 1).val = k.val → x1 i = ((N.dy r k : ℝ) : EReal)
  g : ∀ i (k : Fin 4096), (i 1).val = k.val → x3 i = ((N.g k : ℝ) : EReal)

/-- What the blocks of point `n` hold. -/
structure Block (N : Nums) (n : Fin 32) (x0 x1 : FVec Ideal S128x4096 .f32) (x3 : FVec Ideal S1x4096 .f32) : Prop where
  x : ∀ r k, x0 (ix2 r k) = ((N.x (row n r) k : ℝ) : EReal)
  d : ∀ r k, x1 (ix2 r k) = ((N.dy (row n r) k : ℝ) : EReal)
  g : ∀ k, x3 (ix2 (0 : Fin 1) k) = ((N.g k : ℝ) : EReal)

namespace Block

variable {N : Nums} {n : Fin 32} {x0 x1 : FVec Ideal S128x4096 .f32} {x3 : FVec Ideal S1x4096 .f32} (h : Block N n x0 x1 x3)

include h

theorem rs (r : Fin 128) : k0_pay4 (F := Ideal) x0 (ix2 r (0 : Fin 1)) = ((N.rs (row n r) : ℝ) : EReal) := by
  have e : k0_pay4 (F := Ideal) x0 (ix2 r (0 : Fin 1)) = Ideal.rsqrt (Ideal.div (∑ k : Fin 4096, x0 (ix2 r k) * x0 (ix2 r k))
      (FloatOps.ofBits .f32 0x45800000#32 : Ideal .f32) + (FloatOps.ofBits .f32 0x3727C5AC#32 : Ideal .f32)) := by
    pointwise [k0_pay4, k0_pay3]
  rw [e, sum_coe fun k => by rw [h.x r k, ← EReal.coe_mul], Consts.width, Consts.eps, coe_div_width, ← EReal.coe_add]
  exact (coe_rsqrt (N.ms_pos (row n r))).trans rfl

theorem xh (r : Fin 128) (k : Fin 4096) : k0_pay5 (F := Ideal) x0 (ix2 r k) = ((N.xh (row n r) k : ℝ) : EReal) := by
  have e : k0_pay5 (F := Ideal) x0 (ix2 r k) = x0 (ix2 r k) * k0_pay4 (F := Ideal) x0 (ix2 r (0 : Fin 1)) := by
    pointwise [k0_pay5, k0_pay3]
  rw [e, h.x, h.rs, ← EReal.coe_mul]
  rfl

/-- The block of the gradient by the rows, the residual's gradient added. -/
theorem dx (x2 : FVec Ideal S128x4096 .f32) (r : Fin 128) (k : Fin 4096) :
    k0_pay1 (F := Ideal) x2 (k0_pay7 (F := Ideal) x0 x1 x3) (ix2 r k) = (x2 (ix2 r k) : EReal) + ((N.dx (row n r) k : ℝ) : EReal) := by
  have e : k0_pay1 (F := Ideal) x2 (k0_pay7 (F := Ideal) x0 x1 x3) (ix2 r k) = (x2 (ix2 r k) : EReal) +
      k0_pay4 (F := Ideal) x0 (ix2 r (0 : Fin 1)) * (x1 (ix2 r k) * x3 (ix2 (0 : Fin 1) k) - k0_pay5 (F := Ideal) x0 (ix2 r k) *
        Ideal.div (∑ j : Fin 4096, x1 (ix2 r j) * x3 (ix2 (0 : Fin 1) j) * k0_pay5 (F := Ideal) x0 (ix2 r j)) (FloatOps.ofBits .f32 0x45800000#32 : Ideal .f32)) := by
    pointwise [k0_pay1, k0_pay7]
  rw [e, sum_coe fun j => by rw [h.d r j, h.g j, h.xh r j, ← EReal.coe_mul, ← EReal.coe_mul], h.rs, h.d, h.g, h.xh, Consts.width, coe_div_width,
    ← EReal.coe_mul, ← EReal.coe_mul, ← EReal.coe_sub, ← EReal.coe_mul]
  rfl

/-- The gradient by the gain, a block's share added. -/
theorem dg {old : FVec Ideal S1x4096 .f32} {a : Fin 4096 → ℝ} (ho : ∀ k, old (ix2 (0 : Fin 1) k) = ((a k : ℝ) : EReal)) (k : Fin 4096) :
    k0_pay6 (F := Ideal) x0 x1 old (ix2 (0 : Fin 1) k) = ((a k + N.dg1 n k : ℝ) : EReal) := by
  have e : k0_pay6 (F := Ideal) x0 x1 old (ix2 (0 : Fin 1) k) =
      old (ix2 (0 : Fin 1) k) + ∑ r : Fin 128, x1 (ix2 r k) * k0_pay5 (F := Ideal) x0 (ix2 r k) := by
    pointwise [k0_pay6]
  rw [e, sum_coe fun r => by rw [h.d r k, h.xh r k, ← EReal.coe_mul], ho, ← EReal.coe_add]
  rfl

end Block

/-- The block of rows that a grid point computes. -/
def nOf (t : Fin cfg0.N) : Fin 32 := ⟨t.val, t.isLt⟩

/-- The numbers of `N` are what the launched contents hold. -/
abbrev Holds (N : Nums) (m : (ℓ : Loc nD τ NormBackIdeal.sig) → Buf (Elt Ideal) ℓ) (c : Dev nD) : Prop :=
  Reads N (m ((c : Thread nD τ).loc main_arg0)) (m ((c : Thread nD τ).loc main_arg1)) (m ((c : Thread nD τ).loc main_arg3))

/-- The residual's gradient, and the sum that the kernel leaves. -/
def total (N : Nums) (x2 : (⟨2, ![4096, 4096]⟩ : Shape).Idx → EReal) (r k : Fin 4096) : EReal := x2 (ix2 r k) + ((N.dx r k : ℝ) : EReal)

variable {N : Nums} {m : (ℓ : Loc nD τ NormBackIdeal.sig) → Buf (Elt Ideal) ℓ} {c : Dev nD}

theorem idx0 : ∀ t : Fin grid0.N, (win0_0).index t = ![t.val, 0] := by decide +kernel
theorem idx1 : ∀ t : Fin grid0.N, (win0_1).index t = ![t.val, 0] := by decide +kernel
theorem idx2 : ∀ t : Fin grid0.N, (win0_2).index t = ![t.val, 0] := by decide +kernel
theorem idx3 : ∀ t : Fin grid0.N, (win0_3).index t = ![0, 0] := by decide +kernel
theorem idx4 : ∀ t : Fin grid0.N, (win0_4).index t = ![t.val, 0] := by decide +kernel

theorem part0 (h : Holds N m c) (t : Fin cfg0.N) (r : Fin 128) (k : Fin 4096) :
    (iblk m c 0 t : Vec Ideal S128x4096 .f32) (ix2 r k) = ((N.x (row (nOf t) r) k : ℝ) : EReal) := by
  show V m c main_v0 (((cfg0.win 0).blk t).view.emb (ix2 r k)) = _
  have e := idx0 t
  obtain e' : ((cfg0.win 0).blk t).view.emb (ix2 r k) = ix2 (row (nOf t) r) k := by
    refine funext (Fin.forall_fin_two.mpr ⟨Fin.ext ?_, Fin.ext ?_⟩)
    · blk_simp [e, row, nOf]
    · blk_simp [e]
  rw [e']
  entry_read
  pointwise
  exact h.x _ _ _ rfl rfl

theorem part1 (h : Holds N m c) (t : Fin cfg0.N) (r : Fin 128) (k : Fin 4096) :
    (iblk m c 1 t : Vec Ideal S128x4096 .f32) (ix2 r k) = ((N.dy (row (nOf t) r) k : ℝ) : EReal) := by
  have e := idx1 t
  refine (congrFun (V_main_arg1 m c) _).trans (h.d _ _ _ ?_ ?_)
  · blk_simp [e, row, nOf]
  · blk_simp [e]

theorem part2 (t : Fin cfg0.N) (r : Fin 128) (k : Fin 4096) :
    (iblk m c 2 t : Vec Ideal S128x4096 .f32) (ix2 r k) = m ((c : Thread nD τ).loc main_arg2) (ix2 (row (nOf t) r) k) := by
  have e := idx2 t
  refine (congrFun (V_main_arg2 m c) _).trans (congrArg _ (funext (Fin.forall_fin_two.mpr ⟨Fin.ext ?_, Fin.ext ?_⟩)))
  · blk_simp [e, row, nOf]
  · blk_simp [e]

theorem part3 (h : Holds N m c) (t : Fin cfg0.N) (k : Fin 4096) :
    (iblk m c 3 t : Vec Ideal S1x4096 .f32) (ix2 (0 : Fin 1) k) = ((N.g k : ℝ) : EReal) := by
  have e := idx3 t
  refine (congrFun (V_main_arg3 m c) _).trans (h.g _ _ ?_)
  blk_simp [e]

theorem block (h : Holds N m c) (t : Fin cfg0.N) : Block N (nOf t) (iblk m c 0 t) (iblk m c 1 t) (iblk m c 3 t) :=
  ⟨part0 h t, part1 h t, part3 h t⟩

theorem outD (h : Holds N m c) (t : Fin cfg0.N) (r : Fin 128) (k : Fin 4096) :
    (outsAt0 m c t.val t.isLt).1 (ix2 r k) = total N (m ((c : Thread nD τ).loc main_arg2)) (row (nOf t) r) k := by
  have e := ((block h t).dx (iblk m c 2 t) r k).trans (congrArg (· + ((N.dx (row (nOf t) r) k : ℝ) : EReal)) (part2 (m := m) (c := c) t r k))
  by_cases h0 : t.val % 32 = 0
  · rw [outsAt0_A m c t h0]
    dsimp only
    frame_out
    exact e
  · rw [outsAt0_B m c t h0]
    dsimp only
    frame_out
    exact e

theorem outG_A (h : Holds N m c) (t : Fin cfg0.N) (h0 : t.val % 32 = 0) (k : Fin 4096) :
    (outsAt0 m c t.val t.isLt).2 (ix2 (0 : Fin 1) k) = ((N.dg1 (nOf t) k : ℝ) : EReal) := by
  rw [outsAt0_A m c t h0]
  dsimp only
  frame_out
  exact ((block h t).dg (a := fun _ => 0) (fun _ => Gating.Consts.zero) k).trans (congrArg Real.toEReal (zero_add _))

theorem outG_B (h : Holds N m c) (t : Fin cfg0.N) (h0 : ¬ t.val % 32 = 0) {a : Fin 4096 → ℝ}
    (ho : ∀ k, (outsAt0 m c (t.val - 1) (Nat.lt_of_le_of_lt (Nat.sub_le _ _) t.isLt)).2 (ix2 (0 : Fin 1) k) = ((a k : ℝ) : EReal)) (k : Fin 4096) :
    (outsAt0 m c t.val t.isLt).2 (ix2 (0 : Fin 1) k) = ((a k + N.dg1 (nOf t) k : ℝ) : EReal) := by
  rw [outsAt0_B m c t h0]
  dsimp only
  revert ho
  generalize (outsAt0 m c (t.val - 1) (Nat.lt_of_le_of_lt (Nat.sub_le _ _) t.isLt)) = Y
  intro ho
  frame_out
  exact (block h t).dg ho k

/-- The gradient by the gain after point `k`: the shares of the points up to it. -/
theorem accG (h : Holds N m c) (n : ℕ) (hn : n < 32) (hn' : n < cfg0.N) : ∀ k : Fin 4096,
    (outsAt0 m c n hn').2 (ix2 (0 : Fin 1) k) = ((∑ j : Fin (n + 1), N.dg1 ⟨j.val, by omega⟩ k : ℝ) : EReal) := by
  induction n with
  | zero =>
    intro k
    refine (outG_A h ⟨0, hn'⟩ rfl k).trans (congrArg Real.toEReal ?_)
    rw [Fin.sum_univ_one]
    rfl
  | succ n ih =>
    intro k
    refine (outG_B h ⟨n + 1, hn'⟩ (by show ¬ (n + 1) % 32 = 0; omega) (fun k => ih (by omega) (by omega) k) k).trans (congrArg Real.toEReal ?_)
    rw [Fin.sum_univ_castSucc (n := n + 1)]
    rfl

/-- The gradient by the rows. -/
theorem arr_d (h : Holds N m c) : (dats m 0 c).arrAt 4 cfg0.N = fun y : S4096x4096.Idx => total N (m ((c : Thread nD τ).loc main_arg2)) (y 0) (y 1) := by
  refine (dats m 0 c).arrAt_eq_of_covers 4 _ (by decide +kernel) fun t hf y => ?_
  have e := idx4 t
  obtain ⟨y0, y1, rfl⟩ : ∃ (y0 : Fin 128) (y1 : Fin 4096), y = ix2 y0 y1 := ⟨_, _, funext (Fin.forall_fin_two.mpr ⟨rfl, rfl⟩)⟩
  refine (congrFun (after0_4 m c t) (ix2 y0 y1)).trans ((outD h t y0 y1).trans (congr (congrArg (total N _) (Fin.ext ?_)) (Fin.ext ?_)))
  · blk_simp [e, row, nOf]
  · blk_simp [e]

/-- The last grid point. -/
def tEnd : Fin cfg0.N := ⟨31, by decide⟩

/-- The gradient by the gain. -/
theorem arr_g (h : Holds N m c) : (dats m 0 c).arrAt 5 cfg0.N = fun y : S1x4096.Idx => ((N.dg (y 1) : ℝ) : EReal) := by
  refine (dats m 0 c).arrAt_eq_of_after_last 5 tEnd (by decide +kernel) _ fun j => ?_
  blk_simp
  rw [after0_5]
  have j0 : (j 0).val < 1 := (j 0).isLt
  obtain ⟨k, rfl⟩ : ∃ k : Fin 4096, j = ix2 (0 : Fin 1) k := ⟨j 1, funext (Fin.forall_fin_two.mpr ⟨Fin.ext (by show (j 0).val = 0; omega), rfl⟩)⟩
  exact accG h 31 (by decide) _ k

end Cert.RmsBack

end
-- ==== Proof.HeadRef.lean ====
/- The reference of the loss head, stage by stage. -/
module

public import proofs.«01_k».proof.Proof.HeadSpec
public import proofs.«01_k».proof.Proof.Gen.LossReferenceIdeal.Read
public import Idealize.ShloMosaic.Lib.Pointwise

@[expose] public section

set_option maxRecDepth 16384

noncomputable section

namespace Cert.Head.Ref

open Idealize.ShloMosaic Cert.LossReferenceIdeal Cert.LossReferenceIdeal.Read Cert.Gating

theorem two : (FloatOps.ofBits .f32 0x40000000#32 : Ideal .f32) = ((2 : ℝ) : EReal) := by
  simp [FloatOps.ofBits, Ideal.ofBits, Ideal.ieee, -EReal.coe_mul]; norm_num

/-- A sum over the only entry that two axes of length one leave. -/
theorem sum_front (h : S1x1x4096.ReducesTo [0, 1] S4096) (x : S1x1x4096.Idx → EReal) (init : EReal) (i : S4096.Idx) :
    Ideal.hostReduceAdd h x init i = init + x (ix3 (0 : Fin 1) (0 : Fin 1) (i 0)) := by
  unfold Ideal.hostReduceAdd
  refine congrArg (init + ·) ?_
  rw [Finset.sum_eq_single_of_mem (ix3 (0 : Fin 1) (0 : Fin 1) (i 0) : S1x1x4096.Idx)]
  · exact Finset.mem_filter.mpr ⟨Finset.mem_univ _, funext (Fin.forall_fin_one.mpr rfl)⟩
  · intro j hj hne
    refine absurd ?_ hne
    have e := congrFun (Finset.mem_filter.mp hj).2 0
    have e' : j 2 = i 0 := Fin.ext (congrArg Fin.val e)
    have h0 : (j 0).val < 1 := (j 0).isLt
    have h1 : (j 1).val < 1 := (j 1).isLt
    exact funext (Fin.forall_fin_succ.mpr ⟨Fin.ext (by show (j 0).val = 0; omega), Fin.forall_fin_two.mpr ⟨Fin.ext (by show (j 1).val = 0; omega), e'⟩⟩)

theorem sum_ends (h : S1x4096x1.ReducesTo [0, 2] S4096) (x : S1x4096x1.Idx → EReal) (init : EReal) (i : S4096.Idx) :
    Ideal.hostReduceAdd h x init i = init + x (ix3 (0 : Fin 1) (i 0) (0 : Fin 1)) := by
  unfold Ideal.hostReduceAdd
  refine congrArg (init + ·) ?_
  rw [Finset.sum_eq_single_of_mem (ix3 (0 : Fin 1) (i 0) (0 : Fin 1) : S1x4096x1.Idx)]
  · exact Finset.mem_filter.mpr ⟨Finset.mem_univ _, funext (Fin.forall_fin_one.mpr rfl)⟩
  · intro j hj hne
    refine absurd ?_ hne
    have e := congrFun (Finset.mem_filter.mp hj).2 0
    have e' : j 1 = i 0 := Fin.ext (congrArg Fin.val e)
    have h0 : (j 0).val < 1 := (j 0).isLt
    have h1 : (j 2).val < 1 := (j 2).isLt
    exact funext (Fin.forall_fin_succ.mpr ⟨Fin.ext (by show (j 0).val = 0; omega), Fin.forall_fin_two.mpr ⟨e', Fin.ext (by show (j 2).val = 0; omega)⟩⟩)

variable {N : Nums} {x0 : (⟨S4096x4096, .f32⟩ : BufTy).Contents (Elt Ideal)} {x1 : (⟨S1x4096x4096, .f32⟩ : BufTy).Contents (Elt Ideal)}
  {x2 : (⟨S4096, .f32⟩ : BufTy).Contents (Elt Ideal)} (h : Reads N x0 x1 x2)

section Wide

variable (i : S1x4096x4096.Idx) (r k : Fin 4096) (hr : (i 1).val = r.val) (hk : (i 2).val = k.val)

include h hr hk

theorem v0 : val_main_v0 (F := Ideal) x0 i = ((N.x r k : ℝ) : EReal) := by
  rw [val_main_v0_apply]
  exact h.x _ r k hr hk

theorem v1 : val_main_v1 (F := Ideal) x0 i = ((N.x r k * N.x r k : ℝ) : EReal) := by
  rw [val_main_v1_apply, v0 h i r k hr hk, Ideal.mulf_def, ← EReal.coe_mul]

theorem v15 : val_main_v15 (F := Ideal) x2 i = ((N.g k : ℝ) : EReal) := by
  rw [val_main_v15_apply, val_main_v14_apply]
  exact h.g _ k hk

theorem v35 : val_main_v35 (F := Ideal) x2 i = ((N.g k : ℝ) : EReal) := by
  rw [val_main_v35_apply, val_main_v14_apply]
  exact h.g _ k hk

end Wide

section Row

variable (i : S1x4096x1.Idx) (r : Fin 4096) (hr : (i 1).val = r.val)

include h hr

theorem v7 : val_main_v7 (F := Ideal) x0 i = ((N.ms r : ℝ) : EReal) := by
  rw [val_main_v7_apply, val_main_v5_apply, val_main_v3_apply, val_main_v2_apply, val_main_cst_apply, Consts.zero,
    zero_add_sum_coe fun k => v1 h _ r k hr rfl, val_main_v4_apply, val_main_cst_0_apply, Consts.width, val_main_v6_apply,
    val_main_cst_1_apply, Consts.eps, Ideal.hostDivf_def, coe_div_width, Ideal.addf_def, ← EReal.coe_add]
  rfl

theorem v8 : val_main_v8 (F := Ideal) x0 i = ((N.rs r : ℝ) : EReal) := by
  rw [val_main_v8_apply, v7 h i r hr, Ideal.hostUnary_rsqrt_def, coe_rsqrt (N.ms_pos r)]
  rfl

theorem v11 : val_main_v11 (F := Ideal) x0 i = ((-1 / 2 * (N.rs r / N.ms r) : ℝ) : EReal) := by
  rw [val_main_v11_apply, val_main_v10_apply, val_main_cst_2_apply, Consts.neghalf, val_main_v9_apply, v8 h i r hr, v7 h i r hr,
    Ideal.hostDivf_def, coe_div' _ (N.ms_pos r).ne', Ideal.mulf_def, ← EReal.coe_mul]

end Row

/-- One over the width, as the reference makes it. -/
theorem v29 (i : S1x4096.Idx) : val_main_v29 (F := Ideal) i = ((1 / 2 / 4096 : ℝ) : EReal) := by
  rw [val_main_v29_apply, val_main_v27_apply, val_main_v26_apply, val_main_cst_8_apply, val_main_cst_9_apply, Consts.half, Consts.one,
    val_main_v28_apply, val_main_cst_10_apply, Consts.width, Ideal.mulf_def, ← EReal.coe_mul, Ideal.hostDivf_def, coe_div_width, mul_one]

section Wide

variable (i : S1x4096x4096.Idx) (r k : Fin 4096) (hr : (i 1).val = r.val) (hk : (i 2).val = k.val)

include h hr hk

theorem v13 : val_main_v13 (F := Ideal) x0 i = ((N.xh r k : ℝ) : EReal) := by
  rw [val_main_v13_apply, v0 h i r k hr hk, val_main_v12_apply, v8 h _ r hr, Ideal.mulf_def, ← EReal.coe_mul]
  rfl

theorem v17 : val_main_v17 (F := Ideal) x0 x1 x2 i = ((N.df r k : ℝ) : EReal) := by
  rw [val_main_v17_apply, val_main_v16_apply, v13 h i r k hr hk, v15 h i r k hr hk, h.t i r k hr hk, Ideal.mulf_def, ← EReal.coe_mul,
    Ideal.subf_def, ← EReal.coe_sub]
  rfl

theorem v18 : val_main_v18 (F := Ideal) x0 x1 x2 i = ((N.df r k * N.df r k : ℝ) : EReal) := by
  rw [val_main_v18_apply, v17 h i r k hr hk, Ideal.mulf_def, ← EReal.coe_mul]

theorem v31 : val_main_v31 (F := Ideal) x0 x1 x2 i = ((N.dy r k : ℝ) : EReal) := by
  rw [val_main_v31_apply, val_main_v30_apply, v29, val_main_v20_apply, val_main_v19_apply, val_main_cst_3_apply, two, v17 h i r k hr hk,
    Ideal.mulf_def, Ideal.mulf_def, ← EReal.coe_mul, ← EReal.coe_mul]
  exact congrArg Real.toEReal (by unfold Nums.dy; ring)

theorem v32 : val_main_v32 (F := Ideal) x0 x1 x2 i = ((N.xh r k * N.dy r k : ℝ) : EReal) := by
  rw [val_main_v32_apply, v13 h i r k hr hk, v31 h i r k hr hk, Ideal.mulf_def, ← EReal.coe_mul]

theorem v36 : val_main_v36 (F := Ideal) x0 x1 x2 i = ((N.dy r k * N.g k : ℝ) : EReal) := by
  rw [val_main_v36_apply, v31 h i r k hr hk, v35 h i r k hr hk, Ideal.mulf_def, ← EReal.coe_mul]

theorem v38 : val_main_v38 (F := Ideal) x0 x1 x2 i = ((N.x r k * (N.dy r k * N.g k) : ℝ) : EReal) := by
  rw [val_main_v38_apply, v0 h i r k hr hk, v36 h i r k hr hk, Ideal.mulf_def, ← EReal.coe_mul]

end Wide

include h

/-- The gradient by the gain. -/
theorem v37 (i : S4096.Idx) : val_main_v37 (F := Ideal) x0 x1 x2 i = ((N.dg (i 0) : ℝ) : EReal) := by
  have e : val_main_v34 (F := Ideal) x0 x1 x2 (ix3 (0 : Fin 1) (0 : Fin 1) (i 0)) = ((N.dg (i 0) : ℝ) : EReal) := by
    rw [val_main_v34_apply, val_main_v33_apply, val_main_cst_11_apply, Consts.zero,
      zero_add_sum_coe fun r => v32 h _ r (i 0) rfl (by have h0 : (i 0).val < 4096 := (i 0).isLt; show ((0 * 1 + 0) * 4096 + (i 0).val) % 4096 = (i 0).val; omega)]
    exact congrArg Real.toEReal (N.dg_eq (i 0)).symm
  unfold val_main_v37
  refine (sum_front _ _ _ i).trans ?_
  rw [e, val_main_cst_12_apply, Consts.zero, EReal.coe_zero, zero_add]

theorem dg : val_main_v56 (F := Ideal) x0 x1 x2 = fun i => ((N.dg (i 1) : ℝ) : EReal) := by
  funext i
  rw [val_main_v56_apply, v37 h]
  rfl

/-- The loss. -/
theorem loss : val_main_v57 (F := Ideal) x0 x1 x2 = fun _ => ((N.loss : ℝ) : EReal) := by
  funext i
  have e : ∀ j : S1x4096.Idx, val_main_v23 (F := Ideal) x0 x1 x2 j = (((∑ k, N.df (j 1) k * N.df (j 1) k) / 4096 : ℝ) : EReal) := fun j => by
    rw [val_main_v23_apply, val_main_v21_apply, val_main_cst_4_apply, Consts.zero, zero_add_sum_coe fun k => v18 h _ (j 1) k rfl rfl,
      val_main_v22_apply, val_main_cst_5_apply, Consts.width, Ideal.hostDivf_def, coe_div_width]
  have s : ∑ j : S1x4096.Idx, (∑ k, N.df (j 1) k * N.df (j 1) k) / 4096 = ∑ r : Fin 4096, (∑ k, N.df r k * N.df r k) / 4096 := by
    refine Fintype.sum_bijective (fun j : S1x4096.Idx => (j 1 : Fin 4096)) ⟨fun a b hab => ?_, fun r => ⟨ix2 (0 : Fin 1) r, rfl⟩⟩ _ _ (fun _ => rfl)
    have ha : (a 0).val < 1 := (a 0).isLt
    have hb : (b 0).val < 1 := (b 0).isLt
    exact funext (Fin.forall_fin_two.mpr ⟨Fin.ext (by omega), hab⟩)
  rw [val_main_v57_apply, val_main_v25_apply, val_main_v24_apply, val_main_cst_6_apply, Consts.zero, zero_add_sum_coe e, s, val_main_cst_7_apply,
    Consts.half, Ideal.mulf_def, ← EReal.coe_mul, ← N.loss_eq]

/-- The share of the gradient by the rows that goes through a row's mean square. -/
theorem v46 (i : S4096.Idx) : val_main_v46 (F := Ideal) x0 x1 x2 i =
    (((∑ j, N.x (i 0) j * (N.dy (i 0) j * N.g j)) * (-1 / 2 * (N.rs (i 0) / N.ms (i 0))) / 4096 : ℝ) : EReal) := by
  have e : val_main_v45 (F := Ideal) x0 x1 x2 (ix3 (0 : Fin 1) (i 0) (0 : Fin 1)) =
      (((∑ j, N.x (i 0) j * (N.dy (i 0) j * N.g j)) * (-1 / 2 * (N.rs (i 0) / N.ms (i 0))) / 4096 : ℝ) : EReal) := by
    rw [val_main_v45_apply, val_main_v43_apply, val_main_v40_apply, val_main_v39_apply, val_main_cst_13_apply, Consts.zero,
      zero_add_sum_coe fun k => v38 h _ (i 0) k (by have h0 : (i 0).val < 4096 := (i 0).isLt; show ((0 * 4096 + (i 0).val) * 1 + 0) % 4096 = (i 0).val; omega) rfl, v11 h _ (i 0) rfl, val_main_v44_apply,
      val_main_cst_14_apply, Consts.width, Ideal.mulf_def, ← EReal.coe_mul, Ideal.hostDivf_def, coe_div_width]
  unfold val_main_v46
  refine (sum_ends _ _ _ i).trans ?_
  rw [e, val_main_cst_15_apply, Consts.zero, EReal.coe_zero, zero_add]

theorem v52 (i : S1x4096x4096.Idx) (r k : Fin 4096) (hr : (i 1).val = r.val) (hk : (i 2).val = k.val) :
    val_main_v52 (F := Ideal) x0 x1 x2 i = ((N.dx r k : ℝ) : EReal) := by
  have e : val_main_v48 (F := Ideal) x0 x1 x2 i =
      (((∑ j, N.x r j * (N.dy r j * N.g j)) * (-1 / 2 * (N.rs r / N.ms r)) / 4096 : ℝ) : EReal) := by
    rw [val_main_v48_apply, val_main_v47_apply, v46 h]
    obtain e' : (idx_main_v47 (idx_main_v48 i) 0 : Fin 4096) = r := Fin.ext hr
    rw [e']
  rw [val_main_v52_apply, val_main_v50_apply, val_main_v42_apply, v36 h i r k hr hk, val_main_v41_apply, v8 h _ r hr,
    val_main_v49_apply, v0 h i r k hr hk, val_main_v51_apply, v0 h i r k hr hk, e, N.dx_eq, EReal.coe_add, EReal.coe_add,
    EReal.coe_mul _ (N.rs r), EReal.coe_mul (N.x r k), EReal.coe_mul _ (N.x r k)]
  rfl

/-- The gradient by the rows, and the same at the shorter type. -/
theorem dx : val_main_v53 (F := Ideal) x0 x1 x2 = fun i => ((N.dx (i 0) (i 1) : ℝ) : EReal) := by
  funext i
  have h0 : (i 0).val < 4096 := (i 0).isLt
  have h1 : (i 1).val < 4096 := (i 1).isLt
  rw [val_main_v53_apply]
  exact v52 h _ (i 0) (i 1) (by show ((i 0).val * 4096 + (i 1).val) / 4096 % 4096 = (i 0).val; omega) (by show ((i 0).val * 4096 + (i 1).val) % 4096 = (i 1).val; omega)

theorem dx_short : val_main_v55 (F := Ideal) x0 x1 x2 = fun i => ((N.dx (i 0) (i 1) : ℝ) : EReal) := by
  funext i
  have h0 : (i 0).val < 4096 := (i 0).isLt
  have h1 : (i 1).val < 4096 := (i 1).isLt
  rw [val_main_v55_apply, val_main_v54_apply, v52 h _ (i 0) (i 1) (by show ((i 0).val * 4096 + (i 1).val) / 4096 % 4096 = (i 0).val; omega)
    (by show ((i 0).val * 4096 + (i 1).val) % 4096 = (i 1).val; omega)]
  rfl

end Cert.Head.Ref

end
-- ==== Proof.RmsRef.lean ====
/- The reference of the first normalisation's gradient, stage by stage. -/
module

public import proofs.«01_k».proof.Proof.RmsBack
public import proofs.«01_k».proof.Proof.HeadRef
public import proofs.«01_k».proof.Proof.Gen.NormBackReferenceIdeal.Read

@[expose] public section

set_option maxRecDepth 16384

noncomputable section

namespace Cert.RmsBack.Ref

open Idealize.ShloMosaic Cert.NormBackReferenceIdeal Cert.NormBackReferenceIdeal.Read
open Cert.Gating hiding Nums
open Cert.Head (Nums)

variable {N : Nums} {x0 : (⟨S1x4096x4096, .f32⟩ : BufTy).Contents (Elt Ideal)} {x1 : (⟨S4096x4096, .f32⟩ : BufTy).Contents (Elt Ideal)}
  {x3 : (⟨S1x4096, .f32⟩ : BufTy).Contents (Elt Ideal)} (h : Reads N x0 x1 x3)

section Row

variable (i : S1x4096x1.Idx) (r : Fin 4096) (hr : (i 1).val = r.val)

include h hr

theorem v7 : val_main_v7 (F := Ideal) x0 i = ((N.ms r : ℝ) : EReal) := by
  have e : ∀ (j : S1x4096x4096.Idx) (k : Fin 4096), (j 1).val = r.val → (j 2).val = k.val →
      val_main_v1 (F := Ideal) x0 j = ((N.x r k * N.x r k : ℝ) : EReal) := fun j k a b => by
    rw [val_main_v1_apply, h.x j r k a b, Ideal.mulf_def, ← EReal.coe_mul]
  rw [val_main_v7_apply, val_main_v5_apply, val_main_v3_apply, val_main_v2_apply, val_main_cst_apply, Consts.zero,
    zero_add_sum_coe fun k => e _ k hr rfl, val_main_v4_apply, val_main_cst_0_apply, Consts.width, val_main_v6_apply,
    val_main_cst_1_apply, Consts.eps, Ideal.hostDivf_def, coe_div_width, Ideal.addf_def, ← EReal.coe_add]
  rfl

theorem v8 : val_main_v8 (F := Ideal) x0 i = ((N.rs r : ℝ) : EReal) := by
  rw [val_main_v8_apply, v7 h i r hr, Ideal.hostUnary_rsqrt_def, coe_rsqrt (N.ms_pos r)]
  rfl

theorem v11 : val_main_v11 (F := Ideal) x0 i = ((-1 / 2 * (N.rs r / N.ms r) : ℝ) : EReal) := by
  rw [val_main_v11_apply, val_main_v10_apply, val_main_cst_2_apply, Consts.neghalf, val_main_v9_apply, v8 h i r hr, v7 h i r hr,
    Ideal.hostDivf_def, coe_div' _ (N.ms_pos r).ne', Ideal.mulf_def, ← EReal.coe_mul]

end Row

section Wide

variable (i : S1x4096x4096.Idx) (r k : Fin 4096) (hr : (i 1).val = r.val) (hk : (i 2).val = k.val)

include h hr hk

theorem v17 : val_main_v17 (F := Ideal) x1 i = ((N.dy r k : ℝ) : EReal) := by
  rw [val_main_v17_apply]
  exact h.d _ r k hr hk

theorem v18 : val_main_v18 (F := Ideal) x0 x1 i = ((N.xh r k * N.dy r k : ℝ) : EReal) := by
  rw [val_main_v18_apply, val_main_v13_apply, h.x i r k hr hk, val_main_v12_apply, v8 h _ r hr, v17 h i r k hr hk, Ideal.mulf_def, Ideal.mulf_def,
    ← EReal.coe_mul, ← EReal.coe_mul]
  rfl

theorem v22 : val_main_v22 (F := Ideal) x1 x3 i = ((N.dy r k * N.g k : ℝ) : EReal) := by
  have e : val_main_v21 (F := Ideal) x3 i = ((N.g k : ℝ) : EReal) := by
    rw [val_main_v21_apply, val_main_v14_apply, val_main_v0_apply]
    exact h.g _ k (by have b := (i 2).isLt; have b' : (i 2).val < 4096 := b; first | exact hk | (show (i 2).val % 4096 = k.val; omega))
  rw [val_main_v22_apply, v17 h i r k hr hk, e, Ideal.mulf_def, ← EReal.coe_mul]

theorem v24 : val_main_v24 (F := Ideal) x0 x1 x3 i = ((N.x r k * (N.dy r k * N.g k) : ℝ) : EReal) := by
  rw [val_main_v24_apply, h.x i r k hr hk, v22 h i r k hr hk, Ideal.mulf_def, ← EReal.coe_mul]

end Wide

include h

/-- The gradient by the gain. -/
theorem dg : val_main_v41 (F := Ideal) x0 x1 = fun i => ((N.dg (i 1) : ℝ) : EReal) := by
  have v23 : ∀ i : S4096.Idx, val_main_v23 (F := Ideal) x0 x1 i = ((N.dg (i 0) : ℝ) : EReal) := fun i => by
    have e : val_main_v20 (F := Ideal) x0 x1 (ix3 (0 : Fin 1) (0 : Fin 1) (i 0)) = ((N.dg (i 0) : ℝ) : EReal) := by
      rw [val_main_v20_apply, val_main_v19_apply, val_main_cst_3_apply, Consts.zero,
        zero_add_sum_coe fun r => v18 h _ r (i 0) rfl (by have h0 : (i 0).val < 4096 := (i 0).isLt; show ((0 * 1 + 0) * 4096 + (i 0).val) % 4096 = (i 0).val; omega)]
      exact congrArg Real.toEReal (N.dg_eq (i 0)).symm
    unfold val_main_v23
    refine (Head.Ref.sum_front _ _ _ i).trans ?_
    rw [e, val_main_cst_4_apply, Consts.zero, EReal.coe_zero, zero_add]
  funext i
  rw [val_main_v41_apply, v23]
  rfl

/-- The share of the gradient by the rows that goes through a row's mean square. -/
theorem v32 (i : S4096.Idx) : val_main_v32 (F := Ideal) x0 x1 x3 i =
    (((∑ j, N.x (i 0) j * (N.dy (i 0) j * N.g j)) * (-1 / 2 * (N.rs (i 0) / N.ms (i 0))) / 4096 : ℝ) : EReal) := by
  have e : val_main_v31 (F := Ideal) x0 x1 x3 (ix3 (0 : Fin 1) (i 0) (0 : Fin 1)) =
      (((∑ j, N.x (i 0) j * (N.dy (i 0) j * N.g j)) * (-1 / 2 * (N.rs (i 0) / N.ms (i 0))) / 4096 : ℝ) : EReal) := by
    rw [val_main_v31_apply, val_main_v29_apply, val_main_v26_apply, val_main_v25_apply, val_main_cst_5_apply, Consts.zero,
      zero_add_sum_coe fun k => v24 h _ (i 0) k (by have h0 : (i 0).val < 4096 := (i 0).isLt; show ((0 * 4096 + (i 0).val) * 1 + 0) % 4096 = (i 0).val; omega) rfl, v11 h _ (i 0) rfl, val_main_v30_apply,
      val_main_cst_6_apply, Consts.width, Ideal.mulf_def, ← EReal.coe_mul, Ideal.hostDivf_def, coe_div_width]
  unfold val_main_v32
  refine (Head.Ref.sum_ends _ _ _ i).trans ?_
  rw [e, val_main_cst_7_apply, Consts.zero, EReal.coe_zero, zero_add]

theorem v38 (i : S1x4096x4096.Idx) (r k : Fin 4096) (hr : (i 1).val = r.val) (hk : (i 2).val = k.val) :
    val_main_v38 (F := Ideal) x0 x1 x3 i = ((N.dx r k : ℝ) : EReal) := by
  have e : val_main_v34 (F := Ideal) x0 x1 x3 i =
      (((∑ j, N.x r j * (N.dy r j * N.g j)) * (-1 / 2 * (N.rs r / N.ms r)) / 4096 : ℝ) : EReal) := by
    rw [val_main_v34_apply, val_main_v33_apply, v32 h]
    obtain e' : (idx_main_v33 (idx_main_v34 i) 0 : Fin 4096) = r := Fin.ext hr
    rw [e']
  rw [val_main_v38_apply, val_main_v36_apply, val_main_v28_apply, v22 h i r k hr hk, val_main_v27_apply, v8 h _ r hr,
    val_main_v35_apply, h.x i r k hr hk, val_main_v37_apply, h.x i r k hr hk, e, N.dx_eq, EReal.coe_add, EReal.coe_add,
    EReal.coe_mul _ (N.rs r), EReal.coe_mul (N.x r k), EReal.coe_mul _ (N.x r k)]
  rfl

/-- The gradient by the rows, the residual's gradient added. -/
theorem dx (x2 : (⟨S4096x4096, .f32⟩ : BufTy).Contents (Elt Ideal)) :
    val_main_v40 (F := Ideal) x0 x1 x2 x3 = fun i => total N x2 (i 0) (i 1) := by
  funext i
  obtain ⟨y0, y1, rfl⟩ : ∃ (y0 y1 : Fin 4096), i = ix2 y0 y1 := ⟨_, _, funext (Fin.forall_fin_two.mpr ⟨rfl, rfl⟩)⟩
  rw [val_main_v40_apply, val_main_v39_apply,
    v38 h _ y0 y1 (by show (y0.val * 4096 + y1.val) / 4096 % 4096 = y0.val; omega) (by show (y0.val * 4096 + y1.val) % 4096 = y1.val; omega)]
  rfl

end Cert.RmsBack.Ref

end
-- ==== Proof.RmsClaim.lean ====
/- The claims of the first normalisation's gradient: the precondition read back, the reference's frame, and the equality with the reference. -/
module

public import proofs.«01_k».proof.Defs
public import proofs.«01_k».proof.Proof.Finite
public import proofs.«01_k».proof.Proof.RmsRef
public import proofs.«01_k».proof.Proof.Gen.NormBack.Frame
public import proofs.«01_k».proof.Proof.Gen.NormBackReferenceIdeal.Run
public import Idealize.ShloMosaic.Lib.Quiescent
public import Idealize.ShloMosaic.Adequacy
public import Idealize.ShloMosaic.Init

@[expose] public section

set_option maxRecDepth 16384

noncomputable section

namespace Cert.RmsBack

open Idealize.ShloMosaic Idealize.SL.Sem
open Cert.Head (Nums)

section

open Cert.Pre_finite_norm Cert.Gating.Finite

/-- The side conditions of the precondition's operations. -/
theorem facts : Cert.Pre_finite_norm.Facts where
  bcast_S_S1x4096x4096 := by decide
  reducesTo_S1x4096x4096_S_d0_1_2 := by decide
  h_S_ := by decide
  bcast_S_S4096x4096 := by decide
  reducesTo_S4096x4096_S_d0_1 := by decide
  bcast_S_S1x4096 := by decide
  reducesTo_S1x4096_S_d0_1 := by decide

variable [Cert.Pre_finite_norm.Facts]

/-- The real numbers that the arrays hold. -/
theorem reads {x0 : FVec Ideal S1x4096x4096 .f32} {x1 x2 : FVec Ideal S4096x4096 .f32} {x3 : FVec Ideal S1x4096 .f32}
    (h : Cert.Pre_finite_norm.fn (F := Ideal) x0 x1 x2 x3 = fun _ => 1#1) : ∃ N : Nums, Reads N x0 x1 x3 := by
  dsimp only [fn] at h
  obtain ⟨h, h3⟩ := andi_at_one h
  obtain ⟨h0, h1⟩ := andi_at_one h
  have e0 : ∀ i, x0 i = (((x0 i : EReal).toReal : ℝ) : EReal) := fun i => real_of_lt _ (Host.reduce_andi_all _ _ _ _ _ (congrFun h0 (fun a => a.elim0)) i)
  have e1 : ∀ i, x1 i = (((x1 i : EReal).toReal : ℝ) : EReal) := fun i => real_of_lt _ (Host.reduce_andi_all _ _ _ _ _ (congrFun h1 (fun a => a.elim0)) i)
  have e3 : ∀ i, x3 i = (((x3 i : EReal).toReal : ℝ) : EReal) := fun i => real_of_lt _ (Host.reduce_andi_all _ _ _ _ _ (congrFun h3 (fun a => a.elim0)) i)
  refine ⟨ofGrad (fun r k => (x0 (ix3 (0 : Fin 1) r k : S1x4096x4096.Idx) : EReal).toReal) (fun r k => (x1 (ix2 r k : S4096x4096.Idx) : EReal).toReal)
    (fun k => (x3 (ix2 (0 : Fin 1) k : S1x4096.Idx) : EReal).toReal), ⟨fun i r k a b => ?_, fun i r k a b => ?_, fun i k a => ?_⟩⟩
  · rw [e0 i]
    refine congrArg (fun j => (((x0 j : EReal).toReal : ℝ) : EReal)) ?_
    have z : (i 0).val < 1 := (i 0).isLt
    exact funext (Fin.forall_fin_succ.mpr ⟨Fin.ext (by show (i 0).val = 0; omega), Fin.forall_fin_two.mpr ⟨Fin.ext a, Fin.ext b⟩⟩)
  · rw [e1 i, dy_ofGrad]
    refine congrArg (fun j => (((x1 j : EReal).toReal : ℝ) : EReal)) ?_
    exact funext (Fin.forall_fin_two.mpr ⟨Fin.ext a, Fin.ext b⟩)
  · rw [e3 i]
    refine congrArg (fun j => (((x3 j : EReal).toReal : ℝ) : EReal)) ?_
    have z : (i 0).val < 1 := (i 0).isLt
    exact funext (Fin.forall_fin_two.mpr ⟨Fin.ext (by show (i 0).val = 0; omega), Fin.ext a⟩)

end

/-- The two programs, from memories that agree on the arguments. -/
theorem equal : Cert.algebraic_NormBackIdeal_NormBackReferenceIdeal_pre_finite_norm (hPre_finite_norm := facts) := by
  intro m g m' g' hpre hag
  have hN : ∀ c, ∃ N : Nums, Holds N m c := fun c => haveI := facts; reads (hpre c)
  choose N hN using hN
  refine ⟨fun c y => total (N c) (m ((c.tc : Thread Cert.NormBackIdeal.nD Cert.NormBackIdeal.τ).loc Cert.NormBackIdeal.main_arg2)) (y 0) (y 1),
    fun c y => (((N c).dg (y 1) : ℝ) : EReal), ?_, ?_⟩
  · refine (θ_run Cert.NormBackIdeal.defs _ _).mono (fun r h c => ?_) (Cert.NormBackIdeal.Value.run_blocks m g)
    obtain ⟨h0, h1, hargs⟩ := h c
    exact ⟨h0.trans (arr_d (hN c)), h1.trans (arr_g (hN c)), hargs⟩
  · refine (θ_run Cert.NormBackReferenceIdeal.defs _ _).mono (fun r h c => ?_) (Cert.NormBackReferenceIdeal.Value.run m' g')
    obtain ⟨h0, h1, hargs⟩ := h c
    obtain ⟨a0, a1, a2, a3⟩ := hag c
    have hR : Reads (N c) (m' ((c.tc : Thread Cert.NormBackReferenceIdeal.nD Cert.NormBackReferenceIdeal.τ).loc Cert.NormBackReferenceIdeal.main_arg0))
        (m' ((c.tc : Thread Cert.NormBackReferenceIdeal.nD Cert.NormBackReferenceIdeal.τ).loc Cert.NormBackReferenceIdeal.main_arg1))
        (m' ((c.tc : Thread Cert.NormBackReferenceIdeal.nD Cert.NormBackReferenceIdeal.τ).loc Cert.NormBackReferenceIdeal.main_arg3)) := by
      rw [a0, a1, a3]; exact hN c
    have e2 : total (N c) (m' ((c.tc : Thread Cert.NormBackReferenceIdeal.nD Cert.NormBackReferenceIdeal.τ).loc Cert.NormBackReferenceIdeal.main_arg2)) =
        total (N c) (m ((c.tc : Thread Cert.NormBackIdeal.nD Cert.NormBackIdeal.τ).loc Cert.NormBackIdeal.main_arg2)) := congrArg (total (N c)) a2
    exact ⟨h0.trans ((Cert.NormBackReferenceIdeal.Read.val_main_v40_eq m' c).trans ((Ref.dx hR _).trans (funext fun y => congrFun (congrFun e2 (y 0)) (y 1)))),
      h1.trans ((Cert.NormBackReferenceIdeal.Read.val_main_v41_eq (m' ((c.tc : Thread Cert.NormBackReferenceIdeal.nD Cert.NormBackReferenceIdeal.τ).loc Cert.NormBackReferenceIdeal.main_arg0))
        (m' ((c.tc : Thread Cert.NormBackReferenceIdeal.nD Cert.NormBackReferenceIdeal.τ).loc Cert.NormBackReferenceIdeal.main_arg1))).trans (Ref.dg hR)), hargs⟩

/-- The reference runs, keeps its arguments, and has no semaphore. -/
theorem frame_r : Cert.quiescent_NormBackReferenceIdeal := fun m g _ =>
  (θ_run Cert.NormBackReferenceIdeal.defs _ _).mono (fun r h => ⟨fun c => (h c).2.2, sem_eq_zero_of_no_sems (by decide) _⟩)
    (Cert.NormBackReferenceIdeal.Value.run m g)

end Cert.RmsBack

end
-- ==== Proof.HeadBlock.lean ====
/- One block of rows of the loss head: what the kernel computes from the block's rows and targets and from the gain. -/
module

public import proofs.«01_k».proof.Proof.HeadSpec
public import proofs.«01_k».proof.Proof.Gen.LossIdeal.Skeleton
public import Idealize.ShloMosaic.Lib.Pointwise

@[expose] public section

set_option maxRecDepth 16384

noncomputable section

namespace Cert.Head

open Idealize.ShloMosaic Cert.LossIdeal Cert.LossIdeal.Gen Cert.Gating

theorem inverse_width : (FloatOps.ofBits .f32 0x39800000#32 : Ideal .f32) = ((1 / 4096 : ℝ) : EReal) := by
  simp [FloatOps.ofBits, Ideal.ofBits, Ideal.ieee, -EReal.coe_mul]; norm_num
theorem half_inverse_width : (FloatOps.ofBits .f32 0x39000000#32 : Ideal .f32) = ((1 / 8192 : ℝ) : EReal) := by
  simp [FloatOps.ofBits, Ideal.ofBits, Ideal.ieee, -EReal.coe_mul]; norm_num

/-- What the blocks of point `n` hold. -/
structure Block (N : Nums) (n : Fin 32) (x0 x1 : FVec Ideal S128x4096 .f32) (x2 : FVec Ideal S1x4096 .f32) : Prop where
  x : ∀ r k, x0 (ix2 r k) = ((N.x (row n r) k : ℝ) : EReal)
  t : ∀ r k, x1 (ix2 r k) = ((N.t (row n r) k : ℝ) : EReal)
  g : ∀ k, x2 (ix2 (0 : Fin 1) k) = ((N.g k : ℝ) : EReal)

namespace Block

variable {N : Nums} {n : Fin 32} {x0 x1 : FVec Ideal S128x4096 .f32} {x2 : FVec Ideal S1x4096 .f32} (h : Block N n x0 x1 x2)

include h

theorem rs (r : Fin 128) : k0_pay7 (F := Ideal) x0 (ix2 r (0 : Fin 1)) = ((N.rs (row n r) : ℝ) : EReal) := by
  have e : k0_pay7 (F := Ideal) x0 (ix2 r (0 : Fin 1)) = Ideal.rsqrt (Ideal.div (∑ k : Fin 4096, x0 (ix2 r k) * x0 (ix2 r k))
      (FloatOps.ofBits .f32 0x45800000#32 : Ideal .f32) + (FloatOps.ofBits .f32 0x3727C5AC#32 : Ideal .f32)) := by
    pointwise [k0_pay7]
  rw [e, sum_coe fun k => by rw [h.x r k, ← EReal.coe_mul], Consts.width, Consts.eps, coe_div_width, ← EReal.coe_add]
  exact (coe_rsqrt (N.ms_pos (row n r))).trans rfl

theorem xh (r : Fin 128) (k : Fin 4096) : k0_pay8 (F := Ideal) x0 (ix2 r k) = ((N.xh (row n r) k : ℝ) : EReal) := by
  have e : k0_pay8 (F := Ideal) x0 (ix2 r k) = x0 (ix2 r k) * k0_pay7 (F := Ideal) x0 (ix2 r (0 : Fin 1)) := by pointwise [k0_pay8]
  rw [e, h.x, h.rs, ← EReal.coe_mul]
  rfl

theorem df (r : Fin 128) (k : Fin 4096) : k0_pay9 (F := Ideal) x0 x2 x1 (ix2 r k) = ((N.df (row n r) k : ℝ) : EReal) := by
  have e : k0_pay9 (F := Ideal) x0 x2 x1 (ix2 r k) = k0_pay8 (F := Ideal) x0 (ix2 r k) * x2 (ix2 (0 : Fin 1) k) - x1 (ix2 r k) := by
    pointwise [k0_pay9, k0_pay6]
  rw [e, h.xh, h.g, h.t, ← EReal.coe_mul, ← EReal.coe_sub]
  rfl

theorem dy (r : Fin 128) (k : Fin 4096) : k0_pay11 (F := Ideal) x0 x2 x1 (ix2 r k) = ((N.dy (row n r) k : ℝ) : EReal) := by
  have e : k0_pay11 (F := Ideal) x0 x2 x1 (ix2 r k) = k0_pay9 (F := Ideal) x0 x2 x1 (ix2 r k) * (FloatOps.ofBits .f32 0x39800000#32 : Ideal .f32) := by
    pointwise [k0_pay11]
  rw [e, h.df, inverse_width, ← EReal.coe_mul]
  rfl

theorem dyxh (r : Fin 128) (k : Fin 4096) : k0_pay13 (F := Ideal) x0 x2 x1 (ix2 r k) = ((N.dy (row n r) k * N.xh (row n r) k : ℝ) : EReal) := by
  have e : k0_pay13 (F := Ideal) x0 x2 x1 (ix2 r k) = k0_pay11 (F := Ideal) x0 x2 x1 (ix2 r k) * k0_pay8 (F := Ideal) x0 (ix2 r k) := by pointwise [k0_pay13]
  rw [e, h.dy, h.xh, ← EReal.coe_mul]

/-- The block of the gradient by the rows. -/
theorem dx (r : Fin 128) (k : Fin 4096) : k0_pay2 (F := Ideal) (k0_pay6 (F := Ideal) x2) (k0_pay7 (F := Ideal) x0) (k0_pay8 (F := Ideal) x0) (k0_pay11 (F := Ideal) x0 x2 x1) (ix2 r k) =
    ((N.dx (row n r) k : ℝ) : EReal) := by
  have e : k0_pay2 (F := Ideal) (k0_pay6 (F := Ideal) x2) (k0_pay7 (F := Ideal) x0) (k0_pay8 (F := Ideal) x0) (k0_pay11 (F := Ideal) x0 x2 x1) (ix2 r k) =
      k0_pay7 (F := Ideal) x0 (ix2 r (0 : Fin 1)) * (k0_pay11 (F := Ideal) x0 x2 x1 (ix2 r k) * x2 (ix2 (0 : Fin 1) k) - k0_pay8 (F := Ideal) x0 (ix2 r k) *
        Ideal.div (∑ j : Fin 4096, k0_pay11 (F := Ideal) x0 x2 x1 (ix2 r j) * x2 (ix2 (0 : Fin 1) j) * k0_pay8 (F := Ideal) x0 (ix2 r j)) (FloatOps.ofBits .f32 0x45800000#32 : Ideal .f32)) := by
    pointwise [k0_pay2, k0_pay6]
  rw [e, sum_coe fun j => by rw [h.dy r j, h.g j, h.xh r j, ← EReal.coe_mul, ← EReal.coe_mul], h.rs, h.dy, h.g, h.xh, Consts.width, coe_div_width,
    ← EReal.coe_mul, ← EReal.coe_mul, ← EReal.coe_sub, ← EReal.coe_mul]
  rfl

/-- The gradient by the gain, a block's share added. -/
theorem dg {old : FVec Ideal S1x4096 .f32} {a : Fin 4096 → ℝ} (ho : ∀ k, old (ix2 (0 : Fin 1) k) = ((a k : ℝ) : EReal)) (k : Fin 4096) :
    k0_pay1 (F := Ideal) (k0_pay12 (F := Ideal) old) (k0_pay13 (F := Ideal) x0 x2 x1) (ix2 (0 : Fin 1) k) = ((a k + N.dg1 n k : ℝ) : EReal) := by
  have e : k0_pay1 (F := Ideal) (k0_pay12 (F := Ideal) old) (k0_pay13 (F := Ideal) x0 x2 x1) (ix2 (0 : Fin 1) k) =
      old (ix2 (0 : Fin 1) k) + ∑ r : Fin 128, k0_pay13 (F := Ideal) x0 x2 x1 (ix2 r k) := by
    pointwise [k0_pay1, k0_pay12]
  rw [e, sum_coe fun r => h.dyxh r k, ho, ← EReal.coe_add]
  rfl

/-- The loss, a block's share added. -/
theorem loss {old : FVec Ideal S8x128 .f32} {a : ℝ} (ho : ∀ p q, old (ix2 p q) = ((a : ℝ) : EReal)) (p : Fin 8) (q : Fin 128) :
    k0_pay10 (F := Ideal) x0 x2 x1 old (ix2 p q) = ((a + N.loss1 n : ℝ) : EReal) := by
  have e : k0_pay10 (F := Ideal) x0 x2 x1 old (ix2 p q) = old (ix2 p q) + (FloatOps.ofBits .f32 0x39000000#32 : Ideal .f32) *
      ∑ r : Fin 128, ∑ k : Fin 4096, k0_pay9 (F := Ideal) x0 x2 x1 (ix2 r k) * k0_pay9 (F := Ideal) x0 x2 x1 (ix2 r k) := by
    pointwise [k0_pay10]
  rw [e, sum_coe fun r => sum_coe fun k => by rw [h.df r k, ← EReal.coe_mul], half_inverse_width, ho, ← EReal.coe_mul, ← EReal.coe_add]
  rfl

end Block

end Cert.Head

end
-- ==== Proof.HeadArrays.lean ====
/- The four arrays that the loss head leaves. -/
module

public import proofs.«01_k».proof.Proof.HeadBlock
public import proofs.«01_k».proof.Proof.Gen.LossIdeal.Value
public import Idealize.ShloMosaic.Lib.Pipeline.ValueKit
public import Idealize.ShloMosaic.Lib.Pipeline.ReadBack

@[expose] public section

set_option maxRecDepth 16384

noncomputable section

namespace Cert.Head

open Idealize.ShloMosaic Idealize.ShloMosaic.TcCoe Idealize.SL.Sem Cert.LossIdeal Cert.LossIdeal.Gen
open Idealize.ShloMosaic.Pipeline (Dat)

/-- The block of rows that a grid point computes. -/
def nOf (t : Fin cfg0.N) : Fin 32 := ⟨t.val, t.isLt⟩

/-- The numbers of `N` are what the launched contents hold. -/
abbrev Holds (N : Nums) (m : (ℓ : Loc nD τ LossIdeal.sig) → Buf (Elt Ideal) ℓ) (c : Dev nD) : Prop :=
  Reads N (m ((c : Thread nD τ).loc main_arg0)) (m ((c : Thread nD τ).loc main_arg1)) (m ((c : Thread nD τ).loc main_arg2))

variable {N : Nums} {m : (ℓ : Loc nD τ LossIdeal.sig) → Buf (Elt Ideal) ℓ} {c : Dev nD}

theorem idx0 : ∀ t : Fin grid0.N, (win0_0).index t = ![t.val, 0] := by decide +kernel
theorem idx1 : ∀ t : Fin grid0.N, (win0_1).index t = ![t.val, 0] := by decide +kernel
theorem idx2 : ∀ t : Fin grid0.N, (win0_2).index t = ![0, 0] := by decide +kernel
theorem idx3 : ∀ t : Fin grid0.N, (win0_3).index t = ![t.val, 0] := by decide +kernel
theorem idx4 : ∀ t : Fin grid0.N, (win0_4).index t = ![t.val, 0] := by decide +kernel

theorem part0 (h : Holds N m c) (t : Fin cfg0.N) (r : Fin 128) (k : Fin 4096) :
    (iblk m c 0 t : Vec Ideal S128x4096 .f32) (ix2 r k) = ((N.x (row (nOf t) r) k : ℝ) : EReal) := by
  have e := idx0 t
  refine (congrFun (V_main_arg0 m c) _).trans (h.x _ _ _ ?_ ?_)
  · blk_simp [e, row, nOf]
  · blk_simp [e]

theorem part1 (h : Holds N m c) (t : Fin cfg0.N) (r : Fin 128) (k : Fin 4096) :
    (iblk m c 1 t : Vec Ideal S128x4096 .f32) (ix2 r k) = ((N.t (row (nOf t) r) k : ℝ) : EReal) := by
  show V m c main_v0 (((cfg0.win 1).blk t).view.emb (ix2 r k)) = _
  have e := idx1 t
  obtain e' : ((cfg0.win 1).blk t).view.emb (ix2 r k) = ix2 (row (nOf t) r) k := by
    refine funext (Fin.forall_fin_two.mpr ⟨Fin.ext ?_, Fin.ext ?_⟩)
    · blk_simp [e, row, nOf]
    · blk_simp [e]
  rw [e']
  entry_read
  pointwise
  exact h.t _ _ _ rfl rfl

theorem part2 (h : Holds N m c) (t : Fin cfg0.N) (k : Fin 4096) :
    (iblk m c 2 t : Vec Ideal S1x4096 .f32) (ix2 (0 : Fin 1) k) = ((N.g k : ℝ) : EReal) := by
  show V m c main_v1 (((cfg0.win 2).blk t).view.emb (ix2 (0 : Fin 1) k)) = _
  have e := idx2 t
  obtain e' : ((cfg0.win 2).blk t).view.emb (ix2 (0 : Fin 1) k) = ix2 (0 : Fin 1) k := by
    refine funext (Fin.forall_fin_two.mpr ⟨Fin.ext ?_, Fin.ext ?_⟩)
    · blk_simp [e]
    · blk_simp [e]
  rw [e']
  entry_read
  pointwise
  exact h.g _ _ rfl

theorem block (h : Holds N m c) (t : Fin cfg0.N) : Block N (nOf t) (iblk m c 0 t) (iblk m c 1 t) (iblk m c 2 t) :=
  ⟨part0 h t, part1 h t, part2 h t⟩

theorem outD_A (h : Holds N m c) (t : Fin cfg0.N) (h0 : t.val % 32 = 0) (r : Fin 128) (k : Fin 4096) :
    (outsAt0 m c t.val t.isLt).1 (ix2 r k) = ((N.dx (row (nOf t) r) k : ℝ) : EReal) := by
  rw [outsAt0_A m c t h0]
  dsimp only
  frame_out
  exact (block h t).dx r k

theorem outD_B (h : Holds N m c) (t : Fin cfg0.N) (h0 : ¬ t.val % 32 = 0) (r : Fin 128) (k : Fin 4096) :
    (outsAt0 m c t.val t.isLt).1 (ix2 r k) = ((N.dx (row (nOf t) r) k : ℝ) : EReal) := by
  rw [outsAt0_B m c t h0]
  dsimp only
  frame_out
  exact (block h t).dx r k

theorem outD (h : Holds N m c) (t : Fin cfg0.N) (r : Fin 128) (k : Fin 4096) :
    (outsAt0 m c t.val t.isLt).1 (ix2 r k) = ((N.dx (row (nOf t) r) k : ℝ) : EReal) :=
  if h0 : t.val % 32 = 0 then outD_A h t h0 r k else outD_B h t h0 r k

theorem outS_A (h : Holds N m c) (t : Fin cfg0.N) (h0 : t.val % 32 = 0) (r : Fin 128) (k : Fin 4096) :
    (outsAt0 m c t.val t.isLt).2.1 (ix2 r k) = ((N.dx (row (nOf t) r) k : ℝ) : EReal) := by
  rw [outsAt0_A m c t h0]
  dsimp only
  frame_out
  exact (block h t).dx r k

theorem outS_B (h : Holds N m c) (t : Fin cfg0.N) (h0 : ¬ t.val % 32 = 0) (r : Fin 128) (k : Fin 4096) :
    (outsAt0 m c t.val t.isLt).2.1 (ix2 r k) = ((N.dx (row (nOf t) r) k : ℝ) : EReal) := by
  rw [outsAt0_B m c t h0]
  dsimp only
  frame_out
  exact (block h t).dx r k

theorem outS (h : Holds N m c) (t : Fin cfg0.N) (r : Fin 128) (k : Fin 4096) :
    (outsAt0 m c t.val t.isLt).2.1 (ix2 r k) = ((N.dx (row (nOf t) r) k : ℝ) : EReal) :=
  if h0 : t.val % 32 = 0 then outS_A h t h0 r k else outS_B h t h0 r k

theorem outG_A (h : Holds N m c) (t : Fin cfg0.N) (h0 : t.val % 32 = 0) (k : Fin 4096) :
    (outsAt0 m c t.val t.isLt).2.2.1 (ix2 (0 : Fin 1) k) = ((N.dg1 (nOf t) k : ℝ) : EReal) := by
  rw [outsAt0_A m c t h0]
  dsimp only
  frame_out
  exact ((block h t).dg (a := fun _ => 0) (fun _ => Gating.Consts.zero) k).trans (congrArg Real.toEReal (zero_add _))

theorem outG_B (h : Holds N m c) (t : Fin cfg0.N) (h0 : ¬ t.val % 32 = 0) {a : Fin 4096 → ℝ}
    (ho : ∀ k, (outsAt0 m c (t.val - 1) (Nat.lt_of_le_of_lt (Nat.sub_le _ _) t.isLt)).2.2.1 (ix2 (0 : Fin 1) k) = ((a k : ℝ) : EReal)) (k : Fin 4096) :
    (outsAt0 m c t.val t.isLt).2.2.1 (ix2 (0 : Fin 1) k) = ((a k + N.dg1 (nOf t) k : ℝ) : EReal) := by
  rw [outsAt0_B m c t h0]
  dsimp only
  revert ho
  generalize (outsAt0 m c (t.val - 1) (Nat.lt_of_le_of_lt (Nat.sub_le _ _) t.isLt)) = Y
  intro ho
  frame_out
  exact (block h t).dg ho k

theorem outL_A (h : Holds N m c) (t : Fin cfg0.N) (h0 : t.val % 32 = 0) (p : Fin 8) (q : Fin 128) :
    (outsAt0 m c t.val t.isLt).2.2.2 (ix2 p q) = ((N.loss1 (nOf t) : ℝ) : EReal) := by
  rw [outsAt0_A m c t h0]
  dsimp only
  frame_out
  exact ((block h t).loss (a := 0) (fun _ _ => Gating.Consts.zero) p q).trans (congrArg Real.toEReal (zero_add _))

theorem outL_B (h : Holds N m c) (t : Fin cfg0.N) (h0 : ¬ t.val % 32 = 0) {a : ℝ}
    (ho : ∀ p q, (outsAt0 m c (t.val - 1) (Nat.lt_of_le_of_lt (Nat.sub_le _ _) t.isLt)).2.2.2 (ix2 p q) = ((a : ℝ) : EReal)) (p : Fin 8) (q : Fin 128) :
    (outsAt0 m c t.val t.isLt).2.2.2 (ix2 p q) = ((a + N.loss1 (nOf t) : ℝ) : EReal) := by
  rw [outsAt0_B m c t h0]
  dsimp only
  revert ho
  generalize (outsAt0 m c (t.val - 1) (Nat.lt_of_le_of_lt (Nat.sub_le _ _) t.isLt)) = Y
  intro ho
  frame_out
  exact (block h t).loss ho p q

/-- The gradient by the gain after point `k`: the shares of the points up to it. -/
theorem accG (h : Holds N m c) (n : ℕ) (hn : n < 32) (hn' : n < cfg0.N) : ∀ k : Fin 4096,
    (outsAt0 m c n hn').2.2.1 (ix2 (0 : Fin 1) k) = ((∑ j : Fin (n + 1), N.dg1 ⟨j.val, by omega⟩ k : ℝ) : EReal) := by
  induction n with
  | zero =>
    intro k
    refine (outG_A h ⟨0, hn'⟩ rfl k).trans (congrArg Real.toEReal ?_)
    rw [Fin.sum_univ_one]
    rfl
  | succ n ih =>
    intro k
    refine (outG_B h ⟨n + 1, hn'⟩ (by show ¬ (n + 1) % 32 = 0; omega) (fun k => ih (by omega) (by omega) k) k).trans (congrArg Real.toEReal ?_)
    rw [Fin.sum_univ_castSucc (n := n + 1)]
    rfl

/-- The loss after point `k`, likewise. -/
theorem accL (h : Holds N m c) (n : ℕ) (hn : n < 32) (hn' : n < cfg0.N) : ∀ (p : Fin 8) (q : Fin 128),
    (outsAt0 m c n hn').2.2.2 (ix2 p q) = ((∑ j : Fin (n + 1), N.loss1 ⟨j.val, by omega⟩ : ℝ) : EReal) := by
  induction n with
  | zero =>
    intro p q
    refine (outL_A h ⟨0, hn'⟩ rfl p q).trans (congrArg Real.toEReal ?_)
    rw [Fin.sum_univ_one]
    rfl
  | succ n ih =>
    intro p q
    refine (outL_B h ⟨n + 1, hn'⟩ (by show ¬ (n + 1) % 32 = 0; omega) (a := ∑ j : Fin (n + 1), N.loss1 ⟨j.val, by omega⟩) (fun p q => ih (by omega) (by omega) p q) p q).trans (congrArg Real.toEReal ?_)
    rw [Fin.sum_univ_castSucc (n := n + 1)]
    rfl

/-- The gradient by the rows, and the same at the shorter type. -/
theorem arr_d (h : Holds N m c) : (dats m 0 c).arrAt 3 cfg0.N = fun y : S4096x4096.Idx => ((N.dx (y 0) (y 1) : ℝ) : EReal) := by
  refine (dats m 0 c).arrAt_eq_of_covers 3 _ (by decide +kernel) fun t hf y => ?_
  have e := idx3 t
  obtain ⟨y0, y1, rfl⟩ : ∃ (y0 : Fin 128) (y1 : Fin 4096), y = ix2 y0 y1 := ⟨_, _, funext (Fin.forall_fin_two.mpr ⟨rfl, rfl⟩)⟩
  refine (congrFun (after0_3 m c t) (ix2 y0 y1)).trans ((outD h t y0 y1).trans (congrArg Real.toEReal (congr (congrArg N.dx (Fin.ext ?_)) (Fin.ext ?_))))
  · blk_simp [e, row, nOf]
  · blk_simp [e]

theorem arr_s (h : Holds N m c) : (dats m 0 c).arrAt 4 cfg0.N = fun y : S4096x4096.Idx => ((N.dx (y 0) (y 1) : ℝ) : EReal) := by
  refine (dats m 0 c).arrAt_eq_of_covers 4 _ (by decide +kernel) fun t hf y => ?_
  have e := idx4 t
  obtain ⟨y0, y1, rfl⟩ : ∃ (y0 : Fin 128) (y1 : Fin 4096), y = ix2 y0 y1 := ⟨_, _, funext (Fin.forall_fin_two.mpr ⟨rfl, rfl⟩)⟩
  refine (congrFun (after0_4 m c t) (ix2 y0 y1)).trans ((outS h t y0 y1).trans (congrArg Real.toEReal (congr (congrArg N.dx (Fin.ext ?_)) (Fin.ext ?_))))
  · blk_simp [e, row, nOf]
  · blk_simp [e]

/-- The last grid point. -/
def tEnd : Fin cfg0.N := ⟨31, by decide⟩

/-- The gradient by the gain. -/
theorem arr_g (h : Holds N m c) : (dats m 0 c).arrAt 5 cfg0.N = fun y : S1x4096.Idx => ((N.dg (y 1) : ℝ) : EReal) := by
  refine (dats m 0 c).arrAt_eq_of_after_last 5 tEnd (by decide +kernel) _ fun j => ?_
  blk_simp
  rw [after0_5]
  have j0 : (j 0).val < 1 := (j 0).isLt
  obtain ⟨k, rfl⟩ : ∃ k : Fin 4096, j = ix2 (0 : Fin 1) k := ⟨j 1, funext (Fin.forall_fin_two.mpr ⟨Fin.ext (by show (j 0).val = 0; omega), rfl⟩)⟩
  exact accG h 31 (by decide) _ k

/-- The loss, in every entry of its block. -/
theorem arr_l (h : Holds N m c) : (dats m 0 c).arrAt 6 cfg0.N = fun _ : S8x128.Idx => ((N.loss : ℝ) : EReal) := by
  refine (dats m 0 c).arrAt_eq_of_after_last 6 tEnd (by decide +kernel) _ fun j => ?_
  blk_simp
  rw [after0_6]
  obtain ⟨p, q, rfl⟩ : ∃ (p : Fin 8) (q : Fin 128), j = ix2 p q := ⟨j 0, j 1, funext (Fin.forall_fin_two.mpr ⟨rfl, rfl⟩)⟩
  exact accL h 31 (by decide) _ p q

end Cert.Head

end
-- ==== Proof.HeadClaim.lean ====
/- The claims of the loss head: the precondition read back, the frames, and the equality with the reference. -/
module

public import proofs.«01_k».proof.Defs
public import proofs.«01_k».proof.Proof.Finite
public import proofs.«01_k».proof.Proof.HeadArrays
public import proofs.«01_k».proof.Proof.HeadRef
public import proofs.«01_k».proof.Proof.Gen.Loss.Frame
public import proofs.«01_k».proof.Proof.Gen.LossReferenceIdeal.Run
public import Idealize.ShloMosaic.Lib.Quiescent
public import Idealize.ShloMosaic.Adequacy
public import Idealize.ShloMosaic.Init

@[expose] public section

set_option maxRecDepth 16384

noncomputable section

namespace Cert.Head

open Idealize.ShloMosaic Idealize.SL.Sem

section

open Cert.Pre_finite_loss Cert.Gating.Finite

/-- The side conditions of the precondition's operations. -/
theorem facts : Cert.Pre_finite_loss.Facts where
  bcast_S_S4096x4096 := by decide
  reducesTo_S4096x4096_S_d0_1 := by decide
  h_S_ := by decide
  bcast_S_S1x4096x4096 := by decide
  reducesTo_S1x4096x4096_S_d0_1_2 := by decide
  bcast_S_S4096 := by decide
  reducesTo_S4096_S_d0 := by decide

variable [Cert.Pre_finite_loss.Facts]

/-- The real numbers that the arrays hold. -/
theorem reads {x0 : FVec Ideal S4096x4096 .f32} {x1 : FVec Ideal S1x4096x4096 .f32} {x2 : FVec Ideal S4096 .f32}
    (h : Cert.Pre_finite_loss.fn (F := Ideal) x0 x1 x2 = fun _ => 1#1) : ∃ N : Nums, Reads N x0 x1 x2 := by
  dsimp only [fn] at h
  obtain ⟨h, h2⟩ := andi_at_one h
  obtain ⟨h0, h1⟩ := andi_at_one h
  have e0 : ∀ i, x0 i = (((x0 i : EReal).toReal : ℝ) : EReal) := fun i => real_of_lt _ (Host.reduce_andi_all _ _ _ _ _ (congrFun h0 (fun a => a.elim0)) i)
  have e1 : ∀ i, x1 i = (((x1 i : EReal).toReal : ℝ) : EReal) := fun i => real_of_lt _ (Host.reduce_andi_all _ _ _ _ _ (congrFun h1 (fun a => a.elim0)) i)
  have e2 : ∀ i, x2 i = (((x2 i : EReal).toReal : ℝ) : EReal) := fun i => real_of_lt _ (Host.reduce_andi_all _ _ _ _ _ (congrFun h2 (fun a => a.elim0)) i)
  refine ⟨⟨fun r k => (x0 (ix2 r k : S4096x4096.Idx) : EReal).toReal, fun r k => (x1 (ix3 (0 : Fin 1) r k : S1x4096x4096.Idx) : EReal).toReal,
    fun k => (x2 (ix1 k : S4096.Idx) : EReal).toReal⟩, ⟨fun i r k a b => ?_, fun i r k a b => ?_, fun i k a => ?_⟩⟩
  · rw [e0 i]
    refine congrArg (fun j => (((x0 j : EReal).toReal : ℝ) : EReal)) ?_
    exact funext (Fin.forall_fin_two.mpr ⟨Fin.ext a, Fin.ext b⟩)
  · rw [e1 i]
    refine congrArg (fun j => (((x1 j : EReal).toReal : ℝ) : EReal)) ?_
    have z : (i 0).val < 1 := (i 0).isLt
    exact funext (Fin.forall_fin_succ.mpr ⟨Fin.ext (by show (i 0).val = 0; omega), Fin.forall_fin_two.mpr ⟨Fin.ext a, Fin.ext b⟩⟩)
  · rw [e2 i]
    refine congrArg (fun j => (((x2 j : EReal).toReal : ℝ) : EReal)) ?_
    exact funext (Fin.forall_fin_one.mpr (Fin.ext a))

end

/-- The two programs, from memories that agree on the arguments. -/
theorem equal : Cert.algebraic_LossIdeal_LossReferenceIdeal_pre_finite_loss (hPre_finite_loss := facts) := by
  intro m g m' g' hpre hag
  have hN : ∀ c, ∃ N : Nums, Holds N m c := fun c => haveI := facts; reads (hpre c)
  choose N hN using hN
  refine ⟨fun c y => (((N c).dx (y 0) (y 1) : ℝ) : EReal), fun c y => (((N c).dx (y 0) (y 1) : ℝ) : EReal), fun c y => (((N c).dg (y 1) : ℝ) : EReal),
    fun c _ => (((N c).loss : ℝ) : EReal), ?_, ?_⟩
  · refine (θ_run Cert.LossIdeal.defs _ _).mono (fun r h c => ?_) (Cert.LossIdeal.Value.run_blocks m g)
    obtain ⟨h0, h1, h2, h3, hargs⟩ := h c
    exact ⟨h0.trans (arr_d (hN c)), h1.trans (arr_s (hN c)), h2.trans (arr_g (hN c)), h3.trans (arr_l (hN c)), hargs⟩
  · refine (θ_run Cert.LossReferenceIdeal.defs _ _).mono (fun r h c => ?_) (Cert.LossReferenceIdeal.Value.run m' g')
    obtain ⟨h0, h1, h2, h3, hargs⟩ := h c
    obtain ⟨a0, a1, a2⟩ := hag c
    have hR : Reads (N c) (m' ((c.tc : Thread Cert.LossReferenceIdeal.nD Cert.LossReferenceIdeal.τ).loc Cert.LossReferenceIdeal.main_arg0)) (m' ((c.tc : Thread Cert.LossReferenceIdeal.nD Cert.LossReferenceIdeal.τ).loc Cert.LossReferenceIdeal.main_arg1)) (m' ((c.tc : Thread Cert.LossReferenceIdeal.nD Cert.LossReferenceIdeal.τ).loc Cert.LossReferenceIdeal.main_arg2)) := by
      rw [a0, a1, a2]; exact hN c
    exact ⟨h0.trans ((Cert.LossReferenceIdeal.Read.val_main_v53_eq m' c).trans (Ref.dx hR)),
      h1.trans ((Cert.LossReferenceIdeal.Read.val_main_v55_eq m' c).trans (Ref.dx_short hR)),
      h2.trans ((Cert.LossReferenceIdeal.Read.val_main_v56_eq (m' ((c.tc : Thread Cert.LossReferenceIdeal.nD Cert.LossReferenceIdeal.τ).loc Cert.LossReferenceIdeal.main_arg0)) (m' ((c.tc : Thread Cert.LossReferenceIdeal.nD Cert.LossReferenceIdeal.τ).loc Cert.LossReferenceIdeal.main_arg1)) (m' ((c.tc : Thread Cert.LossReferenceIdeal.nD Cert.LossReferenceIdeal.τ).loc Cert.LossReferenceIdeal.main_arg2))).trans (Ref.dg hR)),
      h3.trans ((Cert.LossReferenceIdeal.Read.val_main_v57_eq (m' ((c.tc : Thread Cert.LossReferenceIdeal.nD Cert.LossReferenceIdeal.τ).loc Cert.LossReferenceIdeal.main_arg0)) (m' ((c.tc : Thread Cert.LossReferenceIdeal.nD Cert.LossReferenceIdeal.τ).loc Cert.LossReferenceIdeal.main_arg1)) (m' ((c.tc : Thread Cert.LossReferenceIdeal.nD Cert.LossReferenceIdeal.τ).loc Cert.LossReferenceIdeal.main_arg2))).trans (Ref.loss hR)), hargs⟩

/-- The reference runs, keeps its arguments, and has no semaphore. -/
theorem frame_r : Cert.quiescent_LossReferenceIdeal := fun m g _ =>
  (θ_run Cert.LossReferenceIdeal.defs _ _).mono (fun r h => ⟨fun c => (h c).2.2.2.2, sem_eq_zero_of_no_sems (by decide) _⟩)
    (Cert.LossReferenceIdeal.Value.run m g)

end Cert.Head

end
-- ==== Proof.Block.lean ====
/- The operations one block of the kernel is computed by, and what each holds where its operands hold given numbers. -/
module

public import proofs.«01_k».proof.Proof.Gen.KernelIdeal.Skeleton
public import proofs.«01_k».proof.Proof.Reads
public import Idealize.ShloMosaic.Lib.Pointwise

@[expose] public section

set_option maxRecDepth 16384

noncomputable section

namespace Cert.Gating.Blk

open Idealize.ShloMosaic Cert.KernelIdeal Cert.KernelIdeal.Gen

/-- The matrix `v` holds the numbers `f`. -/
def Is {a b : ℕ} (v : (⟨2, ![a, b]⟩ : Shape).Idx → EReal) (f : Fin a → Fin b → ℝ) : Prop :=
  ∀ r k, v (ix2 r k) = ((f r k : ℝ) : EReal)

/-! ## The gelu, entry by entry -/

section Elementwise

variable {s : Shape}

/-- The gelu's hyperbolic tangent. -/
def thV (x : FVec Ideal s .f32) : FVec Ideal s .f32 :=
  tanh (mulf (broadcast s (Scalar.ofBits .f32 0x3F4C422A#32 : Ideal .f32))
    (addf x (mulf (mulf (broadcast s (Named.named κ "gelu_cube" 0x3D372713#32 : Ideal .f32)) x) (mulf x x))))
/-- Half of one plus it. -/
def cdfV (x : FVec Ideal s .f32) : FVec Ideal s .f32 :=
  mulf (broadcast s (Scalar.ofBits .f32 0x3F000000#32 : Ideal .f32)) (addf (broadcast s (Scalar.ofBits .f32 0x3F800000#32 : Ideal .f32)) (thV x))
/-- The gelu. -/
def geluV (x : FVec Ideal s .f32) : FVec Ideal s .f32 := mulf x (cdfV x)
/-- Its derivative. -/
def gradV (x : FVec Ideal s .f32) : FVec Ideal s .f32 :=
  addf (cdfV x) (mulf (mulf (mulf (mulf (broadcast s (Scalar.ofBits .f32 0x3F000000#32 : Ideal .f32)) x)
      (subf (broadcast s (Scalar.ofBits .f32 0x3F800000#32 : Ideal .f32)) (mulf (thV x) (thV x))))
      (broadcast s (Scalar.ofBits .f32 0x3F4C422A#32 : Ideal .f32)))
    (addf (broadcast s (Scalar.ofBits .f32 0x3F800000#32 : Ideal .f32))
      (mulf (broadcast s (Named.named κ "gelu_cube3" 0x3E095D4F#32 : Ideal .f32)) (mulf x x))))
/-- The gradient that reaches the gated product. -/
def dsgV (gb db : FVec Ideal s .f32) : FVec Ideal s .f32 := mulf db (mulf gb (logistic gb))
/-- The gradient of the gate's input, `p` being the gated product. -/
def dgbV (gb db p : FVec Ideal s .f32) : FVec Ideal s .f32 :=
  mulf (mulf db p) (mulf (logistic gb) (addf (broadcast s (Scalar.ofBits .f32 0x3F800000#32 : Ideal .f32))
    (mulf gb (subf (broadcast s (Scalar.ofBits .f32 0x3F800000#32 : Ideal .f32)) (logistic gb)))))

variable {x gb db p : FVec Ideal s .f32} {i : s.Idx} {a b c d : ℝ}

theorem cube_val : (Named.named κ "gelu_cube" 0x3D372713#32 : Ideal .f32) = ((cube : ℝ) : EReal) :=
  IdealRules.named_const.ideal_named_scalar _ _ _ _ rfl
theorem cube3_val : (Named.named κ "gelu_cube3" 0x3E095D4F#32 : Ideal .f32) = ((3 * cube : ℝ) : EReal) :=
  (IdealRules.named_const.ideal_named_scalar _ _ _ _ rfl).trans (congrArg Real.toEReal (by norm_num [cube]))

theorem thV_apply (h : x i = ((a : ℝ) : EReal)) : thV x i = ((th a : ℝ) : EReal) := by
  show Ideal.tanh ((FloatOps.ofBits .f32 0x3F4C422A#32 : Ideal .f32)
    * (x i + (Named.named κ "gelu_cube" 0x3D372713#32 : Ideal .f32) * x i * (x i * x i))) = _
  rw [h, Consts.scale, cube_val]
  simp only [← EReal.coe_mul, ← EReal.coe_add]
  rw [Ideal.tanh_coe]
  exact congrArg Real.toEReal (by unfold th; congr 1; ring)

theorem cdfV_apply (h : x i = ((a : ℝ) : EReal)) : cdfV x i = ((cdf a : ℝ) : EReal) := by
  show (FloatOps.ofBits .f32 0x3F000000#32 : Ideal .f32) * ((FloatOps.ofBits .f32 0x3F800000#32 : Ideal .f32) + thV x i) = _
  rw [thV_apply h, Consts.half, Consts.one, ← EReal.coe_add, ← EReal.coe_mul]
  rfl

theorem geluV_apply (h : x i = ((a : ℝ) : EReal)) : geluV x i = ((gel a : ℝ) : EReal) := by
  show x i * cdfV x i = _
  rw [cdfV_apply h, h, ← EReal.coe_mul]
  rfl

theorem gradV_apply (h : x i = ((a : ℝ) : EReal)) : gradV x i = ((gel' a : ℝ) : EReal) := by
  show cdfV x i + (FloatOps.ofBits .f32 0x3F000000#32 : Ideal .f32) * x i
      * ((FloatOps.ofBits .f32 0x3F800000#32 : Ideal .f32) - thV x i * thV x i) * (FloatOps.ofBits .f32 0x3F4C422A#32 : Ideal .f32)
      * ((FloatOps.ofBits .f32 0x3F800000#32 : Ideal .f32) + (Named.named κ "gelu_cube3" 0x3E095D4F#32 : Ideal .f32) * (x i * x i)) = _
  rw [cdfV_apply h, thV_apply h, h, Consts.half, Consts.one, Consts.scale, cube3_val]
  simp only [← EReal.coe_mul, ← EReal.coe_add, ← EReal.coe_sub]
  rfl

theorem logistic_apply (h : gb i = ((a : ℝ) : EReal)) : logistic gb i = ((sig a : ℝ) : EReal) := by
  show Ideal.logistic (gb i) = _
  rw [h, Ideal.logistic_coe]
  rfl

theorem dsgV_apply (hg : gb i = ((a : ℝ) : EReal)) (hd : db i = ((b : ℝ) : EReal)) :
    dsgV gb db i = ((b * (a * sig a) : ℝ) : EReal) := by
  show db i * (gb i * logistic gb i) = _
  rw [logistic_apply hg, hg, hd, ← EReal.coe_mul, ← EReal.coe_mul]

theorem dgbV_apply (hg : gb i = ((a : ℝ) : EReal)) (hd : db i = ((b : ℝ) : EReal)) (hp : p i = ((c : ℝ) : EReal)) :
    dgbV gb db p i = ((b * c * (sig a * (1 + a * (1 - sig a))) : ℝ) : EReal) := by
  show db i * p i * (logistic gb i * ((FloatOps.ofBits .f32 0x3F800000#32 : Ideal .f32)
    + gb i * ((FloatOps.ofBits .f32 0x3F800000#32 : Ideal .f32) - logistic gb i))) = _
  rw [logistic_apply hg, hg, hd, hp, Consts.one]
  simp only [← EReal.coe_mul, ← EReal.coe_add, ← EReal.coe_sub]

end Elementwise

/-! ## Sums along a row, broadcasts, products -/

/-- A row sum added to what came before: of a group's 512 channels, of 1024. -/
def acc512 (p : FVec Ideal S128x1 .f32) (x : FVec Ideal S128x512 .f32) : FVec Ideal S128x1 .f32 :=
  addf p (shapeCast S128x1 (multiReduction .add [1] S128 x 0x00000000#32 reduces_S128x512_S128 (.inl rfl) rfl) shapeCasts_S128_S128x1)
def acc1024 (p : FVec Ideal S128x1 .f32) (x : FVec Ideal S128x1024 .f32) : FVec Ideal S128x1 .f32 :=
  addf p (shapeCast S128x1 (multiReduction .add [1] S128 x 0x00000000#32 reduces_S128x1024_S128 (.inl rfl) rfl) shapeCasts_S128_S128x1)
/-- A column of zeros. -/
def zcol : FVec Ideal S128x1 .f32 := broadcast S128x1 (Scalar.ofBits .f32 0x00000000#32)
/-- A column over the number of channels. -/
def meanV (p : FVec Ideal S128x1 .f32) : FVec Ideal S128x1 .f32 := divf p (broadcast S128x1 (Scalar.ofBits .f32 0x45800000#32 : Ideal .f32))
/-- One over the square root of the rows' variance. -/
def rsV (mu : FVec Ideal S128x1 .f32) (gv : FVec Ideal S128x4096 .f32) : FVec Ideal S128x1 .f32 :=
  rsqrt (addf (meanV (shapeCast S128x1 (multiReduction .add [1] S128
      (mulf (subf gv (broadcastTo S128x4096 mu broadcasts_S128x1_S128x4096)) (subf gv (broadcastTo S128x4096 mu broadcasts_S128x1_S128x4096)))
      0x00000000#32 reduces_S128x4096_S128 (.inl rfl) rfl) shapeCasts_S128_S128x1))
    (broadcast S128x1 (Scalar.ofBits .f32 0x3727C5AC#32 : Ideal .f32)))
/-- Normalised rows. -/
def vhV (mu rs : FVec Ideal S128x1 .f32) (gv : FVec Ideal S128x512 .f32) : FVec Ideal S128x512 .f32 :=
  mulf (subf gv (broadcastTo S128x512 mu broadcasts_S128x1_S128x512)) (broadcastTo S128x512 rs broadcasts_S128x1_S128x512)
/-- … with gain and bias. -/
def vnV (vh : FVec Ideal S128x512 .f32) (lg lb : FVec Ideal S1x512 .f32) : FVec Ideal S128x512 .bf16 :=
  truncf .bf16 (addf (mulf vh (broadcastTo S128x512 lg broadcasts_S1x512_S128x512)) (broadcastTo S128x512 lb broadcasts_S1x512_S128x512)) bitsLt_bf16_f32
/-- The mask of the entries on and below the diagonal. -/
def maskV : IVec S128x128 1 := cmpi .sle (iota .tc S128x128 32 [1] iota_S128x128_d1_w32) (iota .tc S128x128 32 [0] iota_S128x128_d0_w32)
/-- The causal mixing weights of a group. -/
def wV (ws : FVec Ideal S1x128x128 .f32) : FVec Ideal S128x128 .bf16 :=
  truncf .bf16 (select maskV (shapeCast S128x128 ws shapeCasts_S1x128x128_S128x128)
    (broadcast S128x128 (Scalar.ofBits .f32 0x00000000#32 : Ideal .f32))) bitsLt_bf16_f32
/-- A group's rows mixed. -/
def mixV (w : FVec Ideal S128x128 .bf16) (vn : FVec Ideal S128x512 .bf16) (bs : FVec Ideal S128x1 .f32) : FVec Ideal S128x512 .f32 :=
  addf (matmul dot_S128x128_S128x512_S128x512_1_0_0_1_n_n none w vn (constant S128x512 .f32 0x00000000#32))
    (broadcastTo S128x512 (shapeCast S128x1 bs shapeCasts_S128x1_S128x1) broadcasts_S128x1_S128x512)
/-- The gradient of the rows before mixing. -/
def dvnV (w : FVec Ideal S128x128 .bf16) (dm : FVec Ideal S128x512 .f32) : FVec Ideal S128x512 .f32 :=
  matmul dot_S128x128_S128x512_S128x512_0_0_1_1_n_n none w (truncf .bf16 dm bitsLt_bf16_f32) (constant S128x512 .f32 0x00000000#32)
/-- The gradient of a group's mixing weights, on and below the diagonal. -/
def dwV (dm : FVec Ideal S128x512 .f32) (vn : FVec Ideal S128x512 .bf16) : FVec Ideal S128x128 .f32 :=
  select maskV (matmul dot_S128x512_S128x512_S128x128_1_1_0_0_n_n none (truncf .bf16 dm bitsLt_bf16_f32) vn (constant S128x128 .f32 0x00000000#32))
    (broadcast S128x128 (Scalar.ofBits .f32 0x00000000#32 : Ideal .f32))
/-- The gradient of the normalised rows. -/
def dvhV (dvn : FVec Ideal S128x512 .f32) (lg : FVec Ideal S1x512 .f32) : FVec Ideal S128x512 .f32 :=
  mulf dvn (broadcastTo S128x512 lg broadcasts_S1x512_S128x512)
/-- What a group adds to the four accumulated results. -/
def addW (dw : FVec Ideal S128x128 .f32) (old : FVec Ideal S1x128x128 .f32) : FVec Ideal S1x128x128 .f32 :=
  shapeCast S1x128x128 (addf (shapeCast S128x128 old shapeCasts_S1x128x128_S128x128) dw) shapeCasts_S128x128_S1x128x128
def addB (dm : FVec Ideal S128x512 .f32) (old : FVec Ideal S1x128x1 .f32) : FVec Ideal S1x128x1 .f32 :=
  shapeCast S1x128x1 (acc512 (shapeCast S128x1 old shapeCasts_S1x128x1_S128x1) dm) shapeCasts_S128x1_S1x128x1
def addC (x : FVec Ideal S128x512 .f32) (old : FVec Ideal S1x512 .f32) : FVec Ideal S1x512 .f32 :=
  addf (shapeCast S1x512 old shapeCasts_S1x512_S1x512)
    (shapeCast S1x512 (multiReduction .add [0] S512 x 0x00000000#32 reduces_S128x512_S512 (.inl rfl) rfl) shapeCasts_S512_S1x512)
/-- The gradient of the gelu of the rows. -/
def dgvV (mu rs m1 m2 : FVec Ideal S128x1 .f32) (gv dvh : FVec Ideal S128x1024 .f32) : FVec Ideal S128x1024 .f32 :=
  mulf (broadcastTo S128x1024 rs broadcasts_S128x1_S128x1024)
    (subf (subf dvh (broadcastTo S128x1024 m1 broadcasts_S128x1_S128x1024))
      (mulf (mulf (subf gv (broadcastTo S128x1024 mu broadcasts_S128x1_S128x1024)) (broadcastTo S128x1024 rs broadcasts_S128x1_S128x1024))
        (broadcastTo S128x1024 m2 broadcasts_S128x1_S128x1024)))

section Values

variable {p mu rs m1 m2 bs : FVec Ideal S128x1 .f32} {fp fmu frs fm1 fm2 fbs : Fin 128 → ℝ}
variable {x y vh dm dvn gv : FVec Ideal S128x512 .f32} {fx fy : Fin 128 → Fin 512 → ℝ}

/-- A column holds given numbers. -/
abbrev IsCol (p : FVec Ideal S128x1 .f32) (f : Fin 128 → ℝ) : Prop := Is p fun r _ => f r

theorem acc512_is (hp : IsCol p fp) (hx : Is x fx) : IsCol (acc512 p x) fun r => fp r + ∑ k, fx r k := by
  intro r z
  have e : acc512 p x (ix2 r z) = p (ix2 r z) + ∑ k : Fin 512, x (ix2 r k) := by
    pointwise [acc512]
  rw [e, hp r z, sum_coe (hx r), ← EReal.coe_add]

theorem acc1024_is {x : FVec Ideal S128x1024 .f32} {fx : Fin 128 → Fin 1024 → ℝ} (hp : IsCol p fp) (hx : Is x fx) :
    IsCol (acc1024 p x) fun r => fp r + ∑ k, fx r k := by
  intro r z
  have e : acc1024 p x (ix2 r z) = p (ix2 r z) + ∑ k : Fin 1024, x (ix2 r k) := by
    pointwise [acc1024]
  rw [e, hp r z, sum_coe (hx r), ← EReal.coe_add]

theorem zcol_is : IsCol zcol fun _ => 0 := fun _ _ => Consts.zero

theorem meanV_is (hp : IsCol p fp) : IsCol (meanV p) fun r => fp r / 4096 := by
  intro r z
  show Ideal.div (p (ix2 r z)) (FloatOps.ofBits .f32 0x45800000#32 : Ideal .f32) = _
  rw [hp r z, Consts.width, coe_div_width]

theorem rsV_is {gv : FVec Ideal S128x4096 .f32} {fg : Fin 128 → Fin 4096 → ℝ} (hm : IsCol mu fmu) (hg : Is gv fg)
    (hv : ∀ r, 0 < (∑ c, (fg r c - fmu r) * (fg r c - fmu r)) / 4096 + eps) :
    IsCol (rsV mu gv) fun r => (√((∑ c, (fg r c - fmu r) * (fg r c - fmu r)) / 4096 + eps))⁻¹ := by
  intro r z
  have e : (multiReduction .add [1] S128
      (mulf (subf gv (broadcastTo S128x4096 mu broadcasts_S128x1_S128x4096)) (subf gv (broadcastTo S128x4096 mu broadcasts_S128x1_S128x4096)))
      0x00000000#32 reduces_S128x4096_S128 (.inl rfl) rfl : FVec Ideal S128 .f32) (ix1 r)
      = ∑ k : Fin 4096, (gv (ix2 r k) - mu (ix2 r 0)) * (gv (ix2 r k) - mu (ix2 r 0)) := by
    pointwise
  have e2 : rsV mu gv (ix2 r z) = Ideal.rsqrt (Ideal.div ((multiReduction .add [1] S128
      (mulf (subf gv (broadcastTo S128x4096 mu broadcasts_S128x1_S128x4096)) (subf gv (broadcastTo S128x4096 mu broadcasts_S128x1_S128x4096)))
      0x00000000#32 reduces_S128x4096_S128 (.inl rfl) rfl : FVec Ideal S128 .f32) (ix1 r)) (FloatOps.ofBits .f32 0x45800000#32 : Ideal .f32)
      + (FloatOps.ofBits .f32 0x3727C5AC#32 : Ideal .f32)) := by
    have : shapeCast S128x1 (multiReduction .add [1] S128
      (mulf (subf gv (broadcastTo S128x4096 mu broadcasts_S128x1_S128x4096)) (subf gv (broadcastTo S128x4096 mu broadcasts_S128x1_S128x4096)))
      0x00000000#32 reduces_S128x4096_S128 (.inl rfl) rfl : FVec Ideal S128 .f32) shapeCasts_S128_S128x1 (ix2 r z) = (multiReduction .add [1] S128
      (mulf (subf gv (broadcastTo S128x4096 mu broadcasts_S128x1_S128x4096)) (subf gv (broadcastTo S128x4096 mu broadcasts_S128x1_S128x4096)))
      0x00000000#32 reduces_S128x4096_S128 (.inl rfl) rfl : FVec Ideal S128 .f32) (ix1 r) := by
      generalize (multiReduction .add [1] S128
      (mulf (subf gv (broadcastTo S128x4096 mu broadcasts_S128x1_S128x4096)) (subf gv (broadcastTo S128x4096 mu broadcasts_S128x1_S128x4096)))
      0x00000000#32 reduces_S128x4096_S128 (.inl rfl) rfl : FVec Ideal S128 .f32) = Z
      pointwise
    rw [← this]
    rfl
  rw [e2, e, Finset.sum_congr rfl fun k _ => by rw [hg r k, hm r 0, ← EReal.coe_sub, ← EReal.coe_mul], coe_sum, Consts.width,
    coe_div_width, Consts.eps, ← EReal.coe_add, coe_rsqrt (hv r)]

theorem vhV_is (hm : IsCol mu fmu) (hr : IsCol rs frs) (hx : Is gv fx) : Is (vhV mu rs gv) fun r k => (fx r k - fmu r) * frs r := by
  intro r k
  have e : vhV mu rs gv (ix2 r k) = (gv (ix2 r k) - mu (ix2 r 0)) * rs (ix2 r 0) := by pointwise [vhV]
  rw [e, hx r k, hm r 0, hr r 0, ← EReal.coe_sub, ← EReal.coe_mul]

theorem vnV_is {lg lb : FVec Ideal S1x512 .f32} {fl fb : Fin 512 → ℝ} (hx : Is vh fx) (hl : Is lg fun _ k => fl k) (hb : Is lb fun _ k => fb k) :
    Is (vnV vh lg lb) fun r k => fx r k * fl k + fb k := by
  intro r k
  have e : vnV vh lg lb (ix2 r k) = vh (ix2 r k) * lg (ix2 0 k) + lb (ix2 0 k) := by pointwise [vnV]
  rw [e, hx r k, hl 0 k, hb 0 k, ← EReal.coe_mul, ← EReal.coe_add]

theorem dvhV_is {lg : FVec Ideal S1x512 .f32} {fl : Fin 512 → ℝ} (hx : Is dvn fx) (hl : Is lg fun _ k => fl k) :
    Is (dvhV dvn lg) fun r k => fx r k * fl k := by
  intro r k
  have e : dvhV dvn lg (ix2 r k) = dvn (ix2 r k) * lg (ix2 0 k) := by pointwise [dvhV]
  rw [e, hx r k, hl 0 k, ← EReal.coe_mul]

theorem mul_is {a b : ℕ} {x y : FVec Ideal (⟨2, ![a, b]⟩ : Shape) .f32} {fx fy : Fin a → Fin b → ℝ} (hx : Is x fx) (hy : Is y fy) :
    Is (mulf x y) fun r k => fx r k * fy r k := by
  intro r k
  show x (ix2 r k) * y (ix2 r k) = _
  rw [hx r k, hy r k, ← EReal.coe_mul]

theorem maskV_apply (t s : Fin 128) : maskV (ix2 t s) = if s ≤ t then 1#1 else 0#1 := by
  have h : ∀ t s : Fin 128, IntOp.cmpi .sle (BitVec.ofNat 32 s.val) (BitVec.ofNat 32 t.val) = if s ≤ t then 1#1 else 0#1 := by decide +kernel
  rw [← h t s]
  pointwise [maskV]

theorem wV_is {ws : FVec Ideal S1x128x128 .f32} {fw : Fin 128 → Fin 128 → ℝ} (hw : ∀ t s, s ≤ t → ws (ix3 0 t s) = ((fw t s : ℝ) : EReal)) :
    Is (wV ws) fun t s => if s ≤ t then fw t s else 0 := by
  intro t s
  have e : wV ws (ix2 t s) = Scalar.select (maskV (ix2 t s)) (ws (ix3 0 t s)) (FloatOps.ofBits .f32 0x00000000#32 : Ideal .f32) := by
    unfold wV
    generalize maskV = M
    pointwise
  rw [e, maskV_apply, Consts.zero]
  beta_reduce
  by_cases h : s ≤ t
  · rw [if_pos h, if_pos h, hw t s h]; rfl
  · rw [if_neg h, if_neg h]; rfl

theorem mixV_is {w : FVec Ideal S128x128 .bf16} {vn : FVec Ideal S128x512 .bf16} {fw : Fin 128 → Fin 128 → ℝ} (hw : Is w fw) (hx : Is vn fx)
    (hb : IsCol bs fbs) : Is (mixV w vn bs) fun t k => (∑ s, fw t s * fx s k) + fbs t := by
  intro t k
  have e : mixV w vn bs (ix2 t k) = (∑ s : Fin 128, w (ix2 t s) * vn (ix2 s k)) + bs (ix2 t 0) := by pointwise [mixV]
  rw [e, hb t 0, Finset.sum_congr rfl fun s _ => by rw [hw t s, hx s k, ← EReal.coe_mul], coe_sum, ← EReal.coe_add]

theorem dvnV_is {w : FVec Ideal S128x128 .bf16} {fw : Fin 128 → Fin 128 → ℝ} (hw : Is w fw) (hx : Is dm fx) :
    Is (dvnV w dm) fun s k => ∑ t, fw t s * fx t k := by
  intro s k
  have e : dvnV w dm (ix2 s k) = ∑ t : Fin 128, w (ix2 t s) * dm (ix2 t k) := by pointwise [dvnV]
  rw [e, Finset.sum_congr rfl fun t _ => by rw [hw t s, hx t k, ← EReal.coe_mul], coe_sum]

theorem dwV_is {vn : FVec Ideal S128x512 .bf16} (hx : Is dm fx) (hy : Is vn fy) :
    Is (dwV dm vn) fun t s => if s ≤ t then ∑ k, fx t k * fy s k else 0 := by
  intro t s
  have e : dwV dm vn (ix2 t s) = Scalar.select (maskV (ix2 t s)) (∑ k : Fin 512, dm (ix2 t k) * vn (ix2 s k)) (FloatOps.ofBits .f32 0x00000000#32 : Ideal .f32) := by
    unfold dwV
    generalize maskV = M
    pointwise
  rw [e, maskV_apply, Consts.zero, Finset.sum_congr rfl fun k _ => by rw [hx t k, hy s k, ← EReal.coe_mul], coe_sum]
  beta_reduce
  by_cases h : s ≤ t
  · rw [if_pos h, if_pos h]; rfl
  · rw [if_neg h, if_neg h]; rfl

theorem dgvV_is {gv dvh : FVec Ideal S128x1024 .f32} {fg fd : Fin 128 → Fin 1024 → ℝ} (hm : IsCol mu fmu) (hr : IsCol rs frs)
    (h1 : IsCol m1 fm1) (h2 : IsCol m2 fm2) (hg : Is gv fg) (hd : Is dvh fd) :
    Is (dgvV mu rs m1 m2 gv dvh) fun r k => frs r * (fd r k - fm1 r - (fg r k - fmu r) * frs r * fm2 r) := by
  intro r k
  have e : dgvV mu rs m1 m2 gv dvh (ix2 r k) = rs (ix2 r 0) * (dvh (ix2 r k) - m1 (ix2 r 0) - (gv (ix2 r k) - mu (ix2 r 0)) * rs (ix2 r 0) * m2 (ix2 r 0)) := by
    pointwise [dgvV]
  rw [e, hg r k, hd r k, hm r 0, hr r 0, h1 r 0, h2 r 0]
  simp only [← EReal.coe_mul, ← EReal.coe_sub]

/-- What a group adds to an accumulated result, at an entry. -/
theorem addW_apply (dw : FVec Ideal S128x128 .f32) (old : FVec Ideal S1x128x128 .f32) (z : Fin 1) (t s : Fin 128) :
    addW dw old (ix3 z t s) = old (ix3 z t s) + dw (ix2 t s) := by
  obtain rfl : z = 0 := Subsingleton.elim _ _
  pointwise [addW]

theorem addB_apply (dm : FVec Ideal S128x512 .f32) (old : FVec Ideal S1x128x1 .f32) (z : Fin 1) (t : Fin 128) (z' : Fin 1) :
    addB dm old (ix3 z t z') = old (ix3 z t z') + ∑ k : Fin 512, dm (ix2 t k) := by
  obtain rfl : z = 0 := Subsingleton.elim _ _
  obtain rfl : z' = 0 := Subsingleton.elim _ _
  pointwise [addB, acc512]

theorem addC_apply (x : FVec Ideal S128x512 .f32) (old : FVec Ideal S1x512 .f32) (z : Fin 1) (k : Fin 512) :
    addC x old (ix2 z k) = old (ix2 z k) + ∑ s : Fin 128, x (ix2 s k) := by
  obtain rfl : z = 0 := Subsingleton.elim _ _
  pointwise [addC]

end Values

end Cert.Gating.Blk

end
-- ==== Proof.Group.lean ====
/- One group of channels of one chunk: what the kernel computes for it from the group's blocks of the arguments. -/
module

public import proofs.«01_k».proof.Proof.Block

@[expose] public section

set_option maxRecDepth 16384

noncomputable section

namespace Cert.Gating.Blk

open Idealize.ShloMosaic Cert.KernelIdeal Cert.KernelIdeal.Gen

theorem Is.at {a b : ℕ} {v : (⟨2, ![a, b]⟩ : Shape).Idx → EReal} {f : Fin a → Fin b → ℝ} (h : Is v f) (y : (⟨2, ![a, b]⟩ : Shape).Idx) :
    v y = ((f (y 0) (y 1) : ℝ) : EReal) := by
  have e : y = ix2 (y 0) (y 1) := funext (Fin.forall_fin_two.mpr ⟨rfl, rfl⟩)
  exact (congrArg v e).trans (h (y 0) (y 1))

/-- What the blocks of group `g` in chunk `n` hold: of the branch's inputs, the incoming gradient and the gelu of the normalised
    input; of gain, bias, mixing weights and mixing bias; the chunk's means and inverse deviations. -/
structure Group (N : Nums) (n : Fin 32) (g : Fin 8) (u gb : FVec Ideal S128x512 .bf16) (db gv : FVec Ideal S128x512 .f32)
    (lg lb : FVec Ideal S1x512 .f32) (ws : FVec Ideal S1x128x128 .f32) (bs mu rs : FVec Ideal S128x1 .f32) : Prop where
  u : Is u fun r k => N.u (row n r) (col g k)
  gb : Is gb fun r k => N.gb (row n r) (col g k)
  db : Is db fun r k => N.db (row n r) (col g k)
  gv : Is gv fun r k => gel (N.vg (row n r) (col g k))
  lg : Is lg fun _ k => N.lg (col g k)
  lb : Is lb fun _ k => N.lb (col g k)
  ws : ∀ t s, s ≤ t → ws (ix3 0 t s) = ((N.ws g t s : ℝ) : EReal)
  bs : Is bs fun t _ => N.bs g t
  mu : Is mu fun r _ => N.mu (row n r)
  rs : Is rs fun r _ => N.rs (row n r)

section Vocabulary

variable (u gb : FVec Ideal S128x512 .bf16) (db gv : FVec Ideal S128x512 .f32)
  (lg lb : FVec Ideal S1x512 .f32) (ws : FVec Ideal S1x128x128 .f32) (bs mu rs : FVec Ideal S128x1 .f32)

/-- The gelu of the branch's first input and its derivative. -/
def guB : FVec Ideal S128x512 .f32 := geluV (extf .f32 u bitsLt_bf16_f32)
def uGradB : FVec Ideal S128x512 .f32 := gradV (extf .f32 u bitsLt_bf16_f32)
/-- The normalised rows with gain and bias, mixed. -/
def vnB : FVec Ideal S128x512 .bf16 := vnV (vhV mu rs gv) lg lb
def mixB : FVec Ideal S128x512 .f32 := mixV (wV ws) (vnB gv lg lb mu rs) bs
/-- The gradients of the gated product and of the mixed rows. -/
def dsgB : FVec Ideal S128x512 .f32 := dsgV (extf .f32 gb bitsLt_bf16_f32) db
def dmB : FVec Ideal S128x512 .f32 := mulf (dsgB gb db) (guB u)
/-- The gradients of the branch's first and third input. -/
def duB : FVec Ideal S128x512 .bf16 := truncf .bf16 (mulf (mulf (dsgB gb db) (mixB gv lg lb ws bs mu rs)) (uGradB u)) bitsLt_bf16_f32
def dgbB : FVec Ideal S128x512 .bf16 :=
  truncf .bf16 (dgbV (extf .f32 gb bitsLt_bf16_f32) db (mulf (guB u) (mixB gv lg lb ws bs mu rs))) bitsLt_bf16_f32
/-- The gradients of the rows before mixing and of the normalised rows. -/
def dvnB : FVec Ideal S128x512 .f32 := dvnV (wV ws) (dmB u gb db)
def dvhB : FVec Ideal S128x512 .f32 := dvhV (dvnB u gb db ws) lg
/-- The share of the mixing weights' gradient. -/
def dwB : FVec Ideal S128x128 .f32 := dwV (dmB u gb db) (vnB gv lg lb mu rs)

end Vocabulary

namespace Group

variable {N : Nums} {n : Fin 32} {g : Fin 8} {u gb : FVec Ideal S128x512 .bf16} {db gv : FVec Ideal S128x512 .f32}
  {lg lb : FVec Ideal S1x512 .f32} {ws : FVec Ideal S1x128x128 .f32} {bs mu rs : FVec Ideal S128x1 .f32}
  (h : Group N n g u gb db gv lg lb ws bs mu rs)

include h

theorem gu_is : Is (guB u) fun r k => gel (N.u (row n r) (col g k)) := fun r k => geluV_apply (h.u r k)

theorem uGrad_is : Is (uGradB u) fun r k => gel' (N.u (row n r) (col g k)) := fun r k => gradV_apply (h.u r k)

theorem vh_is : Is (vhV mu rs gv) fun r k => N.vh (row n r) (col g k) := vhV_is h.mu h.rs h.gv

theorem vn_is : Is (vnB gv lg lb mu rs) fun r k => N.vn (row n r) (col g k) := vnV_is h.vh_is h.lg h.lb

theorem w_is : Is (wV ws) (N.w g) := wV_is h.ws

theorem mix_is : Is (mixB gv lg lb ws bs mu rs) fun r k => N.mix (row n r) (col g k) := by
  intro r k
  refine (mixV_is h.w_is h.vn_is h.bs r k).trans (congrArg Real.toEReal ?_)
  simp only [Nums.mix, grp_col, pos_row, chunk_row]

theorem dsg_is : Is (dsgB gb db) fun r k => N.dsg (row n r) (col g k) := fun r k => dsgV_apply (h.gb r k) (h.db r k)

theorem dm_is : Is (dmB u gb db) fun r k => N.dm (row n r) (col g k) := mul_is h.dsg_is h.gu_is

theorem du_is : Is (duB u gb db gv lg lb ws bs mu rs) fun r k => N.du (row n r) (col g k) :=
  mul_is (mul_is h.dsg_is h.mix_is) h.uGrad_is

theorem dgb_is : Is (dgbB u gb db gv lg lb ws bs mu rs) fun r k => N.dgb (row n r) (col g k) := fun r k =>
  dgbV_apply (h.gb r k) (h.db r k) (mul_is h.gu_is h.mix_is r k)

theorem dvn_is : Is (dvnB u gb db ws) fun r k => N.dvn (row n r) (col g k) := by
  intro r k
  refine (dvnV_is h.w_is h.dm_is r k).trans (congrArg Real.toEReal ?_)
  simp only [Nums.dvn, grp_col, pos_row, chunk_row]

theorem dvh_is : Is (dvhB u gb db lg ws) fun r k => N.dvh (row n r) (col g k) := dvhV_is h.dvn_is h.lg

theorem dw_is : Is (dwB u gb db gv lg lb mu rs) fun t s => N.dws1 n g t s := dwV_is h.dm_is h.vn_is

theorem addW_is {old : FVec Ideal S1x128x128 .f32} {z : Fin 1} {t s : Fin 128} {a : ℝ} (ha : old (ix3 z t s) = ((a : ℝ) : EReal)) :
    addW (dwB u gb db gv lg lb mu rs) old (ix3 z t s) = ((a + N.dws1 n g t s : ℝ) : EReal) := by
  rw [addW_apply, ha, h.dw_is t s, ← EReal.coe_add]

theorem addB_is {old : FVec Ideal S1x128x1 .f32} {z : Fin 1} {t : Fin 128} {z' : Fin 1} {a : ℝ} (ha : old (ix3 z t z') = ((a : ℝ) : EReal)) :
    addB (dmB u gb db) old (ix3 z t z') = ((a + N.dbs1 n g t : ℝ) : EReal) := by
  rw [addB_apply, ha, sum_coe (h.dm_is t), ← EReal.coe_add]
  rfl

theorem addLg_is {old : FVec Ideal S1x512 .f32} {z : Fin 1} {k : Fin 512} {a : ℝ} (ha : old (ix2 z k) = ((a : ℝ) : EReal)) :
    addC (mulf (dvnB u gb db ws) (vhV mu rs gv)) old (ix2 z k) = ((a + N.dlg1 n (col g k) : ℝ) : EReal) := by
  rw [addC_apply, ha, sum_coe fun s => mul_is h.dvn_is h.vh_is s k, ← EReal.coe_add]
  rfl

theorem addLb_is {old : FVec Ideal S1x512 .f32} {z : Fin 1} {k : Fin 512} {a : ℝ} (ha : old (ix2 z k) = ((a : ℝ) : EReal)) :
    addC (dvnB u gb db ws) old (ix2 z k) = ((a + N.dlb1 n (col g k) : ℝ) : EReal) := by
  rw [addC_apply, ha, sum_coe fun s => h.dvn_is s k, ← EReal.coe_add]
  rfl

end Group

end Cert.Gating.Blk

end
-- ==== Proof.Chunk.lean ====
/- The blocks a grid point reads of the arguments, the chunk's means and deviations, and the three scratch arrays. -/
module

public import proofs.«01_k».proof.Proof.Group
public import proofs.«01_k».proof.Proof.Gen.KernelIdeal.Frame
public import Idealize.ShloMosaic.Lib.Pipeline.ValueKit

@[expose] public section

set_option maxRecDepth 16384

noncomputable section

namespace Cert.Gating.Chunk

open Idealize.ShloMosaic Idealize.ShloMosaic.TcCoe Idealize.SL.Sem Cert.KernelIdeal Cert.KernelIdeal.Gen Cert.Gating.Blk
open Idealize.ShloMosaic.Pipeline (Dat)

/-- The chunk a grid point computes. -/
def nOf (t : Fin cfg0.N) : Fin 32 := ⟨t.val, t.isLt⟩

/-- The numbers of `N` are what the launched contents hold. -/
abbrev Holds (N : Nums) (m : (ℓ : Loc nD τ KernelIdeal.sig) → Buf (Elt Ideal) ℓ) (c : Dev nD) : Prop :=
  Reads N (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- `X` holds the columns of `f` from column `o` on. -/
def At {a b : ℕ} (X : (⟨2, ![a, b]⟩ : Shape).Idx → EReal) (o : ℕ) (f : Fin a → Fin 4096 → ℝ) : Prop :=
  ∀ y (r : Fin a) (k : Fin 4096), (y 0).val = r.val → k.val = o + (y 1).val → X y = ((f r k : ℝ) : EReal)

theorem At.ld {a b w o p : ℕ} {X : (⟨2, ![a, b]⟩ : Shape).Idx → EReal} {f : Fin a → Fin 4096 → ℝ} (hX : At X o f)
    (hin : ∀ i, (![0, p] : Fin 2 → ℕ) i + (![a, w] : Fin 2 → ℕ) i ≤ (⟨2, ![a, b]⟩ : Shape).size i) (q : ℕ) (hq : q = o + p) :
    At (b := w) (fun y => X ((Rect.unit (s := ⟨2, ![a, b]⟩) ![0, p] ![a, w] hin).toLoadRect.idx y)) q f := by
  intro y r k h0 h1
  refine hX _ r k ?_ ?_
  · show 0 + 1 * (y 0).val = r.val
    omega
  · show k.val = o + (p + 1 * (y 1).val)
    omega

theorem At.group {a : ℕ} {X : (⟨2, ![a, 512]⟩ : Shape).Idx → EReal} {f : Fin a → Fin 4096 → ℝ} (g : Fin 8) (hX : At X (g.val * 512) f) :
    Is X fun r k => f r (col g k) := fun r k => hX _ r _ rfl rfl

/-- Column `k` of the `q`-th 1024 columns. -/
def qcol (q : Fin 4) (k : Fin 1024) : Fin 4096 := ⟨q.val * 1024 + k.val, by omega⟩

theorem At.quarter {a : ℕ} {X : (⟨2, ![a, 1024]⟩ : Shape).Idx → EReal} {f : Fin a → Fin 4096 → ℝ} (q : Fin 4) (hX : At X (q.val * 1024) f) :
    Is X fun r k => f r (qcol q k) := fun r k => hX _ r _ rfl rfl

/-- A sum over the channels, by quarters and by groups. -/
theorem sum_quarters (f : Fin 4096 → ℝ) : ∑ c, f c = (((0 + ∑ k, f (qcol 0 k)) + ∑ k, f (qcol 1 k)) + ∑ k, f (qcol 2 k)) + ∑ k, f (qcol 3 k) := by
  have e : ∑ c, f c = ∑ q, ∑ k, f (qcol q k) := by
    rw [← Finset.sum_product', Finset.univ_product_univ]
    symm
    exact Fintype.sum_bijective (fun p : Fin 4 × Fin 1024 => qcol p.1 p.2)
      ⟨fun a b h => by
          have := congrArg Fin.val h
          simp only [qcol] at this
          exact Prod.ext (Fin.ext (by omega)) (Fin.ext (by omega)),
        fun r => ⟨(⟨r.val / 1024, by omega⟩, ⟨r.val % 1024, by omega⟩), Fin.ext (by simp only [qcol]; omega)⟩⟩ _ _ (fun _ => rfl)
  rw [e, Fin.sum_univ_four, zero_add]

theorem sum_groups (f : Fin 4096 → ℝ) : ∑ c, f c = (((((((0 + ∑ k, f (col 0 k)) + ∑ k, f (col 1 k)) + ∑ k, f (col 2 k)) + ∑ k, f (col 3 k))
    + ∑ k, f (col 4 k)) + ∑ k, f (col 5 k)) + ∑ k, f (col 6 k)) + ∑ k, f (col 7 k) := by
  have e : ∑ c, f c = ∑ g, ∑ k, f (col g k) := by
    rw [← Finset.sum_product', Finset.univ_product_univ]
    symm
    exact Fintype.sum_bijective (fun p : Fin 8 × Fin 512 => col p.1 p.2)
      ⟨fun a b h => by
          have := congrArg Fin.val h
          simp only [col] at this
          exact Prod.ext (Fin.ext (by omega)) (Fin.ext (by omega)),
        fun r => ⟨(⟨r.val / 512, by omega⟩, ⟨r.val % 512, by omega⟩), Fin.ext (by simp only [col]; omega)⟩⟩ _ _ (fun _ => rfl)
  rw [e, Fin.sum_univ_eight, zero_add]

/-- Where the blocks lie, at every grid point. -/
theorem idx : ∀ t : Fin cfg0.N, win0_0.index t 0 = t.val ∧ win0_0.index t 1 = 9 ∧ win0_1.index t 0 = t.val ∧ win0_1.index t 1 = 10 ∧ win0_2.index t 0 = t.val ∧ win0_2.index t 1 = 11 ∧
    win0_3.index t 0 = t.val ∧ win0_3.index t 1 = 12 ∧ win0_4.index t 0 = t.val ∧ win0_4.index t 1 = 13 ∧ win0_5.index t 0 = t.val ∧ win0_5.index t 1 = 14 ∧
    win0_6.index t 0 = t.val ∧ win0_6.index t 1 = 15 ∧ win0_7.index t 0 = t.val ∧ win0_7.index t 1 = 16 ∧ win0_8.index t 0 = t.val ∧ win0_8.index t 1 = 17 ∧
    win0_9.index t 0 = t.val ∧ win0_9.index t 1 = 18 ∧ win0_10.index t 0 = t.val ∧ win0_10.index t 1 = 19 ∧ win0_11.index t 0 = t.val ∧ win0_11.index t 1 = 20 ∧
    win0_12.index t 0 = 0 ∧ win0_12.index t 1 = 0 ∧ win0_12.index t 2 = 0 ∧ win0_13.index t 0 = 0 ∧ win0_13.index t 1 = 0 ∧ win0_14.index t 0 = 0 ∧ win0_14.index t 1 = 0 ∧
    win0_15.index t 0 = 0 ∧ win0_15.index t 1 = 0 ∧ win0_16.index t 0 = t.val ∧ win0_16.index t 1 = 0 :=
  (by decide +kernel : ∀ t : Fin grid0.N, win0_0.index t 0 = t.val ∧ win0_0.index t 1 = 9 ∧ win0_1.index t 0 = t.val ∧ win0_1.index t 1 = 10 ∧ win0_2.index t 0 = t.val ∧ win0_2.index t 1 = 11 ∧
    win0_3.index t 0 = t.val ∧ win0_3.index t 1 = 12 ∧ win0_4.index t 0 = t.val ∧ win0_4.index t 1 = 13 ∧ win0_5.index t 0 = t.val ∧ win0_5.index t 1 = 14 ∧
    win0_6.index t 0 = t.val ∧ win0_6.index t 1 = 15 ∧ win0_7.index t 0 = t.val ∧ win0_7.index t 1 = 16 ∧ win0_8.index t 0 = t.val ∧ win0_8.index t 1 = 17 ∧
    win0_9.index t 0 = t.val ∧ win0_9.index t 1 = 18 ∧ win0_10.index t 0 = t.val ∧ win0_10.index t 1 = 19 ∧ win0_11.index t 0 = t.val ∧ win0_11.index t 1 = 20 ∧
    win0_12.index t 0 = 0 ∧ win0_12.index t 1 = 0 ∧ win0_12.index t 2 = 0 ∧ win0_13.index t 0 = 0 ∧ win0_13.index t 1 = 0 ∧ win0_14.index t 0 = 0 ∧ win0_14.index t 1 = 0 ∧
    win0_15.index t 0 = 0 ∧ win0_15.index t 1 = 0 ∧ win0_16.index t 0 = t.val ∧ win0_16.index t 1 = 0)

variable {N : Nums} {m : (ℓ : Loc nD τ KernelIdeal.sig) → Buf (Elt Ideal) ℓ} {c : Dev nD} {t : Fin cfg0.N}

/-! ## The blocks of the arguments -/

theorem u0 (h : Holds N m c) : At (iblk m c 0 t) 0 fun r k => N.u (row (nOf t) r) k := fun y r k h0 h1 =>
  (congrFun (V_main_arg0 m c) _).trans (h.u (((cfg0.win 0).blk t).view.emb y) (row (nOf t) r) k
    (by blk_simp [idx]; simp only [row, nOf]; omega) (by blk_simp [idx]; omega))
theorem u1 (h : Holds N m c) : At (iblk m c 1 t) 1024 fun r k => N.u (row (nOf t) r) k := fun y r k h0 h1 =>
  (congrFun (V_main_arg0 m c) _).trans (h.u (((cfg0.win 1).blk t).view.emb y) (row (nOf t) r) k
    (by blk_simp [idx]; simp only [row, nOf]; omega) (by blk_simp [idx]; omega))
theorem u2 (h : Holds N m c) : At (iblk m c 2 t) 2048 fun r k => N.u (row (nOf t) r) k := fun y r k h0 h1 =>
  (congrFun (V_main_arg0 m c) _).trans (h.u (((cfg0.win 2).blk t).view.emb y) (row (nOf t) r) k
    (by blk_simp [idx]; simp only [row, nOf]; omega) (by blk_simp [idx]; omega))
theorem u3 (h : Holds N m c) : At (iblk m c 3 t) 3072 fun r k => N.u (row (nOf t) r) k := fun y r k h0 h1 =>
  (congrFun (V_main_arg0 m c) _).trans (h.u (((cfg0.win 3).blk t).view.emb y) (row (nOf t) r) k
    (by blk_simp [idx]; simp only [row, nOf]; omega) (by blk_simp [idx]; omega))

theorem vg0 (h : Holds N m c) : At (iblk m c 4 t) 0 fun r k => N.vg (row (nOf t) r) k := fun y r k h0 h1 =>
  (congrFun (V_main_arg0 m c) _).trans (h.vg (((cfg0.win 4).blk t).view.emb y) (row (nOf t) r) k
    (by blk_simp [idx]; simp only [row, nOf]; omega) (by blk_simp [idx]; omega))
theorem vg1 (h : Holds N m c) : At (iblk m c 5 t) 1024 fun r k => N.vg (row (nOf t) r) k := fun y r k h0 h1 =>
  (congrFun (V_main_arg0 m c) _).trans (h.vg (((cfg0.win 5).blk t).view.emb y) (row (nOf t) r) k
    (by blk_simp [idx]; simp only [row, nOf]; omega) (by blk_simp [idx]; omega))
theorem vg2 (h : Holds N m c) : At (iblk m c 6 t) 2048 fun r k => N.vg (row (nOf t) r) k := fun y r k h0 h1 =>
  (congrFun (V_main_arg0 m c) _).trans (h.vg (((cfg0.win 6).blk t).view.emb y) (row (nOf t) r) k
    (by blk_simp [idx]; simp only [row, nOf]; omega) (by blk_simp [idx]; omega))
theorem vg3 (h : Holds N m c) : At (iblk m c 7 t) 3072 fun r k => N.vg (row (nOf t) r) k := fun y r k h0 h1 =>
  (congrFun (V_main_arg0 m c) _).trans (h.vg (((cfg0.win 7).blk t).view.emb y) (row (nOf t) r) k
    (by blk_simp [idx]; simp only [row, nOf]; omega) (by blk_simp [idx]; omega))

theorem gb0 (h : Holds N m c) : At (iblk m c 8 t) 0 fun r k => N.gb (row (nOf t) r) k := fun y r k h0 h1 =>
  (congrFun (V_main_arg0 m c) _).trans (h.gb (((cfg0.win 8).blk t).view.emb y) (row (nOf t) r) k
    (by blk_simp [idx]; simp only [row, nOf]; omega) (by blk_simp [idx]; omega))
theorem gb1 (h : Holds N m c) : At (iblk m c 9 t) 1024 fun r k => N.gb (row (nOf t) r) k := fun y r k h0 h1 =>
  (congrFun (V_main_arg0 m c) _).trans (h.gb (((cfg0.win 9).blk t).view.emb y) (row (nOf t) r) k
    (by blk_simp [idx]; simp only [row, nOf]; omega) (by blk_simp [idx]; omega))
theorem gb2 (h : Holds N m c) : At (iblk m c 10 t) 2048 fun r k => N.gb (row (nOf t) r) k := fun y r k h0 h1 =>
  (congrFun (V_main_arg0 m c) _).trans (h.gb (((cfg0.win 10).blk t).view.emb y) (row (nOf t) r) k
    (by blk_simp [idx]; simp only [row, nOf]; omega) (by blk_simp [idx]; omega))
theorem gb3 (h : Holds N m c) : At (iblk m c 11 t) 3072 fun r k => N.gb (row (nOf t) r) k := fun y r k h0 h1 =>
  (congrFun (V_main_arg0 m c) _).trans (h.gb (((cfg0.win 11).blk t).view.emb y) (row (nOf t) r) k
    (by blk_simp [idx]; simp only [row, nOf]; omega) (by blk_simp [idx]; omega))

theorem db0 (h : Holds N m c) : At (iblk m c 16 t) 0 fun r k => N.db (row (nOf t) r) k := fun y r k h0 h1 =>
  (congrFun (V_main_arg5 m c) _).trans (h.db (((cfg0.win 16).blk t).view.emb y) (row (nOf t) r) k
    (by blk_simp [idx]; simp only [row, nOf]; omega) (by blk_simp [idx]; omega))

theorem lg0 (h : Holds N m c) : At (iblk m c 14 t) 0 fun _ k => N.lg k := fun y _ k _ h1 =>
  (congrFun (V_main_arg3 m c) _).trans (h.lg (((cfg0.win 14).blk t).view.emb y) k (by blk_simp [idx]; omega))

theorem lb0 (h : Holds N m c) : At (iblk m c 15 t) 0 fun _ k => N.lb k := fun y _ k _ h1 =>
  (congrFun (V_main_arg4 m c) _).trans (h.lb (((cfg0.win 15).blk t).view.emb y) k (by blk_simp [idx]; omega))

theorem ws0 (h : Holds N m c) (y : S8x128x128.Idx) (g : Fin 8) (a b : Fin 128) (h0 : (y 0).val = g.val) (h1 : (y 1).val = a.val)
    (h2 : (y 2).val = b.val) (hab : b ≤ a) : (iblk m c 12 t : Vec Ideal S8x128x128 .f32) y = ((N.ws g a b : ℝ) : EReal) := by
  show V m c main_v0 (((cfg0.win 12).blk t).view.emb y) = _
  obtain ⟨i0, i1, i2, e⟩ : ∃ (i0 : Fin 8) (i1 i2 : Fin 128), ((cfg0.win 12).blk t).view.emb y = ix3 i0 i1 i2 :=
    ⟨_, _, _, funext (Fin.forall_fin_succ.mpr ⟨rfl, Fin.forall_fin_two.mpr ⟨rfl, rfl⟩⟩)⟩
  have e0 : (((cfg0.win 12).blk t).view.emb y 0).val = g.val := by blk_simp [idx]; omega
  have e1 : (((cfg0.win 12).blk t).view.emb y 1).val = a.val := by blk_simp [idx]; omega
  have e2 : (((cfg0.win 12).blk t).view.emb y 2).val = b.val := by blk_simp [idx]; omega
  rw [e] at e0 e1 e2 ⊢
  entry_read
  pointwise
  exact h.ws _ g a b e0 e1 e2 hab

theorem bs0 (h : Holds N m c) (y : S128x8.Idx) (g : Fin 8) (a : Fin 128) (h0 : (y 0).val = a.val) (h1 : (y 1).val = g.val) :
    (iblk m c 13 t : Vec Ideal S128x8 .f32) y = ((N.bs g a : ℝ) : EReal) := by
  show V m c main_v2 (((cfg0.win 13).blk t).view.emb y) = _
  have e0 : (((cfg0.win 13).blk t).view.emb y 0).val = a.val := by blk_simp [idx]; omega
  have e1 : (((cfg0.win 13).blk t).view.emb y 1).val = g.val := by blk_simp [idx]; omega
  entry_read
  pointwise
  exact h.bs _ g a e1 e0

/-! ## The gelu of the normalised input, its mean and deviation -/

theorem stored_gelu {X : FVec Ideal S128x1024 .bf16} {x : S128x1024.Idx} {a : ℝ} (hX : X x = ((a : ℝ) : EReal)) :
    shapeCast S128x1024 (geluV (extf .f32 X bitsLt_bf16_f32)) shapeCasts_S128x1024_S128x1024 x = ((gel a : ℝ) : EReal) := by
  rw [shapeCast_self]
  exact geluV_apply hX

theorem stored_grad {X : FVec Ideal S128x1024 .bf16} {x : S128x1024.Idx} {a : ℝ} (hX : X x = ((a : ℝ) : EReal)) :
    shapeCast S128x1024 (gradV (extf .f32 X bitsLt_bf16_f32)) shapeCasts_S128x1024_S128x1024 x = ((gel' a : ℝ) : EReal) := by
  rw [shapeCast_self]
  exact gradV_apply hX

variable (m c t) in
/-- What is stored of the gelu of the normalised input, and of its derivative. -/
def gvL : List (View.Piece (Elt Ideal) S128x4096 .f32) :=
  [⟨Rect.unit ![0, 3072] ![128, 1024] inb_S128x4096_S128x1024_0_3072, k0_pay37 (iblk m c 7 t)⟩,
    ⟨Rect.unit ![0, 2048] ![128, 1024] inb_S128x4096_S128x1024_0_2048, k0_pay29 (iblk m c 6 t)⟩,
    ⟨Rect.unit ![0, 1024] ![128, 1024] inb_S128x4096_S128x1024_0_1024, k0_pay21 (iblk m c 5 t)⟩,
    ⟨Rect.unit ![0, 0] ![128, 1024] inb_S128x4096_S128x1024_0_0, k0_pay13 (iblk m c 4 t)⟩]
variable (m c t) in
def gradL : List (View.Piece (Elt Ideal) S128x4096 .f32) :=
  [⟨Rect.unit ![0, 3072] ![128, 1024] inb_S128x4096_S128x1024_0_3072, k0_pay36 (iblk m c 7 t)⟩,
    ⟨Rect.unit ![0, 2048] ![128, 1024] inb_S128x4096_S128x1024_0_2048, k0_pay28 (iblk m c 6 t)⟩,
    ⟨Rect.unit ![0, 1024] ![128, 1024] inb_S128x4096_S128x1024_0_1024, k0_pay20 (iblk m c 5 t)⟩,
    ⟨Rect.unit ![0, 0] ![128, 1024] inb_S128x4096_S128x1024_0_0, k0_pay12 (iblk m c 4 t)⟩]

theorem gv_canon (h : Holds N m c) : At (View.canon (gvL m c t)) 0 fun r k => gel (N.vg (row (nOf t) r) k) := by
  intro y r k h0 h1
  unfold gvL
  canon_tiles x hx
  · exact stored_gelu (vg3 h x r k (by omega) (by omega))
  · exact stored_gelu (vg2 h x r k (by omega) (by omega))
  · exact stored_gelu (vg1 h x r k (by omega) (by omega))
  · exact stored_gelu (vg0 h x r k (by omega) (by omega))

theorem grad_canon (h : Holds N m c) : At (View.canon (gradL m c t)) 0 fun r k => gel' (N.vg (row (nOf t) r) k) := by
  intro y r k h0 h1
  unfold gradL
  canon_tiles x hx
  · exact stored_grad (vg3 h x r k (by omega) (by omega))
  · exact stored_grad (vg2 h x r k (by omega) (by omega))
  · exact stored_grad (vg1 h x r k (by omega) (by omega))
  · exact stored_grad (vg0 h x r k (by omega) (by omega))

variable (m c t) in
/-- A read of either array. -/
abbrev gvRd {w : ℕ} (p : ℕ) (hin : ∀ i, (![0, p] : Fin 2 → ℕ) i + (![128, w] : Fin 2 → ℕ) i ≤ S128x4096.size i) :
    (⟨2, ![128, w]⟩ : Shape).Idx → EReal := (View.whole cc0_scratch0).readCov (gvL m c t) (Rect.unit (s := S128x4096) ![0, p] ![128, w] hin).toLoadRect
variable (m c t) in
abbrev gradRd {w : ℕ} (p : ℕ) (hin : ∀ i, (![0, p] : Fin 2 → ℕ) i + (![128, w] : Fin 2 → ℕ) i ≤ S128x4096.size i) :
    (⟨2, ![128, w]⟩ : Shape).Idx → EReal := (View.whole cc0_scratch2).readCov (gradL m c t) (Rect.unit (s := S128x4096) ![0, p] ![128, w] hin).toLoadRect

theorem gvRd_at (h : Holds N m c) {w p : ℕ} (hin : ∀ i, (![0, p] : Fin 2 → ℕ) i + (![128, w] : Fin 2 → ℕ) i ≤ S128x4096.size i) :
    At (gvRd m c t p hin) p fun r k => gel (N.vg (row (nOf t) r) k) := by
  unfold gvRd
  rw [View.readCov_eq_canon']
  exact (gv_canon h).ld hin p (Nat.zero_add p).symm

theorem gradRd_at (h : Holds N m c) {w p : ℕ} (hin : ∀ i, (![0, p] : Fin 2 → ℕ) i + (![128, w] : Fin 2 → ℕ) i ≤ S128x4096.size i) :
    At (gradRd m c t p hin) p fun r k => gel' (N.vg (row (nOf t) r) k) := by
  unfold gradRd
  rw [View.readCov_eq_canon']
  exact (grad_canon h).ld hin p (Nat.zero_add p).symm

variable (m c t) in
/-- The chunk's means, as a column, and the inverse deviations. -/
def muC : FVec Ideal S128x1 .f32 :=
  k0_pay38 (k0_pay30 (k0_pay14 k0_pay6 (k0_pay11 (iblk m c 4 t))) (k0_pay22 (iblk m c 5 t)) (iblk m c 6 t)) (iblk m c 7 t)
variable (m c t) in
def rsC : FVec Ideal S128x1 .f32 :=
  k0_pay40 (gvRd m c t (w := 4096) 0 inb_S128x4096_S128x4096_0_0)
    (k0_pay39 (k0_pay30 (k0_pay14 k0_pay6 (k0_pay11 (iblk m c 4 t))) (k0_pay22 (iblk m c 5 t)) (iblk m c 6 t)) (iblk m c 7 t))

theorem gelu_quarter {X : FVec Ideal S128x1024 .bf16} (q : Fin 4) {f : Fin 128 → Fin 4096 → ℝ} (hX : At X (q.val * 1024) f) :
    Is (geluV (extf .f32 X bitsLt_bf16_f32)) fun r k => gel (f r (qcol q k)) := fun r k => geluV_apply (hX.quarter q r k)

theorem mu_is (h : Holds N m c) : Is (muC m c t) fun r _ => N.mu (row (nOf t) r) := by
  intro r z
  have e := meanV_is (acc1024_is (acc1024_is (acc1024_is (acc1024_is zcol_is (gelu_quarter 0 (vg0 (t := t) h)))
    (gelu_quarter 1 (vg1 (t := t) h))) (gelu_quarter 2 (vg2 (t := t) h))) (gelu_quarter 3 (vg3 (t := t) h))) r z
  refine Eq.trans ?_ (e.trans (congrArg Real.toEReal ?_))
  · rfl
  · show _ / _ = (∑ k, gel (N.vg (row (nOf t) r) k)) / 4096
    rw [sum_quarters]

theorem rs_is (h : Holds N m c) : Is (rsC m c t) fun r _ => N.rs (row (nOf t) r) := by
  have hg : Is (gvRd m c t (w := 4096) 0 inb_S128x4096_S128x4096_0_0) fun r k => gel (N.vg (row (nOf t) r) k) :=
    fun r k => gvRd_at h _ _ r k rfl (by show k.val = 0 + k.val; omega)
  exact rsV_is (mu_is h) hg fun r => N.var_pos (row (nOf t) r)

/-! ## The groups -/

theorem group0 (h : Holds N m c) : Blk.Group N (nOf t) 0
    (View.ld (iblk m c 0 t) (Rect.unit ![0, 0] ![128, 512] inb_S128x1024_S128x512_0_0))
    (View.ld (iblk m c 8 t) (Rect.unit ![0, 0] ![128, 512] inb_S128x1024_S128x512_0_0))
    (View.ld (iblk m c 16 t) (Rect.unit ![0, 0] ![128, 512] inb_S128x4096_S128x512_0_0))
    (gvRd m c t (w := 512) 0 inb_S128x4096_S128x512_0_0)
    (View.ld (iblk m c 14 t) (Rect.unit ![0, 0] ![1, 512] inb_S1x4096_S1x512_0_0))
    (View.ld (iblk m c 15 t) (Rect.unit ![0, 0] ![1, 512] inb_S1x4096_S1x512_0_0))
    (View.ld (iblk m c 12 t) (Rect.unit ![0, 0, 0] ![1, 128, 128] inb_S8x128x128_S1x128x128_0_0_0))
    (View.ld (iblk m c 13 t) (Rect.unit ![0, 0] ![128, 1] inb_S128x8_S128x1_0_0))
    (muC m c t) (rsC m c t) where
  u := ((u0 h).ld _ _ rfl).group 0
  gb := ((gb0 h).ld _ _ rfl).group 0
  db := ((db0 h).ld _ _ rfl).group 0
  gv := (gvRd_at h _).group 0
  lg := ((lg0 h).ld _ _ rfl).group 0
  lb := ((lb0 h).ld _ _ rfl).group 0
  ws a b hab := ws0 h _ _ _ _ rfl (by show 0 + 1 * a.val = a.val; omega) (by show 0 + 1 * b.val = b.val; omega) hab
  bs a z := bs0 h _ _ _ (by show 0 + 1 * a.val = a.val; omega) (by show 0 + 1 * z.val = 0; omega)
  mu := mu_is h
  rs := rs_is h

theorem group1 (h : Holds N m c) : Blk.Group N (nOf t) 1
    (View.ld (iblk m c 0 t) (Rect.unit ![0, 512] ![128, 512] inb_S128x1024_S128x512_0_512))
    (View.ld (iblk m c 8 t) (Rect.unit ![0, 512] ![128, 512] inb_S128x1024_S128x512_0_512))
    (View.ld (iblk m c 16 t) (Rect.unit ![0, 512] ![128, 512] inb_S128x4096_S128x512_0_512))
    (gvRd m c t (w := 512) 512 inb_S128x4096_S128x512_0_512)
    (View.ld (iblk m c 14 t) (Rect.unit ![0, 512] ![1, 512] inb_S1x4096_S1x512_0_512))
    (View.ld (iblk m c 15 t) (Rect.unit ![0, 512] ![1, 512] inb_S1x4096_S1x512_0_512))
    (View.ld (iblk m c 12 t) (Rect.unit ![1, 0, 0] ![1, 128, 128] inb_S8x128x128_S1x128x128_1_0_0))
    (View.ld (iblk m c 13 t) (Rect.unit ![0, 1] ![128, 1] inb_S128x8_S128x1_0_1))
    (muC m c t) (rsC m c t) where
  u := ((u0 h).ld _ _ rfl).group 1
  gb := ((gb0 h).ld _ _ rfl).group 1
  db := ((db0 h).ld _ _ rfl).group 1
  gv := (gvRd_at h _).group 1
  lg := ((lg0 h).ld _ _ rfl).group 1
  lb := ((lb0 h).ld _ _ rfl).group 1
  ws a b hab := ws0 h _ _ _ _ rfl (by show 0 + 1 * a.val = a.val; omega) (by show 0 + 1 * b.val = b.val; omega) hab
  bs a z := bs0 h _ _ _ (by show 0 + 1 * a.val = a.val; omega) (by show 1 + 1 * z.val = 1; omega)
  mu := mu_is h
  rs := rs_is h

theorem group2 (h : Holds N m c) : Blk.Group N (nOf t) 2
    (View.ld (iblk m c 1 t) (Rect.unit ![0, 0] ![128, 512] inb_S128x1024_S128x512_0_0))
    (View.ld (iblk m c 9 t) (Rect.unit ![0, 0] ![128, 512] inb_S128x1024_S128x512_0_0))
    (View.ld (iblk m c 16 t) (Rect.unit ![0, 1024] ![128, 512] inb_S128x4096_S128x512_0_1024))
    (gvRd m c t (w := 512) 1024 inb_S128x4096_S128x512_0_1024)
    (View.ld (iblk m c 14 t) (Rect.unit ![0, 1024] ![1, 512] inb_S1x4096_S1x512_0_1024))
    (View.ld (iblk m c 15 t) (Rect.unit ![0, 1024] ![1, 512] inb_S1x4096_S1x512_0_1024))
    (View.ld (iblk m c 12 t) (Rect.unit ![2, 0, 0] ![1, 128, 128] inb_S8x128x128_S1x128x128_2_0_0))
    (View.ld (iblk m c 13 t) (Rect.unit ![0, 2] ![128, 1] inb_S128x8_S128x1_0_2))
    (muC m c t) (rsC m c t) where
  u := ((u1 h).ld _ _ rfl).group 2
  gb := ((gb1 h).ld _ _ rfl).group 2
  db := ((db0 h).ld _ _ rfl).group 2
  gv := (gvRd_at h _).group 2
  lg := ((lg0 h).ld _ _ rfl).group 2
  lb := ((lb0 h).ld _ _ rfl).group 2
  ws a b hab := ws0 h _ _ _ _ rfl (by show 0 + 1 * a.val = a.val; omega) (by show 0 + 1 * b.val = b.val; omega) hab
  bs a z := bs0 h _ _ _ (by show 0 + 1 * a.val = a.val; omega) (by show 2 + 1 * z.val = 2; omega)
  mu := mu_is h
  rs := rs_is h

theorem group3 (h : Holds N m c) : Blk.Group N (nOf t) 3
    (View.ld (iblk m c 1 t) (Rect.unit ![0, 512] ![128, 512] inb_S128x1024_S128x512_0_512))
    (View.ld (iblk m c 9 t) (Rect.unit ![0, 512] ![128, 512] inb_S128x1024_S128x512_0_512))
    (View.ld (iblk m c 16 t) (Rect.unit ![0, 1536] ![128, 512] inb_S128x4096_S128x512_0_1536))
    (gvRd m c t (w := 512) 1536 inb_S128x4096_S128x512_0_1536)
    (View.ld (iblk m c 14 t) (Rect.unit ![0, 1536] ![1, 512] inb_S1x4096_S1x512_0_1536))
    (View.ld (iblk m c 15 t) (Rect.unit ![0, 1536] ![1, 512] inb_S1x4096_S1x512_0_1536))
    (View.ld (iblk m c 12 t) (Rect.unit ![3, 0, 0] ![1, 128, 128] inb_S8x128x128_S1x128x128_3_0_0))
    (View.ld (iblk m c 13 t) (Rect.unit ![0, 3] ![128, 1] inb_S128x8_S128x1_0_3))
    (muC m c t) (rsC m c t) where
  u := ((u1 h).ld _ _ rfl).group 3
  gb := ((gb1 h).ld _ _ rfl).group 3
  db := ((db0 h).ld _ _ rfl).group 3
  gv := (gvRd_at h _).group 3
  lg := ((lg0 h).ld _ _ rfl).group 3
  lb := ((lb0 h).ld _ _ rfl).group 3
  ws a b hab := ws0 h _ _ _ _ rfl (by show 0 + 1 * a.val = a.val; omega) (by show 0 + 1 * b.val = b.val; omega) hab
  bs a z := bs0 h _ _ _ (by show 0 + 1 * a.val = a.val; omega) (by show 3 + 1 * z.val = 3; omega)
  mu := mu_is h
  rs := rs_is h

theorem group4 (h : Holds N m c) : Blk.Group N (nOf t) 4
    (View.ld (iblk m c 2 t) (Rect.unit ![0, 0] ![128, 512] inb_S128x1024_S128x512_0_0))
    (View.ld (iblk m c 10 t) (Rect.unit ![0, 0] ![128, 512] inb_S128x1024_S128x512_0_0))
    (View.ld (iblk m c 16 t) (Rect.unit ![0, 2048] ![128, 512] inb_S128x4096_S128x512_0_2048))
    (gvRd m c t (w := 512) 2048 inb_S128x4096_S128x512_0_2048)
    (View.ld (iblk m c 14 t) (Rect.unit ![0, 2048] ![1, 512] inb_S1x4096_S1x512_0_2048))
    (View.ld (iblk m c 15 t) (Rect.unit ![0, 2048] ![1, 512] inb_S1x4096_S1x512_0_2048))
    (View.ld (iblk m c 12 t) (Rect.unit ![4, 0, 0] ![1, 128, 128] inb_S8x128x128_S1x128x128_4_0_0))
    (View.ld (iblk m c 13 t) (Rect.unit ![0, 4] ![128, 1] inb_S128x8_S128x1_0_4))
    (muC m c t) (rsC m c t) where
  u := ((u2 h).ld _ _ rfl).group 4
  gb := ((gb2 h).ld _ _ rfl).group 4
  db := ((db0 h).ld _ _ rfl).group 4
  gv := (gvRd_at h _).group 4
  lg := ((lg0 h).ld _ _ rfl).group 4
  lb := ((lb0 h).ld _ _ rfl).group 4
  ws a b hab := ws0 h _ _ _ _ rfl (by show 0 + 1 * a.val = a.val; omega) (by show 0 + 1 * b.val = b.val; omega) hab
  bs a z := bs0 h _ _ _ (by show 0 + 1 * a.val = a.val; omega) (by show 4 + 1 * z.val = 4; omega)
  mu := mu_is h
  rs := rs_is h

theorem group5 (h : Holds N m c) : Blk.Group N (nOf t) 5
    (View.ld (iblk m c 2 t) (Rect.unit ![0, 512] ![128, 512] inb_S128x1024_S128x512_0_512))
    (View.ld (iblk m c 10 t) (Rect.unit ![0, 512] ![128, 512] inb_S128x1024_S128x512_0_512))
    (View.ld (iblk m c 16 t) (Rect.unit ![0, 2560] ![128, 512] inb_S128x4096_S128x512_0_2560))
    (gvRd m c t (w := 512) 2560 inb_S128x4096_S128x512_0_2560)
    (View.ld (iblk m c 14 t) (Rect.unit ![0, 2560] ![1, 512] inb_S1x4096_S1x512_0_2560))
    (View.ld (iblk m c 15 t) (Rect.unit ![0, 2560] ![1, 512] inb_S1x4096_S1x512_0_2560))
    (View.ld (iblk m c 12 t) (Rect.unit ![5, 0, 0] ![1, 128, 128] inb_S8x128x128_S1x128x128_5_0_0))
    (View.ld (iblk m c 13 t) (Rect.unit ![0, 5] ![128, 1] inb_S128x8_S128x1_0_5))
    (muC m c t) (rsC m c t) where
  u := ((u2 h).ld _ _ rfl).group 5
  gb := ((gb2 h).ld _ _ rfl).group 5
  db := ((db0 h).ld _ _ rfl).group 5
  gv := (gvRd_at h _).group 5
  lg := ((lg0 h).ld _ _ rfl).group 5
  lb := ((lb0 h).ld _ _ rfl).group 5
  ws a b hab := ws0 h _ _ _ _ rfl (by show 0 + 1 * a.val = a.val; omega) (by show 0 + 1 * b.val = b.val; omega) hab
  bs a z := bs0 h _ _ _ (by show 0 + 1 * a.val = a.val; omega) (by show 5 + 1 * z.val = 5; omega)
  mu := mu_is h
  rs := rs_is h

theorem group6 (h : Holds N m c) : Blk.Group N (nOf t) 6
    (View.ld (iblk m c 3 t) (Rect.unit ![0, 0] ![128, 512] inb_S128x1024_S128x512_0_0))
    (View.ld (iblk m c 11 t) (Rect.unit ![0, 0] ![128, 512] inb_S128x1024_S128x512_0_0))
    (View.ld (iblk m c 16 t) (Rect.unit ![0, 3072] ![128, 512] inb_S128x4096_S128x512_0_3072))
    (gvRd m c t (w := 512) 3072 inb_S128x4096_S128x512_0_3072)
    (View.ld (iblk m c 14 t) (Rect.unit ![0, 3072] ![1, 512] inb_S1x4096_S1x512_0_3072))
    (View.ld (iblk m c 15 t) (Rect.unit ![0, 3072] ![1, 512] inb_S1x4096_S1x512_0_3072))
    (View.ld (iblk m c 12 t) (Rect.unit ![6, 0, 0] ![1, 128, 128] inb_S8x128x128_S1x128x128_6_0_0))
    (View.ld (iblk m c 13 t) (Rect.unit ![0, 6] ![128, 1] inb_S128x8_S128x1_0_6))
    (muC m c t) (rsC m c t) where
  u := ((u3 h).ld _ _ rfl).group 6
  gb := ((gb3 h).ld _ _ rfl).group 6
  db := ((db0 h).ld _ _ rfl).group 6
  gv := (gvRd_at h _).group 6
  lg := ((lg0 h).ld _ _ rfl).group 6
  lb := ((lb0 h).ld _ _ rfl).group 6
  ws a b hab := ws0 h _ _ _ _ rfl (by show 0 + 1 * a.val = a.val; omega) (by show 0 + 1 * b.val = b.val; omega) hab
  bs a z := bs0 h _ _ _ (by show 0 + 1 * a.val = a.val; omega) (by show 6 + 1 * z.val = 6; omega)
  mu := mu_is h
  rs := rs_is h

theorem group7 (h : Holds N m c) : Blk.Group N (nOf t) 7
    (View.ld (iblk m c 3 t) (Rect.unit ![0, 512] ![128, 512] inb_S128x1024_S128x512_0_512))
    (View.ld (iblk m c 11 t) (Rect.unit ![0, 512] ![128, 512] inb_S128x1024_S128x512_0_512))
    (View.ld (iblk m c 16 t) (Rect.unit ![0, 3584] ![128, 512] inb_S128x4096_S128x512_0_3584))
    (gvRd m c t (w := 512) 3584 inb_S128x4096_S128x512_0_3584)
    (View.ld (iblk m c 14 t) (Rect.unit ![0, 3584] ![1, 512] inb_S1x4096_S1x512_0_3584))
    (View.ld (iblk m c 15 t) (Rect.unit ![0, 3584] ![1, 512] inb_S1x4096_S1x512_0_3584))
    (View.ld (iblk m c 12 t) (Rect.unit ![7, 0, 0] ![1, 128, 128] inb_S8x128x128_S1x128x128_7_0_0))
    (View.ld (iblk m c 13 t) (Rect.unit ![0, 7] ![128, 1] inb_S128x8_S128x1_0_7))
    (muC m c t) (rsC m c t) where
  u := ((u3 h).ld _ _ rfl).group 7
  gb := ((gb3 h).ld _ _ rfl).group 7
  db := ((db0 h).ld _ _ rfl).group 7
  gv := (gvRd_at h _).group 7
  lg := ((lg0 h).ld _ _ rfl).group 7
  lb := ((lb0 h).ld _ _ rfl).group 7
  ws a b hab := ws0 h _ _ _ _ rfl (by show 0 + 1 * a.val = a.val; omega) (by show 0 + 1 * b.val = b.val; omega) hab
  bs a z := bs0 h _ _ _ (by show 0 + 1 * a.val = a.val; omega) (by show 7 + 1 * z.val = 7; omega)
  mu := mu_is h
  rs := rs_is h

end Cert.Gating.Chunk

end
-- ==== Proof.Rows.lean ====
/- The gradient of a chunk's normalised rows, its two means, and the block of the first result. -/
module

public import proofs.«01_k».proof.Proof.Chunk

@[expose] public section

set_option maxRecDepth 16384

noncomputable section

namespace Cert.Gating.Chunk

open Idealize.ShloMosaic Idealize.ShloMosaic.TcCoe Idealize.SL.Sem Cert.KernelIdeal Cert.KernelIdeal.Gen Cert.Gating.Blk
open Idealize.ShloMosaic.Pipeline (Dat)

section

variable (m : (ℓ : Loc nD τ KernelIdeal.sig) → Buf (Elt Ideal) ℓ) (c : Dev nD) (t : Fin cfg0.N)

/-- The groups' gradients of the normalised rows, and the normalised rows. -/
def dvhC0 : FVec Ideal S128x512 .f32 :=
  dvhB (View.ld (iblk m c 0 t) (Rect.unit ![0, 0] ![128, 512] inb_S128x1024_S128x512_0_0))
    (View.ld (iblk m c 8 t) (Rect.unit ![0, 0] ![128, 512] inb_S128x1024_S128x512_0_0))
    (View.ld (iblk m c 16 t) (Rect.unit ![0, 0] ![128, 512] inb_S128x4096_S128x512_0_0))
    (View.ld (iblk m c 14 t) (Rect.unit ![0, 0] ![1, 512] inb_S1x4096_S1x512_0_0))
    (View.ld (iblk m c 12 t) (Rect.unit ![0, 0, 0] ![1, 128, 128] inb_S8x128x128_S1x128x128_0_0_0))
def vhC0 : FVec Ideal S128x512 .f32 := vhV (muC m c t) (rsC m c t) (gvRd m c t (w := 512) 0 inb_S128x4096_S128x512_0_0)
def dvhC1 : FVec Ideal S128x512 .f32 :=
  dvhB (View.ld (iblk m c 0 t) (Rect.unit ![0, 512] ![128, 512] inb_S128x1024_S128x512_0_512))
    (View.ld (iblk m c 8 t) (Rect.unit ![0, 512] ![128, 512] inb_S128x1024_S128x512_0_512))
    (View.ld (iblk m c 16 t) (Rect.unit ![0, 512] ![128, 512] inb_S128x4096_S128x512_0_512))
    (View.ld (iblk m c 14 t) (Rect.unit ![0, 512] ![1, 512] inb_S1x4096_S1x512_0_512))
    (View.ld (iblk m c 12 t) (Rect.unit ![1, 0, 0] ![1, 128, 128] inb_S8x128x128_S1x128x128_1_0_0))
def vhC1 : FVec Ideal S128x512 .f32 := vhV (muC m c t) (rsC m c t) (gvRd m c t (w := 512) 512 inb_S128x4096_S128x512_0_512)
def dvhC2 : FVec Ideal S128x512 .f32 :=
  dvhB (View.ld (iblk m c 1 t) (Rect.unit ![0, 0] ![128, 512] inb_S128x1024_S128x512_0_0))
    (View.ld (iblk m c 9 t) (Rect.unit ![0, 0] ![128, 512] inb_S128x1024_S128x512_0_0))
    (View.ld (iblk m c 16 t) (Rect.unit ![0, 1024] ![128, 512] inb_S128x4096_S128x512_0_1024))
    (View.ld (iblk m c 14 t) (Rect.unit ![0, 1024] ![1, 512] inb_S1x4096_S1x512_0_1024))
    (View.ld (iblk m c 12 t) (Rect.unit ![2, 0, 0] ![1, 128, 128] inb_S8x128x128_S1x128x128_2_0_0))
def vhC2 : FVec Ideal S128x512 .f32 := vhV (muC m c t) (rsC m c t) (gvRd m c t (w := 512) 1024 inb_S128x4096_S128x512_0_1024)
def dvhC3 : FVec Ideal S128x512 .f32 :=
  dvhB (View.ld (iblk m c 1 t) (Rect.unit ![0, 512] ![128, 512] inb_S128x1024_S128x512_0_512))
    (View.ld (iblk m c 9 t) (Rect.unit ![0, 512] ![128, 512] inb_S128x1024_S128x512_0_512))
    (View.ld (iblk m c 16 t) (Rect.unit ![0, 1536] ![128, 512] inb_S128x4096_S128x512_0_1536))
    (View.ld (iblk m c 14 t) (Rect.unit ![0, 1536] ![1, 512] inb_S1x4096_S1x512_0_1536))
    (View.ld (iblk m c 12 t) (Rect.unit ![3, 0, 0] ![1, 128, 128] inb_S8x128x128_S1x128x128_3_0_0))
def vhC3 : FVec Ideal S128x512 .f32 := vhV (muC m c t) (rsC m c t) (gvRd m c t (w := 512) 1536 inb_S128x4096_S128x512_0_1536)
def dvhC4 : FVec Ideal S128x512 .f32 :=
  dvhB (View.ld (iblk m c 2 t) (Rect.unit ![0, 0] ![128, 512] inb_S128x1024_S128x512_0_0))
    (View.ld (iblk m c 10 t) (Rect.unit ![0, 0] ![128, 512] inb_S128x1024_S128x512_0_0))
    (View.ld (iblk m c 16 t) (Rect.unit ![0, 2048] ![128, 512] inb_S128x4096_S128x512_0_2048))
    (View.ld (iblk m c 14 t) (Rect.unit ![0, 2048] ![1, 512] inb_S1x4096_S1x512_0_2048))
    (View.ld (iblk m c 12 t) (Rect.unit ![4, 0, 0] ![1, 128, 128] inb_S8x128x128_S1x128x128_4_0_0))
def vhC4 : FVec Ideal S128x512 .f32 := vhV (muC m c t) (rsC m c t) (gvRd m c t (w := 512) 2048 inb_S128x4096_S128x512_0_2048)
def dvhC5 : FVec Ideal S128x512 .f32 :=
  dvhB (View.ld (iblk m c 2 t) (Rect.unit ![0, 512] ![128, 512] inb_S128x1024_S128x512_0_512))
    (View.ld (iblk m c 10 t) (Rect.unit ![0, 512] ![128, 512] inb_S128x1024_S128x512_0_512))
    (View.ld (iblk m c 16 t) (Rect.unit ![0, 2560] ![128, 512] inb_S128x4096_S128x512_0_2560))
    (View.ld (iblk m c 14 t) (Rect.unit ![0, 2560] ![1, 512] inb_S1x4096_S1x512_0_2560))
    (View.ld (iblk m c 12 t) (Rect.unit ![5, 0, 0] ![1, 128, 128] inb_S8x128x128_S1x128x128_5_0_0))
def vhC5 : FVec Ideal S128x512 .f32 := vhV (muC m c t) (rsC m c t) (gvRd m c t (w := 512) 2560 inb_S128x4096_S128x512_0_2560)
def dvhC6 : FVec Ideal S128x512 .f32 :=
  dvhB (View.ld (iblk m c 3 t) (Rect.unit ![0, 0] ![128, 512] inb_S128x1024_S128x512_0_0))
    (View.ld (iblk m c 11 t) (Rect.unit ![0, 0] ![128, 512] inb_S128x1024_S128x512_0_0))
    (View.ld (iblk m c 16 t) (Rect.unit ![0, 3072] ![128, 512] inb_S128x4096_S128x512_0_3072))
    (View.ld (iblk m c 14 t) (Rect.unit ![0, 3072] ![1, 512] inb_S1x4096_S1x512_0_3072))
    (View.ld (iblk m c 12 t) (Rect.unit ![6, 0, 0] ![1, 128, 128] inb_S8x128x128_S1x128x128_6_0_0))
def vhC6 : FVec Ideal S128x512 .f32 := vhV (muC m c t) (rsC m c t) (gvRd m c t (w := 512) 3072 inb_S128x4096_S128x512_0_3072)
def dvhC7 : FVec Ideal S128x512 .f32 :=
  dvhB (View.ld (iblk m c 3 t) (Rect.unit ![0, 512] ![128, 512] inb_S128x1024_S128x512_0_512))
    (View.ld (iblk m c 11 t) (Rect.unit ![0, 512] ![128, 512] inb_S128x1024_S128x512_0_512))
    (View.ld (iblk m c 16 t) (Rect.unit ![0, 3584] ![128, 512] inb_S128x4096_S128x512_0_3584))
    (View.ld (iblk m c 14 t) (Rect.unit ![0, 3584] ![1, 512] inb_S1x4096_S1x512_0_3584))
    (View.ld (iblk m c 12 t) (Rect.unit ![7, 0, 0] ![1, 128, 128] inb_S8x128x128_S1x128x128_7_0_0))
def vhC7 : FVec Ideal S128x512 .f32 := vhV (muC m c t) (rsC m c t) (gvRd m c t (w := 512) 3584 inb_S128x4096_S128x512_0_3584)

/-- What is stored of the gradient of the normalised rows. -/
def dvhL : List (View.Piece (Elt Ideal) S128x4096 .f32) :=
  [⟨Rect.unit ![0, 3584] ![128, 512] inb_S128x4096_S128x512_0_3584, shapeCast S128x512 (dvhC7 m c t) shapeCasts_S128x512_S128x512⟩,
    ⟨Rect.unit ![0, 3072] ![128, 512] inb_S128x4096_S128x512_0_3072, shapeCast S128x512 (dvhC6 m c t) shapeCasts_S128x512_S128x512⟩,
    ⟨Rect.unit ![0, 2560] ![128, 512] inb_S128x4096_S128x512_0_2560, shapeCast S128x512 (dvhC5 m c t) shapeCasts_S128x512_S128x512⟩,
    ⟨Rect.unit ![0, 2048] ![128, 512] inb_S128x4096_S128x512_0_2048, shapeCast S128x512 (dvhC4 m c t) shapeCasts_S128x512_S128x512⟩,
    ⟨Rect.unit ![0, 1536] ![128, 512] inb_S128x4096_S128x512_0_1536, shapeCast S128x512 (dvhC3 m c t) shapeCasts_S128x512_S128x512⟩,
    ⟨Rect.unit ![0, 1024] ![128, 512] inb_S128x4096_S128x512_0_1024, shapeCast S128x512 (dvhC2 m c t) shapeCasts_S128x512_S128x512⟩,
    ⟨Rect.unit ![0, 512] ![128, 512] inb_S128x4096_S128x512_0_512, shapeCast S128x512 (dvhC1 m c t) shapeCasts_S128x512_S128x512⟩,
    ⟨Rect.unit ![0, 0] ![128, 512] inb_S128x4096_S128x512_0_0, shapeCast S128x512 (dvhC0 m c t) shapeCasts_S128x512_S128x512⟩]
/-- A read of it. -/
abbrev dvhRd {w : ℕ} (p : ℕ) (hin : ∀ i, (![0, p] : Fin 2 → ℕ) i + (![128, w] : Fin 2 → ℕ) i ≤ S128x4096.size i) :
    (⟨2, ![128, w]⟩ : Shape).Idx → EReal := (View.whole cc0_scratch1).readCov (dvhL m c t) (Rect.unit (s := S128x4096) ![0, p] ![128, w] hin).toLoadRect
/-- Its mean over the channels, and its mean against the normalised rows. -/
def m1C : FVec Ideal S128x1 .f32 :=
  meanV (acc512 (acc512 (acc512 (acc512 (acc512 (acc512 (acc512 (acc512 zcol (dvhC0 m c t)) (dvhC1 m c t)) (dvhC2 m c t)) (dvhC3 m c t)) (dvhC4 m c t)) (dvhC5 m c t)) (dvhC6 m c t)) (dvhC7 m c t))
def m2C : FVec Ideal S128x1 .f32 :=
  meanV (acc512 (acc512 (acc512 (acc512 (acc512 (acc512 (acc512 (acc512 zcol (mulf (dvhC0 m c t) (vhC0 m c t))) (mulf (dvhC1 m c t) (vhC1 m c t))) (mulf (dvhC2 m c t) (vhC2 m c t))) (mulf (dvhC3 m c t) (vhC3 m c t))) (mulf (dvhC4 m c t) (vhC4 m c t))) (mulf (dvhC5 m c t) (vhC5 m c t))) (mulf (dvhC6 m c t) (vhC6 m c t))) (mulf (dvhC7 m c t) (vhC7 m c t)))

end

variable {N : Nums} {m : (ℓ : Loc nD τ KernelIdeal.sig) → Buf (Elt Ideal) ℓ} {c : Dev nD} {t : Fin cfg0.N}

theorem dvh0 (h : Holds N m c) : Is (dvhC0 m c t) fun r k => N.dvh (row (nOf t) r) (col 0 k) := (group0 h).dvh_is
theorem vh0 (h : Holds N m c) : Is (vhC0 m c t) fun r k => N.vh (row (nOf t) r) (col 0 k) := (group0 h).vh_is
theorem dvh1 (h : Holds N m c) : Is (dvhC1 m c t) fun r k => N.dvh (row (nOf t) r) (col 1 k) := (group1 h).dvh_is
theorem vh1 (h : Holds N m c) : Is (vhC1 m c t) fun r k => N.vh (row (nOf t) r) (col 1 k) := (group1 h).vh_is
theorem dvh2 (h : Holds N m c) : Is (dvhC2 m c t) fun r k => N.dvh (row (nOf t) r) (col 2 k) := (group2 h).dvh_is
theorem vh2 (h : Holds N m c) : Is (vhC2 m c t) fun r k => N.vh (row (nOf t) r) (col 2 k) := (group2 h).vh_is
theorem dvh3 (h : Holds N m c) : Is (dvhC3 m c t) fun r k => N.dvh (row (nOf t) r) (col 3 k) := (group3 h).dvh_is
theorem vh3 (h : Holds N m c) : Is (vhC3 m c t) fun r k => N.vh (row (nOf t) r) (col 3 k) := (group3 h).vh_is
theorem dvh4 (h : Holds N m c) : Is (dvhC4 m c t) fun r k => N.dvh (row (nOf t) r) (col 4 k) := (group4 h).dvh_is
theorem vh4 (h : Holds N m c) : Is (vhC4 m c t) fun r k => N.vh (row (nOf t) r) (col 4 k) := (group4 h).vh_is
theorem dvh5 (h : Holds N m c) : Is (dvhC5 m c t) fun r k => N.dvh (row (nOf t) r) (col 5 k) := (group5 h).dvh_is
theorem vh5 (h : Holds N m c) : Is (vhC5 m c t) fun r k => N.vh (row (nOf t) r) (col 5 k) := (group5 h).vh_is
theorem dvh6 (h : Holds N m c) : Is (dvhC6 m c t) fun r k => N.dvh (row (nOf t) r) (col 6 k) := (group6 h).dvh_is
theorem vh6 (h : Holds N m c) : Is (vhC6 m c t) fun r k => N.vh (row (nOf t) r) (col 6 k) := (group6 h).vh_is
theorem dvh7 (h : Holds N m c) : Is (dvhC7 m c t) fun r k => N.dvh (row (nOf t) r) (col 7 k) := (group7 h).dvh_is
theorem vh7 (h : Holds N m c) : Is (vhC7 m c t) fun r k => N.vh (row (nOf t) r) (col 7 k) := (group7 h).vh_is

theorem m1_is (h : Holds N m c) : Is (m1C m c t) fun r _ => N.m1 (row (nOf t) r) := by
  intro r z
  refine (meanV_is (acc512_is (acc512_is (acc512_is (acc512_is (acc512_is (acc512_is (acc512_is (acc512_is zcol_is (dvh0 (t := t) h)) (dvh1 (t := t) h)) (dvh2 (t := t) h)) (dvh3 (t := t) h)) (dvh4 (t := t) h)) (dvh5 (t := t) h)) (dvh6 (t := t) h)) (dvh7 (t := t) h)) r z).trans (congrArg Real.toEReal ?_)
  show _ / _ = (∑ k, N.dvh (row (nOf t) r) k) / 4096
  rw [sum_groups]

theorem m2_is (h : Holds N m c) : Is (m2C m c t) fun r _ => N.m2 (row (nOf t) r) := by
  intro r z
  refine (meanV_is (acc512_is (acc512_is (acc512_is (acc512_is (acc512_is (acc512_is (acc512_is (acc512_is zcol_is (mul_is (dvh0 (t := t) h) (vh0 h))) (mul_is (dvh1 (t := t) h) (vh1 h))) (mul_is (dvh2 (t := t) h) (vh2 h))) (mul_is (dvh3 (t := t) h) (vh3 h))) (mul_is (dvh4 (t := t) h) (vh4 h))) (mul_is (dvh5 (t := t) h) (vh5 h))) (mul_is (dvh6 (t := t) h) (vh6 h))) (mul_is (dvh7 (t := t) h) (vh7 h))) r z).trans (congrArg Real.toEReal ?_)
  show _ / _ = (∑ k, N.dvh (row (nOf t) r) k * N.vh (row (nOf t) r) k) / 4096
  rw [sum_groups]

theorem dvh_at {Y : FVec Ideal S128x512 .f32} {g : Fin 8} {f : Fin 128 → Fin 4096 → ℝ} (hY : Is Y fun r k => f r (col g k)) (x : S128x512.Idx)
    (r : Fin 128) (k : Fin 4096) (h0 : r.val = (x 0).val) (h1 : k.val = g.val * 512 + (x 1).val) :
    shapeCast S128x512 Y shapeCasts_S128x512_S128x512 x = ((f r k : ℝ) : EReal) := by
  obtain rfl : r = x 0 := Fin.ext h0
  obtain rfl : k = col g (x 1) := Fin.ext h1
  rw [shapeCast_self]
  exact hY.at x

theorem dvh_canon (h : Holds N m c) : At (View.canon (dvhL m c t)) 0 fun r k => N.dvh (row (nOf t) r) k := by
  intro y r k h0 h1
  unfold dvhL
  canon_tiles x hx
  · exact dvh_at (g := 7) (f := fun r k => N.dvh (row (nOf t) r) k) (dvh7 h) x r k (by omega) (by show k.val = 7 * 512 + (x 1).val; omega)
  · exact dvh_at (g := 6) (f := fun r k => N.dvh (row (nOf t) r) k) (dvh6 h) x r k (by omega) (by show k.val = 6 * 512 + (x 1).val; omega)
  · exact dvh_at (g := 5) (f := fun r k => N.dvh (row (nOf t) r) k) (dvh5 h) x r k (by omega) (by show k.val = 5 * 512 + (x 1).val; omega)
  · exact dvh_at (g := 4) (f := fun r k => N.dvh (row (nOf t) r) k) (dvh4 h) x r k (by omega) (by show k.val = 4 * 512 + (x 1).val; omega)
  · exact dvh_at (g := 3) (f := fun r k => N.dvh (row (nOf t) r) k) (dvh3 h) x r k (by omega) (by show k.val = 3 * 512 + (x 1).val; omega)
  · exact dvh_at (g := 2) (f := fun r k => N.dvh (row (nOf t) r) k) (dvh2 h) x r k (by omega) (by show k.val = 2 * 512 + (x 1).val; omega)
  · exact dvh_at (g := 1) (f := fun r k => N.dvh (row (nOf t) r) k) (dvh1 h) x r k (by omega) (by show k.val = 1 * 512 + (x 1).val; omega)
  · exact dvh_at (g := 0) (f := fun r k => N.dvh (row (nOf t) r) k) (dvh0 h) x r k (by omega) (by show k.val = 0 * 512 + (x 1).val; omega)

theorem dvhRd_at (h : Holds N m c) {w p : ℕ} (hin : ∀ i, (![0, p] : Fin 2 → ℕ) i + (![128, w] : Fin 2 → ℕ) i ≤ S128x4096.size i) :
    At (dvhRd m c t p hin) p fun r k => N.dvh (row (nOf t) r) k := by
  unfold dvhRd
  rw [View.readCov_eq_canon']
  exact (dvh_canon h).ld hin p (Nat.zero_add p).symm

variable (m c t) in
/-- The gradient of the branch's second input, a quarter of the channels. -/
def dvgC (p : ℕ) (hin : ∀ i, (![0, p] : Fin 2 → ℕ) i + (![128, 1024] : Fin 2 → ℕ) i ≤ S128x4096.size i) : FVec Ideal S128x1024 .bf16 :=
  truncf .bf16 (mulf (dgvV (muC m c t) (rsC m c t) (m1C m c t) (m2C m c t) (gvRd m c t p hin) (dvhRd m c t p hin)) (gradRd m c t p hin)) bitsLt_bf16_f32

theorem dvg_is (h : Holds N m c) (q : Fin 4) (hin : ∀ i, (![0, q.val * 1024] : Fin 2 → ℕ) i + (![128, 1024] : Fin 2 → ℕ) i ≤ S128x4096.size i) :
    Is (dvgC m c t (q.val * 1024) hin) fun r k => N.dvg (row (nOf t) r) (qcol q k) :=
  mul_is (dgvV_is (mu_is h) (rs_is h) (m1_is h) (m2_is h) ((gvRd_at h hin).quarter q) ((dvhRd_at h hin).quarter q)) ((gradRd_at h hin).quarter q)

end Cert.Gating.Chunk

end
-- ==== Proof.Dval.lean ====
/- The first result's rows: the gradients of the branch's three inputs, side by side. -/
module

public import proofs.«01_k».proof.Proof.Spec

@[expose] public section

noncomputable section

namespace Cert.Gating

/-- A row of the first result: the three gradients side by side. -/
def Nums.dval (N : Nums) (r : Fin 4096) (j : ℕ) : ℝ :=
  if h : j < 4096 then N.du r ⟨j, h⟩
  else if h : j - 4096 < 4096 then N.dvg r ⟨j - 4096, h⟩
  else if h : j - 8192 < 4096 then N.dgb r ⟨j - 8192, h⟩ else 0

theorem Nums.dval_u (N : Nums) (r k : Fin 4096) {j : ℕ} (hj : j = k.val) : N.dval r j = N.du r k := by
  subst hj
  exact dif_pos k.isLt
theorem Nums.dval_vg (N : Nums) (r k : Fin 4096) {j : ℕ} (hj : j = 4096 + k.val) : N.dval r j = N.dvg r k := by
  unfold Nums.dval
  rw [dif_neg (by omega), dif_pos (by omega)]
  exact congrArg _ (Fin.ext (by show j - 4096 = k.val; omega))
theorem Nums.dval_gb (N : Nums) (r k : Fin 4096) {j : ℕ} (hj : j = 8192 + k.val) : N.dval r j = N.dgb r k := by
  unfold Nums.dval
  rw [dif_neg (by omega), dif_neg (by omega), dif_pos (by omega)]
  exact congrArg _ (Fin.ext (by show j - 8192 = k.val; omega))

end Cert.Gating

end
-- ==== Proof.BlockD.lean ====
/- The block of the first result that a grid point leaves: the gradients of the branch's three inputs, side by side. -/
module

public import proofs.«01_k».proof.Proof.Rows
public import proofs.«01_k».proof.Proof.Dval

@[expose] public section

set_option maxRecDepth 16384

noncomputable section

namespace Cert.Gating

namespace Chunk

open Idealize.ShloMosaic Idealize.ShloMosaic.TcCoe Idealize.SL.Sem Cert.KernelIdeal Cert.KernelIdeal.Gen Cert.Gating.Blk
open Idealize.ShloMosaic.Pipeline (Dat)

variable {N : Nums} {m : (ℓ : Loc nD τ KernelIdeal.sig) → Buf (Elt Ideal) ℓ} {c : Dev nD} {t : Fin cfg0.N}

theorem tile_u {X : FVec Ideal S128x512 .bf16} {n : Fin 32} (g : Fin 8) (hX : Is X fun r k => N.du (row n r) (col g k)) (x : S128x512.Idx)
    (y : S128x12288.Idx) (h0 : (y 0).val = (x 0).val) (h1 : (y 1).val = g.val * 512 + (x 1).val) :
    X x = ((N.dval (row n (y 0)) (y 1).val : ℝ) : EReal) := by
  rw [hX.at x, N.dval_u (row n (y 0)) (col g (x 1)) h1]
  obtain e : x 0 = y 0 := Fin.ext h0.symm
  rw [e]

theorem tile_gb {X : FVec Ideal S128x512 .bf16} {n : Fin 32} (g : Fin 8) (hX : Is X fun r k => N.dgb (row n r) (col g k)) (x : S128x512.Idx)
    (y : S128x12288.Idx) (h0 : (y 0).val = (x 0).val) (h1 : (y 1).val = 8192 + (g.val * 512 + (x 1).val)) :
    X x = ((N.dval (row n (y 0)) (y 1).val : ℝ) : EReal) := by
  rw [hX.at x, N.dval_gb (row n (y 0)) (col g (x 1)) h1]
  obtain e : x 0 = y 0 := Fin.ext h0.symm
  rw [e]

theorem tile_vg {X : FVec Ideal S128x1024 .bf16} {n : Fin 32} (q : Fin 4) (hX : Is X fun r k => N.dvg (row n r) (qcol q k)) (x : S128x1024.Idx)
    (y : S128x12288.Idx) (h0 : (y 0).val = (x 0).val) (h1 : (y 1).val = 4096 + (q.val * 1024 + (x 1).val)) :
    X x = ((N.dval (row n (y 0)) (y 1).val : ℝ) : EReal) := by
  rw [hX.at x, N.dval_vg (row n (y 0)) (qcol q (x 1)) h1]
  obtain e : x 0 = y 0 := Fin.ext h0.symm
  rw [e]

set_option maxHeartbeats 4000000 in
theorem outD_A (h : Holds N m c) (h0 : t.val % 32 = 0) (y : S128x12288.Idx) :
    (outsAt0 m c t.val t.isLt).1 y = ((N.dval (row (nOf t) (y 0)) (y 1).val : ℝ) : EReal) := by
  rw [outsAt0_A m c t h0]
  dsimp only
  generalize (outsAt0 m c (t.val - 1) (Nat.lt_of_le_of_lt (Nat.sub_le _ _) t.isLt)) = Y
  frame_out
  canon_tiles x hx using (View.cover_of_tiledBy _ ![128, 512] (by sl_kernel_rfl) y)
  · exact tile_vg 3 (dvg_is h 3 inb_S128x4096_S128x1024_0_3072) x y (by omega) (by show (y 1).val = 4096 + (3 * 1024 + (x 1).val); omega)
  · exact tile_vg 2 (dvg_is h 2 inb_S128x4096_S128x1024_0_2048) x y (by omega) (by show (y 1).val = 4096 + (2 * 1024 + (x 1).val); omega)
  · exact tile_vg 1 (dvg_is h 1 inb_S128x4096_S128x1024_0_1024) x y (by omega) (by show (y 1).val = 4096 + (1 * 1024 + (x 1).val); omega)
  · exact tile_vg 0 (dvg_is h 0 inb_S128x4096_S128x1024_0_0) x y (by omega) (by show (y 1).val = 4096 + (0 * 1024 + (x 1).val); omega)
  · exact tile_u 7 (group7 h).du_is x y (by omega) (by show (y 1).val = 7 * 512 + (x 1).val; omega)
  · exact tile_gb 7 (group7 h).dgb_is x y (by omega) (by show (y 1).val = 8192 + (7 * 512 + (x 1).val); omega)
  · exact tile_u 6 (group6 h).du_is x y (by omega) (by show (y 1).val = 6 * 512 + (x 1).val; omega)
  · exact tile_gb 6 (group6 h).dgb_is x y (by omega) (by show (y 1).val = 8192 + (6 * 512 + (x 1).val); omega)
  · exact tile_u 5 (group5 h).du_is x y (by omega) (by show (y 1).val = 5 * 512 + (x 1).val; omega)
  · exact tile_gb 5 (group5 h).dgb_is x y (by omega) (by show (y 1).val = 8192 + (5 * 512 + (x 1).val); omega)
  · exact tile_u 4 (group4 h).du_is x y (by omega) (by show (y 1).val = 4 * 512 + (x 1).val; omega)
  · exact tile_gb 4 (group4 h).dgb_is x y (by omega) (by show (y 1).val = 8192 + (4 * 512 + (x 1).val); omega)
  · exact tile_u 3 (group3 h).du_is x y (by omega) (by show (y 1).val = 3 * 512 + (x 1).val; omega)
  · exact tile_gb 3 (group3 h).dgb_is x y (by omega) (by show (y 1).val = 8192 + (3 * 512 + (x 1).val); omega)
  · exact tile_u 2 (group2 h).du_is x y (by omega) (by show (y 1).val = 2 * 512 + (x 1).val; omega)
  · exact tile_gb 2 (group2 h).dgb_is x y (by omega) (by show (y 1).val = 8192 + (2 * 512 + (x 1).val); omega)
  · exact tile_u 1 (group1 h).du_is x y (by omega) (by show (y 1).val = 1 * 512 + (x 1).val; omega)
  · exact tile_gb 1 (group1 h).dgb_is x y (by omega) (by show (y 1).val = 8192 + (1 * 512 + (x 1).val); omega)
  · exact tile_u 0 (group0 h).du_is x y (by omega) (by show (y 1).val = 0 * 512 + (x 1).val; omega)
  · exact tile_gb 0 (group0 h).dgb_is x y (by omega) (by show (y 1).val = 8192 + (0 * 512 + (x 1).val); omega)

set_option maxHeartbeats 4000000 in
theorem outD_B (h : Holds N m c) (h0 : ¬ t.val % 32 = 0) (y : S128x12288.Idx) :
    (outsAt0 m c t.val t.isLt).1 y = ((N.dval (row (nOf t) (y 0)) (y 1).val : ℝ) : EReal) := by
  rw [outsAt0_B m c t h0]
  dsimp only
  generalize (outsAt0 m c (t.val - 1) (Nat.lt_of_le_of_lt (Nat.sub_le _ _) t.isLt)) = Y
  frame_out
  canon_tiles x hx using (View.cover_of_tiledBy _ ![128, 512] (by sl_kernel_rfl) y)
  · exact tile_vg 3 (dvg_is h 3 inb_S128x4096_S128x1024_0_3072) x y (by omega) (by show (y 1).val = 4096 + (3 * 1024 + (x 1).val); omega)
  · exact tile_vg 2 (dvg_is h 2 inb_S128x4096_S128x1024_0_2048) x y (by omega) (by show (y 1).val = 4096 + (2 * 1024 + (x 1).val); omega)
  · exact tile_vg 1 (dvg_is h 1 inb_S128x4096_S128x1024_0_1024) x y (by omega) (by show (y 1).val = 4096 + (1 * 1024 + (x 1).val); omega)
  · exact tile_vg 0 (dvg_is h 0 inb_S128x4096_S128x1024_0_0) x y (by omega) (by show (y 1).val = 4096 + (0 * 1024 + (x 1).val); omega)
  · exact tile_u 7 (group7 h).du_is x y (by omega) (by show (y 1).val = 7 * 512 + (x 1).val; omega)
  · exact tile_gb 7 (group7 h).dgb_is x y (by omega) (by show (y 1).val = 8192 + (7 * 512 + (x 1).val); omega)
  · exact tile_u 6 (group6 h).du_is x y (by omega) (by show (y 1).val = 6 * 512 + (x 1).val; omega)
  · exact tile_gb 6 (group6 h).dgb_is x y (by omega) (by show (y 1).val = 8192 + (6 * 512 + (x 1).val); omega)
  · exact tile_u 5 (group5 h).du_is x y (by omega) (by show (y 1).val = 5 * 512 + (x 1).val; omega)
  · exact tile_gb 5 (group5 h).dgb_is x y (by omega) (by show (y 1).val = 8192 + (5 * 512 + (x 1).val); omega)
  · exact tile_u 4 (group4 h).du_is x y (by omega) (by show (y 1).val = 4 * 512 + (x 1).val; omega)
  · exact tile_gb 4 (group4 h).dgb_is x y (by omega) (by show (y 1).val = 8192 + (4 * 512 + (x 1).val); omega)
  · exact tile_u 3 (group3 h).du_is x y (by omega) (by show (y 1).val = 3 * 512 + (x 1).val; omega)
  · exact tile_gb 3 (group3 h).dgb_is x y (by omega) (by show (y 1).val = 8192 + (3 * 512 + (x 1).val); omega)
  · exact tile_u 2 (group2 h).du_is x y (by omega) (by show (y 1).val = 2 * 512 + (x 1).val; omega)
  · exact tile_gb 2 (group2 h).dgb_is x y (by omega) (by show (y 1).val = 8192 + (2 * 512 + (x 1).val); omega)
  · exact tile_u 1 (group1 h).du_is x y (by omega) (by show (y 1).val = 1 * 512 + (x 1).val; omega)
  · exact tile_gb 1 (group1 h).dgb_is x y (by omega) (by show (y 1).val = 8192 + (1 * 512 + (x 1).val); omega)
  · exact tile_u 0 (group0 h).du_is x y (by omega) (by show (y 1).val = 0 * 512 + (x 1).val; omega)
  · exact tile_gb 0 (group0 h).dgb_is x y (by omega) (by show (y 1).val = 8192 + (0 * 512 + (x 1).val); omega)

theorem outD (h : Holds N m c) (y : S128x12288.Idx) :
    (outsAt0 m c t.val t.isLt).1 y = ((N.dval (row (nOf t) (y 0)) (y 1).val : ℝ) : EReal) := by
  by_cases h0 : t.val % 32 = 0
  · exact outD_A h h0 y
  · exact outD_B h h0 y

end Chunk

end Cert.Gating

end
-- ==== Proof.BlockAcc.lean ====
/- The four accumulated results: what a grid point makes of what the one before it left. -/
module

public import proofs.«01_k».proof.Proof.Chunk
public import Idealize.ShloMosaic.Lib.Pipeline.ReadBack

@[expose] public section

set_option maxRecDepth 16384

noncomputable section

namespace Cert.Gating.Chunk

open Idealize.ShloMosaic Idealize.ShloMosaic.TcCoe Idealize.SL.Sem Cert.KernelIdeal Cert.KernelIdeal.Gen Cert.Gating.Blk
open Idealize.ShloMosaic.Pipeline (Dat)

section Tiles

variable {N : Nums} {n : Fin 32} {g : Fin 8} {u gb : FVec Ideal S128x512 .bf16} {db gv : FVec Ideal S128x512 .f32}
  {lg lb : FVec Ideal S1x512 .f32} {ws : FVec Ideal S1x128x128 .f32} {bs mu rs : FVec Ideal S128x1 .f32}

/-- One group's tile of an accumulated result, where the tile before holds `a`. -/
theorem tile_w (h : Blk.Group N n g u gb db gv lg lb ws bs mu rs) {old : FVec Ideal S1x128x128 .f32} {a : ℝ} (x : S1x128x128.Idx)
    (y : S8x128x128.Idx) (h0 : (y 0).val = g.val + (x 0).val) (h1 : (y 1).val = (x 1).val) (h2 : (y 2).val = (x 2).val)
    (ho : old x = ((a : ℝ) : EReal)) :
    addW (dwB u gb db gv lg lb mu rs) old x = ((a + N.dws1 n (y 0) (y 1) (y 2) : ℝ) : EReal) := by
  have e : x = ix3 (x 0) (x 1) (x 2) := funext (Fin.forall_fin_succ.mpr ⟨rfl, Fin.forall_fin_two.mpr ⟨rfl, rfl⟩⟩)
  have z : (x 0).val = 0 := by have : (x 0).val < 1 := (x 0).isLt; omega
  obtain e0 : y 0 = g := Fin.ext (by omega)
  obtain e1 : y 1 = x 1 := Fin.ext h1
  obtain e2 : y 2 = x 2 := Fin.ext h2
  rw [e0, e1, e2]
  exact (congrArg _ e).trans (h.addW_is ((congrArg old e).symm.trans ho))

theorem tile_b (h : Blk.Group N n g u gb db gv lg lb ws bs mu rs) {old : FVec Ideal S1x128x1 .f32} {a : ℝ} (x : S1x128x1.Idx)
    (y : S8x128x1.Idx) (h0 : (y 0).val = g.val + (x 0).val) (h1 : (y 1).val = (x 1).val)
    (ho : old x = ((a : ℝ) : EReal)) :
    addB (dmB u gb db) old x = ((a + N.dbs1 n (y 0) (y 1) : ℝ) : EReal) := by
  have e : x = ix3 (x 0) (x 1) (x 2) := funext (Fin.forall_fin_succ.mpr ⟨rfl, Fin.forall_fin_two.mpr ⟨rfl, rfl⟩⟩)
  have z : (x 0).val = 0 := by have : (x 0).val < 1 := (x 0).isLt; omega
  obtain e0 : y 0 = g := Fin.ext (by omega)
  obtain e1 : y 1 = x 1 := Fin.ext h1
  rw [e0, e1]
  exact (congrArg _ e).trans (h.addB_is ((congrArg old e).symm.trans ho))

theorem tile_lg (h : Blk.Group N n g u gb db gv lg lb ws bs mu rs) {old : FVec Ideal S1x512 .f32} {a : ℝ} (x : S1x512.Idx)
    (y : S1x4096.Idx) (h1 : (y 1).val = g.val * 512 + (x 1).val) (ho : old x = ((a : ℝ) : EReal)) :
    addC (mulf (dvnB u gb db ws) (vhV mu rs gv)) old x = ((a + N.dlg1 n (y 1) : ℝ) : EReal) := by
  have e : x = ix2 (x 0) (x 1) := funext (Fin.forall_fin_two.mpr ⟨rfl, rfl⟩)
  obtain e1 : y 1 = col g (x 1) := Fin.ext h1
  rw [e1]
  exact (congrArg _ e).trans (h.addLg_is ((congrArg old e).symm.trans ho))

theorem tile_lb (h : Blk.Group N n g u gb db gv lg lb ws bs mu rs) {old : FVec Ideal S1x512 .f32} {a : ℝ} (x : S1x512.Idx)
    (y : S1x4096.Idx) (h1 : (y 1).val = g.val * 512 + (x 1).val) (ho : old x = ((a : ℝ) : EReal)) :
    addC (dvnB u gb db ws) old x = ((a + N.dlb1 n (y 1) : ℝ) : EReal) := by
  have e : x = ix2 (x 0) (x 1) := funext (Fin.forall_fin_two.mpr ⟨rfl, rfl⟩)
  obtain e1 : y 1 = col g (x 1) := Fin.ext h1
  rw [e1]
  exact (congrArg _ e).trans (h.addLb_is ((congrArg old e).symm.trans ho))

end Tiles

/-- A loaded tile read at `x` is the array at the place `y` of the tile's entry. -/
theorem ld_eq {S : Shape} {α : Type} (Z : S.Idx → α) (r : Rect S) (x : r.shape.Idx) (y : S.Idx)
    (h : ∀ a, (r.toLoadRect.idx x a).val = (y a).val) : Z (r.toLoadRect.idx x) = Z y :=
  congrArg Z (funext fun a => Fin.ext (h a))

variable {N : Nums} {m : (ℓ : Loc nD τ KernelIdeal.sig) → Buf (Elt Ideal) ℓ} {c : Dev nD} {t : Fin cfg0.N}

set_option maxHeartbeats 4000000 in
theorem outW_A (h : Holds N m c) (h0 : t.val % 32 = 0) (y : S8x128x128.Idx) :
    (outsAt0 m c t.val t.isLt).2.1 y = ((N.dws1 (nOf t) (y 0) (y 1) (y 2) : ℝ) : EReal) := by
  rw [outsAt0_A m c t h0]
  dsimp only
  generalize (outsAt0 m c (t.val - 1) (Nat.lt_of_le_of_lt (Nat.sub_le _ _) t.isLt)) = Y
  frame_out
  refine View.canon_append_of_piecesOf (Val := Elt Ideal) (e := .f32) ((fun y => ((N.dws1 (nOf t) (y 0) (y 1) (y 2) : ℝ) : EReal) : Vec Ideal S8x128x128 .f32)) [_] [_, _, _, _, _, _, _, _]
    ⟨fun x => ?_, fun x => ?_, fun x => ?_, fun x => ?_, fun x => ?_, fun x => ?_, fun x => ?_, fun x => ?_, trivial⟩ y
    (View.cover_of_tiledBy _ ![1, 128, 128] (by sl_kernel_rfl) y)
  · refine (tile_w (group7 h) (a := 0) x _ (by show 7 + 1 * (x 0).val = 7 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_w (group6 h) (a := 0) x _ (by show 6 + 1 * (x 0).val = 6 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_w (group5 h) (a := 0) x _ (by show 5 + 1 * (x 0).val = 5 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_w (group4 h) (a := 0) x _ (by show 4 + 1 * (x 0).val = 4 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_w (group3 h) (a := 0) x _ (by show 3 + 1 * (x 0).val = 3 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_w (group2 h) (a := 0) x _ (by show 2 + 1 * (x 0).val = 2 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_w (group1 h) (a := 0) x _ (by show 1 + 1 * (x 0).val = 1 + (x 0).val; omega) (by show 0 + 1 * (x 1).val = (x 1).val; omega) (by show 0 + 1 * (x 2).val = (x 2).val; omega) ?_).trans (congrArg Real.toEReal (zero_add _))
    refine (congrFun (View.readCov_skip _ _ _ _ _ rfl) x).trans ?_
    exact (congrFun (View.readCov_fill _ _ _ _ _ (by decide)) x).trans Consts.zero
  · refine (tile_w (group0 h) (a := 0) x _ (by show 0 + 1 * (x 0).val = 0 + (x 0).val; omega) (by show 0 + 1 * (x 1).val = (x 1).val; omega) (by show 0 + 1 * (x 2).val = (x 2).val; omega) ?_).trans (congrArg Real.toEReal (zero_add _))
    exact (congrFun (View.readCov_fill _ _ _ _ _ (by decide)) x).trans Consts.zero

set_option maxHeartbeats 4000000 in
theorem outW_B (h : Holds N m c) (h0 : ¬ t.val % 32 = 0) {A : S8x128x128.Idx → ℝ}
    (hA : ∀ y, (outsAt0 m c (t.val - 1) (Nat.lt_of_le_of_lt (Nat.sub_le _ _) t.isLt)).2.1 y = ((A y : ℝ) : EReal)) (y : S8x128x128.Idx) :
    (outsAt0 m c t.val t.isLt).2.1 y = ((A y + N.dws1 (nOf t) (y 0) (y 1) (y 2) : ℝ) : EReal) := by
  rw [outsAt0_B m c t h0]
  dsimp only
  revert hA
  generalize (outsAt0 m c (t.val - 1) (Nat.lt_of_le_of_lt (Nat.sub_le _ _) t.isLt)) = Y
  intro hA
  frame_out
  canon_tiles x hx
  · exact tile_w (group7 h) x y (by show (y 0).val = 7 + (x 0).val; omega) (by show (y 1).val = (x 1).val; omega) (by show (y 2).val = (x 2).val; omega) ((ld_eq _ (Rect.unit ![7, 0, 0] ![1, 128, 128] inb_S8x128x128_S1x128x128_7_0_0) x y (Fin.forall_fin_succ.mpr ⟨by show 7 + 1 * (x 0).val = (y 0).val; omega, Fin.forall_fin_two.mpr ⟨by show 0 + 1 * (x 1).val = (y 1).val; omega, by show 0 + 1 * (x 2).val = (y 2).val; omega⟩⟩)).trans (hA y))
  · exact tile_w (group6 h) x y (by show (y 0).val = 6 + (x 0).val; omega) (by show (y 1).val = (x 1).val; omega) (by show (y 2).val = (x 2).val; omega) ((ld_eq _ (Rect.unit ![6, 0, 0] ![1, 128, 128] inb_S8x128x128_S1x128x128_6_0_0) x y (Fin.forall_fin_succ.mpr ⟨by show 6 + 1 * (x 0).val = (y 0).val; omega, Fin.forall_fin_two.mpr ⟨by show 0 + 1 * (x 1).val = (y 1).val; omega, by show 0 + 1 * (x 2).val = (y 2).val; omega⟩⟩)).trans (hA y))
  · exact tile_w (group5 h) x y (by show (y 0).val = 5 + (x 0).val; omega) (by show (y 1).val = (x 1).val; omega) (by show (y 2).val = (x 2).val; omega) ((ld_eq _ (Rect.unit ![5, 0, 0] ![1, 128, 128] inb_S8x128x128_S1x128x128_5_0_0) x y (Fin.forall_fin_succ.mpr ⟨by show 5 + 1 * (x 0).val = (y 0).val; omega, Fin.forall_fin_two.mpr ⟨by show 0 + 1 * (x 1).val = (y 1).val; omega, by show 0 + 1 * (x 2).val = (y 2).val; omega⟩⟩)).trans (hA y))
  · exact tile_w (group4 h) x y (by show (y 0).val = 4 + (x 0).val; omega) (by show (y 1).val = (x 1).val; omega) (by show (y 2).val = (x 2).val; omega) ((ld_eq _ (Rect.unit ![4, 0, 0] ![1, 128, 128] inb_S8x128x128_S1x128x128_4_0_0) x y (Fin.forall_fin_succ.mpr ⟨by show 4 + 1 * (x 0).val = (y 0).val; omega, Fin.forall_fin_two.mpr ⟨by show 0 + 1 * (x 1).val = (y 1).val; omega, by show 0 + 1 * (x 2).val = (y 2).val; omega⟩⟩)).trans (hA y))
  · exact tile_w (group3 h) x y (by show (y 0).val = 3 + (x 0).val; omega) (by show (y 1).val = (x 1).val; omega) (by show (y 2).val = (x 2).val; omega) ((ld_eq _ (Rect.unit ![3, 0, 0] ![1, 128, 128] inb_S8x128x128_S1x128x128_3_0_0) x y (Fin.forall_fin_succ.mpr ⟨by show 3 + 1 * (x 0).val = (y 0).val; omega, Fin.forall_fin_two.mpr ⟨by show 0 + 1 * (x 1).val = (y 1).val; omega, by show 0 + 1 * (x 2).val = (y 2).val; omega⟩⟩)).trans (hA y))
  · exact tile_w (group2 h) x y (by show (y 0).val = 2 + (x 0).val; omega) (by show (y 1).val = (x 1).val; omega) (by show (y 2).val = (x 2).val; omega) ((ld_eq _ (Rect.unit ![2, 0, 0] ![1, 128, 128] inb_S8x128x128_S1x128x128_2_0_0) x y (Fin.forall_fin_succ.mpr ⟨by show 2 + 1 * (x 0).val = (y 0).val; omega, Fin.forall_fin_two.mpr ⟨by show 0 + 1 * (x 1).val = (y 1).val; omega, by show 0 + 1 * (x 2).val = (y 2).val; omega⟩⟩)).trans (hA y))
  · exact tile_w (group1 h) x y (by show (y 0).val = 1 + (x 0).val; omega) (by show (y 1).val = (x 1).val; omega) (by show (y 2).val = (x 2).val; omega) ((ld_eq _ (Rect.unit ![1, 0, 0] ![1, 128, 128] inb_S8x128x128_S1x128x128_1_0_0) x y (Fin.forall_fin_succ.mpr ⟨by show 1 + 1 * (x 0).val = (y 0).val; omega, Fin.forall_fin_two.mpr ⟨by show 0 + 1 * (x 1).val = (y 1).val; omega, by show 0 + 1 * (x 2).val = (y 2).val; omega⟩⟩)).trans (hA y))
  · exact tile_w (group0 h) x y (by show (y 0).val = 0 + (x 0).val; omega) (by show (y 1).val = (x 1).val; omega) (by show (y 2).val = (x 2).val; omega) ((ld_eq _ (Rect.unit ![0, 0, 0] ![1, 128, 128] inb_S8x128x128_S1x128x128_0_0_0) x y (Fin.forall_fin_succ.mpr ⟨by show 0 + 1 * (x 0).val = (y 0).val; omega, Fin.forall_fin_two.mpr ⟨by show 0 + 1 * (x 1).val = (y 1).val; omega, by show 0 + 1 * (x 2).val = (y 2).val; omega⟩⟩)).trans (hA y))

set_option maxHeartbeats 4000000 in
theorem outB_A (h : Holds N m c) (h0 : t.val % 32 = 0) (y : S8x128x1.Idx) :
    (outsAt0 m c t.val t.isLt).2.2.1 y = ((N.dbs1 (nOf t) (y 0) (y 1) : ℝ) : EReal) := by
  rw [outsAt0_A m c t h0]
  dsimp only
  generalize (outsAt0 m c (t.val - 1) (Nat.lt_of_le_of_lt (Nat.sub_le _ _) t.isLt)) = Y
  frame_out
  refine View.canon_append_of_piecesOf (Val := Elt Ideal) (e := .f32) ((fun y => ((N.dbs1 (nOf t) (y 0) (y 1) : ℝ) : EReal) : Vec Ideal S8x128x1 .f32)) [_] [_, _, _, _, _, _, _, _]
    ⟨fun x => ?_, fun x => ?_, fun x => ?_, fun x => ?_, fun x => ?_, fun x => ?_, fun x => ?_, fun x => ?_, trivial⟩ y
    (View.cover_of_tiledBy _ ![1, 128, 1] (by sl_kernel_rfl) y)
  · refine (tile_b (group7 h) (a := 0) x _ (by show 7 + 1 * (x 0).val = 7 + (x 0).val; omega) (by show 0 + 1 * (x 1).val = (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_b (group6 h) (a := 0) x _ (by show 6 + 1 * (x 0).val = 6 + (x 0).val; omega) (by show 0 + 1 * (x 1).val = (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_b (group5 h) (a := 0) x _ (by show 5 + 1 * (x 0).val = 5 + (x 0).val; omega) (by show 0 + 1 * (x 1).val = (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_b (group4 h) (a := 0) x _ (by show 4 + 1 * (x 0).val = 4 + (x 0).val; omega) (by show 0 + 1 * (x 1).val = (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_b (group3 h) (a := 0) x _ (by show 3 + 1 * (x 0).val = 3 + (x 0).val; omega) (by show 0 + 1 * (x 1).val = (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_b (group2 h) (a := 0) x _ (by show 2 + 1 * (x 0).val = 2 + (x 0).val; omega) (by show 0 + 1 * (x 1).val = (x 1).val; omega) ?_).trans (congrArg Real.toEReal (zero_add _))
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_b (group1 h) (a := 0) x _ (by show 1 + 1 * (x 0).val = 1 + (x 0).val; omega) (by show 0 + 1 * (x 1).val = (x 1).val; omega) ?_).trans (congrArg Real.toEReal (zero_add _))
    refine (congrFun (View.readCov_skip _ _ _ _ _ rfl) x).trans ?_
    exact (congrFun (View.readCov_fill _ _ _ _ _ (by decide)) x).trans Consts.zero
  · refine (tile_b (group0 h) (a := 0) x _ (by show 0 + 1 * (x 0).val = 0 + (x 0).val; omega) (by show 0 + 1 * (x 1).val = (x 1).val; omega) ?_).trans (congrArg Real.toEReal (zero_add _))
    exact (congrFun (View.readCov_fill _ _ _ _ _ (by decide)) x).trans Consts.zero

set_option maxHeartbeats 4000000 in
theorem outB_B (h : Holds N m c) (h0 : ¬ t.val % 32 = 0) {A : S8x128x1.Idx → ℝ}
    (hA : ∀ y, (outsAt0 m c (t.val - 1) (Nat.lt_of_le_of_lt (Nat.sub_le _ _) t.isLt)).2.2.1 y = ((A y : ℝ) : EReal)) (y : S8x128x1.Idx) :
    (outsAt0 m c t.val t.isLt).2.2.1 y = ((A y + N.dbs1 (nOf t) (y 0) (y 1) : ℝ) : EReal) := by
  rw [outsAt0_B m c t h0]
  dsimp only
  revert hA
  generalize (outsAt0 m c (t.val - 1) (Nat.lt_of_le_of_lt (Nat.sub_le _ _) t.isLt)) = Y
  intro hA
  frame_out
  canon_tiles x hx
  · exact tile_b (group7 h) x y (by show (y 0).val = 7 + (x 0).val; omega) (by show (y 1).val = (x 1).val; omega) ((ld_eq _ (Rect.unit ![7, 0, 0] ![1, 128, 1] inb_S8x128x1_S1x128x1_7_0_0) x y (Fin.forall_fin_succ.mpr ⟨by show 7 + 1 * (x 0).val = (y 0).val; omega, Fin.forall_fin_two.mpr ⟨by show 0 + 1 * (x 1).val = (y 1).val; omega, by show 0 + 1 * (x 2).val = (y 2).val; omega⟩⟩)).trans (hA y))
  · exact tile_b (group6 h) x y (by show (y 0).val = 6 + (x 0).val; omega) (by show (y 1).val = (x 1).val; omega) ((ld_eq _ (Rect.unit ![6, 0, 0] ![1, 128, 1] inb_S8x128x1_S1x128x1_6_0_0) x y (Fin.forall_fin_succ.mpr ⟨by show 6 + 1 * (x 0).val = (y 0).val; omega, Fin.forall_fin_two.mpr ⟨by show 0 + 1 * (x 1).val = (y 1).val; omega, by show 0 + 1 * (x 2).val = (y 2).val; omega⟩⟩)).trans (hA y))
  · exact tile_b (group5 h) x y (by show (y 0).val = 5 + (x 0).val; omega) (by show (y 1).val = (x 1).val; omega) ((ld_eq _ (Rect.unit ![5, 0, 0] ![1, 128, 1] inb_S8x128x1_S1x128x1_5_0_0) x y (Fin.forall_fin_succ.mpr ⟨by show 5 + 1 * (x 0).val = (y 0).val; omega, Fin.forall_fin_two.mpr ⟨by show 0 + 1 * (x 1).val = (y 1).val; omega, by show 0 + 1 * (x 2).val = (y 2).val; omega⟩⟩)).trans (hA y))
  · exact tile_b (group4 h) x y (by show (y 0).val = 4 + (x 0).val; omega) (by show (y 1).val = (x 1).val; omega) ((ld_eq _ (Rect.unit ![4, 0, 0] ![1, 128, 1] inb_S8x128x1_S1x128x1_4_0_0) x y (Fin.forall_fin_succ.mpr ⟨by show 4 + 1 * (x 0).val = (y 0).val; omega, Fin.forall_fin_two.mpr ⟨by show 0 + 1 * (x 1).val = (y 1).val; omega, by show 0 + 1 * (x 2).val = (y 2).val; omega⟩⟩)).trans (hA y))
  · exact tile_b (group3 h) x y (by show (y 0).val = 3 + (x 0).val; omega) (by show (y 1).val = (x 1).val; omega) ((ld_eq _ (Rect.unit ![3, 0, 0] ![1, 128, 1] inb_S8x128x1_S1x128x1_3_0_0) x y (Fin.forall_fin_succ.mpr ⟨by show 3 + 1 * (x 0).val = (y 0).val; omega, Fin.forall_fin_two.mpr ⟨by show 0 + 1 * (x 1).val = (y 1).val; omega, by show 0 + 1 * (x 2).val = (y 2).val; omega⟩⟩)).trans (hA y))
  · exact tile_b (group2 h) x y (by show (y 0).val = 2 + (x 0).val; omega) (by show (y 1).val = (x 1).val; omega) ((ld_eq _ (Rect.unit ![2, 0, 0] ![1, 128, 1] inb_S8x128x1_S1x128x1_2_0_0) x y (Fin.forall_fin_succ.mpr ⟨by show 2 + 1 * (x 0).val = (y 0).val; omega, Fin.forall_fin_two.mpr ⟨by show 0 + 1 * (x 1).val = (y 1).val; omega, by show 0 + 1 * (x 2).val = (y 2).val; omega⟩⟩)).trans (hA y))
  · exact tile_b (group1 h) x y (by show (y 0).val = 1 + (x 0).val; omega) (by show (y 1).val = (x 1).val; omega) ((ld_eq _ (Rect.unit ![1, 0, 0] ![1, 128, 1] inb_S8x128x1_S1x128x1_1_0_0) x y (Fin.forall_fin_succ.mpr ⟨by show 1 + 1 * (x 0).val = (y 0).val; omega, Fin.forall_fin_two.mpr ⟨by show 0 + 1 * (x 1).val = (y 1).val; omega, by show 0 + 1 * (x 2).val = (y 2).val; omega⟩⟩)).trans (hA y))
  · exact tile_b (group0 h) x y (by show (y 0).val = 0 + (x 0).val; omega) (by show (y 1).val = (x 1).val; omega) ((ld_eq _ (Rect.unit ![0, 0, 0] ![1, 128, 1] inb_S8x128x1_S1x128x1_0_0_0) x y (Fin.forall_fin_succ.mpr ⟨by show 0 + 1 * (x 0).val = (y 0).val; omega, Fin.forall_fin_two.mpr ⟨by show 0 + 1 * (x 1).val = (y 1).val; omega, by show 0 + 1 * (x 2).val = (y 2).val; omega⟩⟩)).trans (hA y))

set_option maxHeartbeats 4000000 in
theorem outG_A (h : Holds N m c) (h0 : t.val % 32 = 0) (y : S1x4096.Idx) :
    (outsAt0 m c t.val t.isLt).2.2.2.1 y = ((N.dlg1 (nOf t) (y 1) : ℝ) : EReal) := by
  rw [outsAt0_A m c t h0]
  dsimp only
  generalize (outsAt0 m c (t.val - 1) (Nat.lt_of_le_of_lt (Nat.sub_le _ _) t.isLt)) = Y
  frame_out
  refine View.canon_append_of_piecesOf (Val := Elt Ideal) (e := .f32) ((fun y => ((N.dlg1 (nOf t) (y 1) : ℝ) : EReal) : Vec Ideal S1x4096 .f32)) [_] [_, _, _, _, _, _, _, _]
    ⟨fun x => ?_, fun x => ?_, fun x => ?_, fun x => ?_, fun x => ?_, fun x => ?_, fun x => ?_, fun x => ?_, trivial⟩ y
    (View.cover_of_tiledBy _ ![1, 512] (by sl_kernel_rfl) y)
  · refine (tile_lg (group7 h) (a := 0) x _ (by show 3584 + 1 * (x 1).val = 7 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lg (group6 h) (a := 0) x _ (by show 3072 + 1 * (x 1).val = 6 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lg (group5 h) (a := 0) x _ (by show 2560 + 1 * (x 1).val = 5 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lg (group4 h) (a := 0) x _ (by show 2048 + 1 * (x 1).val = 4 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lg (group3 h) (a := 0) x _ (by show 1536 + 1 * (x 1).val = 3 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lg (group2 h) (a := 0) x _ (by show 1024 + 1 * (x 1).val = 2 * 512 + (x 1).val; omega) ?_).trans (congrArg Real.toEReal (zero_add _))
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lg (group1 h) (a := 0) x _ (by show 512 + 1 * (x 1).val = 1 * 512 + (x 1).val; omega) ?_).trans (congrArg Real.toEReal (zero_add _))
    refine (congrFun (View.readCov_skip _ _ _ _ _ rfl) x).trans ?_
    exact (congrFun (View.readCov_fill _ _ _ _ _ (by decide)) x).trans Consts.zero
  · refine (tile_lg (group0 h) (a := 0) x _ (by show 0 + 1 * (x 1).val = 0 * 512 + (x 1).val; omega) ?_).trans (congrArg Real.toEReal (zero_add _))
    exact (congrFun (View.readCov_fill _ _ _ _ _ (by decide)) x).trans Consts.zero

set_option maxHeartbeats 4000000 in
theorem outG_B (h : Holds N m c) (h0 : ¬ t.val % 32 = 0) {A : S1x4096.Idx → ℝ}
    (hA : ∀ y, (outsAt0 m c (t.val - 1) (Nat.lt_of_le_of_lt (Nat.sub_le _ _) t.isLt)).2.2.2.1 y = ((A y : ℝ) : EReal)) (y : S1x4096.Idx) :
    (outsAt0 m c t.val t.isLt).2.2.2.1 y = ((A y + N.dlg1 (nOf t) (y 1) : ℝ) : EReal) := by
  rw [outsAt0_B m c t h0]
  dsimp only
  revert hA
  generalize (outsAt0 m c (t.val - 1) (Nat.lt_of_le_of_lt (Nat.sub_le _ _) t.isLt)) = Y
  intro hA
  frame_out
  canon_tiles x hx
  · exact tile_lg (group7 h) x y (by show (y 1).val = 7 * 512 + (x 1).val; omega) ((ld_eq _ (Rect.unit ![0, 3584] ![1, 512] inb_S1x4096_S1x512_0_3584) x y (Fin.forall_fin_two.mpr ⟨by show 0 + 1 * (x 0).val = (y 0).val; omega, by show 3584 + 1 * (x 1).val = (y 1).val; omega⟩)).trans (hA y))
  · exact tile_lg (group6 h) x y (by show (y 1).val = 6 * 512 + (x 1).val; omega) ((ld_eq _ (Rect.unit ![0, 3072] ![1, 512] inb_S1x4096_S1x512_0_3072) x y (Fin.forall_fin_two.mpr ⟨by show 0 + 1 * (x 0).val = (y 0).val; omega, by show 3072 + 1 * (x 1).val = (y 1).val; omega⟩)).trans (hA y))
  · exact tile_lg (group5 h) x y (by show (y 1).val = 5 * 512 + (x 1).val; omega) ((ld_eq _ (Rect.unit ![0, 2560] ![1, 512] inb_S1x4096_S1x512_0_2560) x y (Fin.forall_fin_two.mpr ⟨by show 0 + 1 * (x 0).val = (y 0).val; omega, by show 2560 + 1 * (x 1).val = (y 1).val; omega⟩)).trans (hA y))
  · exact tile_lg (group4 h) x y (by show (y 1).val = 4 * 512 + (x 1).val; omega) ((ld_eq _ (Rect.unit ![0, 2048] ![1, 512] inb_S1x4096_S1x512_0_2048) x y (Fin.forall_fin_two.mpr ⟨by show 0 + 1 * (x 0).val = (y 0).val; omega, by show 2048 + 1 * (x 1).val = (y 1).val; omega⟩)).trans (hA y))
  · exact tile_lg (group3 h) x y (by show (y 1).val = 3 * 512 + (x 1).val; omega) ((ld_eq _ (Rect.unit ![0, 1536] ![1, 512] inb_S1x4096_S1x512_0_1536) x y (Fin.forall_fin_two.mpr ⟨by show 0 + 1 * (x 0).val = (y 0).val; omega, by show 1536 + 1 * (x 1).val = (y 1).val; omega⟩)).trans (hA y))
  · exact tile_lg (group2 h) x y (by show (y 1).val = 2 * 512 + (x 1).val; omega) ((ld_eq _ (Rect.unit ![0, 1024] ![1, 512] inb_S1x4096_S1x512_0_1024) x y (Fin.forall_fin_two.mpr ⟨by show 0 + 1 * (x 0).val = (y 0).val; omega, by show 1024 + 1 * (x 1).val = (y 1).val; omega⟩)).trans (hA y))
  · exact tile_lg (group1 h) x y (by show (y 1).val = 1 * 512 + (x 1).val; omega) ((ld_eq _ (Rect.unit ![0, 512] ![1, 512] inb_S1x4096_S1x512_0_512) x y (Fin.forall_fin_two.mpr ⟨by show 0 + 1 * (x 0).val = (y 0).val; omega, by show 512 + 1 * (x 1).val = (y 1).val; omega⟩)).trans (hA y))
  · exact tile_lg (group0 h) x y (by show (y 1).val = 0 * 512 + (x 1).val; omega) ((ld_eq _ (Rect.unit ![0, 0] ![1, 512] inb_S1x4096_S1x512_0_0) x y (Fin.forall_fin_two.mpr ⟨by show 0 + 1 * (x 0).val = (y 0).val; omega, by show 0 + 1 * (x 1).val = (y 1).val; omega⟩)).trans (hA y))

set_option maxHeartbeats 4000000 in
theorem outL_A (h : Holds N m c) (h0 : t.val % 32 = 0) (y : S1x4096.Idx) :
    (outsAt0 m c t.val t.isLt).2.2.2.2 y = ((N.dlb1 (nOf t) (y 1) : ℝ) : EReal) := by
  rw [outsAt0_A m c t h0]
  dsimp only
  generalize (outsAt0 m c (t.val - 1) (Nat.lt_of_le_of_lt (Nat.sub_le _ _) t.isLt)) = Y
  frame_out
  refine View.canon_append_of_piecesOf (Val := Elt Ideal) (e := .f32) ((fun y => ((N.dlb1 (nOf t) (y 1) : ℝ) : EReal) : Vec Ideal S1x4096 .f32)) [_] [_, _, _, _, _, _, _, _]
    ⟨fun x => ?_, fun x => ?_, fun x => ?_, fun x => ?_, fun x => ?_, fun x => ?_, fun x => ?_, fun x => ?_, trivial⟩ y
    (View.cover_of_tiledBy _ ![1, 512] (by sl_kernel_rfl) y)
  · refine (tile_lb (group7 h) (a := 0) x _ (by show 3584 + 1 * (x 1).val = 7 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lb (group6 h) (a := 0) x _ (by show 3072 + 1 * (x 1).val = 6 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lb (group5 h) (a := 0) x _ (by show 2560 + 1 * (x 1).val = 5 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lb (group4 h) (a := 0) x _ (by show 2048 + 1 * (x 1).val = 4 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lb (group3 h) (a := 0) x _ (by show 1536 + 1 * (x 1).val = 3 * 512 + (x 1).val; omega) ?_).trans (congrArg Real.toEReal (zero_add _))
    refine (congrFun (View.readCov_skip _ _ _ _ _ rfl) x).trans ?_
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lb (group2 h) (a := 0) x _ (by show 1024 + 1 * (x 1).val = 2 * 512 + (x 1).val; omega) ?_).trans (congrArg Real.toEReal (zero_add _))
    refine (congrFun (View.readCov_skip _ _ _ _ _ rfl) x).trans ?_
    refine (congrFun (View.readCov_skip _ _ _ _ _ rfl) x).trans ?_
    exact (congrFun (View.readCov_fill _ _ _ _ _ (by decide)) x).trans Consts.zero
  · refine (tile_lb (group1 h) (a := 0) x _ (by show 512 + 1 * (x 1).val = 1 * 512 + (x 1).val; omega) ?_).trans (congrArg Real.toEReal (zero_add _))
    refine (congrFun (View.readCov_skip _ _ _ _ _ rfl) x).trans ?_
    exact (congrFun (View.readCov_fill _ _ _ _ _ (by decide)) x).trans Consts.zero
  · refine (tile_lb (group0 h) (a := 0) x _ (by show 0 + 1 * (x 1).val = 0 * 512 + (x 1).val; omega) ?_).trans (congrArg Real.toEReal (zero_add _))
    exact (congrFun (View.readCov_fill _ _ _ _ _ (by decide)) x).trans Consts.zero

set_option maxHeartbeats 4000000 in
theorem outL_B (h : Holds N m c) (h0 : ¬ t.val % 32 = 0) {A : S1x4096.Idx → ℝ}
    (hA : ∀ y, (outsAt0 m c (t.val - 1) (Nat.lt_of_le_of_lt (Nat.sub_le _ _) t.isLt)).2.2.2.2 y = ((A y : ℝ) : EReal)) (y : S1x4096.Idx) :
    (outsAt0 m c t.val t.isLt).2.2.2.2 y = ((A y + N.dlb1 (nOf t) (y 1) : ℝ) : EReal) := by
  rw [outsAt0_B m c t h0]
  dsimp only
  revert hA
  generalize (outsAt0 m c (t.val - 1) (Nat.lt_of_le_of_lt (Nat.sub_le _ _) t.isLt)) = Y
  intro hA
  frame_out
  canon_tiles x hx
  · exact tile_lb (group7 h) x y (by show (y 1).val = 7 * 512 + (x 1).val; omega) ((ld_eq _ (Rect.unit ![0, 3584] ![1, 512] inb_S1x4096_S1x512_0_3584) x y (Fin.forall_fin_two.mpr ⟨by show 0 + 1 * (x 0).val = (y 0).val; omega, by show 3584 + 1 * (x 1).val = (y 1).val; omega⟩)).trans (hA y))
  · exact tile_lb (group6 h) x y (by show (y 1).val = 6 * 512 + (x 1).val; omega) ((ld_eq _ (Rect.unit ![0, 3072] ![1, 512] inb_S1x4096_S1x512_0_3072) x y (Fin.forall_fin_two.mpr ⟨by show 0 + 1 * (x 0).val = (y 0).val; omega, by show 3072 + 1 * (x 1).val = (y 1).val; omega⟩)).trans (hA y))
  · exact tile_lb (group5 h) x y (by show (y 1).val = 5 * 512 + (x 1).val; omega) ((ld_eq _ (Rect.unit ![0, 2560] ![1, 512] inb_S1x4096_S1x512_0_2560) x y (Fin.forall_fin_two.mpr ⟨by show 0 + 1 * (x 0).val = (y 0).val; omega, by show 2560 + 1 * (x 1).val = (y 1).val; omega⟩)).trans (hA y))
  · exact tile_lb (group4 h) x y (by show (y 1).val = 4 * 512 + (x 1).val; omega) ((ld_eq _ (Rect.unit ![0, 2048] ![1, 512] inb_S1x4096_S1x512_0_2048) x y (Fin.forall_fin_two.mpr ⟨by show 0 + 1 * (x 0).val = (y 0).val; omega, by show 2048 + 1 * (x 1).val = (y 1).val; omega⟩)).trans (hA y))
  · exact tile_lb (group3 h) x y (by show (y 1).val = 3 * 512 + (x 1).val; omega) ((ld_eq _ (Rect.unit ![0, 1536] ![1, 512] inb_S1x4096_S1x512_0_1536) x y (Fin.forall_fin_two.mpr ⟨by show 0 + 1 * (x 0).val = (y 0).val; omega, by show 1536 + 1 * (x 1).val = (y 1).val; omega⟩)).trans (hA y))
  · exact tile_lb (group2 h) x y (by show (y 1).val = 2 * 512 + (x 1).val; omega) ((ld_eq _ (Rect.unit ![0, 1024] ![1, 512] inb_S1x4096_S1x512_0_1024) x y (Fin.forall_fin_two.mpr ⟨by show 0 + 1 * (x 0).val = (y 0).val; omega, by show 1024 + 1 * (x 1).val = (y 1).val; omega⟩)).trans (hA y))
  · exact tile_lb (group1 h) x y (by show (y 1).val = 1 * 512 + (x 1).val; omega) ((ld_eq _ (Rect.unit ![0, 512] ![1, 512] inb_S1x4096_S1x512_0_512) x y (Fin.forall_fin_two.mpr ⟨by show 0 + 1 * (x 0).val = (y 0).val; omega, by show 512 + 1 * (x 1).val = (y 1).val; omega⟩)).trans (hA y))
  · exact tile_lb (group0 h) x y (by show (y 1).val = 0 * 512 + (x 1).val; omega) ((ld_eq _ (Rect.unit ![0, 0] ![1, 512] inb_S1x4096_S1x512_0_0) x y (Fin.forall_fin_two.mpr ⟨by show 0 + 1 * (x 0).val = (y 0).val; omega, by show 0 + 1 * (x 1).val = (y 1).val; omega⟩)).trans (hA y))

end Cert.Gating.Chunk

end
-- ==== Proof.Arrays.lean ====
/- The five arrays that the kernel leaves: the wide gradient, and the four results summed over the chunks. -/
module

public import proofs.«01_k».proof.Proof.BlockD
public import proofs.«01_k».proof.Proof.BlockAcc

@[expose] public section

set_option maxRecDepth 16384

noncomputable section

namespace Cert.Gating.Chunk

open Idealize.ShloMosaic Idealize.ShloMosaic.TcCoe Idealize.SL.Sem Cert.KernelIdeal Cert.KernelIdeal.Gen Cert.Gating.Blk
open Idealize.ShloMosaic.Pipeline (Dat)

/-- What starts as one chunk's share and grows by one share a point is, at the last point, the sum of the shares. -/
theorem sum_of_shares {S : Type} (val : Fin cfg0.N → S → EReal) (f : Fin 32 → S → ℝ)
    (hA : ∀ t : Fin cfg0.N, t.val % 32 = 0 → ∀ y, val t y = ((f (nOf t) y : ℝ) : EReal))
    (hB : ∀ t : Fin cfg0.N, ¬ t.val % 32 = 0 → ∀ A : S → ℝ,
      (∀ y, val ⟨t.val - 1, Nat.lt_of_le_of_lt (Nat.sub_le _ _) t.isLt⟩ y = ((A y : ℝ) : EReal)) →
      ∀ y, val t y = ((A y + f (nOf t) y : ℝ) : EReal)) (y : S) (t : Fin cfg0.N) (ht : t.val = 31) :
    val t y = ((∑ n, f n y : ℝ) : EReal) := by
  have key : ∀ k (hk : k < 32) (hk' : k < cfg0.N), ∀ y, val ⟨k, hk'⟩ y = ((∑ n : Fin (k + 1), f ⟨n.val, by omega⟩ y : ℝ) : EReal) := by
    intro k
    induction k with
    | zero => intro hk hk' y; rw [hA ⟨0, hk'⟩ rfl y, Fin.sum_univ_one]; rfl
    | succ k ih =>
      intro hk hk' y
      rw [hB ⟨k + 1, hk'⟩ (by show ¬ (k + 1) % 32 = 0; omega) (fun y => ∑ n : Fin (k + 1), f ⟨n.val, by omega⟩ y)
        (fun y => ih (by omega) (by omega) y) y, Fin.sum_univ_castSucc (n := k + 1)]
      rfl
  obtain ⟨k, hk⟩ := t
  obtain rfl : k = 31 := ht
  exact key 31 (by decide) hk y

variable {N : Nums} {m : (ℓ : Loc nD τ KernelIdeal.sig) → Buf (Elt Ideal) ℓ} {c : Dev nD}

/-- The last grid point. -/
def tEnd : Fin cfg0.N := ⟨31, by decide⟩

/-- Where the wide gradient's block stands. -/
theorem idx_d : ∀ t : Fin grid0.N, (win0_17).index t = ![t.val, 0] := by decide +kernel

/-- The gradient of the branch's three inputs, side by side. -/
theorem arr_d (h : Holds N m c) :
    (dats m 0 c).arrAt 17 cfg0.N = fun y : S4096x12288.Idx => ((N.dval (y 0) (y 1).val : ℝ) : EReal) := by
  refine (dats m 0 c).arrAt_eq_of_covers 17 _ (by decide +kernel) fun t hf y => ?_
  blk_simp
  rw [after0_17]
  refine (outD h y).trans ?_
  have e := idx_d t
  refine congrArg Real.toEReal (congr (congrArg N.dval (Fin.ext ?_)) ?_)
  · blk_simp [e]
    rfl
  · blk_simp [e]

theorem acc_w (h : Holds N m c) (y : S8x128x128.Idx) (t : Fin cfg0.N) (ht : t.val = 31) :
    (outsAt0 m c t.val t.isLt).2.1 y = ((N.dws (y 0) (y 1) (y 2) : ℝ) : EReal) :=
  sum_of_shares (fun t y => (outsAt0 m c t.val t.isLt).2.1 y) (fun n y => N.dws1 n (y 0) (y 1) (y 2)) (fun t h0 y => outW_A (t := t) h h0 y)
    (fun t h0 A hA y => outW_B (t := t) h h0 hA y) y t ht

theorem arr_w (h : Holds N m c) :
    (dats m 0 c).arrAt 18 cfg0.N = fun y : S8x128x128.Idx => ((N.dws (y 0) (y 1) (y 2) : ℝ) : EReal) := by
  refine (dats m 0 c).arrAt_eq_of_after_last 18 tEnd (by decide +kernel) _ fun j => ?_
  blk_simp
  rw [after0_18]
  exact acc_w h j tEnd rfl

theorem acc_b (h : Holds N m c) (y : S8x128x1.Idx) (t : Fin cfg0.N) (ht : t.val = 31) :
    (outsAt0 m c t.val t.isLt).2.2.1 y = ((N.dbs (y 0) (y 1) : ℝ) : EReal) :=
  sum_of_shares (fun t y => (outsAt0 m c t.val t.isLt).2.2.1 y) (fun n y => N.dbs1 n (y 0) (y 1)) (fun t h0 y => outB_A (t := t) h h0 y)
    (fun t h0 A hA y => outB_B (t := t) h h0 hA y) y t ht

theorem arr_b (h : Holds N m c) :
    (dats m 0 c).arrAt 19 cfg0.N = fun y : S8x128x1.Idx => ((N.dbs (y 0) (y 1) : ℝ) : EReal) := by
  refine (dats m 0 c).arrAt_eq_of_after_last 19 tEnd (by decide +kernel) _ fun j => ?_
  blk_simp
  rw [after0_19]
  exact acc_b h j tEnd rfl

theorem acc_g (h : Holds N m c) (y : S1x4096.Idx) (t : Fin cfg0.N) (ht : t.val = 31) :
    (outsAt0 m c t.val t.isLt).2.2.2.1 y = ((N.dlg (y 1) : ℝ) : EReal) :=
  sum_of_shares (fun t y => (outsAt0 m c t.val t.isLt).2.2.2.1 y) (fun n y => N.dlg1 n (y 1)) (fun t h0 y => outG_A (t := t) h h0 y)
    (fun t h0 A hA y => outG_B (t := t) h h0 hA y) y t ht

theorem arr_g (h : Holds N m c) :
    (dats m 0 c).arrAt 20 cfg0.N = fun y : S1x4096.Idx => ((N.dlg (y 1) : ℝ) : EReal) := by
  refine (dats m 0 c).arrAt_eq_of_after_last 20 tEnd (by decide +kernel) _ fun j => ?_
  blk_simp
  rw [after0_20]
  exact acc_g h j tEnd rfl

theorem acc_l (h : Holds N m c) (y : S1x4096.Idx) (t : Fin cfg0.N) (ht : t.val = 31) :
    (outsAt0 m c t.val t.isLt).2.2.2.2 y = ((N.dlb (y 1) : ℝ) : EReal) :=
  sum_of_shares (fun t y => (outsAt0 m c t.val t.isLt).2.2.2.2 y) (fun n y => N.dlb1 n (y 1)) (fun t h0 y => outL_A (t := t) h h0 y)
    (fun t h0 A hA y => outL_B (t := t) h h0 hA y) y t ht

theorem arr_l (h : Holds N m c) :
    (dats m 0 c).arrAt 21 cfg0.N = fun y : S1x4096.Idx => ((N.dlb (y 1) : ℝ) : EReal) := by
  refine (dats m 0 c).arrAt_eq_of_after_last 21 tEnd (by decide +kernel) _ fun j => ?_
  blk_simp
  rw [after0_21]
  exact acc_l h j tEnd rfl

end Cert.Gating.Chunk

end
-- ==== Proof.RefGelu.lean ====
/- The reference, stage by stage: its slices, the two gelus with what their derivatives take, and the gate. -/
module

public import proofs.«01_k».proof.Proof.Reads
public import proofs.«01_k».proof.Proof.Gen.ReferenceIdeal.Read

@[expose] public section

noncomputable section

namespace Cert.Gating.Ref

open Idealize.ShloMosaic Cert.ReferenceIdeal Cert.ReferenceIdeal.Read

variable {N : Nums} {x0 : (⟨S4096x29696, .bf16⟩ : BufTy).Contents (Elt Ideal)} {x1 : (⟨S1x8x128x128, .f32⟩ : BufTy).Contents (Elt Ideal)}
  {x2 : (⟨S1x8x128, .f32⟩ : BufTy).Contents (Elt Ideal)} {x3 x4 : (⟨S1x4096, .f32⟩ : BufTy).Contents (Elt Ideal)}
  {x5 : (⟨S4096x4096, .f32⟩ : BufTy).Contents (Elt Ideal)} (h : Reads N x0 x1 x2 x3 x4 x5)
  (i : S1x4096x4096.Idx) (r c : Fin 4096) (hr : (i 1).val = r.val) (hc : (i 2).val = c.val)

include h hr hc

theorem v2 : val_main_v2 (F := Ideal) x0 i = ((N.u r c : ℝ) : EReal) := by
  rw [val_main_v2_apply, val_main_v1_apply, val_main_v0_apply]
  exact h.u _ r c hr (congrArg (9216 + ·) hc)

theorem v3 : val_main_v3 (F := Ideal) x0 i = ((N.vg r c : ℝ) : EReal) := by
  rw [val_main_v3_apply, val_main_v1_apply, val_main_v0_apply]
  exact h.vg _ r c hr (congrArg (13312 + ·) hc)

theorem v4 : val_main_v4 (F := Ideal) x0 i = ((N.gb r c : ℝ) : EReal) := by
  rw [val_main_v4_apply, val_main_v1_apply, val_main_v0_apply]
  exact h.gb _ r c hr (congrArg (17408 + ·) hc)

theorem v95 : val_main_v95 (F := Ideal) x5 i = ((N.db r c : ℝ) : EReal) := by
  rw [val_main_v95_apply]
  exact h.db _ r c hr hc

theorem v16 : val_main_v16 (F := Ideal) x0 i = ((th (N.u r c) : ℝ) : EReal) := by
  have e := v2 h i r c hr hc
  simp only [val_main_v16_apply, val_main_v15_apply, val_main_v14_apply, val_main_cst_2_apply, val_main_v13_apply, val_main_v12_apply,
    val_main_v11_apply, val_main_v5_apply, val_main_cst_apply, val_main_cst_0_apply, val_main_v7_apply, val_main_v6_apply, e,
    Consts.scale, Consts.cubeNum, Consts.cubeDen, Ideal.hostDivf_def, Ideal.mulf_def, Ideal.addf_def, Ideal.hostUnary_tanh_def, coe_cube,
    ← EReal.coe_mul, ← EReal.coe_add, Ideal.tanh_coe]
  rfl

theorem v38 : val_main_v38 (F := Ideal) x0 i = ((th (N.vg r c) : ℝ) : EReal) := by
  have e := v3 h i r c hr hc
  simp only [val_main_v38_apply, val_main_v37_apply, val_main_v36_apply, val_main_cst_10_apply, val_main_v35_apply, val_main_v34_apply,
    val_main_v33_apply, val_main_v27_apply, val_main_cst_7_apply, val_main_cst_8_apply, val_main_v29_apply, val_main_v28_apply, e,
    Consts.scale, Consts.cubeNum, Consts.cubeDen, Ideal.hostDivf_def, Ideal.mulf_def, Ideal.addf_def, Ideal.hostUnary_tanh_def, coe_cube,
    ← EReal.coe_mul, ← EReal.coe_add, Ideal.tanh_coe]
  rfl

theorem v25 : val_main_v25 (F := Ideal) x0 i = ((cdf (N.u r c) : ℝ) : EReal) := by
  have e := v16 h i r c hr hc
  simp only [val_main_v25_apply, val_main_v24_apply, val_main_v23_apply, val_main_v22_apply, val_main_cst_5_apply, val_main_cst_6_apply,
    e, Consts.half, Consts.one, Ideal.mulf_def, Ideal.addf_def, ← EReal.coe_mul, ← EReal.coe_add]
  rfl

theorem v47 : val_main_v47 (F := Ideal) x0 i = ((cdf (N.vg r c) : ℝ) : EReal) := by
  have e := v38 h i r c hr hc
  simp only [val_main_v47_apply, val_main_v46_apply, val_main_v45_apply, val_main_v44_apply, val_main_cst_13_apply, val_main_cst_14_apply,
    e, Consts.half, Consts.one, Ideal.mulf_def, Ideal.addf_def, ← EReal.coe_mul, ← EReal.coe_add]
  rfl

theorem v26 : val_main_v26 (F := Ideal) x0 i = ((gel (N.u r c) : ℝ) : EReal) := by
  rw [val_main_v26_apply, v2 h i r c hr hc, v25 h i r c hr hc, Ideal.mulf_def, ← EReal.coe_mul]
  rfl

theorem v48 : val_main_v48 (F := Ideal) x0 i = ((gel (N.vg r c) : ℝ) : EReal) := by
  rw [val_main_v48_apply, v3 h i r c hr hc, v47 h i r c hr hc, Ideal.mulf_def, ← EReal.coe_mul]
  rfl

/-- The gradient through the first gelu of a gradient `y` of its value. -/
theorem v174 {y : ℝ} (hy : val_main_v100 (F := Ideal) x0 x1 x2 x3 x4 x5 i = ((y : ℝ) : EReal)) :
    val_main_v174 (F := Ideal) x0 x1 x2 x3 x4 x5 i = ((y * gel' (N.u r c) : ℝ) : EReal) := by
  have e := v2 h i r c hr hc
  have e1 := v16 h i r c hr hc
  have e2 := v25 h i r c hr hc
  simp only [val_main_v174_apply, val_main_v173_apply, val_main_v172_apply, val_main_v171_apply, val_main_v170_apply, val_main_v169_apply,
    val_main_v168_apply, val_main_v167_apply, val_main_v166_apply, val_main_v165_apply, val_main_v164_apply, val_main_v163_apply,
    val_main_v21_apply, val_main_v20_apply, val_main_v19_apply, val_main_v18_apply, val_main_v17_apply, val_main_v10_apply,
    val_main_v9_apply, val_main_v8_apply, val_main_v5_apply, val_main_cst_apply, val_main_cst_0_apply, val_main_cst_1_apply,
    val_main_cst_3_apply, val_main_cst_4_apply, val_main_cst_37_apply, val_main_cst_38_apply, e, e1, e2, hy,
    Consts.scale, Consts.cubeNum, Consts.cubeDen, Consts.one, Consts.half, Consts.three, Ideal.hostDivf_def, Ideal.mulf_def, Ideal.addf_def,
    Ideal.subf_def, coe_cube, ← EReal.coe_mul, ← EReal.coe_add, ← EReal.coe_sub]
  exact congrArg Real.toEReal (gel'_eq (N.u r c) y)

/-- The gradient through the second gelu. -/
theorem v162 {y : ℝ} (hy : val_main_v146 (F := Ideal) x0 x1 x3 x5 i = ((y : ℝ) : EReal)) :
    val_main_v162 (F := Ideal) x0 x1 x3 x5 i = ((y * gel' (N.vg r c) : ℝ) : EReal) := by
  have e := v3 h i r c hr hc
  have e1 := v38 h i r c hr hc
  have e2 := v47 h i r c hr hc
  simp only [val_main_v162_apply, val_main_v161_apply, val_main_v160_apply, val_main_v159_apply, val_main_v158_apply, val_main_v157_apply,
    val_main_v156_apply, val_main_v155_apply, val_main_v154_apply, val_main_v153_apply, val_main_v152_apply, val_main_v151_apply,
    val_main_v43_apply, val_main_v42_apply, val_main_v41_apply, val_main_v40_apply, val_main_v39_apply, val_main_v32_apply,
    val_main_v31_apply, val_main_v30_apply, val_main_v27_apply, val_main_cst_7_apply, val_main_cst_8_apply, val_main_cst_9_apply,
    val_main_cst_11_apply, val_main_cst_12_apply, val_main_cst_35_apply, val_main_cst_36_apply, e, e1, e2, hy,
    Consts.scale, Consts.cubeNum, Consts.cubeDen, Consts.one, Consts.half, Consts.three, Ideal.hostDivf_def, Ideal.mulf_def, Ideal.addf_def,
    Ideal.subf_def, coe_cube, ← EReal.coe_mul, ← EReal.coe_add, ← EReal.coe_sub]
  exact congrArg Real.toEReal (gel'_eq (N.vg r c) y)

/-- The gate's logistic function. -/
theorem v93_2 : val_main_v93_2 (F := Ideal) x0 i = ((sig (N.gb r c) : ℝ) : EReal) := by
  have e := v4 h i r c hr hc
  simp only [val_main_v93_2_apply, val_main_call2_v4_apply, val_main_call2_cst_0_apply, val_main_call2_v3_apply, val_main_call2_v2_apply,
    val_main_call2_cst_apply, val_main_call2_v1_apply, val_main_call2_v0_apply, e, Consts.one, Ideal.hostDivf_def, Ideal.addf_def,
    Ideal.hostUnary_exp_def]
  show Ideal.div _ (_ + Ideal.exp (-((N.gb r c : ℝ) : EReal))) = _
  rw [← EReal.coe_neg, Ideal.exp_coe, ← EReal.coe_add, coe_sig]

theorem v93_1 : val_main_v93_1 (F := Ideal) x0 i = ((sig (N.gb r c) * (1 - sig (N.gb r c)) : ℝ) : EReal) := by
  have e := v93_2 h i r c hr hc
  simp only [val_main_v93_1_apply, val_main_call2_v7_apply, val_main_call2_v6_apply, val_main_call2_cst_1_apply, e, Consts.one,
    Ideal.mulf_def, Ideal.subf_def, ← EReal.coe_mul, ← EReal.coe_sub]

theorem v93_0 : val_main_v93_0 (F := Ideal) x0 i = ((N.gb r c * sig (N.gb r c) : ℝ) : EReal) := by
  rw [val_main_v93_0_apply, v4 h i r c hr hc, v93_2 h i r c hr hc, Ideal.mulf_def, ← EReal.coe_mul]

theorem v97 : val_main_v97 (F := Ideal) x0 x5 i = ((N.dsg r c : ℝ) : EReal) := by
  rw [val_main_v97_apply, v95 h i r c hr hc, v93_0 h i r c hr hc, Ideal.mulf_def, ← EReal.coe_mul]
  rfl

theorem v99 : val_main_v99 (F := Ideal) x0 x5 i = ((N.dm r c : ℝ) : EReal) := by
  rw [val_main_v99_apply, v26 h i r c hr hc, v97 h i r c hr hc, Ideal.mulf_def, ← EReal.coe_mul]
  exact congrArg Real.toEReal (mul_comm _ _)

end Cert.Gating.Ref

end
-- ==== Proof.RefNorm.lean ====
/- The reference, stage by stage: the normalisation of the rows, the causal weights, the mixing, and the gradients of the first
   and third input. -/
module

public import proofs.«01_k».proof.Proof.RefGelu

@[expose] public section

noncomputable section

namespace Cert.Gating.Ref

open Idealize.ShloMosaic Cert.ReferenceIdeal Cert.ReferenceIdeal.Read

variable {N : Nums} {x0 : (⟨S4096x29696, .bf16⟩ : BufTy).Contents (Elt Ideal)} {x1 : (⟨S1x8x128x128, .f32⟩ : BufTy).Contents (Elt Ideal)}
  {x2 : (⟨S1x8x128, .f32⟩ : BufTy).Contents (Elt Ideal)} {x3 x4 : (⟨S1x4096, .f32⟩ : BufTy).Contents (Elt Ideal)}
  {x5 : (⟨S4096x4096, .f32⟩ : BufTy).Contents (Elt Ideal)} (h : Reads N x0 x1 x2 x3 x4 x5)

section Row

variable (i : S1x4096x1.Idx) (r : Fin 4096) (hr : (i 1).val = r.val)

include h hr

theorem v56 : val_main_v56 (F := Ideal) x0 i = ((N.mu r : ℝ) : EReal) := by
  rw [val_main_v56_apply, val_main_v54_apply, val_main_v53_apply, val_main_cst_15_apply, Consts.zero,
    zero_add_sum_coe fun k => v48 h _ r k hr rfl, val_main_v55_apply, val_main_cst_16_apply, Consts.width]
  exact coe_div_width _

end Row

section Wide

variable (i : S1x4096x4096.Idx) (r c : Fin 4096) (hr : (i 1).val = r.val) (hc : (i 2).val = c.val)

include h hr hc

theorem v58 : val_main_v58 (F := Ideal) x0 i = ((N.xc r c : ℝ) : EReal) := by
  rw [val_main_v58_apply, v48 h i r c hr hc, val_main_v57_apply, v56 h _ r hr, Ideal.subf_def, ← EReal.coe_sub]
  rfl

theorem v59 : val_main_v59 (F := Ideal) x0 i = ((N.xc r c * N.xc r c : ℝ) : EReal) := by
  rw [val_main_v59_apply, v58 h i r c hr hc, Ideal.mulf_def, ← EReal.coe_mul]

end Wide

section Row

variable (i : S1x4096x1.Idx) (r : Fin 4096) (hr : (i 1).val = r.val)

include h hr

theorem v65 : val_main_v65 (F := Ideal) x0 i = ((N.var r : ℝ) : EReal) := by
  rw [val_main_v65_apply, val_main_v63_apply, val_main_v61_apply, val_main_v60_apply, val_main_cst_17_apply, Consts.zero,
    zero_add_sum_coe fun k => v59 h _ r k hr rfl, val_main_v62_apply, val_main_cst_18_apply, Consts.width, val_main_v64_apply,
    val_main_cst_19_apply, Consts.eps, Ideal.hostDivf_def, coe_div_width, Ideal.addf_def, ← EReal.coe_add]
  rfl

theorem v66 : val_main_v66 (F := Ideal) x0 i = ((N.rs r : ℝ) : EReal) := by
  rw [val_main_v66_apply, v65 h i r hr, Ideal.hostUnary_rsqrt_def, coe_rsqrt (N.var_pos r)]
  rfl

theorem v69 : val_main_v69 (F := Ideal) x0 i = ((-1 / 2 * (N.rs r / N.var r) : ℝ) : EReal) := by
  rw [val_main_v69_apply, val_main_v68_apply, val_main_cst_20_apply, Consts.neghalf, val_main_v67_apply, v66 h i r hr, v65 h i r hr,
    Ideal.hostDivf_def, coe_div' _ (N.var_pos r).ne', Ideal.mulf_def, ← EReal.coe_mul]

end Row

section Wide

variable (i : S1x4096x4096.Idx) (r c : Fin 4096) (hr : (i 1).val = r.val) (hc : (i 2).val = c.val)

include h hr hc

theorem v71 : val_main_v71 (F := Ideal) x0 i = ((N.vh r c : ℝ) : EReal) := by
  rw [val_main_v71_apply, v58 h i r c hr hc, val_main_v70_apply, v66 h _ r hr, Ideal.mulf_def, ← EReal.coe_mul]
  rfl

theorem v77 : val_main_v77 (F := Ideal) x0 x3 x4 i = ((N.vn r c : ℝ) : EReal) := by
  rw [val_main_v77_apply, val_main_v74_apply, v71 h i r c hr hc, val_main_v73_apply, val_main_v72_apply, val_main_v51_apply,
    val_main_v76_apply, val_main_v75_apply, val_main_v52_apply, h.lg _ c ((Nat.mod_eq_of_lt (i 2).isLt).trans hc),
    h.lb _ c ((Nat.mod_eq_of_lt (i 2).isLt).trans hc), Ideal.mulf_def, Ideal.addf_def, ← EReal.coe_mul, ← EReal.coe_add]
  rfl

end Wide

include h in
/-- The normalised rows, by chunk, place, group and channel. -/
theorem v78 (i : S1x32x128x8x512.Idx) (n : Fin 32) (t : Fin 128) (g : Fin 8) (k : Fin 512) (hn : (i 1).val = n.val)
    (ht : (i 2).val = t.val) (hg : (i 3).val = g.val) (hk : (i 4).val = k.val) :
    val_main_v78 (F := Ideal) x0 x3 x4 i = ((N.vn (row n t) (col g k) : ℝ) : EReal) := by
  have h0 : (i 0).val < 1 := (i 0).isLt
  rw [val_main_v78_apply]
  refine v77 h _ _ _ ?_ ?_
  · show (((((i 0).val * 32 + (i 1).val) * 128 + (i 2).val) * 8 + (i 3).val) * 512 + (i 4).val) / 4096 % 4096 = n.val * 128 + t.val
    omega
  · show (((((i 0).val * 32 + (i 1).val) * 128 + (i 2).val) * 8 + (i 3).val) * 512 + (i 4).val) % 4096 = g.val * 512 + k.val
    omega

/-- The causal mask's words, decided. -/
theorem mask_words : ∀ t s : Fin 128, IntOp.cmpi .sge (IntOp.addi (BitVec.ofNat 32 t.val) 0#32) (BitVec.ofNat 32 s.val)
    = if s ≤ t then 1#1 else 0#1 := by decide +kernel

/-- The causal mask. -/
theorem v83_1 (i : S8x128x128.Idx) (t s : Fin 128) (ht : (i 1).val = t.val) (hs : (i 2).val = s.val) :
    val_main_v83_1 (F := Ideal) i = if s ≤ t then 1#1 else 0#1 := by
  have e := mask_words t s
  rw [← ht, ← hs] at e
  rw [val_main_v83_1_apply, val_main_v81_apply, val_main_v80_apply, val_main_call0_v4_apply, val_main_call0_v2_apply,
    val_main_call0_v0_apply, val_main_call0_v1_apply, val_main_call0_c_apply, val_main_call0_v3_apply, val_main_v79_apply, val_main_c_apply,
    val_main_call0_v5_apply, val_main_call0_c_0_apply]
  refine (congrArg (fun b => Scalar.select b 1#1 0#1) e).trans ?_
  by_cases hst : s ≤ t
  · rw [if_pos hst]; rfl
  · rw [if_neg hst]; rfl

include h in
/-- The causal weights. -/
theorem v83_0 (i : S8x128x128.Idx) (g : Fin 8) (t s : Fin 128) (hg : (i 0).val = g.val) (ht : (i 1).val = t.val) (hs : (i 2).val = s.val) :
    val_main_v83_0 (F := Ideal) x1 i = ((N.w g t s : ℝ) : EReal) := by
  rw [val_main_v83_0_apply, v83_1 i t s ht hs]
  unfold Nums.w
  by_cases hst : s ≤ t
  · rw [if_pos hst, if_pos hst]
    show val_main_v49 (F := Ideal) x1 i = _
    rw [val_main_v49_apply]
    refine h.ws _ g t s ?_ ?_ ?_ hst
    · show (((i 0).val * 128 + (i 1).val) * 128 + (i 2).val) / 16384 % 8 = g.val
      omega
    · show (((i 0).val * 128 + (i 1).val) * 128 + (i 2).val) / 128 % 128 = t.val
      omega
    · show (((i 0).val * 128 + (i 1).val) * 128 + (i 2).val) % 128 = s.val
      omega
  · rw [if_neg hst, if_neg hst]
    show val_main_v82 (F := Ideal) i = _
    rw [val_main_v82_apply, val_main_cst_21_apply, Consts.zero]

include h in
/-- The mixed rows, by chunk, place, group and channel. -/
theorem v90 (i : S1x32x128x8x512.Idx) (n : Fin 32) (t : Fin 128) (g : Fin 8) (k : Fin 512) (hn : (i 1).val = n.val)
    (ht : (i 2).val = t.val) (hg : (i 3).val = g.val) (hk : (i 4).val = k.val) :
    val_main_v90 (F := Ideal) x0 x1 x2 x3 x4 i = ((N.mix (row n t) (col g k) : ℝ) : EReal) := by
  have eb : val_main_v89 (F := Ideal) x2 i = ((N.bs g t : ℝ) : EReal) := by
    rw [val_main_v89_apply, val_main_v88_apply, val_main_v87_apply, val_main_v86_apply, val_main_v50_apply]
    refine h.bs _ g t ?_ ?_
    · show ((i 3).val * 128 + (i 2).val) / 128 % 8 = g.val
      omega
    · show ((i 3).val * 128 + (i 2).val) % 128 = t.val
      omega
  rw [val_main_v90_apply, val_main_v85_apply, val_main_v84_apply, eb,
    sum_coe (f := fun s => N.vn (row n s) (col g k) * N.w g t s) (fun s => by
      rw [v78 h (lidx_main_v84 (idx_main_v85 i) s) n s g k hn rfl hg hk,
        v83_0 h (ridx_main_v84 (idx_main_v85 i) s) g t s hg ht rfl, ← EReal.coe_mul]), Ideal.addf_def, ← EReal.coe_add]
  refine congrArg Real.toEReal ?_
  unfold Nums.mix
  rw [chunk_row, pos_row, grp_col]
  exact congrArg (· + _) (Finset.sum_congr rfl fun s _ => mul_comm _ _)

section Wide

variable (i : S1x4096x4096.Idx) (r c : Fin 4096) (hr : (i 1).val = r.val) (hc : (i 2).val = c.val)

/-- A channel is one of its group. -/
theorem col_grp (c : Fin 4096) : col (grp c) ⟨c.val % 512, Nat.mod_lt _ (by decide)⟩ = c := Fin.ext (by simp only [col, grp]; omega)

include h hr hc

theorem v91 : val_main_v91 (F := Ideal) x0 x1 x2 x3 x4 i = ((N.mix r c : ℝ) : EReal) := by
  have h0 : (i 0).val < 1 := (i 0).isLt
  have key := v90 h (idx_main_v91 i) (chunk r) (pos r) (grp c) ⟨c.val % 512, Nat.mod_lt _ (by decide)⟩
    (by show (((i 0).val * 4096 + (i 1).val) * 4096 + (i 2).val) / 524288 % 32 = r.val / 128; omega)
    (by show (((i 0).val * 4096 + (i 1).val) * 4096 + (i 2).val) / 4096 % 128 = r.val % 128; omega)
    (by show (((i 0).val * 4096 + (i 1).val) * 4096 + (i 2).val) / 512 % 8 = c.val / 512; omega)
    (by show (((i 0).val * 4096 + (i 1).val) * 4096 + (i 2).val) % 512 = c.val % 512; omega)
  rw [row_chunk_pos, col_grp] at key
  rw [val_main_v91_apply, key]

/-- The gradient of the first gelu. -/
theorem v100 : val_main_v100 (F := Ideal) x0 x1 x2 x3 x4 x5 i = ((N.dsg r c * N.mix r c : ℝ) : EReal) := by
  rw [val_main_v100_apply, v97 h i r c hr hc, v91 h i r c hr hc, Ideal.mulf_def, ← EReal.coe_mul]

/-- The gradient of the first input. -/
theorem du : val_main_v174 (F := Ideal) x0 x1 x2 x3 x4 x5 i = ((N.du r c : ℝ) : EReal) :=
  v174 h i r c hr hc (v100 h i r c hr hc)

/-- The gradient of the third input, the gate. -/
theorem dgb : val_main_v98 (F := Ideal) x0 x1 x2 x3 x4 x5 i = ((N.dgb r c : ℝ) : EReal) := by
  simp only [val_main_v98_apply, val_main_call3_v2_apply, val_main_call3_v1_apply, val_main_call3_v0_apply, val_main_v96_apply,
    val_main_v92_apply, v26 h i r c hr hc, v91 h i r c hr hc, v95 h i r c hr hc, v93_2 h i r c hr hc, v93_1 h i r c hr hc,
    v4 h i r c hr hc, Ideal.mulf_def, Ideal.addf_def, ← EReal.coe_mul, ← EReal.coe_add]
  refine congrArg Real.toEReal ?_
  unfold Nums.dgb
  ring

end Wide

end Cert.Gating.Ref

end
-- ==== Proof.RefBack.lean ====
/- The reference, stage by stage: the gradients of the rows before mixing, through the normalisation, and the summed results. -/
module

public import proofs.«01_k».proof.Proof.RefNorm
public import Idealize.ShloMosaic.Lib.Pointwise

@[expose] public section

noncomputable section

namespace Cert.Gating.Ref

open Idealize.ShloMosaic Cert.ReferenceIdeal Cert.ReferenceIdeal.Read

/-- A host sum from zero, the summed places counted by `k`: the sum of the numbers there. -/
theorem reduce_coe {s t z : Shape} {axes : List (Fin s.rank)} (h : s.ReducesTo axes t) (hz : 0 < z.numel) (x : FVec Ideal s .f32)
    (init : FVec Ideal z .f32) (hi : init (Shape.Idx.first hz) = 0) {K : Type} [Fintype K] (j : t.Idx) (e : K → s.Idx)
    (he : Function.Injective e) (hm : ∀ i, h.drop i = j ↔ ∃ k, e k = i) {f : K → ℝ} (hx : ∀ k, x (e k) = ((f k : ℝ) : EReal)) :
    Host.reduceAdd x init h hz j = ((∑ k, f k : ℝ) : EReal) := by
  classical
  simp only [Host.reduceAdd, Ideal.hostReduceAdd_def]
  unfold Ideal.hostReduceAdd
  rw [hi, zero_add, ← coe_sum]
  rw [show Finset.univ.filter (fun i => h.drop i = j) = Finset.univ.image e from Finset.ext fun i => by simp [hm],
    Finset.sum_image fun a _ b _ hab => he hab]
  exact Finset.sum_congr rfl fun k _ => hx k

/-- The index of row `r` in a column. -/
def unitRow (r : Fin 4096) : S1x4096x1.Idx := ix3 0 r 0

/-- Of a column summed over its two unit axes, one entry is dropped to each row. -/
theorem drop_row (h : S1x4096x1.ReducesTo [0, 2] S4096) (i : S1x4096x1.Idx) (j : S4096.Idx) (r : Fin 4096) (hr : (j 0).val = r.val) :
    h.drop i = j ↔ ∃ _ : Unit, unitRow r = i := by
  have e := h.drop_apply_val_of_eq i 0 1 (by decide) (by decide)
  have h0 : (i 0).val < 1 := (i 0).isLt
  have h2 : (i 2).val < 1 := (i 2).isLt
  constructor
  · intro hd
    have e' : (i 1).val = r.val := e.symm.trans ((congrArg (fun x : S4096.Idx => (x 0).val) hd).trans hr)
    exact ⟨(), funext (Fin.forall_fin_succ.mpr ⟨Fin.ext (by show 0 = (i 0).val; omega),
      Fin.forall_fin_two.mpr ⟨Fin.ext e'.symm, Fin.ext (by show 0 = (i 2).val; omega)⟩⟩)⟩
  · rintro ⟨_, rfl⟩
    refine funext (Fin.forall_fin_one.mpr (Fin.ext ?_))
    rw [hr]
    exact e

variable {N : Nums} {x0 : (⟨S4096x29696, .bf16⟩ : BufTy).Contents (Elt Ideal)} {x1 : (⟨S1x8x128x128, .f32⟩ : BufTy).Contents (Elt Ideal)}
  {x2 : (⟨S1x8x128, .f32⟩ : BufTy).Contents (Elt Ideal)} {x3 x4 : (⟨S1x4096, .f32⟩ : BufTy).Contents (Elt Ideal)}
  {x5 : (⟨S4096x4096, .f32⟩ : BufTy).Contents (Elt Ideal)} (h : Reads N x0 x1 x2 x3 x4 x5)

include h

theorem v101 (i : S1x32x128x8x512.Idx) (n : Fin 32) (t : Fin 128) (g : Fin 8) (k : Fin 512) (hn : (i 1).val = n.val)
    (ht : (i 2).val = t.val) (hg : (i 3).val = g.val) (hk : (i 4).val = k.val) :
    val_main_v101 (F := Ideal) x0 x5 i = ((N.dm (row n t) (col g k) : ℝ) : EReal) := by
  have h0 : (i 0).val < 1 := (i 0).isLt
  rw [val_main_v101_apply]
  refine v99 h _ _ _ ?_ ?_
  · show (((((i 0).val * 32 + (i 1).val) * 128 + (i 2).val) * 8 + (i 3).val) * 512 + (i 4).val) / 4096 % 4096 = n.val * 128 + t.val
    omega
  · show (((((i 0).val * 32 + (i 1).val) * 128 + (i 2).val) * 8 + (i 3).val) * 512 + (i 4).val) % 4096 = g.val * 512 + k.val
    omega

theorem v108 (i : S8x1x32x512x128.Idx) (n : Fin 32) (t : Fin 128) (g : Fin 8) (k : Fin 512) (hg : (i 0).val = g.val)
    (hn : (i 2).val = n.val) (hk : (i 3).val = k.val) (ht : (i 4).val = t.val) :
    val_main_v108 (F := Ideal) x0 x5 i = ((N.dm (row n t) (col g k) : ℝ) : EReal) := by
  rw [val_main_v108_apply]
  exact v101 h _ n t g k hn ht hg hk

/-- The gradient of the rows before mixing. -/
theorem v113 (i : S1x4096x4096.Idx) (r c : Fin 4096) (hr : (i 1).val = r.val) (hc : (i 2).val = c.val) :
    val_main_v113 (F := Ideal) x0 x1 x5 i = ((N.dvn r c : ℝ) : EReal) := by
  have h0 : (i 0).val < 1 := (i 0).isLt
  have hr' := r.isLt
  have hc' := c.isLt
  have e : ∀ j : S8x1x32x512x128.Idx, (j 0).val = (grp c).val → (j 2).val = (chunk r).val → (j 3).val = c.val % 512 →
      (j 4).val = (pos r).val → val_main_v110 (F := Ideal) x0 x1 x5 j = ((N.dvn r c : ℝ) : EReal) := by
    intro j h1 h2 h3 h4
    rw [val_main_v110_apply]
    unfold Nums.dvn
    rw [← coe_sum]
    refine Finset.sum_congr rfl fun k _ => ?_
    rw [v108 h (lidx_main_v110 j k) (chunk r) k (grp c) ⟨c.val % 512, Nat.mod_lt _ (by decide)⟩ h1 h2 h3 rfl,
      v83_0 h (ridx_main_v110 j k) (grp c) k (pos r) h1 rfl h4, ← EReal.coe_mul, mul_comm]
    rw [show col (grp c) ⟨c.val % 512, Nat.mod_lt _ (by decide)⟩ = c from Fin.ext (by
      show c.val / 512 * 512 + c.val % 512 = c.val
      omega)]
  rw [val_main_v113_apply, val_main_v111_apply]
  refine e _ ?_ ?_ ?_ ?_
  · show (((i 0).val * 4096 + (i 1).val) * 4096 + (i 2).val) / 512 % 8 = c.val / 512
    omega
  · show (((i 0).val * 4096 + (i 1).val) * 4096 + (i 2).val) / 524288 % 32 = r.val / 128
    omega
  · show (((i 0).val * 4096 + (i 1).val) * 4096 + (i 2).val) % 512 = c.val % 512
    omega
  · show (((i 0).val * 4096 + (i 1).val) * 4096 + (i 2).val) / 4096 % 128 = r.val % 128
    omega

/-- … of the normalised rows. -/
theorem v121 (i : S1x4096x4096.Idx) (r c : Fin 4096) (hr : (i 1).val = r.val) (hc : (i 2).val = c.val) :
    val_main_v121 (F := Ideal) x0 x1 x3 x5 i = ((N.dvh r c : ℝ) : EReal) := by
  rw [val_main_v121_apply, v113 h i r c hr hc, val_main_v120_apply, val_main_v72_apply, val_main_v51_apply,
    h.lg _ c ((Nat.mod_eq_of_lt (i 2).isLt).trans hc), Ideal.mulf_def, ← EReal.coe_mul]
  rfl

theorem v124 (i : S1x4096.Idx) (r : Fin 4096) (hr : (i 1).val = r.val) :
    val_main_v124 (F := Ideal) x0 x1 x3 x5 i = ((∑ c, N.xc r c * N.dvh r c : ℝ) : EReal) := by
  have e : ∀ k : Fin 4096, val_main_v123 (F := Ideal) x0 x1 x3 x5 (idx_main_v124 i k) = ((N.xc r k * N.dvh r k : ℝ) : EReal) := fun k => by
    rw [val_main_v123_apply, v58 h _ r k hr rfl, v121 h _ r k hr rfl, Ideal.mulf_def, ← EReal.coe_mul]
  rw [val_main_v124_apply, val_main_cst_29_apply, Consts.zero, zero_add_sum_coe e]

/-- The gradient of the variance, over the number of channels. -/
theorem v130 (i : S1x4096x1.Idx) (r : Fin 4096) (hr : (i 1).val = r.val) :
    val_main_v130 (F := Ideal) x0 x1 x3 x5 i
      = (((∑ c, N.xc r c * N.dvh r c) * (-1 / 2 * (N.rs r / N.var r)) / 4096 : ℝ) : EReal) := by
  have h0 : (i 0).val < 1 := (i 0).isLt
  have h2 : (i 2).val < 1 := (i 2).isLt
  rw [val_main_v130_apply, val_main_v128_apply, val_main_v125_apply, v69 h i r hr, val_main_v129_apply, val_main_cst_30_apply, Consts.width]
  rw [v124 h _ r (by
    show (((i 0).val * 4096 + (i 1).val) * 1 + (i 2).val) % 4096 = r.val
    have := r.isLt
    omega), Ideal.mulf_def, ← EReal.coe_mul, Ideal.hostDivf_def, coe_div_width]

/-- … spread over the row. -/
theorem v133 (i : S1x4096x4096.Idx) (r : Fin 4096) (hr : (i 1).val = r.val) :
    val_main_v133 (F := Ideal) x0 x1 x3 x5 i
      = (((∑ c, N.xc r c * N.dvh r c) * (-1 / 2 * (N.rs r / N.var r)) / 4096 : ℝ) : EReal) := by
  rw [val_main_v133_apply, val_main_v132_apply]
  unfold val_main_v131
  refine (reduce_coe _ _ _ _ (by rw [val_main_cst_31_apply, Consts.zero]; rfl) (K := Unit) _ (fun _ => unitRow r)
    (fun _ _ _ => rfl) (fun i => ?_) (fun _ => v130 h _ r rfl)).trans (congrArg Real.toEReal (Finset.sum_const _ |>.trans (one_nsmul _)))
  exact drop_row _ i _ r hr

/-- The gradient of the gelu of the row, the mean's share not yet added. -/
theorem v137 (i : S1x4096x4096.Idx) (r c : Fin 4096) (hr : (i 1).val = r.val) (hc : (i 2).val = c.val) :
    val_main_v137 (F := Ideal) x0 x1 x3 x5 i
      = ((N.rs r * (N.dvh r c - N.vh r c * N.m2 r) : ℝ) : EReal) := by
  rw [val_main_v137_apply, val_main_v136_apply, val_main_v135_apply, val_main_v134_apply, val_main_v127_apply, val_main_v126_apply,
    v121 h i r c hr hc, v58 h i r c hr hc, v133 h i r hr, v66 h _ r hr]
  simp only [Ideal.mulf_def, Ideal.addf_def, ← EReal.coe_mul, ← EReal.coe_add]
  refine congrArg Real.toEReal ?_
  have e2 : N.m2 r = N.rs r * (∑ c, N.xc r c * N.dvh r c) / 4096 := by
    unfold Nums.m2 Nums.vh
    rw [Finset.mul_sum]
    exact congrArg (· / 4096) (Finset.sum_congr rfl fun k _ => by ring)
  have e3 : N.rs r / N.var r = N.rs r * (N.rs r * N.rs r) := by rw [N.rs_mul_self, mul_one_div]
  rw [e2, e3]
  unfold Nums.vh
  ring

theorem v142 (i : S1x4096x1.Idx) (r : Fin 4096) (hr : (i 1).val = r.val) :
    val_main_v142 (F := Ideal) x0 x1 x3 x5 i = ((-(N.rs r * N.m1 r) : ℝ) : EReal) := by
  have h0 : (i 0).val < 1 := (i 0).isLt
  have h2 : (i 2).val < 1 := (i 2).isLt
  have e : ∀ j : S1x4096.Idx, (j 1).val = r.val → val_main_v139 (F := Ideal) x0 x1 x3 x5 j = ((∑ c, -(N.rs r * (N.dvh r c - N.vh r c * N.m2 r)) : ℝ) : EReal) := by
    intro j hj
    have e : ∀ k : Fin 4096, val_main_v138 (F := Ideal) x0 x1 x3 x5 (idx_main_v139 j k) = ((-(N.rs r * (N.dvh r k - N.vh r k * N.m2 r)) : ℝ) : EReal) := fun k => by
      rw [val_main_v138_apply, v137 h _ r k hj rfl]
      rfl
    rw [val_main_v139_apply, val_main_cst_32_apply, Consts.zero, zero_add_sum_coe e]
  rw [val_main_v142_apply, val_main_v140_apply, val_main_v141_apply, val_main_cst_33_apply, Consts.width, e _ (by
    show (((i 0).val * 4096 + (i 1).val) * 1 + (i 2).val) % 4096 = r.val
    have := r.isLt
    omega), Ideal.hostDivf_def, coe_div_width]
  refine congrArg Real.toEReal ?_
  have hx : ∑ c, N.vh r c * N.m2 r = 0 := by
    unfold Nums.vh
    rw [← Finset.sum_mul, ← Finset.sum_mul, N.sum_xc, zero_mul, zero_mul]
  rw [Finset.sum_neg_distrib, ← Finset.mul_sum, Finset.sum_sub_distrib, hx]
  unfold Nums.m1
  ring

theorem v145 (i : S1x4096x4096.Idx) (r : Fin 4096) (hr : (i 1).val = r.val) :
    val_main_v145 (F := Ideal) x0 x1 x3 x5 i = ((-(N.rs r * N.m1 r) : ℝ) : EReal) := by
  rw [val_main_v145_apply, val_main_v144_apply]
  unfold val_main_v143
  refine (reduce_coe _ _ _ _ (by rw [val_main_cst_34_apply, Consts.zero]; rfl) (K := Unit) _ (fun _ => unitRow r)
    (fun _ _ _ => rfl) (fun i => ?_) (fun _ => v142 h _ r rfl)).trans (congrArg Real.toEReal (Finset.sum_const _ |>.trans (one_nsmul _)))
  exact drop_row _ i _ r hr

/-- The gradient of the second input. -/
theorem dvg (i : S1x4096x4096.Idx) (r c : Fin 4096) (hr : (i 1).val = r.val) (hc : (i 2).val = c.val) :
    val_main_v162 (F := Ideal) x0 x1 x3 x5 i = ((N.dvg r c : ℝ) : EReal) := by
  refine v162 h i r c hr hc (y := N.dgv r c) ?_
  rw [val_main_v146_apply, v137 h i r c hr hc, v145 h i r hr, Ideal.addf_def, ← EReal.coe_add]
  refine congrArg Real.toEReal ?_
  unfold Nums.dgv
  ring

end Cert.Gating.Ref

end
-- ==== Proof.RefOut.lean ====
/- The five results of the reference, at an index. -/
module

public import proofs.«01_k».proof.Proof.RefBack

@[expose] public section

noncomputable section

namespace Cert.Gating.Ref

open Idealize.ShloMosaic Cert.ReferenceIdeal Cert.ReferenceIdeal.Read

section Drops

/-- The index of channel `c` in a row with two unit axes before it. -/
def unitChan (c : Fin 4096) : S1x1x4096.Idx := ix3 0 0 c

theorem drop_chan (h : S1x1x4096.ReducesTo [0, 1] S4096) (i : S1x1x4096.Idx) (j : S4096.Idx) (c : Fin 4096) (hc : (j 0).val = c.val) :
    h.drop i = j ↔ ∃ _ : Unit, unitChan c = i := by
  have e := h.drop_apply_val_of_eq i 0 2 (by decide) (by decide)
  have h0 : (i 0).val < 1 := (i 0).isLt
  have h1 : (i 1).val < 1 := (i 1).isLt
  constructor
  · intro hd
    have e' : (i 2).val = c.val := e.symm.trans ((congrArg (fun x : S4096.Idx => (x 0).val) hd).trans hc)
    exact ⟨(), funext (Fin.forall_fin_succ.mpr ⟨Fin.ext (by show 0 = (i 0).val; omega),
      Fin.forall_fin_two.mpr ⟨Fin.ext (by show 0 = (i 1).val; omega), Fin.ext e'.symm⟩⟩)⟩
  · rintro ⟨_, rfl⟩
    refine funext (Fin.forall_fin_one.mpr (Fin.ext ?_))
    rw [hc]
    exact e

/-- The index of place `t` and group `g` among unit axes. -/
def unitPlace (t : Fin 128) (g : Fin 8) : S1x1x128x8x1.Idx := fun a => match a with
  | ⟨0, _⟩ => ⟨0, Nat.one_pos⟩
  | ⟨1, _⟩ => ⟨0, Nat.one_pos⟩
  | ⟨2, _⟩ => t
  | ⟨3, _⟩ => g
  | ⟨4, _⟩ => ⟨0, Nat.one_pos⟩

theorem drop_place (h : S1x1x128x8x1.ReducesTo [0, 1, 4] S128x8) (i : S1x1x128x8x1.Idx) (j : S128x8.Idx) (t : Fin 128) (g : Fin 8)
    (ht : (j 0).val = t.val) (hg : (j 1).val = g.val) : h.drop i = j ↔ ∃ _ : Unit, unitPlace t g = i := by
  have e0 := fun i => h.drop_apply_val_of_eq i 0 2 (by decide) (by decide)
  have e1 := fun i => h.drop_apply_val_of_eq i 1 3 (by decide) (by decide)
  have h0 : (i 0).val < 1 := (i 0).isLt
  have h1 : (i 1).val < 1 := (i 1).isLt
  have h4 : (i 4).val < 1 := (i 4).isLt
  constructor
  · intro hd
    have f0 : (i 2).val = t.val := (e0 i).symm.trans ((congrArg (fun x : S128x8.Idx => (x 0).val) hd).trans ht)
    have f1 : (i 3).val = g.val := (e1 i).symm.trans ((congrArg (fun x : S128x8.Idx => (x 1).val) hd).trans hg)
    refine ⟨(), funext fun a => Fin.ext ?_⟩
    match a with
    | ⟨0, _⟩ => show 0 = (i 0).val; omega
    | ⟨1, _⟩ => show 0 = (i 1).val; omega
    | ⟨2, _⟩ => exact f0.symm
    | ⟨3, _⟩ => exact f1.symm
    | ⟨4, _⟩ => show 0 = (i 4).val; omega
  · rintro ⟨_, rfl⟩
    refine funext (Fin.forall_fin_two.mpr ⟨Fin.ext ?_, Fin.ext ?_⟩)
    · rw [ht]; exact e0 _
    · rw [hg]; exact e1 _

/-- The index of chunk `p.1`, place `t`, group `g` and channel `p.2`. -/
def wide (t : Fin 128) (g : Fin 8) (p : Fin 32 × Fin 512) : S1x32x128x8x512.Idx := fun a => match a with
  | ⟨0, _⟩ => ⟨0, Nat.one_pos⟩
  | ⟨1, _⟩ => p.1
  | ⟨2, _⟩ => t
  | ⟨3, _⟩ => g
  | ⟨4, _⟩ => p.2

theorem wide_inj (t : Fin 128) (g : Fin 8) : Function.Injective (wide t g) := fun p q h =>
  Prod.ext (congrFun h 1) (congrFun h 4)

theorem drop_wide (h : S1x32x128x8x512.ReducesTo [1, 4] S1x128x8) (i : S1x32x128x8x512.Idx) (j : S1x128x8.Idx) (t : Fin 128) (g : Fin 8)
    (ht : (j 1).val = t.val) (hg : (j 2).val = g.val) : h.drop i = j ↔ ∃ p, wide t g p = i := by
  have e0 := fun i => h.drop_apply_val_of_eq i 1 2 (by decide) (by decide)
  have e1 := fun i => h.drop_apply_val_of_eq i 2 3 (by decide) (by decide)
  have h0 : (i 0).val < 1 := (i 0).isLt
  constructor
  · intro hd
    have f0 : (i 2).val = t.val := (e0 i).symm.trans ((congrArg (fun x : S1x128x8.Idx => (x 1).val) hd).trans ht)
    have f1 : (i 3).val = g.val := (e1 i).symm.trans ((congrArg (fun x : S1x128x8.Idx => (x 2).val) hd).trans hg)
    refine ⟨(i 1, i 4), funext fun a => Fin.ext ?_⟩
    match a with
    | ⟨0, _⟩ => show 0 = (i 0).val; omega
    | ⟨1, _⟩ => rfl
    | ⟨2, _⟩ => exact f0.symm
    | ⟨3, _⟩ => exact f1.symm
    | ⟨4, _⟩ => rfl
  · rintro ⟨p, rfl⟩
    have k : ∀ a b : Fin 1, a = b := fun a b => Subsingleton.elim a b
    refine funext (Fin.forall_fin_succ.mpr ⟨k _ _, Fin.forall_fin_two.mpr ⟨Fin.ext ?_, Fin.ext ?_⟩⟩)
    · exact (e0 _).trans ht.symm
    · exact (e1 _).trans hg.symm

end Drops

variable {N : Nums} {x0 : (⟨S4096x29696, .bf16⟩ : BufTy).Contents (Elt Ideal)} {x1 : (⟨S1x8x128x128, .f32⟩ : BufTy).Contents (Elt Ideal)}
  {x2 : (⟨S1x8x128, .f32⟩ : BufTy).Contents (Elt Ideal)} {x3 x4 : (⟨S1x4096, .f32⟩ : BufTy).Contents (Elt Ideal)}
  {x5 : (⟨S4096x4096, .f32⟩ : BufTy).Contents (Elt Ideal)} (h : Reads N x0 x1 x2 x3 x4 x5)

include h

/-- The gradient of the bias of the normalisation. -/
theorem dlb (i : S1x4096.Idx) : val_main_v147 (F := Ideal) x0 x1 x5 i = ((N.dlb (i 1) : ℝ) : EReal) := by
  have e : ∀ j : S1x4096.Idx, (j 1).val = (i 1).val → val_main_v114 (F := Ideal) x0 x1 x5 j = ((N.dlb (i 1) : ℝ) : EReal) := by
    intro j hj
    rw [val_main_v114_apply, val_main_cst_25_apply, Consts.zero, zero_add_sum_coe fun k => v113 h (idx_main_v114 j k) k (i 1) rfl hj]
    exact congrArg Real.toEReal (sum_rows _)
  rw [val_main_v147_apply]
  unfold val_main_v116
  refine (reduce_coe _ _ _ _ (by rw [val_main_cst_26_apply, Consts.zero]; rfl) (K := Unit) _ (fun _ => unitChan (i 1))
    (fun _ _ _ => rfl) (fun k => drop_chan _ k _ (i 1) rfl) (fun _ => ?_)).trans (congrArg Real.toEReal (Finset.sum_const _ |>.trans (one_nsmul _)))
  rw [val_main_v115_apply]
  refine e _ ?_
  show (((0 : ℕ) * 1 + 0) * 4096 + (i 1).val) % 4096 = (i 1).val
  have : (i 1).val < 4096 := (i 1).isLt
  omega

/-- The gradient of its gain. -/
theorem dlg (i : S1x4096.Idx) : val_main_v148 (F := Ideal) x0 x1 x5 i = ((N.dlg (i 1) : ℝ) : EReal) := by
  have e : ∀ j : S1x4096.Idx, (j 1).val = (i 1).val → val_main_v118 (F := Ideal) x0 x1 x5 j = ((N.dlg (i 1) : ℝ) : EReal) := by
    intro j hj
    have e : ∀ k : Fin 4096, val_main_v117 (F := Ideal) x0 x1 x5 (idx_main_v118 j k) = ((N.dvn k (i 1) * N.vh k (i 1) : ℝ) : EReal) := fun k => by
      rw [val_main_v117_apply, v113 h (idx_main_v118 j k) k (i 1) rfl hj, v71 h (idx_main_v118 j k) k (i 1) rfl hj, Ideal.mulf_def,
        ← EReal.coe_mul, mul_comm]
    rw [val_main_v118_apply, val_main_cst_27_apply, Consts.zero, zero_add_sum_coe e]
    exact congrArg Real.toEReal (sum_rows _)
  rw [val_main_v148_apply]
  unfold val_main_v122
  refine (reduce_coe _ _ _ _ (by rw [val_main_cst_28_apply, Consts.zero]; rfl) (K := Unit) _ (fun _ => unitChan (i 1))
    (fun _ _ _ => rfl) (fun k => drop_chan _ k _ (i 1) rfl) (fun _ => ?_)).trans (congrArg Real.toEReal (Finset.sum_const _ |>.trans (one_nsmul _)))
  rw [val_main_v119_apply]
  refine e _ ?_
  show (((0 : ℕ) * 1 + 0) * 4096 + (i 1).val) % 4096 = (i 1).val
  have : (i 1).val < 4096 := (i 1).isLt
  omega

theorem v102 (i : S1x128x8.Idx) (t : Fin 128) (g : Fin 8) (ht : (i 1).val = t.val) (hg : (i 2).val = g.val) :
    val_main_v102 (F := Ideal) x0 x5 i = ((N.dbs g t : ℝ) : EReal) := by
  unfold val_main_v102
  refine (reduce_coe _ _ _ _ (by rw [val_main_cst_22_apply, Consts.zero]; rfl) _ (wide t g) (wide_inj t g)
    (fun k => drop_wide _ k _ t g ht hg) (fun p => v101 h (wide t g p) p.1 t g p.2 rfl rfl rfl rfl)).trans (congrArg Real.toEReal ?_)
  exact Fintype.sum_prod_type _

theorem v104 (i : S128x8.Idx) (t : Fin 128) (g : Fin 8) (ht : (i 0).val = t.val) (hg : (i 1).val = g.val) :
    val_main_v104 (F := Ideal) x0 x5 i = ((N.dbs g t : ℝ) : EReal) := by
  unfold val_main_v104
  refine (reduce_coe _ _ _ _ (by rw [val_main_cst_23_apply, Consts.zero]; rfl) (K := Unit) _ (fun _ => unitPlace t g)
    (fun _ _ _ => rfl) (fun k => drop_place _ k _ t g ht hg) (fun _ => ?_)).trans (congrArg Real.toEReal (Finset.sum_const _ |>.trans (one_nsmul _)))
  rw [val_main_v103_apply]
  have := t.isLt
  have := g.isLt
  refine v102 h _ t g ?_ ?_
  · show (((((0 : ℕ) * 1 + 0) * 128 + t.val) * 8 + g.val) * 1 + 0) / 8 % 128 = t.val
    omega
  · show (((((0 : ℕ) * 1 + 0) * 128 + t.val) * 8 + g.val) * 1 + 0) % 8 = g.val
    omega

/-- The gradient of the mixing bias. -/
theorem dbs (i : S8x128x1.Idx) : val_main_v182 (F := Ideal) x0 x5 i = ((N.dbs (i 0) (i 1) : ℝ) : EReal) := by
  have h0 : (i 0).val < 8 := (i 0).isLt
  have h1 : (i 1).val < 128 := (i 1).isLt
  have e : ∀ j : S8x128.Idx, (j 0).val = (i 0).val → (j 1).val = (i 1).val →
      val_main_v107 (F := Ideal) x0 x5 j = ((N.dbs (i 0) (i 1) : ℝ) : EReal) := by
    intro j hj0 hj1
    rw [val_main_v107_apply, val_main_v106_apply, val_main_cst_24_apply, Consts.zero, zero_add_sum_coe (f := fun _ => N.dbs (i 0) (i 1)) fun k => by
      rw [val_main_v105_apply]
      exact v104 h _ (i 1) (i 0) hj1 hj0]
    exact congrArg Real.toEReal (Finset.sum_const _ |>.trans (one_nsmul _))
  rw [val_main_v182_apply, val_main_v181_apply, val_main_v149_apply]
  refine e _ ?_ ?_
  · show ((i 0).val * 128 + (i 1).val) / 128 % 8 = (i 0).val
    omega
  · show ((i 0).val * 128 + (i 1).val) % 128 = (i 1).val
    omega

end Cert.Gating.Ref

end
-- ==== Proof.RefWide.lean ====
/- The reference's wide result, the three gradients side by side, and its gradient of the mixing weights. -/
module

public import proofs.«01_k».proof.Proof.RefOut
public import proofs.«01_k».proof.Proof.Dval
public import Idealize.ShloMosaic.Lib.Pipeline.Value

@[expose] public section

noncomputable section

namespace Cert.Gating.Ref

open Idealize.ShloMosaic Cert.ReferenceIdeal Cert.ReferenceIdeal.Read

section Contraction

/-- The contraction over chunks and channels. -/
abbrev D := dot_S8x1x32x512x128_S1x32x128x8x512_S8x128x128_123_014_4_2_0_3

/-- Its index of chunk `p.1` and channel `p.2`. -/
def both (p : Fin 32 × Fin 512) : D.contr.Idx := fun a => match a with
  | ⟨0, _⟩ => ⟨0, Nat.one_pos⟩
  | ⟨1, _⟩ => ⟨p.1.val, p.1.isLt⟩
  | ⟨2, _⟩ => ⟨p.2.val, p.2.isLt⟩

theorem both_bij : Function.Bijective both := by
  constructor
  · intro p q h
    exact Prod.ext (Fin.ext (congrArg (fun x : D.contr.Idx => (x ⟨1, by decide⟩).val) h))
      (Fin.ext (congrArg (fun x : D.contr.Idx => (x ⟨2, by decide⟩).val) h))
  · intro q
    refine ⟨(⟨(q ⟨1, by decide⟩).val, (q ⟨1, by decide⟩).isLt⟩, ⟨(q ⟨2, by decide⟩).val, (q ⟨2, by decide⟩).isLt⟩), funext fun a => ?_⟩
    match a with
    | ⟨0, _⟩ =>
      have h0 : (q ⟨0, by decide⟩).val < 1 := (q ⟨0, by decide⟩).isLt
      exact Fin.ext (by show 0 = (q ⟨0, by decide⟩).val; omega)
    | ⟨1, _⟩ => rfl
    | ⟨2, _⟩ => rfl

theorem lhs0 (i : S8x128x128.Idx) (q : D.contr.Idx) : (D.lhsIdx i q 0).val = (i 0).val := by
  unfold DotDims.lhsIdx
  rw [dif_pos (show (0 : Fin S8x1x32x512x128.rank) ∈ D.lhsBatch by decide)]
  rfl
theorem lhs2 (i : S8x128x128.Idx) (p : Fin 32 × Fin 512) : (D.lhsIdx i (both p) 2).val = p.1.val := by
  unfold DotDims.lhsIdx
  rw [dif_neg (show ¬(2 : Fin S8x1x32x512x128.rank) ∈ D.lhsBatch by decide), dif_neg (show ¬(2 : Fin S8x1x32x512x128.rank) ∈ D.lhsNonContracting by decide)]
  rfl
theorem lhs3 (i : S8x128x128.Idx) (p : Fin 32 × Fin 512) : (D.lhsIdx i (both p) 3).val = p.2.val := by
  unfold DotDims.lhsIdx
  rw [dif_neg (show ¬(3 : Fin S8x1x32x512x128.rank) ∈ D.lhsBatch by decide), dif_neg (show ¬(3 : Fin S8x1x32x512x128.rank) ∈ D.lhsNonContracting by decide)]
  rfl
theorem lhs4 (i : S8x128x128.Idx) (q : D.contr.Idx) : (D.lhsIdx i q 4).val = (i 1).val := by
  unfold DotDims.lhsIdx
  rw [dif_neg (show ¬(4 : Fin S8x1x32x512x128.rank) ∈ D.lhsBatch by decide), dif_pos (show (4 : Fin S8x1x32x512x128.rank) ∈ D.lhsNonContracting by decide)]
  rfl
theorem rhs1 (i : S8x128x128.Idx) (p : Fin 32 × Fin 512) : (D.rhsIdx i (both p) 1).val = p.1.val := by
  unfold DotDims.rhsIdx
  rw [dif_neg (show ¬(1 : Fin S1x32x128x8x512.rank) ∈ D.rhsBatch by decide), dif_neg (show ¬(1 : Fin S1x32x128x8x512.rank) ∈ D.rhsNonContracting by decide)]
  rfl
theorem rhs2 (i : S8x128x128.Idx) (q : D.contr.Idx) : (D.rhsIdx i q 2).val = (i 2).val := by
  unfold DotDims.rhsIdx
  rw [dif_neg (show ¬(2 : Fin S1x32x128x8x512.rank) ∈ D.rhsBatch by decide), dif_pos (show (2 : Fin S1x32x128x8x512.rank) ∈ D.rhsNonContracting by decide)]
  rfl
theorem rhs3 (i : S8x128x128.Idx) (q : D.contr.Idx) : (D.rhsIdx i q 3).val = (i 0).val := by
  unfold DotDims.rhsIdx
  rw [dif_pos (show (3 : Fin S1x32x128x8x512.rank) ∈ D.rhsBatch by decide)]
  rfl
theorem rhs4 (i : S8x128x128.Idx) (p : Fin 32 × Fin 512) : (D.rhsIdx i (both p) 4).val = p.2.val := by
  unfold DotDims.rhsIdx
  rw [dif_neg (show ¬(4 : Fin S1x32x128x8x512.rank) ∈ D.rhsBatch by decide), dif_neg (show ¬(4 : Fin S1x32x128x8x512.rank) ∈ D.rhsNonContracting by decide)]
  rfl

end Contraction

variable {N : Nums} {x0 : (⟨S4096x29696, .bf16⟩ : BufTy).Contents (Elt Ideal)} {x1 : (⟨S1x8x128x128, .f32⟩ : BufTy).Contents (Elt Ideal)}
  {x2 : (⟨S1x8x128, .f32⟩ : BufTy).Contents (Elt Ideal)} {x3 x4 : (⟨S1x4096, .f32⟩ : BufTy).Contents (Elt Ideal)}
  {x5 : (⟨S4096x4096, .f32⟩ : BufTy).Contents (Elt Ideal)} (h : Reads N x0 x1 x2 x3 x4 x5)

include h

theorem v109 (i : S8x128x128.Idx) (g : Fin 8) (t s : Fin 128) (hg : (i 0).val = g.val) (ht : (i 1).val = t.val) (hs : (i 2).val = s.val) :
    val_main_v109 (F := Ideal) x0 x3 x4 x5 i
      = ((∑ n, ∑ k, N.dm (row n t) (col g k) * N.vn (row n s) (col g k) : ℝ) : EReal) := by
  unfold val_main_v109
  simp only [Host.dotGeneral]
  rw [Ideal.dotGeneral_apply, ← Fintype.sum_prod_type' (f := fun n k => N.dm (row n t) (col g k) * N.vn (row n s) (col g k)), ← coe_sum,
    ← both_bij.sum_comp]
  refine Finset.sum_congr rfl fun p _ => ?_
  rw [v108 h (D.lhsIdx i (both p)) p.1 t g p.2 ((lhs0 _ _).trans hg) (lhs2 _ _) (lhs3 _ _) ((lhs4 _ _).trans ht),
    v78 h (D.rhsIdx i (both p)) p.1 s g p.2 (rhs1 _ _) ((rhs2 _ _).trans hs) ((rhs3 _ _).trans hg) (rhs4 _ _), ← EReal.coe_mul]

/-- The gradient of the mixing weights. -/
theorem dws (i : S8x128x128.Idx) : val_main_v180 (F := Ideal) x0 x3 x4 x5 i = ((N.dws (i 0) (i 1) (i 2) : ℝ) : EReal) := by
  have h0 : (i 0).val < 8 := (i 0).isLt
  have h1 : (i 1).val < 128 := (i 1).isLt
  have h2 : (i 2).val < 128 := (i 2).isLt
  have e : ∀ j : S8x128x128.Idx, (j 0).val = (i 0).val → (j 1).val = (i 1).val → (j 2).val = (i 2).val →
      val_main_v112 (F := Ideal) x0 x3 x4 x5 j = ((N.dws (i 0) (i 1) (i 2) : ℝ) : EReal) := by
    intro j hj0 hj1 hj2
    rw [val_main_v112_apply, v83_1 j (i 1) (i 2) hj1 hj2]
    unfold Nums.dws Nums.dws1
    by_cases hst : (show Fin 128 from i 2) ≤ i 1
    · rw [if_pos hst]
      simp only [if_pos hst]
      exact v109 h j (i 0) (i 1) (i 2) hj0 hj1 hj2
    · rw [if_neg hst]
      simp only [if_neg hst, Finset.sum_const_zero]
      show val_main_call4_v0 (F := Ideal) j = _
      rw [val_main_call4_v0_apply, val_main_call4_cst_apply, Consts.zero]
  rw [val_main_v180_apply, val_main_v150_apply]
  refine e _ ?_ ?_ ?_
  · show (((i 0).val * 128 + (i 1).val) * 128 + (i 2).val) / 16384 % 8 = (i 0).val
    omega
  · show (((i 0).val * 128 + (i 1).val) * 128 + (i 2).val) / 128 % 128 = (i 1).val
    omega
  · show (((i 0).val * 128 + (i 1).val) * 128 + (i 2).val) % 128 = (i 2).val
    omega

omit h in
/-- A flat row and channel, in the reshaped array. -/
theorem flat (r c : Fin 4096) : (r.val * 4096 + c.val) / 4096 % 4096 = r.val ∧ (r.val * 4096 + c.val) % 4096 = c.val := by
  have := r.isLt
  have := c.isLt
  constructor <;> omega

/-- The wide result. -/
theorem d (i : S4096x12288.Idx) : val_main_v179 (F := Ideal) x0 x1 x2 x3 x4 x5 i = ((N.dval (i 0) (i 1).val : ℝ) : EReal) := by
  rw [val_main_v179_apply, Ideal.truncf_def]
  have hi : (i 1).val < 12288 := (i 1).isLt
  unfold val_main_v178
  by_cases ha : (i 1).val < 4096
  · refine (concatenate_apply_piece 1 _ _ i 0 (by show 0 < 3; decide) S4096x4096 (val_main_v175 (F := Ideal) x0 x1 x2 x3 x4 x5) rfl rfl 0 rfl
      (ix2 (i 0) (⟨(i 1).val, ha⟩ : Fin 4096)) (Fin.forall_fin_two.mpr ⟨fun _ => rfl, fun hb => absurd rfl hb⟩) (Nat.zero_add _)).trans ?_
    rw [val_main_v175_apply, N.dval_u (i 0) ⟨(i 1).val, ha⟩ rfl]
    exact du h _ (i 0) ⟨(i 1).val, ha⟩ (flat (i 0) ⟨(i 1).val, ha⟩).1 (flat (i 0) ⟨(i 1).val, ha⟩).2
  by_cases hb : (i 1).val < 8192
  · have hc : (i 1).val - 4096 < 4096 := by omega
    refine (concatenate_apply_piece 1 _ _ i 1 (by show 1 < 3; decide) S4096x4096 (val_main_v176 (F := Ideal) x0 x1 x3 x5) rfl rfl 4096 rfl
      (ix2 (i 0) (⟨(i 1).val - 4096, hc⟩ : Fin 4096)) (Fin.forall_fin_two.mpr ⟨fun _ => rfl, fun hb => absurd rfl hb⟩)
      (by show 4096 + ((i 1).val - 4096) = (i 1).val; omega)).trans ?_
    rw [val_main_v176_apply, N.dval_vg (i 0) ⟨(i 1).val - 4096, hc⟩ (by show (i 1).val = 4096 + ((i 1).val - 4096); omega)]
    exact dvg h _ (i 0) ⟨(i 1).val - 4096, hc⟩ (flat (i 0) ⟨(i 1).val - 4096, hc⟩).1 (flat (i 0) ⟨(i 1).val - 4096, hc⟩).2
  · have hc : (i 1).val - 8192 < 4096 := by omega
    refine (concatenate_apply_piece 1 _ _ i 2 (by show 2 < 3; decide) S4096x4096 (val_main_v177 (F := Ideal) x0 x1 x2 x3 x4 x5) rfl rfl 8192 rfl
      (ix2 (i 0) (⟨(i 1).val - 8192, hc⟩ : Fin 4096)) (Fin.forall_fin_two.mpr ⟨fun _ => rfl, fun hb => absurd rfl hb⟩)
      (by show 8192 + ((i 1).val - 8192) = (i 1).val; omega)).trans ?_
    rw [val_main_v177_apply, N.dval_gb (i 0) ⟨(i 1).val - 8192, hc⟩ (by show (i 1).val = 8192 + ((i 1).val - 8192); omega)]
    exact dgb h _ (i 0) ⟨(i 1).val - 8192, hc⟩ (flat (i 0) ⟨(i 1).val - 8192, hc⟩).1 (flat (i 0) ⟨(i 1).val - 8192, hc⟩).2

end Cert.Gating.Ref

end
-- ==== Proof.lean ====
/- The certificate's claims put together: the frames, the two named constants, and the equality of the kernel and the
   reference over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.DAct
public import proofs.«01_k».proof.Proof.Gen.DAct.Frame
public import proofs.«01_k».proof.Proof.Gen.DActIdeal
public import proofs.«01_k».proof.Proof.Gen.DActIdeal.Frame
public import proofs.«01_k».proof.Proof.Gen.DActIdeal.Value
public import proofs.«01_k».proof.Proof.Gen.DActReferenceIdeal
public import proofs.«01_k».proof.Proof.Gen.DActReferenceIdeal.Run
public import proofs.«01_k».proof.Proof.Gen.DActReferenceIdeal.Read
public import proofs.«01_k».proof.Proof.Gen.DWeight
public import proofs.«01_k».proof.Proof.Gen.DWeight.Frame
public import proofs.«01_k».proof.Proof.Gen.DWeightIdeal
public import proofs.«01_k».proof.Proof.Gen.DWeightIdeal.Frame
public import proofs.«01_k».proof.Proof.Gen.DWeightIdeal.Value
public import proofs.«01_k».proof.Proof.Gen.DWeightReferenceIdeal
public import proofs.«01_k».proof.Proof.Gen.DWeightReferenceIdeal.Run
public import proofs.«01_k».proof.Proof.Gen.DWeightReferenceIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjReferenceIdeal
public import proofs.«01_k».proof.Proof.Gen.OutProjReferenceIdeal.Run
public import proofs.«01_k».proof.Proof.Gen.OutProjReferenceIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeReferenceIdeal
public import proofs.«01_k».proof.Proof.Gen.MergeReferenceIdeal.Run
public import proofs.«01_k».proof.Proof.Gen.MergeReferenceIdeal.Read
public import proofs.«01_k».proof.Proof.Gen.Norm
public import proofs.«01_k».proof.Proof.Gen.Norm.Frame
public import proofs.«01_k».proof.Proof.Gen.NormIdeal
public import proofs.«01_k».proof.Proof.Gen.NormIdeal.Frame
public import proofs.«01_k».proof.Proof.Gen.NormIdeal.Value
public import proofs.«01_k».proof.Proof.Gen.NormReferenceIdeal
public import proofs.«01_k».proof.Proof.Gen.NormReferenceIdeal.Run
public import proofs.«01_k».proof.Proof.Gen.NormReferenceIdeal.Read
public import proofs.«01_k».proof.Proof.Gen.Merged
public import proofs.«01_k».proof.Proof.Gen.Merged.Frame
public import proofs.«01_k».proof.Proof.Gen.MergedIdeal
public import proofs.«01_k».proof.Proof.Gen.MergedIdeal.Frame
public import proofs.«01_k».proof.Proof.Gen.MergedIdeal.Value
public import proofs.«01_k».proof.Proof.Gen.MergedReferenceIdeal
public import proofs.«01_k».proof.Proof.Gen.MergedReferenceIdeal.Run
public import proofs.«01_k».proof.Proof.Gen.MergedReferenceIdeal.Read
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInIdeal.Value
public import proofs.«01_k».proof.Proof.Gen.AdamInReferenceIdeal
public import proofs.«01_k».proof.Proof.Gen.AdamInReferenceIdeal.Run
public import proofs.«01_k».proof.Proof.Gen.AdamInReferenceIdeal.Read
public import proofs.«01_k».proof.Proof.Gen.AdamUp
public import proofs.«01_k».proof.Proof.Gen.AdamUp.Frame
public import proofs.«01_k».proof.Proof.Gen.AdamUpIdeal
public import proofs.«01_k».proof.Proof.Gen.AdamUpIdeal.Frame
public import proofs.«01_k».proof.Proof.Gen.AdamUpIdeal.Value
public import proofs.«01_k».proof.Proof.Gen.AdamUpReferenceIdeal
public import proofs.«01_k».proof.Proof.Gen.AdamUpReferenceIdeal.Run
public import proofs.«01_k».proof.Proof.Gen.AdamUpReferenceIdeal.Read
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallReferenceIdeal
public import proofs.«01_k».proof.Proof.Gen.AdamSmallReferenceIdeal.Run
public import proofs.«01_k».proof.Proof.Gen.AdamSmallReferenceIdeal.Read
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossReferenceIdeal
public import proofs.«01_k».proof.Proof.Gen.LossReferenceIdeal.Run
public import proofs.«01_k».proof.Proof.Gen.LossReferenceIdeal.Read
public import proofs.«01_k».proof.Proof.Further
public import proofs.«01_k».proof.Proof.Gen.Attn.Frame
public import proofs.«01_k».proof.Proof.Gen.Attn.Skeleton
public import proofs.«01_k».proof.Proof.Gen.AttnIdeal.Skeleton
public import proofs.«01_k».proof.Proof.Gen.AttnIdeal.Frame
public import proofs.«01_k».proof.Proof.Gen.AttnReferenceIdeal.Run
public import proofs.«01_k».proof.Proof.Gen.AttnReferenceIdeal.Read
public import proofs.«01_k».proof.Proof.Gen.Proj
public import proofs.«01_k».proof.Proof.Gen.Proj.Frame
public import proofs.«01_k».proof.Proof.Gen.ProjIdeal
public import proofs.«01_k».proof.Proof.Gen.ProjIdeal.Frame
public import proofs.«01_k».proof.Proof.Gen.ProjIdeal.Value
public import proofs.«01_k».proof.Proof.Gen.ProjReferenceIdeal
public import proofs.«01_k».proof.Proof.Gen.ProjReferenceIdeal.Run
public import proofs.«01_k».proof.Proof.Gen.ProjReferenceIdeal.Read
public import proofs.«01_k».proof.Proof.Gen.DWIn
public import proofs.«01_k».proof.Proof.Gen.DWIn.Frame
public import proofs.«01_k».proof.Proof.Gen.DWInIdeal
public import proofs.«01_k».proof.Proof.Gen.DWInIdeal.Frame
public import proofs.«01_k».proof.Proof.Gen.DWInIdeal.Value
public import proofs.«01_k».proof.Proof.Gen.DWInReferenceIdeal
public import proofs.«01_k».proof.Proof.Gen.DWInReferenceIdeal.Run
public import proofs.«01_k».proof.Proof.Gen.DWInReferenceIdeal.Read
public import proofs.«01_k».proof.Proof.Gen.DHid
public import proofs.«01_k».proof.Proof.Gen.DHid.Frame
public import proofs.«01_k».proof.Proof.Gen.DHidIdeal
public import proofs.«01_k».proof.Proof.Gen.DHidIdeal.Frame
public import proofs.«01_k».proof.Proof.Gen.DHidIdeal.Value
public import proofs.«01_k».proof.Proof.Gen.DHidReferenceIdeal
public import proofs.«01_k».proof.Proof.Gen.DHidReferenceIdeal.Run
public import proofs.«01_k».proof.Proof.Gen.DHidReferenceIdeal.Read
public import proofs.«01_k».proof.Proof.Gen.Up
public import proofs.«01_k».proof.Proof.Gen.Up.Frame
public import proofs.«01_k».proof.Proof.Gen.UpIdeal
public import proofs.«01_k».proof.Proof.Gen.UpIdeal.Frame
public import proofs.«01_k».proof.Proof.Gen.UpIdeal.Value
public import proofs.«01_k».proof.Proof.Gen.UpReferenceIdeal
public import proofs.«01_k».proof.Proof.Gen.UpReferenceIdeal.Run
public import proofs.«01_k».proof.Proof.Gen.UpReferenceIdeal.Read
public import proofs.«01_k».proof.Proof.Gen.DAttn
public import proofs.«01_k».proof.Proof.Gen.DAttn.Frame
public import proofs.«01_k».proof.Proof.Gen.DAttnIdeal
public import proofs.«01_k».proof.Proof.Gen.DAttnIdeal.Frame
public import proofs.«01_k».proof.Proof.Gen.DAttnIdeal.Value
public import proofs.«01_k».proof.Proof.Gen.NormBack
public import proofs.«01_k».proof.Proof.Gen.NormBack.Frame
public import proofs.«01_k».proof.Proof.Gen.NormBackIdeal
public import proofs.«01_k».proof.Proof.Gen.NormBackIdeal.Frame
public import proofs.«01_k».proof.Proof.Gen.NormBackIdeal.Value
public import proofs.«01_k».proof.Proof.Gen.NormBackReferenceIdeal
public import proofs.«01_k».proof.Proof.Gen.NormBackReferenceIdeal.Run
public import proofs.«01_k».proof.Proof.Gen.NormBackReferenceIdeal.Read
public import proofs.«01_k».proof.Proof.GateGrad
public import proofs.«01_k».proof.Proof.Wide
public import proofs.«01_k».proof.Proof.Steps
public import proofs.«01_k».proof.Proof.RmsClaim
public import proofs.«01_k».proof.Proof.HeadClaim
public import proofs.«01_k».proof.Proof.Finite
public import proofs.«01_k».proof.Proof.Arrays
public import proofs.«01_k».proof.Proof.RefOut
public import proofs.«01_k».proof.Proof.RefWide
public import Idealize.ShloMosaic.Lib.Quiescent
public import Idealize.ShloMosaic.Adequacy
public import Idealize.ShloMosaic.Init

@[expose] public section

noncomputable section

namespace Cert.Proof

open Idealize.ShloMosaic Idealize.SL.Sem

/-- The two programs, from memories that agree on the arguments. -/
theorem equal : Cert.algebraic_KernelIdeal_ReferenceIdeal_pre_finite (hPre_finite := Cert.Gating.Finite.facts) := by
  intro m g m' g' hpre hag
  have hN : ∀ c, ∃ N : Cert.Gating.Nums, Cert.Gating.Chunk.Holds N m c := fun c => haveI := Cert.Gating.Finite.facts; Cert.Gating.Finite.reads (hpre c)
  choose N hN using hN
  refine ⟨fun c y => (((N c).dval (y 0) (y 1).val : ℝ) : EReal), fun c y => (((N c).dws (y 0) (y 1) (y 2) : ℝ) : EReal),
    fun c y => (((N c).dbs (y 0) (y 1) : ℝ) : EReal), fun c y => (((N c).dlg (y 1) : ℝ) : EReal),
    fun c y => (((N c).dlb (y 1) : ℝ) : EReal), ?_, ?_⟩
  · refine (θ_run Cert.KernelIdeal.defs _ _).mono (fun r h c => ?_) (Cert.KernelIdeal.Value.run_blocks m g)
    obtain ⟨h0, h1, h2, h3, h4, hargs⟩ := h c
    exact ⟨h0.trans (Cert.Gating.Chunk.arr_d (hN c)), h1.trans (Cert.Gating.Chunk.arr_w (hN c)), h2.trans (Cert.Gating.Chunk.arr_b (hN c)),
      h3.trans (Cert.Gating.Chunk.arr_g (hN c)), h4.trans (Cert.Gating.Chunk.arr_l (hN c)), hargs⟩
  · refine (θ_run Cert.ReferenceIdeal.defs _ _).mono (fun r h c => ?_) (Cert.ReferenceIdeal.Value.run m' g')
    obtain ⟨h0, h1, h2, h3, h4, hargs⟩ := h c
    obtain ⟨a0, a1, a2, a3, a4, a5⟩ := hag c
    have hR : Cert.Gating.Reads (N c) (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5)) := by
      rw [a0, a1, a2, a3, a4, a5]; exact hN c
    exact ⟨h0.trans ((Cert.ReferenceIdeal.Read.val_main_v179_eq (Idealize.ShloMosaic.StableHlo.launchContents m' c)).trans (funext fun i => Cert.Gating.Ref.d hR i)),
      h1.trans ((Cert.ReferenceIdeal.Read.val_main_v180_eq (Idealize.ShloMosaic.StableHlo.launchContents m' c)).trans (funext fun i => Cert.Gating.Ref.dws hR i)),
      h2.trans ((Cert.ReferenceIdeal.Read.val_main_v182_eq (Idealize.ShloMosaic.StableHlo.launchContents m' c)).trans (funext fun i => Cert.Gating.Ref.dbs hR i)),
      h3.trans ((Cert.ReferenceIdeal.Read.val_main_v148_eq (Idealize.ShloMosaic.StableHlo.launchContents m' c)).trans (funext fun i => Cert.Gating.Ref.dlg hR i)),
      h4.trans ((Cert.ReferenceIdeal.Read.val_main_v147_eq (Idealize.ShloMosaic.StableHlo.launchContents m' c)).trans (funext fun i => Cert.Gating.Ref.dlb hR i)), hargs⟩

/-- The reference runs, keeps its arguments, and has no semaphore. -/
theorem frame_r : Cert.quiescent_ReferenceIdeal := fun m g _ =>
  (θ_run Cert.ReferenceIdeal.defs _ _).mono (fun r h => ⟨fun c => (h c).2.2.2.2.2, sem_eq_zero_of_no_sems (by decide) _⟩)
    (Cert.ReferenceIdeal.Value.run m g)

theorem claim : Cert.Claim := ⟨Cert.Kernel.Gen.facts, Cert.KernelIdeal.Gen.facts, Cert.ReferenceIdeal.Gen.facts,
  Cert.DAct.Gen.facts, Cert.DActIdeal.Gen.facts, Cert.DActReferenceIdeal.Gen.facts,
  Cert.DWeight.Gen.facts, Cert.DWeightIdeal.Gen.facts, Cert.DWeightReferenceIdeal.Gen.facts,
  Cert.OutProj.Gen.facts, Cert.OutProjIdeal.Gen.facts, Cert.OutProjReferenceIdeal.Gen.facts,
  Cert.Merge.Gen.facts, Cert.MergeIdeal.Gen.facts, Cert.MergeReferenceIdeal.Gen.facts,
  Cert.Norm.Gen.facts, Cert.NormIdeal.Gen.facts, Cert.NormReferenceIdeal.Gen.facts,
  Cert.Merged.Gen.facts, Cert.MergedIdeal.Gen.facts, Cert.MergedReferenceIdeal.Gen.facts,
  Cert.AdamIn.Gen.facts, Cert.AdamInIdeal.Gen.facts, Cert.AdamInReferenceIdeal.Gen.facts,
  Cert.AdamUp.Gen.facts, Cert.AdamUpIdeal.Gen.facts, Cert.AdamUpReferenceIdeal.Gen.facts,
  Cert.AdamSmall.Gen.facts, Cert.AdamSmallIdeal.Gen.facts, Cert.AdamSmallReferenceIdeal.Gen.facts,
  Cert.Loss.Gen.facts, Cert.LossIdeal.Gen.facts, Cert.LossReferenceIdeal.Gen.facts,
  Cert.Attn.Gen.facts, Cert.AttnIdeal.Gen.facts, Cert.AttnReferenceIdeal.Gen.facts,
  Cert.Proj.Gen.facts, Cert.ProjIdeal.Gen.facts, Cert.ProjReferenceIdeal.Gen.facts,
  Cert.DWIn.Gen.facts, Cert.DWInIdeal.Gen.facts, Cert.DWInReferenceIdeal.Gen.facts,
  Cert.DHid.Gen.facts, Cert.DHidIdeal.Gen.facts, Cert.DHidReferenceIdeal.Gen.facts,
  Cert.Up.Gen.facts, Cert.UpIdeal.Gen.facts, Cert.UpReferenceIdeal.Gen.facts, Cert.DAttn.Gen.facts, Cert.DAttnIdeal.Gen.facts,
  Cert.NormBack.Gen.facts, Cert.NormBackIdeal.Gen.facts, Cert.NormBackReferenceIdeal.Gen.facts,
  Cert.Gating.Finite.facts, Cert.Head.facts, Cert.GateGrad.facts, Cert.RmsBack.facts,
  fun m g _ => Cert.Kernel.Gen.frame m g, fun m g _ => Cert.KernelIdeal.Gen.frame m g, fun m g _ => Cert.KernelIdeal.Gen.frame m g,
  frame_r, fun m g _ => frame_r m g trivial,
  fun m g _ => Cert.DAct.Gen.frame m g, fun m g _ => Cert.DActIdeal.Gen.frame m g, Cert.Further.frame_DAct,
  fun m g _ => Cert.DWeight.Gen.frame m g, fun m g _ => Cert.DWeightIdeal.Gen.frame m g, Cert.Further.frame_DWeight,
  fun m g _ => Cert.OutProj.Gen.frame m g, fun m g _ => Cert.OutProjIdeal.Gen.frame m g, Cert.Further.frame_OutProj,
  fun m g _ => Cert.Merge.Gen.frame m g, fun m g _ => Cert.MergeIdeal.Gen.frame m g, Cert.Further.frame_Merge,
  fun m g _ => Cert.Norm.Gen.frame m g, fun m g _ => Cert.NormIdeal.Gen.frame m g, Cert.Steps.frame_Norm,
  fun m g _ => Cert.Merged.Gen.frame m g, fun m g _ => Cert.MergedIdeal.Gen.frame m g, Cert.Steps.frame_Merged,
  fun m g _ => Cert.AdamIn.Gen.frame m g, fun m g _ => Cert.AdamInIdeal.Gen.frame m g, Cert.Steps.frame_AdamIn,
  fun m g _ => Cert.AdamUp.Gen.frame m g, fun m g _ => Cert.AdamUpIdeal.Gen.frame m g, Cert.Steps.frame_AdamUp,
  fun m g _ => Cert.AdamSmall.Gen.frame m g, fun m g _ => Cert.AdamSmallIdeal.Gen.frame m g, Cert.Steps.frame_AdamSmall,
  fun m g _ => Cert.Loss.Gen.frame m g, fun m g _ => Cert.LossIdeal.Gen.frame m g, fun m g _ => Cert.LossIdeal.Gen.frame m g,
  Cert.Head.frame_r, fun m g _ => Cert.Head.frame_r m g trivial,
  Cert.GateGrad.frame_p, Cert.GateGrad.frame_i, fun m g _ => Cert.GateGrad.frame_i m g trivial,
  Cert.GateGrad.frame_r, fun m g _ => Cert.GateGrad.frame_r m g trivial,
  fun m g _ => Cert.Proj.Gen.frame m g, fun m g _ => Cert.ProjIdeal.Gen.frame m g, Cert.Wide.frame_Proj,
  fun m g _ => Cert.DWIn.Gen.frame m g, fun m g _ => Cert.DWInIdeal.Gen.frame m g, Cert.Wide.frame_DWIn,
  fun m g _ => Cert.DHid.Gen.frame m g, fun m g _ => Cert.DHidIdeal.Gen.frame m g, Cert.Wide.frame_DHid,
  fun m g _ => Cert.Up.Gen.frame m g, fun m g _ => Cert.UpIdeal.Gen.frame m g, Cert.Wide.frame_Up,
  fun m g _ => Cert.DAttn.Gen.frame m g, fun m g _ => Cert.DAttnIdeal.Gen.frame m g,
  fun m g _ => Cert.NormBack.Gen.frame m g, fun m g _ => Cert.NormBackIdeal.Gen.frame m g, fun m g _ => Cert.NormBackIdeal.Gen.frame m g,
  Cert.RmsBack.frame_r, fun m g _ => Cert.RmsBack.frame_r m g trivial,
  ⟨IdealRules.named_const.statement Cert.KernelIdeal.κ "gelu_cube" .f32 0x3D372713#32 ((8943 / 200000 : ℝ) : EReal) rfl,
    IdealRules.named_const.statement Cert.KernelIdeal.κ "gelu_cube3" .f32 0x3E095D4F#32 ((26829 / 200000 : ℝ) : EReal) rfl⟩,
  equal, trivial, Cert.Further.equal_DAct, trivial, Cert.Further.equal_DWeight, trivial, Cert.Further.equal_OutProj, trivial, Cert.Further.equal_Merge,
  trivial, Cert.Steps.equal_Norm, trivial, Cert.Steps.equal_Merged, trivial, Cert.Steps.equal_AdamIn, trivial, Cert.Steps.equal_AdamUp, trivial, Cert.Steps.equal_AdamSmall,
  trivial, Cert.Head.equal, trivial, Cert.GateGrad.equal,
  trivial, Cert.Wide.equal_Proj, trivial, Cert.Wide.equal_DWIn, trivial, Cert.Wide.equal_DHid,
  trivial, Cert.Wide.equal_Up, trivial, Cert.Wide.equal_DAttn,
  trivial, Cert.RmsBack.equal⟩

end Cert.Proof

end
